-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_grouped : Cert.Pre_grouped.Facts] (m : (ℓ : Loc Cert.Kernel2.nD Cert.Kernel2.τ Cert.Kernel2.sig) → Buf (Elt Bits) ℓ) : Prop :=
  ∀ c : Dev Cert.Kernel2.nD,
    (Cert.Pre_grouped.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_grouped : Cert.Pre_grouped.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_grouped.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_grouped [hPre_grouped : Cert.Pre_grouped.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_grouped.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 [hPre_grouped_down : Cert.Pre_grouped_down.Facts] (m : (ℓ : Loc Cert.Kernel3.nD Cert.Kernel3.τ Cert.Kernel3.sig) → Buf (Elt Bits) ℓ) : Prop :=
  ∀ c : Dev Cert.Kernel3.nD,
    (Cert.Pre_grouped_down.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3))) = (fun _ => 1#1)

def Pre_Kernel3Ideal [hPre_grouped_down : Cert.Pre_grouped_down.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_grouped_down.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_grouped_down [hPre_grouped_down : Cert.Pre_grouped_down.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_grouped_down.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_grouped : Cert.Pre_grouped.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_grouped : Cert.Pre_grouped.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_grouped [hReference2Ideal : Cert.Reference2Ideal.Facts] [hPre_grouped : Cert.Pre_grouped.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_grouped m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_grouped_down : Cert.Pre_grouped_down.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] [hPre_grouped_down : Cert.Pre_grouped_down.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_grouped_down [hReference3Ideal : Cert.Reference3Ideal.Facts] [hPre_grouped_down : Cert.Pre_grouped_down.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_grouped_down m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_grouped : Cert.Pre_grouped.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_grouped_down : Cert.Pre_grouped_down.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v65) = v0 c
          ∧ r.2.mem ((c.tc : Thread Cert.Reference6Ideal.nD Cert.Reference6Ideal.τ).loc Cert.Reference6Ideal.main_v66) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_grouped : Cert.Pre_grouped.Facts) (hPre_grouped_down : Cert.Pre_grouped_down.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_grouped := hPre_grouped)
    ∧ quiescent_Kernel2Ideal (hKernel2Ideal := hKernel2Ideal) (hPre_grouped := hPre_grouped)
    ∧ quiescent_Reference2Ideal (hReference2Ideal := hReference2Ideal)
    ∧ quiescent_Reference2Ideal_pre_grouped (hReference2Ideal := hReference2Ideal) (hPre_grouped := hPre_grouped)
    ∧ quiescent_Kernel3 (hKernel3 := hKernel3) (hPre_grouped_down := hPre_grouped_down)
    ∧ quiescent_Kernel3Ideal (hKernel3Ideal := hKernel3Ideal) (hPre_grouped_down := hPre_grouped_down)
    ∧ quiescent_Reference3Ideal (hReference3Ideal := hReference3Ideal)
    ∧ quiescent_Reference3Ideal_pre_grouped_down (hReference3Ideal := hReference3Ideal) (hPre_grouped_down := hPre_grouped_down)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_grouped := hPre_grouped)
    ∧ preserves_Kernel3_Kernel3Ideal
    ∧ algebraic_Kernel3Ideal_Reference3Ideal (hKernel3Ideal := hKernel3Ideal) (hReference3Ideal := hReference3Ideal) (hPre_grouped_down := hPre_grouped_down)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S2x4096x16x128 : Shape := ⟨4, ![2, 4096, 16, 128]⟩
abbrev S2x4096x16x64 : Shape := ⟨4, ![2, 4096, 16, 64]⟩
abbrev S2x4096x64 : Shape := ⟨3, ![2, 4096, 64]⟩
abbrev S_ : Shape := ⟨0, ![]⟩

class Facts : Prop where
  bcast_S_S2x4096x16x128 : S_.BroadcastsInDim S2x4096x16x128 (![] : Fin 0 → Fin S2x4096x16x128.rank)
  reducesTo_S2x4096x16x128_S_d0_1_2_3 : S2x4096x16x128.ReducesTo [0, 1, 2, 3] S_
  h_S_ : 0 < S_.numel
  bcast_S_S2x4096x16x64 : S_.BroadcastsInDim S2x4096x16x64 (![] : Fin 0 → Fin S2x4096x16x64.rank)
  reducesTo_S2x4096x16x64_S_d0_1_2_3 : S2x4096x16x64.ReducesTo [0, 1, 2, 3] S_
  bcast_S_S2x4096x64 : S_.BroadcastsInDim S2x4096x64 (![] : Fin 0 → Fin S2x4096x64.rank)
  reducesTo_S2x4096x64_S_d0_1_2 : S2x4096x64.ReducesTo [0, 1, 2] S_

variable [Facts]

def fn_part1 {F : FTy → Type} [FloatOps F] (main_v13 : IVec S_ 1) (main_v16 : IVec S2x4096x64 1) : IVec S_ 1 :=
  let main_c_5 : IVec S_ 1 := constantI S_ 1 1#1
  let main_v17 : IVec S_ 1 := (fun x v => Host.reduce IntOp.andi x v reducesTo_S2x4096x64_S_d0_1_2 h_S_) main_v16 main_c_5
  let main_v18 : IVec S_ 1 := andi main_v13 main_v17
  main_v18

def fn {F : FTy → Type} [FloatOps F] (main_arg0 : FVec F S2x4096x16x128 .f32) (main_arg1 : FVec F S2x4096x16x64 .f32) (main_arg2 : FVec F S2x4096x16x128 .f32) (main_arg3 : FVec F S2x4096x64 .f32) (main_arg4 : FVec F S2x4096x16x128 .f32) : IVec S_ 1 :=
  let main_v0 : FVec F S2x4096x16x128 .f32 := Host.absf main_arg0
  let main_cst : FVec F S_ .f32 := constant S_ .f32 0x7F800000#32
  let main_v1 : FVec F S2x4096x16x128 .f32 := broadcastInDim S2x4096x16x128 ![] bcast_S_S2x4096x16x128 main_cst
  let main_v2 : IVec S2x4096x16x128 1 := cmpf .olt main_v0 main_v1
  let main_c : IVec S_ 1 := constantI S_ 1 1#1
  let main_v3 : IVec S_ 1 := (fun x v => Host.reduce IntOp.andi x v reducesTo_S2x4096x16x128_S_d0_1_2_3 h_S_) main_v2 main_c
  let main_v4 : FVec F S2x4096x16x64 .f32 := Host.absf main_arg1
  let main_cst_0 : FVec F S_ .f32 := constant S_ .f32 0x7F800000#32
  let main_v5 : FVec F S2x4096x16x64 .f32 := broadcastInDim S2x4096x16x64 ![] bcast_S_S2x4096x16x64 main_cst_0
  let main_v6 : IVec S2x4096x16x64 1 := cmpf .olt main_v4 main_v5
  let main_c_1 : IVec S_ 1 := constantI S_ 1 1#1
  let main_v7 : IVec S_ 1 := (fun x v => Host.reduce IntOp.andi x v reducesTo_S2x4096x16x64_S_d0_1_2_3 h_S_) main_v6 main_c_1
  let main_v8 : IVec S_ 1 := andi main_v3 main_v7
  let main_v9 : FVec F S2x4096x16x128 .f32 := Host.absf main_arg2
  let main_cst_2 : FVec F S_ .f32 := constant S_ .f32 0x7F800000#32
  let main_v10 : FVec F S2x4096x16x128 .f32 := broadcastInDim S2x4096x16x128 ![] bcast_S_S2x4096x16x128 main_cst_2
  let main_v11 : IVec S2x4096x16x128 1 := cmpf .olt main_v9 main_v10
  let main_c_3 : IVec S_ 1 := constantI S_ 1 1#1
  let main_v12 : IVec S_ 1 := (fun x v => Host.reduce IntOp.andi x v reducesTo_S2x4096x16x128_S_d0_1_2_3 h_S_) main_v11 main_c_3
  let main_v13 : IVec S_ 1 := andi main_v8 main_v12
  let main_v14 : FVec F S2x4096x64 .f32 := Host.absf main_arg3
  let main_cst_4 : FVec F S_ .f32 := constant S_ .f32 0x7F800000#32
  let main_v15 : FVec F S2x4096x64 .f32 := broadcastInDim S2x4096x64 ![] bcast_S_S2x4096x64 main_cst_4
  let main_v16 : IVec S2x4096x64 1 := cmpf .olt main_v14 main_v15
  fn_part1 (F := F) main_v13 main_v16
-- ==== Pre_grouped.lean ====
abbrev S8x72 : Shape := ⟨2, ![8, 72]⟩
abbrev S1 : Shape := ⟨1, ![1]⟩
abbrev S18432x2048 : Shape := ⟨2, ![18432, 2048]⟩
abbrev S8x2048x5632 : Shape := ⟨3, ![8, 2048, 5632]⟩
abbrev S1x72 : Shape := ⟨2, ![1, 72]⟩
abbrev S72 : Shape := ⟨1, ![72]⟩
abbrev S8x71 : Shape := ⟨2, ![8, 71]⟩
abbrev S8x1 : Shape := ⟨2, ![8, 1]⟩
abbrev S_ : Shape := ⟨0, ![]⟩
abbrev S1x1 : Shape := ⟨2, ![1, 1]⟩

class Facts : Prop where
  slices_S8x72_S1x72_0_0 : S8x72.Slices ![0, 0] S1x72
  shapeCasts_S1x72_S72 : S1x72.ShapeCasts S72
  slices_S8x72_S1x72_1_0 : S8x72.Slices ![1, 0] S1x72
  slices_S8x72_S1x72_2_0 : S8x72.Slices ![2, 0] S1x72
  slices_S8x72_S1x72_3_0 : S8x72.Slices ![3, 0] S1x72
  slices_S8x72_S1x72_4_0 : S8x72.Slices ![4, 0] S1x72
  slices_S8x72_S1x72_5_0 : S8x72.Slices ![5, 0] S1x72
  slices_S8x72_S1x72_6_0 : S8x72.Slices ![6, 0] S1x72
  slices_S8x72_S1x72_7_0 : S8x72.Slices ![7, 0] S1x72
  slices_S8x72_S8x71_0_1 : S8x72.Slices ![0, 1] S8x71
  slices_S8x72_S8x1_0_0 : S8x72.Slices ![0, 0] S8x1
  concatenates_S8x71_S8x1_S8x72_d1 : Shape.Concatenates [S8x71, S8x1] S8x72 1
  shapeCasts_S1_S_ : S1.ShapeCasts S_
  bcast_S_S72 : S_.BroadcastsInDim S72 (![] : Fin 0 → Fin S72.rank)
  slices_S8x72_S1x1_0_0 : S8x72.Slices ![0, 0] S1x1
  shapeCasts_S1x1_S_ : S1x1.ShapeCasts S_
  slices_S72_S1_0 : S72.Slices ![0] S1

variable [Facts]

def fn_roll_static {F : FTy → Type} [FloatOps F] (arg0 : IVec S8x72 32) : IVec S8x72 32 :=
  let v0 : IVec S8x71 32 := (extractStridedSlice S8x71 ![0, 1] · slices_S8x72_S8x71_0_1) arg0
  let v1 : IVec S8x1 32 := (extractStridedSlice S8x1 ![0, 0] · slices_S8x72_S8x1_0_0) arg0
  let v2 : IVec S8x72 32 := (fun a b => concatenate S8x72 1 [⟨S8x71, a⟩, ⟨S8x1, b⟩] concatenates_S8x71_S8x1_S8x72_d1) v0 v1
  v2

def fn_part7 {F : FTy → Type} [FloatOps F] (main_v21 : IVec S_ 1) (main_v32 : IVec S72 1) (main_v42 : IVec S72 1) (main_v50 : IVec S72 1) (main_v58 : IVec S72 1) (main_v114 : IVec S72 1) (main_v118 : IVec S72 1) (main_v134 : IVec S72 1) (main_v140 : IVec S72 1) : IVec S72 1 :=
  let main_v141 : IVec S72 1 := andi main_v134 main_v140
  let main_v142 : IVec S72 1 := ori main_v118 main_v141
  let main_v143 : IVec S72 1 := broadcastInDim S72 ![] bcast_S_S72 main_v21
  let main_v144 : IVec S72 1 := andi main_v143 main_v32
  let main_v145 : IVec S72 1 := andi main_v144 main_v42
  let main_v146 : IVec S72 1 := andi main_v145 main_v50
  let main_v147 : IVec S72 1 := andi main_v146 main_v58
  let main_v148 : IVec S72 1 := andi main_v147 main_v114
  let main_v149 : IVec S72 1 := andi main_v148 main_v142
  main_v149

def fn_part6 {F : FTy → Type} [FloatOps F] (main_arg0 : IVec S8x72 32) (main_v9 : IVec S72 32) (main_v11 : IVec S72 32) (main_v13 : IVec S72 32) (main_v15 : IVec S72 32) (main_v21 : IVec S_ 1) (main_v32 : IVec S72 1) (main_v42 : IVec S72 1) (main_v50 : IVec S72 1) (main_v58 : IVec S72 1) (main_v114 : IVec S72 1) (main_v118 : IVec S72 1) (main_v120 : IVec S72 1) : IVec S72 1 :=
  let main_c_22 : IVec S_ 32 := constantI S_ 32 1#32
  let main_v121 : IVec S72 32 := broadcastInDim S72 ![] bcast_S_S72 main_c_22
  let main_v122 : IVec S72 1 := cmpi .eq main_v11 main_v121
  let main_v123 : IVec S72 1 := andi main_v120 main_v122
  let main_v124 : IVec S1x1 32 := (extractStridedSlice S1x1 ![0, 0] · slices_S8x72_S1x1_0_0) main_arg0
  let main_v125 : IVec S_ 32 := shapeCast S_ main_v124 shapeCasts_S1x1_S_
  let main_v126 : IVec S72 32 := broadcastInDim S72 ![] bcast_S_S72 main_v125
  let main_v127 : IVec S72 1 := cmpi .eq main_v9 main_v126
  let main_v128 : IVec S72 1 := andi main_v123 main_v127
  let main_c_23 : IVec S_ 32 := constantI S_ 32 0#32
  let main_v129 : IVec S72 32 := broadcastInDim S72 ![] bcast_S_S72 main_c_23
  let main_v130 : IVec S72 1 := cmpi .sge main_v13 main_v129
  let main_v131 : IVec S72 1 := andi main_v128 main_v130
  let main_c_24 : IVec S_ 32 := constantI S_ 32 8#32
  let main_v132 : IVec S72 32 := broadcastInDim S72 ![] bcast_S_S72 main_c_24
  let main_v133 : IVec S72 1 := cmpi .slt main_v13 main_v132
  let main_v134 : IVec S72 1 := andi main_v131 main_v133
  let main_c_25 : IVec S_ 32 := constantI S_ 32 1#32
  let main_v135 : IVec S72 32 := broadcastInDim S72 ![] bcast_S_S72 main_c_25
  let main_v136 : IVec S72 32 := addi main_v13 main_v135
  let main_v137 : IVec S1 32 := (extractStridedSlice S1 ![0] · slices_S72_S1_0) main_v15
  let main_v138 : IVec S_ 32 := shapeCast S_ main_v137 shapeCasts_S1_S_
  let main_v139 : IVec S72 32 := broadcastInDim S72 ![] bcast_S_S72 main_v138
  let main_v140 : IVec S72 1 := cmpi .eq main_v136 main_v139
  fn_part7 (F := F) main_v21 main_v32 main_v42 main_v50 main_v58 main_v114 main_v118 main_v134 main_v140

def fn_part5 {F : FTy → Type} [FloatOps F] (main_arg0 : IVec S8x72 32) (main_v7 : IVec S72 32) (main_v9 : IVec S72 32) (main_v11 : IVec S72 32) (main_v13 : IVec S72 32) (main_v15 : IVec S72 32) (main_v16 : IVec S8x72 32) (main_v17 : IVec S72 32) (main_v18 : IVec S_ 32) (main_v21 : IVec S_ 1) (main_v32 : IVec S72 1) (main_v42 : IVec S72 1) (main_v50 : IVec S72 1) (main_v58 : IVec S72 1) (main_v84 : IVec S72 1) (main_v96 : IVec S72 1) (main_v99 : IVec S72 1) : IVec S72 1 :=
  let main_v100 : IVec S72 1 := andi main_v96 main_v99
  let main_v101 : IVec S1x72 32 := (extractStridedSlice S1x72 ![6, 0] · slices_S8x72_S1x72_6_0) main_v16
  let main_v102 : IVec S72 32 := shapeCast S72 main_v101 shapeCasts_S1x72_S72
  let main_v103 : IVec S72 1 := cmpi .eq main_v102 main_v13
  let main_v104 : IVec S72 1 := andi main_v100 main_v103
  let main_v105 : IVec S1x72 32 := (extractStridedSlice S1x72 ![2, 0] · slices_S8x72_S1x72_2_0) main_v16
  let main_v106 : IVec S72 32 := shapeCast S72 main_v105 shapeCasts_S1x72_S72
  let main_v107 : IVec S72 1 := cmpi .eq main_v106 main_v7
  let main_v108 : IVec S72 1 := andi main_v104 main_v107
  let main_c_19 : IVec S_ 32 := constantI S_ 32 1#32
  let main_v109 : IVec S72 32 := broadcastInDim S72 ![] bcast_S_S72 main_c_19
  let main_v110 : IVec S72 32 := addi main_v17 main_v109
  let main_v111 : IVec S72 32 := broadcastInDim S72 ![] bcast_S_S72 main_v18
  let main_v112 : IVec S72 1 := cmpi .sge main_v110 main_v111
  let main_v113 : IVec S72 1 := ori main_v112 main_v84
  let main_v114 : IVec S72 1 := ori main_v113 main_v108
  let main_c_20 : IVec S_ 32 := constantI S_ 32 1#32
  let main_v115 : IVec S72 32 := broadcastInDim S72 ![] bcast_S_S72 main_c_20
  let main_v116 : IVec S72 32 := addi main_v17 main_v115
  let main_v117 : IVec S72 32 := broadcastInDim S72 ![] bcast_S_S72 main_v18
  let main_v118 : IVec S72 1 := cmpi .ne main_v116 main_v117
  let main_c_21 : IVec S_ 32 := constantI S_ 32 8#32
  let main_v119 : IVec S72 32 := broadcastInDim S72 ![] bcast_S_S72 main_c_21
  let main_v120 : IVec S72 1 := cmpi .eq main_v7 main_v119
  fn_part6 (F := F) main_arg0 main_v9 main_v11 main_v13 main_v15 main_v21 main_v32 main_v42 main_v50 main_v58 main_v114 main_v118 main_v120

def fn_part4 {F : FTy → Type} [FloatOps F] (main_arg0 : IVec S8x72 32) (main_v1 : IVec S72 32) (main_v7 : IVec S72 32) (main_v9 : IVec S72 32) (main_v11 : IVec S72 32) (main_v13 : IVec S72 32) (main_v15 : IVec S72 32) (main_v16 : IVec S8x72 32) (main_v17 : IVec S72 32) (main_v18 : IVec S_ 32) (main_v21 : IVec S_ 1) (main_v32 : IVec S72 1) (main_v42 : IVec S72 1) (main_v50 : IVec S72 1) (main_v58 : IVec S72 1) (main_v78 : IVec S72 1) : IVec S72 1 :=
  let main_c_16 : IVec S_ 32 := constantI S_ 32 0#32
  let main_v79 : IVec S72 32 := broadcastInDim S72 ![] bcast_S_S72 main_c_16
  let main_v80 : IVec S72 1 := cmpi .sge main_v13 main_v79
  let main_v81 : IVec S72 1 := andi main_v78 main_v80
  let main_c_17 : IVec S_ 32 := constantI S_ 32 8#32
  let main_v82 : IVec S72 32 := broadcastInDim S72 ![] bcast_S_S72 main_c_17
  let main_v83 : IVec S72 1 := cmpi .slt main_v13 main_v82
  let main_v84 : IVec S72 1 := andi main_v81 main_v83
  let main_v85 : IVec S1x72 32 := (extractStridedSlice S1x72 ![1, 0] · slices_S8x72_S1x72_1_0) main_v16
  let main_v86 : IVec S72 32 := shapeCast S72 main_v85 shapeCasts_S1x72_S72
  let main_c_18 : IVec S_ 32 := constantI S_ 32 1#32
  let main_v87 : IVec S72 32 := broadcastInDim S72 ![] bcast_S_S72 main_c_18
  let main_v88 : IVec S72 1 := cmpi .ne main_v86 main_v87
  let main_v89 : IVec S1x72 32 := (extractStridedSlice S1x72 ![0, 0] · slices_S8x72_S1x72_0_0) main_v16
  let main_v90 : IVec S72 32 := shapeCast S72 main_v89 shapeCasts_S1x72_S72
  let main_v91 : IVec S72 1 := cmpi .eq main_v90 main_v1
  let main_v92 : IVec S72 1 := andi main_v88 main_v91
  let main_v93 : IVec S1x72 32 := (extractStridedSlice S1x72 ![4, 0] · slices_S8x72_S1x72_4_0) main_v16
  let main_v94 : IVec S72 32 := shapeCast S72 main_v93 shapeCasts_S1x72_S72
  let main_v95 : IVec S72 1 := cmpi .eq main_v94 main_v9
  let main_v96 : IVec S72 1 := andi main_v92 main_v95
  let main_v97 : IVec S1x72 32 := (extractStridedSlice S1x72 ![5, 0] · slices_S8x72_S1x72_5_0) main_v16
  let main_v98 : IVec S72 32 := shapeCast S72 main_v97 shapeCasts_S1x72_S72
  let main_v99 : IVec S72 1 := cmpi .eq main_v98 main_v11
  fn_part5 (F := F) main_arg0 main_v7 main_v9 main_v11 main_v13 main_v15 main_v16 main_v17 main_v18 main_v21 main_v32 main_v42 main_v50 main_v58 main_v84 main_v96 main_v99

def fn_part3 {F : FTy → Type} [FloatOps F] (main_arg0 : IVec S8x72 32) (main_v1 : IVec S72 32) (main_v7 : IVec S72 32) (main_v9 : IVec S72 32) (main_v11 : IVec S72 32) (main_v13 : IVec S72 32) (main_v15 : IVec S72 32) (main_v16 : IVec S8x72 32) (main_v17 : IVec S72 32) (main_v18 : IVec S_ 32) (main_v21 : IVec S_ 1) (main_v32 : IVec S72 1) (main_v42 : IVec S72 1) (main_v50 : IVec S72 1) (main_v58 : IVec S72 1) : IVec S72 1 :=
  let main_v59 : IVec S1x72 32 := (extractStridedSlice S1x72 ![1, 0] · slices_S8x72_S1x72_1_0) main_v16
  let main_v60 : IVec S72 32 := shapeCast S72 main_v59 shapeCasts_S1x72_S72
  let main_c_12 : IVec S_ 32 := constantI S_ 32 1#32
  let main_v61 : IVec S72 32 := broadcastInDim S72 ![] bcast_S_S72 main_c_12
  let main_v62 : IVec S72 1 := cmpi .eq main_v60 main_v61
  let main_c_13 : IVec S_ 32 := constantI S_ 32 8#32
  let main_v63 : IVec S72 32 := broadcastInDim S72 ![] bcast_S_S72 main_c_13
  let main_v64 : IVec S72 1 := cmpi .eq main_v7 main_v63
  let main_v65 : IVec S72 1 := andi main_v62 main_v64
  let main_v66 : IVec S1x72 32 := (extractStridedSlice S1x72 ![0, 0] · slices_S8x72_S1x72_0_0) main_v16
  let main_v67 : IVec S72 32 := shapeCast S72 main_v66 shapeCasts_S1x72_S72
  let main_v68 : IVec S72 1 := cmpi .eq main_v67 main_v9
  let main_v69 : IVec S72 1 := andi main_v65 main_v68
  let main_c_14 : IVec S_ 32 := constantI S_ 32 1#32
  let main_v70 : IVec S72 32 := broadcastInDim S72 ![] bcast_S_S72 main_c_14
  let main_v71 : IVec S72 1 := cmpi .ne main_v11 main_v70
  let main_v72 : IVec S72 1 := andi main_v69 main_v71
  let main_v73 : IVec S1x72 32 := (extractStridedSlice S1x72 ![6, 0] · slices_S8x72_S1x72_6_0) main_v16
  let main_v74 : IVec S72 32 := shapeCast S72 main_v73 shapeCasts_S1x72_S72
  let main_c_15 : IVec S_ 32 := constantI S_ 32 1#32
  let main_v75 : IVec S72 32 := broadcastInDim S72 ![] bcast_S_S72 main_c_15
  let main_v76 : IVec S72 32 := addi main_v13 main_v75
  let main_v77 : IVec S72 1 := cmpi .eq main_v74 main_v76
  let main_v78 : IVec S72 1 := andi main_v72 main_v77
  fn_part4 (F := F) main_arg0 main_v1 main_v7 main_v9 main_v11 main_v13 main_v15 main_v16 main_v17 main_v18 main_v21 main_v32 main_v42 main_v50 main_v58 main_v78

def fn_part2 {F : FTy → Type} [FloatOps F] (main_arg0 : IVec S8x72 32) (main_v1 : IVec S72 32) (main_v3 : IVec S72 32) (main_v5 : IVec S72 32) (main_v7 : IVec S72 32) (main_v9 : IVec S72 32) (main_v11 : IVec S72 32) (main_v13 : IVec S72 32) (main_v15 : IVec S72 32) (main_v16 : IVec S8x72 32) (main_v17 : IVec S72 32) (main_v18 : IVec S_ 32) (main_v21 : IVec S_ 1) (main_v32 : IVec S72 1) (main_v34 : IVec S72 1) (main_v38 : IVec S72 1) (main_v39 : IVec S72 32) : IVec S72 1 :=
  let main_v40 : IVec S72 1 := cmpi .sle main_v7 main_v39
  let main_v41 : IVec S72 1 := andi main_v38 main_v40
  let main_v42 : IVec S72 1 := ori main_v34 main_v41
  let main_c_7 : IVec S_ 32 := constantI S_ 32 0#32
  let main_v43 : IVec S72 32 := broadcastInDim S72 ![] bcast_S_S72 main_c_7
  let main_v44 : IVec S72 1 := cmpi .sgt main_v17 main_v43
  let main_c_8 : IVec S_ 32 := constantI S_ 32 1#32
  let main_v45 : IVec S72 32 := broadcastInDim S72 ![] bcast_S_S72 main_c_8
  let main_v46 : IVec S72 1 := cmpi .eq main_v3 main_v45
  let main_c_9 : IVec S_ 32 := constantI S_ 32 0#32
  let main_v47 : IVec S72 32 := broadcastInDim S72 ![] bcast_S_S72 main_c_9
  let main_v48 : IVec S72 1 := cmpi .eq main_v13 main_v47
  let main_v49 : IVec S72 1 := andi main_v46 main_v48
  let main_v50 : IVec S72 1 := ori main_v44 main_v49
  let main_v51 : IVec S72 32 := broadcastInDim S72 ![] bcast_S_S72 main_v18
  let main_v52 : IVec S72 1 := cmpi .sge main_v17 main_v51
  let main_c_10 : IVec S_ 32 := constantI S_ 32 1#32
  let main_v53 : IVec S72 32 := broadcastInDim S72 ![] bcast_S_S72 main_c_10
  let main_v54 : IVec S72 1 := cmpi .ne main_v3 main_v53
  let main_v55 : IVec S72 1 := ori main_v52 main_v54
  let main_c_11 : IVec S_ 32 := constantI S_ 32 0#32
  let main_v56 : IVec S72 32 := broadcastInDim S72 ![] bcast_S_S72 main_c_11
  let main_v57 : IVec S72 1 := cmpi .eq main_v5 main_v56
  let main_v58 : IVec S72 1 := ori main_v55 main_v57
  fn_part3 (F := F) main_arg0 main_v1 main_v7 main_v9 main_v11 main_v13 main_v15 main_v16 main_v17 main_v18 main_v21 main_v32 main_v42 main_v50 main_v58

def fn_part1 {F : FTy → Type} [FloatOps F] (main_arg0 : IVec S8x72 32) (main_v1 : IVec S72 32) (main_v3 : IVec S72 32) (main_v5 : IVec S72 32) (main_v7 : IVec S72 32) (main_v9 : IVec S72 32) (main_v11 : IVec S72 32) (main_v13 : IVec S72 32) (main_v15 : IVec S72 32) (main_v16 : IVec S8x72 32) (main_v17 : IVec S72 32) (main_v18 : IVec S_ 32) (main_v21 : IVec S_ 1) : IVec S72 1 :=
  let main_c_1 : IVec S_ 32 := constantI S_ 32 0#32
  let main_v22 : IVec S72 32 := broadcastInDim S72 ![] bcast_S_S72 main_c_1
  let main_v23 : IVec S72 1 := cmpi .sge main_v1 main_v22
  let main_c_2 : IVec S_ 32 := constantI S_ 32 8#32
  let main_v24 : IVec S72 32 := broadcastInDim S72 ![] bcast_S_S72 main_c_2
  let main_v25 : IVec S72 1 := cmpi .slt main_v1 main_v24
  let main_v26 : IVec S72 1 := andi main_v23 main_v25
  let main_c_3 : IVec S_ 32 := constantI S_ 32 0#32
  let main_v27 : IVec S72 32 := broadcastInDim S72 ![] bcast_S_S72 main_c_3
  let main_v28 : IVec S72 1 := cmpi .sge main_v9 main_v27
  let main_v29 : IVec S72 1 := andi main_v26 main_v28
  let main_c_4 : IVec S_ 32 := constantI S_ 32 8#32
  let main_v30 : IVec S72 32 := broadcastInDim S72 ![] bcast_S_S72 main_c_4
  let main_v31 : IVec S72 1 := cmpi .slt main_v9 main_v30
  let main_v32 : IVec S72 1 := andi main_v29 main_v31
  let main_v33 : IVec S72 32 := broadcastInDim S72 ![] bcast_S_S72 main_v18
  let main_v34 : IVec S72 1 := cmpi .sge main_v17 main_v33
  let main_c_5 : IVec S_ 32 := constantI S_ 32 0#32
  let main_v35 : IVec S72 32 := broadcastInDim S72 ![] bcast_S_S72 main_c_5
  let main_v36 : IVec S72 1 := cmpi .sge main_v5 main_v35
  let main_v37 : IVec S72 1 := cmpi .sle main_v5 main_v7
  let main_v38 : IVec S72 1 := andi main_v36 main_v37
  let main_c_6 : IVec S_ 32 := constantI S_ 32 8#32
  let main_v39 : IVec S72 32 := broadcastInDim S72 ![] bcast_S_S72 main_c_6
  fn_part2 (F := F) main_arg0 main_v1 main_v3 main_v5 main_v7 main_v9 main_v11 main_v13 main_v15 main_v16 main_v17 main_v18 main_v21 main_v32 main_v34 main_v38 main_v39

def fn {F : FTy → Type} [FloatOps F] (main_arg0 : IVec S8x72 32) (main_arg1 : IVec S1 32) (main_arg2 : FVec F S18432x2048 .bf16) (main_arg3 : FVec F S8x2048x5632 .f32) (main_arg4 : FVec F S8x2048x5632 .f32) : IVec S72 1 :=
  let main_v0 : IVec S1x72 32 := (extractStridedSlice S1x72 ![0, 0] · slices_S8x72_S1x72_0_0) main_arg0
  let main_v1 : IVec S72 32 := shapeCast S72 main_v0 shapeCasts_S1x72_S72
  let main_v2 : IVec S1x72 32 := (extractStridedSlice S1x72 ![1, 0] · slices_S8x72_S1x72_1_0) main_arg0
  let main_v3 : IVec S72 32 := shapeCast S72 main_v2 shapeCasts_S1x72_S72
  let main_v4 : IVec S1x72 32 := (extractStridedSlice S1x72 ![2, 0] · slices_S8x72_S1x72_2_0) main_arg0
  let main_v5 : IVec S72 32 := shapeCast S72 main_v4 shapeCasts_S1x72_S72
  let main_v6 : IVec S1x72 32 := (extractStridedSlice S1x72 ![3, 0] · slices_S8x72_S1x72_3_0) main_arg0
  let main_v7 : IVec S72 32 := shapeCast S72 main_v6 shapeCasts_S1x72_S72
  let main_v8 : IVec S1x72 32 := (extractStridedSlice S1x72 ![4, 0] · slices_S8x72_S1x72_4_0) main_arg0
  let main_v9 : IVec S72 32 := shapeCast S72 main_v8 shapeCasts_S1x72_S72
  let main_v10 : IVec S1x72 32 := (extractStridedSlice S1x72 ![5, 0] · slices_S8x72_S1x72_5_0) main_arg0
  let main_v11 : IVec S72 32 := shapeCast S72 main_v10 shapeCasts_S1x72_S72
  let main_v12 : IVec S1x72 32 := (extractStridedSlice S1x72 ![6, 0] · slices_S8x72_S1x72_6_0) main_arg0
  let main_v13 : IVec S72 32 := shapeCast S72 main_v12 shapeCasts_S1x72_S72
  let main_v14 : IVec S1x72 32 := (extractStridedSlice S1x72 ![7, 0] · slices_S8x72_S1x72_7_0) main_arg0
  let main_v15 : IVec S72 32 := shapeCast S72 main_v14 shapeCasts_S1x72_S72
  let main_v16 : IVec S8x72 32 := fn_roll_static (F := F) main_arg0
  let main_v17 : IVec S72 32 := iotaInDim S72 32 0
  let main_v18 : IVec S_ 32 := shapeCast S_ main_arg1 shapeCasts_S1_S_
  let main_c : IVec S_ 32 := constantI S_ 32 1#32
  let main_v19 : IVec S_ 1 := cmpi .sge main_v18 main_c
  let main_c_0 : IVec S_ 32 := constantI S_ 32 72#32
  let main_v20 : IVec S_ 1 := cmpi .sle main_v18 main_c_0
  let main_v21 : IVec S_ 1 := andi main_v19 main_v20
  fn_part1 (F := F) main_arg0 main_v1 main_v3 main_v5 main_v7 main_v9 main_v11 main_v13 main_v15 main_v16 main_v17 main_v18 main_v21
-- ==== Pre_grouped_down.lean ====
abbrev S8x72 : Shape := ⟨2, ![8, 72]⟩
abbrev S1 : Shape := ⟨1, ![1]⟩
abbrev S18432x5632 : Shape := ⟨2, ![18432, 5632]⟩
abbrev S8x5632x2048 : Shape := ⟨3, ![8, 5632, 2048]⟩
abbrev S1x72 : Shape := ⟨2, ![1, 72]⟩
abbrev S72 : Shape := ⟨1, ![72]⟩
abbrev S8x71 : Shape := ⟨2, ![8, 71]⟩
abbrev S8x1 : Shape := ⟨2, ![8, 1]⟩
abbrev S_ : Shape := ⟨0, ![]⟩
abbrev S1x1 : Shape := ⟨2, ![1, 1]⟩

class Facts : Prop where
  slices_S8x72_S1x72_0_0 : S8x72.Slices ![0, 0] S1x72
  shapeCasts_S1x72_S72 : S1x72.ShapeCasts S72
  slices_S8x72_S1x72_1_0 : S8x72.Slices ![1, 0] S1x72
  slices_S8x72_S1x72_2_0 : S8x72.Slices ![2, 0] S1x72
  slices_S8x72_S1x72_3_0 : S8x72.Slices ![3, 0] S1x72
  slices_S8x72_S1x72_4_0 : S8x72.Slices ![4, 0] S1x72
  slices_S8x72_S1x72_5_0 : S8x72.Slices ![5, 0] S1x72
  slices_S8x72_S1x72_6_0 : S8x72.Slices ![6, 0] S1x72
  slices_S8x72_S1x72_7_0 : S8x72.Slices ![7, 0] S1x72
  slices_S8x72_S8x71_0_1 : S8x72.Slices ![0, 1] S8x71
  slices_S8x72_S8x1_0_0 : S8x72.Slices ![0, 0] S8x1
  concatenates_S8x71_S8x1_S8x72_d1 : Shape.Concatenates [S8x71, S8x1] S8x72 1
  shapeCasts_S1_S_ : S1.ShapeCasts S_
  bcast_S_S72 : S_.BroadcastsInDim S72 (![] : Fin 0 → Fin S72.rank)
  slices_S8x72_S1x1_0_0 : S8x72.Slices ![0, 0] S1x1
  shapeCasts_S1x1_S_ : S1x1.ShapeCasts S_
  slices_S72_S1_0 : S72.Slices ![0] S1

variable [Facts]

def fn_roll_static {F : FTy → Type} [FloatOps F] (arg0 : IVec S8x72 32) : IVec S8x72 32 :=
  let v0 : IVec S8x71 32 := (extractStridedSlice S8x71 ![0, 1] · slices_S8x72_S8x71_0_1) arg0
  let v1 : IVec S8x1 32 := (extractStridedSlice S8x1 ![0, 0] · slices_S8x72_S8x1_0_0) arg0
  let v2 : IVec S8x72 32 := (fun a b => concatenate S8x72 1 [⟨S8x71, a⟩, ⟨S8x1, b⟩] concatenates_S8x71_S8x1_S8x72_d1) v0 v1
  v2

def fn_part7 {F : FTy → Type} [FloatOps F] (main_v21 : IVec S_ 1) (main_v32 : IVec S72 1) (main_v42 : IVec S72 1) (main_v50 : IVec S72 1) (main_v58 : IVec S72 1) (main_v114 : IVec S72 1) (main_v118 : IVec S72 1) (main_v134 : IVec S72 1) (main_v140 : IVec S72 1) : IVec S72 1 :=
  let main_v141 : IVec S72 1 := andi main_v134 main_v140
  let main_v142 : IVec S72 1 := ori main_v118 main_v141
  let main_v143 : IVec S72 1 := broadcastInDim S72 ![] bcast_S_S72 main_v21
  let main_v144 : IVec S72 1 := andi main_v143 main_v32
  let main_v145 : IVec S72 1 := andi main_v144 main_v42
  let main_v146 : IVec S72 1 := andi main_v145 main_v50
  let main_v147 : IVec S72 1 := andi main_v146 main_v58
  let main_v148 : IVec S72 1 := andi main_v147 main_v114
  let main_v149 : IVec S72 1 := andi main_v148 main_v142
  main_v149

def fn_part6 {F : FTy → Type} [FloatOps F] (main_arg0 : IVec S8x72 32) (main_v9 : IVec S72 32) (main_v11 : IVec S72 32) (main_v13 : IVec S72 32) (main_v15 : IVec S72 32) (main_v21 : IVec S_ 1) (main_v32 : IVec S72 1) (main_v42 : IVec S72 1) (main_v50 : IVec S72 1) (main_v58 : IVec S72 1) (main_v114 : IVec S72 1) (main_v118 : IVec S72 1) (main_v120 : IVec S72 1) : IVec S72 1 :=
  let main_c_22 : IVec S_ 32 := constantI S_ 32 1#32
  let main_v121 : IVec S72 32 := broadcastInDim S72 ![] bcast_S_S72 main_c_22
  let main_v122 : IVec S72 1 := cmpi .eq main_v11 main_v121
  let main_v123 : IVec S72 1 := andi main_v120 main_v122
  let main_v124 : IVec S1x1 32 := (extractStridedSlice S1x1 ![0, 0] · slices_S8x72_S1x1_0_0) main_arg0
  let main_v125 : IVec S_ 32 := shapeCast S_ main_v124 shapeCasts_S1x1_S_
  let main_v126 : IVec S72 32 := broadcastInDim S72 ![] bcast_S_S72 main_v125
  let main_v127 : IVec S72 1 := cmpi .eq main_v9 main_v126
  let main_v128 : IVec S72 1 := andi main_v123 main_v127
  let main_c_23 : IVec S_ 32 := constantI S_ 32 0#32
  let main_v129 : IVec S72 32 := broadcastInDim S72 ![] bcast_S_S72 main_c_23
  let main_v130 : IVec S72 1 := cmpi .sge main_v13 main_v129
  let main_v131 : IVec S72 1 := andi main_v128 main_v130
  let main_c_24 : IVec S_ 32 := constantI S_ 32 8#32
  let main_v132 : IVec S72 32 := broadcastInDim S72 ![] bcast_S_S72 main_c_24
  let main_v133 : IVec S72 1 := cmpi .slt main_v13 main_v132
  let main_v134 : IVec S72 1 := andi main_v131 main_v133
  let main_c_25 : IVec S_ 32 := constantI S_ 32 1#32
  let main_v135 : IVec S72 32 := broadcastInDim S72 ![] bcast_S_S72 main_c_25
  let main_v136 : IVec S72 32 := addi main_v13 main_v135
  let main_v137 : IVec S1 32 := (extractStridedSlice S1 ![0] · slices_S72_S1_0) main_v15
  let main_v138 : IVec S_ 32 := shapeCast S_ main_v137 shapeCasts_S1_S_
  let main_v139 : IVec S72 32 := broadcastInDim S72 ![] bcast_S_S72 main_v138
  let main_v140 : IVec S72 1 := cmpi .eq main_v136 main_v139
  fn_part7 (F := F) main_v21 main_v32 main_v42 main_v50 main_v58 main_v114 main_v118 main_v134 main_v140

def fn_part5 {F : FTy → Type} [FloatOps F] (main_arg0 : IVec S8x72 32) (main_v7 : IVec S72 32) (main_v9 : IVec S72 32) (main_v11 : IVec S72 32) (main_v13 : IVec S72 32) (main_v15 : IVec S72 32) (main_v16 : IVec S8x72 32) (main_v17 : IVec S72 32) (main_v18 : IVec S_ 32) (main_v21 : IVec S_ 1) (main_v32 : IVec S72 1) (main_v42 : IVec S72 1) (main_v50 : IVec S72 1) (main_v58 : IVec S72 1) (main_v84 : IVec S72 1) (main_v96 : IVec S72 1) (main_v99 : IVec S72 1) : IVec S72 1 :=
  let main_v100 : IVec S72 1 := andi main_v96 main_v99
  let main_v101 : IVec S1x72 32 := (extractStridedSlice S1x72 ![6, 0] · slices_S8x72_S1x72_6_0) main_v16
  let main_v102 : IVec S72 32 := shapeCast S72 main_v101 shapeCasts_S1x72_S72
  let main_v103 : IVec S72 1 := cmpi .eq main_v102 main_v13
  let main_v104 : IVec S72 1 := andi main_v100 main_v103
  let main_v105 : IVec S1x72 32 := (extractStridedSlice S1x72 ![2, 0] · slices_S8x72_S1x72_2_0) main_v16
  let main_v106 : IVec S72 32 := shapeCast S72 main_v105 shapeCasts_S1x72_S72
  let main_v107 : IVec S72 1 := cmpi .eq main_v106 main_v7
  let main_v108 : IVec S72 1 := andi main_v104 main_v107
  let main_c_19 : IVec S_ 32 := constantI S_ 32 1#32
  let main_v109 : IVec S72 32 := broadcastInDim S72 ![] bcast_S_S72 main_c_19
  let main_v110 : IVec S72 32 := addi main_v17 main_v109
  let main_v111 : IVec S72 32 := broadcastInDim S72 ![] bcast_S_S72 main_v18
  let main_v112 : IVec S72 1 := cmpi .sge main_v110 main_v111
  let main_v113 : IVec S72 1 := ori main_v112 main_v84
  let main_v114 : IVec S72 1 := ori main_v113 main_v108
  let main_c_20 : IVec S_ 32 := constantI S_ 32 1#32
  let main_v115 : IVec S72 32 := broadcastInDim S72 ![] bcast_S_S72 main_c_20
  let main_v116 : IVec S72 32 := addi main_v17 main_v115
  let main_v117 : IVec S72 32 := broadcastInDim S72 ![] bcast_S_S72 main_v18
  let main_v118 : IVec S72 1 := cmpi .ne main_v116 main_v117
  let main_c_21 : IVec S_ 32 := constantI S_ 32 11#32
  let main_v119 : IVec S72 32 := broadcastInDim S72 ![] bcast_S_S72 main_c_21
  let main_v120 : IVec S72 1 := cmpi .eq main_v7 main_v119
  fn_part6 (F := F) main_arg0 main_v9 main_v11 main_v13 main_v15 main_v21 main_v32 main_v42 main_v50 main_v58 main_v114 main_v118 main_v120

def fn_part4 {F : FTy → Type} [FloatOps F] (main_arg0 : IVec S8x72 32) (main_v1 : IVec S72 32) (main_v7 : IVec S72 32) (main_v9 : IVec S72 32) (main_v11 : IVec S72 32) (main_v13 : IVec S72 32) (main_v15 : IVec S72 32) (main_v16 : IVec S8x72 32) (main_v17 : IVec S72 32) (main_v18 : IVec S_ 32) (main_v21 : IVec S_ 1) (main_v32 : IVec S72 1) (main_v42 : IVec S72 1) (main_v50 : IVec S72 1) (main_v58 : IVec S72 1) (main_v78 : IVec S72 1) : IVec S72 1 :=
  let main_c_16 : IVec S_ 32 := constantI S_ 32 0#32
  let main_v79 : IVec S72 32 := broadcastInDim S72 ![] bcast_S_S72 main_c_16
  let main_v80 : IVec S72 1 := cmpi .sge main_v13 main_v79
  let main_v81 : IVec S72 1 := andi main_v78 main_v80
  let main_c_17 : IVec S_ 32 := constantI S_ 32 8#32
  let main_v82 : IVec S72 32 := broadcastInDim S72 ![] bcast_S_S72 main_c_17
  let main_v83 : IVec S72 1 := cmpi .slt main_v13 main_v82
  let main_v84 : IVec S72 1 := andi main_v81 main_v83
  let main_v85 : IVec S1x72 32 := (extractStridedSlice S1x72 ![1, 0] · slices_S8x72_S1x72_1_0) main_v16
  let main_v86 : IVec S72 32 := shapeCast S72 main_v85 shapeCasts_S1x72_S72
  let main_c_18 : IVec S_ 32 := constantI S_ 32 1#32
  let main_v87 : IVec S72 32 := broadcastInDim S72 ![] bcast_S_S72 main_c_18
  let main_v88 : IVec S72 1 := cmpi .ne main_v86 main_v87
  let main_v89 : IVec S1x72 32 := (extractStridedSlice S1x72 ![0, 0] · slices_S8x72_S1x72_0_0) main_v16
  let main_v90 : IVec S72 32 := shapeCast S72 main_v89 shapeCasts_S1x72_S72
  let main_v91 : IVec S72 1 := cmpi .eq main_v90 main_v1
  let main_v92 : IVec S72 1 := andi main_v88 main_v91
  let main_v93 : IVec S1x72 32 := (extractStridedSlice S1x72 ![4, 0] · slices_S8x72_S1x72_4_0) main_v16
  let main_v94 : IVec S72 32 := shapeCast S72 main_v93 shapeCasts_S1x72_S72
  let main_v95 : IVec S72 1 := cmpi .eq main_v94 main_v9
  let main_v96 : IVec S72 1 := andi main_v92 main_v95
  let main_v97 : IVec S1x72 32 := (extractStridedSlice S1x72 ![5, 0] · slices_S8x72_S1x72_5_0) main_v16
  let main_v98 : IVec S72 32 := shapeCast S72 main_v97 shapeCasts_S1x72_S72
  let main_v99 : IVec S72 1 := cmpi .eq main_v98 main_v11
  fn_part5 (F := F) main_arg0 main_v7 main_v9 main_v11 main_v13 main_v15 main_v16 main_v17 main_v18 main_v21 main_v32 main_v42 main_v50 main_v58 main_v84 main_v96 main_v99

def fn_part3 {F : FTy → Type} [FloatOps F] (main_arg0 : IVec S8x72 32) (main_v1 : IVec S72 32) (main_v7 : IVec S72 32) (main_v9 : IVec S72 32) (main_v11 : IVec S72 32) (main_v13 : IVec S72 32) (main_v15 : IVec S72 32) (main_v16 : IVec S8x72 32) (main_v17 : IVec S72 32) (main_v18 : IVec S_ 32) (main_v21 : IVec S_ 1) (main_v32 : IVec S72 1) (main_v42 : IVec S72 1) (main_v50 : IVec S72 1) (main_v58 : IVec S72 1) : IVec S72 1 :=
  let main_v59 : IVec S1x72 32 := (extractStridedSlice S1x72 ![1, 0] · slices_S8x72_S1x72_1_0) main_v16
  let main_v60 : IVec S72 32 := shapeCast S72 main_v59 shapeCasts_S1x72_S72
  let main_c_12 : IVec S_ 32 := constantI S_ 32 1#32
  let main_v61 : IVec S72 32 := broadcastInDim S72 ![] bcast_S_S72 main_c_12
  let main_v62 : IVec S72 1 := cmpi .eq main_v60 main_v61
  let main_c_13 : IVec S_ 32 := constantI S_ 32 11#32
  let main_v63 : IVec S72 32 := broadcastInDim S72 ![] bcast_S_S72 main_c_13
  let main_v64 : IVec S72 1 := cmpi .eq main_v7 main_v63
  let main_v65 : IVec S72 1 := andi main_v62 main_v64
  let main_v66 : IVec S1x72 32 := (extractStridedSlice S1x72 ![0, 0] · slices_S8x72_S1x72_0_0) main_v16
  let main_v67 : IVec S72 32 := shapeCast S72 main_v66 shapeCasts_S1x72_S72
  let main_v68 : IVec S72 1 := cmpi .eq main_v67 main_v9
  let main_v69 : IVec S72 1 := andi main_v65 main_v68
  let main_c_14 : IVec S_ 32 := constantI S_ 32 1#32
  let main_v70 : IVec S72 32 := broadcastInDim S72 ![] bcast_S_S72 main_c_14
  let main_v71 : IVec S72 1 := cmpi .ne main_v11 main_v70
  let main_v72 : IVec S72 1 := andi main_v69 main_v71
  let main_v73 : IVec S1x72 32 := (extractStridedSlice S1x72 ![6, 0] · slices_S8x72_S1x72_6_0) main_v16
  let main_v74 : IVec S72 32 := shapeCast S72 main_v73 shapeCasts_S1x72_S72
  let main_c_15 : IVec S_ 32 := constantI S_ 32 1#32
  let main_v75 : IVec S72 32 := broadcastInDim S72 ![] bcast_S_S72 main_c_15
  let main_v76 : IVec S72 32 := addi main_v13 main_v75
  let main_v77 : IVec S72 1 := cmpi .eq main_v74 main_v76
  let main_v78 : IVec S72 1 := andi main_v72 main_v77
  fn_part4 (F := F) main_arg0 main_v1 main_v7 main_v9 main_v11 main_v13 main_v15 main_v16 main_v17 main_v18 main_v21 main_v32 main_v42 main_v50 main_v58 main_v78

def fn_part2 {F : FTy → Type} [FloatOps F] (main_arg0 : IVec S8x72 32) (main_v1 : IVec S72 32) (main_v3 : IVec S72 32) (main_v5 : IVec S72 32) (main_v7 : IVec S72 32) (main_v9 : IVec S72 32) (main_v11 : IVec S72 32) (main_v13 : IVec S72 32) (main_v15 : IVec S72 32) (main_v16 : IVec S8x72 32) (main_v17 : IVec S72 32) (main_v18 : IVec S_ 32) (main_v21 : IVec S_ 1) (main_v32 : IVec S72 1) (main_v34 : IVec S72 1) (main_v38 : IVec S72 1) (main_v39 : IVec S72 32) : IVec S72 1 :=
  let main_v40 : IVec S72 1 := cmpi .sle main_v7 main_v39
  let main_v41 : IVec S72 1 := andi main_v38 main_v40
  let main_v42 : IVec S72 1 := ori main_v34 main_v41
  let main_c_7 : IVec S_ 32 := constantI S_ 32 0#32
  let main_v43 : IVec S72 32 := broadcastInDim S72 ![] bcast_S_S72 main_c_7
  let main_v44 : IVec S72 1 := cmpi .sgt main_v17 main_v43
  let main_c_8 : IVec S_ 32 := constantI S_ 32 1#32
  let main_v45 : IVec S72 32 := broadcastInDim S72 ![] bcast_S_S72 main_c_8
  let main_v46 : IVec S72 1 := cmpi .eq main_v3 main_v45
  let main_c_9 : IVec S_ 32 := constantI S_ 32 0#32
  let main_v47 : IVec S72 32 := broadcastInDim S72 ![] bcast_S_S72 main_c_9
  let main_v48 : IVec S72 1 := cmpi .eq main_v13 main_v47
  let main_v49 : IVec S72 1 := andi main_v46 main_v48
  let main_v50 : IVec S72 1 := ori main_v44 main_v49
  let main_v51 : IVec S72 32 := broadcastInDim S72 ![] bcast_S_S72 main_v18
  let main_v52 : IVec S72 1 := cmpi .sge main_v17 main_v51
  let main_c_10 : IVec S_ 32 := constantI S_ 32 1#32
  let main_v53 : IVec S72 32 := broadcastInDim S72 ![] bcast_S_S72 main_c_10
  let main_v54 : IVec S72 1 := cmpi .ne main_v3 main_v53
  let main_v55 : IVec S72 1 := ori main_v52 main_v54
  let main_c_11 : IVec S_ 32 := constantI S_ 32 0#32
  let main_v56 : IVec S72 32 := broadcastInDim S72 ![] bcast_S_S72 main_c_11
  let main_v57 : IVec S72 1 := cmpi .eq main_v5 main_v56
  let main_v58 : IVec S72 1 := ori main_v55 main_v57
  fn_part3 (F := F) main_arg0 main_v1 main_v7 main_v9 main_v11 main_v13 main_v15 main_v16 main_v17 main_v18 main_v21 main_v32 main_v42 main_v50 main_v58

def fn_part1 {F : FTy → Type} [FloatOps F] (main_arg0 : IVec S8x72 32) (main_v1 : IVec S72 32) (main_v3 : IVec S72 32) (main_v5 : IVec S72 32) (main_v7 : IVec S72 32) (main_v9 : IVec S72 32) (main_v11 : IVec S72 32) (main_v13 : IVec S72 32) (main_v15 : IVec S72 32) (main_v16 : IVec S8x72 32) (main_v17 : IVec S72 32) (main_v18 : IVec S_ 32) (main_v21 : IVec S_ 1) : IVec S72 1 :=
  let main_c_1 : IVec S_ 32 := constantI S_ 32 0#32
  let main_v22 : IVec S72 32 := broadcastInDim S72 ![] bcast_S_S72 main_c_1
  let main_v23 : IVec S72 1 := cmpi .sge main_v1 main_v22
  let main_c_2 : IVec S_ 32 := constantI S_ 32 8#32
  let main_v24 : IVec S72 32 := broadcastInDim S72 ![] bcast_S_S72 main_c_2
  let main_v25 : IVec S72 1 := cmpi .slt main_v1 main_v24
  let main_v26 : IVec S72 1 := andi main_v23 main_v25
  let main_c_3 : IVec S_ 32 := constantI S_ 32 0#32
  let main_v27 : IVec S72 32 := broadcastInDim S72 ![] bcast_S_S72 main_c_3
  let main_v28 : IVec S72 1 := cmpi .sge main_v9 main_v27
  let main_v29 : IVec S72 1 := andi main_v26 main_v28
  let main_c_4 : IVec S_ 32 := constantI S_ 32 8#32
  let main_v30 : IVec S72 32 := broadcastInDim S72 ![] bcast_S_S72 main_c_4
  let main_v31 : IVec S72 1 := cmpi .slt main_v9 main_v30
  let main_v32 : IVec S72 1 := andi main_v29 main_v31
  let main_v33 : IVec S72 32 := broadcastInDim S72 ![] bcast_S_S72 main_v18
  let main_v34 : IVec S72 1 := cmpi .sge main_v17 main_v33
  let main_c_5 : IVec S_ 32 := constantI S_ 32 0#32
  let main_v35 : IVec S72 32 := broadcastInDim S72 ![] bcast_S_S72 main_c_5
  let main_v36 : IVec S72 1 := cmpi .sge main_v5 main_v35
  let main_v37 : IVec S72 1 := cmpi .sle main_v5 main_v7
  let main_v38 : IVec S72 1 := andi main_v36 main_v37
  let main_c_6 : IVec S_ 32 := constantI S_ 32 11#32
  let main_v39 : IVec S72 32 := broadcastInDim S72 ![] bcast_S_S72 main_c_6
  fn_part2 (F := F) main_arg0 main_v1 main_v3 main_v5 main_v7 main_v9 main_v11 main_v13 main_v15 main_v16 main_v17 main_v18 main_v21 main_v32 main_v34 main_v38 main_v39

def fn {F : FTy → Type} [FloatOps F] (main_arg0 : IVec S8x72 32) (main_arg1 : IVec S1 32) (main_arg2 : FVec F S18432x5632 .bf16) (main_arg3 : FVec F S8x5632x2048 .f32) : IVec S72 1 :=
  let main_v0 : IVec S1x72 32 := (extractStridedSlice S1x72 ![0, 0] · slices_S8x72_S1x72_0_0) main_arg0
  let main_v1 : IVec S72 32 := shapeCast S72 main_v0 shapeCasts_S1x72_S72
  let main_v2 : IVec S1x72 32 := (extractStridedSlice S1x72 ![1, 0] · slices_S8x72_S1x72_1_0) main_arg0
  let main_v3 : IVec S72 32 := shapeCast S72 main_v2 shapeCasts_S1x72_S72
  let main_v4 : IVec S1x72 32 := (extractStridedSlice S1x72 ![2, 0] · slices_S8x72_S1x72_2_0) main_arg0
  let main_v5 : IVec S72 32 := shapeCast S72 main_v4 shapeCasts_S1x72_S72
  let main_v6 : IVec S1x72 32 := (extractStridedSlice S1x72 ![3, 0] · slices_S8x72_S1x72_3_0) main_arg0
  let main_v7 : IVec S72 32 := shapeCast S72 main_v6 shapeCasts_S1x72_S72
  let main_v8 : IVec S1x72 32 := (extractStridedSlice S1x72 ![4, 0] · slices_S8x72_S1x72_4_0) main_arg0
  let main_v9 : IVec S72 32 := shapeCast S72 main_v8 shapeCasts_S1x72_S72
  let main_v10 : IVec S1x72 32 := (extractStridedSlice S1x72 ![5, 0] · slices_S8x72_S1x72_5_0) main_arg0
  let main_v11 : IVec S72 32 := shapeCast S72 main_v10 shapeCasts_S1x72_S72
  let main_v12 : IVec S1x72 32 := (extractStridedSlice S1x72 ![6, 0] · slices_S8x72_S1x72_6_0) main_arg0
  let main_v13 : IVec S72 32 := shapeCast S72 main_v12 shapeCasts_S1x72_S72
  let main_v14 : IVec S1x72 32 := (extractStridedSlice S1x72 ![7, 0] · slices_S8x72_S1x72_7_0) main_arg0
  let main_v15 : IVec S72 32 := shapeCast S72 main_v14 shapeCasts_S1x72_S72
  let main_v16 : IVec S8x72 32 := fn_roll_static (F := F) main_arg0
  let main_v17 : IVec S72 32 := iotaInDim S72 32 0
  let main_v18 : IVec S_ 32 := shapeCast S_ main_arg1 shapeCasts_S1_S_
  let main_c : IVec S_ 32 := constantI S_ 32 1#32
  let main_v19 : IVec S_ 1 := cmpi .sge main_v18 main_c
  let main_c_0 : IVec S_ 32 := constantI S_ 32 72#32
  let main_v20 : IVec S_ 1 := cmpi .sle main_v18 main_c_0
  let main_v21 : IVec S_ 1 := andi main_v19 main_v20
  fn_part1 (F := F) main_arg0 main_v1 main_v3 main_v5 main_v7 main_v9 main_v11 main_v13 main_v15 main_v16 main_v17 main_v18 main_v21
-- ==== Kernel.lean ====
abbrev S2x4096x16x128 : Shape := ⟨4, ![2, 4096, 16, 128]⟩
abbrev S2x4096x16x64 : Shape := ⟨4, ![2, 4096, 16, 64]⟩
abbrev S2x4096x64 : Shape := ⟨3, ![2, 4096, 64]⟩
abbrev S_ : Shape := ⟨0, ![]⟩
abbrev S2x4096x16x256 : Shape := ⟨4, ![2, 4096, 16, 256]⟩
abbrev S2x16x4096x256 : Shape := ⟨4, ![2, 16, 4096, 256]⟩
abbrev S2x4096x1x64 : Shape := ⟨4, ![2, 4096, 1, 64]⟩
abbrev S2x16x4096x128 : Shape := ⟨4, ![2, 16, 4096, 128]⟩
abbrev S2x4096x2048 : Shape := ⟨3, ![2, 4096, 2048]⟩
abbrev S1x4x512x256 : Shape := ⟨4, ![1, 4, 512, 256]⟩
abbrev S1x4x4096x256 : Shape := ⟨4, ![1, 4, 4096, 256]⟩
abbrev S1x4x4096x128 : Shape := ⟨4, ![1, 4, 4096, 128]⟩
abbrev S1x512x512 : Shape := ⟨3, ![1, 512, 512]⟩
abbrev S4x512x128 : Shape := ⟨3, ![4, 512, 128]⟩
abbrev S4x512x256 : Shape := ⟨3, ![4, 512, 256]⟩
abbrev S512x128 : Shape := ⟨2, ![512, 128]⟩
abbrev S1x512x128 : Shape := ⟨3, ![1, 512, 128]⟩
abbrev S512x256 : Shape := ⟨2, ![512, 256]⟩
abbrev S1x512x256 : Shape := ⟨3, ![1, 512, 256]⟩
abbrev S1x1x512x256 : Shape := ⟨4, ![1, 1, 512, 256]⟩
abbrev S1x1x512x128 : Shape := ⟨4, ![1, 1, 512, 128]⟩
abbrev S512x512 : Shape := ⟨2, ![512, 512]⟩
abbrev S512 : Shape := ⟨1, ![512]⟩
abbrev S512x1 : Shape := ⟨2, ![512, 1]⟩

abbrev nBuf : Space → Nat
  | .hbm => 27
  | .vmem => 10
  | .smem => 0
  | _ => 0

abbrev bufTy : (tb : Table) → Fin (tcTables nBuf tb) → BufTy
  | .hbm, ⟨0, _⟩ => ⟨S2x4096x16x128, .f32⟩
  | .hbm, ⟨1, _⟩ => ⟨S2x4096x16x64, .f32⟩
  | .hbm, ⟨2, _⟩ => ⟨S2x4096x16x128, .f32⟩
  | .hbm, ⟨3, _⟩ => ⟨S2x4096x64, .f32⟩
  | .hbm, ⟨4, _⟩ => ⟨S2x4096x16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x4096x16x64, .f32⟩
  | .hbm, ⟨14, _⟩ => ⟨S2x4096x16x256, .f32⟩
  | .hbm, ⟨15, _⟩ => ⟨S2x4096x16x256, .f32⟩
  | .hbm, ⟨16, _⟩ => ⟨S2x4096x16x256, .f32⟩
  | .hbm, ⟨17, _⟩ => ⟨S2x4096x16x256, .bf16⟩
  | .hbm, ⟨18, _⟩ => ⟨S2x16x4096x256, .bf16⟩
  | .hbm, ⟨19, _⟩ => ⟨S2x4096x1x64, .f32⟩
  | .hbm, ⟨20, _⟩ => ⟨S2x4096x16x64, .f32⟩
  | .hbm, ⟨21, _⟩ => ⟨S2x4096x16x256, .f32⟩
  | .hbm, ⟨22, _⟩ => ⟨S2x4096x16x256, .bf16⟩
  | .hbm, ⟨23, _⟩ => ⟨S2x16x4096x256, .bf16⟩
  | .hbm, ⟨24, _⟩ => ⟨S2x4096x16x128, .bf16⟩
  | .hbm, ⟨25, _⟩ => ⟨S2x16x4096x128, .bf16⟩
  | .hbm, ⟨26, _⟩ => ⟨S2x4096x2048, .bf16⟩
  | .local _ .vmem, ⟨0, _⟩ => ⟨S1x4x512x256, .bf16⟩
  | .local _ .vmem, ⟨1, _⟩ => ⟨S1x4x512x256, .bf16⟩
  | .local _ .vmem, ⟨2, _⟩ => ⟨S1x4x4096x256, .bf16⟩
  | .local _ .vmem, ⟨3, _⟩ => ⟨S1x4x4096x256, .bf16⟩
  | .local _ .vmem, ⟨4, _⟩ => ⟨S1x4x4096x128, .bf16⟩
  | .local _ .vmem, ⟨5, _⟩ => ⟨S1x4x4096x128, .bf16⟩
  | .local _ .vmem, ⟨6, _⟩ => ⟨S1x512x512, .bf16⟩
  | .local _ .vmem, ⟨7, _⟩ => ⟨S1x512x512, .bf16⟩
  | .local _ .vmem, ⟨8, _⟩ => ⟨S4x512x128, .f32⟩
  | .local _ .vmem, ⟨9, _⟩ => ⟨S4x512x256, .f32⟩
  | _, _ => ⟨S2x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

@[reducible] def k0_t1_loop (i : grid0.Coords) : Scf.Loop 32 :=
  let c0_i32_28 : BitVec 32 := 0#32
  let arg2 : BitVec 32 := BitVec.ofNat 32 (i 2).val
  let c2_i32 : BitVec 32 := 2#32
  let v33 : BitVec 32 := Scalar.divsi arg2 c2_i32
  let v34 : BitVec 32 := Scalar.subi v33 c0_i32_28
  let c1_i32 : BitVec 32 := 1#32
  let v36 : BitVec 32 := Scalar.divsi v34 c1_i32
  let v37 : BitVec 32 := Scalar.muli v36 c1_i32
  let v38 : BitVec 32 := Scalar.addi c0_i32_28 v37
  let c1_i32_29 : BitVec 32 := 1#32
  ⟨c0_i32_28, v38, c1_i32_29⟩
def k0_mult1 (i : grid0.Coords) (k0_t1 : Fin (k0_t1_loop i).trips) : BitVec 32 :=
  let c2_i32_57 : BitVec 32 := 2#32
  let c0_i32_28 : BitVec 32 := 0#32
  let c1_i32_29 : BitVec 32 := 1#32
  let arg9 : BitVec 32 := Scf.iv c0_i32_28 c1_i32_29 k0_t1
  let v83 : BitVec 32 := Scalar.muli c2_i32_57 arg9
  let c0_i32_58 : BitVec 32 := 0#32
  let v84 : BitVec 32 := Scalar.addi v83 c0_i32_58
  let c512_i32 : BitVec 32 := 512#32
  let v85 : BitVec 32 := Scalar.muli v84 c512_i32
  v85
def k0_off1 (i : grid0.Coords) (k0_t1 : Fin (k0_t1_loop i).trips) (c0_i32_58 : BitVec 32) : Fin 4 → Nat :=
  let c0_59 : Index := 0#32
  let c0_60 : Index := 0#32
  let c2_i32_57 : BitVec 32 := 2#32
  let c0_i32_28 : BitVec 32 := 0#32
  let c1_i32_29 : BitVec 32 := 1#32
  let arg9 : BitVec 32 := Scf.iv c0_i32_28 c1_i32_29 k0_t1
  let v83 : BitVec 32 := Scalar.muli c2_i32_57 arg9
  let v84 : BitVec 32 := Scalar.addi v83 c0_i32_58
  let c512_i32 : BitVec 32 := 512#32
  let v85 : BitVec 32 := Scalar.muli v84 c512_i32
  let v86 : BitVec 32 := v85
  let v87 : Index := Scalar.indexCast v86
  let c0_61 : Index := 0#32
  ![0, 0, v87.toNat, 0]
def k0_off2 (i : grid0.Coords) (k0_t1 : Fin (k0_t1_loop i).trips) (c0_i32_58 : BitVec 32) : Fin 4 → Nat :=
  let c0_62 : Index := 0#32
  let c0_63 : Index := 0#32
  let c2_i32_57 : BitVec 32 := 2#32
  let c0_i32_28 : BitVec 32 := 0#32
  let c1_i32_29 : BitVec 32 := 1#32
  let arg9 : BitVec 32 := Scf.iv c0_i32_28 c1_i32_29 k0_t1
  let v83 : BitVec 32 := Scalar.muli c2_i32_57 arg9
  let v84 : BitVec 32 := Scalar.addi v83 c0_i32_58
  let c512_i32 : BitVec 32 := 512#32
  let v85 : BitVec 32 := Scalar.muli v84 c512_i32
  let v86 : BitVec 32 := v85
  let v90 : Index := Scalar.indexCast v86
  let c0_64 : Index := 0#32
  ![0, 0, v90.toNat, 0]
def k0_mult2 (i : grid0.Coords) (k0_t1 : Fin (k0_t1_loop i).trips) : BitVec 32 :=
  let c2_i32_84 : BitVec 32 := 2#32
  let c0_i32_28 : BitVec 32 := 0#32
  let c1_i32_29 : BitVec 32 := 1#32
  let arg9 : BitVec 32 := Scf.iv c0_i32_28 c1_i32_29 k0_t1
  let v121 : BitVec 32 := Scalar.muli c2_i32_84 arg9
  let c0_i32_85 : BitVec 32 := 0#32
  let v122 : BitVec 32 := Scalar.addi v121 c0_i32_85
  let c512_i32_86 : BitVec 32 := 512#32
  let v123 : BitVec 32 := Scalar.muli v122 c512_i32_86
  v123
def k0_off3 (i : grid0.Coords) (k0_t1 : Fin (k0_t1_loop i).trips) (c0_i32_85 : BitVec 32) : Fin 4 → Nat :=
  let c0_87 : Index := 0#32
  let c1_88 : Index := 1#32
  let c2_i32_84 : BitVec 32 := 2#32
  let c0_i32_28 : BitVec 32 := 0#32
  let c1_i32_29 : BitVec 32 := 1#32
  let arg9 : BitVec 32 := Scf.iv c0_i32_28 c1_i32_29 k0_t1
  let v121 : BitVec 32 := Scalar.muli c2_i32_84 arg9
  let v122 : BitVec 32 := Scalar.addi v121 c0_i32_85
  let c512_i32_86 : BitVec 32 := 512#32
  let v123 : BitVec 32 := Scalar.muli v122 c512_i32_86
  let v124 : BitVec 32 := v123
  let v125 : Index := Scalar.indexCast v124
  let c0_89 : Index := 0#32
  ![0, 1, v125.toNat, 0]
def k0_off4 (i : grid0.Coords) (k0_t1 : Fin (k0_t1_loop i).trips) (c0_i32_85 : BitVec 32) : Fin 4 → Nat :=
  let c0_90 : Index := 0#32
  let c1_91 : Index := 1#32
  let c2_i32_84 : BitVec 32 := 2#32
  let c0_i32_28 : BitVec 32 := 0#32
  let c1_i32_29 : BitVec 32 := 1#32
  let arg9 : BitVec 32 := Scf.iv c0_i32_28 c1_i32_29 k0_t1
  let v121 : BitVec 32 := Scalar.muli c2_i32_84 arg9
  let v122 : BitVec 32 := Scalar.addi v121 c0_i32_85
  let c512_i32_86 : BitVec 32 := 512#32
  let v123 : BitVec 32 := Scalar.muli v122 c512_i32_86
  let v124 : BitVec 32 := v123
  let v128 : Index := Scalar.indexCast v124
  let c0_92 : Index := 0#32
  ![0, 1, v128.toNat, 0]
def k0_mult3 (i : grid0.Coords) (k0_t1 : Fin (k0_t1_loop i).trips) : BitVec 32 :=
  let c2_i32_112 : BitVec 32 := 2#32
  let c0_i32_28 : BitVec 32 := 0#32
  let c1_i32_29 : BitVec 32 := 1#32
  let arg9 : BitVec 32 := Scf.iv c0_i32_28 c1_i32_29 k0_t1
  let v159 : BitVec 32 := Scalar.muli c2_i32_112 arg9
  let c0_i32_113 : BitVec 32 := 0#32
  let v160 : BitVec 32 := Scalar.addi v159 c0_i32_113
  let c512_i32_114 : BitVec 32 := 512#32
  let v161 : BitVec 32 := Scalar.muli v160 c512_i32_114
  v161
def k0_off5 (i : grid0.Coords) (k0_t1 : Fin (k0_t1_loop i).trips) (c0_i32_113 : BitVec 32) : Fin 4 → Nat :=
  let c0_115 : Index := 0#32
  let c2_116 : Index := 2#32
  let c2_i32_112 : BitVec 32 := 2#32
  let c0_i32_28 : BitVec 32 := 0#32
  let c1_i32_29 : BitVec 32 := 1#32
  let arg9 : BitVec 32 := Scf.iv c0_i32_28 c1_i32_29 k0_t1
  let v159 : BitVec 32 := Scalar.muli c2_i32_112 arg9
  let v160 : BitVec 32 := Scalar.addi v159 c0_i32_113
  let c512_i32_114 : BitVec 32 := 512#32
  let v161 : BitVec 32 := Scalar.muli v160 c512_i32_114
  let v162 : BitVec 32 := v161
  let v163 : Index := Scalar.indexCast v162
  let c0_117 : Index := 0#32
  ![0, 2, v163.toNat, 0]
def k0_off6 (i : grid0.Coords) (k0_t1 : Fin (k0_t1_loop i).trips) (c0_i32_113 : BitVec 32) : Fin 4 → Nat :=
  let c0_118 : Index := 0#32
  let c2_119 : Index := 2#32
  let c2_i32_112 : BitVec 32 := 2#32
  let c0_i32_28 : BitVec 32 := 0#32
  let c1_i32_29 : BitVec 32 := 1#32
  let arg9 : BitVec 32 := Scf.iv c0_i32_28 c1_i32_29 k0_t1
  let v159 : BitVec 32 := Scalar.muli c2_i32_112 arg9
  let v160 : BitVec 32 := Scalar.addi v159 c0_i32_113
  let c512_i32_114 : BitVec 32 := 512#32
  let v161 : BitVec 32 := Scalar.muli v160 c512_i32_114
  let v162 : BitVec 32 := v161
  let v166 : Index := Scalar.indexCast v162
  let c0_120 : Index := 0#32
  ![0, 2, v166.toNat, 0]
def k0_mult4 (i : grid0.Coords) (k0_t1 : Fin (k0_t1_loop i).trips) : BitVec 32 :=
  let c2_i32_140 : BitVec 32 := 2#32
  let c0_i32_28 : BitVec 32 := 0#32
  let c1_i32_29 : BitVec 32 := 1#32
  let arg9 : BitVec 32 := Scf.iv c0_i32_28 c1_i32_29 k0_t1
  let v197 : BitVec 32 := Scalar.muli c2_i32_140 arg9
  let c0_i32_141 : BitVec 32 := 0#32
  let v198 : BitVec 32 := Scalar.addi v197 c0_i32_141
  let c512_i32_142 : BitVec 32 := 512#32
  let v199 : BitVec 32 := Scalar.muli v198 c512_i32_142
  v199
def k0_off7 (i : grid0.Coords) (k0_t1 : Fin (k0_t1_loop i).trips) (c0_i32_141 : BitVec 32) : Fin 4 → Nat :=
  let c0_143 : Index := 0#32
  let c3_144 : Index := 3#32
  let c2_i32_140 : BitVec 32 := 2#32
  let c0_i32_28 : BitVec 32 := 0#32
  let c1_i32_29 : BitVec 32 := 1#32
  let arg9 : BitVec 32 := Scf.iv c0_i32_28 c1_i32_29 k0_t1
  let v197 : BitVec 32 := Scalar.muli c2_i32_140 arg9
  let v198 : BitVec 32 := Scalar.addi v197 c0_i32_141
  let c512_i32_142 : BitVec 32 := 512#32
  let v199 : BitVec 32 := Scalar.muli v198 c512_i32_142
  let v200 : BitVec 32 := v199
  let v201 : Index := Scalar.indexCast v200
  let c0_145 : Index := 0#32
  ![0, 3, v201.toNat, 0]
def k0_off8 (i : grid0.Coords) (k0_t1 : Fin (k0_t1_loop i).trips) (c0_i32_141 : BitVec 32) : Fin 4 → Nat :=
  let c0_146 : Index := 0#32
  let c3_147 : Index := 3#32
  let c2_i32_140 : BitVec 32 := 2#32
  let c0_i32_28 : BitVec 32 := 0#32
  let c1_i32_29 : BitVec 32 := 1#32
  let arg9 : BitVec 32 := Scf.iv c0_i32_28 c1_i32_29 k0_t1
  let v197 : BitVec 32 := Scalar.muli c2_i32_140 arg9
  let v198 : BitVec 32 := Scalar.addi v197 c0_i32_141
  let c512_i32_142 : BitVec 32 := 512#32
  let v199 : BitVec 32 := Scalar.muli v198 c512_i32_142
  let v200 : BitVec 32 := v199
  let v204 : Index := Scalar.indexCast v200
  let c0_148 : Index := 0#32
  ![0, 3, v204.toNat, 0]
def k0_mult5 (i : grid0.Coords) (k0_t1 : Fin (k0_t1_loop i).trips) : BitVec 32 :=
  let c2_i32_168 : BitVec 32 := 2#32
  let c0_i32_28 : BitVec 32 := 0#32
  let c1_i32_29 : BitVec 32 := 1#32
  let arg9 : BitVec 32 := Scf.iv c0_i32_28 c1_i32_29 k0_t1
  let v235 : BitVec 32 := Scalar.muli c2_i32_168 arg9
  let c1_i32_169 : BitVec 32 := 1#32
  let v236 : BitVec 32 := Scalar.addi v235 c1_i32_169
  let c512_i32_170 : BitVec 32 := 512#32
  let v237 : BitVec 32 := Scalar.muli v236 c512_i32_170
  v237
def k0_mult6 (i : grid0.Coords) (k0_t1 : Fin (k0_t1_loop i).trips) : BitVec 32 :=
  let c2_i32_196 : BitVec 32 := 2#32
  let c0_i32_28 : BitVec 32 := 0#32
  let c1_i32_29 : BitVec 32 := 1#32
  let arg9 : BitVec 32 := Scf.iv c0_i32_28 c1_i32_29 k0_t1
  let v273 : BitVec 32 := Scalar.muli c2_i32_196 arg9
  let c1_i32_197 : BitVec 32 := 1#32
  let v274 : BitVec 32 := Scalar.addi v273 c1_i32_197
  let c512_i32_198 : BitVec 32 := 512#32
  let v275 : BitVec 32 := Scalar.muli v274 c512_i32_198
  v275
def k0_mult7 (i : grid0.Coords) (k0_t1 : Fin (k0_t1_loop i).trips) : BitVec 32 :=
  let c2_i32_224 : BitVec 32 := 2#32
  let c0_i32_28 : BitVec 32 := 0#32
  let c1_i32_29 : BitVec 32 := 1#32
  let arg9 : BitVec 32 := Scf.iv c0_i32_28 c1_i32_29 k0_t1
  let v311 : BitVec 32 := Scalar.muli c2_i32_224 arg9
  let c1_i32_225 : BitVec 32 := 1#32
  let v312 : BitVec 32 := Scalar.addi v311 c1_i32_225
  let c512_i32_226 : BitVec 32 := 512#32
  let v313 : BitVec 32 := Scalar.muli v312 c512_i32_226
  v313
def k0_mult8 (i : grid0.Coords) (k0_t1 : Fin (k0_t1_loop i).trips) : BitVec 32 :=
  let c2_i32_252 : BitVec 32 := 2#32
  let c0_i32_28 : BitVec 32 := 0#32
  let c1_i32_29 : BitVec 32 := 1#32
  let arg9 : BitVec 32 := Scf.iv c0_i32_28 c1_i32_29 k0_t1
  let v349 : BitVec 32 := Scalar.muli c2_i32_252 arg9
  let c1_i32_253 : BitVec 32 := 1#32
  let v350 : BitVec 32 := Scalar.addi v349 c1_i32_253
  let c512_i32_254 : BitVec 32 := 512#32
  let v351 : BitVec 32 := Scalar.muli v350 c512_i32_254
  v351
@[reducible] def k0_t2_loop (i : grid0.Coords) : Scf.Loop 32 :=
  let c0_i32_28 : BitVec 32 := 0#32
  let arg2 : BitVec 32 := BitVec.ofNat 32 (i 2).val
  let c2_i32 : BitVec 32 := 2#32
  let v33 : BitVec 32 := Scalar.divsi arg2 c2_i32
  let v34 : BitVec 32 := Scalar.subi v33 c0_i32_28
  let c1_i32 : BitVec 32 := 1#32
  let v36 : BitVec 32 := Scalar.divsi v34 c1_i32
  let v37 : BitVec 32 := Scalar.muli v36 c1_i32
  let v38 : BitVec 32 := Scalar.addi c0_i32_28 v37
  let v35 : BitVec 32 := Scalar.addi c0_i32_28 v34
  let c1_i32_30 : BitVec 32 := 1#32
  ⟨v38, v35, c1_i32_30⟩
def k0_mult9 (i : grid0.Coords) (k0_t2 : Fin (k0_t2_loop i).trips) : BitVec 32 :=
  let c2_i32_57 : BitVec 32 := 2#32
  let c0_i32_28 : BitVec 32 := 0#32
  let arg2 : BitVec 32 := BitVec.ofNat 32 (i 2).val
  let c2_i32 : BitVec 32 := 2#32
  let v33 : BitVec 32 := Scalar.divsi arg2 c2_i32
  let v34 : BitVec 32 := Scalar.subi v33 c0_i32_28
  let c1_i32 : BitVec 32 := 1#32
  let v36 : BitVec 32 := Scalar.divsi v34 c1_i32
  let v37 : BitVec 32 := Scalar.muli v36 c1_i32
  let v38 : BitVec 32 := Scalar.addi c0_i32_28 v37
  let c1_i32_30 : BitVec 32 := 1#32
  let arg9 : BitVec 32 := Scf.iv v38 c1_i32_30 k0_t2
  let v83 : BitVec 32 := Scalar.muli c2_i32_57 arg9
  let c0_i32_58 : BitVec 32 := 0#32
  let v84 : BitVec 32 := Scalar.addi v83 c0_i32_58
  let c512_i32 : BitVec 32 := 512#32
  let v85 : BitVec 32 := Scalar.muli v84 c512_i32
  v85
def k0_off9 (i : grid0.Coords) (k0_t2 : Fin (k0_t2_loop i).trips) (c0_i32_58 : BitVec 32) : Fin 4 → Nat :=
  let c0_59 : Index := 0#32
  let c0_60 : Index := 0#32
  let c2_i32_57 : BitVec 32 := 2#32
  let c0_i32_28 : BitVec 32 := 0#32
  let arg2 : BitVec 32 := BitVec.ofNat 32 (i 2).val
  let c2_i32 : BitVec 32 := 2#32
  let v33 : BitVec 32 := Scalar.divsi arg2 c2_i32
  let v34 : BitVec 32 := Scalar.subi v33 c0_i32_28
  let c1_i32 : BitVec 32 := 1#32
  let v36 : BitVec 32 := Scalar.divsi v34 c1_i32
  let v37 : BitVec 32 := Scalar.muli v36 c1_i32
  let v38 : BitVec 32 := Scalar.addi c0_i32_28 v37
  let c1_i32_30 : BitVec 32 := 1#32
  let arg9 : BitVec 32 := Scf.iv v38 c1_i32_30 k0_t2
  let v83 : BitVec 32 := Scalar.muli c2_i32_57 arg9
  let v84 : BitVec 32 := Scalar.addi v83 c0_i32_58
  let c512_i32 : BitVec 32 := 512#32
  let v85 : BitVec 32 := Scalar.muli v84 c512_i32
  let v86 : BitVec 32 := v85
  let v87 : Index := Scalar.indexCast v86
  let c0_61 : Index := 0#32
  ![0, 0, v87.toNat, 0]
def k0_off10 (i : grid0.Coords) (k0_t2 : Fin (k0_t2_loop i).trips) (c0_i32_58 : BitVec 32) : Fin 4 → Nat :=
  let c0_62 : Index := 0#32
  let c0_63 : Index := 0#32
  let c2_i32_57 : BitVec 32 := 2#32
  let c0_i32_28 : BitVec 32 := 0#32
  let arg2 : BitVec 32 := BitVec.ofNat 32 (i 2).val
  let c2_i32 : BitVec 32 := 2#32
  let v33 : BitVec 32 := Scalar.divsi arg2 c2_i32
  let v34 : BitVec 32 := Scalar.subi v33 c0_i32_28
  let c1_i32 : BitVec 32 := 1#32
  let v36 : BitVec 32 := Scalar.divsi v34 c1_i32
  let v37 : BitVec 32 := Scalar.muli v36 c1_i32
  let v38 : BitVec 32 := Scalar.addi c0_i32_28 v37
  let c1_i32_30 : BitVec 32 := 1#32
  let arg9 : BitVec 32 := Scf.iv v38 c1_i32_30 k0_t2
  let v83 : BitVec 32 := Scalar.muli c2_i32_57 arg9
  let v84 : BitVec 32 := Scalar.addi v83 c0_i32_58
  let c512_i32 : BitVec 32 := 512#32
  let v85 : BitVec 32 := Scalar.muli v84 c512_i32
  let v86 : BitVec 32 := v85
  let v90 : Index := Scalar.indexCast v86
  let c0_64 : Index := 0#32
  ![0, 0, v90.toNat, 0]
def k0_mult10 (i : grid0.Coords) (k0_t2 : Fin (k0_t2_loop i).trips) : BitVec 32 :=
  let c2_i32_84 : BitVec 32 := 2#32
  let c0_i32_28 : BitVec 32 := 0#32
  let arg2 : BitVec 32 := BitVec.ofNat 32 (i 2).val
  let c2_i32 : BitVec 32 := 2#32
  let v33 : BitVec 32 := Scalar.divsi arg2 c2_i32
  let v34 : BitVec 32 := Scalar.subi v33 c0_i32_28
  let c1_i32 : BitVec 32 := 1#32
  let v36 : BitVec 32 := Scalar.divsi v34 c1_i32
  let v37 : BitVec 32 := Scalar.muli v36 c1_i32
  let v38 : BitVec 32 := Scalar.addi c0_i32_28 v37
  let c1_i32_30 : BitVec 32 := 1#32
  let arg9 : BitVec 32 := Scf.iv v38 c1_i32_30 k0_t2
  let v121 : BitVec 32 := Scalar.muli c2_i32_84 arg9
  let c0_i32_85 : BitVec 32 := 0#32
  let v122 : BitVec 32 := Scalar.addi v121 c0_i32_85
  let c512_i32_86 : BitVec 32 := 512#32
  let v123 : BitVec 32 := Scalar.muli v122 c512_i32_86
  v123
def k0_off11 (i : grid0.Coords) (k0_t2 : Fin (k0_t2_loop i).trips) (c0_i32_85 : BitVec 32) : Fin 4 → Nat :=
  let c0_87 : Index := 0#32
  let c1_88 : Index := 1#32
  let c2_i32_84 : BitVec 32 := 2#32
  let c0_i32_28 : BitVec 32 := 0#32
  let arg2 : BitVec 32 := BitVec.ofNat 32 (i 2).val
  let c2_i32 : BitVec 32 := 2#32
  let v33 : BitVec 32 := Scalar.divsi arg2 c2_i32
  let v34 : BitVec 32 := Scalar.subi v33 c0_i32_28
  let c1_i32 : BitVec 32 := 1#32
  let v36 : BitVec 32 := Scalar.divsi v34 c1_i32
  let v37 : BitVec 32 := Scalar.muli v36 c1_i32
  let v38 : BitVec 32 := Scalar.addi c0_i32_28 v37
  let c1_i32_30 : BitVec 32 := 1#32
  let arg9 : BitVec 32 := Scf.iv v38 c1_i32_30 k0_t2
  let v121 : BitVec 32 := Scalar.muli c2_i32_84 arg9
  let v122 : BitVec 32 := Scalar.addi v121 c0_i32_85
  let c512_i32_86 : BitVec 32 := 512#32
  let v123 : BitVec 32 := Scalar.muli v122 c512_i32_86
  let v124 : BitVec 32 := v123
  let v125 : Index := Scalar.indexCast v124
  let c0_89 : Index := 0#32
  ![0, 1, v125.toNat, 0]
def k0_off12 (i : grid0.Coords) (k0_t2 : Fin (k0_t2_loop i).trips) (c0_i32_85 : BitVec 32) : Fin 4 → Nat :=
  let c0_90 : Index := 0#32
  let c1_91 : Index := 1#32
  let c2_i32_84 : BitVec 32 := 2#32
  let c0_i32_28 : BitVec 32 := 0#32
  let arg2 : BitVec 32 := BitVec.ofNat 32 (i 2).val
  let c2_i32 : BitVec 32 := 2#32
  let v33 : BitVec 32 := Scalar.divsi arg2 c2_i32
  let v34 : BitVec 32 := Scalar.subi v33 c0_i32_28
  let c1_i32 : BitVec 32 := 1#32
  let v36 : BitVec 32 := Scalar.divsi v34 c1_i32
  let v37 : BitVec 32 := Scalar.muli v36 c1_i32
  let v38 : BitVec 32 := Scalar.addi c0_i32_28 v37
  let c1_i32_30 : BitVec 32 := 1#32
  let arg9 : BitVec 32 := Scf.iv v38 c1_i32_30 k0_t2
  let v121 : BitVec 32 := Scalar.muli c2_i32_84 arg9
  let v122 : BitVec 32 := Scalar.addi v121 c0_i32_85
  let c512_i32_86 : BitVec 32 := 512#32
  let v123 : BitVec 32 := Scalar.muli v122 c512_i32_86
  let v124 : BitVec 32 := v123
  let v128 : Index := Scalar.indexCast v124
  let c0_92 : Index := 0#32
  ![0, 1, v128.toNat, 0]
def k0_mult11 (i : grid0.Coords) (k0_t2 : Fin (k0_t2_loop i).trips) : BitVec 32 :=
  let c2_i32_112 : BitVec 32 := 2#32
  let c0_i32_28 : BitVec 32 := 0#32
  let arg2 : BitVec 32 := BitVec.ofNat 32 (i 2).val
  let c2_i32 : BitVec 32 := 2#32
  let v33 : BitVec 32 := Scalar.divsi arg2 c2_i32
  let v34 : BitVec 32 := Scalar.subi v33 c0_i32_28
  let c1_i32 : BitVec 32 := 1#32
  let v36 : BitVec 32 := Scalar.divsi v34 c1_i32
  let v37 : BitVec 32 := Scalar.muli v36 c1_i32
  let v38 : BitVec 32 := Scalar.addi c0_i32_28 v37
  let c1_i32_30 : BitVec 32 := 1#32
  let arg9 : BitVec 32 := Scf.iv v38 c1_i32_30 k0_t2
  let v159 : BitVec 32 := Scalar.muli c2_i32_112 arg9
  let c0_i32_113 : BitVec 32 := 0#32
  let v160 : BitVec 32 := Scalar.addi v159 c0_i32_113
  let c512_i32_114 : BitVec 32 := 512#32
  let v161 : BitVec 32 := Scalar.muli v160 c512_i32_114
  v161
def k0_off13 (i : grid0.Coords) (k0_t2 : Fin (k0_t2_loop i).trips) (c0_i32_113 : BitVec 32) : Fin 4 → Nat :=
  let c0_115 : Index := 0#32
  let c2_116 : Index := 2#32
  let c2_i32_112 : BitVec 32 := 2#32
  let c0_i32_28 : BitVec 32 := 0#32
  let arg2 : BitVec 32 := BitVec.ofNat 32 (i 2).val
  let c2_i32 : BitVec 32 := 2#32
  let v33 : BitVec 32 := Scalar.divsi arg2 c2_i32
  let v34 : BitVec 32 := Scalar.subi v33 c0_i32_28
  let c1_i32 : BitVec 32 := 1#32
  let v36 : BitVec 32 := Scalar.divsi v34 c1_i32
  let v37 : BitVec 32 := Scalar.muli v36 c1_i32
  let v38 : BitVec 32 := Scalar.addi c0_i32_28 v37
  let c1_i32_30 : BitVec 32 := 1#32
  let arg9 : BitVec 32 := Scf.iv v38 c1_i32_30 k0_t2
  let v159 : BitVec 32 := Scalar.muli c2_i32_112 arg9
  let v160 : BitVec 32 := Scalar.addi v159 c0_i32_113
  let c512_i32_114 : BitVec 32 := 512#32
  let v161 : BitVec 32 := Scalar.muli v160 c512_i32_114
  let v162 : BitVec 32 := v161
  let v163 : Index := Scalar.indexCast v162
  let c0_117 : Index := 0#32
  ![0, 2, v163.toNat, 0]
def k0_off14 (i : grid0.Coords) (k0_t2 : Fin (k0_t2_loop i).trips) (c0_i32_113 : BitVec 32) : Fin 4 → Nat :=
  let c0_118 : Index := 0#32
  let c2_119 : Index := 2#32
  let c2_i32_112 : BitVec 32 := 2#32
  let c0_i32_28 : BitVec 32 := 0#32
  let arg2 : BitVec 32 := BitVec.ofNat 32 (i 2).val
  let c2_i32 : BitVec 32 := 2#32
  let v33 : BitVec 32 := Scalar.divsi arg2 c2_i32
  let v34 : BitVec 32 := Scalar.subi v33 c0_i32_28
  let c1_i32 : BitVec 32 := 1#32
  let v36 : BitVec 32 := Scalar.divsi v34 c1_i32
  let v37 : BitVec 32 := Scalar.muli v36 c1_i32
  let v38 : BitVec 32 := Scalar.addi c0_i32_28 v37
  let c1_i32_30 : BitVec 32 := 1#32
  let arg9 : BitVec 32 := Scf.iv v38 c1_i32_30 k0_t2
  let v159 : BitVec 32 := Scalar.muli c2_i32_112 arg9
  let v160 : BitVec 32 := Scalar.addi v159 c0_i32_113
  let c512_i32_114 : BitVec 32 := 512#32
  let v161 : BitVec 32 := Scalar.muli v160 c512_i32_114
  let v162 : BitVec 32 := v161
  let v166 : Index := Scalar.indexCast v162
  let c0_120 : Index := 0#32
  ![0, 2, v166.toNat, 0]
def k0_mult12 (i : grid0.Coords) (k0_t2 : Fin (k0_t2_loop i).trips) : BitVec 32 :=
  let c2_i32_140 : BitVec 32 := 2#32
  let c0_i32_28 : BitVec 32 := 0#32
  let arg2 : BitVec 32 := BitVec.ofNat 32 (i 2).val
  let c2_i32 : BitVec 32 := 2#32
  let v33 : BitVec 32 := Scalar.divsi arg2 c2_i32
  let v34 : BitVec 32 := Scalar.subi v33 c0_i32_28
  let c1_i32 : BitVec 32 := 1#32
  let v36 : BitVec 32 := Scalar.divsi v34 c1_i32
  let v37 : BitVec 32 := Scalar.muli v36 c1_i32
  let v38 : BitVec 32 := Scalar.addi c0_i32_28 v37
  let c1_i32_30 : BitVec 32 := 1#32
  let arg9 : BitVec 32 := Scf.iv v38 c1_i32_30 k0_t2
  let v197 : BitVec 32 := Scalar.muli c2_i32_140 arg9
  let c0_i32_141 : BitVec 32 := 0#32
  let v198 : BitVec 32 := Scalar.addi v197 c0_i32_141
  let c512_i32_142 : BitVec 32 := 512#32
  let v199 : BitVec 32 := Scalar.muli v198 c512_i32_142
  v199
def k0_off15 (i : grid0.Coords) (k0_t2 : Fin (k0_t2_loop i).trips) (c0_i32_141 : BitVec 32) : Fin 4 → Nat :=
  let c0_143 : Index := 0#32
  let c3_144 : Index := 3#32
  let c2_i32_140 : BitVec 32 := 2#32
  let c0_i32_28 : BitVec 32 := 0#32
  let arg2 : BitVec 32 := BitVec.ofNat 32 (i 2).val
  let c2_i32 : BitVec 32 := 2#32
  let v33 : BitVec 32 := Scalar.divsi arg2 c2_i32
  let v34 : BitVec 32 := Scalar.subi v33 c0_i32_28
  let c1_i32 : BitVec 32 := 1#32
  let v36 : BitVec 32 := Scalar.divsi v34 c1_i32
  let v37 : BitVec 32 := Scalar.muli v36 c1_i32
  let v38 : BitVec 32 := Scalar.addi c0_i32_28 v37
  let c1_i32_30 : BitVec 32 := 1#32
  let arg9 : BitVec 32 := Scf.iv v38 c1_i32_30 k0_t2
  let v197 : BitVec 32 := Scalar.muli c2_i32_140 arg9
  let v198 : BitVec 32 := Scalar.addi v197 c0_i32_141
  let c512_i32_142 : BitVec 32 := 512#32
  let v199 : BitVec 32 := Scalar.muli v198 c512_i32_142
  let v200 : BitVec 32 := v199
  let v201 : Index := Scalar.indexCast v200
  let c0_145 : Index := 0#32
  ![0, 3, v201.toNat, 0]
def k0_off16 (i : grid0.Coords) (k0_t2 : Fin (k0_t2_loop i).trips) (c0_i32_141 : BitVec 32) : Fin 4 → Nat :=
  let c0_146 : Index := 0#32
  let c3_147 : Index := 3#32
  let c2_i32_140 : BitVec 32 := 2#32
  let c0_i32_28 : BitVec 32 := 0#32
  let arg2 : BitVec 32 := BitVec.ofNat 32 (i 2).val
  let c2_i32 : BitVec 32 := 2#32
  let v33 : BitVec 32 := Scalar.divsi arg2 c2_i32
  let v34 : BitVec 32 := Scalar.subi v33 c0_i32_28
  let c1_i32 : BitVec 32 := 1#32
  let v36 : BitVec 32 := Scalar.divsi v34 c1_i32
  let v37 : BitVec 32 := Scalar.muli v36 c1_i32
  let v38 : BitVec 32 := Scalar.addi c0_i32_28 v37
  let c1_i32_30 : BitVec 32 := 1#32
  let arg9 : BitVec 32 := Scf.iv v38 c1_i32_30 k0_t2
  let v197 : BitVec 32 := Scalar.muli c2_i32_140 arg9
  let v198 : BitVec 32 := Scalar.addi v197 c0_i32_141
  let c512_i32_142 : BitVec 32 := 512#32
  let v199 : BitVec 32 := Scalar.muli v198 c512_i32_142
  let v200 : BitVec 32 := v199
  let v204 : Index := Scalar.indexCast v200
  let c0_148 : Index := 0#32
  ![0, 3, v204.toNat, 0]
def k0_mult13 (i : grid0.Coords) (k0_t2 : Fin (k0_t2_loop i).trips) : BitVec 32 :=
  let c2_i32_168 : BitVec 32 := 2#32
  let c0_i32_28 : BitVec 32 := 0#32
  let arg2 : BitVec 32 := BitVec.ofNat 32 (i 2).val
  let c2_i32 : BitVec 32 := 2#32
  let v33 : BitVec 32 := Scalar.divsi arg2 c2_i32
  let v34 : BitVec 32 := Scalar.subi v33 c0_i32_28
  let c1_i32 : BitVec 32 := 1#32
  let v36 : BitVec 32 := Scalar.divsi v34 c1_i32
  let v37 : BitVec 32 := Scalar.muli v36 c1_i32
  let v38 : BitVec 32 := Scalar.addi c0_i32_28 v37
  let c1_i32_30 : BitVec 32 := 1#32
  let arg9 : BitVec 32 := Scf.iv v38 c1_i32_30 k0_t2
  let v235 : BitVec 32 := Scalar.muli c2_i32_168 arg9
  let c1_i32_169 : BitVec 32 := 1#32
  let v236 : BitVec 32 := Scalar.addi v235 c1_i32_169
  let c512_i32_170 : BitVec 32 := 512#32
  let v237 : BitVec 32 := Scalar.muli v236 c512_i32_170
  v237
def k0_mult14 (i : grid0.Coords) (k0_t2 : Fin (k0_t2_loop i).trips) : BitVec 32 :=
  let c2_i32_196 : BitVec 32 := 2#32
  let c0_i32_28 : BitVec 32 := 0#32
  let arg2 : BitVec 32 := BitVec.ofNat 32 (i 2).val
  let c2_i32 : BitVec 32 := 2#32
  let v33 : BitVec 32 := Scalar.divsi arg2 c2_i32
  let v34 : BitVec 32 := Scalar.subi v33 c0_i32_28
  let c1_i32 : BitVec 32 := 1#32
  let v36 : BitVec 32 := Scalar.divsi v34 c1_i32
  let v37 : BitVec 32 := Scalar.muli v36 c1_i32
  let v38 : BitVec 32 := Scalar.addi c0_i32_28 v37
  let c1_i32_30 : BitVec 32 := 1#32
  let arg9 : BitVec 32 := Scf.iv v38 c1_i32_30 k0_t2
  let v273 : BitVec 32 := Scalar.muli c2_i32_196 arg9
  let c1_i32_197 : BitVec 32 := 1#32
  let v274 : BitVec 32 := Scalar.addi v273 c1_i32_197
  let c512_i32_198 : BitVec 32 := 512#32
  let v275 : BitVec 32 := Scalar.muli v274 c512_i32_198
  v275
def k0_mult15 (i : grid0.Coords) (k0_t2 : Fin (k0_t2_loop i).trips) : BitVec 32 :=
  let c2_i32_224 : BitVec 32 := 2#32
  let c0_i32_28 : BitVec 32 := 0#32
  let arg2 : BitVec 32 := BitVec.ofNat 32 (i 2).val
  let c2_i32 : BitVec 32 := 2#32
  let v33 : BitVec 32 := Scalar.divsi arg2 c2_i32
  let v34 : BitVec 32 := Scalar.subi v33 c0_i32_28
  let c1_i32 : BitVec 32 := 1#32
  let v36 : BitVec 32 := Scalar.divsi v34 c1_i32
  let v37 : BitVec 32 := Scalar.muli v36 c1_i32
  let v38 : BitVec 32 := Scalar.addi c0_i32_28 v37
  let c1_i32_30 : BitVec 32 := 1#32
  let arg9 : BitVec 32 := Scf.iv v38 c1_i32_30 k0_t2
  let v311 : BitVec 32 := Scalar.muli c2_i32_224 arg9
  let c1_i32_225 : BitVec 32 := 1#32
  let v312 : BitVec 32 := Scalar.addi v311 c1_i32_225
  let c512_i32_226 : BitVec 32 := 512#32
  let v313 : BitVec 32 := Scalar.muli v312 c512_i32_226
  v313
def k0_mult16 (i : grid0.Coords) (k0_t2 : Fin (k0_t2_loop i).trips) : BitVec 32 :=
  let c2_i32_252 : BitVec 32 := 2#32
  let c0_i32_28 : BitVec 32 := 0#32
  let arg2 : BitVec 32 := BitVec.ofNat 32 (i 2).val
  let c2_i32 : BitVec 32 := 2#32
  let v33 : BitVec 32 := Scalar.divsi arg2 c2_i32
  let v34 : BitVec 32 := Scalar.subi v33 c0_i32_28
  let c1_i32 : BitVec 32 := 1#32
  let v36 : BitVec 32 := Scalar.divsi v34 c1_i32
  let v37 : BitVec 32 := Scalar.muli v36 c1_i32
  let v38 : BitVec 32 := Scalar.addi c0_i32_28 v37
  let c1_i32_30 : BitVec 32 := 1#32
  let arg9 : BitVec 32 := Scf.iv v38 c1_i32_30 k0_t2
  let v349 : BitVec 32 := Scalar.muli c2_i32_252 arg9
  let c1_i32_253 : BitVec 32 := 1#32
  let v350 : BitVec 32 := Scalar.addi v349 c1_i32_253
  let c512_i32_254 : BitVec 32 := 512#32
  let v351 : BitVec 32 := Scalar.muli v350 c512_i32_254
  v351
def k0_cond1 (i : grid0.Coords) : BitVec 1 :=
  let arg2 : BitVec 32 := BitVec.ofNat 32 (i 2).val
  let c2_i32_31 : BitVec 32 := 2#32
  let c2_i32 : BitVec 32 := 2#32
  let v33 : BitVec 32 := Scalar.divsi arg2 c2_i32
  let v39 : BitVec 32 := Scalar.muli c2_i32_31 v33
  let v40 : BitVec 32 := Scalar.subi arg2 v39
  let c1_i32_32 : BitVec 32 := 1#32
  let v41 : BitVec 1 := Scalar.cmpi .eq v40 c1_i32_32
  let v42 : BitVec 32 := Scalar.extui v41
  let c0_i32_33 : BitVec 32 := 0#32
  let v43 : BitVec 1 := Scalar.cmpi .ne v42 c0_i32_33
  v43

def k0_mult17 (i : grid0.Coords) : BitVec 32 :=
  let arg2 : BitVec 32 := BitVec.ofNat 32 (i 2).val
  let c1_i32_57 : BitVec 32 := 1#32
  let v83 : BitVec 32 := Scalar.subi arg2 c1_i32_57
  let c512_i32 : BitVec 32 := 512#32
  let v84 : BitVec 32 := Scalar.muli v83 c512_i32
  v84
def k0_off17 (i : grid0.Coords) : Fin 4 → Nat :=
  let c0_58 : Index := 0#32
  let c0_59 : Index := 0#32
  let arg2 : BitVec 32 := BitVec.ofNat 32 (i 2).val
  let c1_i32_57 : BitVec 32 := 1#32
  let v83 : BitVec 32 := Scalar.subi arg2 c1_i32_57
  let c512_i32 : BitVec 32 := 512#32
  let v84 : BitVec 32 := Scalar.muli v83 c512_i32
  let v85 : BitVec 32 := v84
  let v86 : Index := Scalar.indexCast v85
  let c0_60 : Index := 0#32
  ![0, 0, v86.toNat, 0]
def k0_off18 (i : grid0.Coords) : Fin 4 → Nat :=
  let c0_61 : Index := 0#32
  let c0_62 : Index := 0#32
  let arg2 : BitVec 32 := BitVec.ofNat 32 (i 2).val
  let c1_i32_57 : BitVec 32 := 1#32
  let v83 : BitVec 32 := Scalar.subi arg2 c1_i32_57
  let c512_i32 : BitVec 32 := 512#32
  let v84 : BitVec 32 := Scalar.muli v83 c512_i32
  let v85 : BitVec 32 := v84
  let v89 : Index := Scalar.indexCast v85
  let c0_63 : Index := 0#32
  ![0, 0, v89.toNat, 0]
def k0_mult18 (i : grid0.Coords) : BitVec 32 :=
  let arg2 : BitVec 32 := BitVec.ofNat 32 (i 2).val
  let c1_i32_83 : BitVec 32 := 1#32
  let v120 : BitVec 32 := Scalar.subi arg2 c1_i32_83
  let c512_i32_84 : BitVec 32 := 512#32
  let v121 : BitVec 32 := Scalar.muli v120 c512_i32_84
  v121
def k0_off19 (i : grid0.Coords) : Fin 4 → Nat :=
  let c0_85 : Index := 0#32
  let c1_86 : Index := 1#32
  let arg2 : BitVec 32 := BitVec.ofNat 32 (i 2).val
  let c1_i32_83 : BitVec 32 := 1#32
  let v120 : BitVec 32 := Scalar.subi arg2 c1_i32_83
  let c512_i32_84 : BitVec 32 := 512#32
  let v121 : BitVec 32 := Scalar.muli v120 c512_i32_84
  let v122 : BitVec 32 := v121
  let v123 : Index := Scalar.indexCast v122
  let c0_87 : Index := 0#32
  ![0, 1, v123.toNat, 0]
def k0_off20 (i : grid0.Coords) : Fin 4 → Nat :=
  let c0_88 : Index := 0#32
  let c1_89 : Index := 1#32
  let arg2 : BitVec 32 := BitVec.ofNat 32 (i 2).val
  let c1_i32_83 : BitVec 32 := 1#32
  let v120 : BitVec 32 := Scalar.subi arg2 c1_i32_83
  let c512_i32_84 : BitVec 32 := 512#32
  let v121 : BitVec 32 := Scalar.muli v120 c512_i32_84
  let v122 : BitVec 32 := v121
  let v126 : Index := Scalar.indexCast v122
  let c0_90 : Index := 0#32
  ![0, 1, v126.toNat, 0]
def k0_mult19 (i : grid0.Coords) : BitVec 32 :=
  let arg2 : BitVec 32 := BitVec.ofNat 32 (i 2).val
  let c1_i32_110 : BitVec 32 := 1#32
  let v157 : BitVec 32 := Scalar.subi arg2 c1_i32_110
  let c512_i32_111 : BitVec 32 := 512#32
  let v158 : BitVec 32 := Scalar.muli v157 c512_i32_111
  v158
def k0_off21 (i : grid0.Coords) : Fin 4 → Nat :=
  let c0_112 : Index := 0#32
  let c2_113 : Index := 2#32
  let arg2 : BitVec 32 := BitVec.ofNat 32 (i 2).val
  let c1_i32_110 : BitVec 32 := 1#32
  let v157 : BitVec 32 := Scalar.subi arg2 c1_i32_110
  let c512_i32_111 : BitVec 32 := 512#32
  let v158 : BitVec 32 := Scalar.muli v157 c512_i32_111
  let v159 : BitVec 32 := v158
  let v160 : Index := Scalar.indexCast v159
  let c0_114 : Index := 0#32
  ![0, 2, v160.toNat, 0]
def k0_off22 (i : grid0.Coords) : Fin 4 → Nat :=
  let c0_115 : Index := 0#32
  let c2_116 : Index := 2#32
  let arg2 : BitVec 32 := BitVec.ofNat 32 (i 2).val
  let c1_i32_110 : BitVec 32 := 1#32
  let v157 : BitVec 32 := Scalar.subi arg2 c1_i32_110
  let c512_i32_111 : BitVec 32 := 512#32
  let v158 : BitVec 32 := Scalar.muli v157 c512_i32_111
  let v159 : BitVec 32 := v158
  let v163 : Index := Scalar.indexCast v159
  let c0_117 : Index := 0#32
  ![0, 2, v163.toNat, 0]
def k0_mult20 (i : grid0.Coords) : BitVec 32 :=
  let arg2 : BitVec 32 := BitVec.ofNat 32 (i 2).val
  let c1_i32_137 : BitVec 32 := 1#32
  let v194 : BitVec 32 := Scalar.subi arg2 c1_i32_137
  let c512_i32_138 : BitVec 32 := 512#32
  let v195 : BitVec 32 := Scalar.muli v194 c512_i32_138
  v195
def k0_off23 (i : grid0.Coords) : Fin 4 → Nat :=
  let c0_139 : Index := 0#32
  let c3_140 : Index := 3#32
  let arg2 : BitVec 32 := BitVec.ofNat 32 (i 2).val
  let c1_i32_137 : BitVec 32 := 1#32
  let v194 : BitVec 32 := Scalar.subi arg2 c1_i32_137
  let c512_i32_138 : BitVec 32 := 512#32
  let v195 : BitVec 32 := Scalar.muli v194 c512_i32_138
  let v196 : BitVec 32 := v195
  let v197 : Index := Scalar.indexCast v196
  let c0_141 : Index := 0#32
  ![0, 3, v197.toNat, 0]
def k0_off24 (i : grid0.Coords) : Fin 4 → Nat :=
  let c0_142 : Index := 0#32
  let c3_143 : Index := 3#32
  let arg2 : BitVec 32 := BitVec.ofNat 32 (i 2).val
  let c1_i32_137 : BitVec 32 := 1#32
  let v194 : BitVec 32 := Scalar.subi arg2 c1_i32_137
  let c512_i32_138 : BitVec 32 := 512#32
  let v195 : BitVec 32 := Scalar.muli v194 c512_i32_138
  let v196 : BitVec 32 := v195
  let v200 : Index := Scalar.indexCast v196
  let c0_144 : Index := 0#32
  ![0, 3, v200.toNat, 0]
def k0_mult21 (i : grid0.Coords) : BitVec 32 :=
  let arg2 : BitVec 32 := BitVec.ofNat 32 (i 2).val
  let c512_i32_164 : BitVec 32 := 512#32
  let v231 : BitVec 32 := Scalar.muli arg2 c512_i32_164
  v231
def k0_off25 (i : grid0.Coords) : Fin 4 → Nat :=
  let c0_165 : Index := 0#32
  let c0_166 : Index := 0#32
  let arg2 : BitVec 32 := BitVec.ofNat 32 (i 2).val
  let c512_i32_164 : BitVec 32 := 512#32
  let v231 : BitVec 32 := Scalar.muli arg2 c512_i32_164
  let v232 : BitVec 32 := v231
  let v233 : Index := Scalar.indexCast v232
  let c0_167 : Index := 0#32
  ![0, 0, v233.toNat, 0]
def k0_off26 (i : grid0.Coords) : Fin 4 → Nat :=
  let c0_168 : Index := 0#32
  let c0_169 : Index := 0#32
  let arg2 : BitVec 32 := BitVec.ofNat 32 (i 2).val
  let c512_i32_164 : BitVec 32 := 512#32
  let v231 : BitVec 32 := Scalar.muli arg2 c512_i32_164
  let v232 : BitVec 32 := v231
  let v236 : Index := Scalar.indexCast v232
  let c0_170 : Index := 0#32
  ![0, 0, v236.toNat, 0]
def k0_mult22 (i : grid0.Coords) : BitVec 32 :=
  let arg2 : BitVec 32 := BitVec.ofNat 32 (i 2).val
  let c512_i32_191 : BitVec 32 := 512#32
  let v272 : BitVec 32 := Scalar.muli arg2 c512_i32_191
  v272
def k0_off27 (i : grid0.Coords) : Fin 4 → Nat :=
  let c0_192 : Index := 0#32
  let c1_193 : Index := 1#32
  let arg2 : BitVec 32 := BitVec.ofNat 32 (i 2).val
  let c512_i32_191 : BitVec 32 := 512#32
  let v272 : BitVec 32 := Scalar.muli arg2 c512_i32_191
  let v273 : BitVec 32 := v272
  let v274 : Index := Scalar.indexCast v273
  let c0_194 : Index := 0#32
  ![0, 1, v274.toNat, 0]
def k0_off28 (i : grid0.Coords) : Fin 4 → Nat :=
  let c0_195 : Index := 0#32
  let c1_196 : Index := 1#32
  let arg2 : BitVec 32 := BitVec.ofNat 32 (i 2).val
  let c512_i32_191 : BitVec 32 := 512#32
  let v272 : BitVec 32 := Scalar.muli arg2 c512_i32_191
  let v273 : BitVec 32 := v272
  let v277 : Index := Scalar.indexCast v273
  let c0_197 : Index := 0#32
  ![0, 1, v277.toNat, 0]
def k0_mult23 (i : grid0.Coords) : BitVec 32 :=
  let arg2 : BitVec 32 := BitVec.ofNat 32 (i 2).val
  let c512_i32_218 : BitVec 32 := 512#32
  let v313 : BitVec 32 := Scalar.muli arg2 c512_i32_218
  v313
def k0_off29 (i : grid0.Coords) : Fin 4 → Nat :=
  let c0_219 : Index := 0#32
  let c2_220 : Index := 2#32
  let arg2 : BitVec 32 := BitVec.ofNat 32 (i 2).val
  let c512_i32_218 : BitVec 32 := 512#32
  let v313 : BitVec 32 := Scalar.muli arg2 c512_i32_218
  let v314 : BitVec 32 := v313
  let v315 : Index := Scalar.indexCast v314
  let c0_221 : Index := 0#32
  ![0, 2, v315.toNat, 0]
def k0_off30 (i : grid0.Coords) : Fin 4 → Nat :=
  let c0_222 : Index := 0#32
  let c2_223 : Index := 2#32
  let arg2 : BitVec 32 := BitVec.ofNat 32 (i 2).val
  let c512_i32_218 : BitVec 32 := 512#32
  let v313 : BitVec 32 := Scalar.muli arg2 c512_i32_218
  let v314 : BitVec 32 := v313
  let v318 : Index := Scalar.indexCast v314
  let c0_224 : Index := 0#32
  ![0, 2, v318.toNat, 0]
def k0_mult24 (i : grid0.Coords) : BitVec 32 :=
  let arg2 : BitVec 32 := BitVec.ofNat 32 (i 2).val
  let c512_i32_245 : BitVec 32 := 512#32
  let v354 : BitVec 32 := Scalar.muli arg2 c512_i32_245
  v354
def k0_off31 (i : grid0.Coords) : Fin 4 → Nat :=
  let c0_246 : Index := 0#32
  let c3_247 : Index := 3#32
  let arg2 : BitVec 32 := BitVec.ofNat 32 (i 2).val
  let c512_i32_245 : BitVec 32 := 512#32
  let v354 : BitVec 32 := Scalar.muli arg2 c512_i32_245
  let v355 : BitVec 32 := v354
  let v356 : Index := Scalar.indexCast v355
  let c0_248 : Index := 0#32
  ![0, 3, v356.toNat, 0]
def k0_off32 (i : grid0.Coords) : Fin 4 → Nat :=
  let c0_249 : Index := 0#32
  let c3_250 : Index := 3#32
  let arg2 : BitVec 32 := BitVec.ofNat 32 (i 2).val
  let c512_i32_245 : BitVec 32 := 512#32
  let v354 : BitVec 32 := Scalar.muli arg2 c512_i32_245
  let v355 : BitVec 32 := v354
  let v359 : Index := Scalar.indexCast v355
  let c0_251 : Index := 0#32
  ![0, 3, v359.toNat, 0]
def k0_cond2 (i : grid0.Coords) : BitVec 1 :=
  let arg2 : BitVec 32 := BitVec.ofNat 32 (i 2).val
  let c2_i32_31 : BitVec 32 := 2#32
  let c2_i32 : BitVec 32 := 2#32
  let v33 : BitVec 32 := Scalar.divsi arg2 c2_i32
  let v39 : BitVec 32 := Scalar.muli c2_i32_31 v33
  let v40 : BitVec 32 := Scalar.subi arg2 v39
  let c0_i32_34 : BitVec 32 := 0#32
  let v44 : BitVec 1 := Scalar.cmpi .eq v40 c0_i32_34
  let v45 : BitVec 32 := Scalar.extui v44
  let c0_i32_35 : BitVec 32 := 0#32
  let v46 : BitVec 1 := Scalar.cmpi .ne v45 c0_i32_35
  v46

def k0_mult25 (i : grid0.Coords) : BitVec 32 :=
  let arg2 : BitVec 32 := BitVec.ofNat 32 (i 2).val
  let c512_i32 : BitVec 32 := 512#32
  let v83 : BitVec 32 := Scalar.muli arg2 c512_i32
  v83
def k0_off33 (i : grid0.Coords) : Fin 4 → Nat :=
  let c0_57 : Index := 0#32
  let c0_58 : Index := 0#32
  let arg2 : BitVec 32 := BitVec.ofNat 32 (i 2).val
  let c512_i32 : BitVec 32 := 512#32
  let v83 : BitVec 32 := Scalar.muli arg2 c512_i32
  let v84 : BitVec 32 := v83
  let v85 : Index := Scalar.indexCast v84
  let c0_59 : Index := 0#32
  ![0, 0, v85.toNat, 0]
def k0_off34 (i : grid0.Coords) : Fin 4 → Nat :=
  let c0_60 : Index := 0#32
  let c0_61 : Index := 0#32
  let arg2 : BitVec 32 := BitVec.ofNat 32 (i 2).val
  let c512_i32 : BitVec 32 := 512#32
  let v83 : BitVec 32 := Scalar.muli arg2 c512_i32
  let v84 : BitVec 32 := v83
  let v88 : Index := Scalar.indexCast v84
  let c0_62 : Index := 0#32
  ![0, 0, v88.toNat, 0]
def k0_mult26 (i : grid0.Coords) : BitVec 32 :=
  let arg2 : BitVec 32 := BitVec.ofNat 32 (i 2).val
  let c512_i32_83 : BitVec 32 := 512#32
  let v124 : BitVec 32 := Scalar.muli arg2 c512_i32_83
  v124
def k0_off35 (i : grid0.Coords) : Fin 4 → Nat :=
  let c0_84 : Index := 0#32
  let c1_85 : Index := 1#32
  let arg2 : BitVec 32 := BitVec.ofNat 32 (i 2).val
  let c512_i32_83 : BitVec 32 := 512#32
  let v124 : BitVec 32 := Scalar.muli arg2 c512_i32_83
  let v125 : BitVec 32 := v124
  let v126 : Index := Scalar.indexCast v125
  let c0_86 : Index := 0#32
  ![0, 1, v126.toNat, 0]
def k0_off36 (i : grid0.Coords) : Fin 4 → Nat :=
  let c0_87 : Index := 0#32
  let c1_88 : Index := 1#32
  let arg2 : BitVec 32 := BitVec.ofNat 32 (i 2).val
  let c512_i32_83 : BitVec 32 := 512#32
  let v124 : BitVec 32 := Scalar.muli arg2 c512_i32_83
  let v125 : BitVec 32 := v124
  let v129 : Index := Scalar.indexCast v125
  let c0_89 : Index := 0#32
  ![0, 1, v129.toNat, 0]
def k0_mult27 (i : grid0.Coords) : BitVec 32 :=
  let arg2 : BitVec 32 := BitVec.ofNat 32 (i 2).val
  let c512_i32_110 : BitVec 32 := 512#32
  let v165 : BitVec 32 := Scalar.muli arg2 c512_i32_110
  v165
def k0_off37 (i : grid0.Coords) : Fin 4 → Nat :=
  let c0_111 : Index := 0#32
  let c2_112 : Index := 2#32
  let arg2 : BitVec 32 := BitVec.ofNat 32 (i 2).val
  let c512_i32_110 : BitVec 32 := 512#32
  let v165 : BitVec 32 := Scalar.muli arg2 c512_i32_110
  let v166 : BitVec 32 := v165
  let v167 : Index := Scalar.indexCast v166
  let c0_113 : Index := 0#32
  ![0, 2, v167.toNat, 0]
def k0_off38 (i : grid0.Coords) : Fin 4 → Nat :=
  let c0_114 : Index := 0#32
  let c2_115 : Index := 2#32
  let arg2 : BitVec 32 := BitVec.ofNat 32 (i 2).val
  let c512_i32_110 : BitVec 32 := 512#32
  let v165 : BitVec 32 := Scalar.muli arg2 c512_i32_110
  let v166 : BitVec 32 := v165
  let v170 : Index := Scalar.indexCast v166
  let c0_116 : Index := 0#32
  ![0, 2, v170.toNat, 0]
def k0_mult28 (i : grid0.Coords) : BitVec 32 :=
  let arg2 : BitVec 32 := BitVec.ofNat 32 (i 2).val
  let c512_i32_137 : BitVec 32 := 512#32
  let v206 : BitVec 32 := Scalar.muli arg2 c512_i32_137
  v206
def k0_off39 (i : grid0.Coords) : Fin 4 → Nat :=
  let c0_138 : Index := 0#32
  let c3_139 : Index := 3#32
  let arg2 : BitVec 32 := BitVec.ofNat 32 (i 2).val
  let c512_i32_137 : BitVec 32 := 512#32
  let v206 : BitVec 32 := Scalar.muli arg2 c512_i32_137
  let v207 : BitVec 32 := v206
  let v208 : Index := Scalar.indexCast v207
  let c0_140 : Index := 0#32
  ![0, 3, v208.toNat, 0]
def k0_off40 (i : grid0.Coords) : Fin 4 → Nat :=
  let c0_141 : Index := 0#32
  let c3_142 : Index := 3#32
  let arg2 : BitVec 32 := BitVec.ofNat 32 (i 2).val
  let c512_i32_137 : BitVec 32 := 512#32
  let v206 : BitVec 32 := Scalar.muli arg2 c512_i32_137
  let v207 : BitVec 32 := v206
  let v211 : Index := Scalar.indexCast v207
  let c0_143 : Index := 0#32
  ![0, 3, v211.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x4096x16x128 : Shape := ⟨4, ![2, 4096, 16, 128]⟩
abbrev S2x4096x16x64 : Shape := ⟨4, ![2, 4096, 16, 64]⟩
abbrev S2x4096x64 : Shape := ⟨3, ![2, 4096, 64]⟩
abbrev S_ : Shape := ⟨0, ![]⟩
abbrev S2x16x4096x4096 : Shape := ⟨4, ![2, 16, 4096, 4096]⟩
abbrev S2x4096x4096x16 : Shape := ⟨4, ![2, 4096, 4096, 16]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x16x4096 : Shape := ⟨3, ![2, 16, 4096]⟩
abbrev S2x16x4096x1 : Shape := ⟨4, ![2, 16, 4096, 1]⟩
abbrev S2x16x128x4096 : Shape := ⟨4, ![2, 16, 128, 4096]⟩
abbrev S2x4096x2048 : Shape := ⟨3, ![2, 4096, 2048]⟩

abbrev nBuf : Space → Nat
  | .hbm => 44
  | .vmem => 0
  | .smem => 0
  | _ => 0

abbrev bufTy : (tb : Table) → Fin (tcTables nBuf tb) → BufTy
  | .hbm, ⟨0, _⟩ => ⟨S2x4096x16x128, .f32⟩
  | .hbm, ⟨1, _⟩ => ⟨S2x4096x16x64, .f32⟩
  | .hbm, ⟨2, _⟩ => ⟨S2x4096x16x128, .f32⟩
  | .hbm, ⟨3, _⟩ => ⟨S2x4096x64, .f32⟩
  | .hbm, ⟨4, _⟩ => ⟨S2x4096x16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x16x4096x4096, .f32⟩
  | .hbm, ⟨10, _⟩ => ⟨S2x4096x4096x16, .f32⟩
  | .hbm, ⟨11, _⟩ => ⟨S2x16x4096x4096, .f32⟩
  | .hbm, ⟨12, _⟩ => ⟨S2x16x4096x4096, .f32⟩
  | .hbm, ⟨13, _⟩ => ⟨S2x16x4096x4096, .f32⟩
  | .hbm, ⟨14, _⟩ => ⟨S2x16x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S2x16x4096x4096, .i1⟩
  | .hbm, ⟨24, _⟩ => ⟨S2x16x4096x4096, .f32⟩
  | .hbm, ⟨25, _⟩ => ⟨S2x16x4096x4096, .f32⟩
  | .hbm, ⟨26, _⟩ => ⟨S_, .f32⟩
  | .hbm, ⟨27, _⟩ => ⟨S2x16x4096, .f32⟩
  | .hbm, ⟨28, _⟩ => ⟨S_, .f32⟩
  | .hbm, ⟨29, _⟩ => ⟨S2x16x4096, .f32⟩
  | .hbm, ⟨30, _⟩ => ⟨S2x16x4096, .f32⟩
  | .hbm, ⟨31, _⟩ => ⟨S2x16x4096x1, .f32⟩
  | .hbm, ⟨32, _⟩ => ⟨S2x16x4096x4096, .f32⟩
  | .hbm, ⟨33, _⟩ => ⟨S2x16x4096x4096, .f32⟩
  | .hbm, ⟨34, _⟩ => ⟨S2x16x4096x4096, .f32⟩
  | .hbm, ⟨35, _⟩ => ⟨S_, .f32⟩
  | .hbm, ⟨36, _⟩ => ⟨S2x16x4096, .f32⟩
  | .hbm, ⟨37, _⟩ => ⟨S2x16x4096x1, .f32⟩
  | .hbm, ⟨38, _⟩ => ⟨S2x16x4096x4096, .f32⟩
  | .hbm, ⟨39, _⟩ => ⟨S2x16x4096x4096, .f32⟩
  | .hbm, ⟨40, _⟩ => ⟨S2x16x128x4096, .f32⟩
  | .hbm, ⟨41, _⟩ => ⟨S2x4096x16x128, .f32⟩
  | .hbm, ⟨42, _⟩ => ⟨S2x4096x2048, .f32⟩
  | .hbm, ⟨43, _⟩ => ⟨S2x4096x2048, .bf16⟩
  | _, _ => ⟨S2x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel2.lean ====
abbrev S8x72 : Shape := ⟨2, ![8, 72]⟩
abbrev S1 : Shape := ⟨1, ![1]⟩
abbrev S18432x2048 : Shape := ⟨2, ![18432, 2048]⟩
abbrev S8x2048x5632 : Shape := ⟨3, ![8, 2048, 5632]⟩
abbrev S18432x5632 : Shape := ⟨2, ![18432, 5632]⟩
abbrev S256x2048 : Shape := ⟨2, ![256, 2048]⟩
abbrev S256x1408 : Shape := ⟨2, ![256, 1408]⟩
abbrev S2x2x2048x1408 : Shape := ⟨4, ![2, 2, 2048, 1408]⟩
abbrev S2x2x256x1408 : Shape := ⟨4, ![2, 2, 256, 1408]⟩
abbrev S2x2 : Shape := ⟨2, ![2, 2]⟩
abbrev S1x1 : Shape := ⟨2, ![1, 1]⟩
abbrev S_ : Shape := ⟨0, ![]⟩
abbrev S1x1x256x1408 : Shape := ⟨4, ![1, 1, 256, 1408]⟩
abbrev S1x256x1408 : Shape := ⟨3, ![1, 256, 1408]⟩
abbrev S1x1x2048x1408 : Shape := ⟨4, ![1, 1, 2048, 1408]⟩
abbrev S2048x1408 : Shape := ⟨2, ![2048, 1408]⟩

abbrev nBuf : Space → Nat
  | .hbm => 4
  | .vmem => 6
  | .smem => 2
  | _ => 0

abbrev bufTy : (tb : Table) → Fin (tcTables nBuf tb) → BufTy
  | .hbm, ⟨0, _⟩ => ⟨S18432x2048, .bf16⟩
  | .hbm, ⟨1, _⟩ => ⟨S8x2048x5632, .f32⟩
  | .hbm, ⟨2, _⟩ => ⟨S8x2048x5632, .f32⟩
  | .hbm, ⟨3, _⟩ => ⟨S18432x5632, .bf16⟩
  | .local _ .vmem, ⟨0, _⟩ => ⟨S256x2048, .bf16⟩
  | .local _ .vmem, ⟨1, _⟩ => ⟨S256x2048, .bf16⟩
  | .local _ .vmem, ⟨2, _⟩ => ⟨S256x1408, .bf16⟩
  | .local _ .vmem, ⟨3, _⟩ => ⟨S256x1408, .bf16⟩
  | .local _ .vmem, ⟨4, _⟩ => ⟨S2x2x2048x1408, .bf16⟩
  | .local _ .vmem, ⟨5, _⟩ => ⟨S2x2x256x1408, .f32⟩
  | .local _ .smem, ⟨0, _⟩ => ⟨S8x72, .i32⟩
  | .local _ .smem, ⟨1, _⟩ => ⟨S1, .i32⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 72], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let c0 : Index := 0#32
  let arg1 : BitVec 32 := BitVec.ofNat 32 (i 1).val
  let v0 : Index := Scalar.indexCast arg1
  ![0, v0.toNat]
def k0_off2 (i : grid0.Coords) : Fin 2 → Nat :=
  let c6 : Index := 6#32
  let arg1 : BitVec 32 := BitVec.ofNat 32 (i 1).val
  let v6 : Index := Scalar.indexCast arg1
  ![6, v6.toNat]
def k0_off3 (i : grid0.Coords) : Fin 2 → Nat :=
  let c5 : Index := 5#32
  let arg1 : BitVec 32 := BitVec.ofNat 32 (i 1).val
  let v10 : Index := Scalar.indexCast arg1
  ![5, v10.toNat]
def k0_off4 (i : grid0.Coords) : Fin 2 → Nat :=
  let c4 : Index := 4#32
  let arg1 : BitVec 32 := BitVec.ofNat 32 (i 1).val
  let v17 : Index := Scalar.indexCast arg1
  ![4, v17.toNat]
def k0_cond1 (i : grid0.Coords) : BitVec 1 :=
  let arg0 : BitVec 32 := BitVec.ofNat 32 (i 0).val
  let c0_i32 : BitVec 32 := 0#32
  let v21 : BitVec 1 := Scalar.cmpi .eq arg0 c0_i32
  let arg1 : BitVec 32 := BitVec.ofNat 32 (i 1).val
  let c0_i32_4 : BitVec 32 := 0#32
  let v22 : BitVec 1 := Scalar.cmpi .eq arg1 c0_i32_4
  let v23 : BitVec 1 := Scalar.andi v21 v22
  let v24 : BitVec 32 := Scalar.extui v23
  let c0_i32_5 : BitVec 32 := 0#32
  let v25 : BitVec 1 := Scalar.cmpi .ne v24 c0_i32_5
  v25

def k0_mult1 : BitVec 32 :=
  let c0_i32_12 : BitVec 32 := 0#32
  c0_i32_12
def k0_mult2 : BitVec 32 :=
  let c0_i32_13 : BitVec 32 := 0#32
  c0_i32_13
def k0_off5 (v1 : BitVec 32) : Fin 3 → Nat :=
  let c0_i32_12 : BitVec 32 := 0#32
  let v39 : BitVec 32 := c0_i32_12
  let c0_i32_13 : BitVec 32 := 0#32
  let v40 : BitVec 32 := c0_i32_13
  ![v1.toNat, 0, 0]

def k0_mult3 : BitVec 32 :=
  let c0_i32_20 : BitVec 32 := 0#32
  c0_i32_20
def k0_mult4 : BitVec 32 :=
  let c0_i32_21 : BitVec 32 := 0#32
  c0_i32_21
def k0_mult5 : BitVec 32 :=
  let c256_i32 : BitVec 32 := 256#32
  c256_i32
def k0_mult6 : BitVec 32 :=
  let c0_i32_28 : BitVec 32 := 0#32
  c0_i32_28
def k0_off6 (v1 : BitVec 32) : Fin 3 → Nat :=
  let c256_i32 : BitVec 32 := 256#32
  let v55 : BitVec 32 := c256_i32
  let c0_i32_28 : BitVec 32 := 0#32
  let v56 : BitVec 32 := c0_i32_28
  ![v1.toNat, 256, 0]
def k0_mult7 : BitVec 32 :=
  let c256_i32_35 : BitVec 32 := 256#32
  c256_i32_35
def k0_mult8 : BitVec 32 :=
  let c0_i32_36 : BitVec 32 := 0#32
  c0_i32_36
@[reducible] def k0_t1_loop : Scf.Loop 32 :=
  let c0_i32_43 : BitVec 32 := 0#32
  let c8_i32 : BitVec 32 := 8#32
  let v71 : BitVec 32 := Scalar.addi c0_i32_43 c8_i32
  let c1_i32_44 : BitVec 32 := 1#32
  ⟨c0_i32_43, v71, c1_i32_44⟩
def k0_mult9 (k0_t1 : Fin k0_t1_loop.trips) : BitVec 32 :=
  let c0_i32_43 : BitVec 32 := 0#32
  let c1_i32_44 : BitVec 32 := 1#32
  let arg11 : BitVec 32 := Scf.iv c0_i32_43 c1_i32_44 k0_t1
  let c256_i32_46 : BitVec 32 := 256#32
  let v72 : BitVec 32 := Scalar.muli arg11 c256_i32_46
  v72
def k0_mult10 : BitVec 32 :=
  let c0_i32_47 : BitVec 32 := 0#32
  c0_i32_47
def k0_off7 (k0_t1 : Fin k0_t1_loop.trips) : Fin 2 → Nat :=
  let c0_i32_43 : BitVec 32 := 0#32
  let c1_i32_44 : BitVec 32 := 1#32
  let arg11 : BitVec 32 := Scf.iv c0_i32_43 c1_i32_44 k0_t1
  let c1_i32_49 : BitVec 32 := 1#32
  let v76 : BitVec 32 := Scalar.andi arg11 c1_i32_49
  let c0_i32_51 : BitVec 32 := 0#32
  ![v76.toNat, 0]
def k0_off8 (k0_t1 : Fin k0_t1_loop.trips) : Fin 4 → Nat :=
  let c0_i32_43 : BitVec 32 := 0#32
  let c1_i32_44 : BitVec 32 := 1#32
  let arg11 : BitVec 32 := Scf.iv c0_i32_43 c1_i32_44 k0_t1
  let c1_i32_48 : BitVec 32 := 1#32
  let v75 : BitVec 32 := Scalar.andi arg11 c1_i32_48
  let c0_i32_50 : BitVec 32 := 0#32
  let c0_i32_52 : BitVec 32 := 0#32
  let c0_i32_53 : BitVec 32 := 0#32
  ![v75.toNat, 0, 0, 0]
def k0_off9 (v1 : BitVec 32) (k0_t1 : Fin k0_t1_loop.trips) : Fin 3 → Nat :=
  let c0_i32_43 : BitVec 32 := 0#32
  let c1_i32_44 : BitVec 32 := 1#32
  let arg11 : BitVec 32 := Scf.iv c0_i32_43 c1_i32_44 k0_t1
  let c256_i32_46 : BitVec 32 := 256#32
  let v72 : BitVec 32 := Scalar.muli arg11 c256_i32_46
  let v73 : BitVec 32 := v72
  let c0_i32_47 : BitVec 32 := 0#32
  let v74 : BitVec 32 := c0_i32_47
  ![v1.toNat, v73.toNat, 0]
def k0_off10 (k0_t1 : Fin k0_t1_loop.trips) : Fin 4 → Nat :=
  let c0_i32_43 : BitVec 32 := 0#32
  let c1_i32_44 : BitVec 32 := 1#32
  let arg11 : BitVec 32 := Scf.iv c0_i32_43 c1_i32_44 k0_t1
  let c1_i32_54 : BitVec 32 := 1#32
  let v83 : BitVec 32 := Scalar.andi arg11 c1_i32_54
  let v84 : Index := Scalar.indexCast v83
  let c0_55 : Index := 0#32
  let c0_56 : Index := 0#32
  let c0_57 : Index := 0#32
  ![v84.toNat, 0, 0, 0]
def k0_mult11 (k0_t1 : Fin k0_t1_loop.trips) : BitVec 32 :=
  let c0_i32_43 : BitVec 32 := 0#32
  let c1_i32_44 : BitVec 32 := 1#32
  let arg11 : BitVec 32 := Scf.iv c0_i32_43 c1_i32_44 k0_t1
  let c256_i32_58 : BitVec 32 := 256#32
  let v88 : BitVec 32 := Scalar.muli arg11 c256_i32_58
  v88
def k0_off11 (k0_t1 : Fin k0_t1_loop.trips) : Fin 4 → Nat :=
  let c0_59 : Index := 0#32
  let c0_60 : Index := 0#32
  let c0_i32_43 : BitVec 32 := 0#32
  let c1_i32_44 : BitVec 32 := 1#32
  let arg11 : BitVec 32 := Scf.iv c0_i32_43 c1_i32_44 k0_t1
  let c256_i32_58 : BitVec 32 := 256#32
  let v88 : BitVec 32 := Scalar.muli arg11 c256_i32_58
  let v89 : BitVec 32 := v88
  let v90 : Index := Scalar.indexCast v89
  let c0_61 : Index := 0#32
  ![0, 0, v90.toNat, 0]
def k0_cond2 (k0_t1 : Fin k0_t1_loop.trips) : BitVec 1 :=
  let c0_i32_43 : BitVec 32 := 0#32
  let c1_i32_44 : BitVec 32 := 1#32
  let arg11 : BitVec 32 := Scf.iv c0_i32_43 c1_i32_44 k0_t1
  let c2_i32 : BitVec 32 := 2#32
  let v94 : BitVec 32 := Scalar.addi arg11 c2_i32
  let c8_i32_62 : BitVec 32 := 8#32
  let v95 : BitVec 1 := Scalar.cmpi .slt v94 c8_i32_62
  let v96 : BitVec 32 := Scalar.extui v95
  let c0_i32_63 : BitVec 32 := 0#32
  let v97 : BitVec 1 := Scalar.cmpi .ne v96 c0_i32_63
  v97

def k0_mult12 (k0_t1 : Fin k0_t1_loop.trips) : BitVec 32 :=
  let c0_i32_43 : BitVec 32 := 0#32
  let c1_i32_44 : BitVec 32 := 1#32
  let arg11 : BitVec 32 := Scf.iv c0_i32_43 c1_i32_44 k0_t1
  let c2_i32_83 : BitVec 32 := 2#32
  let v124 : BitVec 32 := Scalar.addi arg11 c2_i32_83
  let c256_i32_84 : BitVec 32 := 256#32
  let v125 : BitVec 32 := Scalar.muli v124 c256_i32_84
  v125
def k0_mult13 : BitVec 32 :=
  let c0_i32_85 : BitVec 32 := 0#32
  c0_i32_85
def k0_off12 (k0_t1 : Fin k0_t1_loop.trips) : Fin 2 → Nat :=
  let c0_i32_43 : BitVec 32 := 0#32
  let c1_i32_44 : BitVec 32 := 1#32
  let arg11 : BitVec 32 := Scf.iv c0_i32_43 c1_i32_44 k0_t1
  let c2_i32_83 : BitVec 32 := 2#32
  let v124 : BitVec 32 := Scalar.addi arg11 c2_i32_83
  let c1_i32_87 : BitVec 32 := 1#32
  let v129 : BitVec 32 := Scalar.andi v124 c1_i32_87
  let c0_i32_89 : BitVec 32 := 0#32
  ![v129.toNat, 0]
def k0_off13 (k0_t1 : Fin k0_t1_loop.trips) : Fin 4 → Nat :=
  let c0_i32_43 : BitVec 32 := 0#32
  let c1_i32_44 : BitVec 32 := 1#32
  let arg11 : BitVec 32 := Scf.iv c0_i32_43 c1_i32_44 k0_t1
  let c2_i32_83 : BitVec 32 := 2#32
  let v124 : BitVec 32 := Scalar.addi arg11 c2_i32_83
  let c1_i32_86 : BitVec 32 := 1#32
  let v128 : BitVec 32 := Scalar.andi v124 c1_i32_86
  let c0_i32_88 : BitVec 32 := 0#32
  let c0_i32_90 : BitVec 32 := 0#32
  let c0_i32_91 : BitVec 32 := 0#32
  ![v128.toNat, 0, 0, 0]
def k0_off14 (v1 : BitVec 32) (k0_t1 : Fin k0_t1_loop.trips) : Fin 3 → Nat :=
  let c0_i32_43 : BitVec 32 := 0#32
  let c1_i32_44 : BitVec 32 := 1#32
  let arg11 : BitVec 32 := Scf.iv c0_i32_43 c1_i32_44 k0_t1
  let c2_i32_83 : BitVec 32 := 2#32
  let v124 : BitVec 32 := Scalar.addi arg11 c2_i32_83
  let c256_i32_84 : BitVec 32 := 256#32
  let v125 : BitVec 32 := Scalar.muli v124 c256_i32_84
  let v126 : BitVec 32 := v125
  let c0_i32_85 : BitVec 32 := 0#32
  let v127 : BitVec 32 := c0_i32_85
  ![v1.toNat, v126.toNat, 0]
def k0_mult14 (k0_t1 : Fin k0_t1_loop.trips) : BitVec 32 :=
  let c0_i32_43 : BitVec 32 := 0#32
  let c1_i32_44 : BitVec 32 := 1#32
  let arg11 : BitVec 32 := Scf.iv c0_i32_43 c1_i32_44 k0_t1
  let c256_i32_64 : BitVec 32 := 256#32
  let v98 : BitVec 32 := Scalar.muli arg11 c256_i32_64
  v98
def k0_mult15 : BitVec 32 :=
  let c0_i32_65 : BitVec 32 := 0#32
  c0_i32_65
def k0_off15 (k0_t1 : Fin k0_t1_loop.trips) : Fin 2 → Nat :=
  let c0_i32_43 : BitVec 32 := 0#32
  let c1_i32_44 : BitVec 32 := 1#32
  let arg11 : BitVec 32 := Scf.iv c0_i32_43 c1_i32_44 k0_t1
  let c1_i32_67 : BitVec 32 := 1#32
  let v102 : BitVec 32 := Scalar.andi arg11 c1_i32_67
  let c1_i32_69 : BitVec 32 := 1#32
  ![v102.toNat, 1]
def k0_off16 (k0_t1 : Fin k0_t1_loop.trips) : Fin 4 → Nat :=
  let c0_i32_43 : BitVec 32 := 0#32
  let c1_i32_44 : BitVec 32 := 1#32
  let arg11 : BitVec 32 := Scf.iv c0_i32_43 c1_i32_44 k0_t1
  let c1_i32_66 : BitVec 32 := 1#32
  let v101 : BitVec 32 := Scalar.andi arg11 c1_i32_66
  let c1_i32_68 : BitVec 32 := 1#32
  let c0_i32_70 : BitVec 32 := 0#32
  let c0_i32_71 : BitVec 32 := 0#32
  ![v101.toNat, 1, 0, 0]
def k0_off17 (k0_t1 : Fin k0_t1_loop.trips) : Fin 4 → Nat :=
  let c0_i32_43 : BitVec 32 := 0#32
  let c1_i32_44 : BitVec 32 := 1#32
  let arg11 : BitVec 32 := Scf.iv c0_i32_43 c1_i32_44 k0_t1
  let c1_i32_72 : BitVec 32 := 1#32
  let v109 : BitVec 32 := Scalar.andi arg11 c1_i32_72
  let v110 : Index := Scalar.indexCast v109
  let c1_73 : Index := 1#32
  let c0_74 : Index := 0#32
  let c0_75 : Index := 0#32
  ![v110.toNat, 1, 0, 0]
def k0_mult16 (k0_t1 : Fin k0_t1_loop.trips) : BitVec 32 :=
  let c0_i32_43 : BitVec 32 := 0#32
  let c1_i32_44 : BitVec 32 := 1#32
  let arg11 : BitVec 32 := Scf.iv c0_i32_43 c1_i32_44 k0_t1
  let c256_i32_76 : BitVec 32 := 256#32
  let v114 : BitVec 32 := Scalar.muli arg11 c256_i32_76
  v114
def k0_off18 (k0_t1 : Fin k0_t1_loop.trips) : Fin 4 → Nat :=
  let c0_77 : Index := 0#32
  let c1_78 : Index := 1#32
  let c0_i32_43 : BitVec 32 := 0#32
  let c1_i32_44 : BitVec 32 := 1#32
  let arg11 : BitVec 32 := Scf.iv c0_i32_43 c1_i32_44 k0_t1
  let c256_i32_76 : BitVec 32 := 256#32
  let v114 : BitVec 32 := Scalar.muli arg11 c256_i32_76
  let v115 : BitVec 32 := v114
  let v116 : Index := Scalar.indexCast v115
  let c0_79 : Index := 0#32
  ![0, 1, v116.toNat, 0]
def k0_cond3 (k0_t1 : Fin k0_t1_loop.trips) : BitVec 1 :=
  let c0_i32_43 : BitVec 32 := 0#32
  let c1_i32_44 : BitVec 32 := 1#32
  let arg11 : BitVec 32 := Scf.iv c0_i32_43 c1_i32_44 k0_t1
  let c2_i32_80 : BitVec 32 := 2#32
  let v120 : BitVec 32 := Scalar.addi arg11 c2_i32_80
  let c8_i32_81 : BitVec 32 := 8#32
  let v121 : BitVec 1 := Scalar.cmpi .slt v120 c8_i32_81
  let v122 : BitVec 32 := Scalar.extui v121
  let c0_i32_82 : BitVec 32 := 0#32
  let v123 : BitVec 1 := Scalar.cmpi .ne v122 c0_i32_82
  v123

def k0_mult17 (k0_t1 : Fin k0_t1_loop.trips) : BitVec 32 :=
  let c0_i32_43 : BitVec 32 := 0#32
  let c1_i32_44 : BitVec 32 := 1#32
  let arg11 : BitVec 32 := Scf.iv c0_i32_43 c1_i32_44 k0_t1
  let c2_i32_83 : BitVec 32 := 2#32
  let v124 : BitVec 32 := Scalar.addi arg11 c2_i32_83
  let c256_i32_84 : BitVec 32 := 256#32
  let v125 : BitVec 32 := Scalar.muli v124 c256_i32_84
  v125
def k0_mult18 : BitVec 32 :=
  let c0_i32_85 : BitVec 32 := 0#32
  c0_i32_85
def k0_off19 (k0_t1 : Fin k0_t1_loop.trips) : Fin 2 → Nat :=
  let c0_i32_43 : BitVec 32 := 0#32
  let c1_i32_44 : BitVec 32 := 1#32
  let arg11 : BitVec 32 := Scf.iv c0_i32_43 c1_i32_44 k0_t1
  let c2_i32_83 : BitVec 32 := 2#32
  let v124 : BitVec 32 := Scalar.addi arg11 c2_i32_83
  let c1_i32_87 : BitVec 32 := 1#32
  let v129 : BitVec 32 := Scalar.andi v124 c1_i32_87
  let c1_i32_89 : BitVec 32 := 1#32
  ![v129.toNat, 1]
def k0_off20 (k0_t1 : Fin k0_t1_loop.trips) : Fin 4 → Nat :=
  let c0_i32_43 : BitVec 32 := 0#32
  let c1_i32_44 : BitVec 32 := 1#32
  let arg11 : BitVec 32 := Scf.iv c0_i32_43 c1_i32_44 k0_t1
  let c2_i32_83 : BitVec 32 := 2#32
  let v124 : BitVec 32 := Scalar.addi arg11 c2_i32_83
  let c1_i32_86 : BitVec 32 := 1#32
  let v128 : BitVec 32 := Scalar.andi v124 c1_i32_86
  let c1_i32_88 : BitVec 32 := 1#32
  let c0_i32_90 : BitVec 32 := 0#32
  let c0_i32_91 : BitVec 32 := 0#32
  ![v128.toNat, 1, 0, 0]
def k0_off21 (v1 : BitVec 32) (k0_t1 : Fin k0_t1_loop.trips) : Fin 3 → Nat :=
  let c0_i32_43 : BitVec 32 := 0#32
  let c1_i32_44 : BitVec 32 := 1#32
  let arg11 : BitVec 32 := Scf.iv c0_i32_43 c1_i32_44 k0_t1
  let c2_i32_83 : BitVec 32 := 2#32
  let v124 : BitVec 32 := Scalar.addi arg11 c2_i32_83
  let c256_i32_84 : BitVec 32 := 256#32
  let v125 : BitVec 32 := Scalar.muli v124 c256_i32_84
  let v126 : BitVec 32 := v125
  let c0_i32_85 : BitVec 32 := 0#32
  let v127 : BitVec 32 := c0_i32_85
  ![v1.toNat, v126.toNat, 0]

def k0_chk1 (i : grid0.Coords) (v1 : BitVec 32) : Prop :=
  (∀ (k0_h1 : k0_cond1 i = 1#1), ∀ a, (k0_off5 v1) a + S1x256x1408.size a ≤ S8x2048x5632.size a) ∧
  (∀ (k0_h1 : k0_cond1 i = 1#1), ∀ a, (k0_off6 v1) a + S1x256x1408.size a ≤ S8x2048x5632.size a) ∧
  (∀ k0_t1 : Fin k0_t1_loop.trips, ∀ (k0_h1 : k0_cond1 i = 1#1), ∀ a, (k0_off9 v1 k0_t1) a + S1x256x1408.size a ≤ S8x2048x5632.size a) ∧
  (∀ k0_t1 : Fin k0_t1_loop.trips, ∀ (k0_h1 : k0_cond1 i = 1#1), ∀ (k0_h2 : k0_cond2 k0_t1 = 1#1), ∀ a, (k0_off14 v1 k0_t1) a + S1x256x1408.size a ≤ S8x2048x5632.size a) ∧
  (∀ k0_t1 : Fin k0_t1_loop.trips, ∀ (k0_h1 : k0_cond1 i = 1#1), ∀ (k0_h3 : k0_cond3 k0_t1 = 1#1), ∀ a, (k0_off21 v1 k0_t1) a + S1x256x1408.size a ≤ S8x2048x5632.size a)
theorem k0_off5_inb : ∀ (i : grid0.Coords) (v1 : BitVec 32) (k0_hw1 : k0_chk1 i v1), ∀ (k0_h1 : k0_cond1 i = 1#1), ∀ a, (k0_off5 v1) a + S1x256x1408.size a ≤ S8x2048x5632.size a := fun i v1 k0_hw1 k0_h1 => k0_hw1.1 k0_h1
theorem k0_off6_inb : ∀ (i : grid0.Coords) (v1 : BitVec 32) (k0_hw1 : k0_chk1 i v1), ∀ (k0_h1 : k0_cond1 i = 1#1), ∀ a, (k0_off6 v1) a + S1x256x1408.size a ≤ S8x2048x5632.size a := fun i v1 k0_hw1 k0_h1 => k0_hw1.2.1 k0_h1
theorem k0_off9_inb : ∀ (i : grid0.Coords) (v1 : BitVec 32) (k0_hw1 : k0_chk1 i v1) (k0_t1 : Fin k0_t1_loop.trips), ∀ (k0_h1 : k0_cond1 i = 1#1), ∀ a, (k0_off9 v1 k0_t1) a + S1x256x1408.size a ≤ S8x2048x5632.size a := fun i v1 k0_hw1 k0_t1 k0_h1 => k0_hw1.2.2.1 k0_t1 k0_h1
theorem k0_off14_inb : ∀ (i : grid0.Coords) (v1 : BitVec 32) (k0_hw1 : k0_chk1 i v1) (k0_t1 : Fin k0_t1_loop.trips), ∀ (k0_h1 : k0_cond1 i = 1#1), ∀ (k0_h2 : k0_cond2 k0_t1 = 1#1), ∀ a, (k0_off14 v1 k0_t1) a + S1x256x1408.size a ≤ S8x2048x5632.size a := fun i v1 k0_hw1 k0_t1 k0_h1 k0_h2 => k0_hw1.2.2.2.1 k0_t1 k0_h1 k0_h2
theorem k0_off21_inb : ∀ (i : grid0.Coords) (v1 : BitVec 32) (k0_hw1 : k0_chk1 i v1) (k0_t1 : Fin k0_t1_loop.trips), ∀ (k0_h1 : k0_cond1 i = 1#1), ∀ (k0_h3 : k0_cond3 k0_t1 = 1#1), ∀ a, (k0_off21 v1 k0_t1) a + S1x256x1408.size a ≤ S8x2048x5632.size a := fun i v1 k0_hw1 k0_t1 k0_h1 k0_h3 => k0_hw1.2.2.2.2 k0_t1 k0_h1 k0_h3

def k0_off22 (i : grid0.Coords) : Fin 2 → Nat :=
  let c1 : Index := 1#32
  let arg1 : BitVec 32 := BitVec.ofNat 32 (i 1).val
  let v26 : Index := Scalar.indexCast arg1
  ![1, v26.toNat]
def k0_mult19 : BitVec 32 :=
  let c0_i32_12 : BitVec 32 := 0#32
  c0_i32_12
def k0_mult20 (i : grid0.Coords) (v11 : BitVec 32) : BitVec 32 :=
  let c1_i32_2 : BitVec 32 := 1#32
  let v12 : BitVec 1 := Scalar.cmpi .eq v11 c1_i32_2
  let arg0 : BitVec 32 := BitVec.ofNat 32 (i 0).val
  let c1_i32_3 : BitVec 32 := 1#32
  let v19 : BitVec 32 := Scalar.addi arg0 c1_i32_3
  let v20 : BitVec 32 := Scalar.select v12 v19 arg0
  let c1408_i32 : BitVec 32 := 1408#32
  let v40 : BitVec 32 := Scalar.muli v20 c1408_i32
  v40
def k0_cond4 (i : grid0.Coords) (v2 : BitVec 32) (v11 : BitVec 32) (v27 : BitVec 32) : BitVec 1 :=
  let arg1 : BitVec 32 := BitVec.ofNat 32 (i 1).val
  let v3 : BitVec 1 := Scalar.cmpi .slt arg1 v2
  let c1_i32_2 : BitVec 32 := 1#32
  let v12 : BitVec 1 := Scalar.cmpi .eq v11 c1_i32_2
  let arg0 : BitVec 32 := BitVec.ofNat 32 (i 0).val
  let c3_i32 : BitVec 32 := 3#32
  let v13 : BitVec 1 := Scalar.cmpi .eq arg0 c3_i32
  let v14 : BitVec 1 := Scalar.andi v12 v13
  let v_true : BitVec 1 := 1#1
  let v15 : BitVec 1 := Scalar.xori v14 v_true
  let v16 : BitVec 1 := Scalar.andi v3 v15
  let c1_i32_6 : BitVec 32 := 1#32
  let v28 : BitVec 1 := Scalar.cmpi .eq v27 c1_i32_6
  let v29 : BitVec 1 := Scalar.andi v16 v28
  let v30 : BitVec 32 := Scalar.extui v29
  let c0_i32_7 : BitVec 32 := 0#32
  let v31 : BitVec 1 := Scalar.cmpi .ne v30 c0_i32_7
  v31

def k0_off23 (i : grid0.Coords) (v11 : BitVec 32) (v18 : BitVec 32) : Fin 3 → Nat :=
  let c0_i32_12 : BitVec 32 := 0#32
  let v39 : BitVec 32 := c0_i32_12
  let c1_i32_2 : BitVec 32 := 1#32
  let v12 : BitVec 1 := Scalar.cmpi .eq v11 c1_i32_2
  let arg0 : BitVec 32 := BitVec.ofNat 32 (i 0).val
  let c1_i32_3 : BitVec 32 := 1#32
  let v19 : BitVec 32 := Scalar.addi arg0 c1_i32_3
  let v20 : BitVec 32 := Scalar.select v12 v19 arg0
  let c1408_i32 : BitVec 32 := 1408#32
  let v40 : BitVec 32 := Scalar.muli v20 c1408_i32
  let v41 : BitVec 32 := v40
  ![v18.toNat, 0, v41.toNat]
def k0_mult21 : BitVec 32 :=
  let c0_i32_19 : BitVec 32 := 0#32
  c0_i32_19
def k0_mult22 (i : grid0.Coords) (v11 : BitVec 32) : BitVec 32 :=
  let c1_i32_2 : BitVec 32 := 1#32
  let v12 : BitVec 1 := Scalar.cmpi .eq v11 c1_i32_2
  let arg0 : BitVec 32 := BitVec.ofNat 32 (i 0).val
  let c1_i32_3 : BitVec 32 := 1#32
  let v19 : BitVec 32 := Scalar.addi arg0 c1_i32_3
  let v20 : BitVec 32 := Scalar.select v12 v19 arg0
  let c1408_i32_20 : BitVec 32 := 1408#32
  let v49 : BitVec 32 := Scalar.muli v20 c1408_i32_20
  v49
def k0_mult23 : BitVec 32 :=
  let c256_i32 : BitVec 32 := 256#32
  c256_i32
def k0_mult24 (i : grid0.Coords) (v11 : BitVec 32) : BitVec 32 :=
  let c1_i32_2 : BitVec 32 := 1#32
  let v12 : BitVec 1 := Scalar.cmpi .eq v11 c1_i32_2
  let arg0 : BitVec 32 := BitVec.ofNat 32 (i 0).val
  let c1_i32_3 : BitVec 32 := 1#32
  let v19 : BitVec 32 := Scalar.addi arg0 c1_i32_3
  let v20 : BitVec 32 := Scalar.select v12 v19 arg0
  let c1408_i32_27 : BitVec 32 := 1408#32
  let v58 : BitVec 32 := Scalar.muli v20 c1408_i32_27
  v58
def k0_off24 (i : grid0.Coords) (v11 : BitVec 32) (v18 : BitVec 32) : Fin 3 → Nat :=
  let c256_i32 : BitVec 32 := 256#32
  let v57 : BitVec 32 := c256_i32
  let c1_i32_2 : BitVec 32 := 1#32
  let v12 : BitVec 1 := Scalar.cmpi .eq v11 c1_i32_2
  let arg0 : BitVec 32 := BitVec.ofNat 32 (i 0).val
  let c1_i32_3 : BitVec 32 := 1#32
  let v19 : BitVec 32 := Scalar.addi arg0 c1_i32_3
  let v20 : BitVec 32 := Scalar.select v12 v19 arg0
  let c1408_i32_27 : BitVec 32 := 1408#32
  let v58 : BitVec 32 := Scalar.muli v20 c1408_i32_27
  let v59 : BitVec 32 := v58
  ![v18.toNat, 256, v59.toNat]
def k0_mult25 : BitVec 32 :=
  let c256_i32_34 : BitVec 32 := 256#32
  c256_i32_34
def k0_mult26 (i : grid0.Coords) (v11 : BitVec 32) : BitVec 32 :=
  let c1_i32_2 : BitVec 32 := 1#32
  let v12 : BitVec 1 := Scalar.cmpi .eq v11 c1_i32_2
  let arg0 : BitVec 32 := BitVec.ofNat 32 (i 0).val
  let c1_i32_3 : BitVec 32 := 1#32
  let v19 : BitVec 32 := Scalar.addi arg0 c1_i32_3
  let v20 : BitVec 32 := Scalar.select v12 v19 arg0
  let c1408_i32_35 : BitVec 32 := 1408#32
  let v67 : BitVec 32 := Scalar.muli v20 c1408_i32_35
  v67

def k0_chk2 (i : grid0.Coords) (v2 : BitVec 32) (v11 : BitVec 32) (v18 : BitVec 32) (v27 : BitVec 32) : Prop :=
  (∀ (k0_h4 : k0_cond4 i v2 v11 v27 = 1#1), 128 ∣ (k0_mult20 i v11).toNat) ∧
  (∀ (k0_h4 : k0_cond4 i v2 v11 v27 = 1#1), ∀ a, (k0_off23 i v11 v18) a + S1x256x1408.size a ≤ S8x2048x5632.size a) ∧
  (∀ (k0_h4 : k0_cond4 i v2 v11 v27 = 1#1), 128 ∣ (k0_mult22 i v11).toNat) ∧
  (∀ (k0_h4 : k0_cond4 i v2 v11 v27 = 1#1), 128 ∣ (k0_mult24 i v11).toNat) ∧
  (∀ (k0_h4 : k0_cond4 i v2 v11 v27 = 1#1), ∀ a, (k0_off24 i v11 v18) a + S1x256x1408.size a ≤ S8x2048x5632.size a) ∧
  (∀ (k0_h4 : k0_cond4 i v2 v11 v27 = 1#1), 128 ∣ (k0_mult26 i v11).toNat)
theorem k0_mult20_dvd : ∀ (i : grid0.Coords) (v2 : BitVec 32) (v11 : BitVec 32) (v18 : BitVec 32) (v27 : BitVec 32) (k0_hw2 : k0_chk2 i v2 v11 v18 v27), ∀ (k0_h4 : k0_cond4 i v2 v11 v27 = 1#1), 128 ∣ (k0_mult20 i v11).toNat := fun i v2 v11 v18 v27 k0_hw2 k0_h4 => k0_hw2.1 k0_h4
theorem k0_off23_inb : ∀ (i : grid0.Coords) (v2 : BitVec 32) (v11 : BitVec 32) (v18 : BitVec 32) (v27 : BitVec 32) (k0_hw2 : k0_chk2 i v2 v11 v18 v27), ∀ (k0_h4 : k0_cond4 i v2 v11 v27 = 1#1), ∀ a, (k0_off23 i v11 v18) a + S1x256x1408.size a ≤ S8x2048x5632.size a := fun i v2 v11 v18 v27 k0_hw2 k0_h4 => k0_hw2.2.1 k0_h4
theorem k0_mult22_dvd : ∀ (i : grid0.Coords) (v2 : BitVec 32) (v11 : BitVec 32) (v18 : BitVec 32) (v27 : BitVec 32) (k0_hw2 : k0_chk2 i v2 v11 v18 v27), ∀ (k0_h4 : k0_cond4 i v2 v11 v27 = 1#1), 128 ∣ (k0_mult22 i v11).toNat := fun i v2 v11 v18 v27 k0_hw2 k0_h4 => k0_hw2.2.2.1 k0_h4
theorem k0_mult24_dvd : ∀ (i : grid0.Coords) (v2 : BitVec 32) (v11 : BitVec 32) (v18 : BitVec 32) (v27 : BitVec 32) (k0_hw2 : k0_chk2 i v2 v11 v18 v27), ∀ (k0_h4 : k0_cond4 i v2 v11 v27 = 1#1), 128 ∣ (k0_mult24 i v11).toNat := fun i v2 v11 v18 v27 k0_hw2 k0_h4 => k0_hw2.2.2.2.1 k0_h4
theorem k0_off24_inb : ∀ (i : grid0.Coords) (v2 : BitVec 32) (v11 : BitVec 32) (v18 : BitVec 32) (v27 : BitVec 32) (k0_hw2 : k0_chk2 i v2 v11 v18 v27), ∀ (k0_h4 : k0_cond4 i v2 v11 v27 = 1#1), ∀ a, (k0_off24 i v11 v18) a + S1x256x1408.size a ≤ S8x2048x5632.size a := fun i v2 v11 v18 v27 k0_hw2 k0_h4 => k0_hw2.2.2.2.2.1 k0_h4
theorem k0_mult26_dvd : ∀ (i : grid0.Coords) (v2 : BitVec 32) (v11 : BitVec 32) (v18 : BitVec 32) (v27 : BitVec 32) (k0_hw2 : k0_chk2 i v2 v11 v18 v27), ∀ (k0_h4 : k0_cond4 i v2 v11 v27 = 1#1), 128 ∣ (k0_mult26 i v11).toNat := fun i v2 v11 v18 v27 k0_hw2 k0_h4 => k0_hw2.2.2.2.2.2 k0_h4

def k0_off25 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c1_i32 : BitVec 32 := 1#32
  let v9 : BitVec 32 := Scalar.andi v8 c1_i32
  let v40 : Index := Scalar.indexCast v9
  let c0_14 : Index := 0#32
  let c0_15 : Index := 0#32
  let c0_16 : Index := 0#32
  ![v40.toNat, 0, 0, 0]
def k0_cond5 (i : grid0.Coords) (v2 : BitVec 32) : BitVec 1 :=
  let arg1 : BitVec 32 := BitVec.ofNat 32 (i 1).val
  let v3 : BitVec 1 := Scalar.cmpi .slt arg1 v2
  let v32 : BitVec 32 := Scalar.extui v3
  let c0_i32_8 : BitVec 32 := 0#32
  let v33 : BitVec 1 := Scalar.cmpi .ne v32 c0_i32_8
  v33

def k0_off26 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c1_i32 : BitVec 32 := 1#32
  let v9 : BitVec 32 := Scalar.andi v8 c1_i32
  let v44 : Index := Scalar.indexCast v9
  let c1_17 : Index := 1#32
  let c0_18 : Index := 0#32
  let c0_19 : Index := 0#32
  ![v44.toNat, 1, 0, 0]

def k0_chk3 (i : grid0.Coords) (v2 : BitVec 32) (v4 : BitVec 32) (v7 : BitVec 32) : Prop :=
  (∀ (k0_h5 : k0_cond5 i v2 = 1#1), ∀ a, (k0_off25 i v4 v7) a + S1x1x2048x1408.size a ≤ S2x2x2048x1408.size a) ∧
  (∀ (k0_h5 : k0_cond5 i v2 = 1#1), ∀ a, (k0_off26 i v4 v7) a + S1x1x2048x1408.size a ≤ S2x2x2048x1408.size a)
theorem k0_off25_inb : ∀ (i : grid0.Coords) (v2 : BitVec 32) (v4 : BitVec 32) (v7 : BitVec 32) (k0_hw3 : k0_chk3 i v2 v4 v7), ∀ (k0_h5 : k0_cond5 i v2 = 1#1), ∀ a, (k0_off25 i v4 v7) a + S1x1x2048x1408.size a ≤ S2x2x2048x1408.size a := fun i v2 v4 v7 k0_hw3 k0_h5 => k0_hw3.1 k0_h5
theorem k0_off26_inb : ∀ (i : grid0.Coords) (v2 : BitVec 32) (v4 : BitVec 32) (v7 : BitVec 32) (k0_hw3 : k0_chk3 i v2 v4 v7), ∀ (k0_h5 : k0_cond5 i v2 = 1#1), ∀ a, (k0_off26 i v4 v7) a + S1x1x2048x1408.size a ≤ S2x2x2048x1408.size a := fun i v2 v4 v7 k0_hw3 k0_h5 => k0_hw3.2 k0_h5

def k0_off27 (i : grid0.Coords) : Fin 2 → Nat :=
  let c2 : Index := 2#32
  let arg1 : BitVec 32 := BitVec.ofNat 32 (i 1).val
  let v40 : Index := Scalar.indexCast arg1
  ![2, v40.toNat]
def k0_off28 (i : grid0.Coords) : Fin 2 → Nat :=
  let c3 : Index := 3#32
  let arg1 : BitVec 32 := BitVec.ofNat 32 (i 1).val
  let v42 : Index := Scalar.indexCast arg1
  ![3, v42.toNat]
@[reducible] def k0_t2_loop (v41 : BitVec 32) (v43 : BitVec 32) : Scf.Loop 32 :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_15 : BitVec 32 := 1#32
  ⟨v41, v48, c1_i32_15⟩
def k0_cond6 (i : grid0.Coords) (v2 : BitVec 32) (v11 : BitVec 32) : BitVec 1 :=
  let arg1 : BitVec 32 := BitVec.ofNat 32 (i 1).val
  let v3 : BitVec 1 := Scalar.cmpi .slt arg1 v2
  let c1_i32_2 : BitVec 32 := 1#32
  let v12 : BitVec 1 := Scalar.cmpi .eq v11 c1_i32_2
  let arg0 : BitVec 32 := BitVec.ofNat 32 (i 0).val
  let c3_i32 : BitVec 32 := 3#32
  let v13 : BitVec 1 := Scalar.cmpi .eq arg0 c3_i32
  let v14 : BitVec 1 := Scalar.andi v12 v13
  let v_true : BitVec 1 := 1#1
  let v15 : BitVec 1 := Scalar.xori v14 v_true
  let v16 : BitVec 1 := Scalar.andi v3 v15
  let v34 : BitVec 32 := Scalar.extui v16
  let c0_i32_9 : BitVec 32 := 0#32
  let v35 : BitVec 1 := Scalar.cmpi .ne v34 c0_i32_9
  v35

def k0_mult27 (v41 : BitVec 32) (v43 : BitVec 32) (k0_t2 : Fin (k0_t2_loop v41 v43).trips) : BitVec 32 :=
  let c1_i32_15 : BitVec 32 := 1#32
  let arg11 : BitVec 32 := Scf.iv v41 c1_i32_15 k0_t2
  let c256_i32 : BitVec 32 := 256#32
  let v49 : BitVec 32 := Scalar.muli arg11 c256_i32
  v49
def k0_mult28 (i : grid0.Coords) (v11 : BitVec 32) : BitVec 32 :=
  let c1_i32_2 : BitVec 32 := 1#32
  let v12 : BitVec 1 := Scalar.cmpi .eq v11 c1_i32_2
  let arg0 : BitVec 32 := BitVec.ofNat 32 (i 0).val
  let c1_i32_3 : BitVec 32 := 1#32
  let v19 : BitVec 32 := Scalar.addi arg0 c1_i32_3
  let v20 : BitVec 32 := Scalar.select v12 v19 arg0
  let c1408_i32 : BitVec 32 := 1408#32
  let v51 : BitVec 32 := Scalar.muli v20 c1408_i32
  v51
def k0_off29 (v41 : BitVec 32) (v43 : BitVec 32) (k0_t2 : Fin (k0_t2_loop v41 v43).trips) : Fin 2 → Nat :=
  let c1_i32_15 : BitVec 32 := 1#32
  let arg11 : BitVec 32 := Scf.iv v41 c1_i32_15 k0_t2
  let c1_i32_18 : BitVec 32 := 1#32
  let v54 : BitVec 32 := Scalar.andi arg11 c1_i32_18
  let c0_i32_20 : BitVec 32 := 0#32
  ![v54.toNat, 0]
def k0_off30 (v41 : BitVec 32) (v43 : BitVec 32) (k0_t2 : Fin (k0_t2_loop v41 v43).trips) : Fin 4 → Nat :=
  let c1_i32_15 : BitVec 32 := 1#32
  let arg11 : BitVec 32 := Scf.iv v41 c1_i32_15 k0_t2
  let c1_i32_17 : BitVec 32 := 1#32
  let v53 : BitVec 32 := Scalar.andi arg11 c1_i32_17
  let c0_i32_19 : BitVec 32 := 0#32
  let c0_i32_21 : BitVec 32 := 0#32
  let c0_i32_22 : BitVec 32 := 0#32
  ![v53.toNat, 0, 0, 0]
def k0_off31 (i : grid0.Coords) (v11 : BitVec 32) (v18 : BitVec 32) (v41 : BitVec 32) (v43 : BitVec 32) (k0_t2 : Fin (k0_t2_loop v41 v43).trips) : Fin 3 → Nat :=
  let c1_i32_15 : BitVec 32 := 1#32
  let arg11 : BitVec 32 := Scf.iv v41 c1_i32_15 k0_t2
  let c256_i32 : BitVec 32 := 256#32
  let v49 : BitVec 32 := Scalar.muli arg11 c256_i32
  let v50 : BitVec 32 := v49
  let c1_i32_2 : BitVec 32 := 1#32
  let v12 : BitVec 1 := Scalar.cmpi .eq v11 c1_i32_2
  let arg0 : BitVec 32 := BitVec.ofNat 32 (i 0).val
  let c1_i32_3 : BitVec 32 := 1#32
  let v19 : BitVec 32 := Scalar.addi arg0 c1_i32_3
  let v20 : BitVec 32 := Scalar.select v12 v19 arg0
  let c1408_i32 : BitVec 32 := 1408#32
  let v51 : BitVec 32 := Scalar.muli v20 c1408_i32
  let v52 : BitVec 32 := v51
  ![v18.toNat, v50.toNat, v52.toNat]
def k0_off32 (v41 : BitVec 32) (v43 : BitVec 32) (k0_t2 : Fin (k0_t2_loop v41 v43).trips) : Fin 4 → Nat :=
  let c1_i32_15 : BitVec 32 := 1#32
  let arg11 : BitVec 32 := Scf.iv v41 c1_i32_15 k0_t2
  let c1_i32_23 : BitVec 32 := 1#32
  let v61 : BitVec 32 := Scalar.andi arg11 c1_i32_23
  let v62 : Index := Scalar.indexCast v61
  let c0_24 : Index := 0#32
  let c0_25 : Index := 0#32
  let c0_26 : Index := 0#32
  ![v62.toNat, 0, 0, 0]
def k0_mult29 (v41 : BitVec 32) (v43 : BitVec 32) (k0_t2 : Fin (k0_t2_loop v41 v43).trips) : BitVec 32 :=
  let c1_i32_15 : BitVec 32 := 1#32
  let arg11 : BitVec 32 := Scf.iv v41 c1_i32_15 k0_t2
  let c256_i32_27 : BitVec 32 := 256#32
  let v66 : BitVec 32 := Scalar.muli arg11 c256_i32_27
  v66
def k0_off33 (i : grid0.Coords) (v4 : BitVec 32) (v7 : BitVec 32) (v41 : BitVec 32) (v43 : BitVec 32) (k0_t2 : Fin (k0_t2_loop v41 v43).trips) : Fin 4 → Nat :=
  let c1_i32_12 : BitVec 32 := 1#32
  let arg0 : BitVec 32 := BitVec.ofNat 32 (i 0).val
  let v5 : BitVec 32 := Scalar.muli arg0 v4
  let v8 : BitVec 32 := Scalar.addi v5 v7
  let c1_i32 : BitVec 32 := 1#32
  let v9 : BitVec 32 := Scalar.andi v8 c1_i32
  let v39 : BitVec 32 := Scalar.subi c1_i32_12 v9
  let v68 : Index := Scalar.indexCast v39
  let c0_28 : Index := 0#32
  let c1_i32_15 : BitVec 32 := 1#32
  let arg11 : BitVec 32 := Scf.iv v41 c1_i32_15 k0_t2
  let c256_i32_27 : BitVec 32 := 256#32
  let v66 : BitVec 32 := Scalar.muli arg11 c256_i32_27
  let v67 : BitVec 32 := v66
  let v69 : Index := Scalar.indexCast v67
  let c0_29 : Index := 0#32
  ![v68.toNat, 0, v69.toNat, 0]
def k0_mult30 (v41 : BitVec 32) (v43 : BitVec 32) (k0_t2 : Fin (k0_t2_loop v41 v43).trips) : BitVec 32 :=
  let c1_i32_15 : BitVec 32 := 1#32
  let arg11 : BitVec 32 := Scf.iv v41 c1_i32_15 k0_t2
  let c2_i32_49 : BitVec 32 := 2#32
  let v105 : BitVec 32 := Scalar.addi arg11 c2_i32_49
  let c256_i32_50 : BitVec 32 := 256#32
  let v106 : BitVec 32 := Scalar.muli v105 c256_i32_50
  v106
def k0_cond7 (v41 : BitVec 32) (v43 : BitVec 32) (k0_t2 : Fin (k0_t2_loop v41 v43).trips) : BitVec 1 :=
  let c1_i32_15 : BitVec 32 := 1#32
  let arg11 : BitVec 32 := Scf.iv v41 c1_i32_15 k0_t2
  let c2_i32 : BitVec 32 := 2#32
  let v73 : BitVec 32 := Scalar.addi arg11 c2_i32
  let c8_i32 : BitVec 32 := 8#32
  let v74 : BitVec 1 := Scalar.cmpi .slt v73 c8_i32
  let v75 : BitVec 32 := Scalar.extui v74
  let c0_i32_30 : BitVec 32 := 0#32
  let v76 : BitVec 1 := Scalar.cmpi .ne v75 c0_i32_30
  v76

def k0_mult31 (i : grid0.Coords) (v11 : BitVec 32) : BitVec 32 :=
  let c1_i32_2 : BitVec 32 := 1#32
  let v12 : BitVec 1 := Scalar.cmpi .eq v11 c1_i32_2
  let arg0 : BitVec 32 := BitVec.ofNat 32 (i 0).val
  let c1_i32_3 : BitVec 32 := 1#32
  let v19 : BitVec 32 := Scalar.addi arg0 c1_i32_3
  let v20 : BitVec 32 := Scalar.select v12 v19 arg0
  let c1408_i32_51 : BitVec 32 := 1408#32
  let v108 : BitVec 32 := Scalar.muli v20 c1408_i32_51
  v108
def k0_off34 (v41 : BitVec 32) (v43 : BitVec 32) (k0_t2 : Fin (k0_t2_loop v41 v43).trips) : Fin 2 → Nat :=
  let c1_i32_15 : BitVec 32 := 1#32
  let arg11 : BitVec 32 := Scf.iv v41 c1_i32_15 k0_t2
  let c2_i32_49 : BitVec 32 := 2#32
  let v105 : BitVec 32 := Scalar.addi arg11 c2_i32_49
  let c1_i32_53 : BitVec 32 := 1#32
  let v111 : BitVec 32 := Scalar.andi v105 c1_i32_53
  let c0_i32_55 : BitVec 32 := 0#32
  ![v111.toNat, 0]
def k0_off35 (v41 : BitVec 32) (v43 : BitVec 32) (k0_t2 : Fin (k0_t2_loop v41 v43).trips) : Fin 4 → Nat :=
  let c1_i32_15 : BitVec 32 := 1#32
  let arg11 : BitVec 32 := Scf.iv v41 c1_i32_15 k0_t2
  let c2_i32_49 : BitVec 32 := 2#32
  let v105 : BitVec 32 := Scalar.addi arg11 c2_i32_49
  let c1_i32_52 : BitVec 32 := 1#32
  let v110 : BitVec 32 := Scalar.andi v105 c1_i32_52
  let c0_i32_54 : BitVec 32 := 0#32
  let c0_i32_56 : BitVec 32 := 0#32
  let c0_i32_57 : BitVec 32 := 0#32
  ![v110.toNat, 0, 0, 0]
def k0_off36 (i : grid0.Coords) (v11 : BitVec 32) (v18 : BitVec 32) (v41 : BitVec 32) (v43 : BitVec 32) (k0_t2 : Fin (k0_t2_loop v41 v43).trips) : Fin 3 → Nat :=
  let c1_i32_15 : BitVec 32 := 1#32
  let arg11 : BitVec 32 := Scf.iv v41 c1_i32_15 k0_t2
  let c2_i32_49 : BitVec 32 := 2#32
  let v105 : BitVec 32 := Scalar.addi arg11 c2_i32_49
  let c256_i32_50 : BitVec 32 := 256#32
  let v106 : BitVec 32 := Scalar.muli v105 c256_i32_50
  let v107 : BitVec 32 := v106
  let c1_i32_2 : BitVec 32 := 1#32
  let v12 : BitVec 1 := Scalar.cmpi .eq v11 c1_i32_2
  let arg0 : BitVec 32 := BitVec.ofNat 32 (i 0).val
  let c1_i32_3 : BitVec 32 := 1#32
  let v19 : BitVec 32 := Scalar.addi arg0 c1_i32_3
  let v20 : BitVec 32 := Scalar.select v12 v19 arg0
  let c1408_i32_51 : BitVec 32 := 1408#32
  let v108 : BitVec 32 := Scalar.muli v20 c1408_i32_51
  let v109 : BitVec 32 := v108
  ![v18.toNat, v107.toNat, v109.toNat]
def k0_mult32 (v41 : BitVec 32) (v43 : BitVec 32) (k0_t2 : Fin (k0_t2_loop v41 v43).trips) : BitVec 32 :=
  let c1_i32_15 : BitVec 32 := 1#32
  let arg11 : BitVec 32 := Scf.iv v41 c1_i32_15 k0_t2
  let c256_i32_31 : BitVec 32 := 256#32
  let v77 : BitVec 32 := Scalar.muli arg11 c256_i32_31
  v77
def k0_mult33 (i : grid0.Coords) (v11 : BitVec 32) : BitVec 32 :=
  let c1_i32_2 : BitVec 32 := 1#32
  let v12 : BitVec 1 := Scalar.cmpi .eq v11 c1_i32_2
  let arg0 : BitVec 32 := BitVec.ofNat 32 (i 0).val
  let c1_i32_3 : BitVec 32 := 1#32
  let v19 : BitVec 32 := Scalar.addi arg0 c1_i32_3
  let v20 : BitVec 32 := Scalar.select v12 v19 arg0
  let c1408_i32_32 : BitVec 32 := 1408#32
  let v79 : BitVec 32 := Scalar.muli v20 c1408_i32_32
  v79
def k0_off37 (v41 : BitVec 32) (v43 : BitVec 32) (k0_t2 : Fin (k0_t2_loop v41 v43).trips) : Fin 2 → Nat :=
  let c1_i32_15 : BitVec 32 := 1#32
  let arg11 : BitVec 32 := Scf.iv v41 c1_i32_15 k0_t2
  let c1_i32_34 : BitVec 32 := 1#32
  let v82 : BitVec 32 := Scalar.andi arg11 c1_i32_34
  let c1_i32_36 : BitVec 32 := 1#32
  ![v82.toNat, 1]
def k0_off38 (v41 : BitVec 32) (v43 : BitVec 32) (k0_t2 : Fin (k0_t2_loop v41 v43).trips) : Fin 4 → Nat :=
  let c1_i32_15 : BitVec 32 := 1#32
  let arg11 : BitVec 32 := Scf.iv v41 c1_i32_15 k0_t2
  let c1_i32_33 : BitVec 32 := 1#32
  let v81 : BitVec 32 := Scalar.andi arg11 c1_i32_33
  let c1_i32_35 : BitVec 32 := 1#32
  let c0_i32_37 : BitVec 32 := 0#32
  let c0_i32_38 : BitVec 32 := 0#32
  ![v81.toNat, 1, 0, 0]
def k0_off39 (v41 : BitVec 32) (v43 : BitVec 32) (k0_t2 : Fin (k0_t2_loop v41 v43).trips) : Fin 4 → Nat :=
  let c1_i32_15 : BitVec 32 := 1#32
  let arg11 : BitVec 32 := Scf.iv v41 c1_i32_15 k0_t2
  let c1_i32_39 : BitVec 32 := 1#32
  let v89 : BitVec 32 := Scalar.andi arg11 c1_i32_39
  let v90 : Index := Scalar.indexCast v89
  let c1_40 : Index := 1#32
  let c0_41 : Index := 0#32
  let c0_42 : Index := 0#32
  ![v90.toNat, 1, 0, 0]
def k0_mult34 (v41 : BitVec 32) (v43 : BitVec 32) (k0_t2 : Fin (k0_t2_loop v41 v43).trips) : BitVec 32 :=
  let c1_i32_15 : BitVec 32 := 1#32
  let arg11 : BitVec 32 := Scf.iv v41 c1_i32_15 k0_t2
  let c256_i32_43 : BitVec 32 := 256#32
  let v94 : BitVec 32 := Scalar.muli arg11 c256_i32_43
  v94
def k0_off40 (i : grid0.Coords) (v4 : BitVec 32) (v7 : BitVec 32) (v41 : BitVec 32) (v43 : BitVec 32) (k0_t2 : Fin (k0_t2_loop v41 v43).trips) : Fin 4 → Nat :=
  let c1_i32_12 : BitVec 32 := 1#32
  let arg0 : BitVec 32 := BitVec.ofNat 32 (i 0).val
  let v5 : BitVec 32 := Scalar.muli arg0 v4
  let v8 : BitVec 32 := Scalar.addi v5 v7
  let c1_i32 : BitVec 32 := 1#32
  let v9 : BitVec 32 := Scalar.andi v8 c1_i32
  let v39 : BitVec 32 := Scalar.subi c1_i32_12 v9
  let v96 : Index := Scalar.indexCast v39
  let c1_44 : Index := 1#32
  let c1_i32_15 : BitVec 32 := 1#32
  let arg11 : BitVec 32 := Scf.iv v41 c1_i32_15 k0_t2
  let c256_i32_43 : BitVec 32 := 256#32
  let v94 : BitVec 32 := Scalar.muli arg11 c256_i32_43
  let v95 : BitVec 32 := v94
  let v97 : Index := Scalar.indexCast v95
  let c0_45 : Index := 0#32
  ![v96.toNat, 1, v97.toNat, 0]
def k0_mult35 (v41 : BitVec 32) (v43 : BitVec 32) (k0_t2 : Fin (k0_t2_loop v41 v43).trips) : BitVec 32 :=
  let c1_i32_15 : BitVec 32 := 1#32
  let arg11 : BitVec 32 := Scf.iv v41 c1_i32_15 k0_t2
  let c2_i32_49 : BitVec 32 := 2#32
  let v105 : BitVec 32 := Scalar.addi arg11 c2_i32_49
  let c256_i32_50 : BitVec 32 := 256#32
  let v106 : BitVec 32 := Scalar.muli v105 c256_i32_50
  v106
def k0_cond8 (v41 : BitVec 32) (v43 : BitVec 32) (k0_t2 : Fin (k0_t2_loop v41 v43).trips) : BitVec 1 :=
  let c1_i32_15 : BitVec 32 := 1#32
  let arg11 : BitVec 32 := Scf.iv v41 c1_i32_15 k0_t2
  let c2_i32_46 : BitVec 32 := 2#32
  let v101 : BitVec 32 := Scalar.addi arg11 c2_i32_46
  let c8_i32_47 : BitVec 32 := 8#32
  let v102 : BitVec 1 := Scalar.cmpi .slt v101 c8_i32_47
  let v103 : BitVec 32 := Scalar.extui v102
  let c0_i32_48 : BitVec 32 := 0#32
  let v104 : BitVec 1 := Scalar.cmpi .ne v103 c0_i32_48
  v104

def k0_mult36 (i : grid0.Coords) (v11 : BitVec 32) : BitVec 32 :=
  let c1_i32_2 : BitVec 32 := 1#32
  let v12 : BitVec 1 := Scalar.cmpi .eq v11 c1_i32_2
  let arg0 : BitVec 32 := BitVec.ofNat 32 (i 0).val
  let c1_i32_3 : BitVec 32 := 1#32
  let v19 : BitVec 32 := Scalar.addi arg0 c1_i32_3
  let v20 : BitVec 32 := Scalar.select v12 v19 arg0
  let c1408_i32_51 : BitVec 32 := 1408#32
  let v108 : BitVec 32 := Scalar.muli v20 c1408_i32_51
  v108
def k0_off41 (v41 : BitVec 32) (v43 : BitVec 32) (k0_t2 : Fin (k0_t2_loop v41 v43).trips) : Fin 2 → Nat :=
  let c1_i32_15 : BitVec 32 := 1#32
  let arg11 : BitVec 32 := Scf.iv v41 c1_i32_15 k0_t2
  let c2_i32_49 : BitVec 32 := 2#32
  let v105 : BitVec 32 := Scalar.addi arg11 c2_i32_49
  let c1_i32_53 : BitVec 32 := 1#32
  let v111 : BitVec 32 := Scalar.andi v105 c1_i32_53
  let c1_i32_55 : BitVec 32 := 1#32
  ![v111.toNat, 1]
def k0_off42 (v41 : BitVec 32) (v43 : BitVec 32) (k0_t2 : Fin (k0_t2_loop v41 v43).trips) : Fin 4 → Nat :=
  let c1_i32_15 : BitVec 32 := 1#32
  let arg11 : BitVec 32 := Scf.iv v41 c1_i32_15 k0_t2
  let c2_i32_49 : BitVec 32 := 2#32
  let v105 : BitVec 32 := Scalar.addi arg11 c2_i32_49
  let c1_i32_52 : BitVec 32 := 1#32
  let v110 : BitVec 32 := Scalar.andi v105 c1_i32_52
  let c1_i32_54 : BitVec 32 := 1#32
  let c0_i32_56 : BitVec 32 := 0#32
  let c0_i32_57 : BitVec 32 := 0#32
  ![v110.toNat, 1, 0, 0]
def k0_off43 (i : grid0.Coords) (v11 : BitVec 32) (v18 : BitVec 32) (v41 : BitVec 32) (v43 : BitVec 32) (k0_t2 : Fin (k0_t2_loop v41 v43).trips) : Fin 3 → Nat :=
  let c1_i32_15 : BitVec 32 := 1#32
  let arg11 : BitVec 32 := Scf.iv v41 c1_i32_15 k0_t2
  let c2_i32_49 : BitVec 32 := 2#32
  let v105 : BitVec 32 := Scalar.addi arg11 c2_i32_49
  let c256_i32_50 : BitVec 32 := 256#32
  let v106 : BitVec 32 := Scalar.muli v105 c256_i32_50
  let v107 : BitVec 32 := v106
  let c1_i32_2 : BitVec 32 := 1#32
  let v12 : BitVec 1 := Scalar.cmpi .eq v11 c1_i32_2
  let arg0 : BitVec 32 := BitVec.ofNat 32 (i 0).val
  let c1_i32_3 : BitVec 32 := 1#32
  let v19 : BitVec 32 := Scalar.addi arg0 c1_i32_3
  let v20 : BitVec 32 := Scalar.select v12 v19 arg0
  let c1408_i32_51 : BitVec 32 := 1408#32
  let v108 : BitVec 32 := Scalar.muli v20 c1408_i32_51
  let v109 : BitVec 32 := v108
  ![v18.toNat, v107.toNat, v109.toNat]
@[reducible] def k0_t3_loop (v41 : BitVec 32) (v43 : BitVec 32) : Scf.Loop 32 :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let v45 : BitVec 32 := Scalar.addi v41 v44
  let c1_i32_16 : BitVec 32 := 1#32
  ⟨v48, v45, c1_i32_16⟩
def k0_mult37 (v41 : BitVec 32) (v43 : BitVec 32) (k0_t3 : Fin (k0_t3_loop v41 v43).trips) : BitVec 32 :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c256_i32 : BitVec 32 := 256#32
  let v49 : BitVec 32 := Scalar.muli arg11 c256_i32
  v49
def k0_mult38 (i : grid0.Coords) (v11 : BitVec 32) : BitVec 32 :=
  let c1_i32_2 : BitVec 32 := 1#32
  let v12 : BitVec 1 := Scalar.cmpi .eq v11 c1_i32_2
  let arg0 : BitVec 32 := BitVec.ofNat 32 (i 0).val
  let c1_i32_3 : BitVec 32 := 1#32
  let v19 : BitVec 32 := Scalar.addi arg0 c1_i32_3
  let v20 : BitVec 32 := Scalar.select v12 v19 arg0
  let c1408_i32 : BitVec 32 := 1408#32
  let v51 : BitVec 32 := Scalar.muli v20 c1408_i32
  v51
def k0_off44 (v41 : BitVec 32) (v43 : BitVec 32) (k0_t3 : Fin (k0_t3_loop v41 v43).trips) : Fin 2 → Nat :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c1_i32_18 : BitVec 32 := 1#32
  let v54 : BitVec 32 := Scalar.andi arg11 c1_i32_18
  let c0_i32_20 : BitVec 32 := 0#32
  ![v54.toNat, 0]
def k0_off45 (v41 : BitVec 32) (v43 : BitVec 32) (k0_t3 : Fin (k0_t3_loop v41 v43).trips) : Fin 4 → Nat :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c1_i32_17 : BitVec 32 := 1#32
  let v53 : BitVec 32 := Scalar.andi arg11 c1_i32_17
  let c0_i32_19 : BitVec 32 := 0#32
  let c0_i32_21 : BitVec 32 := 0#32
  let c0_i32_22 : BitVec 32 := 0#32
  ![v53.toNat, 0, 0, 0]
def k0_off46 (i : grid0.Coords) (v11 : BitVec 32) (v18 : BitVec 32) (v41 : BitVec 32) (v43 : BitVec 32) (k0_t3 : Fin (k0_t3_loop v41 v43).trips) : Fin 3 → Nat :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c256_i32 : BitVec 32 := 256#32
  let v49 : BitVec 32 := Scalar.muli arg11 c256_i32
  let v50 : BitVec 32 := v49
  let c1_i32_2 : BitVec 32 := 1#32
  let v12 : BitVec 1 := Scalar.cmpi .eq v11 c1_i32_2
  let arg0 : BitVec 32 := BitVec.ofNat 32 (i 0).val
  let c1_i32_3 : BitVec 32 := 1#32
  let v19 : BitVec 32 := Scalar.addi arg0 c1_i32_3
  let v20 : BitVec 32 := Scalar.select v12 v19 arg0
  let c1408_i32 : BitVec 32 := 1408#32
  let v51 : BitVec 32 := Scalar.muli v20 c1408_i32
  let v52 : BitVec 32 := v51
  ![v18.toNat, v50.toNat, v52.toNat]
def k0_off47 (v41 : BitVec 32) (v43 : BitVec 32) (k0_t3 : Fin (k0_t3_loop v41 v43).trips) : Fin 4 → Nat :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c1_i32_23 : BitVec 32 := 1#32
  let v61 : BitVec 32 := Scalar.andi arg11 c1_i32_23
  let v62 : Index := Scalar.indexCast v61
  let c0_24 : Index := 0#32
  let c0_25 : Index := 0#32
  let c0_26 : Index := 0#32
  ![v62.toNat, 0, 0, 0]
def k0_mult39 (v41 : BitVec 32) (v43 : BitVec 32) (k0_t3 : Fin (k0_t3_loop v41 v43).trips) : BitVec 32 :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c256_i32_27 : BitVec 32 := 256#32
  let v66 : BitVec 32 := Scalar.muli arg11 c256_i32_27
  v66
def k0_off48 (i : grid0.Coords) (v4 : BitVec 32) (v7 : BitVec 32) (v41 : BitVec 32) (v43 : BitVec 32) (k0_t3 : Fin (k0_t3_loop v41 v43).trips) : Fin 4 → Nat :=
  let c1_i32_12 : BitVec 32 := 1#32
  let arg0 : BitVec 32 := BitVec.ofNat 32 (i 0).val
  let v5 : BitVec 32 := Scalar.muli arg0 v4
  let v8 : BitVec 32 := Scalar.addi v5 v7
  let c1_i32 : BitVec 32 := 1#32
  let v9 : BitVec 32 := Scalar.andi v8 c1_i32
  let v39 : BitVec 32 := Scalar.subi c1_i32_12 v9
  let v68 : Index := Scalar.indexCast v39
  let c0_28 : Index := 0#32
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c256_i32_27 : BitVec 32 := 256#32
  let v66 : BitVec 32 := Scalar.muli arg11 c256_i32_27
  let v67 : BitVec 32 := v66
  let v69 : Index := Scalar.indexCast v67
  let c0_29 : Index := 0#32
  ![v68.toNat, 0, v69.toNat, 0]
def k0_mult40 (v41 : BitVec 32) (v43 : BitVec 32) (k0_t3 : Fin (k0_t3_loop v41 v43).trips) : BitVec 32 :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c2_i32_49 : BitVec 32 := 2#32
  let v105 : BitVec 32 := Scalar.addi arg11 c2_i32_49
  let c256_i32_50 : BitVec 32 := 256#32
  let v106 : BitVec 32 := Scalar.muli v105 c256_i32_50
  v106
def k0_cond9 (v41 : BitVec 32) (v43 : BitVec 32) (k0_t3 : Fin (k0_t3_loop v41 v43).trips) : BitVec 1 :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c2_i32 : BitVec 32 := 2#32
  let v73 : BitVec 32 := Scalar.addi arg11 c2_i32
  let c8_i32 : BitVec 32 := 8#32
  let v74 : BitVec 1 := Scalar.cmpi .slt v73 c8_i32
  let v75 : BitVec 32 := Scalar.extui v74
  let c0_i32_30 : BitVec 32 := 0#32
  let v76 : BitVec 1 := Scalar.cmpi .ne v75 c0_i32_30
  v76

def k0_mult41 (i : grid0.Coords) (v11 : BitVec 32) : BitVec 32 :=
  let c1_i32_2 : BitVec 32 := 1#32
  let v12 : BitVec 1 := Scalar.cmpi .eq v11 c1_i32_2
  let arg0 : BitVec 32 := BitVec.ofNat 32 (i 0).val
  let c1_i32_3 : BitVec 32 := 1#32
  let v19 : BitVec 32 := Scalar.addi arg0 c1_i32_3
  let v20 : BitVec 32 := Scalar.select v12 v19 arg0
  let c1408_i32_51 : BitVec 32 := 1408#32
  let v108 : BitVec 32 := Scalar.muli v20 c1408_i32_51
  v108
def k0_off49 (v41 : BitVec 32) (v43 : BitVec 32) (k0_t3 : Fin (k0_t3_loop v41 v43).trips) : Fin 2 → Nat :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c2_i32_49 : BitVec 32 := 2#32
  let v105 : BitVec 32 := Scalar.addi arg11 c2_i32_49
  let c1_i32_53 : BitVec 32 := 1#32
  let v111 : BitVec 32 := Scalar.andi v105 c1_i32_53
  let c0_i32_55 : BitVec 32 := 0#32
  ![v111.toNat, 0]
def k0_off50 (v41 : BitVec 32) (v43 : BitVec 32) (k0_t3 : Fin (k0_t3_loop v41 v43).trips) : Fin 4 → Nat :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c2_i32_49 : BitVec 32 := 2#32
  let v105 : BitVec 32 := Scalar.addi arg11 c2_i32_49
  let c1_i32_52 : BitVec 32 := 1#32
  let v110 : BitVec 32 := Scalar.andi v105 c1_i32_52
  let c0_i32_54 : BitVec 32 := 0#32
  let c0_i32_56 : BitVec 32 := 0#32
  let c0_i32_57 : BitVec 32 := 0#32
  ![v110.toNat, 0, 0, 0]
def k0_off51 (i : grid0.Coords) (v11 : BitVec 32) (v18 : BitVec 32) (v41 : BitVec 32) (v43 : BitVec 32) (k0_t3 : Fin (k0_t3_loop v41 v43).trips) : Fin 3 → Nat :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c2_i32_49 : BitVec 32 := 2#32
  let v105 : BitVec 32 := Scalar.addi arg11 c2_i32_49
  let c256_i32_50 : BitVec 32 := 256#32
  let v106 : BitVec 32 := Scalar.muli v105 c256_i32_50
  let v107 : BitVec 32 := v106
  let c1_i32_2 : BitVec 32 := 1#32
  let v12 : BitVec 1 := Scalar.cmpi .eq v11 c1_i32_2
  let arg0 : BitVec 32 := BitVec.ofNat 32 (i 0).val
  let c1_i32_3 : BitVec 32 := 1#32
  let v19 : BitVec 32 := Scalar.addi arg0 c1_i32_3
  let v20 : BitVec 32 := Scalar.select v12 v19 arg0
  let c1408_i32_51 : BitVec 32 := 1408#32
  let v108 : BitVec 32 := Scalar.muli v20 c1408_i32_51
  let v109 : BitVec 32 := v108
  ![v18.toNat, v107.toNat, v109.toNat]
def k0_mult42 (v41 : BitVec 32) (v43 : BitVec 32) (k0_t3 : Fin (k0_t3_loop v41 v43).trips) : BitVec 32 :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c256_i32_31 : BitVec 32 := 256#32
  let v77 : BitVec 32 := Scalar.muli arg11 c256_i32_31
  v77
def k0_mult43 (i : grid0.Coords) (v11 : BitVec 32) : BitVec 32 :=
  let c1_i32_2 : BitVec 32 := 1#32
  let v12 : BitVec 1 := Scalar.cmpi .eq v11 c1_i32_2
  let arg0 : BitVec 32 := BitVec.ofNat 32 (i 0).val
  let c1_i32_3 : BitVec 32 := 1#32
  let v19 : BitVec 32 := Scalar.addi arg0 c1_i32_3
  let v20 : BitVec 32 := Scalar.select v12 v19 arg0
  let c1408_i32_32 : BitVec 32 := 1408#32
  let v79 : BitVec 32 := Scalar.muli v20 c1408_i32_32
  v79
def k0_off52 (v41 : BitVec 32) (v43 : BitVec 32) (k0_t3 : Fin (k0_t3_loop v41 v43).trips) : Fin 2 → Nat :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c1_i32_34 : BitVec 32 := 1#32
  let v82 : BitVec 32 := Scalar.andi arg11 c1_i32_34
  let c1_i32_36 : BitVec 32 := 1#32
  ![v82.toNat, 1]
def k0_off53 (v41 : BitVec 32) (v43 : BitVec 32) (k0_t3 : Fin (k0_t3_loop v41 v43).trips) : Fin 4 → Nat :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c1_i32_33 : BitVec 32 := 1#32
  let v81 : BitVec 32 := Scalar.andi arg11 c1_i32_33
  let c1_i32_35 : BitVec 32 := 1#32
  let c0_i32_37 : BitVec 32 := 0#32
  let c0_i32_38 : BitVec 32 := 0#32
  ![v81.toNat, 1, 0, 0]
def k0_off54 (v41 : BitVec 32) (v43 : BitVec 32) (k0_t3 : Fin (k0_t3_loop v41 v43).trips) : Fin 4 → Nat :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c1_i32_39 : BitVec 32 := 1#32
  let v89 : BitVec 32 := Scalar.andi arg11 c1_i32_39
  let v90 : Index := Scalar.indexCast v89
  let c1_40 : Index := 1#32
  let c0_41 : Index := 0#32
  let c0_42 : Index := 0#32
  ![v90.toNat, 1, 0, 0]
def k0_mult44 (v41 : BitVec 32) (v43 : BitVec 32) (k0_t3 : Fin (k0_t3_loop v41 v43).trips) : BitVec 32 :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c256_i32_43 : BitVec 32 := 256#32
  let v94 : BitVec 32 := Scalar.muli arg11 c256_i32_43
  v94
def k0_off55 (i : grid0.Coords) (v4 : BitVec 32) (v7 : BitVec 32) (v41 : BitVec 32) (v43 : BitVec 32) (k0_t3 : Fin (k0_t3_loop v41 v43).trips) : Fin 4 → Nat :=
  let c1_i32_12 : BitVec 32 := 1#32
  let arg0 : BitVec 32 := BitVec.ofNat 32 (i 0).val
  let v5 : BitVec 32 := Scalar.muli arg0 v4
  let v8 : BitVec 32 := Scalar.addi v5 v7
  let c1_i32 : BitVec 32 := 1#32
  let v9 : BitVec 32 := Scalar.andi v8 c1_i32
  let v39 : BitVec 32 := Scalar.subi c1_i32_12 v9
  let v96 : Index := Scalar.indexCast v39
  let c1_44 : Index := 1#32
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c256_i32_43 : BitVec 32 := 256#32
  let v94 : BitVec 32 := Scalar.muli arg11 c256_i32_43
  let v95 : BitVec 32 := v94
  let v97 : Index := Scalar.indexCast v95
  let c0_45 : Index := 0#32
  ![v96.toNat, 1, v97.toNat, 0]
def k0_mult45 (v41 : BitVec 32) (v43 : BitVec 32) (k0_t3 : Fin (k0_t3_loop v41 v43).trips) : BitVec 32 :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c2_i32_49 : BitVec 32 := 2#32
  let v105 : BitVec 32 := Scalar.addi arg11 c2_i32_49
  let c256_i32_50 : BitVec 32 := 256#32
  let v106 : BitVec 32 := Scalar.muli v105 c256_i32_50
  v106
def k0_cond10 (v41 : BitVec 32) (v43 : BitVec 32) (k0_t3 : Fin (k0_t3_loop v41 v43).trips) : BitVec 1 :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c2_i32_46 : BitVec 32 := 2#32
  let v101 : BitVec 32 := Scalar.addi arg11 c2_i32_46
  let c8_i32_47 : BitVec 32 := 8#32
  let v102 : BitVec 1 := Scalar.cmpi .slt v101 c8_i32_47
  let v103 : BitVec 32 := Scalar.extui v102
  let c0_i32_48 : BitVec 32 := 0#32
  let v104 : BitVec 1 := Scalar.cmpi .ne v103 c0_i32_48
  v104

def k0_mult46 (i : grid0.Coords) (v11 : BitVec 32) : BitVec 32 :=
  let c1_i32_2 : BitVec 32 := 1#32
  let v12 : BitVec 1 := Scalar.cmpi .eq v11 c1_i32_2
  let arg0 : BitVec 32 := BitVec.ofNat 32 (i 0).val
  let c1_i32_3 : BitVec 32 := 1#32
  let v19 : BitVec 32 := Scalar.addi arg0 c1_i32_3
  let v20 : BitVec 32 := Scalar.select v12 v19 arg0
  let c1408_i32_51 : BitVec 32 := 1408#32
  let v108 : BitVec 32 := Scalar.muli v20 c1408_i32_51
  v108
def k0_off56 (v41 : BitVec 32) (v43 : BitVec 32) (k0_t3 : Fin (k0_t3_loop v41 v43).trips) : Fin 2 → Nat :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c2_i32_49 : BitVec 32 := 2#32
  let v105 : BitVec 32 := Scalar.addi arg11 c2_i32_49
  let c1_i32_53 : BitVec 32 := 1#32
  let v111 : BitVec 32 := Scalar.andi v105 c1_i32_53
  let c1_i32_55 : BitVec 32 := 1#32
  ![v111.toNat, 1]
def k0_off57 (v41 : BitVec 32) (v43 : BitVec 32) (k0_t3 : Fin (k0_t3_loop v41 v43).trips) : Fin 4 → Nat :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c2_i32_49 : BitVec 32 := 2#32
  let v105 : BitVec 32 := Scalar.addi arg11 c2_i32_49
  let c1_i32_52 : BitVec 32 := 1#32
  let v110 : BitVec 32 := Scalar.andi v105 c1_i32_52
  let c1_i32_54 : BitVec 32 := 1#32
  let c0_i32_56 : BitVec 32 := 0#32
  let c0_i32_57 : BitVec 32 := 0#32
  ![v110.toNat, 1, 0, 0]
def k0_off58 (i : grid0.Coords) (v11 : BitVec 32) (v18 : BitVec 32) (v41 : BitVec 32) (v43 : BitVec 32) (k0_t3 : Fin (k0_t3_loop v41 v43).trips) : Fin 3 → Nat :=
  let v44 : BitVec 32 := Scalar.subi v43 v41
  let c1_i32_14 : BitVec 32 := 1#32
  let v46 : BitVec 32 := Scalar.divsi v44 c1_i32_14
  let v47 : BitVec 32 := Scalar.muli v46 c1_i32_14
  let v48 : BitVec 32 := Scalar.addi v41 v47
  let c1_i32_16 : BitVec 32 := 1#32
  let arg11 : BitVec 32 := Scf.iv v48 c1_i32_16 k0_t3
  let c2_i32_49 : BitVec 32 := 2#32
  let v105 : BitVec 32 := Scalar.addi arg11 c2_i32_49
  let c256_i32_50 : BitVec 32 := 256#32
  let v106 : BitVec 32 := Scalar.muli v105 c256_i32_50
  let v107 : BitVec 32 := v106
  let c1_i32_2 : BitVec 32 := 1#32
  let v12 : BitVec 1 := Scalar.cmpi .eq v11 c1_i32_2
  let arg0 : BitVec 32 := BitVec.ofNat 32 (i 0).val
  let c1_i32_3 : BitVec 32 := 1#32
  let v19 : BitVec 32 := Scalar.addi arg0 c1_i32_3
  let v20 : BitVec 32 := Scalar.select v12 v19 arg0
  let c1408_i32_51 : BitVec 32 := 1408#32
  let v108 : BitVec 32 := Scalar.muli v20 c1408_i32_51
  let v109 : BitVec 32 := v108
  ![v18.toNat, v107.toNat, v109.toNat]

def k0_chk4_0 (i : grid0.Coords) (v2 : BitVec 32) (v4 : BitVec 32) (v7 : BitVec 32) (v11 : BitVec 32) (v18 : BitVec 32) (v41 : BitVec 32) (v43 : BitVec 32) : Prop :=
  (∀ (k0_h6 : k0_cond6 i v2 v11 = 1#1), (k0_t2_loop v41 v43).OK) ∧
  (∀ k0_t2 : Fin (k0_t2_loop v41 v43).trips, ∀ (k0_h6 : k0_cond6 i v2 v11 = 1#1), 256 ∣ (k0_mult27 v41 v43 k0_t2).toNat) ∧
  (∀ k0_t2 : Fin (k0_t2_loop v41 v43).trips, ∀ (k0_h6 : k0_cond6 i v2 v11 = 1#1), 128 ∣ (k0_mult28 i v11).toNat) ∧
  (∀ k0_t2 : Fin (k0_t2_loop v41 v43).trips, ∀ (k0_h6 : k0_cond6 i v2 v11 = 1#1), ∀ a, (k0_off29 v41 v43 k0_t2) a + S1x1.size a ≤ S2x2.size a) ∧
  (∀ k0_t2 : Fin (k0_t2_loop v41 v43).trips, ∀ (k0_h6 : k0_cond6 i v2 v11 = 1#1), ∀ a, (k0_off30 v41 v43 k0_t2) a + S1x1x256x1408.size a ≤ S2x2x256x1408.size a) ∧
  (∀ k0_t2 : Fin (k0_t2_loop v41 v43).trips, ∀ (k0_h6 : k0_cond6 i v2 v11 = 1#1), ∀ a, (k0_off31 i v11 v18 v41 v43 k0_t2) a + S1x256x1408.size a ≤ S8x2048x5632.size a) ∧
  (∀ k0_t2 : Fin (k0_t2_loop v41 v43).trips, ∀ (k0_h6 : k0_cond6 i v2 v11 = 1#1), ∀ a, (k0_off32 v41 v43 k0_t2) a + S1x1x256x1408.size a ≤ S2x2x256x1408.size a) ∧
  (∀ k0_t2 : Fin (k0_t2_loop v41 v43).trips, ∀ (k0_h6 : k0_cond6 i v2 v11 = 1#1), 256 ∣ (k0_mult29 v41 v43 k0_t2).toNat) ∧
  (∀ k0_t2 : Fin (k0_t2_loop v41 v43).trips, ∀ (k0_h6 : k0_cond6 i v2 v11 = 1#1), ∀ a, (k0_off33 i v4 v7 v41 v43 k0_t2) a + S1x1x256x1408.size a ≤ S2x2x2048x1408.size a) ∧
  (∀ k0_t2 : Fin (k0_t2_loop v41 v43).trips, ∀ (k0_h6 : k0_cond6 i v2 v11 = 1#1), ∀ (hinb : ∀ a, (k0_off33 i v4 v7 v41 v43 k0_t2) a + S1x1x256x1408.size a ≤ S2x2x2048x1408.size a), (Rect.unit (s := S2x2x2048x1408) (k0_off33 i v4 v7 v41 v43 k0_t2) S1x1x256x1408.size hinb).PackedRows (EltTy.packing .bf16)) ∧
  (∀ k0_t2 : Fin (k0_t2_loop v41 v43).trips, ∀ (k0_h6 : k0_cond6 i v2 v11 = 1#1), ∀ (k0_h7 : k0_cond7 v41 v43 k0_t2 = 1#1), 256 ∣ (k0_mult30 v41 v43 k0_t2).toNat) ∧
  (∀ k0_t2 : Fin (k0_t2_loop v41 v43).trips, ∀ (k0_h6 : k0_cond6 i v2 v11 = 1#1), ∀ (k0_h7 : k0_cond7 v41 v43 k0_t2 = 1#1), 128 ∣ (k0_mult31 i v11).toNat) ∧
  (∀ k0_t2 : Fin (k0_t2_loop v41 v43).trips, ∀ (k0_h6 : k0_cond6 i v2 v11 = 1#1), ∀ (k0_h7 : k0_cond7 v41 v43 k0_t2 = 1#1), ∀ a, (k0_off34 v41 v43 k0_t2) a + S1x1.size a ≤ S2x2.size a) ∧
  (∀ k0_t2 : Fin (k0_t2_loop v41 v43).trips, ∀ (k0_h6 : k0_cond6 i v2 v11 = 1#1), ∀ (k0_h7 : k0_cond7 v41 v43 k0_t2 = 1#1), ∀ a, (k0_off35 v41 v43 k0_t2) a + S1x1x256x1408.size a ≤ S2x2x256x1408.size a) ∧
  (∀ k0_t2 : Fin (k0_t2_loop v41 v43).trips, ∀ (k0_h6 : k0_cond6 i v2 v11 = 1#1), ∀ (k0_h7 : k0_cond7 v41 v43 k0_t2 = 1#1), ∀ a, (k0_off36 i v11 v18 v41 v43 k0_t2) a + S1x256x1408.size a ≤ S8x2048x5632.size a) ∧
  (∀ k0_t2 : Fin (k0_t2_loop v41 v43).trips, ∀ (k0_h6 : k0_cond6 i v2 v11 = 1#1), 256 ∣ (k0_mult32 v41 v43 k0_t2).toNat) ∧
  (∀ k0_t2 : Fin (k0_t2_loop v41 v43).trips, ∀ (k0_h6 : k0_cond6 i v2 v11 = 1#1), 128 ∣ (k0_mult33 i v11).toNat) ∧
  (∀ k0_t2 : Fin (k0_t2_loop v41 v43).trips, ∀ (k0_h6 : k0_cond6 i v2 v11 = 1#1), ∀ a, (k0_off37 v41 v43 k0_t2) a + S1x1.size a ≤ S2x2.size a) ∧
  (∀ k0_t2 : Fin (k0_t2_loop v41 v43).trips, ∀ (k0_h6 : k0_cond6 i v2 v11 = 1#1), ∀ a, (k0_off38 v41 v43 k0_t2) a + S1x1x256x1408.size a ≤ S2x2x256x1408.size a) ∧
  (∀ k0_t2 : Fin (k0_t2_loop v41 v43).trips, ∀ (k0_h6 : k0_cond6 i v2 v11 = 1#1), ∀ a, (k0_off39 v41 v43 k0_t2) a + S1x1x256x1408.size a ≤ S2x2x256x1408.size a) ∧
  (∀ k0_t2 : Fin (k0_t2_loop v41 v43).trips, ∀ (k0_h6 : k0_cond6 i v2 v11 = 1#1), 256 ∣ (k0_mult34 v41 v43 k0_t2).toNat) ∧
  (∀ k0_t2 : Fin (k0_t2_loop v41 v43).trips, ∀ (k0_h6 : k0_cond6 i v2 v11 = 1#1), ∀ a, (k0_off40 i v4 v7 v41 v43 k0_t2) a + S1x1x256x1408.size a ≤ S2x2x2048x1408.size a) ∧
  (∀ k0_t2 : Fin (k0_t2_loop v41 v43).trips, ∀ (k0_h6 : k0_cond6 i v2 v11 = 1#1), ∀ (hinb : ∀ a, (k0_off40 i v4 v7 v41 v43 k0_t2) a + S1x1x256x1408.size a ≤ S2x2x2048x1408.size a), (Rect.unit (s := S2x2x2048x1408) (k0_off40 i v4 v7 v41 v43 k0_t2) S1x1x256x1408.size hinb).PackedRows (EltTy.packing .bf16)) ∧
  (∀ k0_t2 : Fin (k0_t2_loop v41 v43).trips, ∀ (k0_h6 : k0_cond6 i v2 v11 = 1#1), ∀ (k0_h8 : k0_cond8 v41 v43 k0_t2 = 1#1), 256 ∣ (k0_mult35 v41 v43 k0_t2).toNat) ∧
  (∀ k0_t2 : Fin (k0_t2_loop v41 v43).trips, ∀ (k0_h6 : k0_cond6 i v2 v11 = 1#1), ∀ (k0_h8 : k0_cond8 v41 v43 k0_t2 = 1#1), 128 ∣ (k0_mult36 i v11).toNat) ∧
  (∀ k0_t2 : Fin (k0_t2_loop v41 v43).trips, ∀ (k0_h6 : k0_cond6 i v2 v11 = 1#1), ∀ (k0_h8 : k0_cond8 v41 v43 k0_t2 = 1#1), ∀ a, (k0_off41 v41 v43 k0_t2) a + S1x1.size a ≤ S2x2.size a) ∧
  (∀ k0_t2 : Fin (k0_t2_loop v41 v43).trips, ∀ (k0_h6 : k0_cond6 i v2 v11 = 1#1), ∀ (k0_h8 : k0_cond8 v41 v43 k0_t2 = 1#1), ∀ a, (k0_off42 v41 v43 k0_t2) a + S1x1x256x1408.size a ≤ S2x2x256x1408.size a) ∧
  (∀ k0_t2 : Fin (k0_t2_loop v41 v43).trips, ∀ (k0_h6 : k0_cond6 i v2 v11 = 1#1), ∀ (k0_h8 : k0_cond8 v41 v43 k0_t2 = 1#1), ∀ a, (k0_off43 i v11 v18 v41 v43 k0_t2) a + S1x256x1408.size a ≤ S8x2048x5632.size a) ∧
  (∀ (k0_h6 : k0_cond6 i v2 v11 = 1#1), (k0_t3_loop v41 v43).OK) ∧
  (∀ k0_t3 : Fin (k0_t3_loop v41 v43).trips, ∀ (k0_h6 : k0_cond6 i v2 v11 = 1#1), 256 ∣ (k0_mult37 v41 v43 k0_t3).toNat) ∧
  (∀ k0_t3 : Fin (k0_t3_loop v41 v43).trips, ∀ (k0_h6 : k0_cond6 i v2 v11 = 1#1), 128 ∣ (k0_mult38 i v11).toNat) ∧
  (∀ k0_t3 : Fin (k0_t3_loop v41 v43).trips, ∀ (k0_h6 : k0_cond6 i v2 v11 = 1#1), ∀ a, (k0_off44 v41 v43 k0_t3) a + S1x1.size a ≤ S2x2.size a)
def k0_chk4_1 (i : grid0.Coords) (v2 : BitVec 32) (v4 : BitVec 32) (v7 : BitVec 32) (v11 : BitVec 32) (v18 : BitVec 32) (v41 : BitVec 32) (v43 : BitVec 32) : Prop :=
  (∀ k0_t3 : Fin (k0_t3_loop v41 v43).trips, ∀ (k0_h6 : k0_cond6 i v2 v11 = 1#1), ∀ a, (k0_off45 v41 v43 k0_t3) a + S1x1x256x1408.size a ≤ S2x2x256x1408.size a) ∧
  (∀ k0_t3 : Fin (k0_t3_loop v41 v43).trips, ∀ (k0_h6 : k0_cond6 i v2 v11 = 1#1), ∀ a, (k0_off46 i v11 v18 v41 v43 k0_t3) a + S1x256x1408.size a ≤ S8x2048x5632.size a) ∧
  (∀ k0_t3 : Fin (k0_t3_loop v41 v43).trips, ∀ (k0_h6 : k0_cond6 i v2 v11 = 1#1), ∀ a, (k0_off47 v41 v43 k0_t3) a + S1x1x256x1408.size a ≤ S2x2x256x1408.size a) ∧
  (∀ k0_t3 : Fin (k0_t3_loop v41 v43).trips, ∀ (k0_h6 : k0_cond6 i v2 v11 = 1#1), 256 ∣ (k0_mult39 v41 v43 k0_t3).toNat) ∧
  (∀ k0_t3 : Fin (k0_t3_loop v41 v43).trips, ∀ (k0_h6 : k0_cond6 i v2 v11 = 1#1), ∀ a, (k0_off48 i v4 v7 v41 v43 k0_t3) a + S1x1x256x1408.size a ≤ S2x2x2048x1408.size a) ∧
  (∀ k0_t3 : Fin (k0_t3_loop v41 v43).trips, ∀ (k0_h6 : k0_cond6 i v2 v11 = 1#1), ∀ (hinb : ∀ a, (k0_off48 i v4 v7 v41 v43 k0_t3) a + S1x1x256x1408.size a ≤ S2x2x2048x1408.size a), (Rect.unit (s := S2x2x2048x1408) (k0_off48 i v4 v7 v41 v43 k0_t3) S1x1x256x1408.size hinb).PackedRows (EltTy.packing .bf16)) ∧
  (∀ k0_t3 : Fin (k0_t3_loop v41 v43).trips, ∀ (k0_h6 : k0_cond6 i v2 v11 = 1#1), ∀ (k0_h9 : k0_cond9 v41 v43 k0_t3 = 1#1), 256 ∣ (k0_mult40 v41 v43 k0_t3).toNat) ∧
  (∀ k0_t3 : Fin (k0_t3_loop v41 v43).trips, ∀ (k0_h6 : k0_cond6 i v2 v11 = 1#1), ∀ (k0_h9 : k0_cond9 v41 v43 k0_t3 = 1#1), 128 ∣ (k0_mult41 i v11).toNat) ∧
  (∀ k0_t3 : Fin (k0_t3_loop v41 v43).trips, ∀ (k0_h6 : k0_cond6 i v2 v11 = 1#1), ∀ (k0_h9 : k0_cond9 v41 v43 k0_t3 = 1#1), ∀ a, (k0_off49 v41 v43 k0_t3) a + S1x1.size a ≤ S2x2.size a) ∧
  (∀ k0_t3 : Fin (k0_t3_loop v41 v43).trips, ∀ (k0_h6 : k0_cond6 i v2 v11 = 1#1), ∀ (k0_h9 : k0_cond9 v41 v43 k0_t3 = 1#1), ∀ a, (k0_off50 v41 v43 k0_t3) a + S1x1x256x1408.size a ≤ S2x2x256x1408.size a) ∧
  (∀ k0_t3 : Fin (k0_t3_loop v41 v43).trips, ∀ (k0_h6 : k0_cond6 i v2 v11 = 1#1), ∀ (k0_h9 : k0_cond9 v41 v43 k0_t3 = 1#1), ∀ a, (k0_off51 i v11 v18 v41 v43 k0_t3) a + S1x256x1408.size a ≤ S8x2048x5632.size a) ∧
  (∀ k0_t3 : Fin (k0_t3_loop v41 v43).trips, ∀ (k0_h6 : k0_cond6 i v2 v11 = 1#1), 256 ∣ (k0_mult42 v41 v43 k0_t3).toNat) ∧
  (∀ k0_t3 : Fin (k0_t3_loop v41 v43).trips, ∀ (k0_h6 : k0_cond6 i v2 v11 = 1#1), 128 ∣ (k0_mult43 i v11).toNat) ∧
  (∀ k0_t3 : Fin (k0_t3_loop v41 v43).trips, ∀ (k0_h6 : k0_cond6 i v2 v11 = 1#1), ∀ a, (k0_off52 v41 v43 k0_t3) a + S1x1.size a ≤ S2x2.size a) ∧
  (∀ k0_t3 : Fin (k0_t3_loop v41 v43).trips, ∀ (k0_h6 : k0_cond6 i v2 v11 = 1#1), ∀ a, (k0_off53 v41 v43 k0_t3) a + S1x1x256x1408.size a ≤ S2x2x256x1408.size a) ∧
  (∀ k0_t3 : Fin (k0_t3_loop v41 v43).trips, ∀ (k0_h6 : k0_cond6 i v2 v11 = 1#1), ∀ a, (k0_off54 v41 v43 k0_t3) a + S1x1x256x1408.size a ≤ S2x2x256x1408.size a) ∧
  (∀ k0_t3 : Fin (k0_t3_loop v41 v43).trips, ∀ (k0_h6 : k0_cond6 i v2 v11 = 1#1), 256 ∣ (k0_mult44 v41 v43 k0_t3).toNat) ∧
  (∀ k0_t3 : Fin (k0_t3_loop v41 v43).trips, ∀ (k0_h6 : k0_cond6 i v2 v11 = 1#1), ∀ a, (k0_off55 i v4 v7 v41 v43 k0_t3) a + S1x1x256x1408.size a ≤ S2x2x2048x1408.size a) ∧
  (∀ k0_t3 : Fin (k0_t3_loop v41 v43).trips, ∀ (k0_h6 : k0_cond6 i v2 v11 = 1#1), ∀ (hinb : ∀ a, (k0_off55 i v4 v7 v41 v43 k0_t3) a + S1x1x256x1408.size a ≤ S2x2x2048x1408.size a), (Rect.unit (s := S2x2x2048x1408) (k0_off55 i v4 v7 v41 v43 k0_t3) S1x1x256x1408.size hinb).PackedRows (EltTy.packing .bf16)) ∧
  (∀ k0_t3 : Fin (k0_t3_loop v41 v43).trips, ∀ (k0_h6 : k0_cond6 i v2 v11 = 1#1), ∀ (k0_h10 : k0_cond10 v41 v43 k0_t3 = 1#1), 256 ∣ (k0_mult45 v41 v43 k0_t3).toNat) ∧
  (∀ k0_t3 : Fin (k0_t3_loop v41 v43).trips, ∀ (k0_h6 : k0_cond6 i v2 v11 = 1#1), ∀ (k0_h10 : k0_cond10 v41 v43 k0_t3 = 1#1), 128 ∣ (k0_mult46 i v11).toNat) ∧
  (∀ k0_t3 : Fin (k0_t3_loop v41 v43).trips, ∀ (k0_h6 : k0_cond6 i v2 v11 = 1#1), ∀ (k0_h10 : k0_cond10 v41 v43 k0_t3 = 1#1), ∀ a, (k0_off56 v41 v43 k0_t3) a + S1x1.size a ≤ S2x2.size a) ∧
  (∀ k0_t3 : Fin (k0_t3_loop v41 v43).trips, ∀ (k0_h6 : k0_cond6 i v2 v11 = 1#1), ∀ (k0_h10 : k0_cond10 v41 v43 k0_t3 = 1#1), ∀ a, (k0_off57 v41 v43 k0_t3) a + S1x1x256x1408.size a ≤ S2x2x256x1408.size a) ∧
  (∀ k0_t3 : Fin (k0_t3_loop v41 v43).trips, ∀ (k0_h6 : k0_cond6 i v2 v11 = 1#1), ∀ (k0_h10 : k0_cond10 v41 v43 k0_t3 = 1#1), ∀ a, (k0_off58 i v11 v18 v41 v43 k0_t3) a + S1x256x1408.size a ≤ S8x2048x5632.size a)
def k0_chk4 (i : grid0.Coords) (v2 : BitVec 32) (v4 : BitVec 32) (v7 : BitVec 32) (v11 : BitVec 32) (v18 : BitVec 32) (v41 : BitVec 32) (v43 : BitVec 32) : Prop :=
  k0_chk4_0 i v2 v4 v7 v11 v18 v41 v43 ∧
  k0_chk4_1 i v2 v4 v7 v11 v18 v41 v43
theorem k0_t2_ok : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43), ∀ (k0_h6 : k0_cond6 i v2 v11 = 1#1), (k0_t2_loop v41 v43).OK := fun i v2 v4 v7 v11 v18 v41 v43 k0_hw4 k0_h6 => k0_hw4.1.1 k0_h6
theorem k0_mult27_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), 256 ∣ (k0_mult27 v41 v43 k0_t2).toNat := fun i v2 v4 v7 v11 v18 v41 v43 k0_hw4 k0_t2 k0_h6 => k0_hw4.1.2.1 k0_t2 k0_h6
theorem k0_mult28_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), 128 ∣ (k0_mult28 i v11).toNat := fun i v2 v4 v7 v11 v18 v41 v43 k0_hw4 k0_t2 k0_h6 => k0_hw4.1.2.2.1 k0_t2 k0_h6
theorem k0_off29_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), ∀ a, (k0_off29 v41 v43 k0_t2) a + S1x1.size a ≤ S2x2.size a := fun i v2 v4 v7 v11 v18 v41 v43 k0_hw4 k0_t2 k0_h6 => k0_hw4.1.2.2.2.1 k0_t2 k0_h6
theorem k0_off30_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), ∀ a, (k0_off30 v41 v43 k0_t2) a + S1x1x256x1408.size a ≤ S2x2x256x1408.size a := fun i v2 v4 v7 v11 v18 v41 v43 k0_hw4 k0_t2 k0_h6 => k0_hw4.1.2.2.2.2.1 k0_t2 k0_h6
theorem k0_off31_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), ∀ a, (k0_off31 i v11 v18 v41 v43 k0_t2) a + S1x256x1408.size a ≤ S8x2048x5632.size a := fun i v2 v4 v7 v11 v18 v41 v43 k0_hw4 k0_t2 k0_h6 => k0_hw4.1.2.2.2.2.2.1 k0_t2 k0_h6
theorem k0_off32_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), ∀ a, (k0_off32 v41 v43 k0_t2) a + S1x1x256x1408.size a ≤ S2x2x256x1408.size a := fun i v2 v4 v7 v11 v18 v41 v43 k0_hw4 k0_t2 k0_h6 => k0_hw4.1.2.2.2.2.2.2.1 k0_t2 k0_h6
theorem k0_mult29_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), 256 ∣ (k0_mult29 v41 v43 k0_t2).toNat := fun i v2 v4 v7 v11 v18 v41 v43 k0_hw4 k0_t2 k0_h6 => k0_hw4.1.2.2.2.2.2.2.2.1 k0_t2 k0_h6
theorem k0_off33_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), ∀ a, (k0_off33 i v4 v7 v41 v43 k0_t2) a + S1x1x256x1408.size a ≤ S2x2x2048x1408.size a := fun i v2 v4 v7 v11 v18 v41 v43 k0_hw4 k0_t2 k0_h6 => k0_hw4.1.2.2.2.2.2.2.2.2.1 k0_t2 k0_h6
theorem k0_off33_packedbf16 : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), (Rect.unit (s := S2x2x2048x1408) (k0_off33 i v4 v7 v41 v43 k0_t2) S1x1x256x1408.size (k0_off33_inb i v2 v4 v7 v11 v18 v41 v43 k0_hw4 k0_t2 k0_h6)).PackedRows (EltTy.packing .bf16) := fun i v2 v4 v7 v11 v18 v41 v43 k0_hw4 k0_t2 k0_h6 => k0_hw4.1.2.2.2.2.2.2.2.2.2.1 k0_t2 k0_h6 (k0_off33_inb i v2 v4 v7 v11 v18 v41 v43 k0_hw4 k0_t2 k0_h6)
theorem k0_mult30_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), ∀ (k0_h7 : k0_cond7 v41 v43 k0_t2 = 1#1), 256 ∣ (k0_mult30 v41 v43 k0_t2).toNat := fun i v2 v4 v7 v11 v18 v41 v43 k0_hw4 k0_t2 k0_h6 k0_h7 => k0_hw4.1.2.2.2.2.2.2.2.2.2.2.1 k0_t2 k0_h6 k0_h7
theorem k0_mult31_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), ∀ (k0_h7 : k0_cond7 v41 v43 k0_t2 = 1#1), 128 ∣ (k0_mult31 i v11).toNat := fun i v2 v4 v7 v11 v18 v41 v43 k0_hw4 k0_t2 k0_h6 k0_h7 => k0_hw4.1.2.2.2.2.2.2.2.2.2.2.2.1 k0_t2 k0_h6 k0_h7
theorem k0_off34_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), ∀ (k0_h7 : k0_cond7 v41 v43 k0_t2 = 1#1), ∀ a, (k0_off34 v41 v43 k0_t2) a + S1x1.size a ≤ S2x2.size a := fun i v2 v4 v7 v11 v18 v41 v43 k0_hw4 k0_t2 k0_h6 k0_h7 => k0_hw4.1.2.2.2.2.2.2.2.2.2.2.2.2.1 k0_t2 k0_h6 k0_h7
theorem k0_off35_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), ∀ (k0_h7 : k0_cond7 v41 v43 k0_t2 = 1#1), ∀ a, (k0_off35 v41 v43 k0_t2) a + S1x1x256x1408.size a ≤ S2x2x256x1408.size a := fun i v2 v4 v7 v11 v18 v41 v43 k0_hw4 k0_t2 k0_h6 k0_h7 => k0_hw4.1.2.2.2.2.2.2.2.2.2.2.2.2.2.1 k0_t2 k0_h6 k0_h7
theorem k0_off36_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), ∀ (k0_h7 : k0_cond7 v41 v43 k0_t2 = 1#1), ∀ a, (k0_off36 i v11 v18 v41 v43 k0_t2) a + S1x256x1408.size a ≤ S8x2048x5632.size a := fun i v2 v4 v7 v11 v18 v41 v43 k0_hw4 k0_t2 k0_h6 k0_h7 => k0_hw4.1.2.2.2.2.2.2.2.2.2.2.2.2.2.2.1 k0_t2 k0_h6 k0_h7
theorem k0_mult32_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), 256 ∣ (k0_mult32 v41 v43 k0_t2).toNat := fun i v2 v4 v7 v11 v18 v41 v43 k0_hw4 k0_t2 k0_h6 => k0_hw4.1.2.2.2.2.2.2.2.2.2.2.2.2.2.2.2.1 k0_t2 k0_h6
theorem k0_mult33_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), 128 ∣ (k0_mult33 i v11).toNat := fun i v2 v4 v7 v11 v18 v41 v43 k0_hw4 k0_t2 k0_h6 => k0_hw4.1.2.2.2.2.2.2.2.2.2.2.2.2.2.2.2.2.1 k0_t2 k0_h6
theorem k0_off37_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), ∀ a, (k0_off37 v41 v43 k0_t2) a + S1x1.size a ≤ S2x2.size a := fun i v2 v4 v7 v11 v18 v41 v43 k0_hw4 k0_t2 k0_h6 => k0_hw4.1.2.2.2.2.2.2.2.2.2.2.2.2.2.2.2.2.2.1 k0_t2 k0_h6
theorem k0_off38_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), ∀ a, (k0_off38 v41 v43 k0_t2) a + S1x1x256x1408.size a ≤ S2x2x256x1408.size a := fun i v2 v4 v7 v11 v18 v41 v43 k0_hw4 k0_t2 k0_h6 => k0_hw4.1.2.2.2.2.2.2.2.2.2.2.2.2.2.2.2.2.2.2.1 k0_t2 k0_h6
theorem k0_off39_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), ∀ a, (k0_off39 v41 v43 k0_t2) a + S1x1x256x1408.size a ≤ S2x2x256x1408.size a := fun i v2 v4 v7 v11 v18 v41 v43 k0_hw4 k0_t2 k0_h6 => k0_hw4.1.2.2.2.2.2.2.2.2.2.2.2.2.2.2.2.2.2.2.2.1 k0_t2 k0_h6
theorem k0_mult34_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), 256 ∣ (k0_mult34 v41 v43 k0_t2).toNat := fun i v2 v4 v7 v11 v18 v41 v43 k0_hw4 k0_t2 k0_h6 => k0_hw4.1.2.2.2.2.2.2.2.2.2.2.2.2.2.2.2.2.2.2.2.2.1 k0_t2 k0_h6
theorem k0_off40_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), ∀ a, (k0_off40 i v4 v7 v41 v43 k0_t2) a + S1x1x256x1408.size a ≤ S2x2x2048x1408.size a := fun i v2 v4 v7 v11 v18 v41 v43 k0_hw4 k0_t2 k0_h6 => k0_hw4.1.2.2.2.2.2.2.2.2.2.2.2.2.2.2.2.2.2.2.2.2.2.1 k0_t2 k0_h6
theorem k0_off40_packedbf16 : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), (Rect.unit (s := S2x2x2048x1408) (k0_off40 i v4 v7 v41 v43 k0_t2) S1x1x256x1408.size (k0_off40_inb i v2 v4 v7 v11 v18 v41 v43 k0_hw4 k0_t2 k0_h6)).PackedRows (EltTy.packing .bf16) := fun i v2 v4 v7 v11 v18 v41 v43 k0_hw4 k0_t2 k0_h6 => k0_hw4.1.2.2.2.2.2.2.2.2.2.2.2.2.2.2.2.2.2.2.2.2.2.2.1 k0_t2 k0_h6 (k0_off40_inb i v2 v4 v7 v11 v18 v41 v43 k0_hw4 k0_t2 k0_h6)
theorem k0_mult35_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), ∀ (k0_h8 : k0_cond8 v41 v43 k0_t2 = 1#1), 256 ∣ (k0_mult35 v41 v43 k0_t2).toNat := fun i v2 v4 v7 v11 v18 v41 v43 k0_hw4 k0_t2 k0_h6 k0_h8 => k0_hw4.1.2.2.2.2.2.2.2.2.2.2.2.2.2.2.2.2.2.2.2.2.2.2.2.1 k0_t2 k0_h6 k0_h8
theorem k0_mult36_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), ∀ (k0_h8 : k0_cond8 v41 v43 k0_t2 = 1#1), 128 ∣ (k0_mult36 i v11).toNat := fun i v2 v4 v7 v11 v18 v41 v43 k0_hw4 k0_t2 k0_h6 k0_h8 => k0_hw4.1.2.2.2.2.2.2.2.2.2.2.2.2.2.2.2.2.2.2.2.2.2.2.2.2.1 k0_t2 k0_h6 k0_h8
theorem k0_off41_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), ∀ (k0_h8 : k0_cond8 v41 v43 k0_t2 = 1#1), ∀ a, (k0_off41 v41 v43 k0_t2) a + S1x1.size a ≤ S2x2.size a := fun i v2 v4 v7 v11 v18 v41 v43 k0_hw4 k0_t2 k0_h6 k0_h8 => k0_hw4.1.2.2.2.2.2.2.2.2.2.2.2.2.2.2.2.2.2.2.2.2.2.2.2.2.2.1 k0_t2 k0_h6 k0_h8
theorem k0_off42_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), ∀ (k0_h8 : k0_cond8 v41 v43 k0_t2 = 1#1), ∀ a, (k0_off42 v41 v43 k0_t2) a + S1x1x256x1408.size a ≤ S2x2x256x1408.size a := fun i v2 v4 v7 v11 v18 v41 v43 k0_hw4 k0_t2 k0_h6 k0_h8 => k0_hw4.1.2.2.2.2.2.2.2.2.2.2.2.2.2.2.2.2.2.2.2.2.2.2.2.2.2.2.1 k0_t2 k0_h6 k0_h8
theorem k0_off43_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h6 : k0_cond6 i v2 v11 = 1#1), ∀ (k0_h8 : k0_cond8 v41 v43 k0_t2 = 1#1), ∀ a, (k0_off43 i v11 v18 v41 v43 k0_t2) a + S1x256x1408.size a ≤ S8x2048x5632.size a := fun i v2 v4 v7 v11 v18 v41 v43 k0_hw4 k0_t2 k0_h6 k0_h8 => k0_hw4.1.2.2.2.2.2.2.2.2.2.2.2.2.2.2.2.2.2.2.2.2.2.2.2.2.2.2.2.1 k0_t2 k0_h6 k0_h8
theorem k0_t3_ok : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43), ∀ (k0_h6 : k0_cond6 i v2 v11 = 1#1), (k0_t3_loop v41 v43).OK := fun i v2 v4 v7 v11 v18 v41 v43 k0_hw4 k0_h6 => k0_hw4.1.2.2.2.2.2.2.2.2.2.2.2.2.2.2.2.2.2.2.2.2.2.2.2.2.2.2.2.2.1 k0_h6
theorem k0_mult37_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), 256 ∣ (k0_mult37 v41 v43 k0_t3).toNat := fun i v2 v4 v7 v11 v18 v41 v43 k0_hw4 k0_t3 k0_h6 => k0_hw4.1.2.2.2.2.2.2.2.2.2.2.2.2.2.2.2.2.2.2.2.2.2.2.2.2.2.2.2.2.2.1 k0_t3 k0_h6
theorem k0_mult38_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), 128 ∣ (k0_mult38 i v11).toNat := fun i v2 v4 v7 v11 v18 v41 v43 k0_hw4 k0_t3 k0_h6 => k0_hw4.1.2.2.2.2.2.2.2.2.2.2.2.2.2.2.2.2.2.2.2.2.2.2.2.2.2.2.2.2.2.2.1 k0_t3 k0_h6
theorem k0_off44_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), ∀ a, (k0_off44 v41 v43 k0_t3) a + S1x1.size a ≤ S2x2.size a := fun i v2 v4 v7 v11 v18 v41 v43 k0_hw4 k0_t3 k0_h6 => k0_hw4.1.2.2.2.2.2.2.2.2.2.2.2.2.2.2.2.2.2.2.2.2.2.2.2.2.2.2.2.2.2.2.2 k0_t3 k0_h6
theorem k0_off45_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), ∀ a, (k0_off45 v41 v43 k0_t3) a + S1x1x256x1408.size a ≤ S2x2x256x1408.size a := fun i v2 v4 v7 v11 v18 v41 v43 k0_hw4 k0_t3 k0_h6 => k0_hw4.2.1 k0_t3 k0_h6
theorem k0_off46_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), ∀ a, (k0_off46 i v11 v18 v41 v43 k0_t3) a + S1x256x1408.size a ≤ S8x2048x5632.size a := fun i v2 v4 v7 v11 v18 v41 v43 k0_hw4 k0_t3 k0_h6 => k0_hw4.2.2.1 k0_t3 k0_h6
theorem k0_off47_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), ∀ a, (k0_off47 v41 v43 k0_t3) a + S1x1x256x1408.size a ≤ S2x2x256x1408.size a := fun i v2 v4 v7 v11 v18 v41 v43 k0_hw4 k0_t3 k0_h6 => k0_hw4.2.2.2.1 k0_t3 k0_h6
theorem k0_mult39_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), 256 ∣ (k0_mult39 v41 v43 k0_t3).toNat := fun i v2 v4 v7 v11 v18 v41 v43 k0_hw4 k0_t3 k0_h6 => k0_hw4.2.2.2.2.1 k0_t3 k0_h6
theorem k0_off48_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), ∀ a, (k0_off48 i v4 v7 v41 v43 k0_t3) a + S1x1x256x1408.size a ≤ S2x2x2048x1408.size a := fun i v2 v4 v7 v11 v18 v41 v43 k0_hw4 k0_t3 k0_h6 => k0_hw4.2.2.2.2.2.1 k0_t3 k0_h6
theorem k0_off48_packedbf16 : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), (Rect.unit (s := S2x2x2048x1408) (k0_off48 i v4 v7 v41 v43 k0_t3) S1x1x256x1408.size (k0_off48_inb i v2 v4 v7 v11 v18 v41 v43 k0_hw4 k0_t3 k0_h6)).PackedRows (EltTy.packing .bf16) := fun i v2 v4 v7 v11 v18 v41 v43 k0_hw4 k0_t3 k0_h6 => k0_hw4.2.2.2.2.2.2.1 k0_t3 k0_h6 (k0_off48_inb i v2 v4 v7 v11 v18 v41 v43 k0_hw4 k0_t3 k0_h6)
theorem k0_mult40_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), ∀ (k0_h9 : k0_cond9 v41 v43 k0_t3 = 1#1), 256 ∣ (k0_mult40 v41 v43 k0_t3).toNat := fun i v2 v4 v7 v11 v18 v41 v43 k0_hw4 k0_t3 k0_h6 k0_h9 => k0_hw4.2.2.2.2.2.2.2.1 k0_t3 k0_h6 k0_h9
theorem k0_mult41_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), ∀ (k0_h9 : k0_cond9 v41 v43 k0_t3 = 1#1), 128 ∣ (k0_mult41 i v11).toNat := fun i v2 v4 v7 v11 v18 v41 v43 k0_hw4 k0_t3 k0_h6 k0_h9 => k0_hw4.2.2.2.2.2.2.2.2.1 k0_t3 k0_h6 k0_h9
theorem k0_off49_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), ∀ (k0_h9 : k0_cond9 v41 v43 k0_t3 = 1#1), ∀ a, (k0_off49 v41 v43 k0_t3) a + S1x1.size a ≤ S2x2.size a := fun i v2 v4 v7 v11 v18 v41 v43 k0_hw4 k0_t3 k0_h6 k0_h9 => k0_hw4.2.2.2.2.2.2.2.2.2.1 k0_t3 k0_h6 k0_h9
theorem k0_off50_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), ∀ (k0_h9 : k0_cond9 v41 v43 k0_t3 = 1#1), ∀ a, (k0_off50 v41 v43 k0_t3) a + S1x1x256x1408.size a ≤ S2x2x256x1408.size a := fun i v2 v4 v7 v11 v18 v41 v43 k0_hw4 k0_t3 k0_h6 k0_h9 => k0_hw4.2.2.2.2.2.2.2.2.2.2.1 k0_t3 k0_h6 k0_h9
theorem k0_off51_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), ∀ (k0_h9 : k0_cond9 v41 v43 k0_t3 = 1#1), ∀ a, (k0_off51 i v11 v18 v41 v43 k0_t3) a + S1x256x1408.size a ≤ S8x2048x5632.size a := fun i v2 v4 v7 v11 v18 v41 v43 k0_hw4 k0_t3 k0_h6 k0_h9 => k0_hw4.2.2.2.2.2.2.2.2.2.2.2.1 k0_t3 k0_h6 k0_h9
theorem k0_mult42_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), 256 ∣ (k0_mult42 v41 v43 k0_t3).toNat := fun i v2 v4 v7 v11 v18 v41 v43 k0_hw4 k0_t3 k0_h6 => k0_hw4.2.2.2.2.2.2.2.2.2.2.2.2.1 k0_t3 k0_h6
theorem k0_mult43_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), 128 ∣ (k0_mult43 i v11).toNat := fun i v2 v4 v7 v11 v18 v41 v43 k0_hw4 k0_t3 k0_h6 => k0_hw4.2.2.2.2.2.2.2.2.2.2.2.2.2.1 k0_t3 k0_h6
theorem k0_off52_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), ∀ a, (k0_off52 v41 v43 k0_t3) a + S1x1.size a ≤ S2x2.size a := fun i v2 v4 v7 v11 v18 v41 v43 k0_hw4 k0_t3 k0_h6 => k0_hw4.2.2.2.2.2.2.2.2.2.2.2.2.2.2.1 k0_t3 k0_h6
theorem k0_off53_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), ∀ a, (k0_off53 v41 v43 k0_t3) a + S1x1x256x1408.size a ≤ S2x2x256x1408.size a := fun i v2 v4 v7 v11 v18 v41 v43 k0_hw4 k0_t3 k0_h6 => k0_hw4.2.2.2.2.2.2.2.2.2.2.2.2.2.2.2.1 k0_t3 k0_h6
theorem k0_off54_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), ∀ a, (k0_off54 v41 v43 k0_t3) a + S1x1x256x1408.size a ≤ S2x2x256x1408.size a := fun i v2 v4 v7 v11 v18 v41 v43 k0_hw4 k0_t3 k0_h6 => k0_hw4.2.2.2.2.2.2.2.2.2.2.2.2.2.2.2.2.1 k0_t3 k0_h6
theorem k0_mult44_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), 256 ∣ (k0_mult44 v41 v43 k0_t3).toNat := fun i v2 v4 v7 v11 v18 v41 v43 k0_hw4 k0_t3 k0_h6 => k0_hw4.2.2.2.2.2.2.2.2.2.2.2.2.2.2.2.2.2.1 k0_t3 k0_h6
theorem k0_off55_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), ∀ a, (k0_off55 i v4 v7 v41 v43 k0_t3) a + S1x1x256x1408.size a ≤ S2x2x2048x1408.size a := fun i v2 v4 v7 v11 v18 v41 v43 k0_hw4 k0_t3 k0_h6 => k0_hw4.2.2.2.2.2.2.2.2.2.2.2.2.2.2.2.2.2.2.1 k0_t3 k0_h6
theorem k0_off55_packedbf16 : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), (Rect.unit (s := S2x2x2048x1408) (k0_off55 i v4 v7 v41 v43 k0_t3) S1x1x256x1408.size (k0_off55_inb i v2 v4 v7 v11 v18 v41 v43 k0_hw4 k0_t3 k0_h6)).PackedRows (EltTy.packing .bf16) := fun i v2 v4 v7 v11 v18 v41 v43 k0_hw4 k0_t3 k0_h6 => k0_hw4.2.2.2.2.2.2.2.2.2.2.2.2.2.2.2.2.2.2.2.1 k0_t3 k0_h6 (k0_off55_inb i v2 v4 v7 v11 v18 v41 v43 k0_hw4 k0_t3 k0_h6)
theorem k0_mult45_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), ∀ (k0_h10 : k0_cond10 v41 v43 k0_t3 = 1#1), 256 ∣ (k0_mult45 v41 v43 k0_t3).toNat := fun i v2 v4 v7 v11 v18 v41 v43 k0_hw4 k0_t3 k0_h6 k0_h10 => k0_hw4.2.2.2.2.2.2.2.2.2.2.2.2.2.2.2.2.2.2.2.2.1 k0_t3 k0_h6 k0_h10
theorem k0_mult46_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), ∀ (k0_h10 : k0_cond10 v41 v43 k0_t3 = 1#1), 128 ∣ (k0_mult46 i v11).toNat := fun i v2 v4 v7 v11 v18 v41 v43 k0_hw4 k0_t3 k0_h6 k0_h10 => k0_hw4.2.2.2.2.2.2.2.2.2.2.2.2.2.2.2.2.2.2.2.2.2.1 k0_t3 k0_h6 k0_h10
theorem k0_off56_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), ∀ (k0_h10 : k0_cond10 v41 v43 k0_t3 = 1#1), ∀ a, (k0_off56 v41 v43 k0_t3) a + S1x1.size a ≤ S2x2.size a := fun i v2 v4 v7 v11 v18 v41 v43 k0_hw4 k0_t3 k0_h6 k0_h10 => k0_hw4.2.2.2.2.2.2.2.2.2.2.2.2.2.2.2.2.2.2.2.2.2.2.1 k0_t3 k0_h6 k0_h10
theorem k0_off57_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), ∀ (k0_h10 : k0_cond10 v41 v43 k0_t3 = 1#1), ∀ a, (k0_off57 v41 v43 k0_t3) a + S1x1x256x1408.size a ≤ S2x2x256x1408.size a := fun i v2 v4 v7 v11 v18 v41 v43 k0_hw4 k0_t3 k0_h6 k0_h10 => k0_hw4.2.2.2.2.2.2.2.2.2.2.2.2.2.2.2.2.2.2.2.2.2.2.2.1 k0_t3 k0_h6 k0_h10
theorem k0_off58_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h6 : k0_cond6 i v2 v11 = 1#1), ∀ (k0_h10 : k0_cond10 v41 v43 k0_t3 = 1#1), ∀ a, (k0_off58 i v11 v18 v41 v43 k0_t3) a + S1x256x1408.size a ≤ S8x2048x5632.size a := fun i v2 v4 v7 v11 v18 v41 v43 k0_hw4 k0_t3 k0_h6 k0_h10 => k0_hw4.2.2.2.2.2.2.2.2.2.2.2.2.2.2.2.2.2.2.2.2.2.2.2.2 k0_t3 k0_h6 k0_h10

def k0_cond11 (i : grid0.Coords) (v2 : BitVec 32) : BitVec 1 :=
  let arg1 : BitVec 32 := BitVec.ofNat 32 (i 1).val
  let v3 : BitVec 1 := Scalar.cmpi .slt arg1 v2
  let true_10 : BitVec 1 := 1#1
  let v36 : BitVec 1 := Scalar.xori v3 true_10
  let v37 : BitVec 32 := Scalar.extui v36
  let c0_i32_11 : BitVec 32 := 0#32
  let v38 : BitVec 1 := Scalar.cmpi .ne v37 c0_i32_11
  v38

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference2Ideal.lean ====
abbrev S8x72 : Shape := ⟨2, ![8, 72]⟩
abbrev S1 : Shape := ⟨1, ![1]⟩
abbrev S18432x2048 : Shape := ⟨2, ![18432, 2048]⟩
abbrev S8x2048x5632 : Shape := ⟨3, ![8, 2048, 5632]⟩
abbrev S1x72 : Shape := ⟨2, ![1, 72]⟩
abbrev S72 : Shape := ⟨1, ![72]⟩
abbrev S72x1 : Shape := ⟨2, ![72, 1]⟩
abbrev S72x256 : Shape := ⟨2, ![72, 256]⟩
abbrev S18432 : Shape := ⟨1, ![18432]⟩
abbrev S8 : Shape := ⟨1, ![8]⟩
abbrev S18432x1 : Shape := ⟨2, ![18432, 1]⟩
abbrev S1x8 : Shape := ⟨2, ![1, 8]⟩
abbrev S18432x8 : Shape := ⟨2, ![18432, 8]⟩
abbrev S18432x8x5632 : Shape := ⟨3, ![18432, 8, 5632]⟩
abbrev S_ : Shape := ⟨0, ![]⟩
abbrev S18432x8x1 : Shape := ⟨3, ![18432, 8, 1]⟩
abbrev S18432x5632 : Shape := ⟨2, ![18432, 5632]⟩

abbrev nBuf : Space → Nat
  | .hbm => 47
  | .vmem => 0
  | .smem => 0
  | _ => 0

abbrev bufTy : (tb : Table) → Fin (tcTables nBuf tb) → BufTy
  | .hbm, ⟨0, _⟩ => ⟨S8x72, .i32⟩
  | .hbm, ⟨1, _⟩ => ⟨S1, .i32⟩
  | .hbm, ⟨2, _⟩ => ⟨S18432x2048, .bf16⟩
  | .hbm, ⟨3, _⟩ => ⟨S8x2048x5632, .f32⟩
  | .hbm, ⟨4, _⟩ => ⟨S8x2048x5632, .f32⟩
  | .hbm, ⟨5, _⟩ => ⟨S1x72, .i32⟩
  | .hbm, ⟨6, _⟩ => ⟨S72, .i32⟩
  | .hbm, ⟨7, _⟩ => ⟨S72x1, .i32⟩
  | .hbm, ⟨8, _⟩ => ⟨S72x256, .i32⟩
  | .hbm, ⟨9, _⟩ => ⟨S18432, .i32⟩
  | .hbm, ⟨10, _⟩ => ⟨S72, .i32⟩
  | .hbm, ⟨11, _⟩ => ⟨S72x1, .i32⟩
  | .hbm, ⟨12, _⟩ => ⟨S72x256, .i32⟩
  | .hbm, ⟨13, _⟩ => ⟨S18432, .i32⟩
  | .hbm, ⟨14, _⟩ => ⟨S8, .i32⟩
  | .hbm, ⟨15, _⟩ => ⟨S18432x1, .i32⟩
  | .hbm, ⟨16, _⟩ => ⟨S1x8, .i32⟩
  | .hbm, ⟨17, _⟩ => ⟨S18432x8, .i32⟩
  | .hbm, ⟨18, _⟩ => ⟨S18432x8, .i32⟩
  | .hbm, ⟨19, _⟩ => ⟨S18432x8, .i1⟩
  | .hbm, ⟨20, _⟩ => ⟨S18432, .i32⟩
  | .hbm, ⟨21, _⟩ => ⟨S18432, .i1⟩
  | .hbm, ⟨22, _⟩ => ⟨S18432x1, .i1⟩
  | .hbm, ⟨23, _⟩ => ⟨S18432x8, .i1⟩
  | .hbm, ⟨24, _⟩ => ⟨S18432x8, .i1⟩
  | .hbm, ⟨25, _⟩ => ⟨S18432x2048, .f32⟩
  | .hbm, ⟨26, _⟩ => ⟨S18432x8x5632, .f32⟩
  | .hbm, ⟨27, _⟩ => ⟨S18432x8x5632, .f32⟩
  | .hbm, ⟨28, _⟩ => ⟨S18432x8x5632, .f32⟩
  | .hbm, ⟨29, _⟩ => ⟨S_, .f32⟩
  | .hbm, ⟨30, _⟩ => ⟨S18432x8x5632, .f32⟩
  | .hbm, ⟨31, _⟩ => ⟨S18432x8x5632, .f32⟩
  | .hbm, ⟨32, _⟩ => ⟨S_, .f32⟩
  | .hbm, ⟨33, _⟩ => ⟨S18432x8x5632, .f32⟩
  | .hbm, ⟨34, _⟩ => ⟨S18432x8x5632, .f32⟩
  | .hbm, ⟨35, _⟩ => ⟨S18432x8x5632, .f32⟩
  | .hbm, ⟨36, _⟩ => ⟨S18432x8x5632, .f32⟩
  | .hbm, ⟨37, _⟩ => ⟨S18432x8x5632, .f32⟩
  | .hbm, ⟨38, _⟩ => ⟨S18432x8x1, .i1⟩
  | .hbm, ⟨39, _⟩ => ⟨S_, .f32⟩
  | .hbm, ⟨40, _⟩ => ⟨S_, .f32⟩
  | .hbm, ⟨41, _⟩ => ⟨S18432x8x5632, .i1⟩
  | .hbm, ⟨42, _⟩ => ⟨S18432x8x5632, .f32⟩
  | .hbm, ⟨43, _⟩ => ⟨S18432x8x5632, .f32⟩
  | .hbm, ⟨44, _⟩ => ⟨S_, .f32⟩
  | .hbm, ⟨45, _⟩ => ⟨S18432x5632, .f32⟩
  | .hbm, ⟨46, _⟩ => ⟨S18432x5632, .bf16⟩
  | _, _ => ⟨S8x72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v26 : Ref sig .tc := ⟨.hbm, 43, rfl⟩
abbrev main_cst_0 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== Kernel3.lean ====
abbrev S8x72 : Shape := ⟨2, ![8, 72]⟩
abbrev S1 : Shape := ⟨1, ![1]⟩
abbrev S18432x5632 : Shape := ⟨2, ![18432, 5632]⟩
abbrev S8x5632x2048 : Shape := ⟨3, ![8, 5632, 2048]⟩
abbrev S18432x2048 : Shape := ⟨2, ![18432, 2048]⟩
abbrev S256x5632 : Shape := ⟨2, ![256, 5632]⟩
abbrev S256x1024 : Shape := ⟨2, ![256, 1024]⟩
abbrev S2x1x5632x1024 : Shape := ⟨4, ![2, 1, 5632, 1024]⟩
abbrev S2x1x512x1024 : Shape := ⟨4, ![2, 1, 512, 1024]⟩
abbrev S2x1 : Shape := ⟨2, ![2, 1]⟩
abbrev S1x1 : Shape := ⟨2, ![1, 1]⟩
abbrev S_ : Shape := ⟨0, ![]⟩
abbrev S1x1x512x1024 : Shape := ⟨4, ![1, 1, 512, 1024]⟩
abbrev S512x1024 : Shape := ⟨2, ![512, 1024]⟩
abbrev S1x512x1024 : Shape := ⟨3, ![1, 512, 1024]⟩
abbrev S1x1x5632x1024 : Shape := ⟨4, ![1, 1, 5632, 1024]⟩
abbrev S5632x1024 : Shape := ⟨2, ![5632, 1024]⟩

abbrev nBuf : Space → Nat
  | .hbm => 3
  | .vmem => 6
  | .smem => 2
  | _ => 0

abbrev bufTy : (tb : Table) → Fin (tcTables nBuf tb) → BufTy
  | .hbm, ⟨0, _⟩ => ⟨S18432x5632, .bf16⟩
  | .hbm, ⟨1, _⟩ => ⟨S8x5632x2048, .f32⟩
  | .hbm, ⟨2, _⟩ => ⟨S18432x2048, .f32⟩
  | .local _ .vmem, ⟨0, _⟩ => ⟨S256x5632, .bf16⟩
  | .local _ .vmem, ⟨1, _⟩ => ⟨S256x5632, .bf16⟩
  | .local _ .vmem, ⟨2, _⟩ => ⟨S256x1024, .f32⟩
  | .local _ .vmem, ⟨3, _⟩ => ⟨S256x1024, .f32⟩
  | .local _ .vmem, ⟨4, _⟩ => ⟨S2x1x5632x1024, .bf16⟩
  | .local _ .vmem, ⟨5, _⟩ => ⟨S2x1x512x1024, .f32⟩
  | .local _ .smem, ⟨0, _⟩ => ⟨S8x72, .i32⟩
  | .local _ .smem, ⟨1, _⟩ => ⟨S1, .i32⟩
  | _, _ => ⟨S18432x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 72], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let c0 : Index := 0#32
  let arg1 : BitVec 32 := BitVec.ofNat 32 (i 1).val
  let v0 : Index := Scalar.indexCast arg1
  ![0, v0.toNat]
def k0_off2 (i : grid0.Coords) : Fin 2 → Nat :=
  let c6 : Index := 6#32
  let arg1 : BitVec 32 := BitVec.ofNat 32 (i 1).val
  let v6 : Index := Scalar.indexCast arg1
  ![6, v6.toNat]
def k0_off3 (i : grid0.Coords) : Fin 2 → Nat :=
  let c5 : Index := 5#32
  let arg1 : BitVec 32 := BitVec.ofNat 32 (i 1).val
  let v10 : Index := Scalar.indexCast arg1
  ![5, v10.toNat]
def k0_off4 (i : grid0.Coords) : Fin 2 → Nat :=
  let c4 : Index := 4#32
  let arg1 : BitVec 32 := BitVec.ofNat 32 (i 1).val
  let v17 : Index := Scalar.indexCast arg1
  ![4, v17.toNat]
def k0_cond1 (i : grid0.Coords) : BitVec 1 :=
  let arg0 : BitVec 32 := BitVec.ofNat 32 (i 0).val
  let c0_i32 : BitVec 32 := 0#32
  let v21 : BitVec 1 := Scalar.cmpi .eq arg0 c0_i32
  let arg1 : BitVec 32 := BitVec.ofNat 32 (i 1).val
  let c0_i32_5 : BitVec 32 := 0#32
  let v22 : BitVec 1 := Scalar.cmpi .eq arg1 c0_i32_5
  let v23 : BitVec 1 := Scalar.andi v21 v22
  let v24 : BitVec 32 := Scalar.extui v23
  let c0_i32_6 : BitVec 32 := 0#32
  let v25 : BitVec 1 := Scalar.cmpi .ne v24 c0_i32_6
  v25

def k0_mult1 : BitVec 32 :=
  let c0_i32_13 : BitVec 32 := 0#32
  c0_i32_13
def k0_mult2 : BitVec 32 :=
  let c0_i32_14 : BitVec 32 := 0#32
  c0_i32_14
def k0_off5 (v1 : BitVec 32) : Fin 3 → Nat :=
  let c0_i32_13 : BitVec 32 := 0#32
  let v39 : BitVec 32 := c0_i32_13
  let c0_i32_14 : BitVec 32 := 0#32
  let v40 : BitVec 32 := c0_i32_14
  ![v1.toNat, 0, 0]

def k0_mult3 : BitVec 32 :=
  let c512_i32 : BitVec 32 := 512#32
  c512_i32
def k0_mult4 : BitVec 32 :=
  let c0_i32_21 : BitVec 32 := 0#32
  c0_i32_21
def k0_off6 (v1 : BitVec 32) : Fin 3 → Nat :=
  let c512_i32 : BitVec 32 := 512#32
  let v47 : BitVec 32 := c512_i32
  let c0_i32_21 : BitVec 32 := 0#32
  let v48 : BitVec 32 := c0_i32_21
  ![v1.toNat, 512, 0]
@[reducible] def k0_t1_loop : Scf.Loop 32 :=
  let c0_i32_28 : BitVec 32 := 0#32
  let c11_i32 : BitVec 32 := 11#32
  let v55 : BitVec 32 := Scalar.addi c0_i32_28 c11_i32
  let c1_i32_29 : BitVec 32 := 1#32
  ⟨c0_i32_28, v55, c1_i32_29⟩
def k0_mult5 (k0_t1 : Fin k0_t1_loop.trips) : BitVec 32 :=
  let c0_i32_28 : BitVec 32 := 0#32
  let c1_i32_29 : BitVec 32 := 1#32
  let arg10 : BitVec 32 := Scf.iv c0_i32_28 c1_i32_29 k0_t1
  let c512_i32_31 : BitVec 32 := 512#32
  let v56 : BitVec 32 := Scalar.muli arg10 c512_i32_31
  v56
def k0_mult6 : BitVec 32 :=
  let c0_i32_32 : BitVec 32 := 0#32
  c0_i32_32
def k0_off7 (k0_t1 : Fin k0_t1_loop.trips) : Fin 2 → Nat :=
  let c0_i32_28 : BitVec 32 := 0#32
  let c1_i32_29 : BitVec 32 := 1#32
  let arg10 : BitVec 32 := Scf.iv c0_i32_28 c1_i32_29 k0_t1
  let c1_i32_34 : BitVec 32 := 1#32
  let v60 : BitVec 32 := Scalar.andi arg10 c1_i32_34
  let c0_i32_36 : BitVec 32 := 0#32
  ![v60.toNat, 0]
def k0_off8 (k0_t1 : Fin k0_t1_loop.trips) : Fin 4 → Nat :=
  let c0_i32_28 : BitVec 32 := 0#32
  let c1_i32_29 : BitVec 32 := 1#32
  let arg10 : BitVec 32 := Scf.iv c0_i32_28 c1_i32_29 k0_t1
  let c1_i32_33 : BitVec 32 := 1#32
  let v59 : BitVec 32 := Scalar.andi arg10 c1_i32_33
  let c0_i32_35 : BitVec 32 := 0#32
  let c0_i32_37 : BitVec 32 := 0#32
  let c0_i32_38 : BitVec 32 := 0#32
  ![v59.toNat, 0, 0, 0]
def k0_off9 (v1 : BitVec 32) (k0_t1 : Fin k0_t1_loop.trips) : Fin 3 → Nat :=
  let c0_i32_28 : BitVec 32 := 0#32
  let c1_i32_29 : BitVec 32 := 1#32
  let arg10 : BitVec 32 := Scf.iv c0_i32_28 c1_i32_29 k0_t1
  let c512_i32_31 : BitVec 32 := 512#32
  let v56 : BitVec 32 := Scalar.muli arg10 c512_i32_31
  let v57 : BitVec 32 := v56
  let c0_i32_32 : BitVec 32 := 0#32
  let v58 : BitVec 32 := c0_i32_32
  ![v1.toNat, v57.toNat, 0]
def k0_off10 (k0_t1 : Fin k0_t1_loop.trips) : Fin 4 → Nat :=
  let c0_i32_28 : BitVec 32 := 0#32
  let c1_i32_29 : BitVec 32 := 1#32
  let arg10 : BitVec 32 := Scf.iv c0_i32_28 c1_i32_29 k0_t1
  let c1_i32_39 : BitVec 32 := 1#32
  let v67 : BitVec 32 := Scalar.andi arg10 c1_i32_39
  let v68 : Index := Scalar.indexCast v67
  let c0_40 : Index := 0#32
  let c0_41 : Index := 0#32
  let c0_42 : Index := 0#32
  ![v68.toNat, 0, 0, 0]
def k0_mult7 (k0_t1 : Fin k0_t1_loop.trips) : BitVec 32 :=
  let c0_i32_28 : BitVec 32 := 0#32
  let c1_i32_29 : BitVec 32 := 1#32
  let arg10 : BitVec 32 := Scf.iv c0_i32_28 c1_i32_29 k0_t1
  let c512_i32_43 : BitVec 32 := 512#32
  let v72 : BitVec 32 := Scalar.muli arg10 c512_i32_43
  v72
def k0_off11 (k0_t1 : Fin k0_t1_loop.trips) : Fin 4 → Nat :=
  let c0_44 : Index := 0#32
  let c0_45 : Index := 0#32
  let c0_i32_28 : BitVec 32 := 0#32
  let c1_i32_29 : BitVec 32 := 1#32
  let arg10 : BitVec 32 := Scf.iv c0_i32_28 c1_i32_29 k0_t1
  let c512_i32_43 : BitVec 32 := 512#32
  let v72 : BitVec 32 := Scalar.muli arg10 c512_i32_43
  let v73 : BitVec 32 := v72
  let v74 : Index := Scalar.indexCast v73
  let c0_46 : Index := 0#32
  ![0, 0, v74.toNat, 0]
def k0_cond2 (k0_t1 : Fin k0_t1_loop.trips) : BitVec 1 :=
  let c0_i32_28 : BitVec 32 := 0#32
  let c1_i32_29 : BitVec 32 := 1#32
  let arg10 : BitVec 32 := Scf.iv c0_i32_28 c1_i32_29 k0_t1
  let c2_i32 : BitVec 32 := 2#32
  let v78 : BitVec 32 := Scalar.addi arg10 c2_i32
  let c11_i32_47 : BitVec 32 := 11#32
  let v79 : BitVec 1 := Scalar.cmpi .slt v78 c11_i32_47
  let v80 : BitVec 32 := Scalar.extui v79
  let c0_i32_48 : BitVec 32 := 0#32
  let v81 : BitVec 1 := Scalar.cmpi .ne v80 c0_i32_48
  v81

def k0_mult8 (k0_t1 : Fin k0_t1_loop.trips) : BitVec 32 :=
  let c0_i32_28 : BitVec 32 := 0#32
  let c1_i32_29 : BitVec 32 := 1#32
  let arg10 : BitVec 32 := Scf.iv c0_i32_28 c1_i32_29 k0_t1
  let c2_i32_49 : BitVec 32 := 2#32
  let v82 : BitVec 32 := Scalar.addi arg10 c2_i32_49
  let c512_i32_50 : BitVec 32 := 512#32
  let v83 : BitVec 32 := Scalar.muli v82 c512_i32_50
  v83
def k0_mult9 : BitVec 32 :=
  let c0_i32_51 : BitVec 32 := 0#32
  c0_i32_51
def k0_off12 (k0_t1 : Fin k0_t1_loop.trips) : Fin 2 → Nat :=
  let c0_i32_28 : BitVec 32 := 0#32
  let c1_i32_29 : BitVec 32 := 1#32
  let arg10 : BitVec 32 := Scf.iv c0_i32_28 c1_i32_29 k0_t1
  let c2_i32_49 : BitVec 32 := 2#32
  let v82 : BitVec 32 := Scalar.addi arg10 c2_i32_49
  let c1_i32_53 : BitVec 32 := 1#32
  let v87 : BitVec 32 := Scalar.andi v82 c1_i32_53
  let c0_i32_55 : BitVec 32 := 0#32
  ![v87.toNat, 0]
def k0_off13 (k0_t1 : Fin k0_t1_loop.trips) : Fin 4 → Nat :=
  let c0_i32_28 : BitVec 32 := 0#32
  let c1_i32_29 : BitVec 32 := 1#32
  let arg10 : BitVec 32 := Scf.iv c0_i32_28 c1_i32_29 k0_t1
  let c2_i32_49 : BitVec 32 := 2#32
  let v82 : BitVec 32 := Scalar.addi arg10 c2_i32_49
  let c1_i32_52 : BitVec 32 := 1#32
  let v86 : BitVec 32 := Scalar.andi v82 c1_i32_52
  let c0_i32_54 : BitVec 32 := 0#32
  let c0_i32_56 : BitVec 32 := 0#32
  let c0_i32_57 : BitVec 32 := 0#32
  ![v86.toNat, 0, 0, 0]
def k0_off14 (v1 : BitVec 32) (k0_t1 : Fin k0_t1_loop.trips) : Fin 3 → Nat :=
  let c0_i32_28 : BitVec 32 := 0#32
  let c1_i32_29 : BitVec 32 := 1#32
  let arg10 : BitVec 32 := Scf.iv c0_i32_28 c1_i32_29 k0_t1
  let c2_i32_49 : BitVec 32 := 2#32
  let v82 : BitVec 32 := Scalar.addi arg10 c2_i32_49
  let c512_i32_50 : BitVec 32 := 512#32
  let v83 : BitVec 32 := Scalar.muli v82 c512_i32_50
  let v84 : BitVec 32 := v83
  let c0_i32_51 : BitVec 32 := 0#32
  let v85 : BitVec 32 := c0_i32_51
  ![v1.toNat, v84.toNat, 0]

def k0_chk1 (i : grid0.Coords) (v1 : BitVec 32) : Prop :=
  (∀ (k0_h1 : k0_cond1 i = 1#1), ∀ a, (k0_off5 v1) a + S1x512x1024.size a ≤ S8x5632x2048.size a) ∧
  (∀ (k0_h1 : k0_cond1 i = 1#1), ∀ a, (k0_off6 v1) a + S1x512x1024.size a ≤ S8x5632x2048.size a) ∧
  (∀ k0_t1 : Fin k0_t1_loop.trips, ∀ (k0_h1 : k0_cond1 i = 1#1), ∀ a, (k0_off9 v1 k0_t1) a + S1x512x1024.size a ≤ S8x5632x2048.size a) ∧
  (∀ k0_t1 : Fin k0_t1_loop.trips, ∀ (k0_h1 : k0_cond1 i = 1#1), ∀ (k0_h2 : k0_cond2 k0_t1 = 1#1), ∀ a, (k0_off14 v1 k0_t1) a + S1x512x1024.size a ≤ S8x5632x2048.size a)
theorem k0_off5_inb : ∀ (i : grid0.Coords) (v1 : BitVec 32) (k0_hw1 : k0_chk1 i v1), ∀ (k0_h1 : k0_cond1 i = 1#1), ∀ a, (k0_off5 v1) a + S1x512x1024.size a ≤ S8x5632x2048.size a := fun i v1 k0_hw1 k0_h1 => k0_hw1.1 k0_h1
theorem k0_off6_inb : ∀ (i : grid0.Coords) (v1 : BitVec 32) (k0_hw1 : k0_chk1 i v1), ∀ (k0_h1 : k0_cond1 i = 1#1), ∀ a, (k0_off6 v1) a + S1x512x1024.size a ≤ S8x5632x2048.size a := fun i v1 k0_hw1 k0_h1 => k0_hw1.2.1 k0_h1
theorem k0_off9_inb : ∀ (i : grid0.Coords) (v1 : BitVec 32) (k0_hw1 : k0_chk1 i v1) (k0_t1 : Fin k0_t1_loop.trips), ∀ (k0_h1 : k0_cond1 i = 1#1), ∀ a, (k0_off9 v1 k0_t1) a + S1x512x1024.size a ≤ S8x5632x2048.size a := fun i v1 k0_hw1 k0_t1 k0_h1 => k0_hw1.2.2.1 k0_t1 k0_h1
theorem k0_off14_inb : ∀ (i : grid0.Coords) (v1 : BitVec 32) (k0_hw1 : k0_chk1 i v1) (k0_t1 : Fin k0_t1_loop.trips), ∀ (k0_h1 : k0_cond1 i = 1#1), ∀ (k0_h2 : k0_cond2 k0_t1 = 1#1), ∀ a, (k0_off14 v1 k0_t1) a + S1x512x1024.size a ≤ S8x5632x2048.size a := fun i v1 k0_hw1 k0_t1 k0_h1 k0_h2 => k0_hw1.2.2.2 k0_t1 k0_h1 k0_h2

def k0_off15 (i : grid0.Coords) : Fin 2 → Nat :=
  let c1 : Index := 1#32
  let arg1 : BitVec 32 := BitVec.ofNat 32 (i 1).val
  let v26 : Index := Scalar.indexCast arg1
  ![1, v26.toNat]
def k0_mult10 : BitVec 32 :=
  let c0_i32_13 : BitVec 32 := 0#32
  c0_i32_13
def k0_mult11 (i : grid0.Coords) (v11 : BitVec 32) : BitVec 32 :=
  let c1_i32_2 : BitVec 32 := 1#32
  let v12 : BitVec 1 := Scalar.cmpi .eq v11 c1_i32_2
  let arg0 : BitVec 32 := BitVec.ofNat 32 (i 0).val
  let c1_i32_4 : BitVec 32 := 1#32
  let v19 : BitVec 32 := Scalar.addi arg0 c1_i32_4
  let v20 : BitVec 32 := Scalar.select v12 v19 arg0
  let c1024_i32 : BitVec 32 := 1024#32
  let v40 : BitVec 32 := Scalar.muli v20 c1024_i32
  v40
def k0_cond3 (i : grid0.Coords) (v2 : BitVec 32) (v11 : BitVec 32) (v27 : BitVec 32) : BitVec 1 :=
  let arg1 : BitVec 32 := BitVec.ofNat 32 (i 1).val
  let v3 : BitVec 1 := Scalar.cmpi .slt arg1 v2
  let c1_i32_2 : BitVec 32 := 1#32
  let v12 : BitVec 1 := Scalar.cmpi .eq v11 c1_i32_2
  let arg0 : BitVec 32 := BitVec.ofNat 32 (i 0).val
  let c1_i32_3 : BitVec 32 := 1#32
  let v13 : BitVec 1 := Scalar.cmpi .eq arg0 c1_i32_3
  let v14 : BitVec 1 := Scalar.andi v12 v13
  let v_true : BitVec 1 := 1#1
  let v15 : BitVec 1 := Scalar.xori v14 v_true
  let v16 : BitVec 1 := Scalar.andi v3 v15
  let c1_i32_7 : BitVec 32 := 1#32
  let v28 : BitVec 1 := Scalar.cmpi .eq v27 c1_i32_7
  let v29 : BitVec 1 := Scalar.andi v16 v28
  let v30 : BitVec 32 := Scalar.extui v29
  let c0_i32_8 : BitVec 32 := 0#32
  let v31 : BitVec 1 := Scalar.cmpi .ne v30 c0_i32_8
  v31

def k0_off16 (i : grid0.Coords) (v11 : BitVec 32) (v18 : BitVec 32) : Fin 3 → Nat :=
  let c0_i32_13 : BitVec 32 := 0#32
  let v39 : BitVec 32 := c0_i32_13
  let c1_i32_2 : BitVec 32 := 1#32
  let v12 : BitVec 1 := Scalar.cmpi .eq v11 c1_i32_2
  let arg0 : BitVec 32 := BitVec.ofNat 32 (i 0).val
  let c1_i32_4 : BitVec 32 := 1#32
  let v19 : BitVec 32 := Scalar.addi arg0 c1_i32_4
  let v20 : BitVec 32 := Scalar.select v12 v19 arg0
  let c1024_i32 : BitVec 32 := 1024#32
  let v40 : BitVec 32 := Scalar.muli v20 c1024_i32
  let v41 : BitVec 32 := v40
  ![v18.toNat, 0, v41.toNat]
def k0_mult12 : BitVec 32 :=
  let c512_i32 : BitVec 32 := 512#32
  c512_i32
def k0_mult13 (i : grid0.Coords) (v11 : BitVec 32) : BitVec 32 :=
  let c1_i32_2 : BitVec 32 := 1#32
  let v12 : BitVec 1 := Scalar.cmpi .eq v11 c1_i32_2
  let arg0 : BitVec 32 := BitVec.ofNat 32 (i 0).val
  let c1_i32_4 : BitVec 32 := 1#32
  let v19 : BitVec 32 := Scalar.addi arg0 c1_i32_4
  let v20 : BitVec 32 := Scalar.select v12 v19 arg0
  let c1024_i32_20 : BitVec 32 := 1024#32
  let v49 : BitVec 32 := Scalar.muli v20 c1024_i32_20
  v49
def k0_off17 (i : grid0.Coords) (v11 : BitVec 32) (v18 : BitVec 32) : Fin 3 → Nat :=
  let c512_i32 : BitVec 32 := 512#32
  let v48 : BitVec 32 := c512_i32
  let c1_i32_2 : BitVec 32 := 1#32
  let v12 : BitVec 1 := Scalar.cmpi .eq v11 c1_i32_2
  let arg0 : BitVec 32 := BitVec.ofNat 32 (i 0).val
  let c1_i32_4 : BitVec 32 := 1#32
  let v19 : BitVec 32 := Scalar.addi arg0 c1_i32_4
  let v20 : BitVec 32 := Scalar.select v12 v19 arg0
  let c1024_i32_20 : BitVec 32 := 1024#32
  let v49 : BitVec 32 := Scalar.muli v20 c1024_i32_20
  let v50 : BitVec 32 := v49
  ![v18.toNat, 512, v50.toNat]

def k0_chk2 (i : grid0.Coords) (v2 : BitVec 32) (v11 : BitVec 32) (v18 : BitVec 32) (v27 : BitVec 32) : Prop :=
  (∀ (k0_h3 : k0_cond3 i v2 v11 v27 = 1#1), 128 ∣ (k0_mult11 i v11).toNat) ∧
  (∀ (k0_h3 : k0_cond3 i v2 v11 v27 = 1#1), ∀ a, (k0_off16 i v11 v18) a + S1x512x1024.size a ≤ S8x5632x2048.size a) ∧
  (∀ (k0_h3 : k0_cond3 i v2 v11 v27 = 1#1), 128 ∣ (k0_mult13 i v11).toNat) ∧
  (∀ (k0_h3 : k0_cond3 i v2 v11 v27 = 1#1), ∀ a, (k0_off17 i v11 v18) a + S1x512x1024.size a ≤ S8x5632x2048.size a)
theorem k0_mult11_dvd : ∀ (i : grid0.Coords) (v2 : BitVec 32) (v11 : BitVec 32) (v18 : BitVec 32) (v27 : BitVec 32) (k0_hw2 : k0_chk2 i v2 v11 v18 v27), ∀ (k0_h3 : k0_cond3 i v2 v11 v27 = 1#1), 128 ∣ (k0_mult11 i v11).toNat := fun i v2 v11 v18 v27 k0_hw2 k0_h3 => k0_hw2.1 k0_h3
theorem k0_off16_inb : ∀ (i : grid0.Coords) (v2 : BitVec 32) (v11 : BitVec 32) (v18 : BitVec 32) (v27 : BitVec 32) (k0_hw2 : k0_chk2 i v2 v11 v18 v27), ∀ (k0_h3 : k0_cond3 i v2 v11 v27 = 1#1), ∀ a, (k0_off16 i v11 v18) a + S1x512x1024.size a ≤ S8x5632x2048.size a := fun i v2 v11 v18 v27 k0_hw2 k0_h3 => k0_hw2.2.1 k0_h3
theorem k0_mult13_dvd : ∀ (i : grid0.Coords) (v2 : BitVec 32) (v11 : BitVec 32) (v18 : BitVec 32) (v27 : BitVec 32) (k0_hw2 : k0_chk2 i v2 v11 v18 v27), ∀ (k0_h3 : k0_cond3 i v2 v11 v27 = 1#1), 128 ∣ (k0_mult13 i v11).toNat := fun i v2 v11 v18 v27 k0_hw2 k0_h3 => k0_hw2.2.2.1 k0_h3
theorem k0_off17_inb : ∀ (i : grid0.Coords) (v2 : BitVec 32) (v11 : BitVec 32) (v18 : BitVec 32) (v27 : BitVec 32) (k0_hw2 : k0_chk2 i v2 v11 v18 v27), ∀ (k0_h3 : k0_cond3 i v2 v11 v27 = 1#1), ∀ a, (k0_off17 i v11 v18) a + S1x512x1024.size a ≤ S8x5632x2048.size a := fun i v2 v11 v18 v27 k0_hw2 k0_h3 => k0_hw2.2.2.2 k0_h3

def k0_off18 (i : grid0.Coords) (v4 : BitVec 32) (v7 : BitVec 32) : Fin 4 → Nat :=
  let arg0 : BitVec 32 := BitVec.ofNat 32 (i 0).val
  let v5 : BitVec 32 := Scalar.muli arg0 v4
  let v8 : BitVec 32 := Scalar.addi v5 v7
  let c1_i32 : BitVec 32 := 1#32
  let v9 : BitVec 32 := Scalar.andi v8 c1_i32
  let v40 : Index := Scalar.indexCast v9
  let c0_15 : Index := 0#32
  let c0_16 : Index := 0#32
  let c0_17 : Index := 0#32
  ![v40.toNat, 0, 0, 0]
def k0_cond4 (i : grid0.Coords) (v2 : BitVec 32) : BitVec 1 :=
  let arg1 : BitVec 32 := BitVec.ofNat 32 (i 1).val
  let v3 : BitVec 1 := Scalar.cmpi .slt arg1 v2
  let v32 : BitVec 32 := Scalar.extui v3
  let c0_i32_9 : BitVec 32 := 0#32
  let v33 : BitVec 1 := Scalar.cmpi .ne v32 c0_i32_9
  v33

def k0_chk3 (i : grid0.Coords) (v2 : BitVec 32) (v4 : BitVec 32) (v7 : BitVec 32) : Prop :=
  (∀ (k0_h4 : k0_cond4 i v2 = 1#1), ∀ a, (k0_off18 i v4 v7) a + S1x1x5632x1024.size a ≤ S2x1x5632x1024.size a)
theorem k0_off18_inb : ∀ (i : grid0.Coords) (v2 : BitVec 32) (v4 : BitVec 32) (v7 : BitVec 32) (k0_hw3 : k0_chk3 i v2 v4 v7), ∀ (k0_h4 : k0_cond4 i v2 = 1#1), ∀ a, (k0_off18 i v4 v7) a + S1x1x5632x1024.size a ≤ S2x1x5632x1024.size a := fun i v2 v4 v7 k0_hw3 k0_h4 => k0_hw3 k0_h4

def k0_off19 (i : grid0.Coords) : Fin 2 → Nat :=
  let c2 : Index := 2#32
  let arg1 : BitVec 32 := BitVec.ofNat 32 (i 1).val
  let v40 : Index := Scalar.indexCast arg1
  ![2, v40.toNat]
def k0_off20 (i : grid0.Coords) : Fin 2 → Nat :=
  let c3 : Index := 3#32
  let arg1 : BitVec 32 := BitVec.ofNat 32 (i 1).val
  let v42 : Index := Scalar.indexCast arg1
  ![3, v42.toNat]
@[reducible] def k0_t2_loop (v41 : BitVec 32) (v43 : BitVec 32) : Scf.Loop 32 :=
  let v44 : BitVec 32 := Scalar.subi v43 v41
  let c1_i32_15 : BitVec 32 := 1#32
  let v46 : BitVec 32 := Scalar.divsi v44 c1_i32_15
  let v47 : BitVec 32 := Scalar.muli v46 c1_i32_15
  let v48 : BitVec 32 := Scalar.addi v41 v47
  let c1_i32_16 : BitVec 32 := 1#32
  ⟨v41, v48, c1_i32_16⟩
def k0_cond5 (i : grid0.Coords) (v2 : BitVec 32) (v11 : BitVec 32) : BitVec 1 :=
  let arg1 : BitVec 32 := BitVec.ofNat 32 (i 1).val
  let v3 : BitVec 1 := Scalar.cmpi .slt arg1 v2
  let c1_i32_2 : BitVec 32 := 1#32
  let v12 : BitVec 1 := Scalar.cmpi .eq v11 c1_i32_2
  let arg0 : BitVec 32 := BitVec.ofNat 32 (i 0).val
  let c1_i32_3 : BitVec 32 := 1#32
  let v13 : BitVec 1 := Scalar.cmpi .eq arg0 c1_i32_3
  let v14 : BitVec 1 := Scalar.andi v12 v13
  let v_true : BitVec 1 := 1#1
  let v15 : BitVec 1 := Scalar.xori v14 v_true
  let v16 : BitVec 1 := Scalar.andi v3 v15
  let v34 : BitVec 32 := Scalar.extui v16
  let c0_i32_10 : BitVec 32 := 0#32
  let v35 : BitVec 1 := Scalar.cmpi .ne v34 c0_i32_10
  v35

def k0_mult14 (v41 : BitVec 32) (v43 : BitVec 32) (k0_t2 : Fin (k0_t2_loop v41 v43).trips) : BitVec 32 :=
  let c1_i32_16 : BitVec 32 := 1#32
  let arg10 : BitVec 32 := Scf.iv v41 c1_i32_16 k0_t2
  let c512_i32 : BitVec 32 := 512#32
  let v49 : BitVec 32 := Scalar.muli arg10 c512_i32
  v49
def k0_mult15 (i : grid0.Coords) (v11 : BitVec 32) : BitVec 32 :=
  let c1_i32_2 : BitVec 32 := 1#32
  let v12 : BitVec 1 := Scalar.cmpi .eq v11 c1_i32_2
  let arg0 : BitVec 32 := BitVec.ofNat 32 (i 0).val
  let c1_i32_4 : BitVec 32 := 1#32
  let v19 : BitVec 32 := Scalar.addi arg0 c1_i32_4
  let v20 : BitVec 32 := Scalar.select v12 v19 arg0
  let c1024_i32 : BitVec 32 := 1024#32
  let v51 : BitVec 32 := Scalar.muli v20 c1024_i32
  v51
def k0_off21 (v41 : BitVec 32) (v43 : BitVec 32) (k0_t2 : Fin (k0_t2_loop v41 v43).trips) : Fin 2 → Nat :=
  let c1_i32_16 : BitVec 32 := 1#32
  let arg10 : BitVec 32 := Scf.iv v41 c1_i32_16 k0_t2
  let c1_i32_19 : BitVec 32 := 1#32
  let v54 : BitVec 32 := Scalar.andi arg10 c1_i32_19
  let c0_i32_21 : BitVec 32 := 0#32
  ![v54.toNat, 0]
def k0_off22 (v41 : BitVec 32) (v43 : BitVec 32) (k0_t2 : Fin (k0_t2_loop v41 v43).trips) : Fin 4 → Nat :=
  let c1_i32_16 : BitVec 32 := 1#32
  let arg10 : BitVec 32 := Scf.iv v41 c1_i32_16 k0_t2
  let c1_i32_18 : BitVec 32 := 1#32
  let v53 : BitVec 32 := Scalar.andi arg10 c1_i32_18
  let c0_i32_20 : BitVec 32 := 0#32
  let c0_i32_22 : BitVec 32 := 0#32
  let c0_i32_23 : BitVec 32 := 0#32
  ![v53.toNat, 0, 0, 0]
def k0_off23 (i : grid0.Coords) (v11 : BitVec 32) (v18 : BitVec 32) (v41 : BitVec 32) (v43 : BitVec 32) (k0_t2 : Fin (k0_t2_loop v41 v43).trips) : Fin 3 → Nat :=
  let c1_i32_16 : BitVec 32 := 1#32
  let arg10 : BitVec 32 := Scf.iv v41 c1_i32_16 k0_t2
  let c512_i32 : BitVec 32 := 512#32
  let v49 : BitVec 32 := Scalar.muli arg10 c512_i32
  let v50 : BitVec 32 := v49
  let c1_i32_2 : BitVec 32 := 1#32
  let v12 : BitVec 1 := Scalar.cmpi .eq v11 c1_i32_2
  let arg0 : BitVec 32 := BitVec.ofNat 32 (i 0).val
  let c1_i32_4 : BitVec 32 := 1#32
  let v19 : BitVec 32 := Scalar.addi arg0 c1_i32_4
  let v20 : BitVec 32 := Scalar.select v12 v19 arg0
  let c1024_i32 : BitVec 32 := 1024#32
  let v51 : BitVec 32 := Scalar.muli v20 c1024_i32
  let v52 : BitVec 32 := v51
  ![v18.toNat, v50.toNat, v52.toNat]
def k0_off24 (v41 : BitVec 32) (v43 : BitVec 32) (k0_t2 : Fin (k0_t2_loop v41 v43).trips) : Fin 4 → Nat :=
  let c1_i32_16 : BitVec 32 := 1#32
  let arg10 : BitVec 32 := Scf.iv v41 c1_i32_16 k0_t2
  let c1_i32_24 : BitVec 32 := 1#32
  let v61 : BitVec 32 := Scalar.andi arg10 c1_i32_24
  let v62 : Index := Scalar.indexCast v61
  let c0_25 : Index := 0#32
  let c0_26 : Index := 0#32
  let c0_27 : Index := 0#32
  ![v62.toNat, 0, 0, 0]
def k0_mult16 (v41 : BitVec 32) (v43 : BitVec 32) (k0_t2 : Fin (k0_t2_loop v41 v43).trips) : BitVec 32 :=
  let c1_i32_16 : BitVec 32 := 1#32
  let arg10 : BitVec 32 := Scf.iv v41 c1_i32_16 k0_t2
  let c512_i32_28 : BitVec 32 := 512#32
  let v66 : BitVec 32 := Scalar.muli arg10 c512_i32_28
  v66
def k0_off25 (i : grid0.Coords) (v4 : BitVec 32) (v7 : BitVec 32) (v41 : BitVec 32) (v43 : BitVec 32) (k0_t2 : Fin (k0_t2_loop v41 v43).trips) : Fin 4 → Nat :=
  let c1_i32_13 : BitVec 32 := 1#32
  let arg0 : BitVec 32 := BitVec.ofNat 32 (i 0).val
  let v5 : BitVec 32 := Scalar.muli arg0 v4
  let v8 : BitVec 32 := Scalar.addi v5 v7
  let c1_i32 : BitVec 32 := 1#32
  let v9 : BitVec 32 := Scalar.andi v8 c1_i32
  let v39 : BitVec 32 := Scalar.subi c1_i32_13 v9
  let v68 : Index := Scalar.indexCast v39
  let c0_29 : Index := 0#32
  let c1_i32_16 : BitVec 32 := 1#32
  let arg10 : BitVec 32 := Scf.iv v41 c1_i32_16 k0_t2
  let c512_i32_28 : BitVec 32 := 512#32
  let v66 : BitVec 32 := Scalar.muli arg10 c512_i32_28
  let v67 : BitVec 32 := v66
  let v69 : Index := Scalar.indexCast v67
  let c0_30 : Index := 0#32
  ![v68.toNat, 0, v69.toNat, 0]
def k0_mult17 (v41 : BitVec 32) (v43 : BitVec 32) (k0_t2 : Fin (k0_t2_loop v41 v43).trips) : BitVec 32 :=
  let c1_i32_16 : BitVec 32 := 1#32
  let arg10 : BitVec 32 := Scf.iv v41 c1_i32_16 k0_t2
  let c2_i32_32 : BitVec 32 := 2#32
  let v77 : BitVec 32 := Scalar.addi arg10 c2_i32_32
  let c512_i32_33 : BitVec 32 := 512#32
  let v78 : BitVec 32 := Scalar.muli v77 c512_i32_33
  v78
def k0_cond6 (v41 : BitVec 32) (v43 : BitVec 32) (k0_t2 : Fin (k0_t2_loop v41 v43).trips) : BitVec 1 :=
  let c1_i32_16 : BitVec 32 := 1#32
  let arg10 : BitVec 32 := Scf.iv v41 c1_i32_16 k0_t2
  let c2_i32 : BitVec 32 := 2#32
  let v73 : BitVec 32 := Scalar.addi arg10 c2_i32
  let c11_i32 : BitVec 32 := 11#32
  let v74 : BitVec 1 := Scalar.cmpi .slt v73 c11_i32
  let v75 : BitVec 32 := Scalar.extui v74
  let c0_i32_31 : BitVec 32 := 0#32
  let v76 : BitVec 1 := Scalar.cmpi .ne v75 c0_i32_31
  v76

def k0_mult18 (i : grid0.Coords) (v11 : BitVec 32) : BitVec 32 :=
  let c1_i32_2 : BitVec 32 := 1#32
  let v12 : BitVec 1 := Scalar.cmpi .eq v11 c1_i32_2
  let arg0 : BitVec 32 := BitVec.ofNat 32 (i 0).val
  let c1_i32_4 : BitVec 32 := 1#32
  let v19 : BitVec 32 := Scalar.addi arg0 c1_i32_4
  let v20 : BitVec 32 := Scalar.select v12 v19 arg0
  let c1024_i32_34 : BitVec 32 := 1024#32
  let v80 : BitVec 32 := Scalar.muli v20 c1024_i32_34
  v80
def k0_off26 (v41 : BitVec 32) (v43 : BitVec 32) (k0_t2 : Fin (k0_t2_loop v41 v43).trips) : Fin 2 → Nat :=
  let c1_i32_16 : BitVec 32 := 1#32
  let arg10 : BitVec 32 := Scf.iv v41 c1_i32_16 k0_t2
  let c2_i32_32 : BitVec 32 := 2#32
  let v77 : BitVec 32 := Scalar.addi arg10 c2_i32_32
  let c1_i32_36 : BitVec 32 := 1#32
  let v83 : BitVec 32 := Scalar.andi v77 c1_i32_36
  let c0_i32_38 : BitVec 32 := 0#32
  ![v83.toNat, 0]
def k0_off27 (v41 : BitVec 32) (v43 : BitVec 32) (k0_t2 : Fin (k0_t2_loop v41 v43).trips) : Fin 4 → Nat :=
  let c1_i32_16 : BitVec 32 := 1#32
  let arg10 : BitVec 32 := Scf.iv v41 c1_i32_16 k0_t2
  let c2_i32_32 : BitVec 32 := 2#32
  let v77 : BitVec 32 := Scalar.addi arg10 c2_i32_32
  let c1_i32_35 : BitVec 32 := 1#32
  let v82 : BitVec 32 := Scalar.andi v77 c1_i32_35
  let c0_i32_37 : BitVec 32 := 0#32
  let c0_i32_39 : BitVec 32 := 0#32
  let c0_i32_40 : BitVec 32 := 0#32
  ![v82.toNat, 0, 0, 0]
def k0_off28 (i : grid0.Coords) (v11 : BitVec 32) (v18 : BitVec 32) (v41 : BitVec 32) (v43 : BitVec 32) (k0_t2 : Fin (k0_t2_loop v41 v43).trips) : Fin 3 → Nat :=
  let c1_i32_16 : BitVec 32 := 1#32
  let arg10 : BitVec 32 := Scf.iv v41 c1_i32_16 k0_t2
  let c2_i32_32 : BitVec 32 := 2#32
  let v77 : BitVec 32 := Scalar.addi arg10 c2_i32_32
  let c512_i32_33 : BitVec 32 := 512#32
  let v78 : BitVec 32 := Scalar.muli v77 c512_i32_33
  let v79 : BitVec 32 := v78
  let c1_i32_2 : BitVec 32 := 1#32
  let v12 : BitVec 1 := Scalar.cmpi .eq v11 c1_i32_2
  let arg0 : BitVec 32 := BitVec.ofNat 32 (i 0).val
  let c1_i32_4 : BitVec 32 := 1#32
  let v19 : BitVec 32 := Scalar.addi arg0 c1_i32_4
  let v20 : BitVec 32 := Scalar.select v12 v19 arg0
  let c1024_i32_34 : BitVec 32 := 1024#32
  let v80 : BitVec 32 := Scalar.muli v20 c1024_i32_34
  let v81 : BitVec 32 := v80
  ![v18.toNat, v79.toNat, v81.toNat]
@[reducible] def k0_t3_loop (v41 : BitVec 32) (v43 : BitVec 32) : Scf.Loop 32 :=
  let v44 : BitVec 32 := Scalar.subi v43 v41
  let c1_i32_15 : BitVec 32 := 1#32
  let v46 : BitVec 32 := Scalar.divsi v44 c1_i32_15
  let v47 : BitVec 32 := Scalar.muli v46 c1_i32_15
  let v48 : BitVec 32 := Scalar.addi v41 v47
  let v45 : BitVec 32 := Scalar.addi v41 v44
  let c1_i32_17 : BitVec 32 := 1#32
  ⟨v48, v45, c1_i32_17⟩
def k0_mult19 (v41 : BitVec 32) (v43 : BitVec 32) (k0_t3 : Fin (k0_t3_loop v41 v43).trips) : BitVec 32 :=
  let v44 : BitVec 32 := Scalar.subi v43 v41
  let c1_i32_15 : BitVec 32 := 1#32
  let v46 : BitVec 32 := Scalar.divsi v44 c1_i32_15
  let v47 : BitVec 32 := Scalar.muli v46 c1_i32_15
  let v48 : BitVec 32 := Scalar.addi v41 v47
  let c1_i32_17 : BitVec 32 := 1#32
  let arg10 : BitVec 32 := Scf.iv v48 c1_i32_17 k0_t3
  let c512_i32 : BitVec 32 := 512#32
  let v49 : BitVec 32 := Scalar.muli arg10 c512_i32
  v49
def k0_mult20 (i : grid0.Coords) (v11 : BitVec 32) : BitVec 32 :=
  let c1_i32_2 : BitVec 32 := 1#32
  let v12 : BitVec 1 := Scalar.cmpi .eq v11 c1_i32_2
  let arg0 : BitVec 32 := BitVec.ofNat 32 (i 0).val
  let c1_i32_4 : BitVec 32 := 1#32
  let v19 : BitVec 32 := Scalar.addi arg0 c1_i32_4
  let v20 : BitVec 32 := Scalar.select v12 v19 arg0
  let c1024_i32 : BitVec 32 := 1024#32
  let v51 : BitVec 32 := Scalar.muli v20 c1024_i32
  v51
def k0_off29 (v41 : BitVec 32) (v43 : BitVec 32) (k0_t3 : Fin (k0_t3_loop v41 v43).trips) : Fin 2 → Nat :=
  let v44 : BitVec 32 := Scalar.subi v43 v41
  let c1_i32_15 : BitVec 32 := 1#32
  let v46 : BitVec 32 := Scalar.divsi v44 c1_i32_15
  let v47 : BitVec 32 := Scalar.muli v46 c1_i32_15
  let v48 : BitVec 32 := Scalar.addi v41 v47
  let c1_i32_17 : BitVec 32 := 1#32
  let arg10 : BitVec 32 := Scf.iv v48 c1_i32_17 k0_t3
  let c1_i32_19 : BitVec 32 := 1#32
  let v54 : BitVec 32 := Scalar.andi arg10 c1_i32_19
  let c0_i32_21 : BitVec 32 := 0#32
  ![v54.toNat, 0]
def k0_off30 (v41 : BitVec 32) (v43 : BitVec 32) (k0_t3 : Fin (k0_t3_loop v41 v43).trips) : Fin 4 → Nat :=
  let v44 : BitVec 32 := Scalar.subi v43 v41
  let c1_i32_15 : BitVec 32 := 1#32
  let v46 : BitVec 32 := Scalar.divsi v44 c1_i32_15
  let v47 : BitVec 32 := Scalar.muli v46 c1_i32_15
  let v48 : BitVec 32 := Scalar.addi v41 v47
  let c1_i32_17 : BitVec 32 := 1#32
  let arg10 : BitVec 32 := Scf.iv v48 c1_i32_17 k0_t3
  let c1_i32_18 : BitVec 32 := 1#32
  let v53 : BitVec 32 := Scalar.andi arg10 c1_i32_18
  let c0_i32_20 : BitVec 32 := 0#32
  let c0_i32_22 : BitVec 32 := 0#32
  let c0_i32_23 : BitVec 32 := 0#32
  ![v53.toNat, 0, 0, 0]
def k0_off31 (i : grid0.Coords) (v11 : BitVec 32) (v18 : BitVec 32) (v41 : BitVec 32) (v43 : BitVec 32) (k0_t3 : Fin (k0_t3_loop v41 v43).trips) : Fin 3 → Nat :=
  let v44 : BitVec 32 := Scalar.subi v43 v41
  let c1_i32_15 : BitVec 32 := 1#32
  let v46 : BitVec 32 := Scalar.divsi v44 c1_i32_15
  let v47 : BitVec 32 := Scalar.muli v46 c1_i32_15
  let v48 : BitVec 32 := Scalar.addi v41 v47
  let c1_i32_17 : BitVec 32 := 1#32
  let arg10 : BitVec 32 := Scf.iv v48 c1_i32_17 k0_t3
  let c512_i32 : BitVec 32 := 512#32
  let v49 : BitVec 32 := Scalar.muli arg10 c512_i32
  let v50 : BitVec 32 := v49
  let c1_i32_2 : BitVec 32 := 1#32
  let v12 : BitVec 1 := Scalar.cmpi .eq v11 c1_i32_2
  let arg0 : BitVec 32 := BitVec.ofNat 32 (i 0).val
  let c1_i32_4 : BitVec 32 := 1#32
  let v19 : BitVec 32 := Scalar.addi arg0 c1_i32_4
  let v20 : BitVec 32 := Scalar.select v12 v19 arg0
  let c1024_i32 : BitVec 32 := 1024#32
  let v51 : BitVec 32 := Scalar.muli v20 c1024_i32
  let v52 : BitVec 32 := v51
  ![v18.toNat, v50.toNat, v52.toNat]
def k0_off32 (v41 : BitVec 32) (v43 : BitVec 32) (k0_t3 : Fin (k0_t3_loop v41 v43).trips) : Fin 4 → Nat :=
  let v44 : BitVec 32 := Scalar.subi v43 v41
  let c1_i32_15 : BitVec 32 := 1#32
  let v46 : BitVec 32 := Scalar.divsi v44 c1_i32_15
  let v47 : BitVec 32 := Scalar.muli v46 c1_i32_15
  let v48 : BitVec 32 := Scalar.addi v41 v47
  let c1_i32_17 : BitVec 32 := 1#32
  let arg10 : BitVec 32 := Scf.iv v48 c1_i32_17 k0_t3
  let c1_i32_24 : BitVec 32 := 1#32
  let v61 : BitVec 32 := Scalar.andi arg10 c1_i32_24
  let v62 : Index := Scalar.indexCast v61
  let c0_25 : Index := 0#32
  let c0_26 : Index := 0#32
  let c0_27 : Index := 0#32
  ![v62.toNat, 0, 0, 0]
def k0_mult21 (v41 : BitVec 32) (v43 : BitVec 32) (k0_t3 : Fin (k0_t3_loop v41 v43).trips) : BitVec 32 :=
  let v44 : BitVec 32 := Scalar.subi v43 v41
  let c1_i32_15 : BitVec 32 := 1#32
  let v46 : BitVec 32 := Scalar.divsi v44 c1_i32_15
  let v47 : BitVec 32 := Scalar.muli v46 c1_i32_15
  let v48 : BitVec 32 := Scalar.addi v41 v47
  let c1_i32_17 : BitVec 32 := 1#32
  let arg10 : BitVec 32 := Scf.iv v48 c1_i32_17 k0_t3
  let c512_i32_28 : BitVec 32 := 512#32
  let v66 : BitVec 32 := Scalar.muli arg10 c512_i32_28
  v66
def k0_off33 (i : grid0.Coords) (v4 : BitVec 32) (v7 : BitVec 32) (v41 : BitVec 32) (v43 : BitVec 32) (k0_t3 : Fin (k0_t3_loop v41 v43).trips) : Fin 4 → Nat :=
  let c1_i32_13 : BitVec 32 := 1#32
  let arg0 : BitVec 32 := BitVec.ofNat 32 (i 0).val
  let v5 : BitVec 32 := Scalar.muli arg0 v4
  let v8 : BitVec 32 := Scalar.addi v5 v7
  let c1_i32 : BitVec 32 := 1#32
  let v9 : BitVec 32 := Scalar.andi v8 c1_i32
  let v39 : BitVec 32 := Scalar.subi c1_i32_13 v9
  let v68 : Index := Scalar.indexCast v39
  let c0_29 : Index := 0#32
  let v44 : BitVec 32 := Scalar.subi v43 v41
  let c1_i32_15 : BitVec 32 := 1#32
  let v46 : BitVec 32 := Scalar.divsi v44 c1_i32_15
  let v47 : BitVec 32 := Scalar.muli v46 c1_i32_15
  let v48 : BitVec 32 := Scalar.addi v41 v47
  let c1_i32_17 : BitVec 32 := 1#32
  let arg10 : BitVec 32 := Scf.iv v48 c1_i32_17 k0_t3
  let c512_i32_28 : BitVec 32 := 512#32
  let v66 : BitVec 32 := Scalar.muli arg10 c512_i32_28
  let v67 : BitVec 32 := v66
  let v69 : Index := Scalar.indexCast v67
  let c0_30 : Index := 0#32
  ![v68.toNat, 0, v69.toNat, 0]
def k0_mult22 (v41 : BitVec 32) (v43 : BitVec 32) (k0_t3 : Fin (k0_t3_loop v41 v43).trips) : BitVec 32 :=
  let v44 : BitVec 32 := Scalar.subi v43 v41
  let c1_i32_15 : BitVec 32 := 1#32
  let v46 : BitVec 32 := Scalar.divsi v44 c1_i32_15
  let v47 : BitVec 32 := Scalar.muli v46 c1_i32_15
  let v48 : BitVec 32 := Scalar.addi v41 v47
  let c1_i32_17 : BitVec 32 := 1#32
  let arg10 : BitVec 32 := Scf.iv v48 c1_i32_17 k0_t3
  let c2_i32_32 : BitVec 32 := 2#32
  let v77 : BitVec 32 := Scalar.addi arg10 c2_i32_32
  let c512_i32_33 : BitVec 32 := 512#32
  let v78 : BitVec 32 := Scalar.muli v77 c512_i32_33
  v78
def k0_cond7 (v41 : BitVec 32) (v43 : BitVec 32) (k0_t3 : Fin (k0_t3_loop v41 v43).trips) : BitVec 1 :=
  let v44 : BitVec 32 := Scalar.subi v43 v41
  let c1_i32_15 : BitVec 32 := 1#32
  let v46 : BitVec 32 := Scalar.divsi v44 c1_i32_15
  let v47 : BitVec 32 := Scalar.muli v46 c1_i32_15
  let v48 : BitVec 32 := Scalar.addi v41 v47
  let c1_i32_17 : BitVec 32 := 1#32
  let arg10 : BitVec 32 := Scf.iv v48 c1_i32_17 k0_t3
  let c2_i32 : BitVec 32 := 2#32
  let v73 : BitVec 32 := Scalar.addi arg10 c2_i32
  let c11_i32 : BitVec 32 := 11#32
  let v74 : BitVec 1 := Scalar.cmpi .slt v73 c11_i32
  let v75 : BitVec 32 := Scalar.extui v74
  let c0_i32_31 : BitVec 32 := 0#32
  let v76 : BitVec 1 := Scalar.cmpi .ne v75 c0_i32_31
  v76

def k0_mult23 (i : grid0.Coords) (v11 : BitVec 32) : BitVec 32 :=
  let c1_i32_2 : BitVec 32 := 1#32
  let v12 : BitVec 1 := Scalar.cmpi .eq v11 c1_i32_2
  let arg0 : BitVec 32 := BitVec.ofNat 32 (i 0).val
  let c1_i32_4 : BitVec 32 := 1#32
  let v19 : BitVec 32 := Scalar.addi arg0 c1_i32_4
  let v20 : BitVec 32 := Scalar.select v12 v19 arg0
  let c1024_i32_34 : BitVec 32 := 1024#32
  let v80 : BitVec 32 := Scalar.muli v20 c1024_i32_34
  v80
def k0_off34 (v41 : BitVec 32) (v43 : BitVec 32) (k0_t3 : Fin (k0_t3_loop v41 v43).trips) : Fin 2 → Nat :=
  let v44 : BitVec 32 := Scalar.subi v43 v41
  let c1_i32_15 : BitVec 32 := 1#32
  let v46 : BitVec 32 := Scalar.divsi v44 c1_i32_15
  let v47 : BitVec 32 := Scalar.muli v46 c1_i32_15
  let v48 : BitVec 32 := Scalar.addi v41 v47
  let c1_i32_17 : BitVec 32 := 1#32
  let arg10 : BitVec 32 := Scf.iv v48 c1_i32_17 k0_t3
  let c2_i32_32 : BitVec 32 := 2#32
  let v77 : BitVec 32 := Scalar.addi arg10 c2_i32_32
  let c1_i32_36 : BitVec 32 := 1#32
  let v83 : BitVec 32 := Scalar.andi v77 c1_i32_36
  let c0_i32_38 : BitVec 32 := 0#32
  ![v83.toNat, 0]
def k0_off35 (v41 : BitVec 32) (v43 : BitVec 32) (k0_t3 : Fin (k0_t3_loop v41 v43).trips) : Fin 4 → Nat :=
  let v44 : BitVec 32 := Scalar.subi v43 v41
  let c1_i32_15 : BitVec 32 := 1#32
  let v46 : BitVec 32 := Scalar.divsi v44 c1_i32_15
  let v47 : BitVec 32 := Scalar.muli v46 c1_i32_15
  let v48 : BitVec 32 := Scalar.addi v41 v47
  let c1_i32_17 : BitVec 32 := 1#32
  let arg10 : BitVec 32 := Scf.iv v48 c1_i32_17 k0_t3
  let c2_i32_32 : BitVec 32 := 2#32
  let v77 : BitVec 32 := Scalar.addi arg10 c2_i32_32
  let c1_i32_35 : BitVec 32 := 1#32
  let v82 : BitVec 32 := Scalar.andi v77 c1_i32_35
  let c0_i32_37 : BitVec 32 := 0#32
  let c0_i32_39 : BitVec 32 := 0#32
  let c0_i32_40 : BitVec 32 := 0#32
  ![v82.toNat, 0, 0, 0]
def k0_off36 (i : grid0.Coords) (v11 : BitVec 32) (v18 : BitVec 32) (v41 : BitVec 32) (v43 : BitVec 32) (k0_t3 : Fin (k0_t3_loop v41 v43).trips) : Fin 3 → Nat :=
  let v44 : BitVec 32 := Scalar.subi v43 v41
  let c1_i32_15 : BitVec 32 := 1#32
  let v46 : BitVec 32 := Scalar.divsi v44 c1_i32_15
  let v47 : BitVec 32 := Scalar.muli v46 c1_i32_15
  let v48 : BitVec 32 := Scalar.addi v41 v47
  let c1_i32_17 : BitVec 32 := 1#32
  let arg10 : BitVec 32 := Scf.iv v48 c1_i32_17 k0_t3
  let c2_i32_32 : BitVec 32 := 2#32
  let v77 : BitVec 32 := Scalar.addi arg10 c2_i32_32
  let c512_i32_33 : BitVec 32 := 512#32
  let v78 : BitVec 32 := Scalar.muli v77 c512_i32_33
  let v79 : BitVec 32 := v78
  let c1_i32_2 : BitVec 32 := 1#32
  let v12 : BitVec 1 := Scalar.cmpi .eq v11 c1_i32_2
  let arg0 : BitVec 32 := BitVec.ofNat 32 (i 0).val
  let c1_i32_4 : BitVec 32 := 1#32
  let v19 : BitVec 32 := Scalar.addi arg0 c1_i32_4
  let v20 : BitVec 32 := Scalar.select v12 v19 arg0
  let c1024_i32_34 : BitVec 32 := 1024#32
  let v80 : BitVec 32 := Scalar.muli v20 c1024_i32_34
  let v81 : BitVec 32 := v80
  ![v18.toNat, v79.toNat, v81.toNat]

def k0_chk4 (i : grid0.Coords) (v2 : BitVec 32) (v4 : BitVec 32) (v7 : BitVec 32) (v11 : BitVec 32) (v18 : BitVec 32) (v41 : BitVec 32) (v43 : BitVec 32) : Prop :=
  (∀ (k0_h5 : k0_cond5 i v2 v11 = 1#1), (k0_t2_loop v41 v43).OK) ∧
  (∀ k0_t2 : Fin (k0_t2_loop v41 v43).trips, ∀ (k0_h5 : k0_cond5 i v2 v11 = 1#1), 512 ∣ (k0_mult14 v41 v43 k0_t2).toNat) ∧
  (∀ k0_t2 : Fin (k0_t2_loop v41 v43).trips, ∀ (k0_h5 : k0_cond5 i v2 v11 = 1#1), 128 ∣ (k0_mult15 i v11).toNat) ∧
  (∀ k0_t2 : Fin (k0_t2_loop v41 v43).trips, ∀ (k0_h5 : k0_cond5 i v2 v11 = 1#1), ∀ a, (k0_off21 v41 v43 k0_t2) a + S1x1.size a ≤ S2x1.size a) ∧
  (∀ k0_t2 : Fin (k0_t2_loop v41 v43).trips, ∀ (k0_h5 : k0_cond5 i v2 v11 = 1#1), ∀ a, (k0_off22 v41 v43 k0_t2) a + S1x1x512x1024.size a ≤ S2x1x512x1024.size a) ∧
  (∀ k0_t2 : Fin (k0_t2_loop v41 v43).trips, ∀ (k0_h5 : k0_cond5 i v2 v11 = 1#1), ∀ a, (k0_off23 i v11 v18 v41 v43 k0_t2) a + S1x512x1024.size a ≤ S8x5632x2048.size a) ∧
  (∀ k0_t2 : Fin (k0_t2_loop v41 v43).trips, ∀ (k0_h5 : k0_cond5 i v2 v11 = 1#1), ∀ a, (k0_off24 v41 v43 k0_t2) a + S1x1x512x1024.size a ≤ S2x1x512x1024.size a) ∧
  (∀ k0_t2 : Fin (k0_t2_loop v41 v43).trips, ∀ (k0_h5 : k0_cond5 i v2 v11 = 1#1), 512 ∣ (k0_mult16 v41 v43 k0_t2).toNat) ∧
  (∀ k0_t2 : Fin (k0_t2_loop v41 v43).trips, ∀ (k0_h5 : k0_cond5 i v2 v11 = 1#1), ∀ a, (k0_off25 i v4 v7 v41 v43 k0_t2) a + S1x1x512x1024.size a ≤ S2x1x5632x1024.size a) ∧
  (∀ k0_t2 : Fin (k0_t2_loop v41 v43).trips, ∀ (k0_h5 : k0_cond5 i v2 v11 = 1#1), ∀ (hinb : ∀ a, (k0_off25 i v4 v7 v41 v43 k0_t2) a + S1x1x512x1024.size a ≤ S2x1x5632x1024.size a), (Rect.unit (s := S2x1x5632x1024) (k0_off25 i v4 v7 v41 v43 k0_t2) S1x1x512x1024.size hinb).PackedRows (EltTy.packing .bf16)) ∧
  (∀ k0_t2 : Fin (k0_t2_loop v41 v43).trips, ∀ (k0_h5 : k0_cond5 i v2 v11 = 1#1), ∀ (k0_h6 : k0_cond6 v41 v43 k0_t2 = 1#1), 512 ∣ (k0_mult17 v41 v43 k0_t2).toNat) ∧
  (∀ k0_t2 : Fin (k0_t2_loop v41 v43).trips, ∀ (k0_h5 : k0_cond5 i v2 v11 = 1#1), ∀ (k0_h6 : k0_cond6 v41 v43 k0_t2 = 1#1), 128 ∣ (k0_mult18 i v11).toNat) ∧
  (∀ k0_t2 : Fin (k0_t2_loop v41 v43).trips, ∀ (k0_h5 : k0_cond5 i v2 v11 = 1#1), ∀ (k0_h6 : k0_cond6 v41 v43 k0_t2 = 1#1), ∀ a, (k0_off26 v41 v43 k0_t2) a + S1x1.size a ≤ S2x1.size a) ∧
  (∀ k0_t2 : Fin (k0_t2_loop v41 v43).trips, ∀ (k0_h5 : k0_cond5 i v2 v11 = 1#1), ∀ (k0_h6 : k0_cond6 v41 v43 k0_t2 = 1#1), ∀ a, (k0_off27 v41 v43 k0_t2) a + S1x1x512x1024.size a ≤ S2x1x512x1024.size a) ∧
  (∀ k0_t2 : Fin (k0_t2_loop v41 v43).trips, ∀ (k0_h5 : k0_cond5 i v2 v11 = 1#1), ∀ (k0_h6 : k0_cond6 v41 v43 k0_t2 = 1#1), ∀ a, (k0_off28 i v11 v18 v41 v43 k0_t2) a + S1x512x1024.size a ≤ S8x5632x2048.size a) ∧
  (∀ (k0_h5 : k0_cond5 i v2 v11 = 1#1), (k0_t3_loop v41 v43).OK) ∧
  (∀ k0_t3 : Fin (k0_t3_loop v41 v43).trips, ∀ (k0_h5 : k0_cond5 i v2 v11 = 1#1), 512 ∣ (k0_mult19 v41 v43 k0_t3).toNat) ∧
  (∀ k0_t3 : Fin (k0_t3_loop v41 v43).trips, ∀ (k0_h5 : k0_cond5 i v2 v11 = 1#1), 128 ∣ (k0_mult20 i v11).toNat) ∧
  (∀ k0_t3 : Fin (k0_t3_loop v41 v43).trips, ∀ (k0_h5 : k0_cond5 i v2 v11 = 1#1), ∀ a, (k0_off29 v41 v43 k0_t3) a + S1x1.size a ≤ S2x1.size a) ∧
  (∀ k0_t3 : Fin (k0_t3_loop v41 v43).trips, ∀ (k0_h5 : k0_cond5 i v2 v11 = 1#1), ∀ a, (k0_off30 v41 v43 k0_t3) a + S1x1x512x1024.size a ≤ S2x1x512x1024.size a) ∧
  (∀ k0_t3 : Fin (k0_t3_loop v41 v43).trips, ∀ (k0_h5 : k0_cond5 i v2 v11 = 1#1), ∀ a, (k0_off31 i v11 v18 v41 v43 k0_t3) a + S1x512x1024.size a ≤ S8x5632x2048.size a) ∧
  (∀ k0_t3 : Fin (k0_t3_loop v41 v43).trips, ∀ (k0_h5 : k0_cond5 i v2 v11 = 1#1), ∀ a, (k0_off32 v41 v43 k0_t3) a + S1x1x512x1024.size a ≤ S2x1x512x1024.size a) ∧
  (∀ k0_t3 : Fin (k0_t3_loop v41 v43).trips, ∀ (k0_h5 : k0_cond5 i v2 v11 = 1#1), 512 ∣ (k0_mult21 v41 v43 k0_t3).toNat) ∧
  (∀ k0_t3 : Fin (k0_t3_loop v41 v43).trips, ∀ (k0_h5 : k0_cond5 i v2 v11 = 1#1), ∀ a, (k0_off33 i v4 v7 v41 v43 k0_t3) a + S1x1x512x1024.size a ≤ S2x1x5632x1024.size a) ∧
  (∀ k0_t3 : Fin (k0_t3_loop v41 v43).trips, ∀ (k0_h5 : k0_cond5 i v2 v11 = 1#1), ∀ (hinb : ∀ a, (k0_off33 i v4 v7 v41 v43 k0_t3) a + S1x1x512x1024.size a ≤ S2x1x5632x1024.size a), (Rect.unit (s := S2x1x5632x1024) (k0_off33 i v4 v7 v41 v43 k0_t3) S1x1x512x1024.size hinb).PackedRows (EltTy.packing .bf16)) ∧
  (∀ k0_t3 : Fin (k0_t3_loop v41 v43).trips, ∀ (k0_h5 : k0_cond5 i v2 v11 = 1#1), ∀ (k0_h7 : k0_cond7 v41 v43 k0_t3 = 1#1), 512 ∣ (k0_mult22 v41 v43 k0_t3).toNat) ∧
  (∀ k0_t3 : Fin (k0_t3_loop v41 v43).trips, ∀ (k0_h5 : k0_cond5 i v2 v11 = 1#1), ∀ (k0_h7 : k0_cond7 v41 v43 k0_t3 = 1#1), 128 ∣ (k0_mult23 i v11).toNat) ∧
  (∀ k0_t3 : Fin (k0_t3_loop v41 v43).trips, ∀ (k0_h5 : k0_cond5 i v2 v11 = 1#1), ∀ (k0_h7 : k0_cond7 v41 v43 k0_t3 = 1#1), ∀ a, (k0_off34 v41 v43 k0_t3) a + S1x1.size a ≤ S2x1.size a) ∧
  (∀ k0_t3 : Fin (k0_t3_loop v41 v43).trips, ∀ (k0_h5 : k0_cond5 i v2 v11 = 1#1), ∀ (k0_h7 : k0_cond7 v41 v43 k0_t3 = 1#1), ∀ a, (k0_off35 v41 v43 k0_t3) a + S1x1x512x1024.size a ≤ S2x1x512x1024.size a) ∧
  (∀ k0_t3 : Fin (k0_t3_loop v41 v43).trips, ∀ (k0_h5 : k0_cond5 i v2 v11 = 1#1), ∀ (k0_h7 : k0_cond7 v41 v43 k0_t3 = 1#1), ∀ a, (k0_off36 i v11 v18 v41 v43 k0_t3) a + S1x512x1024.size a ≤ S8x5632x2048.size a)
theorem k0_t2_ok : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43), ∀ (k0_h5 : k0_cond5 i v2 v11 = 1#1), (k0_t2_loop v41 v43).OK := fun i v2 v4 v7 v11 v18 v41 v43 k0_hw4 k0_h5 => k0_hw4.1 k0_h5
theorem k0_mult14_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h5 : k0_cond5 i v2 v11 = 1#1), 512 ∣ (k0_mult14 v41 v43 k0_t2).toNat := fun i v2 v4 v7 v11 v18 v41 v43 k0_hw4 k0_t2 k0_h5 => k0_hw4.2.1 k0_t2 k0_h5
theorem k0_mult15_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h5 : k0_cond5 i v2 v11 = 1#1), 128 ∣ (k0_mult15 i v11).toNat := fun i v2 v4 v7 v11 v18 v41 v43 k0_hw4 k0_t2 k0_h5 => k0_hw4.2.2.1 k0_t2 k0_h5
theorem k0_off21_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h5 : k0_cond5 i v2 v11 = 1#1), ∀ a, (k0_off21 v41 v43 k0_t2) a + S1x1.size a ≤ S2x1.size a := fun i v2 v4 v7 v11 v18 v41 v43 k0_hw4 k0_t2 k0_h5 => k0_hw4.2.2.2.1 k0_t2 k0_h5
theorem k0_off22_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h5 : k0_cond5 i v2 v11 = 1#1), ∀ a, (k0_off22 v41 v43 k0_t2) a + S1x1x512x1024.size a ≤ S2x1x512x1024.size a := fun i v2 v4 v7 v11 v18 v41 v43 k0_hw4 k0_t2 k0_h5 => k0_hw4.2.2.2.2.1 k0_t2 k0_h5
theorem k0_off23_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h5 : k0_cond5 i v2 v11 = 1#1), ∀ a, (k0_off23 i v11 v18 v41 v43 k0_t2) a + S1x512x1024.size a ≤ S8x5632x2048.size a := fun i v2 v4 v7 v11 v18 v41 v43 k0_hw4 k0_t2 k0_h5 => k0_hw4.2.2.2.2.2.1 k0_t2 k0_h5
theorem k0_off24_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h5 : k0_cond5 i v2 v11 = 1#1), ∀ a, (k0_off24 v41 v43 k0_t2) a + S1x1x512x1024.size a ≤ S2x1x512x1024.size a := fun i v2 v4 v7 v11 v18 v41 v43 k0_hw4 k0_t2 k0_h5 => k0_hw4.2.2.2.2.2.2.1 k0_t2 k0_h5
theorem k0_mult16_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h5 : k0_cond5 i v2 v11 = 1#1), 512 ∣ (k0_mult16 v41 v43 k0_t2).toNat := fun i v2 v4 v7 v11 v18 v41 v43 k0_hw4 k0_t2 k0_h5 => k0_hw4.2.2.2.2.2.2.2.1 k0_t2 k0_h5
theorem k0_off25_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h5 : k0_cond5 i v2 v11 = 1#1), ∀ a, (k0_off25 i v4 v7 v41 v43 k0_t2) a + S1x1x512x1024.size a ≤ S2x1x5632x1024.size a := fun i v2 v4 v7 v11 v18 v41 v43 k0_hw4 k0_t2 k0_h5 => k0_hw4.2.2.2.2.2.2.2.2.1 k0_t2 k0_h5
theorem k0_off25_packedbf16 : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h5 : k0_cond5 i v2 v11 = 1#1), (Rect.unit (s := S2x1x5632x1024) (k0_off25 i v4 v7 v41 v43 k0_t2) S1x1x512x1024.size (k0_off25_inb i v2 v4 v7 v11 v18 v41 v43 k0_hw4 k0_t2 k0_h5)).PackedRows (EltTy.packing .bf16) := fun i v2 v4 v7 v11 v18 v41 v43 k0_hw4 k0_t2 k0_h5 => k0_hw4.2.2.2.2.2.2.2.2.2.1 k0_t2 k0_h5 (k0_off25_inb i v2 v4 v7 v11 v18 v41 v43 k0_hw4 k0_t2 k0_h5)
theorem k0_mult17_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h5 : k0_cond5 i v2 v11 = 1#1), ∀ (k0_h6 : k0_cond6 v41 v43 k0_t2 = 1#1), 512 ∣ (k0_mult17 v41 v43 k0_t2).toNat := fun i v2 v4 v7 v11 v18 v41 v43 k0_hw4 k0_t2 k0_h5 k0_h6 => k0_hw4.2.2.2.2.2.2.2.2.2.2.1 k0_t2 k0_h5 k0_h6
theorem k0_mult18_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h5 : k0_cond5 i v2 v11 = 1#1), ∀ (k0_h6 : k0_cond6 v41 v43 k0_t2 = 1#1), 128 ∣ (k0_mult18 i v11).toNat := fun i v2 v4 v7 v11 v18 v41 v43 k0_hw4 k0_t2 k0_h5 k0_h6 => k0_hw4.2.2.2.2.2.2.2.2.2.2.2.1 k0_t2 k0_h5 k0_h6
theorem k0_off26_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h5 : k0_cond5 i v2 v11 = 1#1), ∀ (k0_h6 : k0_cond6 v41 v43 k0_t2 = 1#1), ∀ a, (k0_off26 v41 v43 k0_t2) a + S1x1.size a ≤ S2x1.size a := fun i v2 v4 v7 v11 v18 v41 v43 k0_hw4 k0_t2 k0_h5 k0_h6 => k0_hw4.2.2.2.2.2.2.2.2.2.2.2.2.1 k0_t2 k0_h5 k0_h6
theorem k0_off27_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h5 : k0_cond5 i v2 v11 = 1#1), ∀ (k0_h6 : k0_cond6 v41 v43 k0_t2 = 1#1), ∀ a, (k0_off27 v41 v43 k0_t2) a + S1x1x512x1024.size a ≤ S2x1x512x1024.size a := fun i v2 v4 v7 v11 v18 v41 v43 k0_hw4 k0_t2 k0_h5 k0_h6 => k0_hw4.2.2.2.2.2.2.2.2.2.2.2.2.2.1 k0_t2 k0_h5 k0_h6
theorem k0_off28_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t2 : Fin (k0_t2_loop v41 v43).trips), ∀ (k0_h5 : k0_cond5 i v2 v11 = 1#1), ∀ (k0_h6 : k0_cond6 v41 v43 k0_t2 = 1#1), ∀ a, (k0_off28 i v11 v18 v41 v43 k0_t2) a + S1x512x1024.size a ≤ S8x5632x2048.size a := fun i v2 v4 v7 v11 v18 v41 v43 k0_hw4 k0_t2 k0_h5 k0_h6 => k0_hw4.2.2.2.2.2.2.2.2.2.2.2.2.2.2.1 k0_t2 k0_h5 k0_h6
theorem k0_t3_ok : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43), ∀ (k0_h5 : k0_cond5 i v2 v11 = 1#1), (k0_t3_loop v41 v43).OK := fun i v2 v4 v7 v11 v18 v41 v43 k0_hw4 k0_h5 => k0_hw4.2.2.2.2.2.2.2.2.2.2.2.2.2.2.2.1 k0_h5
theorem k0_mult19_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h5 : k0_cond5 i v2 v11 = 1#1), 512 ∣ (k0_mult19 v41 v43 k0_t3).toNat := fun i v2 v4 v7 v11 v18 v41 v43 k0_hw4 k0_t3 k0_h5 => k0_hw4.2.2.2.2.2.2.2.2.2.2.2.2.2.2.2.2.1 k0_t3 k0_h5
theorem k0_mult20_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h5 : k0_cond5 i v2 v11 = 1#1), 128 ∣ (k0_mult20 i v11).toNat := fun i v2 v4 v7 v11 v18 v41 v43 k0_hw4 k0_t3 k0_h5 => k0_hw4.2.2.2.2.2.2.2.2.2.2.2.2.2.2.2.2.2.1 k0_t3 k0_h5
theorem k0_off29_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h5 : k0_cond5 i v2 v11 = 1#1), ∀ a, (k0_off29 v41 v43 k0_t3) a + S1x1.size a ≤ S2x1.size a := fun i v2 v4 v7 v11 v18 v41 v43 k0_hw4 k0_t3 k0_h5 => k0_hw4.2.2.2.2.2.2.2.2.2.2.2.2.2.2.2.2.2.2.1 k0_t3 k0_h5
theorem k0_off30_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h5 : k0_cond5 i v2 v11 = 1#1), ∀ a, (k0_off30 v41 v43 k0_t3) a + S1x1x512x1024.size a ≤ S2x1x512x1024.size a := fun i v2 v4 v7 v11 v18 v41 v43 k0_hw4 k0_t3 k0_h5 => k0_hw4.2.2.2.2.2.2.2.2.2.2.2.2.2.2.2.2.2.2.2.1 k0_t3 k0_h5
theorem k0_off31_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h5 : k0_cond5 i v2 v11 = 1#1), ∀ a, (k0_off31 i v11 v18 v41 v43 k0_t3) a + S1x512x1024.size a ≤ S8x5632x2048.size a := fun i v2 v4 v7 v11 v18 v41 v43 k0_hw4 k0_t3 k0_h5 => k0_hw4.2.2.2.2.2.2.2.2.2.2.2.2.2.2.2.2.2.2.2.2.1 k0_t3 k0_h5
theorem k0_off32_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h5 : k0_cond5 i v2 v11 = 1#1), ∀ a, (k0_off32 v41 v43 k0_t3) a + S1x1x512x1024.size a ≤ S2x1x512x1024.size a := fun i v2 v4 v7 v11 v18 v41 v43 k0_hw4 k0_t3 k0_h5 => k0_hw4.2.2.2.2.2.2.2.2.2.2.2.2.2.2.2.2.2.2.2.2.2.1 k0_t3 k0_h5
theorem k0_mult21_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h5 : k0_cond5 i v2 v11 = 1#1), 512 ∣ (k0_mult21 v41 v43 k0_t3).toNat := fun i v2 v4 v7 v11 v18 v41 v43 k0_hw4 k0_t3 k0_h5 => k0_hw4.2.2.2.2.2.2.2.2.2.2.2.2.2.2.2.2.2.2.2.2.2.2.1 k0_t3 k0_h5
theorem k0_off33_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h5 : k0_cond5 i v2 v11 = 1#1), ∀ a, (k0_off33 i v4 v7 v41 v43 k0_t3) a + S1x1x512x1024.size a ≤ S2x1x5632x1024.size a := fun i v2 v4 v7 v11 v18 v41 v43 k0_hw4 k0_t3 k0_h5 => k0_hw4.2.2.2.2.2.2.2.2.2.2.2.2.2.2.2.2.2.2.2.2.2.2.2.1 k0_t3 k0_h5
theorem k0_off33_packedbf16 : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h5 : k0_cond5 i v2 v11 = 1#1), (Rect.unit (s := S2x1x5632x1024) (k0_off33 i v4 v7 v41 v43 k0_t3) S1x1x512x1024.size (k0_off33_inb i v2 v4 v7 v11 v18 v41 v43 k0_hw4 k0_t3 k0_h5)).PackedRows (EltTy.packing .bf16) := fun i v2 v4 v7 v11 v18 v41 v43 k0_hw4 k0_t3 k0_h5 => k0_hw4.2.2.2.2.2.2.2.2.2.2.2.2.2.2.2.2.2.2.2.2.2.2.2.2.1 k0_t3 k0_h5 (k0_off33_inb i v2 v4 v7 v11 v18 v41 v43 k0_hw4 k0_t3 k0_h5)
theorem k0_mult22_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h5 : k0_cond5 i v2 v11 = 1#1), ∀ (k0_h7 : k0_cond7 v41 v43 k0_t3 = 1#1), 512 ∣ (k0_mult22 v41 v43 k0_t3).toNat := fun i v2 v4 v7 v11 v18 v41 v43 k0_hw4 k0_t3 k0_h5 k0_h7 => k0_hw4.2.2.2.2.2.2.2.2.2.2.2.2.2.2.2.2.2.2.2.2.2.2.2.2.2.1 k0_t3 k0_h5 k0_h7
theorem k0_mult23_dvd : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h5 : k0_cond5 i v2 v11 = 1#1), ∀ (k0_h7 : k0_cond7 v41 v43 k0_t3 = 1#1), 128 ∣ (k0_mult23 i v11).toNat := fun i v2 v4 v7 v11 v18 v41 v43 k0_hw4 k0_t3 k0_h5 k0_h7 => k0_hw4.2.2.2.2.2.2.2.2.2.2.2.2.2.2.2.2.2.2.2.2.2.2.2.2.2.2.1 k0_t3 k0_h5 k0_h7
theorem k0_off34_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h5 : k0_cond5 i v2 v11 = 1#1), ∀ (k0_h7 : k0_cond7 v41 v43 k0_t3 = 1#1), ∀ a, (k0_off34 v41 v43 k0_t3) a + S1x1.size a ≤ S2x1.size a := fun i v2 v4 v7 v11 v18 v41 v43 k0_hw4 k0_t3 k0_h5 k0_h7 => k0_hw4.2.2.2.2.2.2.2.2.2.2.2.2.2.2.2.2.2.2.2.2.2.2.2.2.2.2.2.1 k0_t3 k0_h5 k0_h7
theorem k0_off35_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h5 : k0_cond5 i v2 v11 = 1#1), ∀ (k0_h7 : k0_cond7 v41 v43 k0_t3 = 1#1), ∀ a, (k0_off35 v41 v43 k0_t3) a + S1x1x512x1024.size a ≤ S2x1x512x1024.size a := fun i v2 v4 v7 v11 v18 v41 v43 k0_hw4 k0_t3 k0_h5 k0_h7 => k0_hw4.2.2.2.2.2.2.2.2.2.2.2.2.2.2.2.2.2.2.2.2.2.2.2.2.2.2.2.2.1 k0_t3 k0_h5 k0_h7
theorem k0_off36_inb : ∀ (i : grid0.Coords) (v2 : BitVec 32) (v4 : BitVec 32) (v7 : BitVec 32) (v11 : BitVec 32) (v18 : BitVec 32) (v41 : BitVec 32) (v43 : BitVec 32) (k0_hw4 : k0_chk4 i v2 v4 v7 v11 v18 v41 v43) (k0_t3 : Fin (k0_t3_loop v41 v43).trips), ∀ (k0_h5 : k0_cond5 i v2 v11 = 1#1), ∀ (k0_h7 : k0_cond7 v41 v43 k0_t3 = 1#1), ∀ a, (k0_off36 i v11 v18 v41 v43 k0_t3) a + S1x512x1024.size a ≤ S8x5632x2048.size a := fun i v2 v4 v7 v11 v18 v41 v43 k0_hw4 k0_t3 k0_h5 k0_h7 => k0_hw4.2.2.2.2.2.2.2.2.2.2.2.2.2.2.2.2.2.2.2.2.2.2.2.2.2.2.2.2.2 k0_t3 k0_h5 k0_h7

def k0_cond8 (i : grid0.Coords) (v2 : BitVec 32) : BitVec 1 :=
  let arg1 : BitVec 32 := BitVec.ofNat 32 (i 1).val
  let v3 : BitVec 1 := Scalar.cmpi .slt arg1 v2
  let true_11 : BitVec 1 := 1#1
  let v36 : BitVec 1 := Scalar.xori v3 true_11
  let v37 : BitVec 32 := Scalar.extui v36
  let c0_i32_12 : BitVec 32 := 0#32
  let v38 : BitVec 1 := Scalar.cmpi .ne v37 c0_i32_12
  v38

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference3Ideal.lean ====
abbrev S8x72 : Shape := ⟨2, ![8, 72]⟩
abbrev S1 : Shape := ⟨1, ![1]⟩
abbrev S18432x5632 : Shape := ⟨2, ![18432, 5632]⟩
abbrev S8x5632x2048 : Shape := ⟨3, ![8, 5632, 2048]⟩
abbrev S1x72 : Shape := ⟨2, ![1, 72]⟩
abbrev S72 : Shape := ⟨1, ![72]⟩
abbrev S72x1 : Shape := ⟨2, ![72, 1]⟩
abbrev S72x256 : Shape := ⟨2, ![72, 256]⟩
abbrev S18432 : Shape := ⟨1, ![18432]⟩
abbrev S8 : Shape := ⟨1, ![8]⟩
abbrev S18432x1 : Shape := ⟨2, ![18432, 1]⟩
abbrev S1x8 : Shape := ⟨2, ![1, 8]⟩
abbrev S18432x8 : Shape := ⟨2, ![18432, 8]⟩
abbrev S18432x8x2048 : Shape := ⟨3, ![18432, 8, 2048]⟩
abbrev S18432x8x1 : Shape := ⟨3, ![18432, 8, 1]⟩
abbrev S_ : Shape := ⟨0, ![]⟩
abbrev S18432x2048 : Shape := ⟨2, ![18432, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8x72, .i32⟩
  | .hbm, ⟨1, _⟩ => ⟨S1, .i32⟩
  | .hbm, ⟨2, _⟩ => ⟨S18432x5632, .bf16⟩
  | .hbm, ⟨3, _⟩ => ⟨S8x5632x2048, .f32⟩
  | .hbm, ⟨4, _⟩ => ⟨S1x72, .i32⟩
  | .hbm, ⟨5, _⟩ => ⟨S72, .i32⟩
  | .hbm, ⟨6, _⟩ => ⟨S72x1, .i32⟩
  | .hbm, ⟨7, _⟩ => ⟨S72x256, .i32⟩
  | .hbm, ⟨8, _⟩ => ⟨S18432, .i32⟩
  | .hbm, ⟨9, _⟩ => ⟨S72, .i32⟩
  | .hbm, ⟨10, _⟩ => ⟨S72x1, .i32⟩
  | .hbm, ⟨11, _⟩ => ⟨S72x256, .i32⟩
  | .hbm, ⟨12, _⟩ => ⟨S18432, .i32⟩
  | .hbm, ⟨13, _⟩ => ⟨S8, .i32⟩
  | .hbm, ⟨14, _⟩ => ⟨S18432x1, .i32⟩
  | .hbm, ⟨15, _⟩ => ⟨S1x8, .i32⟩
  | .hbm, ⟨16, _⟩ => ⟨S18432x8, .i32⟩
  | .hbm, ⟨17, _⟩ => ⟨S18432x8, .i32⟩
  | .hbm, ⟨18, _⟩ => ⟨S18432x8, .i1⟩
  | .hbm, ⟨19, _⟩ => ⟨S18432, .i32⟩
  | .hbm, ⟨20, _⟩ => ⟨S18432, .i1⟩
  | .hbm, ⟨21, _⟩ => ⟨S18432x1, .i1⟩
  | .hbm, ⟨22, _⟩ => ⟨S18432x8, .i1⟩
  | .hbm, ⟨23, _⟩ => ⟨S18432x8, .i1⟩
  | .hbm, ⟨24, _⟩ => ⟨S18432x5632, .f32⟩
  | .hbm, ⟨25, _⟩ => ⟨S18432x8x2048, .f32⟩
  | .hbm, ⟨26, _⟩ => ⟨S18432x8x1, .i1⟩
  | .hbm, ⟨27, _⟩ => ⟨S_, .f32⟩
  | .hbm, ⟨28, _⟩ => ⟨S_, .f32⟩
  | .hbm, ⟨29, _⟩ => ⟨S18432x8x2048, .i1⟩
  | .hbm, ⟨30, _⟩ => ⟨S18432x8x2048, .f32⟩
  | .hbm, ⟨31, _⟩ => ⟨S18432x8x2048, .f32⟩
  | .hbm, ⟨32, _⟩ => ⟨S_, .f32⟩
  | .hbm, ⟨33, _⟩ => ⟨S18432x2048, .f32⟩
  | _, _ => ⟨S8x72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel4.lean ====
abbrev S8192x2048 : Shape := ⟨2, ![8192, 2048]⟩
abbrev S2048x2048 : Shape := ⟨2, ![2048, 2048]⟩
abbrev S_ : Shape := ⟨0, ![]⟩
abbrev S8 : Shape := ⟨1, ![8]⟩
abbrev S1 : Shape := ⟨1, ![1]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 8
  | .smem => 2
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S_, .i32⟩
  | .hbm, ⟨4, _⟩ => ⟨S_, .i32⟩
  | .hbm, ⟨5, _⟩ => ⟨S1x2048x2048, .f32⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .smem, ⟨0, _⟩ => ⟨S8, .i32⟩
  | .local _ .smem, ⟨1, _⟩ => ⟨S1, .i32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S8) ![v0.toNat] S1.size (k0_off1_inb i)) numel1_S1
  let c0_i32 : BitVec 32 := 0#32
  let c0_i32_0 : BitVec 32 := 0#32
  ![v1.toNat, c0_i32.toNat, arg0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S8192x2048 : Shape := ⟨2, ![8192, 2048]⟩
abbrev S2048 : Shape := ⟨1, ![2048]⟩
abbrev S2048x1152 : Shape := ⟨2, ![2048, 1152]⟩
abbrev S1x2048x1152 : Shape := ⟨3, ![1, 2048, 1152]⟩
abbrev S1x2048 : Shape := ⟨2, ![1, 2048]⟩
abbrev S8192x1152 : Shape := ⟨2, ![8192, 1152]⟩
abbrev S1024x2048 : Shape := ⟨2, ![1024, 2048]⟩
abbrev S1x2048x384 : Shape := ⟨3, ![1, 2048, 384]⟩
abbrev S1024x384 : Shape := ⟨2, ![1024, 384]⟩
abbrev S1024 : Shape := ⟨1, ![1024]⟩
abbrev S1024x1 : Shape := ⟨2, ![1024, 1]⟩
abbrev S2048x384 : Shape := ⟨2, ![2048, 384]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x1152, .f32⟩
  | .hbm, ⟨3, _⟩ => ⟨S1x2048x1152, .f32⟩
  | .hbm, ⟨4, _⟩ => ⟨S1x2048, .f32⟩
  | .hbm, ⟨5, _⟩ => ⟨S8192x1152, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x384, .f32⟩
  | .local _ .vmem, ⟨4, _⟩ => ⟨S1x2048x384, .f32⟩
  | .local _ .vmem, ⟨5, _⟩ => ⟨S1024x384, .f32⟩
  | .local _ .vmem, ⟨6, _⟩ => ⟨S1024x384, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x2048 : Shape := ⟨2, ![8192, 2048]⟩
abbrev S2048 : Shape := ⟨1, ![2048]⟩
abbrev S2048x1152 : Shape := ⟨2, ![2048, 1152]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x1152 : Shape := ⟨2, ![8192, 1152]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x1152, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x1152, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel6.lean ====
abbrev S8192x1152 : Shape := ⟨2, ![8192, 1152]⟩
abbrev S512 : Shape := ⟨1, ![512]⟩
abbrev S512x4096 : Shape := ⟨2, ![512, 4096]⟩
abbrev S128 : Shape := ⟨1, ![128]⟩
abbrev S1x128 : Shape := ⟨2, ![1, 128]⟩
abbrev S8192x128 : Shape := ⟨2, ![8192, 128]⟩
abbrev S1x512 : Shape := ⟨2, ![1, 512]⟩
abbrev S2x16x4096x256 : Shape := ⟨4, ![2, 16, 4096, 256]⟩
abbrev S2x16x4096x128 : Shape := ⟨4, ![2, 16, 4096, 128]⟩
abbrev S512x512 : Shape := ⟨2, ![512, 512]⟩
abbrev S512x128 : Shape := ⟨2, ![512, 128]⟩
abbrev S512x1024 : Shape := ⟨2, ![512, 1024]⟩
abbrev S1x4x512x256 : Shape := ⟨4, ![1, 4, 512, 256]⟩
abbrev S1x4x512x128 : Shape := ⟨4, ![1, 4, 512, 128]⟩
abbrev S512x1 : Shape := ⟨2, ![512, 1]⟩
abbrev S512x256 : Shape := ⟨2, ![512, 256]⟩
abbrev S1x1x512x256 : Shape := ⟨4, ![1, 1, 512, 256]⟩
abbrev S1x1x512x128 : Shape := ⟨4, ![1, 1, 512, 128]⟩

abbrev nBuf : Space → Nat
  | .hbm => 10
  | .vmem => 16
  | .smem => 0
  | _ => 0

abbrev bufTy : (tb : Table) → Fin (tcTables nBuf tb) → BufTy
  | .hbm, ⟨0, _⟩ => ⟨S8192x1152, .f32⟩
  | .hbm, ⟨1, _⟩ => ⟨S512, .f32⟩
  | .hbm, ⟨2, _⟩ => ⟨S512x4096, .f32⟩
  | .hbm, ⟨3, _⟩ => ⟨S128, .f32⟩
  | .hbm, ⟨4, _⟩ => ⟨S1x128, .f32⟩
  | .hbm, ⟨5, _⟩ => ⟨S8192x128, .f32⟩
  | .hbm, ⟨6, _⟩ => ⟨S1x512, .f32⟩
  | .hbm, ⟨7, _⟩ => ⟨S1x128, .f32⟩
  | .hbm, ⟨8, _⟩ => ⟨S2x16x4096x256, .bf16⟩
  | .hbm, ⟨9, _⟩ => ⟨S2x16x4096x128, .bf16⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S1x512, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S1x128, .f32⟩
  | .local _ .vmem, ⟨9, _⟩ => ⟨S512x128, .f32⟩
  | .local _ .vmem, ⟨10, _⟩ => ⟨S512x128, .f32⟩
  | .local _ .vmem, ⟨11, _⟩ => ⟨S1x4x512x256, .bf16⟩
  | .local _ .vmem, ⟨12, _⟩ => ⟨S1x4x512x256, .bf16⟩
  | .local _ .vmem, ⟨13, _⟩ => ⟨S1x4x512x128, .bf16⟩
  | .local _ .vmem, ⟨14, _⟩ => ⟨S1x4x512x128, .bf16⟩
  | .local _ .vmem, ⟨15, _⟩ => ⟨S512x512, .bf16⟩
  | _, _ => ⟨S8192x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

def cc0_transform_8 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S8192x1152 : Shape := ⟨2, ![8192, 1152]⟩
abbrev S512 : Shape := ⟨1, ![512]⟩
abbrev S512x4096 : Shape := ⟨2, ![512, 4096]⟩
abbrev S128 : Shape := ⟨1, ![128]⟩
abbrev S1x128 : Shape := ⟨2, ![1, 128]⟩
abbrev S8192x128 : Shape := ⟨2, ![8192, 128]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S2x4096x512 : Shape := ⟨3, ![2, 4096, 512]⟩
abbrev S512x16x256 : Shape := ⟨3, ![512, 16, 256]⟩
abbrev S512x16x128 : Shape := ⟨3, ![512, 16, 128]⟩
abbrev S16x128x2x4096 : Shape := ⟨4, ![16, 128, 2, 4096]⟩
abbrev S2x16x4096x128 : Shape := ⟨4, ![2, 16, 4096, 128]⟩
abbrev S2x16x4096 : Shape := ⟨3, ![2, 16, 4096]⟩
abbrev S2x16x4096x1 : Shape := ⟨4, ![2, 16, 4096, 1]⟩
abbrev S1x1x1x128 : Shape := ⟨4, ![1, 1, 1, 128]⟩
abbrev S8192x64 : Shape := ⟨2, ![8192, 64]⟩
abbrev S1x64 : Shape := ⟨2, ![1, 64]⟩
abbrev S2x1x4096x64 : Shape := ⟨4, ![2, 1, 4096, 64]⟩
abbrev S2x16x4096x64 : Shape := ⟨4, ![2, 16, 4096, 64]⟩
abbrev S2x16x4096x256 : Shape := ⟨4, ![2, 16, 4096, 256]⟩

abbrev nBuf : Space → Nat
  | .hbm => 83
  | .vmem => 0
  | .smem => 0
  | _ => 0

abbrev bufTy : (tb : Table) → Fin (tcTables nBuf tb) → BufTy
  | .hbm, ⟨0, _⟩ => ⟨S8192x1152, .f32⟩
  | .hbm, ⟨1, _⟩ => ⟨S512, .f32⟩
  | .hbm, ⟨2, _⟩ => ⟨S512x4096, .f32⟩
  | .hbm, ⟨3, _⟩ => ⟨S128, .f32⟩
  | .hbm, ⟨4, _⟩ => ⟨S1x128, .f32⟩
  | .hbm, ⟨5, _⟩ => ⟨S8192x128, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x512, .f32⟩
  | .hbm, ⟨19, _⟩ => ⟨S8192x512, .f32⟩
  | .hbm, ⟨20, _⟩ => ⟨S1x512, .f32⟩
  | .hbm, ⟨21, _⟩ => ⟨S8192x512, .f32⟩
  | .hbm, ⟨22, _⟩ => ⟨S8192x512, .f32⟩
  | .hbm, ⟨23, _⟩ => ⟨S2x4096x512, .f32⟩
  | .hbm, ⟨24, _⟩ => ⟨S512x16x256, .f32⟩
  | .hbm, ⟨25, _⟩ => ⟨S512x16x128, .f32⟩
  | .hbm, ⟨26, _⟩ => ⟨S16x128x2x4096, .f32⟩
  | .hbm, ⟨27, _⟩ => ⟨S2x16x4096x128, .f32⟩
  | .hbm, ⟨28, _⟩ => ⟨S2x16x4096x128, .f32⟩
  | .hbm, ⟨29, _⟩ => ⟨S_, .f32⟩
  | .hbm, ⟨30, _⟩ => ⟨S2x16x4096, .f32⟩
  | .hbm, ⟨31, _⟩ => ⟨S2x16x4096x1, .f32⟩
  | .hbm, ⟨32, _⟩ => ⟨S_, .f32⟩
  | .hbm, ⟨33, _⟩ => ⟨S2x16x4096x1, .f32⟩
  | .hbm, ⟨34, _⟩ => ⟨S2x16x4096x1, .f32⟩
  | .hbm, ⟨35, _⟩ => ⟨S_, .f32⟩
  | .hbm, ⟨36, _⟩ => ⟨S2x16x4096x1, .f32⟩
  | .hbm, ⟨37, _⟩ => ⟨S2x16x4096x1, .f32⟩
  | .hbm, ⟨38, _⟩ => ⟨S2x16x4096x1, .f32⟩
  | .hbm, ⟨39, _⟩ => ⟨S2x16x4096x128, .f32⟩
  | .hbm, ⟨40, _⟩ => ⟨S2x16x4096x128, .f32⟩
  | .hbm, ⟨41, _⟩ => ⟨S1x1x1x128, .f32⟩
  | .hbm, ⟨42, _⟩ => ⟨S2x16x4096x128, .f32⟩
  | .hbm, ⟨43, _⟩ => ⟨S2x16x4096x128, .f32⟩
  | .hbm, ⟨44, _⟩ => ⟨S512x16x256, .f32⟩
  | .hbm, ⟨45, _⟩ => ⟨S512x16x128, .f32⟩
  | .hbm, ⟨46, _⟩ => ⟨S16x128x2x4096, .f32⟩
  | .hbm, ⟨47, _⟩ => ⟨S2x16x4096x128, .f32⟩
  | .hbm, ⟨48, _⟩ => ⟨S8192x64, .f32⟩
  | .hbm, ⟨49, _⟩ => ⟨S8192x64, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S8192x64, .f32⟩
  | .hbm, ⟨61, _⟩ => ⟨S8192x64, .f32⟩
  | .hbm, ⟨62, _⟩ => ⟨S8192x64, .f32⟩
  | .hbm, ⟨63, _⟩ => ⟨S1x64, .f32⟩
  | .hbm, ⟨64, _⟩ => ⟨S8192x64, .f32⟩
  | .hbm, ⟨65, _⟩ => ⟨S8192x64, .f32⟩
  | .hbm, ⟨66, _⟩ => ⟨S8192x64, .f32⟩
  | .hbm, ⟨67, _⟩ => ⟨S8192x64, .f32⟩
  | .hbm, ⟨68, _⟩ => ⟨S8192x64, .f32⟩
  | .hbm, ⟨69, _⟩ => ⟨S8192x64, .f32⟩
  | .hbm, ⟨70, _⟩ => ⟨S8192x64, .f32⟩
  | .hbm, ⟨71, _⟩ => ⟨S1x64, .f32⟩
  | .hbm, ⟨72, _⟩ => ⟨S8192x64, .f32⟩
  | .hbm, ⟨73, _⟩ => ⟨S8192x64, .f32⟩
  | .hbm, ⟨74, _⟩ => ⟨S8192x64, .f32⟩
  | .hbm, ⟨75, _⟩ => ⟨S8192x64, .f32⟩
  | .hbm, ⟨76, _⟩ => ⟨S2x1x4096x64, .f32⟩
  | .hbm, ⟨77, _⟩ => ⟨S2x16x4096x64, .f32⟩
  | .hbm, ⟨78, _⟩ => ⟨S_, .f32⟩
  | .hbm, ⟨79, _⟩ => ⟨S2x16x4096x64, .f32⟩
  | .hbm, ⟨80, _⟩ => ⟨S2x16x4096x256, .f32⟩
  | .hbm, ⟨81, _⟩ => ⟨S2x16x4096x256, .bf16⟩
  | .hbm, ⟨82, _⟩ => ⟨S2x16x4096x128, .bf16⟩
  | _, _ => ⟨S8192x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩

abbrev nD : Nat := 1
abbrev τ : Topo := Topo.v7x

variable {F : FTy → Type} [FloatOps F]
-- ==== Proof.Stripe.lean ====
module

public import proofs.«01_k».proof.Proof.Gen.KernelIdeal.Frame

@[expose] public section

set_option maxRecDepth 16384

/-! The two scratch arrays hold one stripe per head. Reading a stripe back from a list of writes needs only the newest write of that stripe. The
pieces of the kernel's run are matched here with ONE block step, the same for every head and every block of keys. -/

namespace Cert.KernelIdeal.Attn

open Cert.KernelIdeal Cert.KernelIdeal.Gen
open Idealize.ShloMosaic Idealize.ShloMosaic.TcCoe

section Stripes

variable {sg : RefSig} {κ : Kind} {sp : Space} {a b : ℕ} {e : EltTy} {Val : EltTy → Type}

/-- The stripe of head `h` lies inside the array of four stripes. -/
theorem stripe_inb (h : Fin 4) : ∀ x, (![h.val, 0, 0] : Fin 3 → ℕ) x + (![1, a, b] : Fin 3 → ℕ) x ≤ (⟨3, ![4, a, b]⟩ : Shape).size x := by
  intro x
  match x with
  | 0 => show h.val + 1 ≤ 4; omega
  | 1 => show 0 + a ≤ a; omega
  | 2 => show 0 + b ≤ b; omega

/-- The stripe of head `h`. -/
abbrev stripe (a b : ℕ) (h : Fin 4) : Rect (⟨3, ![4, a, b]⟩ : Shape) := Rect.unit ![h.val, 0, 0] ![1, a, b] (stripe_inb h)

/-- After the writes `L` the stripe of head `h` holds `w`, whatever the buffer held before. -/
def Holds (v : View sg κ sp (⟨3, ![4, a, b]⟩ : Shape) e) (h : Fin 4) (L : List (View.Piece Val (⟨3, ![4, a, b]⟩ : Shape) e))
    (w : (stripe a b h).shape.Idx → Val e) : Prop :=
  ∀ f, v.readAt Val (stripe a b h).toLoadRect (v.writes Val f L) = w

variable {v : View sg κ sp (⟨3, ![4, a, b]⟩ : Shape) e}

/-- The newest write is of this stripe. -/
theorem holds_hit (h : Fin 4) (w : (stripe a b h).shape.Idx → Val e) (L : List (View.Piece Val (⟨3, ![4, a, b]⟩ : Shape) e)) :
    Holds v h (⟨stripe a b h, w⟩ :: L) w :=
  fun f => funext fun x => View.read_writes_cons_emb v f (stripe a b h) w L x

/-- The newest write is of another stripe. -/
theorem holds_skip {h h' : Fin 4} (hne : h ≠ h') {w : (stripe a b h).shape.Idx → Val e} (w' : (stripe a b h').shape.Idx → Val e)
    {L : List (View.Piece Val (⟨3, ![4, a, b]⟩ : Shape) e)} (H : Holds v h L w) : Holds v h (⟨stripe a b h', w'⟩ :: L) w := by
  intro f
  rw [← H f]
  funext x
  show v.read Val (v.writes Val f (⟨stripe a b h', w'⟩ :: L)) ((stripe a b h).idx x) = v.read Val (v.writes Val f L) ((stripe a b h).idx x)
  refine View.read_writes_cons_miss_of_axis v f ⟨stripe a b h', w'⟩ L _ 0 h'.val 1 rfl rfl rfl ?_
  have hx : (x 0).val < 1 := (x 0).isLt
  have hv : (((stripe a b h).idx x) 0).val = h.val + 1 * (x 0).val := rfl
  rw [hv]
  have : h.val ≠ h'.val := fun hh => hne (Fin.ext hh)
  omega

/-- Earlier writes do not matter to a stripe that later ones hold. -/
theorem holds_append {h : Fin 4} {w : (stripe a b h).shape.Idx → Val e} {L : List (View.Piece Val (⟨3, ![4, a, b]⟩ : Shape) e)}
    (L' : List (View.Piece Val (⟨3, ![4, a, b]⟩ : Shape) e)) (H : Holds v h L w) : Holds v h (L ++ L') w := by
  intro f
  rw [View.writes_append]
  exact H _

/-- A covered load of the stripe reads what it holds. -/
theorem Holds.readCov [∀ e, Nonempty (Val e)] {h : Fin 4} {w : (stripe a b h).shape.Idx → Val e}
    {L : List (View.Piece Val (⟨3, ![4, a, b]⟩ : Shape) e)} (H : Holds v h L w) : v.readCov L (stripe a b h).toLoadRect = w :=
  H _

end Stripes

variable {F : FTy → Type} [FloatOps F]

/-! ## One block -/

/-- The running maxima of one head after a block of keys. -/
noncomputable def stepM (q k : Vec F S1x1x512x256 .bf16) (m : Vec F S1x512x128 .f32) : Vec F S1x512x128 .f32 := k0_pay10 (k0_pay7 k q m)

/-- The accumulated weighted values (and, in the last 128 lanes, weights) of one head after a block of keys. -/
noncomputable def stepA (q k : Vec F S1x1x512x256 .bf16) (v : Vec F S1x1x512x128 .bf16) (m : Vec F S1x512x128 .f32) (a : Vec F S1x512x256 .f32) :
    Vec F S1x512x256 .f32 := k0_pay9 (k0_pay8 k0_pay184 k v q m a)

/-- The running maxima after the block on the diagonal. -/
noncomputable def diagM (q k : Vec F S1x1x512x256 .bf16) (m : Vec F S1x512x128 .f32) : Vec F S1x512x128 .f32 := k0_pay167 (k0_pay164 k q m)

/-- The accumulator after the block on the diagonal. -/
noncomputable def diagA (q k : Vec F S1x1x512x256 .bf16) (v : Vec F S1x1x512x128 .bf16) (m : Vec F S1x512x128 .f32) (a : Vec F S1x512x256 .f32) :
    Vec F S1x512x256 .f32 := k0_pay166 (k0_pay165 k0_pay184 k v q m a)

/-! ## The blocks the body loads -/

/-- A block of 512 rows of head `h` at row block `n` lies inside the array. -/
theorem rows_inb {d : ℕ} (h : Fin 4) (n : Fin 8) :
    ∀ x, (![0, h.val, 512 * n.val, 0] : Fin 4 → ℕ) x + (![1, 1, 512, d] : Fin 4 → ℕ) x ≤ (⟨4, ![1, 4, 4096, d]⟩ : Shape).size x := by
  intro x
  match x with
  | 0 => show 0 + 1 ≤ 1; omega
  | 1 => show h.val + 1 ≤ 4; omega
  | 2 => show 512 * n.val + 512 ≤ 4096; omega
  | 3 => show 0 + d ≤ d; omega

/-- Row block `n` of head `h` of the keys. -/
def kBlk (x : Vec F S1x4x4096x256 .bf16) (h : Fin 4) (n : Fin 8) : Vec F S1x1x512x256 .bf16 :=
  View.ld x (Rect.unit (s := S1x4x4096x256) ![0, h.val, 512 * n.val, 0] ![1, 1, 512, 256] (rows_inb h n))

/-- Row block `n` of head `h` of the values. -/
def vBlk (x : Vec F S1x4x4096x128 .bf16) (h : Fin 4) (n : Fin 8) : Vec F S1x1x512x128 .bf16 :=
  View.ld x (Rect.unit (s := S1x4x4096x128) ![0, h.val, 512 * n.val, 0] ![1, 1, 512, 128] (rows_inb h n))

/-- Head `h` of the block of queries lies inside it. -/
theorem q_inb (h : Fin 4) : ∀ x, (![0, h.val, 0, 0] : Fin 4 → ℕ) x + (![1, 1, 512, 256] : Fin 4 → ℕ) x ≤ S1x4x512x256.size x := by
  intro x
  match x with
  | 0 => show 0 + 1 ≤ 1; omega
  | 1 => show h.val + 1 ≤ 4; omega
  | 2 => show 0 + 512 ≤ 512; omega
  | 3 => show 0 + 256 ≤ 256; omega

/-- Head `h` of the block of queries. -/
def qBlk (x : Vec F S1x4x512x256 .bf16) (h : Fin 4) : Vec F S1x1x512x256 .bf16 :=
  View.ld x (Rect.unit (s := S1x4x512x256) ![0, h.val, 0, 0] ![1, 1, 512, 256] (q_inb h))

section Loads

variable {sg : RefSig} {κ : Kind} {sp : Space}

/-- A load of the keys at the printed offsets is a row block. -/
theorem rdK (v : View sg κ sp S1x4x4096x256 .bf16) (X : v.ty.Contents (Elt F)) (h : Fin 4) (n : Fin 8) {off : Fin 4 → ℕ}
    (inb : ∀ x, off x + S1x1x512x256.size x ≤ S1x4x4096x256.size x) (ho : off = ![0, h.val, 512 * n.val, 0]) :
    v.readAt (Elt F) (Rect.unit (s := S1x4x4096x256) off S1x1x512x256.size inb).toLoadRect X = kBlk (v.read (Elt F) X) h n := by
  subst ho; rfl

/-- A load of the values at the printed offsets is a row block. -/
theorem rdV (v : View sg κ sp S1x4x4096x128 .bf16) (X : v.ty.Contents (Elt F)) (h : Fin 4) (n : Fin 8) {off : Fin 4 → ℕ}
    (inb : ∀ x, off x + S1x1x512x128.size x ≤ S1x4x4096x128.size x) (ho : off = ![0, h.val, 512 * n.val, 0]) :
    v.readAt (Elt F) (Rect.unit (s := S1x4x4096x128) off S1x1x512x128.size inb).toLoadRect X = vBlk (v.read (Elt F) X) h n := by
  subst ho; rfl

/-- A load of one head of the queries. -/
theorem rdQ (v : View sg κ sp S1x4x512x256 .bf16) (X : v.ty.Contents (Elt F)) (h : Fin 4) {off : Fin 4 → ℕ}
    (inb : ∀ x, off x + S1x1x512x256.size x ≤ S1x4x512x256.size x) (ho : off = ![0, h.val, 0, 0]) :
    v.readAt (Elt F) (Rect.unit (s := S1x4x512x256) off S1x1x512x256.size inb).toLoadRect X = qBlk (v.read (Elt F) X) h := by
  subst ho; rfl

end Loads

/-! ## The states of one head -/

/-- What one head's two stripes hold. -/
abbrev St (F : FTy → Type) : Type := Vec F S1x512x128 .f32 × Vec F S1x512x256 .f32

/-- One block of keys, not on the diagonal. -/
noncomputable def step (q : Vec F S1x4x512x256 .bf16) (k : Vec F S1x4x4096x256 .bf16) (v : Vec F S1x4x4096x128 .bf16) (h : Fin 4) (n : Fin 8) (s : St F) : St F :=
  (stepM (qBlk q h) (kBlk k h n) s.1, stepA (qBlk q h) (kBlk k h n) (vBlk v h n) s.1 s.2)

/-- The block of keys on the diagonal. -/
noncomputable def diag (q : Vec F S1x4x512x256 .bf16) (k : Vec F S1x4x4096x256 .bf16) (v : Vec F S1x4x4096x128 .bf16) (h : Fin 4) (n : Fin 8) (s : St F) : St F :=
  (diagM (qBlk q h) (kBlk k h n) s.1, diagA (qBlk q h) (kBlk k h n) (vBlk v h n) s.1 s.2)

/-- Before any block: no maximum yet, nothing accumulated. -/
noncomputable def init : St F := (k0_pay185, k0_pay186)

/-- After `n` blocks of keys. -/
noncomputable def run (q : Vec F S1x4x512x256 .bf16) (k : Vec F S1x4x4096x256 .bf16) (v : Vec F S1x4x4096x128 .bf16) (h : Fin 4) : ℕ → St F
  | 0 => init
  | n + 1 => if hn : n < 8 then step q k v h ⟨n, hn⟩ (run q k v h n) else run q k v h n

end Cert.KernelIdeal.Attn
-- ==== Proof.Trip.lean ====
module

public import proofs.«01_k».proof.Proof.Stripe

@[expose] public section

set_option maxRecDepth 16384

/-! One trip of the kernel's counted loop: two blocks of keys for each of the four heads. What the trip leaves in a head's stripes is two steps of
that head's state. -/

namespace Cert.KernelIdeal.Attn

open Cert.KernelIdeal Cert.KernelIdeal.Gen
open Idealize.ShloMosaic Idealize.ShloMosaic.TcCoe

variable {F : FTy → Type} [FloatOps F]

/-- The printed offsets of head 0's keys in a trip are row block `2k + u`. -/
theorem off1_eq : ∀ (i : grid0.Coords) (k : Fin (k0_t1_loop i).trips) (u : Fin 2),
    k0_off1 i k (BitVec.ofNat 32 u.val) = ![0, 0, 512 * (2 * k.val + u.val), 0] := by decide +kernel

/-- The printed offsets of head 0's values in a trip are row block `2k + u`. -/
theorem off2_eq : ∀ (i : grid0.Coords) (k : Fin (k0_t1_loop i).trips) (u : Fin 2),
    k0_off2 i k (BitVec.ofNat 32 u.val) = ![0, 0, 512 * (2 * k.val + u.val), 0] := by decide +kernel

/-- The printed offsets of head 1's keys in a trip are row block `2k + u`. -/
theorem off3_eq : ∀ (i : grid0.Coords) (k : Fin (k0_t1_loop i).trips) (u : Fin 2),
    k0_off3 i k (BitVec.ofNat 32 u.val) = ![0, 1, 512 * (2 * k.val + u.val), 0] := by decide +kernel

/-- The printed offsets of head 1's values in a trip are row block `2k + u`. -/
theorem off4_eq : ∀ (i : grid0.Coords) (k : Fin (k0_t1_loop i).trips) (u : Fin 2),
    k0_off4 i k (BitVec.ofNat 32 u.val) = ![0, 1, 512 * (2 * k.val + u.val), 0] := by decide +kernel

/-- The printed offsets of head 2's keys in a trip are row block `2k + u`. -/
theorem off5_eq : ∀ (i : grid0.Coords) (k : Fin (k0_t1_loop i).trips) (u : Fin 2),
    k0_off5 i k (BitVec.ofNat 32 u.val) = ![0, 2, 512 * (2 * k.val + u.val), 0] := by decide +kernel

/-- The printed offsets of head 2's values in a trip are row block `2k + u`. -/
theorem off6_eq : ∀ (i : grid0.Coords) (k : Fin (k0_t1_loop i).trips) (u : Fin 2),
    k0_off6 i k (BitVec.ofNat 32 u.val) = ![0, 2, 512 * (2 * k.val + u.val), 0] := by decide +kernel

/-- The printed offsets of head 3's keys in a trip are row block `2k + u`. -/
theorem off7_eq : ∀ (i : grid0.Coords) (k : Fin (k0_t1_loop i).trips) (u : Fin 2),
    k0_off7 i k (BitVec.ofNat 32 u.val) = ![0, 3, 512 * (2 * k.val + u.val), 0] := by decide +kernel

/-- The printed offsets of head 3's values in a trip are row block `2k + u`. -/
theorem off8_eq : ∀ (i : grid0.Coords) (k : Fin (k0_t1_loop i).trips) (u : Fin 2),
    k0_off8 i k (BitVec.ofNat 32 u.val) = ![0, 3, 512 * (2 * k.val + u.val), 0] := by decide +kernel

/-- A trip's row blocks are among the eight. -/
theorem nb_lt (i : grid0.Coords) (k : Fin (k0_t1_loop i).trips) (u : Fin 2) : 2 * k.val + u.val < 8 := by
  have h1 := (k0_t1_abs i).2.1
  have h2 := k.isLt
  omega

/-- Row block `2k + u`. -/
abbrev nb (i : grid0.Coords) (k : Fin (k0_t1_loop i).trips) (u : Fin 2) : Fin 8 := ⟨2 * k.val + u.val, nb_lt i k u⟩

/-- What a stripe holds, restated. -/
theorem Holds.eq {sg : RefSig} {κ : Kind} {sp : Space} {a b : ℕ} {e : EltTy} {Val : EltTy → Type} {v : View sg κ sp (⟨3, ![4, a, b]⟩ : Shape) e}
    {h : Fin 4} {L : List (View.Piece Val (⟨3, ![4, a, b]⟩ : Shape) e)} {w w' : (stripe a b h).shape.Idx → Val e} (H : Holds v h L w) (hw : w = w') :
    Holds v h L w' := hw ▸ H

section

variable (i : grid0.Coords) (arg3 : Memref sig .tc .vmem S1x4x512x256 .bf16) (arg4 : Memref sig .tc .vmem S1x4x4096x256 .bf16)
  (arg5 : Memref sig .tc .vmem S1x4x4096x128 .bf16) (arg7 : Memref sig .tc .vmem S4x512x128 .f32) (arg8 : Memref sig .tc .vmem S4x512x256 .f32)
  (X3 : BufTy.Contents (Elt F) arg3.view.ty) (X4 : BufTy.Contents (Elt F) arg4.view.ty) (X5 : BufTy.Contents (Elt F) arg5.view.ty)
  (k : Fin (k0_t1_loop i).trips) (f7 : BufTy.Contents (Elt F) arg7.view.ty) (f8 : BufTy.Contents (Elt F) arg8.view.ty)

/-- The state of head `h` that the trip finds. -/
noncomputable abbrev found (h : Fin 4) : St F :=
  (arg7.view.readAt (Elt F) (stripe 512 128 h).toLoadRect f7, arg8.view.readAt (Elt F) (stripe 512 256 h).toLoadRect f8)

/-- The state of head `h` after the trip's first block. -/
noncomputable abbrev mid (h : Fin 4) : St F :=
  step (arg3.view.read (Elt F) X3) (arg4.view.read (Elt F) X4) (arg5.view.read (Elt F) X5) h (nb i k 0) (found arg7 arg8 f7 f8 h)

/-- The state of head `h` after the trip. -/
noncomputable abbrev last (h : Fin 4) : St F :=
  step (arg3.view.read (Elt F) X3) (arg4.view.read (Elt F) X4) (arg5.view.read (Elt F) X5) h (nb i k 1) (mid i arg3 arg4 arg5 arg7 arg8 X3 X4 X5 k f7 f8 h)

/-- After the trip's first block each head's stripes hold its state one step on. -/
theorem holds_mid : ∀ h : Fin 4,
    Holds arg7.view h (trip_k0_t1.sl.HW_arg7_4 i arg3 arg4 arg7 X3 X4 k f7) (mid i arg3 arg4 arg5 arg7 arg8 X3 X4 X5 k f7 f8 h).1
      ∧ Holds arg8.view h (trip_k0_t1.sl.HW_arg8_4 i arg3 arg4 arg5 arg7 arg8 k0_pay184 X3 X4 X5 k f7 f8) (mid i arg3 arg4 arg5 arg7 arg8 X3 X4 X5 k f7 f8 h).2 := by
  intro h
  unfold trip_k0_t1.sl.HW_arg7_4 trip_k0_t1.sl.HW_arg8_4
  match h with
  | 0 => exact ⟨(holds_skip (h' := 3) (by decide) _ (holds_skip (h' := 2) (by decide) _ (holds_skip (h' := 1) (by decide) _ (holds_hit 0 _ _)))).eq (by simp only [trip_k0_t1.sl.r, rdK arg4.view X4 0 (nb i k 0) _ (show k0_off1 i k 0#32 = _ from off1_eq i k 0), rdV arg5.view X5 0 (nb i k 0) _ (show k0_off2 i k 0#32 = _ from off2_eq i k 0), rdQ arg3.view X3 0 _ (show (![0, 0, 0, 0] : Fin 4 → ℕ) = _ from rfl)]; rfl), (holds_skip (h' := 3) (by decide) _ (holds_skip (h' := 2) (by decide) _ (holds_skip (h' := 1) (by decide) _ (holds_hit 0 _ _)))).eq (by simp only [trip_k0_t1.sl.r_1, rdK arg4.view X4 0 (nb i k 0) _ (show k0_off1 i k 0#32 = _ from off1_eq i k 0), rdV arg5.view X5 0 (nb i k 0) _ (show k0_off2 i k 0#32 = _ from off2_eq i k 0), rdQ arg3.view X3 0 _ (show (![0, 0, 0, 0] : Fin 4 → ℕ) = _ from rfl)]; rfl)⟩
  | 1 => exact ⟨(holds_skip (h' := 3) (by decide) _ (holds_skip (h' := 2) (by decide) _ (holds_hit 1 _ _))).eq (by simp only [trip_k0_t1.sl.r_3, trip_k0_t1.sl.v135, rdK arg4.view X4 1 (nb i k 0) _ (show k0_off3 i k 0#32 = _ from off3_eq i k 0), rdV arg5.view X5 1 (nb i k 0) _ (show k0_off4 i k 0#32 = _ from off4_eq i k 0), rdQ arg3.view X3 1 _ (show (![0, 1, 0, 0] : Fin 4 → ℕ) = _ from rfl)]; rfl), (holds_skip (h' := 3) (by decide) _ (holds_skip (h' := 2) (by decide) _ (holds_hit 1 _ _))).eq (by simp only [trip_k0_t1.sl.r_2, trip_k0_t1.sl.r_4, trip_k0_t1.sl.v135, trip_k0_t1.sl.v147, trip_k0_t1.sl.r_5, rdK arg4.view X4 1 (nb i k 0) _ (show k0_off3 i k 0#32 = _ from off3_eq i k 0), rdV arg5.view X5 1 (nb i k 0) _ (show k0_off4 i k 0#32 = _ from off4_eq i k 0), rdQ arg3.view X3 1 _ (show (![0, 1, 0, 0] : Fin 4 → ℕ) = _ from rfl)]; rfl)⟩
  | 2 => exact ⟨(holds_skip (h' := 3) (by decide) _ (holds_hit 2 _ _)).eq (by simp only [trip_k0_t1.sl.r_7, trip_k0_t1.sl.v173, rdK arg4.view X4 2 (nb i k 0) _ (show k0_off5 i k 0#32 = _ from off5_eq i k 0), rdV arg5.view X5 2 (nb i k 0) _ (show k0_off6 i k 0#32 = _ from off6_eq i k 0), rdQ arg3.view X3 2 _ (show (![0, 2, 0, 0] : Fin 4 → ℕ) = _ from rfl)]; rfl), (holds_skip (h' := 3) (by decide) _ (holds_hit 2 _ _)).eq (by simp only [trip_k0_t1.sl.r_6, trip_k0_t1.sl.r_8, trip_k0_t1.sl.v173, trip_k0_t1.sl.r_9, trip_k0_t1.sl.v185, rdK arg4.view X4 2 (nb i k 0) _ (show k0_off5 i k 0#32 = _ from off5_eq i k 0), rdV arg5.view X5 2 (nb i k 0) _ (show k0_off6 i k 0#32 = _ from off6_eq i k 0), rdQ arg3.view X3 2 _ (show (![0, 2, 0, 0] : Fin 4 → ℕ) = _ from rfl)]; rfl)⟩
  | 3 => exact ⟨(holds_hit 3 _ _).eq (by simp only [trip_k0_t1.sl.r_12, trip_k0_t1.sl.v211, trip_k0_t1.sl.r_13, rdK arg4.view X4 3 (nb i k 0) _ (show k0_off7 i k 0#32 = _ from off7_eq i k 0), rdV arg5.view X5 3 (nb i k 0) _ (show k0_off8 i k 0#32 = _ from off8_eq i k 0), rdQ arg3.view X3 3 _ (show (![0, 3, 0, 0] : Fin 4 → ℕ) = _ from rfl)]; rfl), (holds_hit 3 _ _).eq (by simp only [trip_k0_t1.sl.r_10, trip_k0_t1.sl.r_11, trip_k0_t1.sl.r_12, trip_k0_t1.sl.v211, trip_k0_t1.sl.r_13, trip_k0_t1.sl.v223, rdK arg4.view X4 3 (nb i k 0) _ (show k0_off7 i k 0#32 = _ from off7_eq i k 0), rdV arg5.view X5 3 (nb i k 0) _ (show k0_off8 i k 0#32 = _ from off8_eq i k 0), rdQ arg3.view X3 3 _ (show (![0, 3, 0, 0] : Fin 4 → ℕ) = _ from rfl)]; rfl)⟩

/-- When the second block of head 0 starts, its stripes still hold the state after the first. -/
theorem holds_before0 : Holds arg7.view 0 (trip_k0_t1.sl.HW_arg7_4 i arg3 arg4 arg7 X3 X4 k f7) (mid i arg3 arg4 arg5 arg7 arg8 X3 X4 X5 k f7 f8 0).1
      ∧ Holds arg8.view 0 (trip_k0_t1.sl.HW_arg8_4 i arg3 arg4 arg5 arg7 arg8 k0_pay184 X3 X4 X5 k f7 f8) (mid i arg3 arg4 arg5 arg7 arg8 X3 X4 X5 k f7 f8 0).2 := by
  exact ⟨(holds_mid i arg3 arg4 arg5 arg7 arg8 X3 X4 X5 k f7 f8 0).1, (holds_mid i arg3 arg4 arg5 arg7 arg8 X3 X4 X5 k f7 f8 0).2⟩

/-- When the second block of head 1 starts, its stripes still hold the state after the first. -/
theorem holds_before1 : Holds arg7.view 1 (trip_k0_t1.sl.HW_arg7_5 i arg3 arg4 arg7 X3 X4 k f7) (mid i arg3 arg4 arg5 arg7 arg8 X3 X4 X5 k f7 f8 1).1
      ∧ Holds arg8.view 1 (trip_k0_t1.sl.HW_arg8_5 i arg3 arg4 arg5 arg7 arg8 k0_pay184 X3 X4 X5 k f7 f8) (mid i arg3 arg4 arg5 arg7 arg8 X3 X4 X5 k f7 f8 1).2 := by
  unfold trip_k0_t1.sl.HW_arg8_5 trip_k0_t1.sl.HW_arg7_5
  exact ⟨(holds_skip (h' := 0) (by decide) _ (holds_mid i arg3 arg4 arg5 arg7 arg8 X3 X4 X5 k f7 f8 1).1), (holds_skip (h' := 0) (by decide) _ (holds_mid i arg3 arg4 arg5 arg7 arg8 X3 X4 X5 k f7 f8 1).2)⟩

/-- When the second block of head 2 starts, its stripes still hold the state after the first. -/
theorem holds_before2 : Holds arg7.view 2 (trip_k0_t1.sl.HW_arg7_6 i arg3 arg4 arg7 X3 X4 k f7) (mid i arg3 arg4 arg5 arg7 arg8 X3 X4 X5 k f7 f8 2).1
      ∧ Holds arg8.view 2 (trip_k0_t1.sl.HW_arg8_6 i arg3 arg4 arg5 arg7 arg8 k0_pay184 X3 X4 X5 k f7 f8) (mid i arg3 arg4 arg5 arg7 arg8 X3 X4 X5 k f7 f8 2).2 := by
  unfold trip_k0_t1.sl.HW_arg8_6 trip_k0_t1.sl.HW_arg8_5 trip_k0_t1.sl.HW_arg7_6 trip_k0_t1.sl.HW_arg7_5
  exact ⟨(holds_skip (h' := 1) (by decide) _ (holds_skip (h' := 0) (by decide) _ (holds_mid i arg3 arg4 arg5 arg7 arg8 X3 X4 X5 k f7 f8 2).1)), (holds_skip (h' := 1) (by decide) _ (holds_skip (h' := 0) (by decide) _ (holds_mid i arg3 arg4 arg5 arg7 arg8 X3 X4 X5 k f7 f8 2).2))⟩

/-- When the second block of head 3 starts, its stripes still hold the state after the first. -/
theorem holds_before3 : Holds arg7.view 3 (trip_k0_t1.sl.HW_arg7_7 i arg3 arg4 arg7 X3 X4 k f7) (mid i arg3 arg4 arg5 arg7 arg8 X3 X4 X5 k f7 f8 3).1
      ∧ Holds arg8.view 3 (trip_k0_t1.sl.HW_arg8_7 i arg3 arg4 arg5 arg7 arg8 k0_pay184 X3 X4 X5 k f7 f8) (mid i arg3 arg4 arg5 arg7 arg8 X3 X4 X5 k f7 f8 3).2 := by
  unfold trip_k0_t1.sl.HW_arg8_7 trip_k0_t1.sl.HW_arg8_6 trip_k0_t1.sl.HW_arg8_5 trip_k0_t1.sl.HW_arg7_7 trip_k0_t1.sl.HW_arg7_6 trip_k0_t1.sl.HW_arg7_5
  exact ⟨(holds_skip (h' := 2) (by decide) _ (holds_skip (h' := 1) (by decide) _ (holds_skip (h' := 0) (by decide) _ (holds_mid i arg3 arg4 arg5 arg7 arg8 X3 X4 X5 k f7 f8 3).1))), (holds_skip (h' := 2) (by decide) _ (holds_skip (h' := 1) (by decide) _ (holds_skip (h' := 0) (by decide) _ (holds_mid i arg3 arg4 arg5 arg7 arg8 X3 X4 X5 k f7 f8 3).2)))⟩

/-- THE TRIP: it leaves each head's stripes two steps on. -/
theorem holds_trip (𝒱 : Variants) (c : Dev nD) (bd : Option 𝒱.V) (harg3 : arg3.IsWhole) (harg4 : arg4.IsWhole) (harg5 : arg5.IsWhole)
    (arg6 : Memref sig .tc .vmem S1x512x512 .bf16) (harg6 : arg6.IsWhole) (harg7 : arg7.IsWhole) (harg8 : arg8.IsWhole) (arg2 : BitVec 32)
    (cst_21 : F .f32) : ∀ h : Fin 4,
    Holds arg7.view h (tripL_k0_t1 (F := F) 𝒱 c bd i arg3 harg3 arg4 harg4 arg5 harg5 arg6 harg6 arg7 harg7 arg8 harg8 arg2 k0_pay184 cst_21 X3 X4 X5 k f7 f8).1
        (last i arg3 arg4 arg5 arg7 arg8 X3 X4 X5 k f7 f8 h).1
      ∧ Holds arg8.view h (tripL_k0_t1 (F := F) 𝒱 c bd i arg3 harg3 arg4 harg4 arg5 harg5 arg6 harg6 arg7 harg7 arg8 harg8 arg2 k0_pay184 cst_21 X3 X4 X5 k f7 f8).2
        (last i arg3 arg4 arg5 arg7 arg8 X3 X4 X5 k f7 f8 h).2 := by
  intro h
  unfold tripL_k0_t1 trip_k0_t1
  dsimp only
  unfold trip_k0_t1.sl.HW_arg7_7 trip_k0_t1.sl.HW_arg7_6 trip_k0_t1.sl.HW_arg7_5 trip_k0_t1.sl.HW_arg8_7 trip_k0_t1.sl.HW_arg8_6 trip_k0_t1.sl.HW_arg8_5
  match h with
  | 0 =>
    have v7 : trip_k0_t1.sl.v249 i arg3 arg4 arg7 X3 X4 k f7 = _ := (holds_before0 i arg3 arg4 arg5 arg7 arg8 X3 X4 X5 k f7 f8).1.readCov
    have v8 : trip_k0_t1.sl.v261 i arg3 arg4 arg5 arg7 arg8 k0_pay184 X3 X4 X5 k f7 f8 = _ := (holds_before0 i arg3 arg4 arg5 arg7 arg8 X3 X4 X5 k f7 f8).2.readCov
    exact ⟨(holds_skip (h' := 3) (by decide) _ (holds_skip (h' := 2) (by decide) _ (holds_skip (h' := 1) (by decide) _ (holds_hit 0 _ _)))).eq (by simp only [trip_k0_t1.sl.r_14, trip_k0_t1.sl.r_16, trip_k0_t1.sl.cst_181, rdK arg4.view X4 0 (nb i k 1) _ (show k0_off1 i k 1#32 = _ from off1_eq i k 1), rdV arg5.view X5 0 (nb i k 1) _ (show k0_off2 i k 1#32 = _ from off2_eq i k 1), rdQ arg3.view X3 0 _ (show (![0, 0, 0, 0] : Fin 4 → ℕ) = _ from rfl), v7]; rfl), (holds_skip (h' := 3) (by decide) _ (holds_skip (h' := 2) (by decide) _ (holds_skip (h' := 1) (by decide) _ (holds_hit 0 _ _)))).eq (by simp only [trip_k0_t1.sl.r_14, trip_k0_t1.sl.r_15, trip_k0_t1.sl.r_16, trip_k0_t1.sl.cst_181, rdK arg4.view X4 0 (nb i k 1) _ (show k0_off1 i k 1#32 = _ from off1_eq i k 1), rdV arg5.view X5 0 (nb i k 1) _ (show k0_off2 i k 1#32 = _ from off2_eq i k 1), rdQ arg3.view X3 0 _ (show (![0, 0, 0, 0] : Fin 4 → ℕ) = _ from rfl), v7, v8]; rfl)⟩
  | 1 =>
    have v7 : trip_k0_t1.sl.v287 i arg3 arg4 arg7 X3 X4 k f7 = _ := (holds_before1 i arg3 arg4 arg5 arg7 arg8 X3 X4 X5 k f7 f8).1.readCov
    have v8 : trip_k0_t1.sl.v299 i arg3 arg4 arg5 arg7 arg8 k0_pay184 X3 X4 X5 k f7 f8 = _ := (holds_before1 i arg3 arg4 arg5 arg7 arg8 X3 X4 X5 k f7 f8).2.readCov
    exact ⟨(holds_skip (h' := 3) (by decide) _ (holds_skip (h' := 2) (by decide) _ (holds_hit 1 _ _))).eq (by simp only [trip_k0_t1.sl.r_17, rdK arg4.view X4 1 (nb i k 1) _ (show k0_off3 i k 1#32 = _ from off3_eq i k 1), rdV arg5.view X5 1 (nb i k 1) _ (show k0_off4 i k 1#32 = _ from off4_eq i k 1), rdQ arg3.view X3 1 _ (show (![0, 1, 0, 0] : Fin 4 → ℕ) = _ from rfl), v7]; rfl), (holds_skip (h' := 3) (by decide) _ (holds_skip (h' := 2) (by decide) _ (holds_hit 1 _ _))).eq (by simp only [trip_k0_t1.sl.r_17, trip_k0_t1.sl.r_18, rdK arg4.view X4 1 (nb i k 1) _ (show k0_off3 i k 1#32 = _ from off3_eq i k 1), rdV arg5.view X5 1 (nb i k 1) _ (show k0_off4 i k 1#32 = _ from off4_eq i k 1), rdQ arg3.view X3 1 _ (show (![0, 1, 0, 0] : Fin 4 → ℕ) = _ from rfl), v7, v8]; rfl)⟩
  | 2 =>
    have v7 : trip_k0_t1.sl.v325 i arg3 arg4 arg7 X3 X4 k f7 = _ := (holds_before2 i arg3 arg4 arg5 arg7 arg8 X3 X4 X5 k f7 f8).1.readCov
    have v8 : trip_k0_t1.sl.v337 i arg3 arg4 arg5 arg7 arg8 k0_pay184 X3 X4 X5 k f7 f8 = _ := (holds_before2 i arg3 arg4 arg5 arg7 arg8 X3 X4 X5 k f7 f8).2.readCov
    exact ⟨(holds_skip (h' := 3) (by decide) _ (holds_hit 2 _ _)).eq (by simp only [rdK arg4.view X4 2 (nb i k 1) _ (show k0_off5 i k 1#32 = _ from off5_eq i k 1), rdV arg5.view X5 2 (nb i k 1) _ (show k0_off6 i k 1#32 = _ from off6_eq i k 1), rdQ arg3.view X3 2 _ (show (![0, 2, 0, 0] : Fin 4 → ℕ) = _ from rfl), v7]; rfl), (holds_skip (h' := 3) (by decide) _ (holds_hit 2 _ _)).eq (by simp only [rdK arg4.view X4 2 (nb i k 1) _ (show k0_off5 i k 1#32 = _ from off5_eq i k 1), rdV arg5.view X5 2 (nb i k 1) _ (show k0_off6 i k 1#32 = _ from off6_eq i k 1), rdQ arg3.view X3 2 _ (show (![0, 2, 0, 0] : Fin 4 → ℕ) = _ from rfl), v7, v8]; rfl)⟩
  | 3 =>
    have v7 : trip_k0_t1.sl.v363 i arg3 arg4 arg7 X3 X4 k f7 = _ := (holds_before3 i arg3 arg4 arg5 arg7 arg8 X3 X4 X5 k f7 f8).1.readCov
    have v8 : trip_k0_t1.sl.v375 i arg3 arg4 arg5 arg7 arg8 k0_pay184 X3 X4 X5 k f7 f8 = _ := (holds_before3 i arg3 arg4 arg5 arg7 arg8 X3 X4 X5 k f7 f8).2.readCov
    exact ⟨(holds_hit 3 _ _).eq (by simp only [trip_k0_t1.sl.r_19, rdK arg4.view X4 3 (nb i k 1) _ (show k0_off7 i k 1#32 = _ from off7_eq i k 1), rdV arg5.view X5 3 (nb i k 1) _ (show k0_off8 i k 1#32 = _ from off8_eq i k 1), rdQ arg3.view X3 3 _ (show (![0, 3, 0, 0] : Fin 4 → ℕ) = _ from rfl), v7]; rfl), (holds_hit 3 _ _).eq (by simp only [rdK arg4.view X4 3 (nb i k 1) _ (show k0_off7 i k 1#32 = _ from off7_eq i k 1), rdV arg5.view X5 3 (nb i k 1) _ (show k0_off8 i k 1#32 = _ from off8_eq i k 1), rdQ arg3.view X3 3 _ (show (![0, 3, 0, 0] : Fin 4 → ℕ) = _ from rfl), v7, v8]; rfl)⟩

end

end Cert.KernelIdeal.Attn
-- ==== Proof.Body.lean ====
module

public import proofs.«01_k».proof.Proof.Trip

@[expose] public section

set_option maxRecDepth 16384

/-! The whole body at one grid point: the counted loop over pairs of blocks, the odd block where there is one, and the block on the diagonal. What it
leaves in a head's stripe of the accumulator is the state after all the blocks up to and including the diagonal. -/

namespace Cert.KernelIdeal.Attn

open Cert.KernelIdeal Cert.KernelIdeal.Gen
open Idealize.ShloMosaic Idealize.ShloMosaic.TcCoe

variable {F : FTy → Type} [FloatOps F]

/-- The counted loop runs once for each pair of blocks before the diagonal. -/
theorem trips_eq : ∀ i : grid0.Coords, (k0_t1_loop i).trips = (i 2).val / 2 := by decide +kernel

/-- The row block of the point's queries. -/
abbrev qb (i : grid0.Coords) : Fin 8 := ⟨(i 2).val, (i 2).isLt⟩

/-- The row block before it. -/
abbrev ob (i : grid0.Coords) : Fin 8 := ⟨(i 2).val - 1, lt_of_le_of_lt (Nat.sub_le _ _) (i 2).isLt⟩

/-- The odd block, head 0: the row block before the diagonal's. -/
theorem off17_eq : ∀ i : grid0.Coords, k0_cond1 i = 1#1 → k0_off17 i = ![0, 0, 512 * ((i 2).val - 1), 0] := by decide +kernel

/-- The odd block, head 0: the row block before the diagonal's. -/
theorem off18_eq : ∀ i : grid0.Coords, k0_cond1 i = 1#1 → k0_off18 i = ![0, 0, 512 * ((i 2).val - 1), 0] := by decide +kernel

/-- The odd block, head 1: the row block before the diagonal's. -/
theorem off19_eq : ∀ i : grid0.Coords, k0_cond1 i = 1#1 → k0_off19 i = ![0, 1, 512 * ((i 2).val - 1), 0] := by decide +kernel

/-- The odd block, head 1: the row block before the diagonal's. -/
theorem off20_eq : ∀ i : grid0.Coords, k0_cond1 i = 1#1 → k0_off20 i = ![0, 1, 512 * ((i 2).val - 1), 0] := by decide +kernel

/-- The odd block, head 2: the row block before the diagonal's. -/
theorem off21_eq : ∀ i : grid0.Coords, k0_cond1 i = 1#1 → k0_off21 i = ![0, 2, 512 * ((i 2).val - 1), 0] := by decide +kernel

/-- The odd block, head 2: the row block before the diagonal's. -/
theorem off22_eq : ∀ i : grid0.Coords, k0_cond1 i = 1#1 → k0_off22 i = ![0, 2, 512 * ((i 2).val - 1), 0] := by decide +kernel

/-- The odd block, head 3: the row block before the diagonal's. -/
theorem off23_eq : ∀ i : grid0.Coords, k0_cond1 i = 1#1 → k0_off23 i = ![0, 3, 512 * ((i 2).val - 1), 0] := by decide +kernel

/-- The odd block, head 3: the row block before the diagonal's. -/
theorem off24_eq : ∀ i : grid0.Coords, k0_cond1 i = 1#1 → k0_off24 i = ![0, 3, 512 * ((i 2).val - 1), 0] := by decide +kernel

/-- The block on the diagonal, head 0. -/
theorem off25_eq : ∀ i : grid0.Coords, k0_off25 i = ![0, 0, 512 * (i 2).val, 0] := by decide +kernel

/-- The block on the diagonal, head 0. -/
theorem off26_eq : ∀ i : grid0.Coords, k0_off26 i = ![0, 0, 512 * (i 2).val, 0] := by decide +kernel

/-- The block on the diagonal, head 1. -/
theorem off27_eq : ∀ i : grid0.Coords, k0_off27 i = ![0, 1, 512 * (i 2).val, 0] := by decide +kernel

/-- The block on the diagonal, head 1. -/
theorem off28_eq : ∀ i : grid0.Coords, k0_off28 i = ![0, 1, 512 * (i 2).val, 0] := by decide +kernel

/-- The block on the diagonal, head 2. -/
theorem off29_eq : ∀ i : grid0.Coords, k0_off29 i = ![0, 2, 512 * (i 2).val, 0] := by decide +kernel

/-- The block on the diagonal, head 2. -/
theorem off30_eq : ∀ i : grid0.Coords, k0_off30 i = ![0, 2, 512 * (i 2).val, 0] := by decide +kernel

/-- The block on the diagonal, head 3. -/
theorem off31_eq : ∀ i : grid0.Coords, k0_off31 i = ![0, 3, 512 * (i 2).val, 0] := by decide +kernel

/-- The block on the diagonal, head 3. -/
theorem off32_eq : ∀ i : grid0.Coords, k0_off32 i = ![0, 3, 512 * (i 2).val, 0] := by decide +kernel

/-- The block on the diagonal, head 0. -/
theorem off33_eq : ∀ i : grid0.Coords, k0_off33 i = ![0, 0, 512 * (i 2).val, 0] := by decide +kernel

/-- The block on the diagonal, head 0. -/
theorem off34_eq : ∀ i : grid0.Coords, k0_off34 i = ![0, 0, 512 * (i 2).val, 0] := by decide +kernel

/-- The block on the diagonal, head 1. -/
theorem off35_eq : ∀ i : grid0.Coords, k0_off35 i = ![0, 1, 512 * (i 2).val, 0] := by decide +kernel

/-- The block on the diagonal, head 1. -/
theorem off36_eq : ∀ i : grid0.Coords, k0_off36 i = ![0, 1, 512 * (i 2).val, 0] := by decide +kernel

/-- The block on the diagonal, head 2. -/
theorem off37_eq : ∀ i : grid0.Coords, k0_off37 i = ![0, 2, 512 * (i 2).val, 0] := by decide +kernel

/-- The block on the diagonal, head 2. -/
theorem off38_eq : ∀ i : grid0.Coords, k0_off38 i = ![0, 2, 512 * (i 2).val, 0] := by decide +kernel

/-- The block on the diagonal, head 3. -/
theorem off39_eq : ∀ i : grid0.Coords, k0_off39 i = ![0, 3, 512 * (i 2).val, 0] := by decide +kernel

/-- The block on the diagonal, head 3. -/
theorem off40_eq : ∀ i : grid0.Coords, k0_off40 i = ![0, 3, 512 * (i 2).val, 0] := by decide +kernel

section

variable (c : Dev nD) (i : grid0.Coords) (arg3 : Memref sig .tc .vmem S1x4x512x256 .bf16) (harg3 : arg3.IsWhole)
  (arg4 : Memref sig .tc .vmem S1x4x4096x256 .bf16) (harg4 : arg4.IsWhole) (arg5 : Memref sig .tc .vmem S1x4x4096x128 .bf16) (harg5 : arg5.IsWhole)
  (arg6 : Memref sig .tc .vmem S1x512x512 .bf16) (harg6 : arg6.IsWhole) (arg7 : Memref sig .tc .vmem S4x512x128 .f32) (harg7 : arg7.IsWhole)
  (arg8 : Memref sig .tc .vmem S4x512x256 .f32) (harg8 : arg8.IsWhole)
  (x0 : Vec F S1x4x512x256 .bf16) (x1 : Vec F S1x4x4096x256 .bf16) (x2 : Vec F S1x4x4096x128 .bf16)

/-- A step of the recursion, at a block that is there. -/
theorem run_succ (h : Fin 4) (n : ℕ) (hn : n < 8) : run x0 x1 x2 h (n + 1) = step x0 x1 x2 h ⟨n, hn⟩ (run x0 x1 x2 h n) := dif_pos hn

section

variable (arg2 : BitVec 32) (cst : F .f32) (L7 : List (View.Piece (Elt F) S4x512x128 .f32)) (L8 : List (View.Piece (Elt F) S4x512x256 .f32))
  (h7 : ∀ h, Holds arg7.view h L7 (init (F := F)).1) (h8 : ∀ h, Holds arg8.view h L8 (init (F := F)).2)
include h7 h8

/-- THE LOOP: before trip `n` each head's stripes hold its state after `2n` blocks. -/
theorem holds_loop : ∀ n : ℕ, n ≤ (k0_t1_loop i).trips → ∀ h : Fin 4,
    Holds arg7.view h ((pb_k0_t1 (F := F) Variants.none c none i arg3 harg3 arg4 harg4 arg5 harg5 arg6 harg6 arg7 harg7 arg8 harg8 arg2 k0_pay184 cst (harg3.unread x0) (harg4.unread x1) (harg5.unread x2)
        (arg7.view.writes (Elt F) arg7.view.junk L7) (arg8.view.writes (Elt F) arg8.view.junk L8) n).1 ++ L7) (run x0 x1 x2 h (2 * n)).1
      ∧ Holds arg8.view h ((pb_k0_t1 (F := F) Variants.none c none i arg3 harg3 arg4 harg4 arg5 harg5 arg6 harg6 arg7 harg7 arg8 harg8 arg2 k0_pay184 cst (harg3.unread x0) (harg4.unread x1) (harg5.unread x2)
        (arg7.view.writes (Elt F) arg7.view.junk L7) (arg8.view.writes (Elt F) arg8.view.junk L8) n).2 ++ L8) (run x0 x1 x2 h (2 * n)).2
  | 0, _, h => ⟨h7 h, h8 h⟩
  | n + 1, hn, h => by
    have ih := holds_loop n (Nat.le_of_succ_le hn) h
    have hs := pb_k0_t1_succ (F := F) Variants.none c none i arg3 harg3 arg4 harg4 arg5 harg5 arg6 harg6 arg7 harg7 arg8 harg8 arg2 k0_pay184 cst (harg3.unread x0) (harg4.unread x1) (harg5.unread x2)
      (arg7.view.writes (Elt F) arg7.view.junk L7) (arg8.view.writes (Elt F) arg8.view.junk L8) ⟨n, hn⟩
    have ht := holds_trip i arg3 arg4 arg5 arg7 arg8 (harg3.unread x0) (harg4.unread x1) (harg5.unread x2) ⟨n, hn⟩
      (arg7.view.writes (Elt F) (arg7.view.writes (Elt F) arg7.view.junk L7) (pb_k0_t1 (F := F) Variants.none c none i arg3 harg3 arg4 harg4 arg5 harg5 arg6 harg6 arg7 harg7 arg8 harg8 arg2 k0_pay184 cst (harg3.unread x0) (harg4.unread x1) (harg5.unread x2)
        (arg7.view.writes (Elt F) arg7.view.junk L7) (arg8.view.writes (Elt F) arg8.view.junk L8) n).1)
      (arg8.view.writes (Elt F) (arg8.view.writes (Elt F) arg8.view.junk L8) (pb_k0_t1 (F := F) Variants.none c none i arg3 harg3 arg4 harg4 arg5 harg5 arg6 harg6 arg7 harg7 arg8 harg8 arg2 k0_pay184 cst (harg3.unread x0) (harg4.unread x1) (harg5.unread x2)
        (arg7.view.writes (Elt F) arg7.view.junk L7) (arg8.view.writes (Elt F) arg8.view.junk L8) n).2)
      Variants.none c none harg3 harg4 harg5 arg6 harg6 harg7 harg8 arg2 cst h
    have hf : last i arg3 arg4 arg5 arg7 arg8 (harg3.unread x0) (harg4.unread x1) (harg5.unread x2) ⟨n, hn⟩
      (arg7.view.writes (Elt F) (arg7.view.writes (Elt F) arg7.view.junk L7) (pb_k0_t1 (F := F) Variants.none c none i arg3 harg3 arg4 harg4 arg5 harg5 arg6 harg6 arg7 harg7 arg8 harg8 arg2 k0_pay184 cst (harg3.unread x0) (harg4.unread x1) (harg5.unread x2)
        (arg7.view.writes (Elt F) arg7.view.junk L7) (arg8.view.writes (Elt F) arg8.view.junk L8) n).1)
      (arg8.view.writes (Elt F) (arg8.view.writes (Elt F) arg8.view.junk L8) (pb_k0_t1 (F := F) Variants.none c none i arg3 harg3 arg4 harg4 arg5 harg5 arg6 harg6 arg7 harg7 arg8 harg8 arg2 k0_pay184 cst (harg3.unread x0) (harg4.unread x1) (harg5.unread x2)
        (arg7.view.writes (Elt F) arg7.view.junk L7) (arg8.view.writes (Elt F) arg8.view.junk L8) n).2) h = run x0 x1 x2 h (2 * (n + 1)) := by
      rw [show 2 * (n + 1) = 2 * n + 1 + 1 from by omega, run_succ x0 x1 x2 h (2 * n + 1) (nb_lt i ⟨n, hn⟩ 1), run_succ x0 x1 x2 h (2 * n) (nb_lt i ⟨n, hn⟩ 0)]
      unfold last mid found
      rw [← View.writes_append, ← View.writes_append, ih.1 _, ih.2 _, harg3.read_unread, harg4.read_unread, harg5.read_unread]
      rfl
    rw [hf] at ht
    refine ⟨?_, ?_⟩
    · rw [show (pb_k0_t1 (F := F) Variants.none c none i arg3 harg3 arg4 harg4 arg5 harg5 arg6 harg6 arg7 harg7 arg8 harg8 arg2 k0_pay184 cst (harg3.unread x0) (harg4.unread x1) (harg5.unread x2)
        (arg7.view.writes (Elt F) arg7.view.junk L7) (arg8.view.writes (Elt F) arg8.view.junk L8) (n + 1)) = _ from hs]
      exact holds_append _ (holds_append _ ht.1)
    · rw [show (pb_k0_t1 (F := F) Variants.none c none i arg3 harg3 arg4 harg4 arg5 harg5 arg6 harg6 arg7 harg7 arg8 harg8 arg2 k0_pay184 cst (harg3.unread x0) (harg4.unread x1) (harg5.unread x2)
        (arg7.view.writes (Elt F) arg7.view.junk L7) (arg8.view.writes (Elt F) arg8.view.junk L8) (n + 1)) = _ from hs]
      exact holds_append _ (holds_append _ ht.2)

/-- Both counted loops, the second of which runs no trip: the state after all the pairs of blocks. -/
theorem holds_loops (w38 : BitVec 32) (X3 : BufTy.Contents (Elt F) arg3.view.ty) (X4 : BufTy.Contents (Elt F) arg4.view.ty) (X5 : BufTy.Contents (Elt F) arg5.view.ty)
    (G7 : BufTy.Contents (Elt F) arg7.view.ty) (G8 : BufTy.Contents (Elt F) arg8.view.ty) (h : Fin 4) :
    Holds arg7.view h ((pb_k0_t2 (F := F) Variants.none c none i arg3 harg3 arg4 harg4 arg5 harg5 arg6 harg6 arg7 harg7 arg8 harg8 arg2 k0_pay184 cst w38 X3 X4 X5 G7 G8 (Scf.trips (k0_t2_loop i).lb (k0_t2_loop i).ub (k0_t2_loop i).st)).1
        ++ ((pb_k0_t1 (F := F) Variants.none c none i arg3 harg3 arg4 harg4 arg5 harg5 arg6 harg6 arg7 harg7 arg8 harg8 arg2 k0_pay184 cst (harg3.unread x0) (harg4.unread x1) (harg5.unread x2)
        (arg7.view.writes (Elt F) arg7.view.junk L7) (arg8.view.writes (Elt F) arg8.view.junk L8) (Scf.trips (k0_t1_loop i).lb (k0_t1_loop i).ub (k0_t1_loop i).st)).1 ++ L7))
        (run x0 x1 x2 h (2 * ((i 2).val / 2))).1
      ∧ Holds arg8.view h ((pb_k0_t2 (F := F) Variants.none c none i arg3 harg3 arg4 harg4 arg5 harg5 arg6 harg6 arg7 harg7 arg8 harg8 arg2 k0_pay184 cst w38 X3 X4 X5 G7 G8 (Scf.trips (k0_t2_loop i).lb (k0_t2_loop i).ub (k0_t2_loop i).st)).2
        ++ ((pb_k0_t1 (F := F) Variants.none c none i arg3 harg3 arg4 harg4 arg5 harg5 arg6 harg6 arg7 harg7 arg8 harg8 arg2 k0_pay184 cst (harg3.unread x0) (harg4.unread x1) (harg5.unread x2)
        (arg7.view.writes (Elt F) arg7.view.junk L7) (arg8.view.writes (Elt F) arg8.view.junk L8) (Scf.trips (k0_t1_loop i).lb (k0_t1_loop i).ub (k0_t1_loop i).st)).2 ++ L8))
        (run x0 x1 x2 h (2 * ((i 2).val / 2))).2 := by
  have h0 : Scf.trips (k0_t2_loop i).lb (k0_t2_loop i).ub (k0_t2_loop i).st = 0 := Nat.le_zero.mp (k0_t2_abs i).2.1
  have h1 : Scf.trips (k0_t1_loop i).lb (k0_t1_loop i).ub (k0_t1_loop i).st = (i 2).val / 2 := trips_eq i
  rw [h0, h1]
  exact holds_loop c i arg3 harg3 arg4 harg4 arg5 harg5 arg6 harg6 arg7 harg7 arg8 harg8 x0 x1 x2 arg2 cst L7 L8 h7 h8 _ (le_of_eq (trips_eq i).symm) h

end

/-- Point of an even row block: the stripes of the accumulator hold the state after the diagonal's block. -/
theorem holds_A (hc1 : cond0_1 i) (hp : (i 2).val % 2 = 0) : ∀ h : Fin 4, Holds arg8.view h (kernelRun0_A.sl.HS1_4_1 c i arg3 harg3 arg4 harg4 arg5 harg5 arg6 harg6 arg7 harg7 arg8 harg8 hc1 x0 x1 x2) (diag x0 x1 x2 h (qb i) (run x0 x1 x2 h (i 2).val)).2 := by
  have h7 : ∀ h, Holds arg7.view h kernelRun0_A.sl.HS0_4 (init (F := F)).1 := by
    intro h
    unfold kernelRun0_A.sl.HS0_4
    match h with
    | 0 => exact (holds_skip (h' := 3) (by decide) _ (holds_skip (h' := 2) (by decide) _ (holds_skip (h' := 1) (by decide) _ (holds_hit 0 _ _))))
    | 1 => exact (holds_skip (h' := 3) (by decide) _ (holds_skip (h' := 2) (by decide) _ (holds_hit 1 _ _)))
    | 2 => exact (holds_skip (h' := 3) (by decide) _ (holds_hit 2 _ _))
    | 3 => exact (holds_hit 3 _ _)
  have h8 : ∀ h, Holds arg8.view h kernelRun0_A.sl.HS1_4 (init (F := F)).2 := by
    intro h
    unfold kernelRun0_A.sl.HS1_4
    match h with
    | 0 => exact (holds_skip (h' := 3) (by decide) _ (holds_skip (h' := 2) (by decide) _ (holds_skip (h' := 1) (by decide) _ (holds_hit 0 _ _))))
    | 1 => exact (holds_skip (h' := 3) (by decide) _ (holds_skip (h' := 2) (by decide) _ (holds_hit 1 _ _)))
    | 2 => exact (holds_skip (h' := 3) (by decide) _ (holds_hit 2 _ _))
    | 3 => exact (holds_hit 3 _ _)
  have b := holds_loops c i arg3 harg3 arg4 harg4 arg5 harg5 arg6 harg6 arg7 harg7 arg8 harg8 x0 x1 x2 (BitVec.ofNat 32 (i 2).val) kernelRun0_A.sl.cst_21 _ _ h7 h8
  have hn : 2 * ((i 2).val / 2) = (i 2).val := by omega
  rw [hn] at b
  have q3 := harg3.read_unread x0
  have q4 := harg4.read_unread x1
  have q5 := harg5.read_unread x2
  have wv100 : kernelRun0_A.sl.v100 c i arg3 harg3 arg4 harg4 arg5 harg5 arg6 harg6 arg7 harg7 arg8 harg8 x0 x1 x2 = (run x0 x1 x2 0 ((i 2).val)).1 := (b _ _ _ _ _ _ 0).1.readCov
  have wv112 : kernelRun0_A.sl.v112 c i arg3 harg3 arg4 harg4 arg5 harg5 arg6 harg6 arg7 harg7 arg8 harg8 x0 x1 x2 = (run x0 x1 x2 0 ((i 2).val)).2 := (b _ _ _ _ _ _ 0).2.readCov
  have wv141 : kernelRun0_A.sl.v141 c i arg3 harg3 arg4 harg4 arg5 harg5 arg6 harg6 arg7 harg7 arg8 harg8 hc1 x0 x1 x2 = (run x0 x1 x2 1 ((i 2).val)).1 := (show Holds arg7.view 1 (kernelRun0_A.sl.HS0_1 c i arg3 harg3 arg4 harg4 arg5 harg5 arg6 harg6 arg7 harg7 arg8 harg8 hc1 x0 x1 x2) (run x0 x1 x2 1 ((i 2).val)).1 from by unfold kernelRun0_A.sl.HS0_1; exact ((holds_skip (h' := 0) (by decide) _ (b _ _ _ _ _ _ 1).1) : Holds arg7.view 1 _ _)).readCov
  have wv153 : kernelRun0_A.sl.v153 c i arg3 harg3 arg4 harg4 arg5 harg5 arg6 harg6 arg7 harg7 arg8 harg8 hc1 x0 x1 x2 = (run x0 x1 x2 1 ((i 2).val)).2 := (show Holds arg8.view 1 (kernelRun0_A.sl.HS1_1 c i arg3 harg3 arg4 harg4 arg5 harg5 arg6 harg6 arg7 harg7 arg8 harg8 hc1 x0 x1 x2) (run x0 x1 x2 1 ((i 2).val)).2 from by unfold kernelRun0_A.sl.HS1_1; exact ((holds_skip (h' := 0) (by decide) _ (b _ _ _ _ _ _ 1).2) : Holds arg8.view 1 _ _)).readCov
  have wv182 : kernelRun0_A.sl.v182 c i arg3 harg3 arg4 harg4 arg5 harg5 arg6 harg6 arg7 harg7 arg8 harg8 hc1 x0 x1 x2 = (run x0 x1 x2 2 ((i 2).val)).1 := (show Holds arg7.view 2 (kernelRun0_A.sl.HS0_2 c i arg3 harg3 arg4 harg4 arg5 harg5 arg6 harg6 arg7 harg7 arg8 harg8 hc1 x0 x1 x2) (run x0 x1 x2 2 ((i 2).val)).1 from by unfold kernelRun0_A.sl.HS0_2 kernelRun0_A.sl.HS0_1; exact ((holds_skip (h' := 1) (by decide) _ (holds_skip (h' := 0) (by decide) _ (b _ _ _ _ _ _ 2).1)) : Holds arg7.view 2 _ _)).readCov
  have wv194 : kernelRun0_A.sl.v194 c i arg3 harg3 arg4 harg4 arg5 harg5 arg6 harg6 arg7 harg7 arg8 harg8 hc1 x0 x1 x2 = (run x0 x1 x2 2 ((i 2).val)).2 := (show Holds arg8.view 2 (kernelRun0_A.sl.HS1_2 c i arg3 harg3 arg4 harg4 arg5 harg5 arg6 harg6 arg7 harg7 arg8 harg8 hc1 x0 x1 x2) (run x0 x1 x2 2 ((i 2).val)).2 from by unfold kernelRun0_A.sl.HS1_2 kernelRun0_A.sl.HS1_1; exact ((holds_skip (h' := 1) (by decide) _ (holds_skip (h' := 0) (by decide) _ (b _ _ _ _ _ _ 2).2)) : Holds arg8.view 2 _ _)).readCov
  have wv223 : kernelRun0_A.sl.v223 c i arg3 harg3 arg4 harg4 arg5 harg5 arg6 harg6 arg7 harg7 arg8 harg8 hc1 x0 x1 x2 = (run x0 x1 x2 3 ((i 2).val)).1 := (show Holds arg7.view 3 (kernelRun0_A.sl.HS0_3 c i arg3 harg3 arg4 harg4 arg5 harg5 arg6 harg6 arg7 harg7 arg8 harg8 hc1 x0 x1 x2) (run x0 x1 x2 3 ((i 2).val)).1 from by unfold kernelRun0_A.sl.HS0_3 kernelRun0_A.sl.HS0_2 kernelRun0_A.sl.HS0_1; exact ((holds_skip (h' := 2) (by decide) _ (holds_skip (h' := 1) (by decide) _ (holds_skip (h' := 0) (by decide) _ (b _ _ _ _ _ _ 3).1))) : Holds arg7.view 3 _ _)).readCov
  have wv235 : kernelRun0_A.sl.v235 c i arg3 harg3 arg4 harg4 arg5 harg5 arg6 harg6 arg7 harg7 arg8 harg8 hc1 x0 x1 x2 = (run x0 x1 x2 3 ((i 2).val)).2 := (show Holds arg8.view 3 (kernelRun0_A.sl.HS1_3 c i arg3 harg3 arg4 harg4 arg5 harg5 arg6 harg6 arg7 harg7 arg8 harg8 hc1 x0 x1 x2) (run x0 x1 x2 3 ((i 2).val)).2 from by unfold kernelRun0_A.sl.HS1_3 kernelRun0_A.sl.HS1_2 kernelRun0_A.sl.HS1_1; exact ((holds_skip (h' := 2) (by decide) _ (holds_skip (h' := 1) (by decide) _ (holds_skip (h' := 0) (by decide) _ (b _ _ _ _ _ _ 3).2))) : Holds arg8.view 3 _ _)).readCov
  intro h
  unfold kernelRun0_A.sl.HS1_4_1 kernelRun0_A.sl.HS1_3 kernelRun0_A.sl.HS1_2 kernelRun0_A.sl.HS1_1
  match h with
  | 0 => exact (holds_skip (h' := 3) (by decide) _ (holds_skip (h' := 2) (by decide) _ (holds_skip (h' := 1) (by decide) _ (holds_hit 0 _ _)))).eq (by simp only [kernelRun0_A.sl.r_1, rdK arg4.view _ 0 (qb i) _ (off33_eq i), rdV arg5.view _ 0 (qb i) _ (off34_eq i), rdQ arg3.view _ 0 _ (show (![0, 0, 0, 0] : Fin 4 → ℕ) = _ from rfl), q3, q4, q5, wv100, wv112]; rfl)
  | 1 => exact (holds_skip (h' := 3) (by decide) _ (holds_skip (h' := 2) (by decide) _ (holds_hit 1 _ _))).eq (by simp only [kernelRun0_A.sl.r_2, kernelRun0_A.sl.r_4, kernelRun0_A.sl.r_5, rdK arg4.view _ 1 (qb i) _ (off35_eq i), rdV arg5.view _ 1 (qb i) _ (off36_eq i), rdQ arg3.view _ 1 _ (show (![0, 1, 0, 0] : Fin 4 → ℕ) = _ from rfl), q3, q4, q5, wv141, wv153]; rfl)
  | 2 => exact (holds_skip (h' := 3) (by decide) _ (holds_hit 2 _ _)).eq (by simp only [kernelRun0_A.sl.r_6, kernelRun0_A.sl.r_7, kernelRun0_A.sl.r_8, kernelRun0_A.sl.r_9, rdK arg4.view _ 2 (qb i) _ (off37_eq i), rdV arg5.view _ 2 (qb i) _ (off38_eq i), rdQ arg3.view _ 2 _ (show (![0, 2, 0, 0] : Fin 4 → ℕ) = _ from rfl), q3, q4, q5, wv182, wv194]; rfl)
  | 3 => exact (holds_hit 3 _ _).eq (by simp only [kernelRun0_A.sl.r_10, kernelRun0_A.sl.r_11, rdK arg4.view _ 3 (qb i) _ (off39_eq i), rdV arg5.view _ 3 (qb i) _ (off40_eq i), rdQ arg3.view _ 3 _ (show (![0, 3, 0, 0] : Fin 4 → ℕ) = _ from rfl), q3, q4, q5, wv223, wv235]; rfl)

/-- Point of an odd row block: the stripes of the accumulator hold the state after the diagonal's block. -/
theorem holds_B (hc0 : cond0_0 i) (hp : (i 2).val % 2 = 1) : ∀ h : Fin 4, Holds arg8.view h (kernelRun0_B.sl.HS1_8 c i arg3 harg3 arg4 harg4 arg5 harg5 arg6 harg6 arg7 harg7 arg8 harg8 hc0 x0 x1 x2) (diag x0 x1 x2 h (qb i) (run x0 x1 x2 h (i 2).val)).2 := by
  have h7 : ∀ h, Holds arg7.view h kernelRun0_B.sl.HS0_4 (init (F := F)).1 := by
    intro h
    unfold kernelRun0_B.sl.HS0_4
    match h with
    | 0 => exact (holds_skip (h' := 3) (by decide) _ (holds_skip (h' := 2) (by decide) _ (holds_skip (h' := 1) (by decide) _ (holds_hit 0 _ _))))
    | 1 => exact (holds_skip (h' := 3) (by decide) _ (holds_skip (h' := 2) (by decide) _ (holds_hit 1 _ _)))
    | 2 => exact (holds_skip (h' := 3) (by decide) _ (holds_hit 2 _ _))
    | 3 => exact (holds_hit 3 _ _)
  have h8 : ∀ h, Holds arg8.view h kernelRun0_B.sl.HS1_4 (init (F := F)).2 := by
    intro h
    unfold kernelRun0_B.sl.HS1_4
    match h with
    | 0 => exact (holds_skip (h' := 3) (by decide) _ (holds_skip (h' := 2) (by decide) _ (holds_skip (h' := 1) (by decide) _ (holds_hit 0 _ _))))
    | 1 => exact (holds_skip (h' := 3) (by decide) _ (holds_skip (h' := 2) (by decide) _ (holds_hit 1 _ _)))
    | 2 => exact (holds_skip (h' := 3) (by decide) _ (holds_hit 2 _ _))
    | 3 => exact (holds_hit 3 _ _)
  have b := holds_loops c i arg3 harg3 arg4 harg4 arg5 harg5 arg6 harg6 arg7 harg7 arg8 harg8 x0 x1 x2 (BitVec.ofNat 32 (i 2).val) kernelRun0_B.sl.cst_21 _ _ h7 h8
  have hn : 2 * ((i 2).val / 2) = (i 2).val - 1 := by omega
  rw [hn] at b
  have hr : ∀ h, run x0 x1 x2 h (i 2).val = step x0 x1 x2 h (ob i) (run x0 x1 x2 h ((i 2).val - 1)) := by
    intro h
    rw [← run_succ x0 x1 x2 h ((i 2).val - 1) (ob i).isLt, Nat.sub_add_cancel (by omega)]
  have q3 := harg3.read_unread x0
  have q4 := harg4.read_unread x1
  have q5 := harg5.read_unread x2
  have wv96 : kernelRun0_B.sl.v96 c i arg3 harg3 arg4 harg4 arg5 harg5 arg6 harg6 arg7 harg7 arg8 harg8 x0 x1 x2 = (run x0 x1 x2 0 ((i 2).val - 1)).1 := (b _ _ _ _ _ _ 0).1.readCov
  have wv108 : kernelRun0_B.sl.v108 c i arg3 harg3 arg4 harg4 arg5 harg5 arg6 harg6 arg7 harg7 arg8 harg8 x0 x1 x2 = (run x0 x1 x2 0 ((i 2).val - 1)).2 := (b _ _ _ _ _ _ 0).2.readCov
  have wv133 : kernelRun0_B.sl.v133 c i arg3 harg3 arg4 harg4 arg5 harg5 arg6 harg6 arg7 harg7 arg8 harg8 hc0 x0 x1 x2 = (run x0 x1 x2 1 ((i 2).val - 1)).1 := (show Holds arg7.view 1 (kernelRun0_B.sl.HS0_1 c i arg3 harg3 arg4 harg4 arg5 harg5 arg6 harg6 arg7 harg7 arg8 harg8 hc0 x0 x1 x2) (run x0 x1 x2 1 ((i 2).val - 1)).1 from by unfold kernelRun0_B.sl.HS0_1; exact ((holds_skip (h' := 0) (by decide) _ (b _ _ _ _ _ _ 1).1) : Holds arg7.view 1 _ _)).readCov
  have wv145 : kernelRun0_B.sl.v145 c i arg3 harg3 arg4 harg4 arg5 harg5 arg6 harg6 arg7 harg7 arg8 harg8 hc0 x0 x1 x2 = (run x0 x1 x2 1 ((i 2).val - 1)).2 := (show Holds arg8.view 1 (kernelRun0_B.sl.HS1_1 c i arg3 harg3 arg4 harg4 arg5 harg5 arg6 harg6 arg7 harg7 arg8 harg8 hc0 x0 x1 x2) (run x0 x1 x2 1 ((i 2).val - 1)).2 from by unfold kernelRun0_B.sl.HS1_1; exact ((holds_skip (h' := 0) (by decide) _ (b _ _ _ _ _ _ 1).2) : Holds arg8.view 1 _ _)).readCov
  have wv170 : kernelRun0_B.sl.v170 c i arg3 harg3 arg4 harg4 arg5 harg5 arg6 harg6 arg7 harg7 arg8 harg8 hc0 x0 x1 x2 = (run x0 x1 x2 2 ((i 2).val - 1)).1 := (show Holds arg7.view 2 (kernelRun0_B.sl.HS0_2 c i arg3 harg3 arg4 harg4 arg5 harg5 arg6 harg6 arg7 harg7 arg8 harg8 hc0 x0 x1 x2) (run x0 x1 x2 2 ((i 2).val - 1)).1 from by unfold kernelRun0_B.sl.HS0_2 kernelRun0_B.sl.HS0_1; exact ((holds_skip (h' := 1) (by decide) _ (holds_skip (h' := 0) (by decide) _ (b _ _ _ _ _ _ 2).1)) : Holds arg7.view 2 _ _)).readCov
  have wv182 : kernelRun0_B.sl.v182 c i arg3 harg3 arg4 harg4 arg5 harg5 arg6 harg6 arg7 harg7 arg8 harg8 hc0 x0 x1 x2 = (run x0 x1 x2 2 ((i 2).val - 1)).2 := (show Holds arg8.view 2 (kernelRun0_B.sl.HS1_2 c i arg3 harg3 arg4 harg4 arg5 harg5 arg6 harg6 arg7 harg7 arg8 harg8 hc0 x0 x1 x2) (run x0 x1 x2 2 ((i 2).val - 1)).2 from by unfold kernelRun0_B.sl.HS1_2 kernelRun0_B.sl.HS1_1; exact ((holds_skip (h' := 1) (by decide) _ (holds_skip (h' := 0) (by decide) _ (b _ _ _ _ _ _ 2).2)) : Holds arg8.view 2 _ _)).readCov
  have wv207 : kernelRun0_B.sl.v207 c i arg3 harg3 arg4 harg4 arg5 harg5 arg6 harg6 arg7 harg7 arg8 harg8 hc0 x0 x1 x2 = (run x0 x1 x2 3 ((i 2).val - 1)).1 := (show Holds arg7.view 3 (kernelRun0_B.sl.HS0_3 c i arg3 harg3 arg4 harg4 arg5 harg5 arg6 harg6 arg7 harg7 arg8 harg8 hc0 x0 x1 x2) (run x0 x1 x2 3 ((i 2).val - 1)).1 from by unfold kernelRun0_B.sl.HS0_3 kernelRun0_B.sl.HS0_2 kernelRun0_B.sl.HS0_1; exact ((holds_skip (h' := 2) (by decide) _ (holds_skip (h' := 1) (by decide) _ (holds_skip (h' := 0) (by decide) _ (b _ _ _ _ _ _ 3).1))) : Holds arg7.view 3 _ _)).readCov
  have wv219 : kernelRun0_B.sl.v219 c i arg3 harg3 arg4 harg4 arg5 harg5 arg6 harg6 arg7 harg7 arg8 harg8 hc0 x0 x1 x2 = (run x0 x1 x2 3 ((i 2).val - 1)).2 := (show Holds arg8.view 3 (kernelRun0_B.sl.HS1_3 c i arg3 harg3 arg4 harg4 arg5 harg5 arg6 harg6 arg7 harg7 arg8 harg8 hc0 x0 x1 x2) (run x0 x1 x2 3 ((i 2).val - 1)).2 from by unfold kernelRun0_B.sl.HS1_3 kernelRun0_B.sl.HS1_2 kernelRun0_B.sl.HS1_1; exact ((holds_skip (h' := 2) (by decide) _ (holds_skip (h' := 1) (by decide) _ (holds_skip (h' := 0) (by decide) _ (b _ _ _ _ _ _ 3).2))) : Holds arg8.view 3 _ _)).readCov
  have p7_0 : Holds arg7.view 0 (kernelRun0_B.sl.HS0_4_1 c i arg3 harg3 arg4 harg4 arg5 harg5 arg6 harg6 arg7 harg7 arg8 harg8 hc0 x0 x1 x2) (step x0 x1 x2 0 (ob i) (run x0 x1 x2 0 ((i 2).val - 1))).1 := by
    unfold kernelRun0_B.sl.HS0_4_1 kernelRun0_B.sl.HS0_3 kernelRun0_B.sl.HS0_2 kernelRun0_B.sl.HS0_1
    exact (holds_skip (h' := 3) (by decide) _ (holds_skip (h' := 2) (by decide) _ (holds_skip (h' := 1) (by decide) _ (holds_hit 0 _ _)))).eq (by simp only [kernelRun0_B.sl.r, kernelRun0_B.sl.cst_21, kernelRun0_B.sl.v38, kernelRun0_B.sl.v37, kernelRun0_B.sl.v36, kernelRun0_B.sl.v34, kernelRun0_B.sl.v33, rdK arg4.view _ 0 (ob i) _ (off17_eq i hc0), rdV arg5.view _ 0 (ob i) _ (off18_eq i hc0), rdQ arg3.view _ 0 _ (show (![0, 0, 0, 0] : Fin 4 → ℕ) = _ from rfl), q3, q4, q5, wv96]; rfl)
  have p8_0 : Holds arg8.view 0 (kernelRun0_B.sl.HS1_4_1 c i arg3 harg3 arg4 harg4 arg5 harg5 arg6 harg6 arg7 harg7 arg8 harg8 hc0 x0 x1 x2) (step x0 x1 x2 0 (ob i) (run x0 x1 x2 0 ((i 2).val - 1))).2 := by
    unfold kernelRun0_B.sl.HS1_4_1 kernelRun0_B.sl.HS1_3 kernelRun0_B.sl.HS1_2 kernelRun0_B.sl.HS1_1
    exact (holds_skip (h' := 3) (by decide) _ (holds_skip (h' := 2) (by decide) _ (holds_skip (h' := 1) (by decide) _ (holds_hit 0 _ _)))).eq (by simp only [kernelRun0_B.sl.cst_21, kernelRun0_B.sl.v38, kernelRun0_B.sl.v37, kernelRun0_B.sl.v36, kernelRun0_B.sl.v34, kernelRun0_B.sl.v33, rdK arg4.view _ 0 (ob i) _ (off17_eq i hc0), rdV arg5.view _ 0 (ob i) _ (off18_eq i hc0), rdQ arg3.view _ 0 _ (show (![0, 0, 0, 0] : Fin 4 → ℕ) = _ from rfl), q3, q4, q5, wv96, wv108]; rfl)
  have p7_1 : Holds arg7.view 1 (kernelRun0_B.sl.HS0_4_1 c i arg3 harg3 arg4 harg4 arg5 harg5 arg6 harg6 arg7 harg7 arg8 harg8 hc0 x0 x1 x2) (step x0 x1 x2 1 (ob i) (run x0 x1 x2 1 ((i 2).val - 1))).1 := by
    unfold kernelRun0_B.sl.HS0_4_1 kernelRun0_B.sl.HS0_3 kernelRun0_B.sl.HS0_2 kernelRun0_B.sl.HS0_1
    exact (holds_skip (h' := 3) (by decide) _ (holds_skip (h' := 2) (by decide) _ (holds_hit 1 _ _))).eq (by simp only [kernelRun0_B.sl.r_1, rdK arg4.view _ 1 (ob i) _ (off19_eq i hc0), rdV arg5.view _ 1 (ob i) _ (off20_eq i hc0), rdQ arg3.view _ 1 _ (show (![0, 1, 0, 0] : Fin 4 → ℕ) = _ from rfl), q3, q4, q5, wv133]; rfl)
  have p8_1 : Holds arg8.view 1 (kernelRun0_B.sl.HS1_4_1 c i arg3 harg3 arg4 harg4 arg5 harg5 arg6 harg6 arg7 harg7 arg8 harg8 hc0 x0 x1 x2) (step x0 x1 x2 1 (ob i) (run x0 x1 x2 1 ((i 2).val - 1))).2 := by
    unfold kernelRun0_B.sl.HS1_4_1 kernelRun0_B.sl.HS1_3 kernelRun0_B.sl.HS1_2 kernelRun0_B.sl.HS1_1
    exact (holds_skip (h' := 3) (by decide) _ (holds_skip (h' := 2) (by decide) _ (holds_hit 1 _ _))).eq (by simp only [kernelRun0_B.sl.r_2, rdK arg4.view _ 1 (ob i) _ (off19_eq i hc0), rdV arg5.view _ 1 (ob i) _ (off20_eq i hc0), rdQ arg3.view _ 1 _ (show (![0, 1, 0, 0] : Fin 4 → ℕ) = _ from rfl), q3, q4, q5, wv133, wv145]; rfl)
  have p7_2 : Holds arg7.view 2 (kernelRun0_B.sl.HS0_4_1 c i arg3 harg3 arg4 harg4 arg5 harg5 arg6 harg6 arg7 harg7 arg8 harg8 hc0 x0 x1 x2) (step x0 x1 x2 2 (ob i) (run x0 x1 x2 2 ((i 2).val - 1))).1 := by
    unfold kernelRun0_B.sl.HS0_4_1 kernelRun0_B.sl.HS0_3 kernelRun0_B.sl.HS0_2 kernelRun0_B.sl.HS0_1
    exact (holds_skip (h' := 3) (by decide) _ (holds_hit 2 _ _)).eq (by simp only [kernelRun0_B.sl.r_4, rdK arg4.view _ 2 (ob i) _ (off21_eq i hc0), rdV arg5.view _ 2 (ob i) _ (off22_eq i hc0), rdQ arg3.view _ 2 _ (show (![0, 2, 0, 0] : Fin 4 → ℕ) = _ from rfl), q3, q4, q5, wv170]; rfl)
  have p8_2 : Holds arg8.view 2 (kernelRun0_B.sl.HS1_4_1 c i arg3 harg3 arg4 harg4 arg5 harg5 arg6 harg6 arg7 harg7 arg8 harg8 hc0 x0 x1 x2) (step x0 x1 x2 2 (ob i) (run x0 x1 x2 2 ((i 2).val - 1))).2 := by
    unfold kernelRun0_B.sl.HS1_4_1 kernelRun0_B.sl.HS1_3 kernelRun0_B.sl.HS1_2 kernelRun0_B.sl.HS1_1
    exact (holds_skip (h' := 3) (by decide) _ (holds_hit 2 _ _)).eq (by simp only [kernelRun0_B.sl.r_3, kernelRun0_B.sl.r_5, kernelRun0_B.sl.r_6, rdK arg4.view _ 2 (ob i) _ (off21_eq i hc0), rdV arg5.view _ 2 (ob i) _ (off22_eq i hc0), rdQ arg3.view _ 2 _ (show (![0, 2, 0, 0] : Fin 4 → ℕ) = _ from rfl), q3, q4, q5, wv170, wv182]; rfl)
  have p7_3 : Holds arg7.view 3 (kernelRun0_B.sl.HS0_4_1 c i arg3 harg3 arg4 harg4 arg5 harg5 arg6 harg6 arg7 harg7 arg8 harg8 hc0 x0 x1 x2) (step x0 x1 x2 3 (ob i) (run x0 x1 x2 3 ((i 2).val - 1))).1 := by
    unfold kernelRun0_B.sl.HS0_4_1 kernelRun0_B.sl.HS0_3 kernelRun0_B.sl.HS0_2 kernelRun0_B.sl.HS0_1
    exact (holds_hit 3 _ _).eq (by simp only [kernelRun0_B.sl.r_8, rdK arg4.view _ 3 (ob i) _ (off23_eq i hc0), rdV arg5.view _ 3 (ob i) _ (off24_eq i hc0), rdQ arg3.view _ 3 _ (show (![0, 3, 0, 0] : Fin 4 → ℕ) = _ from rfl), q3, q4, q5, wv207]; rfl)
  have p8_3 : Holds arg8.view 3 (kernelRun0_B.sl.HS1_4_1 c i arg3 harg3 arg4 harg4 arg5 harg5 arg6 harg6 arg7 harg7 arg8 harg8 hc0 x0 x1 x2) (step x0 x1 x2 3 (ob i) (run x0 x1 x2 3 ((i 2).val - 1))).2 := by
    unfold kernelRun0_B.sl.HS1_4_1 kernelRun0_B.sl.HS1_3 kernelRun0_B.sl.HS1_2 kernelRun0_B.sl.HS1_1
    exact (holds_hit 3 _ _).eq (by simp only [kernelRun0_B.sl.r_7, kernelRun0_B.sl.r_9, kernelRun0_B.sl.r_10, rdK arg4.view _ 3 (ob i) _ (off23_eq i hc0), rdV arg5.view _ 3 (ob i) _ (off24_eq i hc0), rdQ arg3.view _ 3 _ (show (![0, 3, 0, 0] : Fin 4 → ℕ) = _ from rfl), q3, q4, q5, wv207, wv219]; rfl)
  have wv248 : kernelRun0_B.sl.v248 c i arg3 harg3 arg4 harg4 arg5 harg5 arg6 harg6 arg7 harg7 arg8 harg8 hc0 x0 x1 x2 = (step x0 x1 x2 0 (ob i) (run x0 x1 x2 0 ((i 2).val - 1))).1 := p7_0.readCov
  have wv260 : kernelRun0_B.sl.v260 c i arg3 harg3 arg4 harg4 arg5 harg5 arg6 harg6 arg7 harg7 arg8 harg8 hc0 x0 x1 x2 = (step x0 x1 x2 0 (ob i) (run x0 x1 x2 0 ((i 2).val - 1))).2 := p8_0.readCov
  have wv289 : kernelRun0_B.sl.v289 c i arg3 harg3 arg4 harg4 arg5 harg5 arg6 harg6 arg7 harg7 arg8 harg8 hc0 x0 x1 x2 = (step x0 x1 x2 1 (ob i) (run x0 x1 x2 1 ((i 2).val - 1))).1 := (show Holds arg7.view 1 (kernelRun0_B.sl.HS0_5 c i arg3 harg3 arg4 harg4 arg5 harg5 arg6 harg6 arg7 harg7 arg8 harg8 hc0 x0 x1 x2) (step x0 x1 x2 1 (ob i) (run x0 x1 x2 1 ((i 2).val - 1))).1 from by unfold kernelRun0_B.sl.HS0_5; exact ((holds_skip (h' := 0) (by decide) _ p7_1) : Holds arg7.view 1 _ _)).readCov
  have wv301 : kernelRun0_B.sl.v301 c i arg3 harg3 arg4 harg4 arg5 harg5 arg6 harg6 arg7 harg7 arg8 harg8 hc0 x0 x1 x2 = (step x0 x1 x2 1 (ob i) (run x0 x1 x2 1 ((i 2).val - 1))).2 := (show Holds arg8.view 1 (kernelRun0_B.sl.HS1_5 c i arg3 harg3 arg4 harg4 arg5 harg5 arg6 harg6 arg7 harg7 arg8 harg8 hc0 x0 x1 x2) (step x0 x1 x2 1 (ob i) (run x0 x1 x2 1 ((i 2).val - 1))).2 from by unfold kernelRun0_B.sl.HS1_5; exact ((holds_skip (h' := 0) (by decide) _ p8_1) : Holds arg8.view 1 _ _)).readCov
  have wv330 : kernelRun0_B.sl.v330 c i arg3 harg3 arg4 harg4 arg5 harg5 arg6 harg6 arg7 harg7 arg8 harg8 hc0 x0 x1 x2 = (step x0 x1 x2 2 (ob i) (run x0 x1 x2 2 ((i 2).val - 1))).1 := (show Holds arg7.view 2 (kernelRun0_B.sl.HS0_6 c i arg3 harg3 arg4 harg4 arg5 harg5 arg6 harg6 arg7 harg7 arg8 harg8 hc0 x0 x1 x2) (step x0 x1 x2 2 (ob i) (run x0 x1 x2 2 ((i 2).val - 1))).1 from by unfold kernelRun0_B.sl.HS0_6 kernelRun0_B.sl.HS0_5; exact ((holds_skip (h' := 1) (by decide) _ (holds_skip (h' := 0) (by decide) _ p7_2)) : Holds arg7.view 2 _ _)).readCov
  have wv342 : kernelRun0_B.sl.v342 c i arg3 harg3 arg4 harg4 arg5 harg5 arg6 harg6 arg7 harg7 arg8 harg8 hc0 x0 x1 x2 = (step x0 x1 x2 2 (ob i) (run x0 x1 x2 2 ((i 2).val - 1))).2 := (show Holds arg8.view 2 (kernelRun0_B.sl.HS1_6 c i arg3 harg3 arg4 harg4 arg5 harg5 arg6 harg6 arg7 harg7 arg8 harg8 hc0 x0 x1 x2) (step x0 x1 x2 2 (ob i) (run x0 x1 x2 2 ((i 2).val - 1))).2 from by unfold kernelRun0_B.sl.HS1_6 kernelRun0_B.sl.HS1_5; exact ((holds_skip (h' := 1) (by decide) _ (holds_skip (h' := 0) (by decide) _ p8_2)) : Holds arg8.view 2 _ _)).readCov
  have wv371 : kernelRun0_B.sl.v371 c i arg3 harg3 arg4 harg4 arg5 harg5 arg6 harg6 arg7 harg7 arg8 harg8 hc0 x0 x1 x2 = (step x0 x1 x2 3 (ob i) (run x0 x1 x2 3 ((i 2).val - 1))).1 := (show Holds arg7.view 3 (kernelRun0_B.sl.HS0_7 c i arg3 harg3 arg4 harg4 arg5 harg5 arg6 harg6 arg7 harg7 arg8 harg8 hc0 x0 x1 x2) (step x0 x1 x2 3 (ob i) (run x0 x1 x2 3 ((i 2).val - 1))).1 from by unfold kernelRun0_B.sl.HS0_7 kernelRun0_B.sl.HS0_6 kernelRun0_B.sl.HS0_5; exact ((holds_skip (h' := 2) (by decide) _ (holds_skip (h' := 1) (by decide) _ (holds_skip (h' := 0) (by decide) _ p7_3))) : Holds arg7.view 3 _ _)).readCov
  have wv383 : kernelRun0_B.sl.v383 c i arg3 harg3 arg4 harg4 arg5 harg5 arg6 harg6 arg7 harg7 arg8 harg8 hc0 x0 x1 x2 = (step x0 x1 x2 3 (ob i) (run x0 x1 x2 3 ((i 2).val - 1))).2 := (show Holds arg8.view 3 (kernelRun0_B.sl.HS1_7 c i arg3 harg3 arg4 harg4 arg5 harg5 arg6 harg6 arg7 harg7 arg8 harg8 hc0 x0 x1 x2) (step x0 x1 x2 3 (ob i) (run x0 x1 x2 3 ((i 2).val - 1))).2 from by unfold kernelRun0_B.sl.HS1_7 kernelRun0_B.sl.HS1_6 kernelRun0_B.sl.HS1_5; exact ((holds_skip (h' := 2) (by decide) _ (holds_skip (h' := 1) (by decide) _ (holds_skip (h' := 0) (by decide) _ p8_3))) : Holds arg8.view 3 _ _)).readCov
  intro h
  rw [hr h]
  unfold kernelRun0_B.sl.HS1_8 kernelRun0_B.sl.HS1_7 kernelRun0_B.sl.HS1_6 kernelRun0_B.sl.HS1_5
  match h with
  | 0 => exact (holds_skip (h' := 3) (by decide) _ (holds_skip (h' := 2) (by decide) _ (holds_skip (h' := 1) (by decide) _ (holds_hit 0 _ _)))).eq (by simp only [kernelRun0_B.sl.r_11, kernelRun0_B.sl.r_12, kernelRun0_B.sl.r_13, rdK arg4.view _ 0 (qb i) _ (off25_eq i), rdV arg5.view _ 0 (qb i) _ (off26_eq i), rdQ arg3.view _ 0 _ (show (![0, 0, 0, 0] : Fin 4 → ℕ) = _ from rfl), q3, q4, q5, wv248, wv260]; rfl)
  | 1 => exact (holds_skip (h' := 3) (by decide) _ (holds_skip (h' := 2) (by decide) _ (holds_hit 1 _ _))).eq (by simp only [kernelRun0_B.sl.r_14, kernelRun0_B.sl.r_15, kernelRun0_B.sl.v284, kernelRun0_B.sl.v285, rdK arg4.view _ 1 (qb i) _ (off27_eq i), rdV arg5.view _ 1 (qb i) _ (off28_eq i), rdQ arg3.view _ 1 _ (show (![0, 1, 0, 0] : Fin 4 → ℕ) = _ from rfl), q3, q4, q5, wv289, wv301]; rfl)
  | 2 => exact (holds_skip (h' := 3) (by decide) _ (holds_hit 2 _ _)).eq (by simp only [kernelRun0_B.sl.r_16, kernelRun0_B.sl.r_17, rdK arg4.view _ 2 (qb i) _ (off29_eq i), rdV arg5.view _ 2 (qb i) _ (off30_eq i), rdQ arg3.view _ 2 _ (show (![0, 2, 0, 0] : Fin 4 → ℕ) = _ from rfl), q3, q4, q5, wv330, wv342]; rfl)
  | 3 => exact (holds_hit 3 _ _).eq (by simp only [rdK arg4.view _ 3 (qb i) _ (off31_eq i), rdV arg5.view _ 3 (qb i) _ (off32_eq i), rdQ arg3.view _ 3 _ (show (![0, 3, 0, 0] : Fin 4 → ℕ) = _ from rfl), q3, q4, q5, wv371, wv383]; rfl)

end

end Cert.KernelIdeal.Attn
-- ==== Proof.Point.lean ====
module

public import proofs.«01_k».proof.Proof.Body
public import Idealize.ShloMosaic.Lib.ValueIdx

@[expose] public section

set_option maxRecDepth 16384

/-! The block a grid point stores: for each of the four heads, the quotient of the final state's two halves, in 128 columns of the block. -/

namespace Cert.KernelIdeal.Attn

open Cert.KernelIdeal Cert.KernelIdeal.Gen
open Idealize.ShloMosaic Idealize.ShloMosaic.TcCoe
open ValueIdx

variable {F : FTy → Type} [FloatOps F]

/-- The state of head `h` after all the blocks of keys of row block `n`. -/
noncomputable def final (q : Vec F S1x4x512x256 .bf16) (k : Vec F S1x4x4096x256 .bf16) (v : Vec F S1x4x4096x128 .bf16) (n : Fin 8) (h : Fin 4) : St F :=
  diag q k v h n (run q k v h n.val)

/-- The head of a column, and its lane. -/
def headOf (c : Fin 512) : Fin 4 := ⟨c.val / 128, by omega⟩
def laneOf (c : Fin 512) : Fin 128 := ⟨c.val % 128, Nat.mod_lt _ (by decide)⟩

/-- The block, from the heads' accumulators. -/
noncomputable def outOf (a : Fin 4 → Vec F S1x512x256 .f32) : Vec F S1x512x512 .bf16 := fun y =>
  k0_pay2 (a (headOf (y 2))) (ix3 0 (y 1) (laneOf (y 2)))

/-- The columns of head `h` are its quotient. -/
theorem piece (h : Fin 4) (a : Fin 4 → Vec F S1x512x256 .f32) (inb : ∀ x, (![0, 0, 128 * h.val] : Fin 3 → ℕ) x + S1x512x128.size x ≤ S1x512x512.size x) (x : S1x512x128.Idx) :
    k0_pay2 (a h) x = outOf a ((Rect.unit (s := S1x512x512) ![0, 0, 128 * h.val] S1x512x128.size inb).emb x) := by
  have h2 : (((Rect.unit (s := S1x512x512) ![0, 0, 128 * h.val] S1x512x128.size inb).emb x) 2).val = 128 * h.val + (x 2).val := by
    show 128 * h.val + 1 * (x 2).val = _
    omega
  have h1 : (((Rect.unit (s := S1x512x512) ![0, 0, 128 * h.val] S1x512x128.size inb).emb x) 1).val = (x 1).val := by
    show 0 + 1 * (x 1).val = _
    omega
  have hx : (x 2).val < 128 := (x 2).isLt
  have hx0 : (x 0).val < 1 := (x 0).isLt
  unfold outOf
  have e1 : headOf (((Rect.unit (s := S1x512x512) ![0, 0, 128 * h.val] S1x512x128.size inb).emb x) 2) = h := Fin.ext (by
    show (((Rect.unit (s := S1x512x512) ![0, 0, 128 * h.val] S1x512x128.size inb).emb x) 2).val / 128 = h.val
    rw [h2]; omega)
  rw [e1]
  refine congrArg (k0_pay2 (a h)) (funext fun b => Fin.ext ?_)
  match b with
  | ⟨0, _⟩ => show (x 0).val = 0; omega
  | ⟨1, _⟩ => exact h1.symm
  | ⟨2, _⟩ =>
    show (x 2).val = (((Rect.unit (s := S1x512x512) ![0, 0, 128 * h.val] S1x512x128.size inb).emb x) 2).val % 128
    rw [h2]; omega

section

variable (c : Dev nD) (i : grid0.Coords) (arg3 : Memref sig .tc .vmem S1x4x512x256 .bf16) (harg3 : arg3.IsWhole)
  (arg4 : Memref sig .tc .vmem S1x4x4096x256 .bf16) (harg4 : arg4.IsWhole) (arg5 : Memref sig .tc .vmem S1x4x4096x128 .bf16) (harg5 : arg5.IsWhole)
  (arg6 : Memref sig .tc .vmem S1x512x512 .bf16) (harg6 : arg6.IsWhole) (arg7 : Memref sig .tc .vmem S4x512x128 .f32) (harg7 : arg7.IsWhole)
  (arg8 : Memref sig .tc .vmem S4x512x256 .f32) (harg8 : arg8.IsWhole)
  (x0 : Vec F S1x4x512x256 .bf16) (x1 : Vec F S1x4x4096x256 .bf16) (x2 : Vec F S1x4x4096x128 .bf16)

/-- At an even row block the point stores the quotients of the final states. -/
theorem out_A (hc0 : ¬cond0_0 i) (hc1 : cond0_1 i) (hp : (i 2).val % 2 = 0) :
    out0_A_3 c i arg3 harg3 arg4 harg4 arg5 harg5 arg6 harg6 arg7 harg7 arg8 harg8 hc0 hc1 x0 x1 x2 = outOf fun h => (final x0 x1 x2 (qb i) h).2 := by
  funext y
  have H := holds_A c i arg3 harg3 arg4 harg4 arg5 harg5 arg6 harg6 arg7 harg7 arg8 harg8 x0 x1 x2 hc1 hp
  unfold out0_A_3
  refine View.read_writes_apply_of_pieces _ _ (outOf fun h => (final x0 x1 x2 (qb i) h).2) _ ?_ y (cover0_A_3 c i arg3 harg3 arg4 harg4 arg5 harg5 arg6 harg6 arg7 harg7 arg8 harg8 hc0 hc1 x0 x1 x2 y)
  intro p hp x
  unfold kernelRun0_A at hp
  dsimp only at hp
  simp only [List.mem_cons, List.not_mem_nil, or_false] at hp
  rcases hp with rfl | rfl | rfl | rfl
  · exact (congrArg (fun z => k0_pay2 z x) (H 3).readCov).trans (piece 3 (fun h => (final x0 x1 x2 (qb i) h).2) inb_S1x512x512_S1x512x128_0_0_384 x)
  · exact (congrArg (fun z => k0_pay2 z x) (H 2).readCov).trans (piece 2 (fun h => (final x0 x1 x2 (qb i) h).2) inb_S1x512x512_S1x512x128_0_0_256 x)
  · exact (congrArg (fun z => k0_pay2 z x) (H 1).readCov).trans (piece 1 (fun h => (final x0 x1 x2 (qb i) h).2) inb_S1x512x512_S1x512x128_0_0_128 x)
  · exact (congrArg (fun z => k0_pay2 z x) (H 0).readCov).trans (piece 0 (fun h => (final x0 x1 x2 (qb i) h).2) inb_S1x512x512_S1x512x128_0_0_0 x)

/-- At an odd row block the point stores the quotients of the final states. -/
theorem out_B (hc0 : cond0_0 i) (hc1 : ¬cond0_1 i) (hp : (i 2).val % 2 = 1) :
    out0_B_3 c i arg3 harg3 arg4 harg4 arg5 harg5 arg6 harg6 arg7 harg7 arg8 harg8 hc0 hc1 x0 x1 x2 = outOf fun h => (final x0 x1 x2 (qb i) h).2 := by
  funext y
  have H := holds_B c i arg3 harg3 arg4 harg4 arg5 harg5 arg6 harg6 arg7 harg7 arg8 harg8 x0 x1 x2 hc0 hp
  unfold out0_B_3
  refine View.read_writes_apply_of_pieces _ _ (outOf fun h => (final x0 x1 x2 (qb i) h).2) _ ?_ y (cover0_B_3 c i arg3 harg3 arg4 harg4 arg5 harg5 arg6 harg6 arg7 harg7 arg8 harg8 hc0 hc1 x0 x1 x2 y)
  intro p hp x
  unfold kernelRun0_B at hp
  dsimp only at hp
  simp only [List.mem_cons, List.not_mem_nil, or_false] at hp
  rcases hp with rfl | rfl | rfl | rfl
  · exact (congrArg (fun z => k0_pay2 z x) (H 3).readCov).trans (piece 3 (fun h => (final x0 x1 x2 (qb i) h).2) inb_S1x512x512_S1x512x128_0_0_384 x)
  · exact (congrArg (fun z => k0_pay2 z x) (H 2).readCov).trans (piece 2 (fun h => (final x0 x1 x2 (qb i) h).2) inb_S1x512x512_S1x512x128_0_0_256 x)
  · exact (congrArg (fun z => k0_pay2 z x) (H 1).readCov).trans (piece 1 (fun h => (final x0 x1 x2 (qb i) h).2) inb_S1x512x512_S1x512x128_0_0_128 x)
  · exact (congrArg (fun z => k0_pay2 z x) (H 0).readCov).trans (piece 0 (fun h => (final x0 x1 x2 (qb i) h).2) inb_S1x512x512_S1x512x128_0_0_0 x)

end

end Cert.KernelIdeal.Attn
-- ==== Proof.Block.lean ====
module

public import proofs.«01_k».proof.Proof.Stripe
public import Idealize.ShloMosaic.Lib.Pipeline.Value
public import Idealize.ShloMosaic.Lib.ValueIdx
public import Idealize.ShloMosaic.Lib.IdealHost
public import Idealize.ShloMosaic.PureOps.Ideal.Laws

@[expose] public section

set_option maxRecDepth 16384

/-! One block of keys and values at the ideal values, read entry by entry: the scores, the running maxima and the accumulator. -/

namespace Cert.KernelIdeal.Attn

open Cert.KernelIdeal Cert.KernelIdeal.Gen
open Idealize.ShloMosaic Idealize.ShloMosaic.TcCoe
open ValueIdx

/-- The pattern of minus infinity is the bottom element. -/
theorem ofBits_neg_inf : Ideal.ofBits .f32 0xFF800000#32 = ⊥ := by simp [Ideal.ofBits, Ideal.ieee]

/-! ## Layout -/

section Layout
variable {α : Type}

/-- A block with two leading unit axes, viewed as a matrix. -/
theorem drop2_apply {a b : ℕ} (x : (⟨4, ![1, 1, a, b]⟩ : Shape).Idx → α) (h : (⟨4, ![1, 1, a, b]⟩ : Shape).ShapeCasts ⟨2, ![a, b]⟩) (r : Fin a) (l : Fin b) :
    shapeCast ⟨2, ![a, b]⟩ x h (ix2 r l) = x (ix4 0 0 r l) :=
  shapeCast_apply x h _ _ (by
    rw [Shape.rowMajor_val_four, Shape.rowMajor_val_two]
    show ((0 * 1 + 0) * a + r.val) * b + l.val = r.val * b + l.val
    simp)

/-- A block with one leading unit axis, viewed as a matrix. -/
theorem drop1_apply {a b : ℕ} (x : (⟨3, ![1, a, b]⟩ : Shape).Idx → α) (h : (⟨3, ![1, a, b]⟩ : Shape).ShapeCasts ⟨2, ![a, b]⟩) (r : Fin a) (l : Fin b) :
    shapeCast ⟨2, ![a, b]⟩ x h (ix2 r l) = x (ix3 0 r l) :=
  shapeCast_apply x h _ _ (by
    rw [Shape.rowMajor_val_three, Shape.rowMajor_val_two]
    show (0 * a + r.val) * b + l.val = r.val * b + l.val
    simp)

/-- A matrix viewed as a block with one leading unit axis. -/
theorem add1_apply {a b : ℕ} (x : (⟨2, ![a, b]⟩ : Shape).Idx → α) (h : (⟨2, ![a, b]⟩ : Shape).ShapeCasts ⟨3, ![1, a, b]⟩) (z : Fin 1) (r : Fin a) (l : Fin b) :
    shapeCast ⟨3, ![1, a, b]⟩ x h (ix3 z r l) = x (ix2 r l) :=
  shapeCast_apply x h _ _ (by
    rw [Shape.rowMajor_val_three, Shape.rowMajor_val_two]
    show r.val * b + l.val = (z.val * a + r.val) * b + l.val
    rw [show z.val = 0 by omega, Nat.zero_mul, Nat.zero_add])

/-- A column repeated over the lanes. -/
theorem col_apply {a b : ℕ} (ha : a ≠ 1) (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (r : Fin a) (l : Fin b) :
    broadcastTo ⟨2, ![a, b]⟩ (shapeCast ⟨2, ![a, 1]⟩ x h) h' (ix2 r l) = x (ix1 r) := by
  rw [broadcastTo_apply _ h' (ix2 r l) (ix2 r 0) (fun y => match y with
    | ⟨0, _⟩ => by show r.val = if a = 1 then 0 else r.val; exact (if_neg ha).symm
    | ⟨1, _⟩ => by show 0 = if 1 = 1 then 0 else l.val; exact (if_pos rfl).symm)]
  exact shapeCast_apply x h _ _ (by
    rw [Shape.rowMajor_val_one, Shape.rowMajor_val_two]
    show r.val = r.val * 1 + 0
    omega)

end Layout

/-! ## The scores -/

/-- The scores of a block of queries against a block of keys. -/
theorem score_apply (k q : Vec Ideal S1x1x512x256 .bf16) (r j : Fin 512) :
    k0_pay5 (F := Ideal) k q (ix2 r j) = ∑ d : Fin 256, q (ix4 0 0 r d) * k (ix4 0 0 j d) := by
  unfold k0_pay5
  unfold matmul
  rw [Ideal.matmul_constant_zero_apply, ← Equiv.sum_comp (contrEquiv1 dot_S512x256_S512x256_S512x512_1_1_0_0_n_n 256 rfl rfl).symm]
  refine Finset.sum_congr rfl fun d _ => ?_
  have hd := contrEquiv1_symm_val dot_S512x256_S512x256_S512x512_1_1_0_0_n_n 256 rfl rfl d
  have el : dot_S512x256_S512x256_S512x512_1_1_0_0_n_n.lhsIdx (ix2 r j) ((contrEquiv1 dot_S512x256_S512x256_S512x512_1_1_0_0_n_n 256 rfl rfl).symm d) = ix2 r d :=
    funext fun a => Fin.ext (match a with
      | ⟨0, _⟩ => rfl
      | ⟨1, _⟩ => hd)
  have er : dot_S512x256_S512x256_S512x512_1_1_0_0_n_n.rhsIdx (ix2 r j) ((contrEquiv1 dot_S512x256_S512x256_S512x512_1_1_0_0_n_n 256 rfl rfl).symm d) = ix2 j d :=
    funext fun a => Fin.ext (match a with
      | ⟨0, _⟩ => rfl
      | ⟨1, _⟩ => hd)
  rw [el, er]
  exact congrArg₂ (· * ·) (drop2_apply q _ r d) (drop2_apply k _ j d)

/-- On the diagonal the scores of later keys are masked. -/
theorem masked_apply (k q : Vec Ideal S1x1x512x256 .bf16) (r j : Fin 512) :
    k0_pay162 (F := Ideal) k q (ix2 r j) = if j.val ≤ r.val then k0_pay5 (F := Ideal) k q (ix2 r j) else ⊥ := by
  unfold k0_pay162
  dsimp only
  rw [select_apply]
  have hc : cmpi .sle (iota .tc S512x512 32 [1] iota_S512x512_d1_w32) (iota .tc S512x512 32 [0] iota_S512x512_d0_w32) (ix2 r j)
      = IntOp.cmpi .sle (BitVec.ofNat 32 j.val) (BitVec.ofNat 32 r.val) := by
    show IntOp.cmpi .sle (iota _ _ _ _ _ _) (iota _ _ _ _ _ _) = _
    rw [iota_single_apply, iota_single_apply]
  rw [hc, WordCmp.cmpi_sle_ofNat (by omega) (by omega)]
  by_cases h : j.val ≤ r.val
  · rw [if_pos h, decide_eq_true h]
    rfl
  · rw [if_neg h, decide_eq_false h]
    exact ofBits_neg_inf

/-! ## The running maxima -/

/-- The new maxima: the old ones and the greatest score of each row. -/
noncomputable def maxOf (S : FVec Ideal S512x512 .f32) (m : FVec Ideal S512x128 .f32) : FVec Ideal S512x128 .f32 :=
  maximumf m (broadcastTo S512x128 (shapeCast S512x1 (multiReduction .maximumf [1] S512 S 0xFF800000#32 reduces_S512x512_S512 (.inl rfl) rfl) shapeCasts_S512_S512x1) broadcasts_S512x1_S512x128)

theorem maxOf_apply (S : FVec Ideal S512x512 .f32) (m : FVec Ideal S512x128 .f32) (r : Fin 512) (l : Fin 128) :
    maxOf S m (ix2 r l) = max (m (ix2 r l)) (Finset.univ.sup fun j : Fin 512 => S (ix2 r j)) := by
  unfold maxOf
  rw [maximumf_apply, col_apply (by decide)]
  refine congrArg (max _) ((Ideal.multiReduction_maximumf_single (a := (1 : Fin S512x512.rank)) S 0xFF800000#32 reduces_S512x512_S512 (.inl rfl) rfl (ix1 r)).trans ?_)
  refine (congrArg (fun z => Finset.univ.fold max z (S ∘ reduces_S512x512_S512.lift (ix1 r))) ofBits_neg_inf).trans ?_
  refine Finset.fold_congr fun j _ => congrArg S (funext fun a => ?_)
  match a with
  | ⟨0, _⟩ => rfl
  | ⟨1, _⟩ => rfl

/-! ## The accumulator -/

/-- The new accumulator: the old one rescaled, and the block's weighted values and weights. -/
noncomputable def accOf (S : FVec Ideal S512x512 .f32) (m m' : FVec Ideal S512x128 .f32) (a : FVec Ideal S512x256 .f32) (w : FVec Ideal S512x256 .bf16) : FVec Ideal S512x256 .f32 :=
  addf (mulf (concatenate S512x256 1 [⟨S512x128, exp2 (subf m m')⟩, ⟨S512x128, exp2 (subf m m')⟩] concatenates_S512x128_S512x128_S512x256_d1) a)
    (matmul dot_S512x512_S512x256_S512x256_1_0_0_1_n_n none (truncf .bf16 (exp2 (subf S (concatenate S512x512 1 [⟨S512x128, m'⟩, ⟨S512x128, m'⟩, ⟨S512x128, m'⟩, ⟨S512x128, m'⟩] concatenates_S512x128_S512x128_S512x128_S512x128_S512x512_d1))) bitsLt_bf16_f32)
      w (constant S512x256 .f32 0x00000000#32))

/-- The values of a block beside 128 lanes of ones. -/
noncomputable def beside (v : Vec Ideal S1x1x512x128 .bf16) : FVec Ideal S512x256 .bf16 :=
  concatenate S512x256 1 [⟨S512x128, shapeCast S512x128 v shapeCasts_S1x1x512x128_S512x128⟩, ⟨S512x128, k0_pay184⟩] concatenates_S512x128_S512x128_S512x256_d1

theorem beside_lo (v : Vec Ideal S1x1x512x128 .bf16) (j : Fin 512) (c : Fin 256) (hc : c.val < 128) : beside v (ix2 j c) = v (ix4 0 0 j ⟨c.val, hc⟩) := by
  unfold beside
  rw [concatenate_pair_apply_left (s₁ := S512x128) (s₂ := S512x128) 1 _ _ _ (ix2 j c) rfl (ix2 j (⟨c.val, hc⟩ : Fin 128)) (fun b => match b with
    | ⟨0, _⟩ => rfl
    | ⟨1, _⟩ => rfl)]
  exact drop2_apply v _ j ⟨c.val, hc⟩

theorem beside_hi (v : Vec Ideal S1x1x512x128 .bf16) (j : Fin 512) (c : Fin 256) (hc : 128 ≤ c.val) : beside v (ix2 j c) = 1 := by
  have hl : c.val - 128 < 128 := by have := c.isLt; omega
  unfold beside
  rw [concatenate_pair_apply_right (s₁ := S512x128) (s₂ := S512x128) 1 _ _ _ (ix2 j c) rfl rfl (ix2 j (⟨c.val - 128, hl⟩ : Fin 128)) (fun b hb => match b, hb with
    | ⟨0, _⟩, _ => rfl
    | ⟨1, _⟩, hb => absurd rfl hb) (show c.val - 128 + 128 = c.val by omega)]
  exact Ideal.ofBits_one_bf16

theorem accOf_apply (S : FVec Ideal S512x512 .f32) (m m' : FVec Ideal S512x128 .f32) (a : FVec Ideal S512x256 .f32) (w : FVec Ideal S512x256 .bf16)
    (μ μ' : Fin 512 → EReal) (hm : ∀ r l, m (ix2 r l) = μ r) (hm' : ∀ r l, m' (ix2 r l) = μ' r) (r : Fin 512) (c : Fin 256) :
    accOf S m m' a w (ix2 r c) = Ideal.exp2 (μ r - μ' r) * a (ix2 r c) + ∑ j : Fin 512, Ideal.exp2 (S (ix2 r j) - μ' r) * w (ix2 j c) := by
  unfold accOf
  rw [addf_apply, mulf_apply]
  refine congrArg₂ (· + ·) (congrArg (· * _) ?_) ?_
  · refine (concatenate_replicate_apply (s₁ := S512x128) (t := S512x256) 1 2 (exp2 (subf m m')) _ rfl (ix2 r c) (ix2 r ⟨c.val % 128, Nat.mod_lt _ (by decide)⟩) rfl (fun b hb => match b, hb with
      | ⟨0, _⟩, _ => rfl
      | ⟨1, _⟩, hb => absurd rfl hb)).trans ?_
    show Ideal.exp2 (m _ - m' _) = _
    rw [hm, hm']
  · unfold matmul
    rw [Ideal.matmul_constant_zero_apply, ← Equiv.sum_comp (contrEquiv1 dot_S512x512_S512x256_S512x256_1_0_0_1_n_n 512 rfl rfl).symm]
    refine Finset.sum_congr rfl fun j _ => ?_
    have hd := contrEquiv1_symm_val dot_S512x512_S512x256_S512x256_1_0_0_1_n_n 512 rfl rfl j
    have el : dot_S512x512_S512x256_S512x256_1_0_0_1_n_n.lhsIdx (ix2 r c) ((contrEquiv1 dot_S512x512_S512x256_S512x256_1_0_0_1_n_n 512 rfl rfl).symm j) = ix2 r j :=
      funext fun a => Fin.ext (match a with
        | ⟨0, _⟩ => rfl
        | ⟨1, _⟩ => hd)
    have er : dot_S512x512_S512x256_S512x256_1_0_0_1_n_n.rhsIdx (ix2 r c) ((contrEquiv1 dot_S512x512_S512x256_S512x256_1_0_0_1_n_n 512 rfl rfl).symm j) = ix2 j c :=
      funext fun a => Fin.ext (match a with
        | ⟨0, _⟩ => hd
        | ⟨1, _⟩ => rfl)
    rw [el, er]
    refine congrArg (· * _) ?_
    show Ideal.exp2 (S _ - concatenate _ _ _ _ _) = _
    refine congrArg (fun z => Ideal.exp2 (S (ix2 r j) - z)) ?_
    refine (concatenate_replicate_apply (s₁ := S512x128) (t := S512x512) 1 4 m' concatenates_S512x128_S512x128_S512x128_S512x128_S512x512_d1 rfl (ix2 r j) (ix2 r ⟨j.val % 128, Nat.mod_lt _ (by decide)⟩) rfl (fun b hb => match b, hb with
      | ⟨0, _⟩, _ => rfl
      | ⟨1, _⟩, hb => absurd rfl hb)).trans (hm' _ _)

/-! ## A step, in these words -/

/-- Both the state a head carries and what it says: the maxima, the same in every lane, and the accumulator. -/
def Says (s : St Ideal) (μ : Fin 512 → EReal) (a : Fin 512 → Fin 256 → EReal) : Prop :=
  (∀ r l, s.1 (ix3 0 r l) = μ r) ∧ ∀ r c, s.2 (ix3 0 r c) = a r c

/-- A step over any scores. -/
theorem says_next (S : FVec Ideal S512x512 .f32) (m : Vec Ideal S1x512x128 .f32) (a : Vec Ideal S1x512x256 .f32) (v : Vec Ideal S1x1x512x128 .bf16)
    (μ : Fin 512 → EReal) (α : Fin 512 → Fin 256 → EReal) (h : Says (m, a) μ α) :
    Says (k0_pay10 (F := Ideal) (maxOf S (k0_pay6 m)), k0_pay9 (F := Ideal) (accOf S (k0_pay6 m) (maxOf S (k0_pay6 m)) (shapeCast S512x256 a shapeCasts_S1x512x256_S512x256) (beside v)))
      (fun r => max (μ r) (Finset.univ.sup fun j : Fin 512 => S (ix2 r j)))
      (fun r c => Ideal.exp2 (μ r - max (μ r) (Finset.univ.sup fun j : Fin 512 => S (ix2 r j))) * α r c
        + ∑ j : Fin 512, Ideal.exp2 (S (ix2 r j) - max (μ r) (Finset.univ.sup fun j : Fin 512 => S (ix2 r j))) * beside v (ix2 j c)) := by
  have h6 : ∀ r l, k0_pay6 (F := Ideal) m (ix2 r l) = μ r := fun r l => (drop1_apply m _ r l).trans (h.1 r l)
  have h7 : ∀ r l, maxOf S (k0_pay6 m) (ix2 r l) = max (μ r) (Finset.univ.sup fun j : Fin 512 => S (ix2 r j)) := fun r l => by rw [maxOf_apply, h6]
  refine ⟨fun r l => (add1_apply _ _ 0 r l).trans (h7 r l), fun r c => ?_⟩
  show k0_pay9 (F := Ideal) (accOf S (k0_pay6 m) (maxOf S (k0_pay6 m)) (shapeCast S512x256 a shapeCasts_S1x512x256_S512x256) (beside v)) (ix3 0 r c) = _
  unfold k0_pay9
  refine (add1_apply _ _ 0 r c).trans ?_
  rw [accOf_apply _ _ _ _ _ _ _ h6 h7]
  refine congrArg (fun z => _ * z + _) ((drop1_apply a _ r c).trans (h.2 r c))

/-- A block before the diagonal. -/
theorem says_step (q : Vec Ideal S1x4x512x256 .bf16) (k : Vec Ideal S1x4x4096x256 .bf16) (v : Vec Ideal S1x4x4096x128 .bf16) (h : Fin 4) (n : Fin 8) (s : St Ideal)
    (μ : Fin 512 → EReal) (α : Fin 512 → Fin 256 → EReal) (hs : Says s μ α) :
    Says (step q k v h n s)
      (fun r => max (μ r) (Finset.univ.sup fun j : Fin 512 => k0_pay5 (F := Ideal) (kBlk k h n) (qBlk q h) (ix2 r j)))
      (fun r c => Ideal.exp2 (μ r - max (μ r) (Finset.univ.sup fun j : Fin 512 => k0_pay5 (F := Ideal) (kBlk k h n) (qBlk q h) (ix2 r j))) * α r c
        + ∑ j : Fin 512, Ideal.exp2 (k0_pay5 (F := Ideal) (kBlk k h n) (qBlk q h) (ix2 r j) - max (μ r) (Finset.univ.sup fun j : Fin 512 => k0_pay5 (F := Ideal) (kBlk k h n) (qBlk q h) (ix2 r j))) * beside (vBlk v h n) (ix2 j c)) :=
  says_next (k0_pay5 (F := Ideal) (kBlk k h n) (qBlk q h)) s.1 s.2 (vBlk v h n) μ α hs

/-- The block on the diagonal. -/
theorem says_diag (q : Vec Ideal S1x4x512x256 .bf16) (k : Vec Ideal S1x4x4096x256 .bf16) (v : Vec Ideal S1x4x4096x128 .bf16) (h : Fin 4) (n : Fin 8) (s : St Ideal)
    (μ : Fin 512 → EReal) (α : Fin 512 → Fin 256 → EReal) (hs : Says s μ α) :
    Says (diag q k v h n s)
      (fun r => max (μ r) (Finset.univ.sup fun j : Fin 512 => k0_pay162 (F := Ideal) (kBlk k h n) (qBlk q h) (ix2 r j)))
      (fun r c => Ideal.exp2 (μ r - max (μ r) (Finset.univ.sup fun j : Fin 512 => k0_pay162 (F := Ideal) (kBlk k h n) (qBlk q h) (ix2 r j))) * α r c
        + ∑ j : Fin 512, Ideal.exp2 (k0_pay162 (F := Ideal) (kBlk k h n) (qBlk q h) (ix2 r j) - max (μ r) (Finset.univ.sup fun j : Fin 512 => k0_pay162 (F := Ideal) (kBlk k h n) (qBlk q h) (ix2 r j))) * beside (vBlk v h n) (ix2 j c)) :=
  says_next (k0_pay162 (F := Ideal) (kBlk k h n) (qBlk q h)) s.1 s.2 (vBlk v h n) μ α hs

/-- Before any block: maxima at the bottom, an empty accumulator. -/
theorem says_init : Says (init (F := Ideal)) (fun _ => ⊥) (fun _ _ => 0) :=
  ⟨fun r l => by
      show k0_pay185 (F := Ideal) (ix3 0 r l) = _
      unfold k0_pay185
      exact (add1_apply _ _ 0 r l).trans ofBits_neg_inf,
    fun r c => by
      show k0_pay186 (F := Ideal) (ix3 0 r c) = _
      unfold k0_pay186
      exact (add1_apply _ _ 0 r c).trans Ideal.ofBits_zero_f32⟩

/-- The quotient stored for a head: an entry of the weighted values over the weights. -/
theorem quotient_apply (a : Vec Ideal S1x512x256 .f32) (r : Fin 512) (c : Fin 128) :
    k0_pay2 (F := Ideal) a (ix3 0 r c) = Ideal.div (a (ix3 0 r ⟨c.val, by omega⟩)) (a (ix3 0 r ⟨128 + c.val, by omega⟩)) := by
  unfold k0_pay2
  rw [add1_apply]
  show Ideal.div (extractStridedSlice _ _ _ _ _) (extractStridedSlice _ _ _ _ _) = _
  rw [extractStridedSlice_apply (s := S512x256) (t := S512x128) ![0, 0] _ _ (ix2 r c) (ix2 r ⟨c.val, by omega⟩) (fun b => match b with
      | ⟨0, _⟩ => (Nat.zero_add _).symm
      | ⟨1, _⟩ => (Nat.zero_add _).symm),
    extractStridedSlice_apply (s := S512x256) (t := S512x128) ![0, 128] _ _ (ix2 r c) (ix2 r ⟨128 + c.val, by omega⟩) (fun b => match b with
      | ⟨0, _⟩ => (Nat.zero_add _).symm
      | ⟨1, _⟩ => rfl), drop1_apply, drop1_apply]

end Cert.KernelIdeal.Attn
-- ==== Proof.Online.lean ====
module

public import Idealize.ShloMosaic.PureOps.Ideal
public import Idealize.ShloMosaic.PureOps.Ideal.Laws
public import Mathlib.Data.EReal.Operations
public import Mathlib.Analysis.SpecialFunctions.Pow.Real
public import Mathlib.Tactic.Ring
public import Mathlib.Tactic.Linarith

@[expose] public section

/-! The mathematics of a row of attention over the extended reals: maxima and rescaled sums taken block by block are those of the whole row, and the
quotient of the two sums is the softmax-weighted sum. A masked score is the bottom element; the values may be any extended reals. -/

namespace Attn

open Idealize.ShloMosaic

/-! ## Sums over extended reals -/

/-- A nonnegative real factor moves into a sum. -/
theorem mul_sum_of_nonneg {ι : Type} (s : Finset ι) (f : ι → EReal) (c : ℝ) (hc : 0 ≤ c) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.mpr hc) (EReal.coe_ne_top c), ih]

/-- A sum of reals is a real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of `n` values, by number or by index. -/
theorem sup_fin (n : ℕ) (f : ℕ → EReal) : (Finset.univ.sup fun j : Fin n => f j.val) = (Finset.range n).sup f :=
  le_antisymm (Finset.sup_le fun j _ => Finset.le_sup (f := f) (Finset.mem_range.mpr j.isLt))
    (Finset.sup_le fun j hj => Finset.le_sup (f := fun j : Fin n => f j.val) (Finset.mem_univ ⟨j, Finset.mem_range.mp hj⟩))

/-! ## Block by block -/

/-- The greatest of the first `n` scores. -/
noncomputable def mx (t : ℕ → EReal) (n : ℕ) : EReal := (Finset.range n).sup t

/-- The values of the first `n` keys, weighted relative to the greatest score. -/
noncomputable def ac (t w : ℕ → EReal) (n : ℕ) : EReal := ∑ j ∈ Finset.range n, Ideal.exp2 (t j - mx t n) * w j

theorem mx_add (t : ℕ → EReal) (n b : ℕ) : mx t (n + b) = max (mx t n) (Finset.univ.sup fun j : Fin b => t (n + j.val)) := by
  rw [sup_fin b fun j => t (n + j)]
  refine le_antisymm (Finset.sup_le fun j hj => ?_) (max_le (Finset.sup_le fun j hj => ?_) (Finset.sup_le fun j hj => ?_))
  · rcases Nat.lt_or_ge j n with h | h
    · exact le_max_of_le_left (Finset.le_sup (f := t) (Finset.mem_range.mpr h))
    · refine le_max_of_le_right ?_
      have hj' := Finset.mem_range.mp hj
      have := Finset.le_sup (f := fun j => t (n + j)) (s := Finset.range b) (b := j - n) (Finset.mem_range.mpr (by omega))
      rwa [show n + (j - n) = j by omega] at this
  · exact Finset.le_sup (f := t) (Finset.mem_range.mpr (by have := Finset.mem_range.mp hj; omega))
  · exact Finset.le_sup (f := t) (Finset.mem_range.mpr (by have := Finset.mem_range.mp hj; omega))

/-- Weights relative to a smaller maximum are weights relative to a greater one, rescaled. -/
theorem exp2_rescale (x m : EReal) (M : ℝ) (hx : x ≤ m) (hm : m ≤ (M : EReal)) : Ideal.exp2 (x - M) = Ideal.exp2 (m - M) * Ideal.exp2 (x - m) := by
  induction m using EReal.rec with
  | bot =>
    rw [le_bot_iff.mp hx, EReal.bot_sub, Ideal.exp2_bot, zero_mul]
  | top => exact absurd (top_le_iff.mp hm) (EReal.coe_ne_top M)
  | coe m =>
    induction x using EReal.rec with
    | bot => rw [EReal.bot_sub, EReal.bot_sub, Ideal.exp2_bot, mul_zero]
    | top => exact absurd (top_le_iff.mp hx) (EReal.coe_ne_top m)
    | coe x =>
      rw [← EReal.coe_sub, ← EReal.coe_sub, ← EReal.coe_sub, Ideal.exp2_coe, Ideal.exp2_coe, Ideal.exp2_coe, ← EReal.coe_mul]
      congr 1
      show (2 : ℝ) ^ (x - M) = (2 : ℝ) ^ (m - M) * (2 : ℝ) ^ (x - m)
      rw [← Real.rpow_add (by norm_num)]
      congr 1
      ring

/-- The rescaling factor is a nonnegative real. -/
theorem exp2_factor (m : EReal) (M : ℝ) (hm : m ≤ (M : EReal)) : ∃ c : ℝ, 0 ≤ c ∧ Ideal.exp2 (m - M) = (c : EReal) := by
  induction m using EReal.rec with
  | bot => exact ⟨0, le_refl _, by rw [EReal.bot_sub, Ideal.exp2_bot]; rfl⟩
  | top => exact absurd (top_le_iff.mp hm) (EReal.coe_ne_top M)
  | coe m => exact ⟨(2 : ℝ) ^ (m - M), Real.rpow_nonneg (by norm_num) _, by rw [← EReal.coe_sub, Ideal.exp2_coe]; rfl⟩

/-- THE STEP: the accumulator after `b` more keys is the old one rescaled and the new keys' weighted values. -/
theorem ac_add (t w : ℕ → EReal) (n b : ℕ) (M : ℝ) (hM : mx t (n + b) = (M : EReal)) :
    ac t w (n + b) = Ideal.exp2 (mx t n - mx t (n + b)) * ac t w n + ∑ j : Fin b, Ideal.exp2 (t (n + j.val) - mx t (n + b)) * w (n + j.val) := by
  have hle : mx t n ≤ (M : EReal) := by rw [← hM, mx_add]; exact le_max_left _ _
  obtain ⟨c, hc, he⟩ := exp2_factor (mx t n) M hle
  unfold ac
  rw [Finset.sum_range_add, hM, Finset.sum_range (fun j => Ideal.exp2 (t (n + j) - (M : EReal)) * w (n + j)), he, mul_sum_of_nonneg _ _ c hc]
  refine congrArg (· + _) (Finset.sum_congr rfl fun j hj => ?_)
  rw [exp2_rescale (t j) (mx t n) M (Finset.le_sup (f := t) hj) hle, he, mul_assoc]

/-! ## The whole row -/

section Row

variable (τ : ℕ → ℝ) (R : ℕ)

/-- The scores of a row, masked after the row's own key. -/
noncomputable def causal (f : ℕ → ℝ) : ℕ → EReal := fun j => if j ≤ R then (f j : EReal) else ⊥

/-- The row's greatest score is one of its scores. -/
theorem exists_greatest : ∃ j₀ ≤ R, ∀ j ≤ R, τ j ≤ τ j₀ := by
  obtain ⟨j₀, h₀, h⟩ := Finset.exists_max_image (Finset.range (R + 1)) τ ⟨0, Finset.mem_range.mpr (Nat.succ_pos R)⟩
  exact ⟨j₀, by have := Finset.mem_range.mp h₀; omega, fun j hj => h j (Finset.mem_range.mpr (by omega))⟩

theorem mx_causal (j₀ n : ℕ) (h₀ : j₀ ≤ R) (hn : j₀ < n) (h : ∀ j ≤ R, τ j ≤ τ j₀) : mx (causal R τ) n = (τ j₀ : EReal) := by
  refine le_antisymm (Finset.sup_le fun j _ => ?_) ?_
  · unfold causal
    split
    · exact EReal.coe_le_coe_iff.mpr (h j ‹_›)
    · exact bot_le
  · have := Finset.le_sup (f := causal R τ) (Finset.mem_range.mpr hn)
    rwa [show causal R τ j₀ = (τ j₀ : EReal) from if_pos h₀] at this

/-- The greatest score among some of the row's keys is a real. -/
theorem mx_real (n : ℕ) (hn : 0 < n) : ∃ M : ℝ, mx (causal R τ) n = (M : EReal) := by
  have h0 : ((τ 0 : ℝ) : EReal) ≤ mx (causal R τ) n := by
    have := Finset.le_sup (f := causal R τ) (Finset.mem_range.mpr hn)
    rwa [show causal R τ 0 = (τ 0 : EReal) from if_pos (Nat.zero_le R)] at this
  obtain ⟨j₀, h₀, h⟩ := exists_greatest τ R
  have h1 : mx (causal R τ) n ≤ (τ j₀ : EReal) := Finset.sup_le fun j _ => by
    unfold causal
    split
    · exact EReal.coe_le_coe_iff.mpr (h j ‹_›)
    · exact bot_le
  induction hm : mx (causal R τ) n using EReal.rec with
  | bot => rw [hm] at h0; exact absurd (le_bot_iff.mp h0) (EReal.coe_ne_bot _)
  | top => rw [hm] at h1; exact absurd (top_le_iff.mp h1) (EReal.coe_ne_top _)
  | coe m => exact ⟨m, rfl⟩

/-- THE ROW: the weighted values over the weights, with powers of two of scores over `log 2`, are the softmax-weighted values. -/
theorem quotient_eq (n N : ℕ) (hn : R < n) (hN : n ≤ N) (v : ℕ → EReal) :
    Ideal.div (ac (causal R τ) v n) (ac (causal R τ) (fun _ => 1) n)
      = ∑ j ∈ Finset.range N, v j * Ideal.div (Ideal.exp (causal R (fun j => τ j * Real.log 2) j - mx (causal R fun j => τ j * Real.log 2) N))
          (∑ j ∈ Finset.range N, Ideal.exp (causal R (fun j => τ j * Real.log 2) j - mx (causal R fun j => τ j * Real.log 2) N)) := by
  obtain ⟨j₀, h₀, h⟩ := exists_greatest τ R
  have hl : 0 < Real.log 2 := Real.log_pos (by norm_num)
  have e1 : mx (causal R τ) n = (τ j₀ : EReal) := mx_causal τ R j₀ n h₀ (by omega) h
  have e2 : mx (causal R fun j => τ j * Real.log 2) N = ((τ j₀ * Real.log 2 : ℝ) : EReal) :=
    mx_causal (fun j => τ j * Real.log 2) R j₀ N h₀ (by omega) fun j hj => mul_le_mul_of_nonneg_right (h j hj) hl.le
  let p : ℕ → ℝ := fun j => if j ≤ R then Real.exp ((τ j - τ j₀) * Real.log 2) else 0
  have hp0 : ∀ j, 0 ≤ p j := fun j => by
    show 0 ≤ ite _ _ _
    split
    · exact (Real.exp_pos _).le
    · exact le_refl _
  have p1 : ∀ j, Ideal.exp2 (causal R τ j - (τ j₀ : EReal)) = (p j : EReal) := fun j => by
    by_cases hj : j ≤ R
    · rw [show causal R τ j = (τ j : EReal) from if_pos hj, ← EReal.coe_sub, Ideal.exp2_coe, show p j = Real.exp ((τ j - τ j₀) * Real.log 2) from if_pos hj]
      congr 1
      show (2 : ℝ) ^ (τ j - τ j₀) = _
      rw [Real.rpow_def_of_pos (by norm_num), mul_comm]
    · rw [show causal R τ j = ⊥ from if_neg hj, EReal.bot_sub, Ideal.exp2_bot, show p j = 0 from if_neg hj]
      rfl
  have p2 : ∀ j, Ideal.exp (causal R (fun j => τ j * Real.log 2) j - ((τ j₀ * Real.log 2 : ℝ) : EReal)) = (p j : EReal) := fun j => by
    by_cases hj : j ≤ R
    · rw [show causal R (fun j => τ j * Real.log 2) j = ((τ j * Real.log 2 : ℝ) : EReal) from if_pos hj, ← EReal.coe_sub, Ideal.exp_coe,
        show p j = Real.exp ((τ j - τ j₀) * Real.log 2) from if_pos hj, sub_mul]
    · rw [show causal R (fun j => τ j * Real.log 2) j = ⊥ from if_neg hj, EReal.bot_sub, Ideal.exp_bot, show p j = 0 from if_neg hj]
      rfl
  have hz : ∀ j ∈ Finset.range N, j ∉ Finset.range n → p j = 0 := fun j _ hj => if_neg (by have : ¬j < n := fun h => hj (Finset.mem_range.mpr h); omega)
  have hsub : Finset.range n ⊆ Finset.range N := Finset.range_subset_range.mpr hN
  have hL : ∑ j ∈ Finset.range n, p j = ∑ j ∈ Finset.range N, p j := Finset.sum_subset hsub hz
  have hpos : 0 < ∑ j ∈ Finset.range N, p j := by
    refine Finset.sum_pos' (fun j _ => hp0 j) ⟨j₀, Finset.mem_range.mpr (by omega), ?_⟩
    rw [show p j₀ = Real.exp ((τ j₀ - τ j₀) * Real.log 2) from if_pos h₀]
    exact Real.exp_pos _
  have hden : ac (causal R τ) (fun _ => 1) n = ((∑ j ∈ Finset.range N, p j : ℝ) : EReal) := by
    unfold ac
    rw [← hL, coe_sum]
    exact Finset.sum_congr rfl fun j _ => by rw [e1, p1, mul_one]
  have hnum : ac (causal R τ) v n = ∑ j ∈ Finset.range N, (p j : EReal) * v j := by
    unfold ac
    rw [← Finset.sum_subset hsub fun j hj hj' => by rw [hz j hj hj']; exact zero_mul _]
    exact Finset.sum_congr rfl fun j _ => by rw [e1, p1]
  have hden2 : ∑ j ∈ Finset.range N, Ideal.exp (causal R (fun j => τ j * Real.log 2) j - mx (causal R fun j => τ j * Real.log 2) N) = ((∑ j ∈ Finset.range N, p j : ℝ) : EReal) := by
    rw [coe_sum]
    exact Finset.sum_congr rfl fun j _ => by rw [e2, p2]
  rw [hden2, hden, hnum, Ideal.div_coe hpos.ne', mul_comm, mul_sum_of_nonneg _ _ _ (one_div_pos.mpr hpos).le]
  refine Finset.sum_congr rfl fun j _ => ?_
  rw [e2, p2, Ideal.div_coe hpos.ne', mul_comm (p j : EReal) (v j), mul_left_comm, mul_comm (p j : EReal)]

end Row

end Attn
-- ==== Proof.Row.lean ====
module

public import proofs.«01_k».proof.Proof.Point
public import proofs.«01_k».proof.Proof.Block
public import proofs.«01_k».proof.Proof.Online

@[expose] public section

set_option maxRecDepth 16384

/-! A row of a head in closed form: the state after `n` blocks holds the maximum and the weighted sums over the first `512 n` keys, and the stored row is their quotient. -/

namespace Cert.KernelIdeal.Attn

open Cert.KernelIdeal Cert.KernelIdeal.Gen
open Idealize.ShloMosaic Idealize.ShloMosaic.TcCoe
open ValueIdx _root_.Attn

/-- A row of a block of keys is a row of the array. -/
theorem kBlk_apply (x : Vec Ideal S1x4x4096x256 .bf16) (h : Fin 4) (n : Fin 8) (j : Fin 512) (d : Fin 256) :
    kBlk x h n (ix4 0 0 j d) = x (ix4 0 h ⟨512 * n.val + j.val, by omega⟩ d) := by
  refine congrArg x (funext fun b => Fin.ext ?_)
  match b with
  | ⟨0, _⟩ => rfl
  | ⟨1, _⟩ => show h.val + 1 * 0 = h.val; omega
  | ⟨2, _⟩ => show 512 * n.val + 1 * j.val = 512 * n.val + j.val; omega
  | ⟨3, _⟩ => show 0 + 1 * d.val = d.val; omega

/-- A row of a block of values is a row of the array. -/
theorem vBlk_apply (x : Vec Ideal S1x4x4096x128 .bf16) (h : Fin 4) (n : Fin 8) (j : Fin 512) (d : Fin 128) :
    vBlk x h n (ix4 0 0 j d) = x (ix4 0 h ⟨512 * n.val + j.val, by omega⟩ d) := by
  refine congrArg x (funext fun b => Fin.ext ?_)
  match b with
  | ⟨0, _⟩ => rfl
  | ⟨1, _⟩ => show h.val + 1 * 0 = h.val; omega
  | ⟨2, _⟩ => show 512 * n.val + 1 * j.val = 512 * n.val + j.val; omega
  | ⟨3, _⟩ => show 0 + 1 * d.val = d.val; omega

/-- A row of a head's queries is a row of the block. -/
theorem qBlk_apply (x : Vec Ideal S1x4x512x256 .bf16) (h : Fin 4) (r : Fin 512) (d : Fin 256) :
    qBlk x h (ix4 0 0 r d) = x (ix4 0 h r d) := by
  refine congrArg x (funext fun b => Fin.ext ?_)
  match b with
  | ⟨0, _⟩ => rfl
  | ⟨1, _⟩ => show h.val + 1 * 0 = h.val; omega
  | ⟨2, _⟩ => show 0 + 1 * r.val = r.val; omega
  | ⟨3, _⟩ => show 0 + 1 * d.val = d.val; omega

section

variable (q : Vec Ideal S1x4x512x256 .bf16) (k : Vec Ideal S1x4x4096x256 .bf16) (v : Vec Ideal S1x4x4096x128 .bf16) (h : Fin 4) (n : Fin 8)
  (τ : Fin 512 → ℕ → ℝ) (w : Fin 128 → ℕ → EReal)
  (hτ : ∀ (r : Fin 512) (j : Fin 4096), ∑ d : Fin 256, q (ix4 0 h r d) * k (ix4 0 h j d) = (τ r j.val : EReal))
  (hw : ∀ (c : Fin 128) (j : Fin 4096), v (ix4 0 h j c) = w c j.val)

/-- What the accumulator's column sums: the values' columns, then the weights themselves. -/
noncomputable def cols (w : Fin 128 → ℕ → EReal) (c : Fin 256) : ℕ → EReal := if hc : c.val < 128 then w ⟨c.val, hc⟩ else fun _ => 1

include hτ in
/-- A score of a block is the row's score. -/
theorem block_score (b : Fin 8) (r j : Fin 512) : k0_pay5 (F := Ideal) (kBlk k h b) (qBlk q h) (ix2 r j) = (τ r (512 * b.val + j.val) : EReal) := by
  rw [score_apply]
  refine (Finset.sum_congr rfl fun d _ => ?_).trans (hτ r ⟨512 * b.val + j.val, by omega⟩)
  rw [kBlk_apply, qBlk_apply]

include hw in
/-- A column beside a block's values is the row's column. -/
theorem block_col (b : Fin 8) (j : Fin 512) (c : Fin 256) : beside (vBlk v h b) (ix2 j c) = cols w c (512 * b.val + j.val) := by
  unfold cols
  split
  · rw [beside_lo _ _ _ ‹_›, vBlk_apply]
    exact hw _ _
  · exact beside_hi _ _ _ (by omega)

include hτ hw in
/-- After the blocks before the diagonal. -/
theorem says_run (b : ℕ) (hb : b ≤ n.val) :
    Says (run q k v h b) (fun r => mx (causal (512 * n.val + r.val) (τ r)) (512 * b)) (fun r c => ac (causal (512 * n.val + r.val) (τ r)) (cols w c) (512 * b)) := by
  induction b with
  | zero =>
    have := says_init
    refine ⟨fun r l => (this.1 r l).trans ?_, fun r c => (this.2 r c).trans ?_⟩
    · unfold mx; simp
    · unfold ac; simp
  | succ b ih =>
    have hb8 : b < 8 := by omega
    have e : run q k v h (b + 1) = step q k v h ⟨b, hb8⟩ (run q k v h b) := dif_pos hb8
    rw [e]
    have hs := says_step q k v h ⟨b, hb8⟩ _ _ _ (ih (by omega))
    have hsc : ∀ r j : Fin 512, k0_pay5 (F := Ideal) (kBlk k h ⟨b, hb8⟩) (qBlk q h) (ix2 r j) = causal (512 * n.val + r.val) (τ r) (512 * b + j.val) := fun r j => by
      rw [block_score q k h τ hτ]
      exact (if_pos (show 512 * b + j.val ≤ 512 * n.val + r.val by omega)).symm
    have hm : ∀ r : Fin 512, max (mx (causal (512 * n.val + r.val) (τ r)) (512 * b)) (Finset.univ.sup fun j : Fin 512 => k0_pay5 (F := Ideal) (kBlk k h ⟨b, hb8⟩) (qBlk q h) (ix2 r j))
        = mx (causal (512 * n.val + r.val) (τ r)) (512 * b + 512) := fun r => by
      rw [mx_add]
      exact congrArg _ (Finset.sup_congr rfl fun j _ => hsc r j)
    refine ⟨fun r l => (hs.1 r l).trans (hm r), fun r c => (hs.2 r c).trans ?_⟩
    obtain ⟨M, hM⟩ := mx_real (τ r) (512 * n.val + r.val) (512 * b + 512) (by omega)
    beta_reduce
    rw [hm r]
    refine Eq.trans ?_ (ac_add (causal (512 * n.val + r.val) (τ r)) (cols w c) (512 * b) 512 M hM).symm
    refine congrArg₂ (fun y z : EReal => y + z) rfl (Finset.sum_congr rfl fun j _ => ?_)
    rw [hsc, block_col v h w hw]

include hτ hw in
/-- After the block on the diagonal. -/
theorem says_final :
    Says (final q k v n h) (fun r => mx (causal (512 * n.val + r.val) (τ r)) (512 * n.val + 512)) (fun r c => ac (causal (512 * n.val + r.val) (τ r)) (cols w c) (512 * n.val + 512)) := by
  have hs := says_diag q k v h n _ _ _ (says_run q k v h n τ w hτ hw n.val le_rfl)
  have hsc : ∀ r j : Fin 512, k0_pay162 (F := Ideal) (kBlk k h n) (qBlk q h) (ix2 r j) = causal (512 * n.val + r.val) (τ r) (512 * n.val + j.val) := fun r j => by
    rw [masked_apply, block_score q k h τ hτ]
    unfold causal
    by_cases hj : j.val ≤ r.val
    · rw [if_pos hj, if_pos (by omega)]
    · rw [if_neg hj, if_neg (by omega)]
  have hm : ∀ r : Fin 512, max (mx (causal (512 * n.val + r.val) (τ r)) (512 * n.val)) (Finset.univ.sup fun j : Fin 512 => k0_pay162 (F := Ideal) (kBlk k h n) (qBlk q h) (ix2 r j))
      = mx (causal (512 * n.val + r.val) (τ r)) (512 * n.val + 512) := fun r => by
    rw [mx_add]
    exact congrArg _ (Finset.sup_congr rfl fun j _ => hsc r j)
  refine ⟨fun r l => (hs.1 r l).trans (hm r), fun r c => (hs.2 r c).trans ?_⟩
  obtain ⟨M, hM⟩ := mx_real (τ r) (512 * n.val + r.val) (512 * n.val + 512) (by omega)
  beta_reduce
  rw [hm r]
  refine Eq.trans ?_ (ac_add (causal (512 * n.val + r.val) (τ r)) (cols w c) (512 * n.val) 512 M hM).symm
  refine congrArg₂ (fun y z : EReal => y + z) rfl (Finset.sum_congr rfl fun j _ => ?_)
  rw [hsc, block_col v h w hw]

include hτ hw in
/-- THE STORED ROW: the softmax of the row's scores (times `log 2`, for the powers of two), over all 4096 keys, applied to the values. -/
theorem stored (r : Fin 512) (c : Fin 128) :
    k0_pay2 (F := Ideal) (final q k v n h).2 (ix3 0 r c)
      = ∑ j ∈ Finset.range 4096, w c j * Ideal.div
          (Ideal.exp (causal (512 * n.val + r.val) (fun j => τ r j * Real.log 2) j - mx (causal (512 * n.val + r.val) fun j => τ r j * Real.log 2) 4096))
          (∑ j ∈ Finset.range 4096, Ideal.exp (causal (512 * n.val + r.val) (fun j => τ r j * Real.log 2) j - mx (causal (512 * n.val + r.val) fun j => τ r j * Real.log 2) 4096)) := by
  have hs := says_final q k v h n τ w hτ hw
  rw [quotient_apply, hs.2, hs.2]
  have e1 : cols w (⟨c.val, by omega⟩ : Fin 256) = w c := dif_pos c.isLt
  have e2 : cols w (⟨128 + c.val, by omega⟩ : Fin 256) = fun _ => 1 := dif_neg (by show ¬ 128 + c.val < 128; omega)
  beta_reduce
  rw [e1, e2]
  exact quotient_eq (τ r) (512 * n.val + r.val) (512 * n.val + 512) 4096 (by omega) (by omega) (w c)

end

end Cert.KernelIdeal.Attn
-- ==== Proof.HostLine.lean ====
module

public import Idealize.ShloMosaic.Lib.StableHlo.RunRead

@[expose] public section

/-! A line of host operations in which every buffer is written once, read as equations: after the line, a written buffer holds its operation of what the operands hold after the line. -/

namespace HostLine

open Idealize.ShloMosaic Idealize.ShloMosaic.StableHlo

variable {τ : Topo} {sig : RefSig} {Val : EltTy → Type}
variable {ops : List (HloOp τ sig Val)} {W : List (Ref sig .tc)} (hW : ops.map HloOp.writes = W.map fun w => {Proc.devRef (τ := τ) .tc w})
  (σ : Valuation τ sig Val)

include hW in
/-- What the operations from position `i` on write. -/
theorem writes_drop (i : ℕ) : (ops.drop i).map HloOp.writes = (W.drop i).map fun w => {Proc.devRef (τ := τ) .tc w} := by
  rw [List.map_drop, hW, ← List.map_drop]

include hW in
/-- A buffer not written from position `i` on holds after the line what it held there. -/
theorem settled (i : ℕ) {x : Ref sig .tc} (hx : x ∉ W.drop i) : upto ops σ i (Proc.devRef .tc x) = after ops σ (Proc.devRef .tc x) := by
  have h := after_unwritten (W.drop i) (writes_drop hW i) hx (upto ops σ i)
  rw [← h]
  unfold upto
  have : ∀ (l₁ l₂ : List (HloOp τ sig Val)) (V : Valuation τ sig Val), after (l₁ ++ l₂) V = after l₂ (after l₁ V) := fun l₁ => by
    induction l₁ with
    | nil => exact fun _ _ => rfl
    | cons op l ih => exact fun l₂ V => ih l₂ _
  rw [← this, List.take_append_drop]

include hW in
/-- The buffer written at position `i` holds its operation's result. -/
theorem written (i : ℕ) {op : HloOp τ sig Val} {rest : List (HloOp τ sig Val)} (hseg : ops.drop i = op :: rest) {y : Ref sig .tc} (hy : y ∉ W.drop (i + 1)) :
    after ops σ (Proc.devRef .tc y) = op.result (upto ops σ i) (Proc.devRef .tc y) := by
  refine after_last_write (W.drop (i + 1)) hseg ?_ hy σ
  have : rest = ops.drop (i + 1) := by rw [← List.drop_drop, hseg]; rfl
  rw [this]
  exact writes_drop hW (i + 1)

include hW in
/-- A constant. -/
theorem nullary_eq (i : ℕ) {y : Ref sig .tc} {v : y.ty.Contents Val} {hy} {rest : List (HloOp τ sig Val)} (hseg : ops.drop i = nullary y v hy :: rest)
    (h : y ∉ W.drop (i + 1)) : after ops σ (Proc.devRef .tc y) = v :=
  (written hW σ i hseg h).trans (nullary_result y v hy _)

include hW in
/-- An operation of one operand. -/
theorem unary_eq (i : ℕ) {x y : Ref sig .tc} {f : x.ty.Contents Val → y.ty.Contents Val} {hx hy} {rest : List (HloOp τ sig Val)}
    (hseg : ops.drop i = unary x y f hx hy :: rest) (h : y ∉ W.drop (i + 1)) (h' : x ∉ W.drop i) :
    after ops σ (Proc.devRef .tc y) = f (after ops σ (Proc.devRef .tc x)) :=
  (written hW σ i hseg h).trans ((unary_result x y f hx hy _).trans (congrArg f (settled hW σ i h')))

include hW in
/-- An operation of two operands. -/
theorem binary_eq (i : ℕ) {a b y : Ref sig .tc} {f : a.ty.Contents Val → b.ty.Contents Val → y.ty.Contents Val} {ha hb hy} {rest : List (HloOp τ sig Val)}
    (hseg : ops.drop i = binary a b y f ha hb hy :: rest) (h : y ∉ W.drop (i + 1)) (h' : a ∉ W.drop i) (h'' : b ∉ W.drop i) :
    after ops σ (Proc.devRef .tc y) = f (after ops σ (Proc.devRef .tc a)) (after ops σ (Proc.devRef .tc b)) :=
  (written hW σ i hseg h).trans ((binary_result a b y f ha hb hy _).trans (congrArg₂ f (settled hW σ i h') (settled hW σ i h'')))

include hW in
/-- An operation of several operands. -/
theorem nary_eq (i : ℕ) {n : ℕ} {xs : Fin n → Ref sig .tc} {y : Ref sig .tc} {f : ((k : Fin n) → (xs k).ty.Contents Val) → y.ty.Contents Val} {hxs hy}
    {rest : List (HloOp τ sig Val)} (hseg : ops.drop i = nary xs y f hxs hy :: rest) (h : y ∉ W.drop (i + 1)) (h' : ∀ k, xs k ∉ W.drop i) :
    after ops σ (Proc.devRef .tc y) = f fun k => after ops σ (Proc.devRef .tc (xs k)) :=
  (written hW σ i hseg h).trans ((nary_result xs y f hxs hy _).trans (congrArg f (funext fun k => settled hW σ i (h' k))))

end HostLine
-- ==== Proof.Inputs.lean ====
module

public import proofs.«01_k».proof.Proof.Gen.KernelIdeal.Value
public import proofs.«01_k».proof.Proof.Online
public import proofs.«01_k».proof.Proof.HostLine
public import Idealize.ShloMosaic.Lib.Pipeline.Value
public import Idealize.ShloMosaic.Lib.ValueIdx
public import Idealize.ShloMosaic.Lib.IdealHost
public import Idealize.ShloMosaic.Lib.Claim
public import Idealize.ShloMosaic.PureOps.Ideal.Laws
public import Mathlib.Tactic.Ring

@[expose] public section

set_option maxRecDepth 16384

/-! The arrays the grid reads, entry by entry, from the arguments: the queries and keys with their rotary lanes and the lanes of zeros beside them, the queries scaled. -/

namespace Cert.KernelIdeal.Attn

open Cert.KernelIdeal Cert.KernelIdeal.Gen
open Idealize.ShloMosaic Idealize.ShloMosaic.TcCoe
open ValueIdx

/-! ## The grid -/

/-- The grid's points in order: batch, group of four heads, block of 512 rows. -/
theorem index0 : ∀ t : Fin grid0.N, cc0_transform_0 (grid0.coords t) = ![t.val / 32, t.val / 8 % 4, t.val % 8, 0] := by decide +kernel
theorem index1 : ∀ t : Fin grid0.N, cc0_transform_1 (grid0.coords t) = ![t.val / 32, t.val / 8 % 4, 0, 0] := by decide +kernel
theorem index2 : ∀ t : Fin grid0.N, cc0_transform_2 (grid0.coords t) = ![t.val / 32, t.val / 8 % 4, 0, 0] := by decide +kernel
theorem index3 : ∀ t : Fin grid0.N, cc0_transform_3 (grid0.coords t) = ![t.val / 32, t.val % 8, t.val / 8 % 4] := by decide +kernel
theorem coords2 : ∀ t : Fin grid0.N, ((grid0.coords t) 2).val = t.val % 8 := by decide +kernel

theorem lt64 (t : Fin cfg0.N) : t.val < 64 := t.isLt

section

variable {F : FTy → Type} [FloatOps F]
variable (m : (ℓ : Loc nD τ sig) → Buf (Elt F) ℓ) (c : Dev nD) (t : Fin cfg0.N)

/-- A row of the block of queries. -/
theorem blk0_apply (h : Fin 4) (r : Fin 512) (d : Fin 256) :
    iblk m c 0 t (ix4 0 h r d) = V m c main_v9 (ix4 (⟨t.val / 32, by have := lt64 t; omega⟩ : Fin 2) (⟨4 * (t.val / 8 % 4) + h.val, by omega⟩ : Fin 16) (⟨512 * (t.val % 8) + r.val, by omega⟩ : Fin 4096) d) := by
  show V m c main_v9 (((cfg0.win 0).blk t).view.emb (ix4 0 h r d)) = _
  refine congrArg (V m c main_v9) (funext fun a => Fin.ext ?_)
  show cc0_transform_0 (grid0.coords t) a * S1x4x512x256.size a + 1 * (ix4 (0 : Fin 1) h r d a).val = _
  rw [index0 t]
  match a with
  | ⟨0, _⟩ => show t.val / 32 * 1 + 1 * 0 = t.val / 32; omega
  | ⟨1, _⟩ => show t.val / 8 % 4 * 4 + 1 * h.val = 4 * (t.val / 8 % 4) + h.val; omega
  | ⟨2, _⟩ => show t.val % 8 * 512 + 1 * r.val = 512 * (t.val % 8) + r.val; omega
  | ⟨3, _⟩ => show 0 * 256 + 1 * d.val = d.val; omega

/-- A row of the block of keys. -/
theorem blk1_apply (h : Fin 4) (j : Fin 4096) (d : Fin 256) :
    iblk m c 1 t (ix4 0 h j d) = V m c main_v14 (ix4 (⟨t.val / 32, by have := lt64 t; omega⟩ : Fin 2) (⟨4 * (t.val / 8 % 4) + h.val, by omega⟩ : Fin 16) j d) := by
  show V m c main_v14 (((cfg0.win 1).blk t).view.emb (ix4 0 h j d)) = _
  refine congrArg (V m c main_v14) (funext fun a => Fin.ext ?_)
  show cc0_transform_1 (grid0.coords t) a * S1x4x4096x256.size a + 1 * (ix4 (0 : Fin 1) h j d a).val = _
  rw [index1 t]
  match a with
  | ⟨0, _⟩ => show t.val / 32 * 1 + 1 * 0 = t.val / 32; omega
  | ⟨1, _⟩ => show t.val / 8 % 4 * 4 + 1 * h.val = 4 * (t.val / 8 % 4) + h.val; omega
  | ⟨2, _⟩ => show 0 * 4096 + 1 * j.val = j.val; omega
  | ⟨3, _⟩ => show 0 * 256 + 1 * d.val = d.val; omega

/-- A row of the block of values. -/
theorem blk2_apply (h : Fin 4) (j : Fin 4096) (d : Fin 128) :
    iblk m c 2 t (ix4 0 h j d) = V m c main_v16 (ix4 (⟨t.val / 32, by have := lt64 t; omega⟩ : Fin 2) (⟨4 * (t.val / 8 % 4) + h.val, by omega⟩ : Fin 16) j d) := by
  show V m c main_v16 (((cfg0.win 2).blk t).view.emb (ix4 0 h j d)) = _
  refine congrArg (V m c main_v16) (funext fun a => Fin.ext ?_)
  show cc0_transform_2 (grid0.coords t) a * S1x4x4096x128.size a + 1 * (ix4 (0 : Fin 1) h j d a).val = _
  rw [index2 t]
  match a with
  | ⟨0, _⟩ => show t.val / 32 * 1 + 1 * 0 = t.val / 32; omega
  | ⟨1, _⟩ => show t.val / 8 % 4 * 4 + 1 * h.val = 4 * (t.val / 8 % 4) + h.val; omega
  | ⟨2, _⟩ => show 0 * 4096 + 1 * j.val = j.val; omega
  | ⟨3, _⟩ => show 0 * 128 + 1 * d.val = d.val; omega

end

/-! ## The host's arrays, at the ideal values -/

/-- 256 lanes: 128 of one row, 64 of another, zeros. -/
noncomputable def lanes (x : Fin 128 → EReal) (y : Fin 64 → EReal) (d : Fin 256) : EReal :=
  if h : d.val < 128 then x ⟨d.val, h⟩ else if h' : d.val < 192 then y ⟨d.val - 128, by omega⟩ else 0

/-- The three arrays side by side, read at a lane. -/
theorem beside_apply (x : FVec Ideal S2x4096x16x128 .f32) (y z : FVec Ideal S2x4096x16x64 .f32) (hz : ∀ i, z i = 0)
    (hc : Shape.Concatenates ([⟨S2x4096x16x128, x⟩, ⟨S2x4096x16x64, y⟩, ⟨S2x4096x16x64, z⟩].map (fun p : (s : Shape) × (s.Idx → EReal) => p.1)) S2x4096x16x256 3)
    (b : Fin 2) (s : Fin 4096) (h : Fin 16) (d : Fin 256) :
    concatenate (α := EReal) S2x4096x16x256 3 [⟨S2x4096x16x128, x⟩, ⟨S2x4096x16x64, y⟩, ⟨S2x4096x16x64, z⟩] hc (ix4 b s h d)
      = lanes (fun d => x (ix4 b s h d)) (fun d => y (ix4 b s h d)) d := by
  unfold lanes
  split
  · rename_i hd
    exact concatenate_apply_piece (t := S2x4096x16x256) 3 _ _ (ix4 b s h d) 0 (by simp) S2x4096x16x128 x rfl rfl 0 rfl (ix4 b s h ⟨d.val, hd⟩)
      (fun a ha => match a, ha with
        | ⟨0, _⟩, _ => rfl
        | ⟨1, _⟩, _ => rfl
        | ⟨2, _⟩, _ => rfl
        | ⟨3, _⟩, ha => absurd rfl ha) (Nat.zero_add _)
  · split
    · rename_i hd hd'
      exact concatenate_apply_piece (t := S2x4096x16x256) 3 _ _ (ix4 b s h d) 1 (by simp) S2x4096x16x64 y rfl rfl 128 rfl (ix4 b s h ⟨d.val - 128, by omega⟩)
        (fun a ha => match a, ha with
          | ⟨0, _⟩, _ => rfl
          | ⟨1, _⟩, _ => rfl
          | ⟨2, _⟩, _ => rfl
          | ⟨3, _⟩, ha => absurd rfl ha) (show 128 + (d.val - 128) = d.val by omega)
    · rename_i hd hd'
      exact (concatenate_apply_piece (t := S2x4096x16x256) 3 _ _ (ix4 b s h d) 2 (by simp) S2x4096x16x64 z rfl rfl 192 rfl (ix4 b s h ⟨d.val - 192, by omega⟩)
        (fun a ha => match a, ha with
          | ⟨0, _⟩, _ => rfl
          | ⟨1, _⟩, _ => rfl
          | ⟨2, _⟩, _ => rfl
          | ⟨3, _⟩, ha => absurd rfl ha) (show 192 + (d.val - 192) = d.val by omega)).trans (hz _)

/-- The scale of the queries: one over the root of 192 times the logarithm of 2. -/
noncomputable def sc : ℝ := 1 / (Real.sqrt 192 * Real.log 2)

theorem ofBits_192 : Ideal.ofBits .f32 0x43400000#32 = ((192 : ℝ) : EReal) := by
  simp [Ideal.ofBits, Ideal.ieee]; rw [← EReal.coe_mul]; norm_num
theorem ofBits_2 : Ideal.ofBits .f32 0x40000000#32 = ((2 : ℝ) : EReal) := by
  simp [Ideal.ofBits, Ideal.ieee]; rw [← EReal.coe_mul]; norm_num

/-- The host's scale is that real. -/
theorem scale_eq : Ideal.div (Ideal.ofBits .f32 0x3F800000#32) (Ideal.sqrt (Ideal.ofBits .f32 0x43400000#32) * Ideal.log (Ideal.ofBits .f32 0x40000000#32)) = ((sc : ℝ) : EReal) := by
  have h2 : Real.log 2 ≠ 0 := (Real.log_pos (by norm_num)).ne'
  have h1 : Real.sqrt 192 ≠ 0 := (Real.sqrt_pos.mpr (by norm_num)).ne'
  rw [ofBits_192, ofBits_2, Ideal.ofBits_one_f32, Ideal.sqrt_coe, Ideal.log_coe, if_neg (by norm_num), if_neg (by norm_num), ← EReal.coe_mul, Ideal.div_coe (mul_ne_zero h1 h2), one_mul]
  rfl

variable (m : (ℓ : Loc nD τ sig) → Buf (Elt Ideal) ℓ) (c : Dev nD)

/-- The buffers the host writes before the grid, in order. -/
def written : List (Ref sig .tc) :=
  [main_cst, main_v0, main_cst_0, main_v1, main_v2, main_cst_1, main_v3, main_cst_2, main_v4, main_v5, main_v6, main_v7, main_v8, main_v9, main_v10, main_v11, main_v12,
    main_v13, main_v14, main_v15, main_v16]

theorem written_eq : (hostOps0 (F := Ideal)).map HloOp.writes = written.map fun w => {Proc.devRef (τ := τ) .tc w} := rfl

/-- The host's scale. -/
theorem scale_apply (i : S_.Idx) : V m c main_v3 i = ((sc : ℝ) : EReal) := by
  have e3 := HostLine.binary_eq written_eq (fun b => m (c, b)) 6 rfl (by decide) (by decide) (by decide)
  have e2 := HostLine.binary_eq written_eq (fun b => m (c, b)) 4 rfl (by decide) (by decide) (by decide)
  have e1 := HostLine.unary_eq written_eq (fun b => m (c, b)) 3 rfl (by decide) (by decide)
  have e0 := HostLine.unary_eq written_eq (fun b => m (c, b)) 1 rfl (by decide) (by decide)
  have c0 := HostLine.nullary_eq written_eq (fun b => m (c, b)) 0 rfl (by decide)
  have c1 := HostLine.nullary_eq written_eq (fun b => m (c, b)) 2 rfl (by decide)
  have c2 := HostLine.nullary_eq written_eq (fun b => m (c, b)) 5 rfl (by decide)
  refine (congrFun e3 i).trans (Eq.trans ?_ scale_eq)
  rw [e2, e1, e0, c0, c1, c2]
  rfl

/-- The lanes of zeros. -/
theorem zeros_apply (i : S2x4096x16x64.Idx) : V m c main_v4 i = (0 : EReal) := by
  have e := HostLine.unary_eq written_eq (fun b => m (c, b)) 8 rfl (by decide) (by decide)
  have c2 := HostLine.nullary_eq written_eq (fun b => m (c, b)) 7 rfl (by decide)
  refine (congrFun e i).trans ?_
  rw [c2]
  exact Ideal.ofBits_zero_f32

/-- The queries. -/
theorem queries_apply (b : Fin 2) (h : Fin 16) (s : Fin 4096) (d : Fin 256) :
    V m c main_v9 (ix4 b h s d)
      = lanes (fun d => m ((c : Thread nD τ).loc main_arg0) (ix4 b s h d)) (fun d => m ((c : Thread nD τ).loc main_arg1) (ix4 b s h d)) d * ((sc : ℝ) : EReal) := by
  have e9 := HostLine.unary_eq written_eq (fun b => m (c, b)) 13 rfl (by decide) (by decide)
  have e8 := HostLine.unary_eq written_eq (fun b => m (c, b)) 12 rfl (by decide) (by decide)
  have e7 := HostLine.binary_eq written_eq (fun b => m (c, b)) 11 rfl (by decide) (by decide) (by decide)
  have e6 := HostLine.unary_eq written_eq (fun b => m (c, b)) 10 rfl (by decide) (by decide)
  have e5 := HostLine.nary_eq written_eq (fun b => m (c, b)) 9 rfl (by decide) (by decide)
  refine (congrFun e9 _).trans ?_
  refine (transpose_apply (s := S2x4096x16x256) (t := S2x16x4096x256) [0, 2, 1, 3] _ _ (ix4 b h s d) (ix4 b s h d) (fun a => match a with
    | ⟨0, _⟩ => rfl
    | ⟨1, _⟩ => rfl
    | ⟨2, _⟩ => rfl
    | ⟨3, _⟩ => rfl)).trans ?_
  refine (congrFun e8 (ix4 b s h d)).trans ((congrFun e7 (ix4 b s h d)).trans ?_)
  refine congrArg₂ (fun y z : EReal => y * z) ((congrFun e5 (ix4 b s h d)).trans ?_) ((congrFun e6 (ix4 b s h d)).trans ?_)
  · refine (beside_apply (V m c main_arg0) (V m c main_arg1) (V m c main_v4) (zeros_apply m c) _ b s h d).trans ?_
    rw [V_main_arg0, V_main_arg1]
  · exact scale_apply m c _

/-- The keys. -/
theorem keys_apply (b : Fin 2) (h : Fin 16) (s : Fin 4096) (d : Fin 256) :
    V m c main_v14 (ix4 b h s d)
      = lanes (fun d => m ((c : Thread nD τ).loc main_arg2) (ix4 b s h d)) (fun d => m ((c : Thread nD τ).loc main_arg3) (ix3 b s d)) d := by
  have e14 := HostLine.unary_eq written_eq (fun b => m (c, b)) 18 rfl (by decide) (by decide)
  have e13 := HostLine.unary_eq written_eq (fun b => m (c, b)) 17 rfl (by decide) (by decide)
  have e12 := HostLine.nary_eq written_eq (fun b => m (c, b)) 16 rfl (by decide) (by decide)
  have e11 := HostLine.unary_eq written_eq (fun b => m (c, b)) 15 rfl (by decide) (by decide)
  have e10 := HostLine.unary_eq written_eq (fun b => m (c, b)) 14 rfl (by decide) (by decide)
  refine (congrFun e14 _).trans ?_
  refine (transpose_apply (s := S2x4096x16x256) (t := S2x16x4096x256) [0, 2, 1, 3] _ _ (ix4 b h s d) (ix4 b s h d) (fun a => match a with
    | ⟨0, _⟩ => rfl
    | ⟨1, _⟩ => rfl
    | ⟨2, _⟩ => rfl
    | ⟨3, _⟩ => rfl)).trans ?_
  refine (congrFun e13 (ix4 b s h d)).trans ((congrFun e12 (ix4 b s h d)).trans ?_)
  refine (beside_apply (V m c main_arg2) (V m c main_v11) (V m c main_v4) (zeros_apply m c) _ b s h d).trans ?_
  rw [V_main_arg2]
  refine congrArg (fun y => lanes _ y d) (funext fun e => ?_)
  refine (congrFun e11 (ix4 b s h e)).trans ?_
  refine (broadcastInDim_apply (s := S2x4096x1x64) (t := S2x4096x16x64) ![0, 1, 2, 3] _ _ (ix4 b s h e) (ix4 b s 0 e) (fun a => match a with
    | ⟨0, _⟩ => rfl
    | ⟨1, _⟩ => rfl
    | ⟨2, _⟩ => rfl
    | ⟨3, _⟩ => rfl)).trans ?_
  refine (congrFun e10 (ix4 b s 0 e)).trans ?_
  refine (broadcastInDim_apply (s := S2x4096x64) (t := S2x4096x1x64) ![0, 1, 3] _ _ (ix4 b s 0 e) (ix3 b s e) (fun a => match a with
    | ⟨0, _⟩ => rfl
    | ⟨1, _⟩ => rfl
    | ⟨2, _⟩ => rfl)).trans ?_
  exact congrFun (V_main_arg3 m c) _

/-- The values. -/
theorem values_apply (b : Fin 2) (h : Fin 16) (s : Fin 4096) (d : Fin 128) :
    V m c main_v16 (ix4 b h s d) = m ((c : Thread nD τ).loc main_arg4) (ix4 b s h d) := by
  have e16 := HostLine.unary_eq written_eq (fun b => m (c, b)) 20 rfl (by decide) (by decide)
  have e15 := HostLine.unary_eq written_eq (fun b => m (c, b)) 19 rfl (by decide) (by decide)
  refine (congrFun e16 _).trans ?_
  refine (transpose_apply (s := S2x4096x16x128) (t := S2x16x4096x128) [0, 2, 1, 3] _ _ (ix4 b h s d) (ix4 b s h d) (fun a => match a with
    | ⟨0, _⟩ => rfl
    | ⟨1, _⟩ => rfl
    | ⟨2, _⟩ => rfl
    | ⟨3, _⟩ => rfl)).trans ?_
  exact (congrFun e15 (ix4 b s h d)).trans (congrFun (V_main_arg4 m c) _)

/-! ## A score -/

/-- A sum over 256 lanes, in three parts. -/
theorem sum_256 (f : Fin 256 → EReal) :
    ∑ d, f d = (∑ d : Fin 128, f ⟨d.val, by omega⟩) + ((∑ d : Fin 64, f ⟨128 + d.val, by omega⟩) + ∑ d : Fin 64, f ⟨192 + d.val, by omega⟩) := by
  refine (Fin.sum_univ_add (a := 128) (b := 128) f).trans (congrArg₂ (fun y z : EReal => y + z) rfl ?_)
  exact (Fin.sum_univ_add (a := 64) (b := 64) (fun d : Fin 128 => f (Fin.natAdd 128 d))).trans
    (congrArg₂ (fun y z : EReal => y + z) rfl (Finset.sum_congr rfl fun d _ => congrArg f (Fin.ext (by show 128 + (64 + d.val) = 192 + d.val; omega))))

/-- A row's product of scaled lanes with lanes: the two parts' products, scaled. -/
theorem lanes_sum (x x' : Fin 128 → ℝ) (y y' : Fin 64 → ℝ) (σ : ℝ) :
    ∑ d, (lanes (fun d => (x d : EReal)) (fun d => (y d : EReal)) d * (σ : EReal)) * lanes (fun d => (x' d : EReal)) (fun d => (y' d : EReal)) d
      = ((((∑ d, x d * x' d) + ∑ d, y d * y' d) * σ : ℝ) : EReal) := by
  rw [sum_256]
  have e1 : ∀ d : Fin 128, (lanes (fun d => (x d : EReal)) (fun d => (y d : EReal)) ⟨d.val, by omega⟩ * (σ : EReal)) * lanes (fun d => (x' d : EReal)) (fun d => (y' d : EReal)) ⟨d.val, by omega⟩
      = ((x d * x' d * σ : ℝ) : EReal) := fun d => by
    unfold lanes
    rw [dif_pos d.isLt, dif_pos d.isLt, ← EReal.coe_mul, ← EReal.coe_mul, mul_right_comm]
  have e2 : ∀ d : Fin 64, (lanes (fun d => (x d : EReal)) (fun d => (y d : EReal)) ⟨128 + d.val, by omega⟩ * (σ : EReal)) * lanes (fun d => (x' d : EReal)) (fun d => (y' d : EReal)) ⟨128 + d.val, by omega⟩
      = ((y d * y' d * σ : ℝ) : EReal) := fun d => by
    unfold lanes
    have h1 : ¬ 128 + d.val < 128 := by omega
    have h2 : 128 + d.val < 192 := by omega
    have h3 : (⟨128 + d.val - 128, by omega⟩ : Fin 64) = d := Fin.ext (by show 128 + d.val - 128 = d.val; omega)
    rw [dif_neg h1, dif_neg h1, dif_pos h2, dif_pos h2, h3, ← EReal.coe_mul, ← EReal.coe_mul, mul_right_comm]
  have e3 : ∀ d : Fin 64, (lanes (fun d => (x d : EReal)) (fun d => (y d : EReal)) ⟨192 + d.val, by omega⟩ * (σ : EReal)) * lanes (fun d => (x' d : EReal)) (fun d => (y' d : EReal)) ⟨192 + d.val, by omega⟩
      = 0 := fun d => by
    unfold lanes
    have h1 : ¬ 192 + d.val < 128 := by omega
    have h2 : ¬ 192 + d.val < 192 := by omega
    rw [dif_neg h1, dif_neg h1, dif_neg h2, dif_neg h2, mul_zero]
  rw [Finset.sum_congr rfl fun d _ => e1 d, Finset.sum_congr rfl fun d _ => e2 d, Finset.sum_congr rfl fun d _ => e3 d, Finset.sum_const_zero, add_zero,
    ← _root_.Attn.coe_sum, ← _root_.Attn.coe_sum, ← EReal.coe_add, ← Finset.sum_mul, ← Finset.sum_mul, ← add_mul]

end Cert.KernelIdeal.Attn
-- ==== Proof.Result.lean ====
module

public import proofs.«01_k».proof.Proof.Row
public import proofs.«01_k».proof.Proof.Inputs

@[expose] public section

set_option maxRecDepth 16384

/-! The array after the run, entry by entry: causal softmax attention of the arguments. -/

namespace Attn

open Idealize.ShloMosaic

/-- A row of attention over 4096 keys: the softmax of the scores up to the row's own key, applied to the values. -/
noncomputable def rowOf (R : ℕ) (ρ : ℕ → ℝ) (w : ℕ → EReal) : EReal :=
  ∑ j ∈ Finset.range 4096, w j * Ideal.div (Ideal.exp (causal R ρ j - mx (causal R ρ) 4096))
    (∑ j ∈ Finset.range 4096, Ideal.exp (causal R ρ j - mx (causal R ρ) 4096))

/-- A function of 4096 keys, over all numbers. -/
noncomputable def ext {α : Type} [Zero α] (f : Fin 4096 → α) (j : ℕ) : α := if h : j < 4096 then f ⟨j, h⟩ else 0

theorem ext_apply {α : Type} [Zero α] (f : Fin 4096 → α) (j : Fin 4096) : ext f j.val = f j := dif_pos j.isLt

theorem ext_map {α : Type} [MulZeroClass α] (f : Fin 4096 → α) (a : α) : (fun j => ext f j * a) = ext fun j => f j * a := by
  funext j
  unfold ext
  split
  · rfl
  · exact zero_mul a

end Attn

namespace Cert.KernelIdeal.Attn

open Cert.KernelIdeal Cert.KernelIdeal.Gen
open Idealize.ShloMosaic Idealize.ShloMosaic.TcCoe
open ValueIdx _root_.Attn

/-- The product of a query and a key: of their two parts. -/
noncomputable def dot (x0 x2 : S2x4096x16x128.Idx → ℝ) (x1 : S2x4096x16x64.Idx → ℝ) (x3 : S2x4096x64.Idx → ℝ) (b : Fin 2) (h : Fin 16) (s j : Fin 4096) : ℝ :=
  (∑ d : Fin 128, x0 (ix4 b s h d) * x2 (ix4 b j h d)) + ∑ d : Fin 64, x1 (ix4 b s h d) * x3 (ix3 b j d)

/-- The kernel's scale times `log 2` is one over the root of 192. -/
theorem sc_log : sc * Real.log 2 = 1 / Real.sqrt 192 := by
  have h2 : Real.log 2 ≠ 0 := (Real.log_pos (by norm_num)).ne'
  have h1 : Real.sqrt 192 ≠ 0 := (Real.sqrt_pos.mpr (by norm_num)).ne'
  unfold sc
  field_simp

section

variable (m : (ℓ : Loc nD τ sig) → Buf (Elt Ideal) ℓ) (c : Dev nD)
variable (x0 x2 : S2x4096x16x128.Idx → ℝ) (x1 : S2x4096x16x64.Idx → ℝ) (x3 : S2x4096x64.Idx → ℝ)
variable (h0 : ∀ i, m ((c : Thread nD τ).loc main_arg0) i = (x0 i : EReal)) (h1 : ∀ i, m ((c : Thread nD τ).loc main_arg1) i = (x1 i : EReal))
  (h2 : ∀ i, m ((c : Thread nD τ).loc main_arg2) i = (x2 i : EReal)) (h3 : ∀ i, m ((c : Thread nD τ).loc main_arg3) i = (x3 i : EReal))

/-- A point of the grid. -/
def pt (t : Fin cfg0.N) (h : Fin 4) : Fin 2 × Fin 16 := (⟨t.val / 32, by have := lt64 t; omega⟩, ⟨4 * (t.val / 8 % 4) + h.val, by omega⟩)

include h0 h1 h2 h3 in
/-- A score at a grid point. -/
theorem score_at (t : Fin cfg0.N) (h : Fin 4) (r : Fin 512) (j : Fin 4096) :
    ∑ d : Fin 256, HMul.hMul (α := EReal) (β := EReal) (γ := EReal) (iblk m c 0 t (ix4 0 h r d)) (iblk m c 1 t (ix4 0 h j d))
      = ((dot x0 x2 x1 x3 (pt t h).1 (pt t h).2 ⟨512 * (t.val % 8) + r.val, by omega⟩ j * sc : ℝ) : EReal) := by
  refine Eq.trans ?_ (lanes_sum (fun d => x0 (ix4 (pt t h).1 ⟨512 * (t.val % 8) + r.val, by omega⟩ (pt t h).2 d)) (fun d => x2 (ix4 (pt t h).1 j (pt t h).2 d))
    (fun d => x1 (ix4 (pt t h).1 ⟨512 * (t.val % 8) + r.val, by omega⟩ (pt t h).2 d)) (fun d => x3 (ix3 (pt t h).1 j d)) sc)
  refine Finset.sum_congr rfl fun d _ => ?_
  refine congrArg₂ (fun y z : EReal => y * z) ((blk0_apply m c t h r d).trans ?_) ((blk1_apply m c t h j d).trans ?_)
  · rw [queries_apply]
    simp only [h0, h1]
    rfl
  · rw [keys_apply]
    simp only [h2, h3]
    rfl

include h0 h1 h2 h3 in
/-- What a grid point stores: rows of attention. -/
theorem stored_at (t : Fin cfg0.N) (h : Fin 4) (r : Fin 512) (l : Fin 128) :
    k0_pay2 (F := Ideal) (final (iblk m c 0 t) (iblk m c 1 t) (iblk m c 2 t) ⟨t.val % 8, by omega⟩ h).2 (ix3 0 r l)
      = rowOf (512 * (t.val % 8) + r.val) (ext fun j => dot x0 x2 x1 x3 (pt t h).1 (pt t h).2 ⟨512 * (t.val % 8) + r.val, by omega⟩ j * (1 / Real.sqrt 192))
          (ext fun j => (m ((c : Thread nD τ).loc main_arg4) (ix4 (pt t h).1 j (pt t h).2 l) : EReal)) := by
  refine (stored (iblk m c 0 t) (iblk m c 1 t) (iblk m c 2 t) h ⟨t.val % 8, by omega⟩
    (fun r => ext fun j => dot x0 x2 x1 x3 (pt t h).1 (pt t h).2 ⟨512 * (t.val % 8) + r.val, by omega⟩ j * sc)
    (fun l => ext fun j => (m ((c : Thread nD τ).loc main_arg4) (ix4 (pt t h).1 j (pt t h).2 l) : EReal)) ?_ ?_ r l).trans ?_
  · intro r j
    rw [ext_apply]
    exact score_at m c x0 x2 x1 x3 h0 h1 h2 h3 t h r j
  · intro l j
    rw [ext_apply]
    exact (blk2_apply m c t h j l).trans (values_apply m c _ _ _ _)
  · rw [ext_map]
    simp only [mul_assoc, sc_log]
    rfl

/-- What a point writes back. -/
theorem flushed_eq (t : Fin cfg0.N) :
    (dats m 0 c).flushed 3 t = (cfg0.win 3).cut (grid0.coords t) (outOf fun h => (final (iblk m c 0 t) (iblk m c 1 t) (iblk m c 2 t) ⟨t.val % 8, by omega⟩ h).2) := by
  have e : qb (grid0.coords t) = ⟨t.val % 8, by omega⟩ := Fin.ext (coords2 t)
  have e2 : ((grid0.coords t) 2).val % 2 = t.val % 2 := by rw [coords2]; omega
  rcases Nat.mod_two_eq_zero_or_one t.val with h | h
  · rw [Value.flushed3_A m c t (by omega) h, out_A (hp := e2.trans h), e]
  · rw [Value.flushed3_B m c t h (by omega), out_B (hp := e2.trans h), e]

include h0 h1 h2 h3 in
/-- THE ARRAY: at row `s` of batch `b`, in the columns of head `h`, attention of the arguments. -/
theorem array_apply (b : Fin 2) (s : Fin 4096) (h : Fin 16) (l : Fin 128) :
    (dats m 0 c).arrAt 3 cfg0.N (ix3 b s (⟨128 * h.val + l.val, by omega⟩ : Fin 2048))
      = rowOf s.val (ext fun j => dot x0 x2 x1 x3 b h s j * (1 / Real.sqrt 192)) (ext fun j => (m ((c : Thread nD τ).loc main_arg4) (ix4 b j h l) : EReal)) := by
  obtain ⟨t, ht⟩ : ∃ t : Fin cfg0.N, t.val = 32 * b.val + 8 * (h.val / 4) + s.val / 512 := ⟨⟨32 * b.val + 8 * (h.val / 4) + s.val / 512, by show _ < 64; omega⟩, rfl⟩
  have hb := congrFun (Value.blocks3 m c t (flush0_3 t)) (ix3 0 (⟨s.val % 512, by omega⟩ : Fin 512) (⟨128 * (h.val % 4) + l.val, by omega⟩ : Fin 512))
  rw [flushed_eq] at hb
  have hi : ((cfg0.win 3).blk t).view.emb (ix3 0 (⟨s.val % 512, by omega⟩ : Fin 512) (⟨128 * (h.val % 4) + l.val, by omega⟩ : Fin 512))
      = ix3 b s (⟨128 * h.val + l.val, by omega⟩ : Fin 2048) := by
    refine funext fun a => Fin.ext ?_
    show cc0_transform_3 (grid0.coords t) a * S1x512x512.size a + 1 * (ix3 (0 : Fin 1) (⟨s.val % 512, by omega⟩ : Fin 512) (⟨128 * (h.val % 4) + l.val, by omega⟩ : Fin 512) a).val = _
    rw [index3 t]
    match a with
    | ⟨0, _⟩ => show t.val / 32 * 1 + 1 * 0 = b.val; omega
    | ⟨1, _⟩ => show t.val % 8 * 512 + 1 * (s.val % 512) = s.val; omega
    | ⟨2, _⟩ => show t.val / 8 % 4 * 512 + 1 * (128 * (h.val % 4) + l.val) = 128 * h.val + l.val; omega
  refine (congrArg ((dats m 0 c).arrAt 3 cfg0.N) hi).symm.trans (Eq.trans hb ?_)
  have hst := stored_at m c x0 x2 x1 x3 h0 h1 h2 h3 t ⟨h.val % 4, by omega⟩ ⟨s.val % 512, by omega⟩ l
  have e1 : (pt t ⟨h.val % 4, by omega⟩).1 = b := Fin.ext (by show t.val / 32 = b.val; omega)
  have e2 : (pt t ⟨h.val % 4, by omega⟩).2 = h := Fin.ext (by show 4 * (t.val / 8 % 4) + h.val % 4 = h.val; omega)
  have e3 : (⟨512 * (t.val % 8) + s.val % 512, by omega⟩ : Fin 4096) = s := Fin.ext (by show 512 * (t.val % 8) + s.val % 512 = s.val; omega)
  have e4 : 512 * (t.val % 8) + s.val % 512 = s.val := by omega
  have e5 : headOf (⟨128 * (h.val % 4) + l.val, by omega⟩ : Fin 512) = ⟨h.val % 4, by omega⟩ := Fin.ext (by show (128 * (h.val % 4) + l.val) / 128 = h.val % 4; omega)
  have e6 : laneOf (⟨128 * (h.val % 4) + l.val, by omega⟩ : Fin 512) = l := Fin.ext (by show (128 * (h.val % 4) + l.val) % 128 = l.val; omega)
  rw [e1, e2] at hst
  simp only [e3, e4] at hst
  refine Eq.trans ?_ hst
  show outOf (fun h => (final (iblk m c 0 t) (iblk m c 1 t) (iblk m c 2 t) ⟨t.val % 8, by omega⟩ h).2) (ix3 0 (⟨s.val % 512, by omega⟩ : Fin 512) (⟨128 * (h.val % 4) + l.val, by omega⟩ : Fin 512)) = _
  unfold outOf
  show k0_pay2 (F := Ideal) (final (iblk m c 0 t) (iblk m c 1 t) (iblk m c 2 t) ⟨t.val % 8, by omega⟩ (headOf (⟨128 * (h.val % 4) + l.val, by omega⟩ : Fin 512))).2 (ix3 0 (⟨s.val % 512, by omega⟩ : Fin 512) (laneOf (⟨128 * (h.val % 4) + l.val, by omega⟩ : Fin 512))) = _
  rw [e5, e6]

end

end Cert.KernelIdeal.Attn
-- ==== Proof.Reference.lean ====
module

public import proofs.«01_k».proof.Proof.Result
public import proofs.«01_k».proof.Proof.Gen.ReferenceIdeal.Read
public import Idealize.ShloMosaic.Lib.WordCmp

@[expose] public section

set_option maxRecDepth 16384

/-! The reference's result, entry by entry: the same row of causal softmax attention. -/

namespace Cert.ReferenceIdeal.Attn

open Cert.ReferenceIdeal Cert.ReferenceIdeal.Gen Cert.ReferenceIdeal.Read
open Idealize.ShloMosaic
open ValueIdx _root_.Attn

variable (a0 a2 a4 : (⟨S2x4096x16x128, .f32⟩ : BufTy).Contents (Elt Ideal)) (a1 : (⟨S2x4096x16x64, .f32⟩ : BufTy).Contents (Elt Ideal))
  (a3 : (⟨S2x4096x64, .f32⟩ : BufTy).Contents (Elt Ideal))
variable (x0 x2 : S2x4096x16x128.Idx → ℝ) (x1 : S2x4096x16x64.Idx → ℝ) (x3 : S2x4096x64.Idx → ℝ)
variable (h0 : ∀ i, a0 i = (x0 i : EReal)) (h1 : ∀ i, a1 i = (x1 i : EReal)) (h2 : ∀ i, a2 i = (x2 i : EReal)) (h3 : ∀ i, a3 i = (x3 i : EReal))

/-- The scale: one over the root of 192. -/
theorem scale (i : S2x16x4096x4096.Idx) : val_main_v6 (F := Ideal) i = ((1 / Real.sqrt 192 : ℝ) : EReal) := by
  rw [val_main_v6_apply, val_main_v1_apply, val_main_cst_0_apply, val_main_v0_apply, val_main_cst_apply]
  refine Eq.trans (b := Ideal.div (Ideal.ofBits .f32 0x3F800000#32) (Ideal.sqrt (Ideal.ofBits .f32 0x43400000#32))) rfl ?_
  rw [Ideal.ofBits_one_f32, Cert.KernelIdeal.Attn.ofBits_192, Ideal.sqrt_coe, if_neg (by norm_num)]
  exact (Ideal.div_coe (Real.sqrt_pos.mpr (by norm_num)).ne' 1).trans (one_mul _)

/-- The scaled scores of a row, over all numbers. -/
noncomputable def scores (b : Fin 2) (h : Fin 16) (s : Fin 4096) : ℕ → ℝ :=
  ext fun j => Cert.KernelIdeal.Attn.dot x0 x2 x1 x3 b h s j * (1 / Real.sqrt 192)

include h0 h1 h2 h3 in
/-- A score of the reference. -/
theorem score_apply (b : Fin 2) (h : Fin 16) (s j : Fin 4096) :
    val_main_v7 (F := Ideal) a0 a1 a2 a3 (ix4 b h s j) = (scores x0 x2 x1 x3 b h s j.val : EReal) := by
  have hn : val_main_v2 (F := Ideal) a0 a2 (ix4 b h s j) = ((∑ d : Fin 128, x0 (ix4 b s h d) * x2 (ix4 b j h d) : ℝ) : EReal) := by
    rw [val_main_v2_apply, coe_sum]
    refine Finset.sum_congr rfl fun d _ => ?_
    rw [h0, h2, EReal.coe_mul]
    refine congrArg₂ (fun y z : ℝ => (y : EReal) * (z : EReal)) (congrArg x0 (funext fun a => ?_)) (congrArg x2 (funext fun a => ?_))
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
      | ⟨3, _⟩ => rfl
  have hr : val_main_v4 (F := Ideal) a1 a3 (ix4 b h s j) = ((∑ d : Fin 64, x1 (ix4 b s h d) * x3 (ix3 b j d) : ℝ) : EReal) := by
    rw [val_main_v4_apply, val_main_v3_apply, coe_sum]
    refine Finset.sum_congr rfl fun d _ => ?_
    rw [h3, h1, EReal.coe_mul, mul_comm]
    refine congrArg₂ (fun y z : ℝ => (y : EReal) * (z : EReal)) (congrArg x1 (funext fun a => ?_)) (congrArg x3 (funext fun a => ?_))
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
  rw [val_main_v7_apply, val_main_v5_apply, hn, hr, scale]
  unfold scores
  rw [ext_apply, EReal.coe_mul]
  refine congrArg₂ (fun y z : EReal => y * z) ?_ rfl
  unfold Cert.KernelIdeal.Attn.dot
  exact (EReal.coe_add _ _).symm

include h0 h1 h2 h3 in
/-- A masked score: that of a later key is minus infinity. -/
theorem masked_apply (b : Fin 2) (h : Fin 16) (s j : Fin 4096) :
    val_main_v14 (F := Ideal) a0 a1 a2 a3 (ix4 b h s j) = causal s.val (scores x0 x2 x1 x3 b h s) j.val := by
  have hc : val_main_call0_v1 (F := Ideal) (ix4 b h s j) = IntOp.cmpi .sle (BitVec.ofNat 32 j.val) (BitVec.ofNat 32 s.val) := by
    rw [val_main_call0_v1_apply, val_main_v13_apply, val_main_v11_apply, val_main_v12_apply, val_main_v9_apply, val_main_v10_apply, val_main_v8_apply, val_main_v8_apply]
  have hb : val_main_call0_v2 (F := Ideal) (ix4 b h s j) = (⊥ : EReal) := by
    rw [val_main_call0_v2_apply, val_main_call0_v0_apply, val_main_cst_1_apply]
    exact Cert.KernelIdeal.Attn.ofBits_neg_inf
  rw [val_main_v14_apply, hc, hb, score_apply a0 a2 a1 a3 x0 x2 x1 x3 h0 h1 h2 h3, WordCmp.cmpi_sle_ofNat (by omega) (by omega)]
  unfold causal
  by_cases hj : j.val ≤ s.val
  · rw [if_pos hj, decide_eq_true hj]
    rfl
  · rw [if_neg hj, decide_eq_false hj]
    rfl

/-- Its shape reduces over the keys. -/
theorem reduces_keys : S2x16x4096x4096.Reduces [(3 : Fin S2x16x4096x4096.rank)] S2x16x4096 := by decide

include h0 h1 h2 h3 in
/-- The greatest score of a row. -/
theorem greatest_apply (b : Fin 2) (h : Fin 16) (s j : Fin 4096) :
    val_main_v19 (F := Ideal) a0 a1 a2 a3 (ix4 b h s j) = mx (causal s.val (scores x0 x2 x1 x3 b h s)) 4096 := by
  have hi : (idx_main_v18 (idx_main_v19 (ix4 b h s j))) = ix3 b h s := funext fun a => by
    match a with
    | ⟨0, _⟩ => rfl
    | ⟨1, _⟩ => rfl
    | ⟨2, _⟩ => rfl
  have hm : val_main_v15 (F := Ideal) a0 a1 a2 a3 (ix3 b h s) = mx (causal s.val (scores x0 x2 x1 x3 b h s)) 4096 := by
    unfold val_main_v15
    rw [Host.reduce_eq_fold_single FloatOps.maximumf _ _ _ reduces_keys]
    refine Eq.trans ?_ (sup_fin 4096 _)
    refine (congrArg (fun z => Finset.univ.fold max z (val_main_v14 (F := Ideal) a0 a1 a2 a3 ∘ reduces_keys.lift (ix3 b h s)))
      ((val_main_cst_2_apply (F := Ideal) _).trans Cert.KernelIdeal.Attn.ofBits_neg_inf)).trans ?_
    refine Finset.fold_congr fun k _ => ?_
    refine Eq.trans (congrArg (val_main_v14 (F := Ideal) a0 a1 a2 a3) (funext fun a => ?_)) (masked_apply a0 a2 a1 a3 x0 x2 x1 x3 h0 h1 h2 h3 b h s k)
    match a with
    | ⟨0, _⟩ => rfl
    | ⟨1, _⟩ => rfl
    | ⟨2, _⟩ => rfl
    | ⟨3, _⟩ => rfl
  rw [val_main_v19_apply, val_main_v18_apply, hi, val_main_v17_apply, hm, val_main_v16_apply, val_main_cst_3_apply]
  refine (congrArg (fun z : EReal => max z _) Cert.KernelIdeal.Attn.ofBits_neg_inf).trans ?_
  exact max_eq_right bot_le

include h0 h1 h2 h3 in
/-- A weight before it is normalised. -/
theorem weight_apply (b : Fin 2) (h : Fin 16) (s j : Fin 4096) : val_main_v21 (F := Ideal) a0 a1 a2 a3 (ix4 b h s j)
    = Ideal.exp (causal s.val (scores x0 x2 x1 x3 b h s) j.val - mx (causal s.val (scores x0 x2 x1 x3 b h s)) 4096) := by
  rw [val_main_v21_apply, val_main_v20_apply, masked_apply a0 a2 a1 a3 x0 x2 x1 x3 h0 h1 h2 h3, greatest_apply a0 a2 a1 a3 x0 x2 x1 x3 h0 h1 h2 h3]
  rfl

include h0 h1 h2 h3 in
/-- The sum of the weights of a row. -/
theorem total_apply (b : Fin 2) (h : Fin 16) (s j : Fin 4096) : val_main_v24 (F := Ideal) a0 a1 a2 a3 (ix4 b h s j)
    = ∑ k ∈ Finset.range 4096, Ideal.exp (causal s.val (scores x0 x2 x1 x3 b h s) k - mx (causal s.val (scores x0 x2 x1 x3 b h s)) 4096) := by
  have hi : (idx_main_v23 (idx_main_v24 (ix4 b h s j))) = ix3 b h s := funext fun a => by
    match a with
    | ⟨0, _⟩ => rfl
    | ⟨1, _⟩ => rfl
    | ⟨2, _⟩ => rfl
  rw [val_main_v24_apply, val_main_v23_apply, hi, val_main_v22_apply, val_main_cst_4_apply, Finset.sum_range]
  refine (congrArg₂ (fun y z : EReal => y + z) Ideal.ofBits_zero_f32 (Finset.sum_congr rfl fun k _ => ?_)).trans (zero_add _)
  refine Eq.trans (congrArg (val_main_v21 (F := Ideal) a0 a1 a2 a3) (funext fun a => ?_)) (weight_apply a0 a2 a1 a3 x0 x2 x1 x3 h0 h1 h2 h3 b h s k)
  match a with
  | ⟨0, _⟩ => rfl
  | ⟨1, _⟩ => rfl
  | ⟨2, _⟩ => rfl
  | ⟨3, _⟩ => rfl

include h0 h1 h2 h3 in
/-- The result of the reference: a row of causal softmax attention. -/
theorem result_apply (b : Fin 2) (s : Fin 4096) (h : Fin 16) (l : Fin 128) :
    val_main_v29 (F := Ideal) a0 a1 a2 a3 a4 (ix3 b s (⟨128 * h.val + l.val, by omega⟩ : Fin 2048))
      = rowOf s.val (scores x0 x2 x1 x3 b h s) (ext fun j => (a4 (ix4 b j h l) : EReal)) := by
  have hi : idx_main_v27 (idx_main_v28 (ix3 b s (⟨128 * h.val + l.val, by omega⟩ : Fin 2048))) = ix4 b h l s := funext fun a => by
    match a with
    | ⟨0, _⟩ => exact Fin.ext (show ((b.val * 4096 + s.val) * 2048 + (128 * h.val + l.val)) / 8388608 = b.val by omega)
    | ⟨1, _⟩ => exact Fin.ext (show ((b.val * 4096 + s.val) * 2048 + (128 * h.val + l.val)) / 128 % 16 = h.val by omega)
    | ⟨2, _⟩ => exact Fin.ext (show ((b.val * 4096 + s.val) * 2048 + (128 * h.val + l.val)) % 128 = l.val by omega)
    | ⟨3, _⟩ => exact Fin.ext (show ((b.val * 4096 + s.val) * 2048 + (128 * h.val + l.val)) / 2048 % 4096 = s.val by omega)
  rw [val_main_v29_apply]
  show val_main_v28 (F := Ideal) a0 a1 a2 a3 a4 _ = _
  rw [val_main_v28_apply, val_main_v27_apply, hi, val_main_v26_apply]
  unfold rowOf
  rw [Finset.sum_range]
  refine Finset.sum_congr rfl fun j _ => ?_
  have hl : lidx_main_v26 (ix4 b h l s) j = ix4 b j h l := funext fun a => by
    match a with
    | ⟨0, _⟩ => rfl
    | ⟨1, _⟩ => rfl
    | ⟨2, _⟩ => rfl
    | ⟨3, _⟩ => rfl
  have hr : ridx_main_v26 (ix4 b h l s) j = ix4 b h s j := funext fun a => by
    match a with
    | ⟨0, _⟩ => rfl
    | ⟨1, _⟩ => rfl
    | ⟨2, _⟩ => rfl
    | ⟨3, _⟩ => rfl
  rw [hl, hr, ext_apply, val_main_v25_apply, weight_apply a0 a2 a1 a3 x0 x2 x1 x3 h0 h1 h2 h3, total_apply a0 a2 a1 a3 x0 x2 x1 x3 h0 h1 h2 h3]
  rfl

end Cert.ReferenceIdeal.Attn
-- ==== Proof.Finite.lean ====
module

public import proofs.«01_k».proof.Proof.Result
public import proofs.«01_k».proof.Defs
public import Idealize.ShloMosaic.Lib.ReduceAll

@[expose] public section

set_option maxRecDepth 16384

/-! What the precondition says: the queries and the keys are real numbers. -/

namespace Cert.Attn

open Idealize.ShloMosaic

/-- A number whose absolute value is below infinity is real. -/
theorem real_of_abs (x : EReal) (h : Ideal.cmp .olt (max x (-x)) (Ideal.ofBits .f32 0x7F800000#32) = 1#1) : x = (x.toReal : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe r => rfl

/-- Where the precondition holds, every entry of the queries and the keys is real. -/
theorem real_args [hp : Cert.Pre_finite.Facts] (a0 a2 a4 : FVec Ideal Cert.Pre_finite.S2x4096x16x128 .f32) (a1 : FVec Ideal Cert.Pre_finite.S2x4096x16x64 .f32)
    (a3 : FVec Ideal Cert.Pre_finite.S2x4096x64 .f32) (h : Cert.Pre_finite.fn (F := Ideal) a0 a1 a2 a3 a4 = fun _ => 1#1) :
    (∀ i, a0 i = ((EReal.toReal (a0 i) : ℝ) : EReal)) ∧ (∀ i, a1 i = ((EReal.toReal (a1 i) : ℝ) : EReal))
      ∧ (∀ i, a2 i = ((EReal.toReal (a2 i) : ℝ) : EReal)) ∧ (∀ i, a3 i = ((EReal.toReal (a3 i) : ℝ) : EReal)) := by
  haveI : Subsingleton Cert.Pre_finite.S_.Idx := ⟨fun _ _ => funext fun a => a.elim0⟩
  have e := congrFun h (fun a => a.elim0)
  unfold Cert.Pre_finite.fn Cert.Pre_finite.fn_part1 at e
  obtain ⟨e, e3⟩ := IntOp.andi_eq_one.1 e
  obtain ⟨e, e2⟩ := IntOp.andi_eq_one.1 e
  obtain ⟨e0, e1⟩ := IntOp.andi_eq_one.1 e
  exact ⟨fun i => real_of_abs _ (Host.reduce_andi_all _ _ _ _ _ e0 i), fun i => real_of_abs _ (Host.reduce_andi_all _ _ _ _ _ e1 i),
    fun i => real_of_abs _ (Host.reduce_andi_all _ _ _ _ _ e2 i), fun i => real_of_abs _ (Host.reduce_andi_all _ _ _ _ _ e3 i)⟩

end Cert.Attn
-- ==== Proof.Agree.lean ====
module

public import proofs.«01_k».proof.Proof.Reference
public import proofs.«01_k».proof.Proof.Finite

@[expose] public section

set_option maxRecDepth 16384

/-! The kernel and the reference end with the same array. -/

namespace Cert.Attn

open Idealize.ShloMosaic Idealize.ShloMosaic.TcCoe ValueIdx

/-- From the same arguments, real where the precondition says so, the kernel's array is the reference's. -/
theorem agree (m : (ℓ : Loc Cert.KernelIdeal.nD Cert.KernelIdeal.τ Cert.KernelIdeal.sig) → Buf (Elt Ideal) ℓ) (c : Dev Cert.KernelIdeal.nD)
    (h : ∃ (x0 x2 : Cert.KernelIdeal.S2x4096x16x128.Idx → ℝ) (x1 : Cert.KernelIdeal.S2x4096x16x64.Idx → ℝ) (x3 : Cert.KernelIdeal.S2x4096x64.Idx → ℝ),
      (∀ i, m ((c : Thread Cert.KernelIdeal.nD Cert.KernelIdeal.τ).loc Cert.KernelIdeal.main_arg0) i = (x0 i : EReal))
      ∧ (∀ i, m ((c : Thread Cert.KernelIdeal.nD Cert.KernelIdeal.τ).loc Cert.KernelIdeal.main_arg1) i = (x1 i : EReal))
      ∧ (∀ i, m ((c : Thread Cert.KernelIdeal.nD Cert.KernelIdeal.τ).loc Cert.KernelIdeal.main_arg2) i = (x2 i : EReal))
      ∧ (∀ i, m ((c : Thread Cert.KernelIdeal.nD Cert.KernelIdeal.τ).loc Cert.KernelIdeal.main_arg3) i = (x3 i : EReal))) :
    (Cert.KernelIdeal.Gen.dats m 0 c).arrAt 3 Cert.KernelIdeal.cfg0.N
      = Cert.ReferenceIdeal.Read.val_main_v29 (F := Ideal) (m ((c : Thread Cert.KernelIdeal.nD Cert.KernelIdeal.τ).loc Cert.KernelIdeal.main_arg0))
        (m ((c : Thread Cert.KernelIdeal.nD Cert.KernelIdeal.τ).loc Cert.KernelIdeal.main_arg1)) (m ((c : Thread Cert.KernelIdeal.nD Cert.KernelIdeal.τ).loc Cert.KernelIdeal.main_arg2))
        (m ((c : Thread Cert.KernelIdeal.nD Cert.KernelIdeal.τ).loc Cert.KernelIdeal.main_arg3)) (m ((c : Thread Cert.KernelIdeal.nD Cert.KernelIdeal.τ).loc Cert.KernelIdeal.main_arg4)) := by
  obtain ⟨x0, x2, x1, x3, h0, h1, h2, h3⟩ := h
  funext i
  obtain ⟨b, s, y, rfl⟩ : ∃ (b : Fin 2) (s : Fin 4096) (y : Fin 2048), i = ix3 b s y := ⟨i 0, i 1, i 2, funext fun a => by
    match a with
    | ⟨0, _⟩ => rfl
    | ⟨1, _⟩ => rfl
    | ⟨2, _⟩ => rfl⟩
  have hy : y = (⟨128 * (⟨y.val / 128, by omega⟩ : Fin 16).val + (⟨y.val % 128, by omega⟩ : Fin 128).val, by
    show 128 * (y.val / 128) + y.val % 128 < 2048
    omega⟩ : Fin 2048) := Fin.ext (show y.val = 128 * (y.val / 128) + y.val % 128 by omega)
  rw [hy]
  exact (Cert.KernelIdeal.Attn.array_apply m c x0 x2 x1 x3 h0 h1 h2 h3 b s _ _).trans
    (Cert.ReferenceIdeal.Attn.result_apply _ _ _ _ _ x0 x2 x1 x3 h0 h1 h2 h3 b s _ _).symm

end Cert.Attn
-- ==== Proof.UpIWords.lean ====
/-
  The integer words of the expert-weight streaming kernel in closed form: each slice offset, loop bound and
  condition the kernel computes from its plan words, and the checks the kernel makes of them.
-/
module

public import proofs.«01_k».proof.Defs
public import proofs.«01_k».proof.Proof.Gen.Kernel2Ideal.Launch
public import proofs.«01_k».proof.Proof.Gen.Kernel2Ideal.Skeleton
public import proofs.«01_k».proof.Proof.Gen.Kernel2Ideal.Loops
public import Idealize.ShloMosaic.Lib.Affine
public import Idealize.ShloMosaic.Lib.Tactic

@[expose] public section

set_option maxRecDepth 16384

namespace Cert.Proof.UpI

open Cert.Kernel2Ideal Cert.Kernel2Ideal.Gen
open Idealize.ShloMosaic

/-! ## Words as naturals -/

/-- The induction variable of a unit-step loop, as a natural. -/
theorem iv_nat (a : BitVec 32) (k : Nat) : Scf.iv a 1#32 k = BitVec.ofNat 32 (a.toNat + k) := by
  apply BitVec.eq_of_toNat_eq; simp [Scf.iv]
/-- The low bit of a small natural. -/
theorem and_nat (n : Nat) : Scalar.andi (BitVec.ofNat 32 n) 1#32 = BitVec.ofNat 32 (n % 2) := by
  apply BitVec.eq_of_toNat_eq
  simp only [Scalar.andi, IntOp.andi, BitVec.toNat_and, BitVec.toNat_ofNat, Nat.one_mod, Nat.reducePow, Nat.reduceMod, Nat.and_one_is_mod]
  omega
theorem mul_nat (a b : Nat) : Scalar.muli (BitVec.ofNat 32 a) (BitVec.ofNat 32 b) = BitVec.ofNat 32 (a * b) := by
  apply BitVec.eq_of_toNat_eq; simp [Scalar.muli, IntOp.muli, Nat.mul_mod]
theorem add_nat (a b : Nat) : Scalar.addi (BitVec.ofNat 32 a) (BitVec.ofNat 32 b) = BitVec.ofNat 32 (a + b) := by
  apply BitVec.eq_of_toNat_eq; simp [Scalar.addi, IntOp.addi]
theorem sub_nat (n : Nat) : Scalar.subi 1#32 (BitVec.ofNat 32 (n % 2)) = BitVec.ofNat 32 (1 - n % 2) := by
  rcases Nat.mod_two_eq_zero_or_one n with h | h <;> rw [h] <;> decide
theorem of_toNat (v : BitVec 32) : v = BitVec.ofNat 32 v.toNat := by simp
theorem idx_nat (x : BitVec 32) : Scalar.indexCast x = x := rfl

/-- The slot the resident weights of group `g` of tile column `j` lie in. -/
def cur (i : grid0.Coords) (v4 v7 : BitVec 32) : Nat := ((i 0).val * v4.toNat + v7.toNat) % 2
theorem cur_lt (i : grid0.Coords) (v4 v7 : BitVec 32) : cur i v4 v7 < 2 := Nat.mod_lt _ (by decide)
theorem cur_word (i : grid0.Coords) (v4 v7 : BitVec 32) :
    Scalar.andi (Scalar.addi (Scalar.muli (BitVec.ofNat 32 (i 0).val) v4) v7) 1#32 = BitVec.ofNat 32 (cur i v4 v7) := by
  conv_lhs => rw [of_toNat v4, of_toNat v7, mul_nat, add_nat, and_nat]
  rfl
theorem oth_word (i : grid0.Coords) (v4 v7 : BitVec 32) :
    Scalar.subi 1#32 (BitVec.ofNat 32 (cur i v4 v7)) = BitVec.ofNat 32 (1 - cur i v4 v7) := by
  unfold cur; exact sub_nat _

/-- The tile column the next group's weights are of. -/
def nj (i : grid0.Coords) (v11 : BitVec 32) : Nat := if v11 = 1#32 then (i 0).val + 1 else (i 0).val
theorem nj_word (i : grid0.Coords) (v11 : BitVec 32) :
    Scalar.select (Scalar.cmpi .eq v11 1#32) (Scalar.addi (BitVec.ofNat 32 (i 0).val) 1#32) (BitVec.ofNat 32 (i 0).val)
      = BitVec.ofNat 32 (nj i v11) := by
  have e : Scalar.cmpi .eq v11 1#32 = if v11 = 1#32 then 1#1 else 0#1 := by
    by_cases h : v11 = 1#32
    · simp [Scalar.cmpi, IntOp.cmpi, h]
    · have hb : (v11 == 1#32) = false := by simpa using h
      simp [Scalar.cmpi, IntOp.cmpi, h, hb]
  rw [e]; unfold nj Scalar.select
  by_cases h : v11 = 1#32
  · rw [if_pos h, if_pos h, if_pos (by decide)]; exact add_nat _ 1
  · rw [if_neg h, if_neg h, if_neg (by decide)]

theorem nj_word' (i : grid0.Coords) (v11 : BitVec 32) :
    Scalar.select (Scalar.cmpi .eq v11 1#32) (BitVec.ofNat 32 ((i 0).val + 1)) (BitVec.ofNat 32 (i 0).val)
      = BitVec.ofNat 32 (nj i v11) := by
  rw [← add_nat]; exact nj_word i v11

/-- A comparison "less than" of small naturals. -/
theorem slt_nat {a b : Nat} (ha : a < 2 ^ 31) (hb : b < 2 ^ 31) :
    Scalar.cmpi .slt (BitVec.ofNat 32 a) (BitVec.ofNat 32 b) = BitVec.ofBool (decide (a < b)) := by
  have e : (BitVec.ofNat 32 a).slt (BitVec.ofNat 32 b) = decide (a < b) := by
    rw [BitVec.slt_eq_decide, BitVec.toInt_eq_toNat_of_lt (by simp; omega), BitVec.toInt_eq_toNat_of_lt (by simp; omega)]
    simp only [BitVec.toNat_ofNat]; rw [Nat.mod_eq_of_lt (by omega), Nat.mod_eq_of_lt (by omega)]
    exact decide_eq_decide.mpr (by omega)
  simp [Scalar.cmpi, IntOp.cmpi, e]
/-- A widened condition word compared with zero is the condition. -/
theorem ext_ne (b : Bool) : Scalar.cmpi .ne (Scalar.extui (BitVec.ofBool b) : BitVec 32) 0#32 = BitVec.ofBool b := by
  cases b <;> decide
theorem ofBool_one (b : Bool) : BitVec.ofBool b = 1#1 ↔ b = true := by cases b <;> decide

/-- A tile's plan words are in range. -/
structure TileOK (i : grid0.Coords) (v1 v2 v4 v7 v11 v18 v27 v41 v43 : BitVec 32) : Prop where
  h1 : v1.toNat < 8
  h18 : v18.toNat < 8
  h2 : v2.toNat ≤ 72
  hlo : v41.toNat ≤ v43.toNat
  hhi : v43.toNat ≤ 8

/-- The tile is in use. -/
def used (i : grid0.Coords) (v2 : BitVec 32) : Prop := (i 1).val < v2.toNat
/-- A further group follows the tile's. -/
def hasNext (i : grid0.Coords) (v2 v11 : BitVec 32) : Prop := (i 1).val < v2.toNat ∧ ¬ (v11 = 1#32 ∧ (i 0).val = 3)

theorem i0_lt (i : grid0.Coords) : (i 0).val < 4 := (i 0).isLt
theorem i1_lt (i : grid0.Coords) : (i 1).val < 72 := (i 1).isLt

theorem v3_word (i : grid0.Coords) (v2 : BitVec 32) (h2 : v2.toNat ≤ 72) :
    Scalar.cmpi .slt (BitVec.ofNat 32 (i 1).val) v2 = BitVec.ofBool (decide ((i 1).val < v2.toNat)) := by
  have := i1_lt i
  conv_lhs => rw [of_toNat v2]
  exact slt_nat (by omega) (by omega)
theorem eq_word (v : BitVec 32) : Scalar.cmpi .eq v 1#32 = BitVec.ofBool (decide (v = 1#32)) := by
  by_cases h : v = 1#32
  · simp [Scalar.cmpi, IntOp.cmpi, h]
  · have hb : (v == 1#32) = false := by simpa using h
    simp [Scalar.cmpi, IntOp.cmpi, h, hb]
theorem j3_word (i : grid0.Coords) : Scalar.cmpi .eq (BitVec.ofNat 32 (i 0).val) 3#32 = BitVec.ofBool (decide ((i 0).val = 3)) := by
  have := i0_lt i
  generalize (i 0).val = n at *
  interval_cases n <;> decide
theorem and_bool (a b : Bool) : Scalar.andi (BitVec.ofBool a) (BitVec.ofBool b) = BitVec.ofBool (a && b) := by
  cases a <;> cases b <;> decide
theorem xor_bool (a : Bool) : Scalar.xori (BitVec.ofBool a) 1#1 = BitVec.ofBool (!a) := by cases a <;> decide

theorem cond5_iff (i : grid0.Coords) (v2 : BitVec 32) (h2 : v2.toNat ≤ 72) : k0_cond5 i v2 = 1#1 ↔ used i v2 := by
  simp only [k0_cond5, v3_word i v2 h2, ext_ne, ofBool_one, decide_eq_true_eq, used]
theorem cond11_iff (i : grid0.Coords) (v2 : BitVec 32) (h2 : v2.toNat ≤ 72) : k0_cond11 i v2 = 1#1 ↔ ¬ used i v2 := by
  simp only [k0_cond11, v3_word i v2 h2, xor_bool, ext_ne, ofBool_one, used, Bool.not_eq_true', decide_eq_false_iff_not]
theorem cond6_iff (i : grid0.Coords) (v2 v11 : BitVec 32) (h2 : v2.toNat ≤ 72) : k0_cond6 i v2 v11 = 1#1 ↔ hasNext i v2 v11 := by
  simp only [k0_cond6, v3_word i v2 h2, eq_word, j3_word, and_bool, xor_bool, ext_ne, ofBool_one, hasNext, Bool.and_eq_true,
    Bool.not_eq_true', Bool.and_eq_false_iff, decide_eq_true_eq, decide_eq_false_iff_not, not_and_or]
theorem cond4_iff (i : grid0.Coords) (v2 v11 v27 : BitVec 32) (h2 : v2.toNat ≤ 72) :
    k0_cond4 i v2 v11 v27 = 1#1 ↔ hasNext i v2 v11 ∧ v27 = 1#32 := by
  simp only [k0_cond4, v3_word i v2 h2, eq_word, j3_word, and_bool, xor_bool, ext_ne, ofBool_one, hasNext, Bool.and_eq_true,
    Bool.not_eq_true', Bool.and_eq_false_iff, decide_eq_true_eq, decide_eq_false_iff_not, not_and_or]
theorem cond1_iff (i : grid0.Coords) : k0_cond1 i = 1#1 ↔ (i 0).val = 0 ∧ (i 1).val = 0 := by
  have e0 : Scalar.cmpi .eq (BitVec.ofNat 32 (i 0).val) 0#32 = BitVec.ofBool (decide ((i 0).val = 0)) := by
    have := i0_lt i
    generalize (i 0).val = n at *
    interval_cases n <;> decide
  have e1 : Scalar.cmpi .eq (BitVec.ofNat 32 (i 1).val) 0#32 = BitVec.ofBool (decide ((i 1).val = 0)) := by
    have := i1_lt i
    generalize (i 1).val = n at *
    interval_cases n <;> decide
  simp only [k0_cond1, e0, e1, and_bool, ext_ne, ofBool_one, Bool.and_eq_true, decide_eq_true_eq]

theorem nj_lt (i : grid0.Coords) (v2 v11 : BitVec 32) (h : hasNext i v2 v11) : nj i v11 < 4 := by
  have := i0_lt i; have := h.2; unfold nj; split
  · rename_i h1; have : (i 0).val ≠ 3 := fun e => h.2 ⟨h1, e⟩; omega
  · omega

theorem trips1 : k0_t1_loop.trips = 8 := by decide

/-- The group loop runs over the chunks from the tile's first to its last. -/
theorem ub2 (v41 v43 : BitVec 32) : Scalar.addi v41 (Scalar.muli (Scalar.divsi (Scalar.subi v43 v41) 1#32) 1#32) = v43 := by
  have hd : ∀ x : BitVec 32, Scalar.divsi x 1#32 = x := fun x => by
    have h := Affine.divsi_one (Affine.word x) (Affine.ofNat (e := 1) 1 ⟨rfl, by decide⟩) ⟨rfl, rfl⟩
    unfold Affine.IsInt at h
    exact BitVec.eq_of_toInt_eq h
  rw [hd]
  apply BitVec.eq_of_toNat_eq
  simp only [Scalar.addi, Scalar.muli, Scalar.subi, IntOp.addi, IntOp.muli, IntOp.subi, BitVec.mul_one]
  simp only [BitVec.toNat_add, BitVec.toNat_sub]
  have := v41.isLt; have := v43.isLt
  omega
theorem loop2 (v41 v43 : BitVec 32) : k0_t2_loop v41 v43 = ⟨v41, v43, 1#32⟩ := by
  simp only [k0_t2_loop, ub2]
theorem loop3 (v41 v43 : BitVec 32) : k0_t3_loop v41 v43 = ⟨v43, v43, 1#32⟩ := by
  have e : Scalar.addi v41 (Scalar.subi v43 v41) = v43 := by
    apply BitVec.eq_of_toNat_eq
    simp only [Scalar.addi, Scalar.subi, IntOp.addi, IntOp.subi]
    simp only [BitVec.toNat_add, BitVec.toNat_sub]
    have := v41.isLt; have := v43.isLt
    omega
  simp only [k0_t3_loop, ub2, e]
theorem small_toInt {v : BitVec 32} (h : v.toNat ≤ 8) : v.toInt = v.toNat := BitVec.toInt_eq_toNat_of_lt (by omega)
theorem trips2 (v41 v43 : BitVec 32) (h : v41.toNat ≤ v43.toNat) (h8 : v43.toNat ≤ 8) :
    (k0_t2_loop v41 v43).trips = v43.toNat - v41.toNat := by
  rw [loop2]; unfold Scf.Loop.trips Scf.trips
  simp only [small_toInt h8, small_toInt (h.trans h8), show (1#32 : BitVec 32).toInt = 1 by decide]
  omega
theorem trips3 (v41 v43 : BitVec 32) : (k0_t3_loop v41 v43).trips = 0 := by
  rw [loop3]; unfold Scf.Loop.trips Scf.trips
  simp [show (1#32 : BitVec 32).toInt = 1 by decide]

/-! ## Offsets -/

abbrev semOff (s m : Fin 2) : Fin 2 → Nat := ![s.val, m.val]
abbrev slotOff (s m : Fin 2) : Fin 4 → Nat := ![s.val, m.val, 0, 0]
abbrev resOff (s m : Fin 2) (r : Nat) : Fin 4 → Nat := ![s.val, m.val, r, 0]
abbrev winOff (e r q : Nat) : Fin 3 → Nat := ![e, r, q]

/-- The slot of chunk `c`. -/
def sl (c : Nat) : Fin 2 := ⟨c % 2, Nat.mod_lt _ (by decide)⟩
/-- The slot of the resident weights and the other one. -/
def curS (i : grid0.Coords) (v4 v7 : BitVec 32) : Fin 2 := ⟨cur i v4 v7, cur_lt i v4 v7⟩
def othS (i : grid0.Coords) (v4 v7 : BitVec 32) : Fin 2 := ⟨1 - cur i v4 v7, by omega⟩

theorem tn {n : Nat} (h : n < 2 ^ 32) : (BitVec.ofNat 32 n).toNat = n := by
  rw [BitVec.toNat_ofNat, Nat.mod_eq_of_lt h]

section T1
variable (v1 : BitVec 32) (k : Fin k0_t1_loop.trips)
theorem k8 : k.val < 8 := Nat.lt_of_lt_of_eq k.isLt trips1
theorem z32 : (0#32 : BitVec 32).toNat = 0 := rfl

theorem off7_eq : k0_off7 k = semOff (sl k) 0 := by
  have := k8 k
  simp only [k0_off7, iv_nat, and_nat, z32, Nat.zero_add]; rw [tn (by omega)]; rfl
theorem off8_eq : k0_off8 k = slotOff (sl k) 0 := by
  have := k8 k
  simp only [k0_off8, iv_nat, and_nat, z32, Nat.zero_add]; rw [tn (by omega)]; rfl
theorem off9_eq : k0_off9 v1 k = winOff v1.toNat (k * 256) 0 := by
  have := k8 k
  simp only [k0_off9, iv_nat, mul_nat, z32, Nat.zero_add]; rw [tn (by omega)]
theorem off10_eq : k0_off10 k = slotOff (sl k) 0 := by
  have := k8 k
  simp only [k0_off10, iv_nat, and_nat, idx_nat, z32, Nat.zero_add]; rw [tn (by omega)]; rfl
theorem off11_eq : k0_off11 k = resOff 0 0 (k * 256) := by
  have := k8 k
  simp only [k0_off11, iv_nat, mul_nat, idx_nat, z32, Nat.zero_add]; rw [tn (by omega)]; rfl
theorem off12_eq : k0_off12 k = semOff (sl k) 0 := by
  have := k8 k
  simp only [k0_off12, iv_nat, add_nat, and_nat, z32, Nat.zero_add, Nat.add_mod_right]; rw [tn (by omega)]; rfl
theorem off13_eq : k0_off13 k = slotOff (sl k) 0 := by
  have := k8 k
  simp only [k0_off13, iv_nat, add_nat, and_nat, z32, Nat.zero_add, Nat.add_mod_right]; rw [tn (by omega)]; rfl
theorem off14_eq : k0_off14 v1 k = winOff v1.toNat ((k + 2) * 256) 0 := by
  have := k8 k
  simp only [k0_off14, iv_nat, add_nat, mul_nat, z32, Nat.zero_add]; rw [tn (by omega)]
theorem off15_eq : k0_off15 k = semOff (sl k) 1 := by
  have := k8 k
  simp only [k0_off15, iv_nat, and_nat, z32, Nat.zero_add]; rw [tn (by omega)]; rfl
theorem off16_eq : k0_off16 k = slotOff (sl k) 1 := by
  have := k8 k
  simp only [k0_off16, iv_nat, and_nat, z32, Nat.zero_add]; rw [tn (by omega)]; rfl
theorem off17_eq : k0_off17 k = slotOff (sl k) 1 := by
  have := k8 k
  simp only [k0_off17, iv_nat, and_nat, idx_nat, z32, Nat.zero_add]; rw [tn (by omega)]; rfl
theorem off18_eq : k0_off18 k = resOff 0 1 (k * 256) := by
  have := k8 k
  simp only [k0_off18, iv_nat, mul_nat, idx_nat, z32, Nat.zero_add]; rw [tn (by omega)]; rfl
theorem off19_eq : k0_off19 k = semOff (sl k) 1 := by
  have := k8 k
  simp only [k0_off19, iv_nat, add_nat, and_nat, z32, Nat.zero_add, Nat.add_mod_right]; rw [tn (by omega)]; rfl
theorem off20_eq : k0_off20 k = slotOff (sl k) 1 := by
  have := k8 k
  simp only [k0_off20, iv_nat, add_nat, and_nat, z32, Nat.zero_add, Nat.add_mod_right]; rw [tn (by omega)]; rfl
theorem off21_eq : k0_off21 v1 k = winOff v1.toNat ((k + 2) * 256) 0 := by
  have := k8 k
  simp only [k0_off21, iv_nat, add_nat, mul_nat, z32, Nat.zero_add]; rw [tn (by omega)]
theorem cond2_iff : k0_cond2 k = 1#1 ↔ k.val + 2 < 8 := by
  have := k8 k
  simp only [k0_cond2, iv_nat, add_nat, z32, Nat.zero_add, slt_nat (show k.val + 2 < 2 ^ 31 by omega) (show 8 < 2 ^ 31 by omega), ext_ne, ofBool_one, decide_eq_true_eq]
theorem cond3_iff : k0_cond3 k = 1#1 ↔ k.val + 2 < 8 := by
  have := k8 k
  simp only [k0_cond3, iv_nat, add_nat, z32, Nat.zero_add, slt_nat (show k.val + 2 < 2 ^ 31 by omega) (show 8 < 2 ^ 31 by omega), ext_ne, ofBool_one, decide_eq_true_eq]
theorem off5_eq : k0_off5 v1 = winOff v1.toNat 0 0 := rfl
theorem off6_eq : k0_off6 v1 = winOff v1.toNat 256 0 := rfl
end T1

section T2
variable (i : grid0.Coords) (v1 v2 v4 v7 v11 v18 v27 v41 v43 : BitVec 32) (k : Fin (k0_t2_loop v41 v43).trips)

/-- The chunk a trip of the group loop handles. -/
abbrev ck : Nat := v41.toNat + k.val
theorem ck8 (h : v41.toNat ≤ v43.toNat) (h8 : v43.toNat ≤ 8) : ck v41 v43 k < v43.toNat := by
  have := Nat.lt_of_lt_of_eq k.isLt (trips2 v41 v43 h h8); unfold ck; omega

variable (hc : ck v41 v43 k < 8) (hj : nj i v11 < 4)
include hc
theorem off29_eq : k0_off29 v41 v43 k = semOff (sl (ck v41 v43 k)) 0 := by
  simp only [k0_off29, iv_nat, and_nat]; rw [tn (by omega)]; rfl
theorem off30_eq : k0_off30 v41 v43 k = slotOff (sl (ck v41 v43 k)) 0 := by
  simp only [k0_off30, iv_nat, and_nat]; rw [tn (by omega)]; rfl
theorem off32_eq : k0_off32 v41 v43 k = slotOff (sl (ck v41 v43 k)) 0 := by
  simp only [k0_off32, iv_nat, and_nat, idx_nat]; rw [tn (by omega)]; rfl
theorem off33_eq : k0_off33 i v4 v7 v41 v43 k = resOff (othS i v4 v7) 0 (ck v41 v43 k * 256) := by
  have := cur_lt i v4 v7
  simp only [k0_off33, iv_nat, mul_nat, idx_nat, cur_word, oth_word]; rw [tn (by omega), tn (by unfold ck at hc; omega)]; rfl
theorem off34_eq : k0_off34 v41 v43 k = semOff (sl (ck v41 v43 k)) 0 := by
  simp only [k0_off34, iv_nat, add_nat, and_nat, Nat.add_mod_right]; rw [tn (by omega)]; rfl
theorem off35_eq : k0_off35 v41 v43 k = slotOff (sl (ck v41 v43 k)) 0 := by
  simp only [k0_off35, iv_nat, add_nat, and_nat, Nat.add_mod_right]; rw [tn (by omega)]; rfl
theorem off37_eq : k0_off37 v41 v43 k = semOff (sl (ck v41 v43 k)) 1 := by
  simp only [k0_off37, iv_nat, and_nat]; rw [tn (by omega)]; rfl
theorem off38_eq : k0_off38 v41 v43 k = slotOff (sl (ck v41 v43 k)) 1 := by
  simp only [k0_off38, iv_nat, and_nat]; rw [tn (by omega)]; rfl
theorem off39_eq : k0_off39 v41 v43 k = slotOff (sl (ck v41 v43 k)) 1 := by
  simp only [k0_off39, iv_nat, and_nat, idx_nat]; rw [tn (by omega)]; rfl
theorem off40_eq : k0_off40 i v4 v7 v41 v43 k = resOff (othS i v4 v7) 1 (ck v41 v43 k * 256) := by
  have := cur_lt i v4 v7
  simp only [k0_off40, iv_nat, mul_nat, idx_nat, cur_word, oth_word]; rw [tn (by omega), tn (by unfold ck at hc; omega)]; rfl
theorem off41_eq : k0_off41 v41 v43 k = semOff (sl (ck v41 v43 k)) 1 := by
  simp only [k0_off41, iv_nat, add_nat, and_nat, Nat.add_mod_right]; rw [tn (by omega)]; rfl
theorem off42_eq : k0_off42 v41 v43 k = slotOff (sl (ck v41 v43 k)) 1 := by
  simp only [k0_off42, iv_nat, add_nat, and_nat, Nat.add_mod_right]; rw [tn (by omega)]; rfl
theorem cond7_iff : k0_cond7 v41 v43 k = 1#1 ↔ ck v41 v43 k + 2 < 8 := by
  have e := slt_nat (show v41.toNat + k.val + 2 < 2 ^ 31 by unfold ck at hc; omega) (show 8 < 2 ^ 31 by omega)
  simp only [k0_cond7, iv_nat, add_nat, e, ext_ne, ofBool_one, decide_eq_true_eq]
theorem cond8_iff : k0_cond8 v41 v43 k = 1#1 ↔ ck v41 v43 k + 2 < 8 := by
  have e := slt_nat (show v41.toNat + k.val + 2 < 2 ^ 31 by unfold ck at hc; omega) (show 8 < 2 ^ 31 by omega)
  simp only [k0_cond8, iv_nat, add_nat, e, ext_ne, ofBool_one, decide_eq_true_eq]
include hj
theorem off31_eq : k0_off31 i v11 v18 v41 v43 k = winOff v18.toNat (ck v41 v43 k * 256) (nj i v11 * 1408) := by
  simp only [k0_off31, iv_nat, mul_nat, nj_word]; rw [tn (by unfold ck at hc; omega), tn (by omega)]
theorem off36_eq : k0_off36 i v11 v18 v41 v43 k = winOff v18.toNat ((ck v41 v43 k + 2) * 256) (nj i v11 * 1408) := by
  simp only [k0_off36, iv_nat, add_nat, mul_nat, nj_word']; rw [tn (by unfold ck at hc; omega), tn (by omega)]
theorem off43_eq : k0_off43 i v11 v18 v41 v43 k = winOff v18.toNat ((ck v41 v43 k + 2) * 256) (nj i v11 * 1408) := by
  simp only [k0_off43, iv_nat, add_nat, mul_nat, nj_word']; rw [tn (by unfold ck at hc; omega), tn (by omega)]
omit hc
theorem off23_eq : k0_off23 i v11 v18 = winOff v18.toNat 0 (nj i v11 * 1408) := by
  simp only [k0_off23, mul_nat, nj_word]; rw [tn (by omega)]
theorem off24_eq : k0_off24 i v11 v18 = winOff v18.toNat 256 (nj i v11 * 1408) := by
  simp only [k0_off24, mul_nat, nj_word]; rw [tn (by omega)]
omit hj
theorem off25_eq : k0_off25 i v4 v7 = slotOff (curS i v4 v7) 0 := by
  have := cur_lt i v4 v7
  simp only [k0_off25, idx_nat, cur_word]; rw [tn (by omega)]; rfl
theorem off26_eq : k0_off26 i v4 v7 = slotOff (curS i v4 v7) 1 := by
  have := cur_lt i v4 v7
  simp only [k0_off26, idx_nat, cur_word]; rw [tn (by omega)]; rfl
end T2

/-! ## The checks -/

theorem winOff_inb {e r q : Nat} (he : e < 8) (hr : r + 256 ≤ 2048) (hq : q + 1408 ≤ 5632) :
    ∀ a, winOff e r q a + S1x256x1408.size a ≤ S8x2048x5632.size a := by
  intro a; fin_cases a
  · show e + 1 ≤ 8; omega
  · show r + 256 ≤ 2048; omega
  · show q + 1408 ≤ 5632; omega
theorem slotOff_inb (s m : Fin 2) : ∀ a, slotOff s m a + S1x1x256x1408.size a ≤ S2x2x256x1408.size a := by
  have := s.isLt; have := m.isLt; intro a; fin_cases a
  · show s.val + 1 ≤ 2; omega
  · show m.val + 1 ≤ 2; omega
  · show 0 + 256 ≤ 256; omega
  · show 0 + 1408 ≤ 1408; omega
theorem semOff_inb (s m : Fin 2) : ∀ a, semOff s m a + S1x1.size a ≤ S2x2.size a := by
  have := s.isLt; have := m.isLt; intro a; fin_cases a
  · show s.val + 1 ≤ 2; omega
  · show m.val + 1 ≤ 2; omega
theorem resOff_inb (s m : Fin 2) {r : Nat} (hr : r + 256 ≤ 2048) : ∀ a, resOff s m r a + S1x1x256x1408.size a ≤ S2x2x2048x1408.size a := by
  have := s.isLt; have := m.isLt; intro a; fin_cases a
  · show s.val + 1 ≤ 2; omega
  · show m.val + 1 ≤ 2; omega
  · show r + 256 ≤ 2048; omega
  · show 0 + 1408 ≤ 1408; omega
theorem bigOff_inb (s m : Fin 2) : ∀ a, slotOff s m a + S1x1x2048x1408.size a ≤ S2x2x2048x1408.size a := by
  have := s.isLt; have := m.isLt; intro a; fin_cases a
  · show s.val + 1 ≤ 2; omega
  · show m.val + 1 ≤ 2; omega
  · show 0 + 2048 ≤ 2048; omega
  · show 0 + 1408 ≤ 1408; omega

theorem chk1_ok (i : grid0.Coords) (v1 : BitVec 32) (h : v1.toNat < 8) : k0_chk1 i v1 := by
  refine ⟨fun _ => ?_, fun _ => ?_, fun k _ => ?_, fun k _ hk => ?_, fun k _ hk => ?_⟩
  · rw [off5_eq]; exact winOff_inb h (by omega) (by omega)
  · rw [off6_eq]; exact winOff_inb h (by omega) (by omega)
  · rw [off9_eq]; have := k8 k; exact winOff_inb h (by omega) (by omega)
  · rw [off14_eq]; have := (cond2_iff k).1 hk; exact winOff_inb h (by omega) (by omega)
  · rw [off21_eq]; have := (cond3_iff k).1 hk; exact winOff_inb h (by omega) (by omega)

theorem chk3_ok (i : grid0.Coords) (v2 v4 v7 : BitVec 32) : k0_chk3 i v2 v4 v7 :=
  ⟨fun _ => by rw [off25_eq]; exact bigOff_inb _ _, fun _ => by rw [off26_eq]; exact bigOff_inb _ _⟩

theorem chk2_ok (i : grid0.Coords) (v2 v11 v18 v27 : BitVec 32) (h2 : v2.toNat ≤ 72) (h18 : v18.toNat < 8) : k0_chk2 i v2 v11 v18 v27 := by
  have hd : ∀ (h4 : k0_cond4 i v2 v11 v27 = 1#1), 128 ∣ (BitVec.ofNat 32 (nj i v11 * 1408)).toNat := fun h4 => by
    have := nj_lt i v2 v11 ((cond4_iff i v2 v11 v27 h2).1 h4).1
    rw [tn (by omega)]; omega
  have hn : ∀ (h4 : k0_cond4 i v2 v11 v27 = 1#1), nj i v11 < 4 := fun h4 => nj_lt i v2 v11 ((cond4_iff i v2 v11 v27 h2).1 h4).1
  refine ⟨fun h4 => ?_, fun h4 => ?_, fun h4 => ?_, fun h4 => ?_, fun h4 => ?_, fun h4 => ?_⟩
  all_goals have hn4 := hn h4
  all_goals first
    | (simp only [k0_mult20, k0_mult22, k0_mult24, k0_mult26, nj_word, mul_nat]; exact hd h4)
    | (rw [off23_eq _ _ _ hn4]; exact winOff_inb h18 (by omega) (by omega))
    | (rw [off24_eq _ _ _ hn4]; exact winOff_inb h18 (by omega) (by omega))

theorem packed_res (off : Fin 4 → Nat) (s m : Fin 2) (c : Nat) (e : off = resOff s m (c * 256)) (hinb) :
    (Rect.unit (s := S2x2x2048x1408) off S1x1x256x1408.size hinb).PackedRows (EltTy.packing .bf16) := by
  subst e
  refine Or.inr ⟨by decide, rfl, Or.inl ⟨?_, ?_⟩⟩
  · show 2 ∣ c * 256; omega
  · show 2 ∣ 256; omega

set_option maxHeartbeats 4000000 in
theorem chk4_ok (i : grid0.Coords) (v2 v4 v7 v11 v18 v41 v43 : BitVec 32) (h2 : v2.toNat ≤ 72) (h18 : v18.toNat < 8)
    (hlo : v41.toNat ≤ v43.toNat) (hhi : v43.toNat ≤ 8) : k0_chk4 i v2 v4 v7 v11 v18 v41 v43 := by
  have hn : ∀ (h6 : k0_cond6 i v2 v11 = 1#1), nj i v11 < 4 := fun h6 => nj_lt i v2 v11 ((cond6_iff i v2 v11 h2).1 h6)
  have hc : ∀ k, ck v41 v43 k < 8 := fun k => Nat.lt_of_lt_of_le (ck8 v41 v43 k hlo hhi) hhi
  have no3 : ∀ k : Fin (k0_t3_loop v41 v43).trips, False := fun k => Nat.not_lt_zero _ (Nat.lt_of_lt_of_eq k.isLt (trips3 v41 v43))
  have hd : ∀ (h6 : k0_cond6 i v2 v11 = 1#1), 128 ∣ (BitVec.ofNat 32 (nj i v11 * 1408)).toNat := fun h6 => by
    have := hn h6; rw [tn (by omega)]; omega
  have hm : ∀ k, 256 ∣ (BitVec.ofNat 32 (ck v41 v43 k * 256)).toNat := fun k => by
    have := hc k; rw [tn (by omega)]; omega
  have hm2 : ∀ k, 256 ∣ (BitVec.ofNat 32 ((ck v41 v43 k + 2) * 256)).toNat := fun k => by
    have := hc k; rw [tn (by omega)]; omega
  have ok2 : (k0_t2_loop v41 v43).OK := by
    have ht := trips2 v41 v43 hlo hhi
    rw [loop2] at ht ⊢; unfold Scf.Loop.trips at ht
    simp only [ht, Scf.Loop.OK, Scf.OK, small_toInt hhi, small_toInt (hlo.trans hhi), show (1#32 : BitVec 32).toInt = 1 by decide]
    omega
  have ok3 : (k0_t3_loop v41 v43).OK := by
    have ht := trips3 v41 v43
    rw [loop3] at ht ⊢; unfold Scf.Loop.trips at ht
    simp only [ht, Scf.Loop.OK, Scf.OK, small_toInt hhi, show (1#32 : BitVec 32).toInt = 1 by decide]
    omega
  refine ⟨⟨fun h6 => ok2, fun k h6 => ?_, fun k h6 => ?_, fun k h6 => ?_, fun k h6 => ?_, fun k h6 => ?_, fun k h6 => ?_, fun k h6 => ?_,
    fun k h6 => ?_, fun k h6 _ => ?_, fun k h6 h7 => ?_, fun k h6 h7 => ?_, fun k h6 h7 => ?_, fun k h6 h7 => ?_, fun k h6 h7 => ?_,
    fun k h6 => ?_, fun k h6 => ?_, fun k h6 => ?_, fun k h6 => ?_, fun k h6 => ?_, fun k h6 => ?_, fun k h6 => ?_, fun k h6 _ => ?_,
    fun k h6 h8 => ?_, fun k h6 h8 => ?_, fun k h6 h8 => ?_, fun k h6 h8 => ?_, fun k h6 h8 => ?_,
    fun h6 => ok3, fun k => (no3 k).elim, fun k => (no3 k).elim, fun k => (no3 k).elim⟩, ?_⟩
  case refine_28 => repeat' first | exact fun k => (no3 k).elim | refine ⟨fun k => (no3 k).elim, ?_⟩
  all_goals have hn4 := hn h6
  all_goals have hk8 := hc k
  all_goals first
    | (simp only [k0_mult28, k0_mult31, k0_mult33, k0_mult36, nj_word, mul_nat]; exact hd h6)
    | (simp only [k0_mult27, k0_mult29, k0_mult32, k0_mult34, iv_nat, mul_nat]; exact hm k)
    | (simp only [k0_mult30, k0_mult35, iv_nat, add_nat, mul_nat]; exact hm2 k)
    | (rw [off29_eq _ _ _ hk8]; exact semOff_inb _ _)
    | (rw [off34_eq _ _ _ hk8]; exact semOff_inb _ _)
    | (rw [off37_eq _ _ _ hk8]; exact semOff_inb _ _)
    | (rw [off41_eq _ _ _ hk8]; exact semOff_inb _ _)
    | (rw [off30_eq _ _ _ hk8]; exact slotOff_inb _ _)
    | (rw [off32_eq _ _ _ hk8]; exact slotOff_inb _ _)
    | (rw [off35_eq _ _ _ hk8]; exact slotOff_inb _ _)
    | (rw [off38_eq _ _ _ hk8]; exact slotOff_inb _ _)
    | (rw [off39_eq _ _ _ hk8]; exact slotOff_inb _ _)
    | (rw [off42_eq _ _ _ hk8]; exact slotOff_inb _ _)
    | (rw [off31_eq _ _ _ _ _ _ hk8 hn4]; exact winOff_inb h18 (by omega) (by omega))
    | (rw [off36_eq _ _ _ _ _ _ hk8 hn4]; have := (cond7_iff _ _ _ hk8).1 h7; exact winOff_inb h18 (by omega) (by omega))
    | (rw [off43_eq _ _ _ _ _ _ hk8 hn4]; have := (cond8_iff _ _ _ hk8).1 h8; exact winOff_inb h18 (by omega) (by omega))
    | (rw [off33_eq _ _ _ _ _ _ hk8]; exact resOff_inb _ _ (by omega))
    | (rw [off40_eq _ _ _ _ _ _ hk8]; exact resOff_inb _ _ (by omega))
    | (exact packed_res _ _ _ _ (off33_eq _ _ _ _ _ _ hk8) _)
    | (exact packed_res _ _ _ _ (off40_eq _ _ _ _ _ _ hk8) _)

end Cert.Proof.UpI
-- ==== Proof.UpILanes.lean ====
/-
  The resources of the expert-weight stream: the staging slots, their transfer cells, the weight windows, a transfer
  in flight; and the printed slices under these names.
-/
module

public import proofs.«01_k».proof.Proof.UpIWords
public import Idealize.ShloMosaic.Lib.Pipeline.Frame
public import Idealize.ShloMosaic.Lib.Ring

@[expose] public section

set_option maxRecDepth 16384

noncomputable section

namespace Cert.Proof.UpI

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ
abbrev 𝒱₀ : Variants := Variants.none

omit [FloatOps F] in
theorem entails_of_eq {P Q : sProp 𝕄} (e : P = Q) : P ⊢ Q := e ▸ .rfl

abbrev gM : Memref sig .tc .hbm S8x2048x5632 .f32 := Memref.whole main_arg3
abbrev uM : Memref sig .tc .hbm S8x2048x5632 .f32 := Memref.whole main_arg4
abbrev bM : Memref sig .tc .vmem S2x2x2048x1408 .bf16 := Memref.whole cc0_scratch0
abbrev sM : Memref sig .tc .vmem S2x2x256x1408 .f32 := Memref.whole cc0_scratch1

/-- The window of a weight a transfer reads: expert `e`, chunk `r` of its rows, tile column `j`. -/
def win (W : Memref sig .tc .hbm S8x2048x5632 .f32) (e : Fin 8) (r : Fin 8) (j : Fin 4) : Memref sig .tc .hbm S256x1408 .f32 :=
  (W.slice (Rect.unit (s := S8x2048x5632) (winOff e.val (r.val * 256) (j.val * 1408)) S1x256x1408.size
    (winOff_inb e.isLt (by omega) (by omega))) (fun _ => rfl)).squeeze S256x1408 squeezes_S1x256x1408_S256x1408
/-- Staging slot `s` of matrix `m`. -/
def slot (s m : Fin 2) : Memref sig .tc .vmem S256x1408 .f32 :=
  (sM.slice (Rect.unit (s := S2x2x256x1408) (slotOff s m) S1x1x256x1408.size (slotOff_inb s m)) (fun _ => rfl)).squeeze S256x1408 squeezes_S1x1x256x1408_S256x1408
/-- Its transfer semaphore. -/
def csm (s m : Fin 2) : DmaSems sig S_ :=
  (cc0_scratch2.slice (Rect.unit (s := S2x2) (semOff s m) S1x1.size (semOff_inb s m))).squeeze S_ squeezes_S1x1_S_

abbrev f8 (n : Nat) : Fin 8 := ⟨n % 8, Nat.mod_lt _ (by decide)⟩
abbrev f4 (n : Nat) : Fin 4 := ⟨n % 4, Nat.mod_lt _ (by decide)⟩

theorem csm_congr {off : Fin 2 → Nat} {s m : Fin 2} (e : off = semOff s m) (hh) :
    (cc0_scratch2.slice (Rect.unit (s := S2x2) off S1x1.size hh)).squeeze S_ squeezes_S1x1_S_ = csm s m :=
  congrArg (fun A : DmaSems sig S1x1 => A.squeeze S_ squeezes_S1x1_S_) (SemArray.slice_unit_congr _ e _ _)
theorem slot_congr {off : Fin 4 → Nat} {s m : Fin 2} (e : off = slotOff s m) (hh hs) :
    (sM.slice (Rect.unit (s := S2x2x256x1408) off S1x1x256x1408.size hh) hs).squeeze S256x1408 squeezes_S1x1x256x1408_S256x1408 = slot s m :=
  congrArg (fun M : Memref sig .tc .vmem S1x1x256x1408 .f32 => M.squeeze S256x1408 squeezes_S1x1x256x1408_S256x1408) (Memref.slice_unit_congr _ e _ _ _ _)
theorem win_congr (W : Memref sig .tc .hbm S8x2048x5632 .f32) {off : Fin 3 → Nat} {e r j : Nat} (he : e < 8) (hr : r < 8) (hj : j < 4)
    (h : off = winOff e (r * 256) (j * 1408)) (hh hs) :
    (W.slice (Rect.unit (s := S8x2048x5632) off S1x256x1408.size hh) hs).squeeze S256x1408 squeezes_S1x256x1408_S256x1408 = win W (f8 e) (f8 r) (f4 j) :=
  congrArg (fun M : Memref sig .tc .hbm S1x256x1408 .f32 => M.squeeze S256x1408 squeezes_S1x256x1408_S256x1408)
    (Memref.slice_unit_congr _ (h.trans (by
      show winOff _ _ _ = winOff (e % 8) (r % 8 * 256) (j % 4 * 1408)
      rw [Nat.mod_eq_of_lt he, Nat.mod_eq_of_lt hr, Nat.mod_eq_of_lt hj])) _ _ _ _)

/-! ## The printed slices are these -/

section Canon1
variable (v1 : BitVec 32) (k : Fin k0_t1_loop.trips) (h1 : v1.toNat < 8)
@[sl_canon] theorem sem7 (hh) : (cc0_scratch2.slice (Rect.unit (s := S2x2) (k0_off7 k) S1x1.size hh)).squeeze S_ squeezes_S1x1_S_ = csm (sl k) 0 := csm_congr (off7_eq k) _
@[sl_canon] theorem sem12 (hh) : (cc0_scratch2.slice (Rect.unit (s := S2x2) (k0_off12 k) S1x1.size hh)).squeeze S_ squeezes_S1x1_S_ = csm (sl k) 0 := csm_congr (off12_eq k) _
@[sl_canon] theorem sem15 (hh) : (cc0_scratch2.slice (Rect.unit (s := S2x2) (k0_off15 k) S1x1.size hh)).squeeze S_ squeezes_S1x1_S_ = csm (sl k) 1 := csm_congr (off15_eq k) _
@[sl_canon] theorem sem19 (hh) : (cc0_scratch2.slice (Rect.unit (s := S2x2) (k0_off19 k) S1x1.size hh)).squeeze S_ squeezes_S1x1_S_ = csm (sl k) 1 := csm_congr (off19_eq k) _
@[sl_canon] theorem slot8 (hh hs) : (sM.slice (Rect.unit (s := S2x2x256x1408) (k0_off8 k) S1x1x256x1408.size hh) hs).squeeze S256x1408 squeezes_S1x1x256x1408_S256x1408 = slot (sl k) 0 := slot_congr (off8_eq k) _ _
@[sl_canon] theorem slot13 (hh hs) : (sM.slice (Rect.unit (s := S2x2x256x1408) (k0_off13 k) S1x1x256x1408.size hh) hs).squeeze S256x1408 squeezes_S1x1x256x1408_S256x1408 = slot (sl k) 0 := slot_congr (off13_eq k) _ _
@[sl_canon] theorem slot16 (hh hs) : (sM.slice (Rect.unit (s := S2x2x256x1408) (k0_off16 k) S1x1x256x1408.size hh) hs).squeeze S256x1408 squeezes_S1x1x256x1408_S256x1408 = slot (sl k) 1 := slot_congr (off16_eq k) _ _
@[sl_canon] theorem slot20 (hh hs) : (sM.slice (Rect.unit (s := S2x2x256x1408) (k0_off20 k) S1x1x256x1408.size hh) hs).squeeze S256x1408 squeezes_S1x1x256x1408_S256x1408 = slot (sl k) 1 := slot_congr (off20_eq k) _ _
include h1
@[sl_canon] theorem win9g (hh hs) : (gM.slice (Rect.unit (s := S8x2048x5632) (k0_off9 v1 k) S1x256x1408.size hh) hs).squeeze S256x1408 squeezes_S1x256x1408_S256x1408 = win gM (f8 v1.toNat) (f8 k) (f4 0) := win_congr gM h1 (k8 k) (by decide) (off9_eq v1 k) _ _
@[sl_canon] theorem win9u (hh hs) : (uM.slice (Rect.unit (s := S8x2048x5632) (k0_off9 v1 k) S1x256x1408.size hh) hs).squeeze S256x1408 squeezes_S1x256x1408_S256x1408 = win uM (f8 v1.toNat) (f8 k) (f4 0) := win_congr uM h1 (k8 k) (by decide) (off9_eq v1 k) _ _
@[sl_canon] theorem win14 (hk : k.val + 2 < 8) (hh hs) : (gM.slice (Rect.unit (s := S8x2048x5632) (k0_off14 v1 k) S1x256x1408.size hh) hs).squeeze S256x1408 squeezes_S1x256x1408_S256x1408 = win gM (f8 v1.toNat) (f8 (k + 2)) (f4 0) := win_congr gM h1 hk (by decide) (off14_eq v1 k) _ _
@[sl_canon] theorem win21 (hk : k.val + 2 < 8) (hh hs) : (uM.slice (Rect.unit (s := S8x2048x5632) (k0_off21 v1 k) S1x256x1408.size hh) hs).squeeze S256x1408 squeezes_S1x256x1408_S256x1408 = win uM (f8 v1.toNat) (f8 (k + 2)) (f4 0) := win_congr uM h1 hk (by decide) (off21_eq v1 k) _ _
@[sl_canon] theorem win5g (hh hs) : (gM.slice (Rect.unit (s := S8x2048x5632) (k0_off5 v1) S1x256x1408.size hh) hs).squeeze S256x1408 squeezes_S1x256x1408_S256x1408 = win gM (f8 v1.toNat) (f8 0) (f4 0) := win_congr gM h1 (by decide) (by decide) (off5_eq v1) _ _
@[sl_canon] theorem win5u (hh hs) : (uM.slice (Rect.unit (s := S8x2048x5632) (k0_off5 v1) S1x256x1408.size hh) hs).squeeze S256x1408 squeezes_S1x256x1408_S256x1408 = win uM (f8 v1.toNat) (f8 0) (f4 0) := win_congr uM h1 (by decide) (by decide) (off5_eq v1) _ _
@[sl_canon] theorem win6g (hh hs) : (gM.slice (Rect.unit (s := S8x2048x5632) (k0_off6 v1) S1x256x1408.size hh) hs).squeeze S256x1408 squeezes_S1x256x1408_S256x1408 = win gM (f8 v1.toNat) (f8 1) (f4 0) := win_congr gM h1 (by decide) (by decide) (off6_eq v1) _ _
@[sl_canon] theorem win6u (hh hs) : (uM.slice (Rect.unit (s := S8x2048x5632) (k0_off6 v1) S1x256x1408.size hh) hs).squeeze S256x1408 squeezes_S1x256x1408_S256x1408 = win uM (f8 v1.toNat) (f8 1) (f4 0) := win_congr uM h1 (by decide) (by decide) (off6_eq v1) _ _
end Canon1

/-- The prologue's literal slots and semaphores. -/
@[sl_canon] theorem semL00 (hh) : (cc0_scratch2.slice (Rect.unit (s := S2x2) ![0, 0] S1x1.size hh)).squeeze S_ squeezes_S1x1_S_ = csm 0 0 := csm_congr (by decide) _
@[sl_canon] theorem semL01 (hh) : (cc0_scratch2.slice (Rect.unit (s := S2x2) ![0, 1] S1x1.size hh)).squeeze S_ squeezes_S1x1_S_ = csm 0 1 := csm_congr (by decide) _
@[sl_canon] theorem semL10 (hh) : (cc0_scratch2.slice (Rect.unit (s := S2x2) ![1, 0] S1x1.size hh)).squeeze S_ squeezes_S1x1_S_ = csm 1 0 := csm_congr (by decide) _
@[sl_canon] theorem semL11 (hh) : (cc0_scratch2.slice (Rect.unit (s := S2x2) ![1, 1] S1x1.size hh)).squeeze S_ squeezes_S1x1_S_ = csm 1 1 := csm_congr (by decide) _
@[sl_canon] theorem slotL00 (hh hs) : (sM.slice (Rect.unit (s := S2x2x256x1408) ![0, 0, 0, 0] S1x1x256x1408.size hh) hs).squeeze S256x1408 squeezes_S1x1x256x1408_S256x1408 = slot 0 0 := slot_congr (by decide) _ _
@[sl_canon] theorem slotL01 (hh hs) : (sM.slice (Rect.unit (s := S2x2x256x1408) ![0, 1, 0, 0] S1x1x256x1408.size hh) hs).squeeze S256x1408 squeezes_S1x1x256x1408_S256x1408 = slot 0 1 := slot_congr (by decide) _ _
@[sl_canon] theorem slotL10 (hh hs) : (sM.slice (Rect.unit (s := S2x2x256x1408) ![1, 0, 0, 0] S1x1x256x1408.size hh) hs).squeeze S256x1408 squeezes_S1x1x256x1408_S256x1408 = slot 1 0 := slot_congr (by decide) _ _
@[sl_canon] theorem slotL11 (hh hs) : (sM.slice (Rect.unit (s := S2x2x256x1408) ![1, 1, 0, 0] S1x1x256x1408.size hh) hs).squeeze S256x1408 squeezes_S1x1x256x1408_S256x1408 = slot 1 1 := slot_congr (by decide) _ _

section Canon2
variable (i : grid0.Coords) (v4 v7 v11 v18 v41 v43 : BitVec 32) (k : Fin (k0_t2_loop v41 v43).trips) (h18 : v18.toNat < 8) (hc : ck v41 v43 k < 8) (hj : nj i v11 < 4)
include hc in
@[sl_canon] theorem sem29 (hh) : (cc0_scratch2.slice (Rect.unit (s := S2x2) (k0_off29 v41 v43 k) S1x1.size hh)).squeeze S_ squeezes_S1x1_S_ = csm (sl (ck v41 v43 k)) 0 := csm_congr (off29_eq v41 v43 k hc) _
include hc in
@[sl_canon] theorem sem34 (hh) : (cc0_scratch2.slice (Rect.unit (s := S2x2) (k0_off34 v41 v43 k) S1x1.size hh)).squeeze S_ squeezes_S1x1_S_ = csm (sl (ck v41 v43 k)) 0 := csm_congr (off34_eq v41 v43 k hc) _
include hc in
@[sl_canon] theorem sem37 (hh) : (cc0_scratch2.slice (Rect.unit (s := S2x2) (k0_off37 v41 v43 k) S1x1.size hh)).squeeze S_ squeezes_S1x1_S_ = csm (sl (ck v41 v43 k)) 1 := csm_congr (off37_eq v41 v43 k hc) _
include hc in
@[sl_canon] theorem sem41 (hh) : (cc0_scratch2.slice (Rect.unit (s := S2x2) (k0_off41 v41 v43 k) S1x1.size hh)).squeeze S_ squeezes_S1x1_S_ = csm (sl (ck v41 v43 k)) 1 := csm_congr (off41_eq v41 v43 k hc) _
include hc in
@[sl_canon] theorem slot30 (hh hs) : (sM.slice (Rect.unit (s := S2x2x256x1408) (k0_off30 v41 v43 k) S1x1x256x1408.size hh) hs).squeeze S256x1408 squeezes_S1x1x256x1408_S256x1408 = slot (sl (ck v41 v43 k)) 0 := slot_congr (off30_eq v41 v43 k hc) _ _
include hc in
@[sl_canon] theorem slot35 (hh hs) : (sM.slice (Rect.unit (s := S2x2x256x1408) (k0_off35 v41 v43 k) S1x1x256x1408.size hh) hs).squeeze S256x1408 squeezes_S1x1x256x1408_S256x1408 = slot (sl (ck v41 v43 k)) 0 := slot_congr (off35_eq v41 v43 k hc) _ _
include hc in
@[sl_canon] theorem slot38 (hh hs) : (sM.slice (Rect.unit (s := S2x2x256x1408) (k0_off38 v41 v43 k) S1x1x256x1408.size hh) hs).squeeze S256x1408 squeezes_S1x1x256x1408_S256x1408 = slot (sl (ck v41 v43 k)) 1 := slot_congr (off38_eq v41 v43 k hc) _ _
include hc in
@[sl_canon] theorem slot42 (hh hs) : (sM.slice (Rect.unit (s := S2x2x256x1408) (k0_off42 v41 v43 k) S1x1x256x1408.size hh) hs).squeeze S256x1408 squeezes_S1x1x256x1408_S256x1408 = slot (sl (ck v41 v43 k)) 1 := slot_congr (off42_eq v41 v43 k hc) _ _
include h18 hj
include hc in
@[sl_canon] theorem win31g (hh hs) : (gM.slice (Rect.unit (s := S8x2048x5632) (k0_off31 i v11 v18 v41 v43 k) S1x256x1408.size hh) hs).squeeze S256x1408 squeezes_S1x256x1408_S256x1408 = win gM (f8 v18.toNat) (f8 (ck v41 v43 k)) (f4 (nj i v11)) := win_congr gM h18 hc hj (off31_eq i v11 v18 v41 v43 k hc hj) _ _
include hc in
@[sl_canon] theorem win31u (hh hs) : (uM.slice (Rect.unit (s := S8x2048x5632) (k0_off31 i v11 v18 v41 v43 k) S1x256x1408.size hh) hs).squeeze S256x1408 squeezes_S1x256x1408_S256x1408 = win uM (f8 v18.toNat) (f8 (ck v41 v43 k)) (f4 (nj i v11)) := win_congr uM h18 hc hj (off31_eq i v11 v18 v41 v43 k hc hj) _ _
include hc in
@[sl_canon] theorem win36 (hk : ck v41 v43 k + 2 < 8) (hh hs) : (gM.slice (Rect.unit (s := S8x2048x5632) (k0_off36 i v11 v18 v41 v43 k) S1x256x1408.size hh) hs).squeeze S256x1408 squeezes_S1x256x1408_S256x1408 = win gM (f8 v18.toNat) (f8 (ck v41 v43 k + 2)) (f4 (nj i v11)) := win_congr gM h18 hk hj (off36_eq i v11 v18 v41 v43 k hc hj) _ _
include hc in
@[sl_canon] theorem win43 (hk : ck v41 v43 k + 2 < 8) (hh hs) : (uM.slice (Rect.unit (s := S8x2048x5632) (k0_off43 i v11 v18 v41 v43 k) S1x256x1408.size hh) hs).squeeze S256x1408 squeezes_S1x256x1408_S256x1408 = win uM (f8 v18.toNat) (f8 (ck v41 v43 k + 2)) (f4 (nj i v11)) := win_congr uM h18 hk hj (off43_eq i v11 v18 v41 v43 k hc hj) _ _
@[sl_canon] theorem win23g (hh hs) : (gM.slice (Rect.unit (s := S8x2048x5632) (k0_off23 i v11 v18) S1x256x1408.size hh) hs).squeeze S256x1408 squeezes_S1x256x1408_S256x1408 = win gM (f8 v18.toNat) (f8 0) (f4 (nj i v11)) := win_congr gM h18 (by decide) hj (off23_eq i v11 v18 hj) _ _
@[sl_canon] theorem win23u (hh hs) : (uM.slice (Rect.unit (s := S8x2048x5632) (k0_off23 i v11 v18) S1x256x1408.size hh) hs).squeeze S256x1408 squeezes_S1x256x1408_S256x1408 = win uM (f8 v18.toNat) (f8 0) (f4 (nj i v11)) := win_congr uM h18 (by decide) hj (off23_eq i v11 v18 hj) _ _
@[sl_canon] theorem win24g (hh hs) : (gM.slice (Rect.unit (s := S8x2048x5632) (k0_off24 i v11 v18) S1x256x1408.size hh) hs).squeeze S256x1408 squeezes_S1x256x1408_S256x1408 = win gM (f8 v18.toNat) (f8 1) (f4 (nj i v11)) := win_congr gM h18 (by decide) hj (off24_eq i v11 v18 hj) _ _
@[sl_canon] theorem win24u (hh hs) : (uM.slice (Rect.unit (s := S8x2048x5632) (k0_off24 i v11 v18) S1x256x1408.size hh) hs).squeeze S256x1408 squeezes_S1x256x1408_S256x1408 = win uM (f8 v18.toNat) (f8 1) (f4 (nj i v11)) := win_congr uM h18 (by decide) hj (off24_eq i v11 v18 hj) _ _
end Canon2

/-! ## Resources -/

instance (s m : Fin 2) : ClosedOff (slotOff s m) := ⟨slotOff s m, rfl⟩
instance (k : Fin k0_t1_loop.trips) : ClosedOff (k0_off10 k) := ⟨slotOff (sl k) 0, off10_eq k⟩
instance (k : Fin k0_t1_loop.trips) : ClosedOff (k0_off17 k) := ⟨slotOff (sl k) 1, off17_eq k⟩
instance (k : Fin k0_t1_loop.trips) : ClosedOff (k0_off8 k) := ⟨slotOff (sl k) 0, off8_eq k⟩
instance (k : Fin k0_t1_loop.trips) : ClosedOff (k0_off16 k) := ⟨slotOff (sl k) 1, off16_eq k⟩

/-- The share of the weights a slot's transfers read at. -/
def shr (s : Fin 2) : PosShare TreeShare := if s = 0 then fullShare.left else fullShare.right

section Res
variable (c : Dev nD)

abbrev cellP (s m : Fin 2) : sProp 𝕄 := semVal ((c : Thread nD τ), SemLoc.dma (csm s m).sem) 0
abbrev slotP (s m : Fin 2) (f : Buf (Elt F) ((slot s m).view.loc (c : Thread nD τ))) : sProp 𝕄 :=
  (slot s m).view.loc (c : Thread nD τ) ↦[(slot s m).view.set]{fullShare} f
abbrev bP (f : Buf (Elt F) (bM.view.loc (c : Thread nD τ))) : sProp 𝕄 := bM.view.loc (c : Thread nD τ) ↦[bM.view.set]{fullShare} f

variable (W : Memref sig .tc .hbm S8x2048x5632 .f32) (XW : Buf (Elt F) (W.view.loc (c : Thread nD τ)))
/-- A weight held whole at a slot's share. -/
abbrev wholeP (s : Fin 2) : sProp 𝕄 := W.view.loc (c : Thread nD τ) ↦[Finset.univ]{shr s} XW
/-- All of a weight but the window lent. -/
abbrev restP (s : Fin 2) (e r : Fin 8) (j : Fin 4) : sProp 𝕄 :=
  (win W e r j).view.loc (c : Thread nD τ) ↦[Finset.univ \ (win W e r j).view.set]{shr s} XW
abbrev landed (s m : Fin 2) (e r : Fin 8) (j : Fin 4) (f : Buf (Elt F) ((slot s m).view.loc (c : Thread nD τ))) : Buf (Elt F) ((slot s m).view.loc (c : Thread nD τ)) :=
  (slot s m).view.writes (Elt F) f [⟨Rect.whole S256x1408, ReadAs.same.apply ((win W e r j).view.read (Elt F) XW)⟩]
abbrev NN : ℕ := 45056
abbrev flightP (s m : Fin 2) (e r : Fin 8) (j : Fin 4) (f : Buf (Elt F) ((slot s m).view.loc (c : Thread nD τ))) : sProp 𝕄 :=
  Transfers.Flight countersEmb (c : Thread nD τ) (SemLoc.dma (csm s m).sem) () NN
    iprop(slotP c s m (landed c W XW s m e r j f) ∗ ((win W e r j).view.loc (c : Thread nD τ) ↦[(win W e r j).view.set]{shr s} XW))
/-- Slot `s` of a matrix with a window in flight. -/
def laneF (s m : Fin 2) (e r : Fin 8) (j : Fin 4) : sProp 𝕄 := iprop((∃ f, flightP c W XW s m e r j f) ∗ restP c W XW s e r j)
/-- Slot `s` of a matrix at rest. -/
def laneI (s m : Fin 2) : sProp 𝕄 := iprop((∃ f, slotP c s m f) ∗ cellP c s m ∗ wholeP c W XW s)
end Res

end Cert.Proof.UpI

end
-- ==== Proof.UpILoad.lean ====
/-
  What the stream puts into the resident buffer: a chunk's cast rows, read through the staging slot that received
  them, and the two stores of a trip as one change of the buffer.
-/
module

public import proofs.«01_k».proof.Proof.UpILanes
public import Idealize.ShloMosaic.Lib.ValueLayout
public import Idealize.ShloMosaic.Lib.WritesUnit

@[expose] public section

set_option maxRecDepth 16384

noncomputable section

namespace Cert.Proof.UpI

open Cert.Kernel2Ideal Cert.Kernel2Ideal.Gen
open Idealize.ShloMosaic
open Idealize.ShloMosaic.TcCoe
open Idealize.ShloMosaic.ValueIdx

variable {F : FTy → Type} [FloatOps F]

/-- The cast of one weight to the resident buffer's format. -/
def tc (x : Elt F .f32) : Elt F .bf16 := FloatOps.truncf .bf16 bitsLt_bf16_f32 x

/-- A stored chunk is the loaded chunk cast entry by entry; one fact for each of the six payloads. -/
theorem pay5_apply (v : Vec F S1x1x256x1408 .f32) (y : S1x1x256x1408.Idx) : k0_pay5 v y = tc (v y) :=
  congrArg (fun z => tc (v z)) (Shape.reshapeEquiv_reshapeEquiv (s := S1x1x256x1408) (s' := S256x1408) (s'' := S1x1x256x1408) (by decide) (by decide) y |>.trans (Shape.reshapeEquiv_self _ y))
theorem pay8_apply (v : Vec F S1x1x256x1408 .f32) (y : S1x1x256x1408.Idx) : k0_pay8 v y = tc (v y) := pay5_apply v y
theorem pay2_apply (v : Vec F S1x1x256x1408 .f32) (y : S1x1x256x1408.Idx) : k0_pay2 v y = tc (v y) := pay5_apply v y
theorem pay3_apply (v : Vec F S1x1x256x1408 .f32) (y : S1x1x256x1408.Idx) : k0_pay3 v y = tc (v y) := pay5_apply v y
theorem pay6_apply (v : Vec F S1x1x256x1408 .f32) (y : S1x1x256x1408.Idx) : k0_pay6 v y = tc (v y) := pay5_apply v y
theorem pay7_apply (v : Vec F S1x1x256x1408 .f32) (y : S1x1x256x1408.Idx) : k0_pay7 v y = tc (v y) := pay5_apply v y

/-- The column of the weight under column `y` of tile column `j`. -/
def col (j : Fin 4) (y : Fin 1408) : Fin 5632 := ⟨j.val * 1408 + y.val, by omega⟩
def row (r : Fin 8) (y : Fin 256) : Fin 2048 := ⟨r.val * 256 + y.val, by omega⟩

/-- A window reads the weight at its own rows and columns. -/
theorem win_read (W : Memref sig .tc .hbm S8x2048x5632 .f32) (f : W.view.ty.Contents (Elt F)) (e r : Fin 8) (j : Fin 4) (a : Fin 256) (b : Fin 1408) :
    (win W e r j).view.read (Elt F) f (ix2 a b) = W.view.read (Elt F) f (ix3 e (row r a) (col j b)) := by
  refine Eq.trans (b := W.view.read (Elt F) f ((Rect.unit (s := S8x2048x5632) (winOff e.val (r.val * 256) (j.val * 1408)) S1x256x1408.size
    (winOff_inb e.isLt (by omega) (by omega))).emb (Shape.reshapeEquiv squeezes_S1x256x1408_S256x1408.numel_eq (ix2 a b)))) rfl ?_
  congr 1
  rw [show Shape.reshapeEquiv squeezes_S1x256x1408_S256x1408.numel_eq (ix2 a b) = ix3 (⟨0, Nat.one_pos⟩ : Fin 1) a b from reshapeEquiv_ix2_1ab _ a b]
  funext q
  refine Fin.ext ?_
  fin_cases q
  · show e.val + 1 * 0 = e.val; omega
  · show r.val * 256 + 1 * a.val = r.val * 256 + a.val; omega
  · show j.val * 1408 + 1 * b.val = j.val * 1408 + b.val; omega

/-- A load of a slot through the whole staging buffer reads the transfer the slot received. -/
theorem slot_load (s m : Fin 2) (f : (slot s m).view.ty.Contents (Elt F)) (w : S256x1408.Idx → Elt F .f32) {off : Fin 4 → Nat} (hoff : off = slotOff s m)
    (inb) (y : S1x1x256x1408.Idx) :
    sM.view.readAt (Elt F) (Rect.unit (s := S2x2x256x1408) off S1x1x256x1408.size inb).toLoadRect
      ((slot s m).view.writes (Elt F) f [⟨Rect.whole S256x1408, w⟩]) y = w (ix2 (y 2) (y 3)) := by
  subst hoff
  refine Eq.trans ?_ (congrFun (View.read_writes_whole (slot s m).view f w) (ix2 (y 2) (y 3)))
  refine Eq.trans (b := sM.view.read (Elt F) ((slot s m).view.writes (Elt F) f [⟨Rect.whole S256x1408, w⟩]) ((Rect.unit (s := S2x2x256x1408) (slotOff s m) S1x1x256x1408.size inb).emb y)) rfl ?_
  refine Eq.trans (b := sM.view.read (Elt F) ((slot s m).view.writes (Elt F) f [⟨Rect.whole S256x1408, w⟩]) ((Rect.unit (s := S2x2x256x1408) (slotOff s m) S1x1x256x1408.size inb).emb
    (Shape.reshapeEquiv squeezes_S1x1x256x1408_S256x1408.numel_eq (ix2 (y 2) (y 3))))) ?_ rfl
  congr 2
  rw [show Shape.reshapeEquiv squeezes_S1x1x256x1408_S256x1408.numel_eq (ix2 (y 2) (y 3)) = ix4 (⟨0, Nat.one_pos⟩ : Fin 1) (⟨0, Nat.one_pos⟩ : Fin 1) (y 2) (y 3) from
    reshapeEquiv_ix2_11ab _ (y 2) (y 3)]
  funext q
  fin_cases q
  · exact Subsingleton.elim (α := Fin 1) _ _
  · exact Subsingleton.elim (α := Fin 1) _ _
  · rfl
  · rfl

/-! ## The resident buffer -/

/-- The entry of the resident buffer a weight holds for: position `x` of expert `e`, tile column `j`. -/
def wt (X : S8x2048x5632.Idx → Elt F .f32) (e : Fin 8) (j : Fin 4) (x : S2x2x2048x1408.Idx) : Elt F .bf16 :=
  tc (X (ix3 e (x 2) (col j (x 3))))

/-- `B'` is `B` with chunk `r` of both matrices of resident slot `s` replaced by the weights of expert `e`, tile column `j`. -/
structure Upd (XG XU : S8x2048x5632.Idx → Elt F .f32) (B B' : S2x2x2048x1408.Idx → Elt F .bf16) (s : Fin 2) (r e : Fin 8) (j : Fin 4) : Prop where
  gate : ∀ x : S2x2x2048x1408.Idx, x 0 = s → x 1 = (0 : Fin 2) → r.val * 256 ≤ (x 2).val → (x 2).val < r.val * 256 + 256 → B' x = wt XG e j x
  up : ∀ x : S2x2x2048x1408.Idx, x 0 = s → x 1 = (1 : Fin 2) → r.val * 256 ≤ (x 2).val → (x 2).val < r.val * 256 + 256 → B' x = wt XU e j x
  other : ∀ x : S2x2x2048x1408.Idx, (x 0 ≠ s ∨ (x 2).val < r.val * 256 ∨ r.val * 256 + 256 ≤ (x 2).val) → B' x = B x

/-- The two stores of a trip change the buffer so. -/
theorem upd_of_writes (XG XU : S8x2048x5632.Idx → Elt F .f32) (f : bM.view.ty.Contents (Elt F)) (s : Fin 2) (r e : Fin 8) (j : Fin 4)
    {o0 o1 : Fin 4 → Nat} (h0 : o0 = resOff s 0 (r.val * 256)) (h1 : o1 = resOff s 1 (r.val * 256)) (inb0 inb1) (w0 w1 : S1x1x256x1408.Idx → Elt F .bf16)
    (hw0 : ∀ y, w0 y = tc (XG (ix3 e (row r (y 2)) (col j (y 3))))) (hw1 : ∀ y, w1 y = tc (XU (ix3 e (row r (y 2)) (col j (y 3))))) :
    Upd XG XU (bM.view.read (Elt F) f) (bM.view.read (Elt F) (bM.view.writes (Elt F) f
      [⟨Rect.unit (s := S2x2x2048x1408) o1 S1x1x256x1408.size inb1, w1⟩, ⟨Rect.unit (s := S2x2x2048x1408) o0 S1x1x256x1408.size inb0, w0⟩])) s r e j where
  gate x hs hm hl hu := by
    rw [View.read_writes_cons_unit_of_not_mem bM.view f inb1 w1 _ x h1 1 (Or.inl (by rw [hm]; show (0 : ℕ) < 1; omega))]
    let y : S1x1x256x1408.Idx := ix4 (0 : Fin 1) (0 : Fin 1) (⟨(x 2).val - r.val * 256, by omega⟩ : Fin 256) (x 3)
    rw [View.read_writes_cons_unit_of_mem bM.view f inb0 w0 _ x y h0 (fun a => by
      fin_cases a
      · show (x 0).val = s.val + 0; rw [hs]; rfl
      · show (x 1).val = 0 + 0; rw [hm]; rfl
      · show (x 2).val = r.val * 256 + ((x 2).val - r.val * 256); omega
      · show (x 3).val = 0 + (x 3).val; omega), hw0]
    have e2 : row r (y 2) = x 2 := Fin.ext (by show r.val * 256 + ((x 2).val - r.val * 256) = (x 2).val; omega)
    show tc (XG (ix3 e (row r (y 2)) (col j (x 3)))) = tc (XG (ix3 e (x 2) (col j (x 3))))
    rw [e2]
  up x hs hm hl hu := by
    let y : S1x1x256x1408.Idx := ix4 (0 : Fin 1) (0 : Fin 1) (⟨(x 2).val - r.val * 256, by omega⟩ : Fin 256) (x 3)
    rw [View.read_writes_cons_unit_of_mem bM.view f inb1 w1 _ x y h1 (fun a => by
      fin_cases a
      · show (x 0).val = s.val + 0; rw [hs]; rfl
      · show (x 1).val = 1 + 0; rw [hm]; rfl
      · show (x 2).val = r.val * 256 + ((x 2).val - r.val * 256); omega
      · show (x 3).val = 0 + (x 3).val; omega), hw1]
    have e2 : row r (y 2) = x 2 := Fin.ext (by show r.val * 256 + ((x 2).val - r.val * 256) = (x 2).val; omega)
    show tc (XU (ix3 e (row r (y 2)) (col j (x 3)))) = tc (XU (ix3 e (x 2) (col j (x 3))))
    rw [e2]
  other x hx := by
    have ht : ∃ a : Fin 4, ∀ m : Fin 2, (x a).val < resOff s m (r.val * 256) a ∨ resOff s m (r.val * 256) a + S1x1x256x1408.size a ≤ (x a).val := by
      rcases hx with h | h | h
      · refine ⟨0, fun m => ?_⟩
        have h' : (x 0).val ≠ s.val := fun q => h (Fin.ext q)
        show (x 0).val < s.val ∨ s.val + 1 ≤ (x 0).val
        omega
      · exact ⟨2, fun m => Or.inl h⟩
      · exact ⟨2, fun m => Or.inr h⟩
    obtain ⟨a, ha⟩ := ht
    rw [View.read_writes_cons_unit_of_not_mem bM.view f inb1 w1 _ x h1 a (ha 1), View.read_writes_cons_unit_of_not_mem bM.view f inb0 w0 _ x h0 a (ha 0)]
    rfl

end Cert.Proof.UpI

end
-- ==== Proof.UpITrip.lean ====
module

public import proofs.«01_k».proof.Proof.UpILoad

@[expose] public section

set_option maxRecDepth 16384

noncomputable section

namespace Cert.Proof.UpI

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-- A weight held whole, named through one window or another. -/
theorem whole_at (c : Dev nD) (W : Memref sig .tc .hbm S8x2048x5632 .f32) (XW : Buf (Elt F) (W.view.loc (c : Thread nD τ))) (s : Fin 2)
    (e r : Fin 8) (j : Fin 4) (e' r' : Fin 8) (j' : Fin 4) :
    ((win W e r j).view.loc (c : Thread nD τ) ↦[Finset.univ]{shr s} XW : sProp 𝕄)
      ⊢ ((win W e' r' j').view.loc (c : Thread nD τ) ↦[Finset.univ]{shr s} XW : sProp 𝕄) := .rfl

section Trip1
variable (c : Dev nD) (XG : Buf (Elt F) (gM.view.loc (c : Thread nD τ))) (XU : Buf (Elt F) (uM.view.loc (c : Thread nD τ)))
  (i : grid0.Coords)
  (arg2 : Memref sig .tc .smem S8x72 .i32) (harg2 : arg2.IsWhole) (arg3 : Memref sig .tc .smem S1 .i32) (harg3 : arg3.IsWhole)
  (arg4 : Memref sig .tc .vmem S256x2048 .bf16) (harg4 : arg4.IsWhole) (arg7 : Memref sig .tc .vmem S256x1408 .bf16) (harg7 : arg7.IsWhole)
  (v1 : BitVec 32) (hw1 : k0_chk1 i v1) (hc1 : k0_cond1 i = 1#1)

abbrev trip1 (k : Fin k0_t1_loop.trips) : Prog (TpuEff nD τ sig (Elt F) Λ₀ .tc) Unit :=
  k0_t1_body (F := F) i arg2 harg2 arg3 harg3 arg4 harg4 gM (Memref.isWhole_whole _) uM (Memref.isWhole_whole _) arg7 harg7
    bM (Memref.isWhole_whole _) sM (Memref.isWhole_whole _) cc0_scratch2 v1 hw1 hc1 k ()

set_option backward.proofsInPublic true in
theorem tripRun1a (k : Fin k0_t1_loop.trips) (h1 : v1.toNat < 8) (hk : k.val + 2 < 8) (f : Buf (Elt F) (bM.view.loc (c : Thread nD τ))) :
    iprop(bP c f ∗ (∃ O, owes (c : Thread nD τ) 0 O) ∗ laneF c gM XG (sl k) 0 (f8 v1.toNat) (f8 k) (f4 0) ∗ laneF c uM XU (sl k) 1 (f8 v1.toNat) (f8 k) (f4 0))
      ⊢ wp frame (wpE (defs₀ (F := F)) 𝒱₀ (c : Thread nD τ) none) Set.univ (trip1 i arg2 harg2 arg3 harg3 arg4 harg4 arg7 harg7 v1 hw1 hc1 k)
        (fun _ => iprop((∃ f', bP c f' ∗ ⌜Upd (gM.view.read (Elt F) XG) (uM.view.read (Elt F) XU) (bM.view.read (Elt F) f) (bM.view.read (Elt F) f') 0 (f8 k) (f8 v1.toNat) (f4 0)⌝) ∗ (∃ O, owes (c : Thread nD τ) 0 O) ∗ laneF c gM XG (sl k) 0 (f8 v1.toNat) (f8 (k + 2)) (f4 0) ∗ laneF c uM XU (sl k) 1 (f8 v1.toNat) (f8 (k + 2)) (f4 0))) := by
  have hc2 : k0_cond2 k = 1#1 := (cond2_iff k).2 hk
  have hc3 : k0_cond3 k = 1#1 := (cond3_iff k).2 hk
  unfold laneF
  iintro ⟨HB, ⟨%O, HO⟩, ⟨⟨%fg, HFG⟩, HRG⟩, ⟨%fu, HFU⟩, HRU⟩
  dsimp only [trip1]
  sl_unfold [k0_t1_body]
  sl_exec
  ihave HRG' := (whole_at c gM XG (sl k) (f8 v1.toNat) (f8 k) (f4 0) (f8 v1.toNat) (f8 (k + 2)) (f4 0)) $$ HRG
  sl_exec
  ihave HRU' := (whole_at c uM XU (sl k) (f8 v1.toNat) (f8 k) (f4 0) (f8 v1.toNat) (f8 (k + 2)) (f4 0)) $$ HRU
  sl_exec
  sl_step
  isplitl [HB]
  · iexists _
    isplitl [HB]
    · iexact HB
    · ipureintro
      exact upd_of_writes _ _ f 0 (f8 k) (f8 v1.toNat) (f4 0) (by rw [off11_eq]; show _ = resOff 0 0 (k.val % 8 * 256); rw [Nat.mod_eq_of_lt (k8 k)])
        (by rw [off18_eq]; show _ = resOff 0 1 (k.val % 8 * 256); rw [Nat.mod_eq_of_lt (k8 k)]) _ _ _ _
        (fun y => (pay5_apply _ y).trans (congrArg tc ((slot_load (sl k) 0 _ _ (off10_eq k) _ y).trans (win_read gM XG (f8 v1.toNat) (f8 k) (f4 0) (y 2) (y 3)))))
        (fun y => (pay8_apply _ y).trans (congrArg tc ((slot_load (sl k) 1 _ _ (off17_eq k) _ y).trans (win_read uM XU (f8 v1.toNat) (f8 k) (f4 0) (y 2) (y 3)))))
  isplitl [HO]
  · iexists _; iexact HO
  isplitl [HFG HRG']
  · isplitl [HFG]
    · iexists _; iexact HFG
    · iexact HRG'
  · isplitl [HFU]
    · iexists _; iexact HFU
    · iexact HRU'
set_option backward.proofsInPublic true in
theorem tripRun1b (k : Fin k0_t1_loop.trips) (h1 : v1.toNat < 8) (hk : ¬ k.val + 2 < 8) (f : Buf (Elt F) (bM.view.loc (c : Thread nD τ))) :
    iprop(bP c f ∗ (∃ O, owes (c : Thread nD τ) 0 O) ∗ laneF c gM XG (sl k) 0 (f8 v1.toNat) (f8 k) (f4 0) ∗ laneF c uM XU (sl k) 1 (f8 v1.toNat) (f8 k) (f4 0))
      ⊢ wp frame (wpE (defs₀ (F := F)) 𝒱₀ (c : Thread nD τ) none) Set.univ (trip1 i arg2 harg2 arg3 harg3 arg4 harg4 arg7 harg7 v1 hw1 hc1 k)
        (fun _ => iprop((∃ f', bP c f' ∗ ⌜Upd (gM.view.read (Elt F) XG) (uM.view.read (Elt F) XU) (bM.view.read (Elt F) f) (bM.view.read (Elt F) f') 0 (f8 k) (f8 v1.toNat) (f4 0)⌝) ∗ (∃ O, owes (c : Thread nD τ) 0 O) ∗ laneI c gM XG (sl k) 0 ∗ laneI c uM XU (sl k) 1)) := by
  have hc2 : ¬ k0_cond2 k = 1#1 := fun h => hk ((cond2_iff k).1 h)
  have hc3 : ¬ k0_cond3 k = 1#1 := fun h => hk ((cond3_iff k).1 h)
  unfold laneF laneI
  iintro ⟨HB, ⟨%O, HO⟩, ⟨⟨%fg, HFG⟩, HRG⟩, ⟨%fu, HFU⟩, HRU⟩
  dsimp only [trip1]
  sl_unfold [k0_t1_body]
  sl_exec
  sl_step
  isplitl [HB]
  · iexists _
    isplitl [HB]
    · iexact HB
    · ipureintro
      exact upd_of_writes _ _ f 0 (f8 k) (f8 v1.toNat) (f4 0) (by rw [off11_eq]; show _ = resOff 0 0 (k.val % 8 * 256); rw [Nat.mod_eq_of_lt (k8 k)])
        (by rw [off18_eq]; show _ = resOff 0 1 (k.val % 8 * 256); rw [Nat.mod_eq_of_lt (k8 k)]) _ _ _ _
        (fun y => (pay5_apply _ y).trans (congrArg tc ((slot_load (sl k) 0 _ _ (off10_eq k) _ y).trans (win_read gM XG (f8 v1.toNat) (f8 k) (f4 0) (y 2) (y 3)))))
        (fun y => (pay8_apply _ y).trans (congrArg tc ((slot_load (sl k) 1 _ _ (off17_eq k) _ y).trans (win_read uM XU (f8 v1.toNat) (f8 k) (f4 0) (y 2) (y 3)))))
  isplitl [HO]
  · iexists _; iexact HO
  isplitl [HFG_dst HRG HFG]
  · isplitl [HFG_dst]
    · iexists _; iexact HFG_dst
    isplitl [HFG]
    · iexact HFG
    · iexact HRG
  · isplitl [HFU_dst]
    · iexists _; iexact HFU_dst
    isplitl [HFU]
    · iexact HFU
    · iexact HRU
end Trip1

section Closed2
variable (v41 v43 : BitVec 32) (k : Fin (k0_t2_loop v41 v43).trips) [h : Fact (ck v41 v43 k < 8)]
instance : ClosedOff (k0_off32 v41 v43 k) := ⟨slotOff (sl (ck v41 v43 k)) 0, off32_eq v41 v43 k h.out⟩
instance : ClosedOff (k0_off39 v41 v43 k) := ⟨slotOff (sl (ck v41 v43 k)) 1, off39_eq v41 v43 k h.out⟩
end Closed2

section Trip2
variable (c : Dev nD) (XG : Buf (Elt F) (gM.view.loc (c : Thread nD τ))) (XU : Buf (Elt F) (uM.view.loc (c : Thread nD τ)))
  (i : grid0.Coords)
  (arg2 : Memref sig .tc .smem S8x72 .i32) (harg2 : arg2.IsWhole) (arg3 : Memref sig .tc .smem S1 .i32) (harg3 : arg3.IsWhole)
  (arg4 : Memref sig .tc .vmem S256x2048 .bf16) (harg4 : arg4.IsWhole) (arg7 : Memref sig .tc .vmem S256x1408 .bf16) (harg7 : arg7.IsWhole)
  (v2 v4 v7 v11 v18 v20 : BitVec 32) (h6 : k0_cond6 i v2 v11 = 1#1) (v39 v41 v43 : BitVec 32) (hw4 : k0_chk4 i v2 v4 v7 v11 v18 v41 v43)

abbrev trip2 (k : Fin (k0_t2_loop v41 v43).trips) : Prog (TpuEff nD τ sig (Elt F) Λ₀ .tc) Unit :=
  k0_t2_body (F := F) i arg2 harg2 arg3 harg3 arg4 harg4 gM (Memref.isWhole_whole _) uM (Memref.isWhole_whole _) arg7 harg7
    bM (Memref.isWhole_whole _) sM (Memref.isWhole_whole _) cc0_scratch2 v2 v4 v7 v11 v18 v20 h6 v39 v41 v43 hw4 k ()

set_option backward.proofsInPublic true in
theorem tripRun2a (k : Fin (k0_t2_loop v41 v43).trips) (h18 : v18.toNat < 8) (hj : nj i v11 < 4) (hc : ck v41 v43 k < 8) (hk : ck v41 v43 k + 2 < 8) (f : Buf (Elt F) (bM.view.loc (c : Thread nD τ))) :
    iprop(bP c f ∗ (∃ O, owes (c : Thread nD τ) 0 O) ∗ laneF c gM XG (sl (ck v41 v43 k)) 0 (f8 v18.toNat) (f8 (ck v41 v43 k)) (f4 (nj i v11)) ∗ laneF c uM XU (sl (ck v41 v43 k)) 1 (f8 v18.toNat) (f8 (ck v41 v43 k)) (f4 (nj i v11)))
      ⊢ wp frame (wpE (defs₀ (F := F)) 𝒱₀ (c : Thread nD τ) none) Set.univ (trip2 i arg2 harg2 arg3 harg3 arg4 harg4 arg7 harg7 v2 v4 v7 v11 v18 v20 h6 v39 v41 v43 hw4 k)
        (fun _ => iprop((∃ f', bP c f' ∗ ⌜Upd (gM.view.read (Elt F) XG) (uM.view.read (Elt F) XU) (bM.view.read (Elt F) f) (bM.view.read (Elt F) f') (othS i v4 v7) (f8 (ck v41 v43 k)) (f8 v18.toNat) (f4 (nj i v11))⌝) ∗ (∃ O, owes (c : Thread nD τ) 0 O) ∗ laneF c gM XG (sl (ck v41 v43 k)) 0 (f8 v18.toNat) (f8 (ck v41 v43 k + 2)) (f4 (nj i v11)) ∗ laneF c uM XU (sl (ck v41 v43 k)) 1 (f8 v18.toNat) (f8 (ck v41 v43 k + 2)) (f4 (nj i v11)))) := by
  have hc2 : k0_cond7 v41 v43 k = 1#1 := (cond7_iff v41 v43 k hc).2 hk
  have hc3 : k0_cond8 v41 v43 k = 1#1 := (cond8_iff v41 v43 k hc).2 hk
  haveI : Fact (ck v41 v43 k < 8) := ⟨hc⟩
  unfold laneF
  iintro ⟨HB, ⟨%O, HO⟩, ⟨⟨%fg, HFG⟩, HRG⟩, ⟨%fu, HFU⟩, HRU⟩
  dsimp only [trip2]
  sl_unfold [k0_t2_body]
  sl_exec
  ihave HRG' := (whole_at c gM XG (sl (ck v41 v43 k)) (f8 v18.toNat) (f8 (ck v41 v43 k)) (f4 (nj i v11)) (f8 v18.toNat) (f8 (ck v41 v43 k + 2)) (f4 (nj i v11))) $$ HRG
  sl_exec
  ihave HRU' := (whole_at c uM XU (sl (ck v41 v43 k)) (f8 v18.toNat) (f8 (ck v41 v43 k)) (f4 (nj i v11)) (f8 v18.toNat) (f8 (ck v41 v43 k + 2)) (f4 (nj i v11))) $$ HRU
  sl_exec
  sl_step
  isplitl [HB]
  · iexists _
    isplitl [HB]
    · iexact HB
    · ipureintro
      exact upd_of_writes _ _ f (othS i v4 v7) (f8 (ck v41 v43 k)) (f8 v18.toNat) (f4 (nj i v11)) (by rw [off33_eq i v4 v7 v41 v43 k hc]; show _ = resOff (othS i v4 v7) 0 (ck v41 v43 k % 8 * 256); rw [Nat.mod_eq_of_lt hc])
        (by rw [off40_eq i v4 v7 v41 v43 k hc]; show _ = resOff (othS i v4 v7) 1 (ck v41 v43 k % 8 * 256); rw [Nat.mod_eq_of_lt hc]) _ _ _ _
        (fun y => (pay6_apply _ y).trans (congrArg tc ((slot_load (sl (ck v41 v43 k)) 0 _ _ (off32_eq v41 v43 k hc) _ y).trans (win_read gM XG (f8 v18.toNat) (f8 (ck v41 v43 k)) (f4 (nj i v11)) (y 2) (y 3)))))
        (fun y => (pay8_apply _ y).trans (congrArg tc ((slot_load (sl (ck v41 v43 k)) 1 _ _ (off39_eq v41 v43 k hc) _ y).trans (win_read uM XU (f8 v18.toNat) (f8 (ck v41 v43 k)) (f4 (nj i v11)) (y 2) (y 3)))))
  isplitl [HO]
  · iexists _; iexact HO
  isplitl [HFG HRG']
  · isplitl [HFG]
    · iexists _; iexact HFG
    · iexact HRG'
  · isplitl [HFU]
    · iexists _; iexact HFU
    · iexact HRU'
set_option backward.proofsInPublic true in
theorem tripRun2b (k : Fin (k0_t2_loop v41 v43).trips) (h18 : v18.toNat < 8) (hj : nj i v11 < 4) (hc : ck v41 v43 k < 8) (hk : ¬ ck v41 v43 k + 2 < 8) (f : Buf (Elt F) (bM.view.loc (c : Thread nD τ))) :
    iprop(bP c f ∗ (∃ O, owes (c : Thread nD τ) 0 O) ∗ laneF c gM XG (sl (ck v41 v43 k)) 0 (f8 v18.toNat) (f8 (ck v41 v43 k)) (f4 (nj i v11)) ∗ laneF c uM XU (sl (ck v41 v43 k)) 1 (f8 v18.toNat) (f8 (ck v41 v43 k)) (f4 (nj i v11)))
      ⊢ wp frame (wpE (defs₀ (F := F)) 𝒱₀ (c : Thread nD τ) none) Set.univ (trip2 i arg2 harg2 arg3 harg3 arg4 harg4 arg7 harg7 v2 v4 v7 v11 v18 v20 h6 v39 v41 v43 hw4 k)
        (fun _ => iprop((∃ f', bP c f' ∗ ⌜Upd (gM.view.read (Elt F) XG) (uM.view.read (Elt F) XU) (bM.view.read (Elt F) f) (bM.view.read (Elt F) f') (othS i v4 v7) (f8 (ck v41 v43 k)) (f8 v18.toNat) (f4 (nj i v11))⌝) ∗ (∃ O, owes (c : Thread nD τ) 0 O) ∗ laneI c gM XG (sl (ck v41 v43 k)) 0 ∗ laneI c uM XU (sl (ck v41 v43 k)) 1)) := by
  have hc2 : ¬ k0_cond7 v41 v43 k = 1#1 := fun h => hk ((cond7_iff v41 v43 k hc).1 h)
  have hc3 : ¬ k0_cond8 v41 v43 k = 1#1 := fun h => hk ((cond8_iff v41 v43 k hc).1 h)
  haveI : Fact (ck v41 v43 k < 8) := ⟨hc⟩
  unfold laneF laneI
  iintro ⟨HB, ⟨%O, HO⟩, ⟨⟨%fg, HFG⟩, HRG⟩, ⟨%fu, HFU⟩, HRU⟩
  dsimp only [trip2]
  sl_unfold [k0_t2_body]
  sl_exec
  sl_step
  isplitl [HB]
  · iexists _
    isplitl [HB]
    · iexact HB
    · ipureintro
      exact upd_of_writes _ _ f (othS i v4 v7) (f8 (ck v41 v43 k)) (f8 v18.toNat) (f4 (nj i v11)) (by rw [off33_eq i v4 v7 v41 v43 k hc]; show _ = resOff (othS i v4 v7) 0 (ck v41 v43 k % 8 * 256); rw [Nat.mod_eq_of_lt hc])
        (by rw [off40_eq i v4 v7 v41 v43 k hc]; show _ = resOff (othS i v4 v7) 1 (ck v41 v43 k % 8 * 256); rw [Nat.mod_eq_of_lt hc]) _ _ _ _
        (fun y => (pay6_apply _ y).trans (congrArg tc ((slot_load (sl (ck v41 v43 k)) 0 _ _ (off32_eq v41 v43 k hc) _ y).trans (win_read gM XG (f8 v18.toNat) (f8 (ck v41 v43 k)) (f4 (nj i v11)) (y 2) (y 3)))))
        (fun y => (pay8_apply _ y).trans (congrArg tc ((slot_load (sl (ck v41 v43 k)) 1 _ _ (off39_eq v41 v43 k hc) _ y).trans (win_read uM XU (f8 v18.toNat) (f8 (ck v41 v43 k)) (f4 (nj i v11)) (y 2) (y 3)))))
  isplitl [HO]
  · iexists _; iexact HO
  isplitl [HFG_dst HRG HFG]
  · isplitl [HFG_dst]
    · iexists _; iexact HFG_dst
    isplitl [HFG]
    · iexact HFG
    · iexact HRG
  · isplitl [HFU_dst]
    · iexists _; iexact HFU_dst
    isplitl [HFU]
    · iexact HFU
    · iexact HRU
end Trip2

end Cert.Proof.UpI

end
-- ==== Proof.UpILoop.lean ====
/-
  The loops of the expert-weight stream: the state of the four lanes at a chunk, and the invariants.
-/
module

public import proofs.«01_k».proof.Proof.UpITrip

@[expose] public section

set_option maxRecDepth 16384

noncomputable section

namespace Cert.Proof.UpI

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! ## The lanes of the stream at a chunk -/

section Lanes
variable (c : Dev nD)

/-- A slot of a matrix with chunk `n` in flight, or at rest past the last chunk. -/
def lane (W : Memref sig .tc .hbm S8x2048x5632 .f32) (XW : Buf (Elt F) (W.view.loc (c : Thread nD τ))) (s m : Fin 2) (e : Fin 8) (n : ℕ) (j : Fin 4) : sProp 𝕄 :=
  if n < 8 then laneF c W XW s m e (f8 n) j else laneI c W XW s m

variable (XG : Buf (Elt F) (gM.view.loc (c : Thread nD τ))) (XU : Buf (Elt F) (uM.view.loc (c : Thread nD τ)))

/-- Both matrices of a slot. -/
def pair (s : Fin 2) (e : Fin 8) (n : ℕ) (j : Fin 4) : sProp 𝕄 := iprop(lane c gM XG s 0 e n j ∗ lane c uM XU s 1 e n j)
/-- The stream with chunk `n` the next to be put away: chunk `n` in its slot, chunk `n + 1` in the other. -/
def Lanes (e : Fin 8) (n : ℕ) (j : Fin 4) : sProp 𝕄 := iprop(pair c XG XU (sl n) e n j ∗ pair c XG XU (sl (n + 1)) e (n + 1) j)
end Lanes

/-! ## The resident buffer over a run of chunks -/

/-- `B'` is `B` with chunks `a` to `b` of both matrices of resident slot `s` replaced. -/
structure Fill (XG XU : S8x2048x5632.Idx → Elt F .f32) (B B' : S2x2x2048x1408.Idx → Elt F .bf16) (s : Fin 2) (a b : ℕ) (e : Fin 8) (j : Fin 4) : Prop where
  gate : ∀ x : S2x2x2048x1408.Idx, x 0 = s → x 1 = (0 : Fin 2) → a * 256 ≤ (x 2).val → (x 2).val < b * 256 → B' x = wt XG e j x
  up : ∀ x : S2x2x2048x1408.Idx, x 0 = s → x 1 = (1 : Fin 2) → a * 256 ≤ (x 2).val → (x 2).val < b * 256 → B' x = wt XU e j x
  other : ∀ x : S2x2x2048x1408.Idx, (x 0 ≠ s ∨ (x 2).val < a * 256 ∨ b * 256 ≤ (x 2).val) → B' x = B x

variable {XG XU : S8x2048x5632.Idx → Elt F .f32} {B B' B'' : S2x2x2048x1408.Idx → Elt F .bf16} {s : Fin 2} {a b : ℕ} {e : Fin 8} {j : Fin 4}

/-- No chunk changes nothing. -/
theorem Fill.nil : Fill XG XU B B s a a e j where
  gate x _ _ h h' := absurd h (by omega)
  up x _ _ h h' := absurd h (by omega)
  other x _ := rfl

/-- One more chunk. -/
theorem Fill.step (h : Fill XG XU B B' s a b e j) (hab : a ≤ b) (hb : b < 8) (u : Upd XG XU B' B'' s (f8 b) e j) : Fill XG XU B B'' s a (b + 1) e j := by
  have hv : (f8 b).val = b := Nat.mod_eq_of_lt hb
  have ug := u.gate; have uu := u.up; have uo := u.other
  rw [hv] at ug uu uo
  refine ⟨fun x hs hm hl hu => ?_, fun x hs hm hl hu => ?_, fun x hx => ?_⟩
  · by_cases hq : (x 2).val < b * 256
    · rw [uo x (Or.inr (Or.inl hq))]; exact h.gate x hs hm hl hq
    · exact ug x hs hm (by omega) (by omega)
  · by_cases hq : (x 2).val < b * 256
    · rw [uo x (Or.inr (Or.inl hq))]; exact h.up x hs hm hl hq
    · exact uu x hs hm (by omega) (by omega)
  · have h1 : x 0 ≠ s ∨ (x 2).val < b * 256 ∨ b * 256 + 256 ≤ (x 2).val := by
      rcases hx with h | h | h
      · exact Or.inl h
      · exact Or.inr (Or.inl (by omega))
      · exact Or.inr (Or.inr (by omega))
    have h2 : x 0 ≠ s ∨ (x 2).val < a * 256 ∨ b * 256 ≤ (x 2).val := by
      rcases hx with h | h | h
      · exact Or.inl h
      · exact Or.inr (Or.inl h)
      · exact Or.inr (Or.inr (by omega))
    rw [uo x h1, h.other x h2]

theorem sl_add2 (n : ℕ) : sl (n + 1 + 1) = sl n := Fin.ext (by show (n + 1 + 1) % 2 = n % 2; omega)

/-- A run keeps what it does not touch. -/
theorem run_frame {c : Dev nD} (p : Prog (TpuEff nD τ sig (Elt F) Λ₀ .tc) Unit) (P Q R : sProp 𝕄) (P' : sProp 𝕄) (Q' : Unit → sProp 𝕄)
    (h : P ⊢ wp frame (wpE (defs₀ (F := F)) 𝒱₀ (c : Thread nD τ) none) Set.univ p (fun _ => Q)) (hP : P' ⊢ iprop(P ∗ R)) (hQ : ∀ u, iprop(Q ∗ R) ⊢ Q' u) :
    P' ⊢ wp frame (wpE (defs₀ (F := F)) 𝒱₀ (c : Thread nD τ) none) Set.univ p Q' := by
  refine hP.trans ?_
  iintro ⟨HP, HR⟩
  iapply (wp_wand_r Idealize.ShloMosaic.frame (wpE (defs₀ (F := F)) 𝒱₀ (c : Thread nD τ) none) Set.univ)
  isplitl [HP]
  · iapply h; iexact HP
  · iintro %u HQ
    iapply (hQ u)
    isplitl [HQ]; · iexact HQ
    iexact HR

section Loop1
variable (c : Dev nD) (XG : Buf (Elt F) (gM.view.loc (c : Thread nD τ))) (XU : Buf (Elt F) (uM.view.loc (c : Thread nD τ)))
  (i : grid0.Coords)
  (arg2 : Memref sig .tc .smem S8x72 .i32) (harg2 : arg2.IsWhole) (arg3 : Memref sig .tc .smem S1 .i32) (harg3 : arg3.IsWhole)
  (arg4 : Memref sig .tc .vmem S256x2048 .bf16) (harg4 : arg4.IsWhole) (arg7 : Memref sig .tc .vmem S256x1408 .bf16) (harg7 : arg7.IsWhole)
  (v1 : BitVec 32) (hw1 : k0_chk1 i v1) (hc1 : k0_cond1 i = 1#1)

/-- A trip of the first loop puts chunk `k` away and moves the stream on by one chunk. -/
theorem tripRun1 (k : Fin k0_t1_loop.trips) (h1 : v1.toNat < 8) (f : Buf (Elt F) (bM.view.loc (c : Thread nD τ))) :
    iprop(bP c f ∗ (∃ O, owes (c : Thread nD τ) 0 O) ∗ Lanes c XG XU (f8 v1.toNat) k (f4 0))
      ⊢ wp frame (wpE (defs₀ (F := F)) 𝒱₀ (c : Thread nD τ) none) Set.univ (trip1 i arg2 harg2 arg3 harg3 arg4 harg4 arg7 harg7 v1 hw1 hc1 k)
        (fun _ => iprop((∃ f', bP c f' ∗ ⌜Upd (gM.view.read (Elt F) XG) (uM.view.read (Elt F) XU) (bM.view.read (Elt F) f) (bM.view.read (Elt F) f') 0 (f8 k) (f8 v1.toNat) (f4 0)⌝)
          ∗ (∃ O, owes (c : Thread nD τ) 0 O) ∗ Lanes c XG XU (f8 v1.toNat) (k + 1) (f4 0))) := by
  have hk8 := k8 k
  unfold Lanes pair
  rw [sl_add2]
  unfold lane
  rw [if_pos hk8, if_pos hk8]
  by_cases hk : k.val + 2 < 8
  · rw [if_pos hk, if_pos hk]
    refine run_frame _ _ _ (iprop((if k.val + 1 < 8 then laneF c gM XG (sl (k.val + 1)) 0 (f8 v1.toNat) (f8 (k.val + 1)) (f4 0) else laneI c gM XG (sl (k.val + 1)) 0) ∗ (if k.val + 1 < 8 then laneF c uM XU (sl (k.val + 1)) 1 (f8 v1.toNat) (f8 (k.val + 1)) (f4 0) else laneI c uM XU (sl (k.val + 1)) 1))) _ _ (tripRun1a c XG XU i arg2 harg2 arg3 harg3 arg4 harg4 arg7 harg7 v1 hw1 hc1 k h1 hk f) ?_ fun _ => ?_
    · iintro ⟨HB, HO, ⟨H0, H1⟩, HR⟩
      isplitr [HR]
      · isplitl [HB]; · iexact HB
        isplitl [HO]; · iexact HO
        isplitl [H0]; · iexact H0
        iexact H1
      · iexact HR
    · iintro ⟨⟨HB, HO, H0, H1⟩, HR⟩
      isplitl [HB]; · iexact HB
      isplitl [HO]; · iexact HO
      isplitl [HR]; · iexact HR
      isplitl [H0]; · iexact H0
      iexact H1
  · rw [if_neg hk, if_neg hk]
    refine run_frame _ _ _ (iprop((if k.val + 1 < 8 then laneF c gM XG (sl (k.val + 1)) 0 (f8 v1.toNat) (f8 (k.val + 1)) (f4 0) else laneI c gM XG (sl (k.val + 1)) 0) ∗ (if k.val + 1 < 8 then laneF c uM XU (sl (k.val + 1)) 1 (f8 v1.toNat) (f8 (k.val + 1)) (f4 0) else laneI c uM XU (sl (k.val + 1)) 1))) _ _ (tripRun1b c XG XU i arg2 harg2 arg3 harg3 arg4 harg4 arg7 harg7 v1 hw1 hc1 k h1 hk f) ?_ fun _ => ?_
    · iintro ⟨HB, HO, ⟨H0, H1⟩, HR⟩
      isplitr [HR]
      · isplitl [HB]; · iexact HB
        isplitl [HO]; · iexact HO
        isplitl [H0]; · iexact H0
        iexact H1
      · iexact HR
    · iintro ⟨⟨HB, HO, H0, H1⟩, HR⟩
      isplitl [HB]; · iexact HB
      isplitl [HO]; · iexact HO
      isplitl [HR]; · iexact HR
      isplitl [H0]; · iexact H0
      iexact H1

/-- Before trip `k` of the first loop: the chunks below `k` put away, the stream at chunk `k`. -/
def inv1 (f : Buf (Elt F) (bM.view.loc (c : Thread nD τ))) (k : ℕ) : sProp 𝕄 :=
  iprop(⌜v1.toNat < 8⌝ ∗ (∃ f', bP c f' ∗ ⌜Fill (gM.view.read (Elt F) XG) (uM.view.read (Elt F) XU) (bM.view.read (Elt F) f) (bM.view.read (Elt F) f') 0 0 k (f8 v1.toNat) (f4 0)⌝)
          ∗ (∃ O, owes (c : Thread nD τ) 0 O) ∗ Lanes c XG XU (f8 v1.toNat) k (f4 0))

set_option warn.classDefReducibility false in
/-- The first loop's invariant. -/
@[sl_loop] def loopInv1 (f : Buf (Elt F) (bM.view.loc (c : Thread nD τ))) :
    LoopInvTy_k0_t1 (F := F) Unit ℕ (UD sig nD τ) ℕ 𝒱₀ c none Set.univ i arg2 harg2 arg3 harg3 arg4 harg4 gM (Memref.isWhole_whole _) uM (Memref.isWhole_whole _) arg7 harg7
      bM (Memref.isWhole_whole _) sM (Memref.isWhole_whole _) cc0_scratch2 v1 hw1 hc1 where
  inv k _ := inv1 c XG XU v1 f k
  step k _ := by
    unfold inv1
    iintro ⟨%h1, ⟨%f', HB, %hf⟩, HO, HL⟩
    iapply (wp_wand_r Idealize.ShloMosaic.frame (wpE (defs₀ (F := F)) 𝒱₀ (c : Thread nD τ) none) Set.univ)
    isplitl [HB HO HL]
    · iapply (tripRun1 c XG XU i arg2 harg2 arg3 harg3 arg4 harg4 arg7 harg7 v1 hw1 hc1 k h1 f')
      isplitl [HB]; · iexact HB
      isplitl [HO]; · iexact HO
      iexact HL
    · iintro %_ ⟨⟨%f'', HB, %hu⟩, HO, HL⟩
      isplitr; · ipureintro; exact h1
      isplitl [HB]
      · iexists f''
        isplitl [HB]; · iexact HB
        ipureintro; exact hf.step (Nat.zero_le _) (k8 k) hu
      isplitl [HO]; · iexact HO
      iexact HL
end Loop1

section Loop2
variable (c : Dev nD) (XG : Buf (Elt F) (gM.view.loc (c : Thread nD τ))) (XU : Buf (Elt F) (uM.view.loc (c : Thread nD τ)))
  (i : grid0.Coords)
  (arg2 : Memref sig .tc .smem S8x72 .i32) (harg2 : arg2.IsWhole) (arg3 : Memref sig .tc .smem S1 .i32) (harg3 : arg3.IsWhole)
  (arg4 : Memref sig .tc .vmem S256x2048 .bf16) (harg4 : arg4.IsWhole) (arg7 : Memref sig .tc .vmem S256x1408 .bf16) (harg7 : arg7.IsWhole)
  (v2 v4 v7 v11 v18 v20 : BitVec 32) (h6 : k0_cond6 i v2 v11 = 1#1) (v39 v41 v43 : BitVec 32) (hw4 : k0_chk4 i v2 v4 v7 v11 v18 v41 v43)

/-- A trip of the second loop puts its chunk away and moves the stream on by one chunk. -/
theorem tripRun2 (k : Fin (k0_t2_loop v41 v43).trips) (h18 : v18.toNat < 8) (hj : nj i v11 < 4) (hc : ck v41 v43 k < 8) (f : Buf (Elt F) (bM.view.loc (c : Thread nD τ))) :
    iprop(bP c f ∗ (∃ O, owes (c : Thread nD τ) 0 O) ∗ Lanes c XG XU (f8 v18.toNat) (ck v41 v43 k) (f4 (nj i v11)))
      ⊢ wp frame (wpE (defs₀ (F := F)) 𝒱₀ (c : Thread nD τ) none) Set.univ (trip2 i arg2 harg2 arg3 harg3 arg4 harg4 arg7 harg7 v2 v4 v7 v11 v18 v20 h6 v39 v41 v43 hw4 k)
        (fun _ => iprop((∃ f', bP c f' ∗ ⌜Upd (gM.view.read (Elt F) XG) (uM.view.read (Elt F) XU) (bM.view.read (Elt F) f) (bM.view.read (Elt F) f') (othS i v4 v7) (f8 (ck v41 v43 k)) (f8 v18.toNat) (f4 (nj i v11))⌝)
          ∗ (∃ O, owes (c : Thread nD τ) 0 O) ∗ Lanes c XG XU (f8 v18.toNat) (ck v41 v43 k + 1) (f4 (nj i v11)))) := by
  have hk8 := hc
  unfold Lanes pair
  rw [sl_add2]
  unfold lane
  rw [if_pos hk8, if_pos hk8]
  by_cases hk : ck v41 v43 k + 2 < 8
  · rw [if_pos hk, if_pos hk]
    refine run_frame _ _ _ (iprop((if ck v41 v43 k + 1 < 8 then laneF c gM XG (sl (ck v41 v43 k + 1)) 0 (f8 v18.toNat) (f8 (ck v41 v43 k + 1)) (f4 (nj i v11)) else laneI c gM XG (sl (ck v41 v43 k + 1)) 0) ∗ (if ck v41 v43 k + 1 < 8 then laneF c uM XU (sl (ck v41 v43 k + 1)) 1 (f8 v18.toNat) (f8 (ck v41 v43 k + 1)) (f4 (nj i v11)) else laneI c uM XU (sl (ck v41 v43 k + 1)) 1))) _ _ (tripRun2a c XG XU i arg2 harg2 arg3 harg3 arg4 harg4 arg7 harg7 v2 v4 v7 v11 v18 v20 h6 v39 v41 v43 hw4 k h18 hj hc hk f) ?_ fun _ => ?_
    · iintro ⟨HB, HO, ⟨H0, H1⟩, HR⟩
      isplitr [HR]
      · isplitl [HB]; · iexact HB
        isplitl [HO]; · iexact HO
        isplitl [H0]; · iexact H0
        iexact H1
      · iexact HR
    · iintro ⟨⟨HB, HO, H0, H1⟩, HR⟩
      isplitl [HB]; · iexact HB
      isplitl [HO]; · iexact HO
      isplitl [HR]; · iexact HR
      isplitl [H0]; · iexact H0
      iexact H1
  · rw [if_neg hk, if_neg hk]
    refine run_frame _ _ _ (iprop((if ck v41 v43 k + 1 < 8 then laneF c gM XG (sl (ck v41 v43 k + 1)) 0 (f8 v18.toNat) (f8 (ck v41 v43 k + 1)) (f4 (nj i v11)) else laneI c gM XG (sl (ck v41 v43 k + 1)) 0) ∗ (if ck v41 v43 k + 1 < 8 then laneF c uM XU (sl (ck v41 v43 k + 1)) 1 (f8 v18.toNat) (f8 (ck v41 v43 k + 1)) (f4 (nj i v11)) else laneI c uM XU (sl (ck v41 v43 k + 1)) 1))) _ _ (tripRun2b c XG XU i arg2 harg2 arg3 harg3 arg4 harg4 arg7 harg7 v2 v4 v7 v11 v18 v20 h6 v39 v41 v43 hw4 k h18 hj hc hk f) ?_ fun _ => ?_
    · iintro ⟨HB, HO, ⟨H0, H1⟩, HR⟩
      isplitr [HR]
      · isplitl [HB]; · iexact HB
        isplitl [HO]; · iexact HO
        isplitl [H0]; · iexact H0
        iexact H1
      · iexact HR
    · iintro ⟨⟨HB, HO, H0, H1⟩, HR⟩
      isplitl [HB]; · iexact HB
      isplitl [HO]; · iexact HO
      isplitl [HR]; · iexact HR
      isplitl [H0]; · iexact H0
      iexact H1

/-- Before trip `k` of the second loop: `k` chunks put away, the stream at the next. -/
def inv2 (f : Buf (Elt F) (bM.view.loc (c : Thread nD τ))) (k : ℕ) : sProp 𝕄 :=
  iprop(⌜v18.toNat < 8 ∧ nj i v11 < 4 ∧ v41.toNat ≤ v43.toNat ∧ v43.toNat ≤ 8⌝ ∗ (∃ f', bP c f' ∗ ⌜Fill (gM.view.read (Elt F) XG) (uM.view.read (Elt F) XU) (bM.view.read (Elt F) f) (bM.view.read (Elt F) f') (othS i v4 v7) v41.toNat (v41.toNat + k) (f8 v18.toNat) (f4 (nj i v11))⌝)
          ∗ (∃ O, owes (c : Thread nD τ) 0 O) ∗ Lanes c XG XU (f8 v18.toNat) (v41.toNat + k) (f4 (nj i v11)))

set_option warn.classDefReducibility false in
/-- The second loop's invariant. -/
@[sl_loop] def loopInv2 (f : Buf (Elt F) (bM.view.loc (c : Thread nD τ))) :
    LoopInvTy_k0_t2 (F := F) Unit ℕ (UD sig nD τ) ℕ 𝒱₀ c none Set.univ i arg2 harg2 arg3 harg3 arg4 harg4 gM (Memref.isWhole_whole _) uM (Memref.isWhole_whole _) arg7 harg7
      bM (Memref.isWhole_whole _) sM (Memref.isWhole_whole _) cc0_scratch2 v2 v4 v7 v11 v18 v20 h6 v39 v41 v43 hw4 where
  inv k _ := inv2 c XG XU i v4 v7 v11 v18 v41 v43 f k
  step k _ := by
    unfold inv2
    iintro ⟨%hh, ⟨%f', HB, %hf⟩, HO, HL⟩
    obtain ⟨h18, hj, hlo, hhi⟩ := hh
    have hc : ck v41 v43 k < 8 := Nat.lt_of_lt_of_le (ck8 v41 v43 k hlo hhi) hhi
    iapply (wp_wand_r Idealize.ShloMosaic.frame (wpE (defs₀ (F := F)) 𝒱₀ (c : Thread nD τ) none) Set.univ)
    isplitl [HB HO HL]
    · iapply (tripRun2 c XG XU i arg2 harg2 arg3 harg3 arg4 harg4 arg7 harg7 v2 v4 v7 v11 v18 v20 h6 v39 v41 v43 hw4 k h18 hj hc f')
      isplitl [HB]; · iexact HB
      isplitl [HO]; · iexact HO
      iexact HL
    · iintro %_ ⟨⟨%f'', HB, %hu⟩, HO, HL⟩
      isplitr; · ipureintro; exact ⟨h18, hj, hlo, hhi⟩
      isplitl [HB]
      · iexists f''
        isplitl [HB]; · iexact HB
        ipureintro; exact hf.step (Nat.le_add_right _ _) hc hu
      isplitl [HO]; · iexact HO
      iexact HL
end Loop2

section Loop3
variable (c : Dev nD) (i : grid0.Coords)
  (arg2 : Memref sig .tc .smem S8x72 .i32) (harg2 : arg2.IsWhole) (arg3 : Memref sig .tc .smem S1 .i32) (harg3 : arg3.IsWhole)
  (arg4 : Memref sig .tc .vmem S256x2048 .bf16) (harg4 : arg4.IsWhole) (arg7 : Memref sig .tc .vmem S256x1408 .bf16) (harg7 : arg7.IsWhole)
  (v2 v4 v7 v11 v18 v20 : BitVec 32) (h6 : k0_cond6 i v2 v11 = 1#1) (v39 v41 v43 : BitVec 32) (hw4 : k0_chk4 i v2 v4 v7 v11 v18 v41 v43) (v48 : BitVec 32)

set_option warn.classDefReducibility false in
/-- The remainder loop runs no trip. -/
@[sl_loop] def loopInv3 :
    LoopInvTy_k0_t3 (F := F) Unit ℕ (UD sig nD τ) ℕ 𝒱₀ c none Set.univ i arg2 harg2 arg3 harg3 arg4 harg4 gM (Memref.isWhole_whole _) uM (Memref.isWhole_whole _) arg7 harg7
      bM (Memref.isWhole_whole _) sM (Memref.isWhole_whole _) cc0_scratch2 v2 v4 v7 v11 v18 v20 h6 v39 v41 v43 hw4 v48 where
  inv _ _ := iprop(emp)
  step k _ := (Nat.not_lt_zero _ (Nat.lt_of_lt_of_eq k.isLt (trips3 v41 v43))).elim
end Loop3

end Cert.Proof.UpI

end
-- ==== Proof.UpIBody.lean ====
/-
  The body of the expert-weight stream at a grid point, case by case.
-/
module

public import proofs.«01_k».proof.Proof.UpILoop
public import Idealize.ShloMosaic.Lib.VecWindow

@[expose] public section

set_option maxRecDepth 16384

noncomputable section

namespace Cert.Proof.UpI

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

instance (i : grid0.Coords) (v4 v7 : BitVec 32) : ClosedOff (k0_off25 i v4 v7) := ⟨slotOff (curS i v4 v7) 0, off25_eq i v4 v7⟩
instance (i : grid0.Coords) (v4 v7 : BitVec 32) : ClosedOff (k0_off26 i v4 v7) := ⟨slotOff (curS i v4 v7) 1, off26_eq i v4 v7⟩

section Fold
variable (c : Dev nD) (XG : Buf (Elt F) (gM.view.loc (c : Thread nD τ))) (XU : Buf (Elt F) (uM.view.loc (c : Thread nD τ)))
  (i : grid0.Coords) (v4 v7 v11 v18 v41 v43 : BitVec 32) (f : Buf (Elt F) (bM.view.loc (c : Thread nD τ)))

/-- The second loop's state before any trip. -/
theorem inv2_intro (h18 : v18.toNat < 8) (hj : nj i v11 < 4) (hlo : v41.toNat ≤ v43.toNat) (hhi : v43.toNat ≤ 8) :
    iprop(bP c f ∗ (∃ O, owes (c : Thread nD τ) 0 O) ∗ Lanes c XG XU (f8 v18.toNat) v41.toNat (f4 (nj i v11))) ⊢ inv2 c XG XU i v4 v7 v11 v18 v41 v43 f 0 := by
  unfold inv2
  iintro ⟨HB, HO, HL⟩
  isplitr; · ipureintro; exact ⟨h18, hj, hlo, hhi⟩
  isplitl [HB]
  · iexists f
    isplitl [HB]; · iexact HB
    ipureintro; exact Fill.nil
  isplitl [HO]; · iexact HO
  iexact HL

/-- The second loop's state at its exit. -/
theorem inv2_exit (hlo : v41.toNat ≤ v43.toNat) (hhi : v43.toNat ≤ 8) :
    inv2 c XG XU i v4 v7 v11 v18 v41 v43 f (k0_t2_loop v41 v43).trips
      ⊢ iprop((∃ f', bP c f' ∗ ⌜Fill (gM.view.read (Elt F) XG) (uM.view.read (Elt F) XU) (bM.view.read (Elt F) f) (bM.view.read (Elt F) f') (othS i v4 v7) v41.toNat v43.toNat (f8 v18.toNat) (f4 (nj i v11))⌝)
        ∗ (∃ O, owes (c : Thread nD τ) 0 O) ∗ Lanes c XG XU (f8 v18.toNat) v43.toNat (f4 (nj i v11))) := by
  rw [trips2 v41 v43 hlo hhi]
  unfold inv2
  rw [Nat.add_sub_cancel' hlo]
  iintro ⟨-, HB, HO, HL⟩
  isplitl [HB]; · iexact HB
  isplitl [HO]; · iexact HO
  iexact HL

/-- A weight held whole, named through a window. -/
theorem whole_in (c : Dev nD) (W : Memref sig .tc .hbm S8x2048x5632 .f32) (XW : Buf (Elt F) (W.view.loc (c : Thread nD τ))) (s : Fin 2)
    (e r : Fin 8) (j : Fin 4) : wholeP c W XW s ⊢ ((win W e r j).view.loc (c : Thread nD τ) ↦[Finset.univ]{shr s} XW : sProp 𝕄) := .rfl

/-- The four lanes at rest. -/
def LanesI : sProp 𝕄 := iprop((laneI c gM XG 0 0 ∗ laneI c uM XU 0 1) ∗ (laneI c gM XG 1 0 ∗ laneI c uM XU 1 1))

/-- Past the last chunk every lane is at rest. -/
theorem lanes_8 (e : Fin 8) (j : Fin 4) : Lanes c XG XU e 8 j = LanesI c XG XU := by
  unfold Lanes pair lane LanesI
  rw [if_neg (by omega), if_neg (by omega), if_neg (by omega), if_neg (by omega)]
  rfl

/-- The stream at its first chunk, from the four transfers. -/
theorem lanes_0 (e : Fin 8) (j : Fin 4) (n : ℕ) (hn : n = 0) (f00 f01 f10 f11) :
    iprop((flightP c gM XG 0 0 e (f8 0) j f00 ∗ restP c gM XG 0 e (f8 0) j) ∗ (flightP c uM XU 0 1 e (f8 0) j f01 ∗ restP c uM XU 0 e (f8 0) j)
      ∗ (flightP c gM XG 1 0 e (f8 1) j f10 ∗ restP c gM XG 1 e (f8 1) j) ∗ (flightP c uM XU 1 1 e (f8 1) j f11 ∗ restP c uM XU 1 e (f8 1) j))
      ⊢ Lanes c XG XU e n j := by
  subst hn
  unfold Lanes pair lane laneF
  rw [if_pos (by omega), if_pos (by omega), if_pos (by omega), if_pos (by omega)]
  iintro ⟨⟨A0, A1⟩, ⟨B0, B1⟩, ⟨C0, C1⟩, ⟨D0, D1⟩⟩
  isplitl [A0 A1 B0 B1]
  · isplitl [A0 A1]
    · isplitl [A0]
      · iexists f00; iexact A0
      · iexact A1
    · isplitl [B0]
      · iexists f01; iexact B0
      · iexact B1
  · isplitl [C0 C1]
    · isplitl [C0]
      · iexists f10; iexact C0
      · iexact C1
    · isplitl [D0]
      · iexists f11; iexact D0
      · iexact D1

/-- The first loop's state before any trip. -/
theorem inv1_intro (v1 : BitVec 32) (h1 : v1.toNat < 8) :
    iprop(bP c f ∗ (∃ O, owes (c : Thread nD τ) 0 O) ∗ Lanes c XG XU (f8 v1.toNat) 0 (f4 0)) ⊢ inv1 c XG XU v1 f 0 := by
  unfold inv1
  iintro ⟨HB, HO, HL⟩
  isplitr; · ipureintro; exact h1
  isplitl [HB]
  · iexists f
    isplitl [HB]; · iexact HB
    ipureintro; exact Fill.nil
  isplitl [HO]; · iexact HO
  iexact HL

/-- The first loop's state at its exit. -/
theorem inv1_exit (v1 : BitVec 32) :
    inv1 c XG XU v1 f k0_t1_loop.trips
      ⊢ iprop((∃ f', bP c f' ∗ ⌜Fill (gM.view.read (Elt F) XG) (uM.view.read (Elt F) XU) (bM.view.read (Elt F) f) (bM.view.read (Elt F) f') 0 0 8 (f8 v1.toNat) (f4 0)⌝)
        ∗ (∃ O, owes (c : Thread nD τ) 0 O) ∗ LanesI c XG XU) := by
  rw [trips1]
  unfold inv1
  rw [lanes_8]
  iintro ⟨-, HB, HO, HL⟩
  isplitl [HB]; · iexact HB
  isplitl [HO]; · iexact HO
  iexact HL
end Fold

/-! ## What a point leaves -/

/-- A resident matrix as the body loads it. -/
def tile (B : S2x2x2048x1408.Idx → Elt F .bf16) (s m : Fin 2) : S1x1x2048x1408.Idx → Elt F .bf16 :=
  VecWindow.window B (slotOff s m) S1x1x2048x1408.size (bigOff_inb s m)
/-- The block a used tile stores, from the rows and the resident slot. -/
def upPay (A : S256x2048.Idx → Elt F .bf16) (B : S2x2x2048x1408.Idx → Elt F .bf16) (s : Fin 2) : FVec F S256x1408 .bf16 :=
  k0_pay1 A (tile B s 0) (tile B s 1)

section Body
variable (c : Dev nD) (XG : Buf (Elt F) (gM.view.loc (c : Thread nD τ))) (XU : Buf (Elt F) (uM.view.loc (c : Thread nD τ)))
  (i : grid0.Coords)
  (arg4 : Memref sig .tc .vmem S256x2048 .bf16) (harg4 : arg4.IsWhole) (arg7 : Memref sig .tc .vmem S256x1408 .bf16) (harg7 : arg7.IsWhole)

abbrev pM : Memref sig .tc .smem S8x72 .i32 := Memref.whole main_arg0
abbrev nM : Memref sig .tc .smem S1 .i32 := Memref.whole main_arg1

/-- The body at a grid point. -/
abbrev body : Prog (TpuEff nD τ sig (Elt F) Λ₀ .tc) Unit :=
  cc0_streamed_swiglu_up i pM (Memref.isWhole_whole _) nM (Memref.isWhole_whole _) arg4 harg4 gM (Memref.isWhole_whole _) uM (Memref.isWhole_whole _) arg7 harg7
    bM (Memref.isWhole_whole _) sM (Memref.isWhole_whole _) cc0_scratch2

variable (P : Buf (Elt F) (pM.view.loc (c : Thread nD τ))) (N : Buf (Elt F) (nM.view.loc (c : Thread nD τ)))

/-- A word of the plan table. -/
abbrev rd (off : Fin 2 → Nat) (inb : ∀ a, off a + S1x1.size a ≤ S8x72.size a) : BitVec 32 :=
  pM.view.readAt (Elt F) (Rect.unit (s := S8x72) off S1x1.size inb).toLoadRect P (Shape.Idx.first (s := S1x1) (by decide))
abbrev W1 : BitVec 32 := rd c P (k0_off1 i) (k0_off1_inb i)
abbrev W2 : BitVec 32 := nM.view.readAt (Elt F) (Rect.unit (s := S1) ![0] S1.size inb_S1_S1_0).toLoadRect N (Shape.Idx.first (s := S1) (by decide))
abbrev W4 : BitVec 32 := rd c P ![7, 0] inb_S8x72_S1x1_7_0
abbrev W7 : BitVec 32 := rd c P (k0_off2 i) (k0_off2_inb i)
abbrev W11 : BitVec 32 := rd c P (k0_off3 i) (k0_off3_inb i)
abbrev W18 : BitVec 32 := rd c P (k0_off4 i) (k0_off4_inb i)
abbrev W27 : BitVec 32 := rd c P (k0_off22 i) (k0_off22_inb i)
abbrev W41 : BitVec 32 := rd c P (k0_off27 i) (k0_off27_inb i)
abbrev W43 : BitVec 32 := rd c P (k0_off28 i) (k0_off28_inb i)

/-- The tables, at the share the pipeline lends them. -/
abbrev tabs : sProp 𝕄 := iprop((pM.view.loc (c : Thread nD τ) ↦[pM.view.set]{fullShare.right} P) ∗ (nM.view.loc (c : Thread nD τ) ↦[nM.view.set]{fullShare.right} N))
abbrev inP (g : Buf (Elt F) (arg4.view.loc (c : Thread nD τ))) : sProp 𝕄 := arg4.view.loc (c : Thread nD τ) ↦[arg4.view.set]{fullShare} g
abbrev outP (g : Buf (Elt F) (arg7.view.loc (c : Thread nD τ))) : sProp 𝕄 := arg7.view.loc (c : Thread nD τ) ↦[arg7.view.set]{fullShare} g

/-- What a point leaves: the tables and the rows as they were, a block, a resident buffer, the lanes. -/
def POST (ga : Buf (Elt F) (arg4.view.loc (c : Thread nD τ))) (pay : S256x1408.Idx → Elt F .bf16) (R : Buf (Elt F) (bM.view.loc (c : Thread nD τ)) → Prop) (L : sProp 𝕄) : sProp 𝕄 :=
  iprop(tabs c P N ∗ inP c arg4 ga ∗ (∃ o, outP c arg7 o ∗ ⌜arg7.view.read (Elt F) o = pay⌝) ∗ (∃ f', bP c f' ∗ ⌜R f'⌝) ∗ (∃ O, owes (c : Thread nD τ) 0 O) ∗ L)
/-- What a point starts from. -/
def PRE (ga : Buf (Elt F) (arg4.view.loc (c : Thread nD τ))) (gO : Buf (Elt F) (arg7.view.loc (c : Thread nD τ))) (f : Buf (Elt F) (bM.view.loc (c : Thread nD τ))) (L : sProp 𝕄) : sProp 𝕄 :=
  iprop(tabs c P N ∗ inP c arg4 ga ∗ outP c arg7 gO ∗ bP c f ∗ (∃ O, owes (c : Thread nD τ) 0 O) ∗ L)

/-- The block stored, from the loads. -/
theorem stored (ga : Buf (Elt F) (arg4.view.loc (c : Thread nD τ))) (gO : Buf (Elt F) (arg7.view.loc (c : Thread nD τ))) (f : Buf (Elt F) (bM.view.loc (c : Thread nD τ))) (v4 v7 : BitVec 32)
    (i1 i2 i3 i4 L) :
    arg7.view.read (Elt F) (arg7.view.writes (Elt F) gO (⟨Rect.unit (s := S256x1408) ![0, 0] S256x1408.size i1,
      k0_pay1 (arg4.view.readAt (Elt F) (Rect.unit (s := S256x2048) ![0, 0] S256x2048.size i2).toLoadRect ga)
        (bM.view.readAt (Elt F) (Rect.unit (s := S2x2x2048x1408) (k0_off25 i v4 v7) S1x1x2048x1408.size i3).toLoadRect f)
        (bM.view.readAt (Elt F) (Rect.unit (s := S2x2x2048x1408) (k0_off26 i v4 v7) S1x1x2048x1408.size i4).toLoadRect f)⟩ :: L))
      = upPay (arg4.view.read (Elt F) ga) (bM.view.read (Elt F) f) (curS i v4 v7) := by
  rw [View.read_writes_full, View.readAt_full, View.readAt_unit _ _ _ (off25_eq i v4 v7) (bigOff_inb _ _), View.readAt_unit _ _ _ (off26_eq i v4 v7) (bigOff_inb _ _)]
  rfl

set_option backward.proofsInPublic true in
seal inv1 inv2 in
/-- A used tile that neither starts the kernel nor its expert's group: the rows pass, a share of the next weights is put away. -/
theorem run3 (ga : Buf (Elt F) (arg4.view.loc (c : Thread nD τ))) (gO : Buf (Elt F) (arg7.view.loc (c : Thread nD τ))) (f : Buf (Elt F) (bM.view.loc (c : Thread nD τ)))
    (H1 : (W1 c i P).toNat < 8) (H18 : (W18 c i P).toNat < 8) (H2 : (W2 c N).toNat ≤ 72)
    (H00 : ¬ ((i 0).val = 0 ∧ (i 1).val = 0)) (Hn : hasNext i (W2 c N) (W11 c i P)) (H27 : W27 c i P ≠ 1#32) (Hlo : (W41 c i P).toNat ≤ (W43 c i P).toNat) (Hhi : (W43 c i P).toNat ≤ 8) :
    PRE c arg4 arg7 P N ga gO f (Lanes c XG XU (f8 (W18 c i P).toNat) (W41 c i P).toNat (f4 (nj i (W11 c i P))))
      ⊢ wp frame (wpE (defs₀ (F := F)) 𝒱₀ (c : Thread nD τ) none) Set.univ (body i arg4 harg4 arg7 harg7)
        fun _ => POST c arg4 arg7 P N ga (upPay (arg4.view.read (Elt F) ga) (bM.view.read (Elt F) f) (curS i (W4 c P) (W7 c i P)))
          (fun f' => Fill (gM.view.read (Elt F) XG) (uM.view.read (Elt F) XU) (bM.view.read (Elt F) f) (bM.view.read (Elt F) f') (othS i (W4 c P) (W7 c i P)) (W41 c i P).toNat (W43 c i P).toNat (f8 (W18 c i P).toNat) (f4 (nj i (W11 c i P)))) (Lanes c XG XU (f8 (W18 c i P).toNat) (W43 c i P).toNat (f4 (nj i (W11 c i P)))) := by
  unfold PRE POST
  iintro ⟨⟨Hp, Hn0⟩, Ha, Ho, HB, HO, HL⟩
  have Hu : used i (W2 c N) := Hn.1
  have hc1 : ¬ k0_cond1 i = 1#1 := fun h => H00 ((cond1_iff i).mp h)
  sl_exec
  have hk1 : k0_chk1 i (run3.sl.r c i P) := chk1_ok i _ H1
  sl_exec
  have hk3 : k0_chk3 i (run3.sl.r_1 c N) (run3.sl.r_2 c P) (run3.sl.r_3 c i P) := chk3_ok i _ _ _
  sl_exec
  have hk2 : k0_chk2 i (run3.sl.r_1 c N) (run3.sl.r_4 c i P) (run3.sl.r_5 c i P) (run3.sl.r_6 c i P) := chk2_ok i _ _ _ _ H2 H18
  have hc4 : ¬ k0_cond4 i (run3.sl.r_1 c N) (run3.sl.r_4 c i P) (run3.sl.r_6 c i P) = 1#1 := fun h => H27 ((cond4_iff i _ _ _ H2).mp h).2
  have hc5 : k0_cond5 i (run3.sl.r_1 c N) = 1#1 := (cond5_iff i _ H2).mpr Hu
  have hc11 : ¬ k0_cond11 i (run3.sl.r_1 c N) = 1#1 := fun h => (cond11_iff i _ H2).mp h Hu
  have hc6 : k0_cond6 i (run3.sl.r_1 c N) (run3.sl.r_4 c i P) = 1#1 := (cond6_iff i _ _ H2).mpr Hn
  sl_exec
  have hk4 : k0_chk4 i (run3.sl.r_1 c N) (run3.sl.r_2 c P) (run3.sl.r_3 c i P) (run3.sl.r_4 c i P) (run3.sl.r_5 c i P) (run3.sl.r_7 c i P) (run3.sl.r_8 c i P) :=
    chk4_ok i _ _ _ _ _ _ _ H2 H18 Hlo Hhi
  ihave Hinv := (inv2_intro c XG XU i (run3.sl.r_2 c P) (run3.sl.r_3 c i P) (run3.sl.r_4 c i P) (run3.sl.r_5 c i P) (run3.sl.r_7 c i P) (run3.sl.r_8 c i P) f
    H18 (nj_lt i _ _ Hn) Hlo Hhi) $$ [HB HO HL]
  · isplitl [HB]; · iexact HB
    isplitl [HO]; · iexact HO
    iexact HL
  sl_exec
  ihave Hx := (inv2_exit c XG XU i (run3.sl.r_2 c P) (run3.sl.r_3 c i P) (run3.sl.r_4 c i P) (run3.sl.r_5 c i P) (run3.sl.r_7 c i P) (run3.sl.r_8 c i P) f Hlo Hhi) $$ Hinv
  icases Hx with ⟨HB, HO, HL⟩
  sl_step
  isplitl [Hp Hn0]
  · isplitl [Hp]; · iexact Hp
    iexact Hn0
  isplitl [Ha]; · iexact Ha
  isplitl [Ho]
  · iexists _
    isplitl [Ho]; · iexact Ho
    ipureintro; exact stored c i arg4 arg7 ga _ f _ _ _ _ _ _ _
  isplitl [HB]; · iexact HB
  isplitl [HO]; · iexact HO
  iexact HL

set_option backward.proofsInPublic true in
seal inv1 inv2 in
/-- A used tile with nothing left to stream: the rows pass, the lanes are not touched. -/
theorem run4 (ga : Buf (Elt F) (arg4.view.loc (c : Thread nD τ))) (gO : Buf (Elt F) (arg7.view.loc (c : Thread nD τ))) (f : Buf (Elt F) (bM.view.loc (c : Thread nD τ)))
    (H1 : (W1 c i P).toNat < 8) (H18 : (W18 c i P).toNat < 8) (H2 : (W2 c N).toNat ≤ 72)
    (H00 : ¬ ((i 0).val = 0 ∧ (i 1).val = 0)) (Hu : used i (W2 c N)) (Hn : ¬ hasNext i (W2 c N) (W11 c i P)) (L : sProp 𝕄) :
    PRE c arg4 arg7 P N ga gO f L
      ⊢ wp frame (wpE (defs₀ (F := F)) 𝒱₀ (c : Thread nD τ) none) Set.univ (body i arg4 harg4 arg7 harg7)
        fun _ => POST c arg4 arg7 P N ga (upPay (arg4.view.read (Elt F) ga) (bM.view.read (Elt F) f) (curS i (W4 c P) (W7 c i P)))
          (fun f' => f' = f) L := by
  unfold PRE POST
  iintro ⟨⟨Hp, Hn0⟩, Ha, Ho, HB, HO, HL⟩
  have hc1 : ¬ k0_cond1 i = 1#1 := fun h => H00 ((cond1_iff i).mp h)
  sl_exec
  have hk1 : k0_chk1 i (run4.sl.r c i P) := chk1_ok i _ H1
  sl_exec
  have hk3 : k0_chk3 i (run4.sl.r_1 c N) (run4.sl.r_2 c P) (run4.sl.r_3 c i P) := chk3_ok i _ _ _
  sl_exec
  have hk2 : k0_chk2 i (run4.sl.r_1 c N) (run4.sl.r_4 c i P) (run4.sl.r_5 c i P) (run4.sl.r_6 c i P) := chk2_ok i _ _ _ _ H2 H18
  have hc4 : ¬ k0_cond4 i (run4.sl.r_1 c N) (run4.sl.r_4 c i P) (run4.sl.r_6 c i P) = 1#1 := fun h => Hn ((cond4_iff i _ _ _ H2).mp h).1
  have hc5 : k0_cond5 i (run4.sl.r_1 c N) = 1#1 := (cond5_iff i _ H2).mpr Hu
  have hc11 : ¬ k0_cond11 i (run4.sl.r_1 c N) = 1#1 := fun h => (cond11_iff i _ H2).mp h Hu
  have hc6 : ¬ k0_cond6 i (run4.sl.r_1 c N) (run4.sl.r_4 c i P) = 1#1 := fun h => Hn ((cond6_iff i _ _ H2).mp h)
  sl_exec
  sl_step
  isplitl [Hp Hn0]
  · isplitl [Hp]; · iexact Hp
    iexact Hn0
  isplitl [Ha]; · iexact Ha
  isplitl [Ho]
  · iexists _
    isplitl [Ho]; · iexact Ho
    ipureintro; exact stored c i arg4 arg7 ga _ f _ _ _ _ _ _ _
  isplitl [HB]
  · iexists f
    isplitl [HB]; · iexact HB
    ipureintro; rfl
  isplitl [HO]; · iexact HO
  iexact HL

set_option backward.proofsInPublic true in
seal inv1 inv2 in
/-- An unused tile: zeros. -/
theorem run5 (ga : Buf (Elt F) (arg4.view.loc (c : Thread nD τ))) (gO : Buf (Elt F) (arg7.view.loc (c : Thread nD τ))) (f : Buf (Elt F) (bM.view.loc (c : Thread nD τ)))
    (H1 : (W1 c i P).toNat < 8) (H18 : (W18 c i P).toNat < 8) (H2 : (W2 c N).toNat ≤ 72)
    (H00 : ¬ ((i 0).val = 0 ∧ (i 1).val = 0)) (Hu : ¬ used i (W2 c N)) (L : sProp 𝕄) :
    PRE c arg4 arg7 P N ga gO f L
      ⊢ wp frame (wpE (defs₀ (F := F)) 𝒱₀ (c : Thread nD τ) none) Set.univ (body i arg4 harg4 arg7 harg7)
        fun _ => POST c arg4 arg7 P N ga (k0_pay4 (F := F))
          (fun f' => f' = f) L := by
  unfold PRE POST
  iintro ⟨⟨Hp, Hn0⟩, Ha, Ho, HB, HO, HL⟩
  have Hn : ¬ hasNext i (W2 c N) (W11 c i P) := fun h => Hu h.1
  have hc1 : ¬ k0_cond1 i = 1#1 := fun h => H00 ((cond1_iff i).mp h)
  sl_exec
  have hk1 : k0_chk1 i (run5.sl.r c i P) := chk1_ok i _ H1
  sl_exec
  have hk3 : k0_chk3 i (run5.sl.r_1 c N) (run5.sl.r_2 c P) (run5.sl.r_3 c i P) := chk3_ok i _ _ _
  sl_exec
  have hk2 : k0_chk2 i (run5.sl.r_1 c N) (run5.sl.r_4 c i P) (run5.sl.r_5 c i P) (run5.sl.r_6 c i P) := chk2_ok i _ _ _ _ H2 H18
  have hc4 : ¬ k0_cond4 i (run5.sl.r_1 c N) (run5.sl.r_4 c i P) (run5.sl.r_6 c i P) = 1#1 := fun h => Hn ((cond4_iff i _ _ _ H2).mp h).1
  have hc5 : ¬ k0_cond5 i (run5.sl.r_1 c N) = 1#1 := fun h => Hu ((cond5_iff i _ H2).mp h)
  have hc11 : k0_cond11 i (run5.sl.r_1 c N) = 1#1 := (cond11_iff i _ H2).mpr Hu
  have hc6 : ¬ k0_cond6 i (run5.sl.r_1 c N) (run5.sl.r_4 c i P) = 1#1 := fun h => Hn ((cond6_iff i _ _ H2).mp h)
  sl_exec
  sl_step
  isplitl [Hp Hn0]
  · isplitl [Hp]; · iexact Hp
    iexact Hn0
  isplitl [Ha]; · iexact Ha
  isplitl [Ho]
  · iexists _
    isplitl [Ho]; · iexact Ho
    ipureintro; exact View.read_writes_full _ _ _ _ _
  isplitl [HB]
  · iexists f
    isplitl [HB]; · iexact HB
    ipureintro; rfl
  isplitl [HO]; · iexact HO
  iexact HL

set_option backward.proofsInPublic true in
seal inv1 inv2 in
/-- The first tile of an expert's group, past the kernel's first point: the next weights' transfers start, the rows pass, a share is put away. -/
theorem run2 (ga : Buf (Elt F) (arg4.view.loc (c : Thread nD τ))) (gO : Buf (Elt F) (arg7.view.loc (c : Thread nD τ))) (f : Buf (Elt F) (bM.view.loc (c : Thread nD τ)))
    (H1 : (W1 c i P).toNat < 8) (H18 : (W18 c i P).toNat < 8) (H2 : (W2 c N).toNat ≤ 72)
    (H00 : ¬ ((i 0).val = 0 ∧ (i 1).val = 0)) (Hn : hasNext i (W2 c N) (W11 c i P)) (H27 : W27 c i P = 1#32) (Hlo : (W41 c i P).toNat = 0) (Hhi : (W43 c i P).toNat ≤ 8) :
    PRE c arg4 arg7 P N ga gO f (LanesI c XG XU)
      ⊢ wp frame (wpE (defs₀ (F := F)) 𝒱₀ (c : Thread nD τ) none) Set.univ (body i arg4 harg4 arg7 harg7)
        fun _ => POST c arg4 arg7 P N ga (upPay (arg4.view.read (Elt F) ga) (bM.view.read (Elt F) f) (curS i (W4 c P) (W7 c i P)))
          (fun f' => Fill (gM.view.read (Elt F) XG) (uM.view.read (Elt F) XU) (bM.view.read (Elt F) f) (bM.view.read (Elt F) f') (othS i (W4 c P) (W7 c i P)) (W41 c i P).toNat (W43 c i P).toNat (f8 (W18 c i P).toNat) (f4 (nj i (W11 c i P)))) (Lanes c XG XU (f8 (W18 c i P).toNat) (W43 c i P).toNat (f4 (nj i (W11 c i P)))) := by
  unfold PRE POST
  iintro ⟨⟨Hp, Hn0⟩, Ha, Ho, HB, HO, HL⟩
  have Hu : used i (W2 c N) := Hn.1
  have hc1 : ¬ k0_cond1 i = 1#1 := fun h => H00 ((cond1_iff i).mp h)
  sl_exec
  have hk1 : k0_chk1 i (run2.sl.r c i P) := chk1_ok i _ H1
  sl_exec
  have hk3 : k0_chk3 i (run2.sl.r_1 c N) (run2.sl.r_2 c P) (run2.sl.r_3 c i P) := chk3_ok i _ _ _
  sl_exec
  have hk2 : k0_chk2 i (run2.sl.r_1 c N) (run2.sl.r_4 c i P) (run2.sl.r_5 c i P) (run2.sl.r_6 c i P) := chk2_ok i _ _ _ _ H2 H18
  have hc4 : k0_cond4 i (run2.sl.r_1 c N) (run2.sl.r_4 c i P) (run2.sl.r_6 c i P) = 1#1 := (cond4_iff i _ _ _ H2).mpr ⟨Hn, H27⟩
  have hc5 : k0_cond5 i (run2.sl.r_1 c N) = 1#1 := (cond5_iff i _ H2).mpr Hu
  have hc11 : ¬ k0_cond11 i (run2.sl.r_1 c N) = 1#1 := fun h => (cond11_iff i _ H2).mp h Hu
  have hc6 : k0_cond6 i (run2.sl.r_1 c N) (run2.sl.r_4 c i P) = 1#1 := (cond6_iff i _ _ H2).mpr Hn
  have h18 : (run2.sl.r_5 c i P).toNat < 8 := H18
  have hj : nj i (run2.sl.r_4 c i P) < 4 := nj_lt i _ _ Hn
  unfold LanesI laneI
  icases HL with ⟨⟨⟨⟨%f00, S00⟩, K00, G00⟩, ⟨%f01, S01⟩, K01, U00⟩, ⟨⟨%f10, S10⟩, K10, G10⟩, ⟨%f11, S11⟩, K11, U10⟩
  ihave G0 := (whole_in c gM XG 0 (f8 (run2.sl.r_5 c i P).toNat) (f8 0) (f4 (nj i (run2.sl.r_4 c i P)))) $$ G00
  ihave U0 := (whole_in c uM XU 0 (f8 (run2.sl.r_5 c i P).toNat) (f8 0) (f4 (nj i (run2.sl.r_4 c i P)))) $$ U00
  ihave G1 := (whole_in c gM XG 1 (f8 (run2.sl.r_5 c i P).toNat) (f8 1) (f4 (nj i (run2.sl.r_4 c i P)))) $$ G10
  ihave U1 := (whole_in c uM XU 1 (f8 (run2.sl.r_5 c i P).toNat) (f8 1) (f4 (nj i (run2.sl.r_4 c i P)))) $$ U10
  sl_exec
  ihave HL := (lanes_0 c XG XU (f8 (run2.sl.r_5 c i P).toNat) (f4 (nj i (run2.sl.r_4 c i P))) (run2.sl.r_7 c i P).toNat Hlo _ _ _ _) $$ [K00 G0 K01 U0 K10 G1 K11 U1]
  · isplitl [K00 G0]
    · isplitl [K00]; · iexact K00
      iexact G0
    isplitl [K01 U0]
    · isplitl [K01]; · iexact K01
      iexact U0
    isplitl [K10 G1]
    · isplitl [K10]; · iexact K10
      iexact G1
    isplitl [K11]; · iexact K11
    iexact U1
  have hk4 : k0_chk4 i (run2.sl.r_1 c N) (run2.sl.r_2 c P) (run2.sl.r_3 c i P) (run2.sl.r_4 c i P) (run2.sl.r_5 c i P) (run2.sl.r_7 c i P) (run2.sl.r_8 c i P) :=
    chk4_ok i _ _ _ _ _ _ _ H2 H18 (Hlo ▸ Nat.zero_le _) Hhi
  ihave Hinv := (inv2_intro c XG XU i (run2.sl.r_2 c P) (run2.sl.r_3 c i P) (run2.sl.r_4 c i P) (run2.sl.r_5 c i P) (run2.sl.r_7 c i P) (run2.sl.r_8 c i P) f
    H18 (nj_lt i _ _ Hn) (Hlo ▸ Nat.zero_le _) Hhi) $$ [HB HO HL]
  · isplitl [HB]; · iexact HB
    isplitl [HO]; · iexact HO
    iexact HL
  sl_exec
  ihave Hx := (inv2_exit c XG XU i (run2.sl.r_2 c P) (run2.sl.r_3 c i P) (run2.sl.r_4 c i P) (run2.sl.r_5 c i P) (run2.sl.r_7 c i P) (run2.sl.r_8 c i P) f (Hlo ▸ Nat.zero_le _) Hhi) $$ Hinv
  icases Hx with ⟨HB, HO, HL⟩
  sl_step
  isplitl [Hp Hn0]
  · isplitl [Hp]; · iexact Hp
    iexact Hn0
  isplitl [Ha]; · iexact Ha
  isplitl [Ho]
  · iexists _
    isplitl [Ho]; · iexact Ho
    ipureintro; exact stored c i arg4 arg7 ga _ f _ _ _ _ _ _ _
  isplitl [HB]; · iexact HB
  isplitl [HO]; · iexact HO
  iexact HL
set_option backward.proofsInPublic true in
seal inv1 inv2 in
/-- The kernel's first point: the first weights are brought in whole, the next weights' transfers start, the rows pass, a share is put away. -/
theorem run1 (ga : Buf (Elt F) (arg4.view.loc (c : Thread nD τ))) (gO : Buf (Elt F) (arg7.view.loc (c : Thread nD τ))) (f : Buf (Elt F) (bM.view.loc (c : Thread nD τ)))
    (H1 : (W1 c i P).toNat < 8) (H18 : (W18 c i P).toNat < 8) (H2 : (W2 c N).toNat ≤ 72)
    (H00 : (i 0).val = 0 ∧ (i 1).val = 0) (Hn : hasNext i (W2 c N) (W11 c i P)) (H27 : W27 c i P = 1#32) (Hlo : (W41 c i P).toNat = 0) (Hhi : (W43 c i P).toNat ≤ 8) :
    PRE c arg4 arg7 P N ga gO f (LanesI c XG XU)
      ⊢ wp frame (wpE (defs₀ (F := F)) 𝒱₀ (c : Thread nD τ) none) Set.univ (body i arg4 harg4 arg7 harg7)
        fun _ => iprop(∃ f1, ⌜Fill (gM.view.read (Elt F) XG) (uM.view.read (Elt F) XU) (bM.view.read (Elt F) f) (bM.view.read (Elt F) f1) 0 0 8 (f8 (W1 c i P).toNat) (f4 0)⌝ ∗ POST c arg4 arg7 P N ga (upPay (arg4.view.read (Elt F) ga) (bM.view.read (Elt F) f1) (curS i (W4 c P) (W7 c i P)))
          (fun f' => Fill (gM.view.read (Elt F) XG) (uM.view.read (Elt F) XU) (bM.view.read (Elt F) f1) (bM.view.read (Elt F) f') (othS i (W4 c P) (W7 c i P)) (W41 c i P).toNat (W43 c i P).toNat (f8 (W18 c i P).toNat) (f4 (nj i (W11 c i P)))) (Lanes c XG XU (f8 (W18 c i P).toNat) (W43 c i P).toNat (f4 (nj i (W11 c i P))))) := by
  unfold PRE POST
  iintro ⟨⟨Hp, Hn0⟩, Ha, Ho, HB, HO, HL⟩
  have Hu : used i (W2 c N) := Hn.1
  have hc1 : k0_cond1 i = 1#1 := (cond1_iff i).mpr H00
  sl_exec
  have hk1 : k0_chk1 i (run1.sl.r c i P) := chk1_ok i _ H1
  sl_exec
  have hk3 : k0_chk3 i (run1.sl.r_1 c N) (run1.sl.r_2 c P) (run1.sl.r_3 c i P) := chk3_ok i _ _ _
  sl_exec
  have h1 : (run1.sl.r c i P).toNat < 8 := H1
  unfold LanesI laneI
  icases HL with ⟨⟨⟨⟨%f00, S00⟩, K00, G00⟩, ⟨%f01, S01⟩, K01, U00⟩, ⟨⟨%f10, S10⟩, K10, G10⟩, ⟨%f11, S11⟩, K11, U10⟩
  ihave G0 := (whole_in c gM XG 0 (f8 (run1.sl.r c i P).toNat) (f8 0) (f4 0)) $$ G00
  ihave U0 := (whole_in c uM XU 0 (f8 (run1.sl.r c i P).toNat) (f8 0) (f4 0)) $$ U00
  ihave G1 := (whole_in c gM XG 1 (f8 (run1.sl.r c i P).toNat) (f8 1) (f4 0)) $$ G10
  ihave U1 := (whole_in c uM XU 1 (f8 (run1.sl.r c i P).toNat) (f8 1) (f4 0)) $$ U10
  sl_exec
  ihave HL := (lanes_0 c XG XU (f8 (run1.sl.r c i P).toNat) (f4 0) 0 rfl _ _ _ _) $$ [K00 G0 K01 U0 K10 G1 K11 U1]
  · isplitl [K00 G0]
    · isplitl [K00]; · iexact K00
      iexact G0
    isplitl [K01 U0]
    · isplitl [K01]; · iexact K01
      iexact U0
    isplitl [K10 G1]
    · isplitl [K10]; · iexact K10
      iexact G1
    isplitl [K11]; · iexact K11
    iexact U1
  ihave Hinv := (inv1_intro c XG XU f (run1.sl.r c i P) H1) $$ [HB HO HL]
  · isplitl [HB]; · iexact HB
    isplitl [HO]; · iexact HO
    iexact HL
  sl_exec
  ihave Hx := (inv1_exit c XG XU f (run1.sl.r c i P)) $$ Hinv
  icases Hx with ⟨⟨%f1, HB, %hf1⟩, HO, HL⟩
  have hk2 : k0_chk2 i (run1.sl.r_1 c N) (run1.sl.r_4 c i P) (run1.sl.r_5 c i P) (run1.sl.r_6 c i P) := chk2_ok i _ _ _ _ H2 H18
  have hc4 : k0_cond4 i (run1.sl.r_1 c N) (run1.sl.r_4 c i P) (run1.sl.r_6 c i P) = 1#1 := (cond4_iff i _ _ _ H2).mpr ⟨Hn, H27⟩
  have hc5 : k0_cond5 i (run1.sl.r_1 c N) = 1#1 := (cond5_iff i _ H2).mpr Hu
  have hc11 : ¬ k0_cond11 i (run1.sl.r_1 c N) = 1#1 := fun h => (cond11_iff i _ H2).mp h Hu
  have hc6 : k0_cond6 i (run1.sl.r_1 c N) (run1.sl.r_4 c i P) = 1#1 := (cond6_iff i _ _ H2).mpr Hn
  have h18 : (run1.sl.r_5 c i P).toNat < 8 := H18
  have hj : nj i (run1.sl.r_4 c i P) < 4 := nj_lt i _ _ Hn
  unfold LanesI laneI
  icases HL with ⟨⟨⟨⟨%f00, S00⟩, K00, G00⟩, ⟨%f01, S01⟩, K01, U00⟩, ⟨⟨%f10, S10⟩, K10, G10⟩, ⟨%f11, S11⟩, K11, U10⟩
  ihave G0 := (whole_in c gM XG 0 (f8 (run1.sl.r_5 c i P).toNat) (f8 0) (f4 (nj i (run1.sl.r_4 c i P)))) $$ G00
  ihave U0 := (whole_in c uM XU 0 (f8 (run1.sl.r_5 c i P).toNat) (f8 0) (f4 (nj i (run1.sl.r_4 c i P)))) $$ U00
  ihave G1 := (whole_in c gM XG 1 (f8 (run1.sl.r_5 c i P).toNat) (f8 1) (f4 (nj i (run1.sl.r_4 c i P)))) $$ G10
  ihave U1 := (whole_in c uM XU 1 (f8 (run1.sl.r_5 c i P).toNat) (f8 1) (f4 (nj i (run1.sl.r_4 c i P)))) $$ U10
  sl_exec
  ihave HL := (lanes_0 c XG XU (f8 (run1.sl.r_5 c i P).toNat) (f4 (nj i (run1.sl.r_4 c i P))) (run1.sl.r_7 c i P).toNat Hlo _ _ _ _) $$ [K00 G0 K01 U0 K10 G1 K11 U1]
  · isplitl [K00 G0]
    · isplitl [K00]; · iexact K00
      iexact G0
    isplitl [K01 U0]
    · isplitl [K01]; · iexact K01
      iexact U0
    isplitl [K10 G1]
    · isplitl [K10]; · iexact K10
      iexact G1
    isplitl [K11]; · iexact K11
    iexact U1
  have hk4 : k0_chk4 i (run1.sl.r_1 c N) (run1.sl.r_2 c P) (run1.sl.r_3 c i P) (run1.sl.r_4 c i P) (run1.sl.r_5 c i P) (run1.sl.r_7 c i P) (run1.sl.r_8 c i P) :=
    chk4_ok i _ _ _ _ _ _ _ H2 H18 (Hlo ▸ Nat.zero_le _) Hhi
  ihave Hinv := (inv2_intro c XG XU i (run1.sl.r_2 c P) (run1.sl.r_3 c i P) (run1.sl.r_4 c i P) (run1.sl.r_5 c i P) (run1.sl.r_7 c i P) (run1.sl.r_8 c i P) f1
    H18 (nj_lt i _ _ Hn) (Hlo ▸ Nat.zero_le _) Hhi) $$ [HB HO HL]
  · isplitl [HB]; · iexact HB
    isplitl [HO]; · iexact HO
    iexact HL
  sl_exec
  ihave Hx := (inv2_exit c XG XU i (run1.sl.r_2 c P) (run1.sl.r_3 c i P) (run1.sl.r_4 c i P) (run1.sl.r_5 c i P) (run1.sl.r_7 c i P) (run1.sl.r_8 c i P) f1 (Hlo ▸ Nat.zero_le _) Hhi) $$ Hinv
  icases Hx with ⟨HB, HO, HL⟩
  sl_step
  iexists f1
  isplitr; · ipureintro; exact hf1
  isplitl [Hp Hn0]
  · isplitl [Hp]; · iexact Hp
    iexact Hn0
  isplitl [Ha]; · iexact Ha
  isplitl [Ho]
  · iexists _
    isplitl [Ho]; · iexact Ho
    ipureintro; exact stored c i arg4 arg7 ga _ f1 _ _ _ _ _ _ _
  isplitl [HB]; · iexact HB
  isplitl [HO]; · iexact HO
  iexact HL
end Body

end Cert.Proof.UpI

end
-- ==== Proof.UpIPlan.lean ====
/-
  The tile plan: what the tables say of a launch, the resident buffer between points, and how a point moves it on.
-/
module

public import proofs.«01_k».proof.Proof.UpIBody
public import Idealize.ShloMosaic.Lib.Pipeline.ValueKit.Geometry

@[expose] public section

set_option maxRecDepth 16384

noncomputable section

namespace Cert.Proof.UpI

open Cert.Kernel2Ideal Cert.Kernel2Ideal.Gen
open Idealize.ShloMosaic Idealize.ShloMosaic.ValueIdx

variable {F : FTy → Type} [FloatOps F]

/-- What a launch asks of the plan's rows (expert, first, from, to, next expert, last, group, groups) and the count of
    used tiles: at least one tile is used, the tiles of a group follow each other and its shares of the next weights
    abut from the first chunk to the last, a new group takes the weights the one before it announced, and the last
    group announces the first tile's expert. -/
structure PlanOK (q : ℕ → ℕ → ℕ) (nu : ℕ) : Prop where
  nu1 : 1 ≤ nu
  nu72 : nu ≤ 72
  e8 : ∀ t < 72, q 0 t < 8
  nx8 : ∀ t < 72, q 4 t < 8
  lohi : ∀ t < nu, q 2 t ≤ q 3 t ∧ q 3 t ≤ 8
  fi0 : q 1 0 = 1
  gr0 : q 6 0 = 0
  filo : ∀ t < nu, q 1 t = 1 → q 2 t = 0
  next : ∀ t, t + 1 < nu → (q 1 (t + 1) = 1 ∧ q 3 t = 8 ∧ q 0 (t + 1) = q 4 t ∧ q 5 t ≠ 1 ∧ q 6 (t + 1) = q 6 t + 1)
    ∨ (q 1 (t + 1) ≠ 1 ∧ q 0 (t + 1) = q 0 t ∧ q 4 (t + 1) = q 4 t ∧ q 5 (t + 1) = q 5 t ∧ q 6 (t + 1) = q 6 t ∧ q 2 (t + 1) = q 3 t)
  last : ∀ t, t + 1 = nu → q 3 t = 8 ∧ q 5 t = 1 ∧ q 4 t = q 0 0 ∧ q 6 t + 1 = q 7 0

section Plan
variable (q : ℕ → ℕ → ℕ) (nu : ℕ)

/-- There are weights left to stream at tile `t` of column `j`. -/
def More (j t : ℕ) : Prop := t < nu ∧ ¬ (q 5 t = 1 ∧ j = 3)
/-- The column of the weights streamed next. -/
def nxJ (j t : ℕ) : ℕ := if q 5 t = 1 then j + 1 else j
/-- The resident slot in use. -/
def slN (j t : ℕ) : ℕ := (j * q 7 0 + q 6 t) % 2

variable (XG XU : S8x2048x5632.Idx → Elt F .f32)

/-- Chunks below `n` of resident slot `s` hold the weights of expert `e`, column `j`. -/
def Res (B : S2x2x2048x1408.Idx → Elt F .bf16) (s n e j : ℕ) : Prop :=
  ∀ x : S2x2x2048x1408.Idx, (x 0).val = s → (x 2).val < n * 256 →
    (x 1 = (0 : Fin 2) → B x = wt XG (f8 e) (f4 j) x) ∧ (x 1 = (1 : Fin 2) → B x = wt XU (f8 e) (f4 j) x)

/-- The resident buffer before tile `t` of column `j`. -/
structure Good (j t : ℕ) (B : S2x2x2048x1408.Idx → Elt F .bf16) : Prop where
  now : j < 4 → t < nu → ¬ (j = 0 ∧ t = 0) → Res XG XU B (slN q j t) 8 (q 0 t) j
  nxt : j < 4 → q 1 t ≠ 1 → More q nu j t → Res XG XU B (1 - slN q j t) (q 2 t) (q 4 t) (nxJ q j t)
  idle : nu ≤ t → j < 3 → Res XG XU B ((j + 1) * q 7 0 % 2) 8 (q 0 0) (j + 1)

/-- The resident buffer after it. -/
structure After (j t : ℕ) (B : S2x2x2048x1408.Idx → Elt F .bf16) : Prop where
  nxt : More q nu j t → Res XG XU B (1 - slN q j t) (q 3 t) (q 4 t) (nxJ q j t)
  now : t < nu → Res XG XU B (slN q j t) 8 (q 0 t) j
  idle : nu ≤ t → j < 3 → Res XG XU B ((j + 1) * q 7 0 % 2) 8 (q 0 0) (j + 1)

theorem mod_flip (a : ℕ) : 1 - a % 2 = (a + 1) % 2 := by omega
theorem div_step {j t : ℕ} (ht : t < 72) : (j * 72 + t) / 72 = j := by omega
theorem mod_step {j t : ℕ} (ht : t < 72) : (j * 72 + t) % 72 = t := by omega

variable {q nu XG XU}

/-- A point's buffer serves the next point. -/
theorem After.good (ok : PlanOK q nu) {j t : ℕ} (hj : j < 4) (ht : t < 72) {B : S2x2x2048x1408.Idx → Elt F .bf16} (A : After q nu XG XU j t B) :
    Good q nu XG XU ((j * 72 + t + 1) / 72) ((j * 72 + t + 1) % 72) B := by
  have hn := ok.nu72
  by_cases h71 : t = 71
  · subst h71
    rw [show (j * 72 + 71 + 1) / 72 = j + 1 by omega, show (j * 72 + 71 + 1) % 72 = 0 by omega]
    refine ⟨fun h4 _ _ => ?_, fun _ h _ => absurd ok.fi0 h, fun h _ => absurd ok.nu1 (by omega)⟩
    have e : slN q (j + 1) 0 = (j + 1) * q 7 0 % 2 := by unfold slN; rw [ok.gr0]; rfl
    rw [e]
    by_cases hu : 71 < nu
    · obtain ⟨a, b, c, d⟩ := ok.last 71 (by omega)
      have hm : More q nu j 71 := ⟨hu, fun h => by omega⟩
      have := A.nxt hm
      rw [a, c] at this
      unfold slN at this
      rw [mod_flip, show nxJ q j 71 = j + 1 from if_pos b, show j * q 7 0 + q 6 71 + 1 = (j + 1) * q 7 0 by rw [Nat.add_mul]; omega] at this
      exact this
    · exact A.idle (by omega) (by omega)
  · rw [show (j * 72 + t + 1) / 72 = j by omega, show (j * 72 + t + 1) % 72 = t + 1 by omega]
    by_cases h1 : t + 1 < nu
    · rcases ok.next t h1 with ⟨a, b, c, d, e⟩ | ⟨a, b, c, d, e, f⟩
      · refine ⟨fun _ _ _ => ?_, fun _ h => absurd a h, fun h => absurd h1 (by omega)⟩
        have := A.nxt ⟨by omega, fun h => d h.1⟩
        rw [b] at this
        unfold slN at this ⊢
        rw [mod_flip, show nxJ q j t = j from if_neg d] at this
        rw [c, e, ← Nat.add_assoc]
        exact this
      · have es : slN q j (t + 1) = slN q j t := by unfold slN; rw [e]
        refine ⟨fun _ _ _ => ?_, fun _ _ hm => ?_, fun h => absurd h1 (by omega)⟩
        · rw [es, b]; exact A.now (by omega)
        · have hm' : More q nu j t := ⟨by omega, fun h => hm.2 ⟨d.trans h.1, h.2⟩⟩
          rw [es, c, f, show nxJ q j (t + 1) = nxJ q j t by unfold nxJ; rw [d]]
          exact A.nxt hm'
    · refine ⟨fun _ h => absurd h h1, fun _ _ h => absurd h.1 h1, fun h h3 => ?_⟩
      by_cases hu : t < nu
      · obtain ⟨a, b, c, d⟩ := ok.last t (by omega)
        have := A.nxt ⟨hu, fun h => by omega⟩
        rw [a, c] at this
        unfold slN at this
        rw [mod_flip, show nxJ q j t = j + 1 from if_pos b, show j * q 7 0 + q 6 t + 1 = (j + 1) * q 7 0 by rw [Nat.add_mul]; omega] at this
        exact this
      · exact A.idle (by omega) h3

/-- A share put away: the slot in use is kept, the other one's share grows. -/
theorem Res.other {B B' : S2x2x2048x1408.Idx → Elt F .bf16} {s : Fin 2} {a b : ℕ} {e : Fin 8} {j : Fin 4} {s' n e' j' : ℕ} (hs : s' ≠ s.val)
    (R : Res XG XU B s' n e' j') (h : Fill XG XU B B' s a b e j) : Res XG XU B' s' n e' j' := fun x h0 h2 => by
  have hx : B' x = B x := h.other x (Or.inl fun e => hs (by rw [← h0, e]))
  rw [hx]; exact R x h0 h2

theorem Res.fill {B B' : S2x2x2048x1408.Idx → Elt F .bf16} {s : Fin 2} {a b e j : ℕ}
    (R : Res XG XU B s.val a e j) (h : Fill XG XU B B' s a b (f8 e) (f4 j)) : Res XG XU B' s.val b e j := fun x h0 h2 => by
  have hs : x 0 = s := Fin.ext h0
  by_cases ha : a * 256 ≤ (x 2).val
  · exact ⟨fun h1 => h.gate x hs h1 ha h2, fun h1 => h.up x hs h1 ha h2⟩
  · rw [h.other x (Or.inr (Or.inl (by omega)))]; exact R x h0 (by omega)

theorem Res.zero {B : S2x2x2048x1408.Idx → Elt F .bf16} {s e j : ℕ} : Res XG XU B s 0 e j := fun x _ h => absurd h (by omega)

/-- A resident tile is the weights. -/
theorem Res.tile {B : S2x2x2048x1408.Idx → Elt F .bf16} {s : Fin 2} {e j : ℕ} (R : Res XG XU B s.val 8 e j) :
    UpI.tile B s 0 = (fun y => tc (XG (ix3 (f8 e) (y 2) (col (f4 j) (y 3))))) ∧ UpI.tile B s 1 = (fun y => tc (XU (ix3 (f8 e) (y 2) (col (f4 j) (y 3))))) := by
  have key : ∀ (m : Fin 2) (y : S1x1x2048x1408.Idx), ∃ x : S2x2x2048x1408.Idx, UpI.tile B s m y = B x ∧ x 0 = s ∧ x 1 = m ∧ x 2 = y 2 ∧ x 3 = y 3 := fun m y => by
    have h0 : (y 0).val = 0 := by have : (y 0).val < 1 := (y 0).isLt; omega
    have h1 : (y 1).val = 0 := by have : (y 1).val < 1 := (y 1).isLt; omega
    refine ⟨_, rfl, ?_, ?_, ?_, ?_⟩
    · exact Fin.ext ((Idealize.ShloMosaic.ValueKit.rect_emb_unit_val _ _ _ _ _).trans (by show s.val + (y 0).val = s.val; omega))
    · exact Fin.ext ((Idealize.ShloMosaic.ValueKit.rect_emb_unit_val _ _ _ _ _).trans (by show m.val + (y 1).val = m.val; omega))
    · exact Fin.ext ((Idealize.ShloMosaic.ValueKit.rect_emb_unit_val _ _ _ _ _).trans (Nat.zero_add _))
    · exact Fin.ext ((Idealize.ShloMosaic.ValueKit.rect_emb_unit_val _ _ _ _ _).trans (Nat.zero_add _))
  constructor
  · funext y
    obtain ⟨x, h, h0, h1, h2, h3⟩ := key 0 y
    rw [h, (R x (by rw [h0]) (x 2).isLt).1 h1]
    unfold wt; rw [h2, h3]
  · funext y
    obtain ⟨x, h, h0, h1, h2, h3⟩ := key 1 y
    rw [h, (R x (by rw [h0]) (x 2).isLt).2 h1]
    unfold wt; rw [h2, h3]
end Plan

end Cert.Proof.UpI

end
-- ==== Proof.UpIPoint.lean ====
/-
  The body at a grid point under the plan: one statement over the five cases.
-/
module

public import proofs.«01_k».proof.Proof.UpIPlan

@[expose] public section

set_option maxRecDepth 16384

noncomputable section

namespace Cert.Proof.UpI

open Cert.Kernel2Ideal Cert.Kernel2Ideal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-- The plan's entries as naturals. -/
def qOf (P : S8x72.Idx → BitVec 32) (r t : ℕ) : ℕ := (P (ix2 (f8 r) (⟨t % 72, Nat.mod_lt _ (by decide)⟩ : Fin 72))).toNat
/-- The count of used tiles. -/
def nuOf (N : S1.Idx → BitVec 32) : ℕ := (N (ix1 0)).toNat

section Pure
variable {q : ℕ → ℕ → ℕ} {nu : ℕ} {XG XU : S8x2048x5632.Idx → Elt F .f32} {B B' : S2x2x2048x1408.Idx → Elt F .bf16}

/-- What a point that streams leaves. -/
theorem after_more {j t : ℕ} {s : Fin 2} (hs : s.val = 1 - slN q j t) (hm : More q nu j t)
    (h : Fill XG XU B B' s (q 2 t) (q 3 t) (f8 (q 4 t)) (f4 (nxJ q j t)))
    (hnow : Res XG XU B (slN q j t) 8 (q 0 t) j) (hlo : q 1 t = 1 → q 2 t = 0) (hnx : q 1 t ≠ 1 → Res XG XU B (1 - slN q j t) (q 2 t) (q 4 t) (nxJ q j t)) :
    After q nu XG XU j t B' := by
  have hlt : slN q j t < 2 := Nat.mod_lt _ (by decide)
  refine ⟨fun _ => ?_, fun _ => hnow.other (by omega) h, fun h' => absurd hm.1 (by omega)⟩
  rw [← hs]
  refine Res.fill ?_ h
  by_cases h1 : q 1 t = 1
  · rw [hlo h1]; exact Res.zero
  · rw [hs]; exact hnx h1

/-- What a used point that does not stream leaves. -/
theorem after_last {j t : ℕ} (hu : t < nu) (hm : ¬ More q nu j t) (hnow : Res XG XU B (slN q j t) 8 (q 0 t) j) : After q nu XG XU j t B :=
  ⟨fun h => absurd h hm, fun _ => hnow, fun h => absurd hu (by omega)⟩

/-- What an unused point leaves. -/
theorem after_idle {j t : ℕ} (hu : ¬ t < nu) (G : Good q nu XG XU j t B) : After q nu XG XU j t B :=
  ⟨fun h => absurd h.1 hu, fun h => absurd h hu, fun h h3 => G.idle h h3⟩

variable (q nu XG XU)
/-- The block a point stores: the rows through the tile's expert if the tile is used, else zeros. -/
def outV (A : S256x2048.Idx → Elt F .bf16) (j t : ℕ) : FVec F S256x1408 .bf16 :=
  if t < nu then k0_pay1 A (fun y => tc (XG (ix3 (f8 (q 0 t)) (y 2) (col (f4 j) (y 3))))) (fun y => tc (XU (ix3 (f8 (q 0 t)) (y 2) (col (f4 j) (y 3)))))
  else k0_pay4 (F := F)
variable {q nu XG XU}

theorem upPay_eq (A : S256x2048.Idx → Elt F .bf16) {j t : ℕ} {s : Fin 2} (hs : s.val = slN q j t) (hu : t < nu) (R : Res XG XU B (slN q j t) 8 (q 0 t) j) :
    upPay A B s = outV q nu XG XU A j t := by
  rw [← hs] at R
  unfold upPay outV
  rw [if_pos hu, R.tile.1, R.tile.2]
end Pure

section Lane
variable (q : ℕ → ℕ → ℕ) (nu : ℕ) (c : Dev nD) (XG : Buf (Elt F) (gM.view.loc (c : Thread nD τ))) (XU : Buf (Elt F) (uM.view.loc (c : Thread nD τ)))

open Classical in
/-- The lanes before tile `t` of column `j`. -/
def LB (j t : ℕ) : sProp 𝕄 := if q 1 t ≠ 1 ∧ More q nu j t then Lanes c XG XU (f8 (q 4 t)) (q 2 t) (f4 (nxJ q j t)) else LanesI c XG XU
open Classical in
/-- The lanes after it. -/
def LA (j t : ℕ) : sProp 𝕄 := if More q nu j t then Lanes c XG XU (f8 (q 4 t)) (q 3 t) (f4 (nxJ q j t)) else LanesI c XG XU

variable {q nu}
/-- A point's lanes serve the next point. -/
theorem lanes_next (ok : PlanOK q nu) {j t : ℕ} (hj : j < 4) (ht : t < 72) :
    LA q nu c XG XU j t = LB q nu c XG XU ((j * 72 + t + 1) / 72) ((j * 72 + t + 1) % 72) := by
  have hn := ok.nu72
  unfold LA LB
  by_cases h71 : t = 71
  · subst h71
    rw [show (j * 72 + 71 + 1) % 72 = 0 by omega, if_neg (show ¬ (q 1 0 ≠ 1 ∧ More q nu ((j * 72 + 71 + 1) / 72) 0) from fun h => h.1 ok.fi0)]
    by_cases hm : More q nu j 71
    · rw [if_pos hm, (ok.last 71 (by have := hm.1; omega)).1, lanes_8]
    · rw [if_neg hm]
  · rw [show (j * 72 + t + 1) / 72 = j by omega, show (j * 72 + t + 1) % 72 = t + 1 by omega]
    by_cases h1 : t + 1 < nu
    · rcases ok.next t h1 with ⟨a, b, c', d, e⟩ | ⟨a, b, c', d, e, f⟩
      · rw [if_neg (show ¬ (q 1 (t + 1) ≠ 1 ∧ More q nu j (t + 1)) from fun h => h.1 a), if_pos (show More q nu j t from ⟨by omega, fun h => d h.1⟩), b, lanes_8]
      · have hiff : More q nu j (t + 1) ↔ More q nu j t := by
          unfold More; rw [d]; constructor <;> (rintro ⟨x, y⟩; exact ⟨by omega, y⟩)
        have hnj : nxJ q j (t + 1) = nxJ q j t := by unfold nxJ; rw [d]
        by_cases hm : More q nu j t
        · rw [if_pos hm, if_pos ⟨a, hiff.mpr hm⟩, c', f, hnj]
        · rw [if_neg hm, if_neg (fun h => hm (hiff.mp h.2))]
    · rw [if_neg (show ¬ (q 1 (t + 1) ≠ 1 ∧ More q nu j (t + 1)) from fun h => h1 h.2.1)]
      by_cases hm : More q nu j t
      · rw [if_pos hm, (ok.last t (by have := hm.1; omega)).1, lanes_8]
      · rw [if_neg hm]
end Lane

section Point
variable (c : Dev nD) (XG : Buf (Elt F) (gM.view.loc (c : Thread nD τ))) (XU : Buf (Elt F) (uM.view.loc (c : Thread nD τ)))
  (i : grid0.Coords)
  (arg4 : Memref sig .tc .vmem S256x2048 .bf16) (harg4 : arg4.IsWhole) (arg7 : Memref sig .tc .vmem S256x1408 .bf16) (harg7 : arg7.IsWhole)
  (P : Buf (Elt F) (pM.view.loc (c : Thread nD τ))) (N : Buf (Elt F) (nM.view.loc (c : Thread nD τ)))

/-- A plan word read at its closed offsets. -/
theorem rd_eq (off : Fin 2 → Nat) (inb : ∀ a, off a + S1x1.size a ≤ S8x72.size a) (r t : ℕ) (hr : r < 8) (ht : t < 72) (h : off = ![r, t]) :
    (rd c P off inb).toNat = qOf P r t := by
  subst h
  unfold qOf
  refine congrArg (fun x => (P x : BitVec 32).toNat) (funext fun a => Fin.ext ?_)
  fin_cases a
  · show r + 1 * 0 = r % 8
    omega
  · show t + 1 * 0 = t % 72
    omega
theorem w1_eq : (W1 c i P).toNat = qOf P 0 (i 1).val := rd_eq c P _ _ 0 _ (by decide) (i1_lt i) (by
  have := i1_lt i; simp only [k0_off1, Scalar.indexCast, BitVec.toNat_ofNat]; rw [Nat.mod_eq_of_lt (by omega)])
theorem w7_eq : (W7 c i P).toNat = qOf P 6 (i 1).val := rd_eq c P _ _ 6 _ (by decide) (i1_lt i) (by
  have := i1_lt i; simp only [k0_off2, Scalar.indexCast, BitVec.toNat_ofNat]; rw [Nat.mod_eq_of_lt (by omega)])
theorem w11_eq : (W11 c i P).toNat = qOf P 5 (i 1).val := rd_eq c P _ _ 5 _ (by decide) (i1_lt i) (by
  have := i1_lt i; simp only [k0_off3, Scalar.indexCast, BitVec.toNat_ofNat]; rw [Nat.mod_eq_of_lt (by omega)])
theorem w18_eq : (W18 c i P).toNat = qOf P 4 (i 1).val := rd_eq c P _ _ 4 _ (by decide) (i1_lt i) (by
  have := i1_lt i; simp only [k0_off4, Scalar.indexCast, BitVec.toNat_ofNat]; rw [Nat.mod_eq_of_lt (by omega)])
theorem w27_eq : (W27 c i P).toNat = qOf P 1 (i 1).val := rd_eq c P _ _ 1 _ (by decide) (i1_lt i) (by
  have := i1_lt i; simp only [k0_off22, Scalar.indexCast, BitVec.toNat_ofNat]; rw [Nat.mod_eq_of_lt (by omega)])
theorem w41_eq : (W41 c i P).toNat = qOf P 2 (i 1).val := rd_eq c P _ _ 2 _ (by decide) (i1_lt i) (by
  have := i1_lt i; simp only [k0_off27, Scalar.indexCast, BitVec.toNat_ofNat]; rw [Nat.mod_eq_of_lt (by omega)])
theorem w43_eq : (W43 c i P).toNat = qOf P 3 (i 1).val := rd_eq c P _ _ 3 _ (by decide) (i1_lt i) (by
  have := i1_lt i; simp only [k0_off28, Scalar.indexCast, BitVec.toNat_ofNat]; rw [Nat.mod_eq_of_lt (by omega)])
theorem w4_eq : (W4 c P).toNat = qOf P 7 0 := rd_eq c P _ _ 7 0 (by decide) (by decide) rfl
theorem w2_eq : (W2 c N).toNat = nuOf N := by
  unfold nuOf
  refine congrArg (fun x => (N x : BitVec 32).toNat) (funext fun a => Fin.ext ?_)
  fin_cases a; rfl

theorem one_iff (v : BitVec 32) : v = 1#32 ↔ v.toNat = 1 := ⟨fun h => by rw [h]; rfl, fun h => BitVec.eq_of_toNat_eq h⟩

theorem more_iff : hasNext i (W2 c N) (W11 c i P) ↔ More (qOf P) (nuOf N) (i 0).val (i 1).val := by
  unfold hasNext More; rw [w2_eq, one_iff, w11_eq]
theorem nj_eq : nj i (W11 c i P) = nxJ (qOf P) (i 0).val (i 1).val := by
  unfold nj nxJ
  by_cases h : W11 c i P = 1#32
  · rw [if_pos h, if_pos (by rw [← w11_eq c i P, ← one_iff]; exact h)]
  · rw [if_neg h, if_neg (by rw [← w11_eq c i P, ← one_iff]; exact h)]
theorem cur_eq : cur i (W4 c P) (W7 c i P) = slN (qOf P) (i 0).val (i 1).val := by
  unfold cur slN; rw [w4_eq, w7_eq]

/-- A weaker account of what a point leaves. -/
theorem post_mono {ga : Buf (Elt F) (arg4.view.loc (c : Thread nD τ))} {pay pay' : S256x1408.Idx → Elt F .bf16}
    {R R' : Buf (Elt F) (bM.view.loc (c : Thread nD τ)) → Prop} {L : sProp 𝕄} (hp : pay = pay') (hR : ∀ f, R f → R' f) :
    POST c arg4 arg7 P N ga pay R L ⊢ POST c arg4 arg7 P N ga pay' R' L := by
  subst hp
  unfold POST
  iintro ⟨HT, HA, HO, ⟨%f', HB, %hf⟩, HW, HL⟩
  isplitl [HT]; · iexact HT
  isplitl [HA]; · iexact HA
  isplitl [HO]; · iexact HO
  isplitl [HB]
  · iexists f'
    isplitl [HB]; · iexact HB
    ipureintro; exact hR f' hf
  isplitl [HW]; · iexact HW
  iexact HL

/-- A point under the plan: the block is the point's, the resident buffer and the lanes serve the next point. -/
theorem point (ok : PlanOK (qOf P) (nuOf N)) (ga : Buf (Elt F) (arg4.view.loc (c : Thread nD τ))) (gO : Buf (Elt F) (arg7.view.loc (c : Thread nD τ)))
    (f : Buf (Elt F) (bM.view.loc (c : Thread nD τ)))
    (G : Good (qOf P) (nuOf N) (gM.view.read (Elt F) XG) (uM.view.read (Elt F) XU) (i 0).val (i 1).val (bM.view.read (Elt F) f)) :
    PRE c arg4 arg7 P N ga gO f (LB (qOf P) (nuOf N) c XG XU (i 0).val (i 1).val)
      ⊢ wp frame (wpE (defs₀ (F := F)) 𝒱₀ (c : Thread nD τ) none) Set.univ (body i arg4 harg4 arg7 harg7)
        fun _ => POST c arg4 arg7 P N ga (outV (qOf P) (nuOf N) (gM.view.read (Elt F) XG) (uM.view.read (Elt F) XU) (arg4.view.read (Elt F) ga) (i 0).val (i 1).val)
          (fun f' => After (qOf P) (nuOf N) (gM.view.read (Elt F) XG) (uM.view.read (Elt F) XU) (i 0).val (i 1).val (bM.view.read (Elt F) f'))
          (LA (qOf P) (nuOf N) c XG XU (i 0).val (i 1).val) := by
  have hj := i0_lt i
  have ht := i1_lt i
  have H1 : (W1 c i P).toNat < 8 := by rw [w1_eq]; exact ok.e8 _ ht
  have H18 : (W18 c i P).toNat < 8 := by rw [w18_eq]; exact ok.nx8 _ ht
  have H2 : (W2 c N).toNat ≤ 72 := by rw [w2_eq]; exact ok.nu72
  have hs : (curS i (W4 c P) (W7 c i P)).val = slN (qOf P) (i 0).val (i 1).val := cur_eq c i P
  have ho : (othS i (W4 c P) (W7 c i P)).val = 1 - slN (qOf P) (i 0).val (i 1).val := by rw [← cur_eq c i P]; rfl
  by_cases hu : (i 1).val < nuOf N
  · have hlohi := ok.lohi _ hu
    have Hlo : (W41 c i P).toNat ≤ (W43 c i P).toNat := by rw [w41_eq, w43_eq]; exact hlohi.1
    have Hhi : (W43 c i P).toNat ≤ 8 := by rw [w43_eq]; exact hlohi.2
    by_cases hm : More (qOf P) (nuOf N) (i 0).val (i 1).val
    · have Hn := (more_iff c i P N).mpr hm
      have eLA : LA (qOf P) (nuOf N) c XG XU (i 0).val (i 1).val = Lanes c XG XU (f8 (W18 c i P).toNat) (W43 c i P).toNat (f4 (nj i (W11 c i P))) := by
        unfold LA; rw [if_pos hm, w18_eq, w43_eq, nj_eq]
      rw [eLA]
      by_cases h1 : qOf P 1 (i 1).val = 1
      · have H27 : W27 c i P = 1#32 := by rw [one_iff, w27_eq]; exact h1
        have hlo0 := ok.filo _ hu h1
        have Hlo0 : (W41 c i P).toNat = 0 := by rw [w41_eq]; exact hlo0
        have eLB : LB (qOf P) (nuOf N) c XG XU (i 0).val (i 1).val = LanesI c XG XU := if_neg fun h => h.1 h1
        rw [eLB]
        by_cases H00 : (i 0).val = 0 ∧ (i 1).val = 0
        · refine (run1 c XG XU i arg4 harg4 arg7 harg7 P N ga gO f H1 H18 H2 H00 Hn H27 Hlo0 Hhi).trans (wp_mono _ _ _ fun _ => ?_)
          iintro ⟨%f1, %hf1, HP⟩
          have hnow : Res (gM.view.read (Elt F) XG) (uM.view.read (Elt F) XU) (bM.view.read (Elt F) f1) (slN (qOf P) (i 0).val (i 1).val) 8 (qOf P 0 (i 1).val) (i 0).val := by
            rw [w1_eq] at hf1
            have := Res.fill (s := 0) (a := 0) (j := 0) Res.zero hf1
            have e : slN (qOf P) (i 0).val (i 1).val = 0 := by unfold slN; rw [H00.1, H00.2, ok.gr0]; simp
            rw [e, H00.1]; exact this
          iapply (post_mono c arg4 arg7 P N (upPay_eq _ hs hu hnow) (fun f' (hf' : Fill (gM.view.read (Elt F) XG) (uM.view.read (Elt F) XU) (bM.view.read (Elt F) f1) (bM.view.read (Elt F) f') (othS i (W4 c P) (W7 c i P)) (W41 c i P).toNat (W43 c i P).toNat (f8 (W18 c i P).toNat) (f4 (nj i (W11 c i P)))) => by
            rw [w41_eq, w43_eq, w18_eq, nj_eq] at hf'
            exact after_more ho hm hf' hnow (fun _ => hlo0) (fun h => absurd h1 h)))
          iexact HP
        · have hnow := G.now hj hu H00
          refine (run2 c XG XU i arg4 harg4 arg7 harg7 P N ga gO f H1 H18 H2 H00 Hn H27 Hlo0 Hhi).trans (wp_mono _ _ _ fun _ => ?_)
          refine post_mono c arg4 arg7 P N (upPay_eq _ hs hu hnow) (fun f' hf' => ?_)
          rw [w41_eq, w43_eq, w18_eq, nj_eq] at hf'
          exact after_more ho hm hf' hnow (fun _ => hlo0) (fun h => absurd h1 h)
      · have H27 : W27 c i P ≠ 1#32 := fun h => h1 (by rw [← w27_eq c i P, h]; rfl)
        have H00 : ¬ ((i 0).val = 0 ∧ (i 1).val = 0) := fun h => h1 (by rw [h.2]; exact ok.fi0)
        have eLB : LB (qOf P) (nuOf N) c XG XU (i 0).val (i 1).val = Lanes c XG XU (f8 (W18 c i P).toNat) (W41 c i P).toNat (f4 (nj i (W11 c i P))) := by
          unfold LB; rw [if_pos ⟨h1, hm⟩, w18_eq, w41_eq, nj_eq]
        rw [eLB]
        have hnow := G.now hj hu H00
        refine (run3 c XG XU i arg4 harg4 arg7 harg7 P N ga gO f H1 H18 H2 H00 Hn H27 Hlo Hhi).trans (wp_mono _ _ _ fun _ => ?_)
        refine post_mono c arg4 arg7 P N (upPay_eq _ hs hu hnow) (fun f' hf' => ?_)
        rw [w41_eq, w43_eq, w18_eq, nj_eq] at hf'
        exact after_more ho hm hf' hnow (fun h => absurd h h1) (fun _ => G.nxt hj h1 hm)
    · have Hn : ¬ hasNext i (W2 c N) (W11 c i P) := fun h => hm ((more_iff c i P N).mp h)
      have Hu : used i (W2 c N) := by unfold used; rw [w2_eq]; exact hu
      have h3 : (i 0).val = 3 := Classical.byContradiction fun h => hm ⟨hu, fun h' => h h'.2⟩
      have H00 : ¬ ((i 0).val = 0 ∧ (i 1).val = 0) := fun h => by omega
      have eL : LB (qOf P) (nuOf N) c XG XU (i 0).val (i 1).val = LA (qOf P) (nuOf N) c XG XU (i 0).val (i 1).val := by
        unfold LB LA; rw [if_neg (fun h => hm h.2), if_neg hm]
      rw [eL]
      have hnow := G.now hj hu H00
      refine (run4 c i arg4 harg4 arg7 harg7 P N ga gO f H1 H18 H2 H00 Hu Hn _).trans (wp_mono _ _ _ fun _ => ?_)
      refine post_mono c arg4 arg7 P N (upPay_eq _ hs hu hnow) (fun f' hf' => ?_)
      rw [hf']; exact after_last hu hm hnow
  · have Hu : ¬ used i (W2 c N) := by unfold used; rw [w2_eq]; exact hu
    have hm : ¬ More (qOf P) (nuOf N) (i 0).val (i 1).val := fun h => hu h.1
    have H00 : ¬ ((i 0).val = 0 ∧ (i 1).val = 0) := fun h => hu (by rw [h.2]; exact ok.nu1)
    have eL : LB (qOf P) (nuOf N) c XG XU (i 0).val (i 1).val = LA (qOf P) (nuOf N) c XG XU (i 0).val (i 1).val := by
      unfold LB LA; rw [if_neg (fun h => hm h.2), if_neg hm]
    rw [eL]
    refine (run5 c i arg4 harg4 arg7 harg7 P N ga gO f H1 H18 H2 H00 Hu _).trans (wp_mono _ _ _ fun _ => ?_)
    refine post_mono c arg4 arg7 P N (by unfold outV; rw [if_neg hu]) (fun f' hf' => ?_)
    rw [hf']; exact after_idle hu G
end Point

end Cert.Proof.UpI

end
-- ==== Proof.UpIData.lean ====
/-
  The pipeline's proof data for the expert-weight stream, and its body obligation.
-/
module

public import proofs.«01_k».proof.Proof.UpIPoint

@[expose] public section

set_option maxRecDepth 16384

noncomputable section

namespace Cert.Proof.UpI

open Cert.Kernel2Ideal Cert.Kernel2Ideal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

section Idx

/-- The rows' block of a point, for a count of at least one used tile: the tile's, or the last used one's. -/
theorem min_word {t n : ℕ} (ht : t < 72) (h1 : 1 ≤ n) (h72 : n ≤ 72) :
    (Scalar.minsi (BitVec.ofNat 32 t) (Scalar.subi (BitVec.ofNat 32 n) 1#32)).toNat = min t (n - 1) := by
  have e : Scalar.subi (BitVec.ofNat 32 n) 1#32 = BitVec.ofNat 32 (n - 1) := by
    apply BitVec.eq_of_toNat_eq
    simp only [Scalar.subi, IntOp.subi, BitVec.toNat_sub, BitVec.toNat_ofNat]
    omega
  rw [e]
  have hs : (BitVec.ofNat 32 t).slt (BitVec.ofNat 32 (n - 1)) = decide (t < n - 1) := by
    rw [BitVec.slt_eq_decide, BitVec.toInt_eq_toNat_of_lt (by simp; omega), BitVec.toInt_eq_toNat_of_lt (by simp; omega)]
    simp only [BitVec.toNat_ofNat]; rw [Nat.mod_eq_of_lt (by omega), Nat.mod_eq_of_lt (by omega)]
    exact decide_eq_decide.mpr (by omega)
  unfold Scalar.minsi IntOp.minsi
  rw [hs]
  by_cases h : t < n - 1
  · rw [if_pos (by simpa using h), BitVec.toNat_ofNat, Nat.mod_eq_of_lt (by omega)]; omega
  · rw [if_neg (by simpa using h), BitVec.toNat_ofNat, Nat.mod_eq_of_lt (by omega)]; omega

variable (pf : pre0.Contents (Elt F))
/-- The count the tables hold. -/
abbrev cnt : ℕ := nuOf (pf 1)

theorem ix_eq (h1 : 1 ≤ cnt pf) (h72 : cnt pf ≤ 72) (i : grid0.Coords) :
    cc0_transform_0 inb_S1_S1_0 numel1_S1 pf i = ![min (i 1).val (cnt pf - 1), 0] := by
  have hv : pf.at 1 (Rect.unit (s := S1) ![0] S1.size inb_S1_S1_0) numel1_S1 = BitVec.ofNat 32 (cnt pf) := by
    refine Eq.trans ?_ (of_toNat (pf 1 (ix1 0)))
    refine congrArg (pf 1) (funext fun a => Fin.ext ?_)
    fin_cases a; rfl
  simp only [cc0_transform_0, hv, min_word (i1_lt i) h1 h72]
  rfl

/-- The tables are admissible. -/
theorem ok_of (h1 : 1 ≤ cnt pf) (h72 : cnt pf ≤ 72) : ok0 pf := fun i => by
  have ht := i1_lt i
  refine ⟨fun a => ?_, .inr (Affine.block_words_dvd (of_decide_eq_true rfl) (by decide))⟩
  rw [ix_eq pf h1 h72 i]
  fin_cases a
  · show (min (i 1).val (cnt pf - 1) + 1) * 256 ≤ 18432
    omega
  · show (0 + 1) * 2048 ≤ 2048
    omega

/-- No point is idle for the output. -/
theorem idle_ne (h72 : cnt pf ≤ 72) (i : grid0.Coords) : idle0 pf 1 i = false := by
  have hv : (pf.atD 1 ![0] : BitVec 32) = pf 1 (ix1 0) := by
    show (if h : _ then _ else _) = _
    rw [dif_pos (by decide)]
    refine congrArg (pf 1) (funext fun a => Fin.ext ?_)
    fin_cases a; rfl
  have h2 : (pf.atD 1 ![0] : BitVec 32).toNat ≤ 72 := by rw [hv]; exact h72
  show (!(k0_cond5 i (pf.atD 1 ![0]) == 1#1) && !(k0_cond11 i (pf.atD 1 ![0]) == 1#1)) = false
  by_cases hu : used i (pf.atD 1 ![0])
  · rw [(cond5_iff i _ h2).mpr hu]; rfl
  · rw [(cond11_iff i _ h2).mpr hu]; simp

theorem stride0 : grid0.stride 0 = 72 := by decide
theorem stride1 : grid0.stride 1 = 1 := by decide
theorem coord0 (t : Fin grid0.N) : ((grid0.coords t) 0).val = t.val / 72 := by
  have ht : t.val < 288 := lt_of_lt_of_eq t.isLt N_0
  rw [Pipeline.Grid.coords_val t 0 stride0 (B := 4) rfl]; omega
theorem coord1 (t : Fin grid0.N) : ((grid0.coords t) 1).val = t.val % 72 := by
  rw [Pipeline.Grid.coords_val t 1 stride1 (B := 72) rfl]; omega
end Idx

section Data
variable (m : (ℓ : Loc nD τ sig) → Buf (Elt F) ℓ) (a : (p : Fin 1) → (pcfgs (F := F) p).Adm)

/-- A buffer's contents at launch. -/
abbrev V (c : Dev nD) (b : Ref sig .tc) : Buf (Elt F) ((c : Thread nD τ).loc b) := m ((c : Thread nD τ).loc b)
abbrev GX (c : Dev nD) : S8x2048x5632.Idx → Elt F .f32 := gM.view.read (Elt F) (V m c main_arg3)
abbrev UX (c : Dev nD) : S8x2048x5632.Idx → Elt F .f32 := uM.view.read (Elt F) (V m c main_arg4)
abbrev qq (c : Dev nD) : ℕ → ℕ → ℕ := qOf (V m c main_arg0)
abbrev nn (c : Dev nD) : ℕ := nuOf (V m c main_arg1)

abbrev cfgA : Pipeline.Cfg sig Λ₀ := cfg0 (a 0)

/-- A window's block at a point, read off its array at launch. -/
def iblk (c : Dev nD) (w : Fin (cfgA a).W) (t : Fin (cfgA a).N) : (((cfgA a).win w).xblock ((cfgA a).grid.coords t)).Idx → Elt F ((cfgA a).win w).elt :=
  (((cfgA a).win w).blk t).view.read (Elt F) (V m c (Pipeline.arrRef spec0 w))

/-- What holds between the points: the resident buffer, the lanes, the tables, the generator. -/
def Inv (c : Dev nD) (k : ℕ) : sProp 𝕄 :=
  iprop((∃ f, bP c f ∗ ⌜Good (qq m c) (nn m c) (GX m c) (UX m c) (k / 72) (k % 72) (bM.view.read (Elt F) f)⌝)
    ∗ LB (qq m c) (nn m c) c (V m c main_arg3) (V m c main_arg4) (k / 72) (k % 72)
    ∗ tabs c (V m c main_arg0) (V m c main_arg1) ∗ (∃ r, prngReg c r))

def dats (_ : Fin 1) (c : Dev nD) : Dat τ (Elt F) Unit ℕ (UD sig nD τ) ℕ (cfgA a) c where
  A w := V m c (Pipeline.arrRef spec0 w)
  after w t := match w with
    | ⟨0, _⟩ => iblk m a c 0 t
    | ⟨1, _⟩ => outV (qq m c) (nn m c) (GX m c) (UX m c) (iblk m a c 0 t) (((cfgA a).grid.coords t) 0).val (((cfgA a).grid.coords t) 1).val
  Φ t := Inv m c t.val
  q _ := fullShare
  owed _ := 0

theorem after0_0 (c : Dev nD) (t : Fin (cfgA a).N) : (dats m a 0 c).after 0 t = iblk m a c 0 t := by dsimp only [dats]; rfl
theorem after0_1 (c : Dev nD) (t : Fin (cfgA a).N) : (dats m a 0 c).after 1 t
    = outV (qq m c) (nn m c) (GX m c) (UX m c) (iblk m a c 0 t) (((cfgA a).grid.coords t) 0).val (((cfgA a).grid.coords t) 1).val := by dsimp only [dats]; rfl
theorem before0_0 (c : Dev nD) (t : Fin (cfgA a).N) (d) : (dats m a 0 c).before 0 t d = iblk m a c 0 t :=
  ((dats m a 0 c).before_in_eq_fetched 0 rfl (fun _ => rfl) (fun _ _ _ => rfl) (fun t => by rw [after0_0]; unfold Dat.blockOf iblk; rfl) t d).trans
    (by unfold Dat.fetched Dat.blockOf iblk; rfl)

abbrev st0 (t : Fin (cfgA a).N) : Memref sig .tc .vmem S256x2048 .bf16 := spec0_0.stage ((cfgA a).slots t 0)
abbrev st1 (t : Fin (cfgA a).N) : Memref sig .tc .vmem S256x1408 .bf16 := spec0_1.stage ((cfgA a).slots t 1)

/-- The body table's entry is the body, -/
theorem defs_tc : (defs₀ (F := F)) .tc (cfgA a).body
    = fun x : Fin grid0.N × ((w : Fin 2) → Fin (spec0 w).nbuf) => body (grid0.coords x.1) (spec0_0.stage (x.2 0)) (hstage0_0 ((x.2 0).cast nbuf0_0)) (spec0_1.stage (x.2 1)) (hstage0_1 ((x.2 1).cast nbuf0_1)) := rfl
/-- at a point on its staging buffers. -/
theorem prog_eq (t : Fin (cfgA a).N) : (defs₀ (F := F)) .tc (cfgA a).body ((cfgA a).bodyArgs t ((cfgA a).slots t))
    = body (grid0.coords t) (st0 a t) (hstage0_0 (((cfgA a).slots t 0).cast nbuf0_0)) (st1 a t) (hstage0_1 (((cfgA a).slots t 1).cast nbuf0_1)) :=
  (congrFun (defs_tc a) _).trans rfl

theorem phi_eq (c : Dev nD) (t : Fin ((cfgA a).N + 1)) : (dats m a 0 c).Φ t = Inv m c t.val := by dsimp only [dats]
theorem owed_eq (c : Dev nD) (t) : (dats m a 0 c).owed t = 0 := by dsimp only [dats]
set_option backward.isDefEq.respectTransparency.types false in
theorem body_obligation (c : Dev nD) (ok : PlanOK (qq m c) (nn m c)) (hpf : V m c main_arg1 = (a 0).1 1) :
    BodyObligation (dats m a 0 c) (defs₀ (F := F)) 𝒱₀ () Set.univ := fun t => by
  have hidle : ∀ t, (cfgA a).idle 1 ((cfgA a).grid.coords t) = false := fun t => idle_ne (a 0).1 (by unfold cnt; rw [← hpf]; exact ok.nu72) _
  have ht : t.val < 288 := lt_of_lt_of_eq t.isLt N_0
  rw [bigSep_W0, bigSep_W0]
  dsimp only
  have hi : idle0 (a 0).1 1 ((pcfg0.gridAt (a 0).1).coords t) = false := hidle t
  simp only [before0_0, after0_0, after0_1, hi]
  rw [phi_eq, phi_eq, Fin.val_succ, Fin.val_castSucc]
  unfold Dat.owesAt Pipeline.owesWithin
  rw [owed_eq, owed_eq]
  unfold owns Inv
  have h0 : (((cfgA a).grid.coords t) 0).val = t.val / 72 := coord0 t
  have h1 : (((cfgA a).grid.coords t) 1).val = t.val % 72 := coord1 t
  iintro ⟨⟨⟨%f, HB, %G⟩, HL, HT, HR⟩, ⟨%W, -, HW⟩, ⟨%d0, %g0, %hg0, H0⟩, ⟨%d1, %gO, -, HO⟩⟩
  sl_rw [prog_eq a t]
  rw [← h0, ← h1] at G
  have hk : t.val + 1 = (((cfgA a).grid.coords t) 0).val * 72 + (((cfgA a).grid.coords t) 1).val + 1 := by omega
  have hj4 : (((cfgA a).grid.coords t) 0).val < 4 := by omega
  have ht72 : (((cfgA a).grid.coords t) 1).val < 72 := by omega
  rw [hk, ← lanes_next c (V m c main_arg3) (V m c main_arg4) ok hj4 ht72, ← h0, ← h1]
  iapply (wp_wand_r _ _ _)
  isplitl [HB HL HT HW H0 HO]
  · iapply (point c (V m c main_arg3) (V m c main_arg4) ((cfgA a).grid.coords t) (st0 a t) (hstage0_0 (((cfgA a).slots t 0).cast nbuf0_0)) (st1 a t) (hstage0_1 (((cfgA a).slots t 1).cast nbuf0_1)) (V m c main_arg0) (V m c main_arg1) ok g0 gO f G)
    unfold PRE
    isplitl [HT]; · iexact HT
    isplitl [H0]; · iexact H0
    isplitl [HO]; · iexact HO
    isplitl [HB]; · iexact HB
    isplitl [HW]; · iexists W; iexact HW
    iexact HL
  · iintro %u HP
    unfold POST
    icases HP with ⟨HT, H0, ⟨%o, HO, %ho⟩, ⟨%f', HB, %A⟩, ⟨%W', HW⟩, HL⟩
    isplitl [HB HL HT HR]
    · isplitl [HB]
      · iexists f'
        isplitl [HB]; · iexact HB
        ipureintro; exact After.good ok hj4 ht72 A
      isplitl [HL]; · iexact HL
      isplitl [HT]; · iexact HT
      iexact HR
    isplitl [HW]
    · iexists W'; isplitr; · ipureintro; exact fun _ _ => Or.inl trivial
      iexact HW
    isplitl [H0]
    · iexists g0; isplitr; · ipureintro; exact hg0
      iexact H0
    iexists o; isplitr; · ipureintro; rw [← hg0]; exact ho
    iexact HO
end Data

end Cert.Proof.UpI

end
-- ==== Proof.UpILaunch.lean ====
/-
  The launch of the expert-weight stream: the kernel's own memory split into lanes, and the run.
-/
module

public import proofs.«01_k».proof.Proof.UpIData

@[expose] public section

set_option maxRecDepth 16384

noncomputable section

namespace Cert.Proof.UpI

open Cert.Kernel2Ideal Cert.Kernel2Ideal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! ## The four transfer semaphores and the four staging slots -/

/-- The kernel's own semaphores, slot by matrix. -/
abbrev osem : Fin 2 × Fin 2 → SemLoc sig := fun s => .dma (csm s.1 s.2).sem
theorem ownSemFacts : Pipeline.OwnSemFacts spec0 osem := by decide

/-- A staging slot's elements. -/
abbrev S4 (s : Fin 2 × Fin 2) : Finset S2x2x256x1408.Idx := (Rect.unit (s := S2x2x256x1408) (slotOff s.1 s.2) S1x1x256x1408.size (slotOff_inb s.1 s.2)).set
theorem slot_set (s m : Fin 2) : (slot s m : Memref sig .tc .vmem _ _).view.set = S4 (s, m) := (View.set_reshape _ _).trans (View.set_slice_whole _ _)
theorem mem_S4 (s : Fin 2 × Fin 2) (y : S2x2x256x1408.Idx) : y ∈ S4 s ↔ (y 0).val = s.1.val ∧ (y 1).val = s.2.val := by
  rw [Rect.mem_set_unit]
  have h2 : (y 2).val < 256 := (y 2).isLt
  have h3 : (y 3).val < 1408 := (y 3).isLt
  constructor
  · intro H
    have a0 : s.1.val ≤ (y 0).val ∧ (y 0).val < s.1.val + 1 := H 0
    have a1 : s.2.val ≤ (y 1).val ∧ (y 1).val < s.2.val + 1 := H 1
    omega
  · intro H i; fin_cases i
    · show s.1.val ≤ (y 0).val ∧ (y 0).val < s.1.val + 1; omega
    · show s.2.val ≤ (y 1).val ∧ (y 1).val < s.2.val + 1; omega
    · show 0 ≤ (y 2).val ∧ (y 2).val < 0 + 256; omega
    · show 0 ≤ (y 3).val ∧ (y 3).val < 0 + 1408; omega
theorem S4_disjoint : ∀ s s' : Fin 2 × Fin 2, s ≠ s' → Disjoint (S4 s) (S4 s') := by
  intro s s' hne; rw [Finset.disjoint_left]; intro y hy hy'; rw [mem_S4] at hy hy'
  exact hne (Prod.ext (Fin.ext (hy.1.symm.trans hy'.1)) (Fin.ext (hy.2.symm.trans hy'.2)))
theorem S4_cover : (Finset.univ : Finset (Fin 2 × Fin 2)).biUnion S4 = Finset.univ := by
  ext y; simp only [Finset.mem_biUnion, Finset.mem_univ, true_and, iff_true]
  exact ⟨((y 0).cast (by decide), (y 1).cast (by decide)), by rw [mem_S4]; exact ⟨rfl, rfl⟩⟩

omit [FloatOps F] in
theorem bigSep_four (Φ : Fin 2 × Fin 2 → sProp 𝕄) : bigSep Finset.univ Φ = iprop(Φ (0, 0) ∗ Φ (0, 1) ∗ Φ (1, 0) ∗ Φ (1, 1)) :=
  bigSep_univ_eq_bigSepL [((0 : Fin 2), (0 : Fin 2)), (0, 1), (1, 0), (1, 1)] (by decide) (by decide) Φ

omit [FloatOps F] in
theorem slotP_eq (c : Dev nD) (s m : Fin 2) (f) : slotP c s m f = (((c : Thread nD τ).loc cc0_scratch1) ↦[S4 (s, m)]{fullShare} f : sProp 𝕄) :=
  congrArg (fun S => (_ ↦[S]{fullShare} f : sProp 𝕄)) (slot_set s m)

/-- The staging buffer whole is its four slots, -/
theorem stage_split (c : Dev nD) :
    iprop(∃ f : Buf (Elt F) ((c : Thread nD τ).loc cc0_scratch1), ((c : Thread nD τ).loc cc0_scratch1) ↦{fullShare} f)
      ⊢ (iprop((∃ f, slotP c 0 0 f) ∗ (∃ f, slotP c 0 1 f) ∗ (∃ f, slotP c 1 0 f) ∗ ∃ f, slotP c 1 1 f) : sProp 𝕄) := by
  iintro ⟨%f, H⟩
  ihave H2 := (entails_of_eq ((Ring.pointsTo_blocks (Ix := Unit) (Name := ℕ) (U := UD sig nD τ) (Lvl := ℕ) (q := fullShare) (ℓ := (c : Thread nD τ).loc cc0_scratch1) S4 S4_disjoint S4_cover f).trans (bigSep_four _))) $$ H
  icases H2 with ⟨H0, H1, H2, H3⟩
  isplitl [H0]
  · iexists f; iapply (entails_of_eq (slotP_eq c 0 0 f).symm); iexact H0
  isplitl [H1]
  · iexists f; iapply (entails_of_eq (slotP_eq c 0 1 f).symm); iexact H1
  isplitl [H2]
  · iexists f; iapply (entails_of_eq (slotP_eq c 1 0 f).symm); iexact H2
  · iexists f; iapply (entails_of_eq (slotP_eq c 1 1 f).symm); iexact H3
/-- and back. -/
theorem stage_join (c : Dev nD) :
    iprop((∃ f, slotP c 0 0 f) ∗ (∃ f, slotP c 0 1 f) ∗ (∃ f, slotP c 1 0 f) ∗ ∃ f, slotP c 1 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch1) S4 S4_disjoint S4_cover f0)
  irw [bigSep_four]
  isplitl [H0]
  · iexists f0; iapply (entails_of_eq (slotP_eq c 0 0 f0)); iexact H0
  isplitl [H1]
  · iexists f1; iapply (entails_of_eq (slotP_eq c 0 1 f1)); iexact H1
  isplitl [H2]
  · iexists f2; iapply (entails_of_eq (slotP_eq c 1 0 f2)); iexact H2
  · iexists f3; iapply (entails_of_eq (slotP_eq c 1 1 f3)); iexact H3

omit [FloatOps F] in
/-- The kernel's own cells at zero are the four lanes' cells. -/
theorem ownSems0_eq (c : Dev nD) : (Pipeline.ownSems0 (Ix := Unit) (Name := ℕ) (U := UD sig nD τ) (Lvl := ℕ) (Val := Elt F) (τ := τ) osem c : sProp 𝕄)
    = iprop(cellP c 0 0 ∗ cellP c 0 1 ∗ cellP c 1 0 ∗ cellP c 1 1) := by
  unfold Pipeline.ownSems0; rw [bigSep_four]

/-- The weights are addressed by the kernel itself. -/
abbrev HH : Finset (Ref sig .tc) := {main_arg3, main_arg4}
omit [FloatOps F] in
theorem bigSep_HH (Φ : Ref sig .tc → sProp 𝕄) : bigSep HH Φ = iprop(Φ main_arg3 ∗ Φ main_arg4) := by
  rw [show HH = insert main_arg3 {main_arg4} from rfl, bigSep_insert (by decide), bigSep_singleton]; rfl

theorem HH_sub : HH ⊆ Pipeline.restRefsP sig pre0 spec0 := by decide

/-- A weight held whole is held at the two slots' shares. -/
theorem halves (c : Dev nD) (b : Ref sig .tc) (f : Buf (Elt F) ((c : Thread nD τ).loc b)) :
    (((c : Thread nD τ).loc b) ↦{fullShare} f : sProp 𝕄) ⊣⊢ iprop((((c : Thread nD τ).loc b) ↦{shr 0} f) ∗ (((c : Thread nD τ).loc b) ↦{shr 1} f)) :=
  pointsTo_share (PosShare.mem_left_op_right fullShare)

section Run
variable (m : (ℓ : Loc nD τ sig) → Buf (Elt F) ℓ) (ρ : Dev nD → PrngReg) (a : (p : Fin 1) → (pcfgs (F := F) p).Adm)

/-- The buffers the kernel addresses itself, the staging buffer and the cells: the four lanes at rest, -/
theorem lanes_in (c : Dev nD) (XG : Buf (Elt F) ((c : Thread nD τ).loc main_arg3)) (XU : Buf (Elt F) ((c : Thread nD τ).loc main_arg4)) :
    iprop((∃ f : Buf (Elt F) ((c : Thread nD τ).loc cc0_scratch1), ((c : Thread nD τ).loc cc0_scratch1) ↦{fullShare} f)
      ∗ (cellP c 0 0 ∗ cellP c 0 1 ∗ cellP c 1 0 ∗ cellP c 1 1)
      ∗ (((c : Thread nD τ).loc main_arg3) ↦{fullShare} XG) ∗ (((c : Thread nD τ).loc main_arg4) ↦{fullShare} XU)) ⊢ (LanesI c XG XU : sProp 𝕄) := by
  iintro ⟨HS, ⟨C0, C1, C2, C3⟩, HG, HU⟩
  ihave H4 := (stage_split c) $$ HS
  icases H4 with ⟨S0, S1, S2, S3⟩
  ihave HG2 := (halves c main_arg3 XG).1 $$ HG
  ihave HU2 := (halves c main_arg4 XU).1 $$ HU
  icases HG2 with ⟨G0, G1⟩
  icases HU2 with ⟨U0, U1⟩
  unfold LanesI laneI
  isplitl [S0 S1 C0 C1 G0 U0]
  · isplitl [S0 C0 G0]
    · isplitl [S0]; · iexact S0
      isplitl [C0]; · iexact C0
      iexact G0
    · isplitl [S1]; · iexact S1
      isplitl [C1]; · iexact C1
      iexact U0
  · isplitl [S2 C2 G1]
    · isplitl [S2]; · iexact S2
      isplitl [C2]; · iexact C2
      iexact G1
    · isplitl [S3]; · iexact S3
      isplitl [C3]; · iexact C3
      iexact U1

/-- and back. -/
theorem lanes_out (c : Dev nD) (XG : Buf (Elt F) ((c : Thread nD τ).loc main_arg3)) (XU : Buf (Elt F) ((c : Thread nD τ).loc main_arg4)) :
    (LanesI c XG XU : sProp 𝕄) ⊢ iprop((∃ f : Buf (Elt F) ((c : Thread nD τ).loc cc0_scratch1), ((c : Thread nD τ).loc cc0_scratch1) ↦{fullShare} f)
      ∗ (cellP c 0 0 ∗ cellP c 0 1 ∗ cellP c 1 0 ∗ cellP c 1 1)
      ∗ (((c : Thread nD τ).loc main_arg3) ↦{fullShare} XG) ∗ (((c : Thread nD τ).loc main_arg4) ↦{fullShare} XU)) := by
  unfold LanesI laneI
  iintro ⟨⟨⟨S0, C0, G0⟩, ⟨S1, C1, U0⟩⟩, ⟨⟨S2, C2, G1⟩, ⟨S3, C3, U1⟩⟩⟩
  isplitl [S0 S1 S2 S3]
  · iapply (stage_join c)
    isplitl [S0]; · iexact S0
    isplitl [S1]; · iexact S1
    isplitl [S2]; · iexact S2
    iexact S3
  isplitl [C0 C1 C2 C3]
  · isplitl [C0]; · iexact C0
    isplitl [C1]; · iexact C1
    isplitl [C2]; · iexact C2
    iexact C3
  isplitl [G0 G1]
  · iapply (halves c main_arg3 XG).2
    isplitl [G0]; · iexact G0
    iexact G1
  · iapply (halves c main_arg4 XU).2
    isplitl [U0]; · iexact U0
    iexact U1

omit [FloatOps F] in
theorem bigSep_two (Φ : Fin 2 → sProp 𝕄) : bigSep Finset.univ Φ = iprop(Φ 0 ∗ Φ 1) :=
  bigSep_univ_eq_bigSepL [(0 : Fin 2), (1 : Fin 2)] (by decide) (by decide) Φ
omit [FloatOps F] in
/-- The tables' halves are the two tables. -/
theorem tables_in (c : Dev nD) (v : pre0.Contents (Elt F)) : (Pipeline.ΦT pre0 v c : sProp 𝕄) ⊢ tabs c (v 0) (v 1) := by
  unfold Pipeline.ΦT Pipeline.prefHeld
  refine (entails_of_eq (bigSep_two _)).trans ?_
  iintro ⟨H0, H1⟩
  isplitl [H0]
  · iapply (entails_of_eq (congrArg (fun S => ((c : Thread nD τ).loc main_arg0 ↦[S]{fullShare.right} v 0 : sProp 𝕄)) (View.set_whole main_arg0).symm)); iexact H0
  · iapply (entails_of_eq (congrArg (fun S => ((c : Thread nD τ).loc main_arg1 ↦[S]{fullShare.right} v 1 : sProp 𝕄)) (View.set_whole main_arg1).symm)); iexact H1

/-- Before the first point. -/
theorem inv_in (c : Dev nD) (ok : PlanOK (qq m c) (nn m c)) :
    iprop((∃ f, bP c f) ∗ LanesI c (V m c main_arg3) (V m c main_arg4) ∗ tabs c (V m c main_arg0) (V m c main_arg1) ∗ (∃ r, prngReg c r)) ⊢ (Inv m c 0 : sProp 𝕄) := by
  have e : LB (qq m c) (nn m c) c (V m c main_arg3) (V m c main_arg4) (0 / 72) (0 % 72) = LanesI c (V m c main_arg3) (V m c main_arg4) := if_neg fun h => h.1 ok.fi0
  unfold Inv
  rw [e]
  iintro ⟨⟨%f, HB⟩, HL, HT, HR⟩
  isplitl [HB]
  · iexists f
    isplitl [HB]; · iexact HB
    ipureintro
    exact ⟨fun _ _ h => absurd ⟨rfl, rfl⟩ h, fun _ h _ => absurd ok.fi0 h, fun h _ => absurd (lt_of_lt_of_le Nat.one_pos ok.nu1) (Nat.not_lt.mpr h)⟩
  isplitl [HL]; · iexact HL
  isplitl [HT]; · iexact HT
  iexact HR

/-- After the last. -/
theorem inv_out (c : Dev nD) (ok : PlanOK (qq m c) (nn m c)) : (Inv m c 288 : sProp 𝕄) ⊢ iprop((∃ f, bP c f) ∗ LanesI c (V m c main_arg3) (V m c main_arg4) ∗ (∃ r, prngReg c r)) := by
  have e : LB (qq m c) (nn m c) c (V m c main_arg3) (V m c main_arg4) (288 / 72) (288 % 72) = LanesI c (V m c main_arg3) (V m c main_arg4) := if_neg fun h => h.1 ok.fi0
  unfold Inv
  rw [e]
  iintro ⟨⟨%f, HB, -⟩, HL, -, HR⟩
  isplitl [HB]; · iexists f; iexact HB
  isplitl [HL]; · iexact HL
  iexact HR

omit [FloatOps F] in
theorem bP_eq (c : Dev nD) (f) : (bP c f : sProp 𝕄) = (((c : Thread nD τ).loc cc0_scratch0) ↦{fullShare} f) :=
  congrArg (fun S => ((c : Thread nD τ).loc cc0_scratch0 ↦[S]{fullShare} f : sProp 𝕄)) (View.set_whole cc0_scratch0)

set_option backward.isDefEq.respectTransparency.types false in
theorem hin (c : Dev nD) (ok : PlanOK (qq m c) (nn m c)) (h0 : V m c main_arg0 = (a 0).1 0) (h1 : V m c main_arg1 = (a 0).1 1) :
    iprop(Pipeline.ΦD osem spec0 HH (V m) c ∗ Pipeline.ΦT pre0 (a 0).1 c) ⊢ (Inv m c 0 : sProp 𝕄) := by
  rw [Pipeline.ΦD_eq, scopedRest0_eq, ownSems0_eq, bigSep_HH]
  iintro ⟨⟨⟨⟨%f, HB⟩, HS⟩, HR, HC, HW⟩, HT⟩
  iapply (inv_in m c ok)
  isplitl [HB]; · iexists f; iapply (entails_of_eq (bP_eq c f).symm); iexact HB
  isplitl [HS HC HW]
  · iapply (lanes_in c)
    isplitl [HS]; · iexact HS
    isplitl [HC]; · iexact HC
    iexact HW
  isplitl [HT]
  · ihave HT2 := (tables_in c (a 0).1) $$ HT
    rw [h0, h1]
    iexact HT2
  iexact HR

set_option backward.isDefEq.respectTransparency.types false in
theorem hout (c : Dev nD) (ok : PlanOK (qq m c) (nn m c)) :
    (Inv m c 288 : sProp 𝕄) ⊢ Pipeline.ΦD osem spec0 HH (V m) c := by
  rw [Pipeline.ΦD_eq, scopedRest0_eq, ownSems0_eq, bigSep_HH]
  refine (inv_out m c ok).trans ?_
  iintro ⟨⟨%f, HB⟩, HL, HR⟩
  ihave H := (lanes_out c _ _) $$ HL
  icases H with ⟨HS, HC, HW⟩
  isplitl [HB HS]
  · isplitl [HB]; · iexists f; iapply (entails_of_eq (bP_eq c f)); iexact HB
    iexact HS
  isplitl [HR]; · iexact HR
  isplitl [HC]; · iexact HC
  iexact HW

/-- The tables as launched. -/
def tabA (c : Dev nD) : pre0.Contents (Elt F) := fun k => m ((c : Thread nD τ).loc (pre0.ref k))
/-- They are admissible, the plan being one. -/
def adm (c : Dev nD) (ok : PlanOK (qq m c) (nn m c)) : (p : Fin 1) → (pcfgs (F := F) p).Adm :=
  fun _ => ⟨tabA m c, ok_of (tabA m c) ok.nu1 ok.nu72⟩

theorem dev_eq (c c' : Dev nD) : c = c' := Subsingleton.elim c c'

set_option backward.isDefEq.respectTransparency.types false in
/-- The run, to the pipeline's post. -/
theorem run_post (ok : ∀ c : Dev nD, PlanOK (qq m c) (nn m c)) :
    θ_run (defs (F := F)) (onTc (τ := τ) (main (F := F))) (s₀ m ρ)
      (fun r => Pipeline.FramePost (Pipeline.pin pcfgs (adm m 0 (ok 0))) (dats m (adm m 0 (ok 0))) 0 (V m) r ∧ r.2.sem = fun _ => 0) :=
  Pipeline.θ_run_frameP_dma pcfgs (adm m 0 (ok 0)) (dats m (adm m 0 (ok 0))) 0 launch0 osem defs₀ 𝒱₀ ownSemFacts HH HH_sub m ρ main
    (hbody := fun c => (body_obligation m _ c (ok c) (by rw [dev_eq c 0]; rfl)).loose)
    (hshare := fun c => (dats m _ 0 c).share_full fun _ => rfl)
    (howed := fun c t => owed_eq m _ c t)
    (V := V m)
    (hmain := Pipeline.hmainP_region pcfgs 0 defs₀ 𝒱₀ m main fun c => rfl)
    (hA := fun _ _ => rfl)
    (hpf := fun c k => by rw [dev_eq c 0]; rfl)
    (hin := fun c => (hin m (adm m 0 (ok 0)) c (ok c) (by rw [dev_eq c 0]; rfl) (by rw [dev_eq c 0]; rfl)).trans (entails_of_eq (phi_eq m _ c 0).symm))
    (hout := fun c => (entails_of_eq (phi_eq m _ c (Fin.last _))).trans (hout m c (ok c)))
    (Q' := fun r => Pipeline.FramePost (Pipeline.pin pcfgs (adm m 0 (ok 0))) (dats m (adm m 0 (ok 0))) 0 (V m) r ∧ r.2.sem = fun _ => 0)
    (hQ' := fun _ h => h)
end Run

end Cert.Proof.UpI

end
-- ==== Proof.UpIFrame.lean ====
/-
  What the expert-weight stream's run leaves: the arguments as they were, the result array as the pipeline's data has it.
-/
module

public import proofs.«01_k».proof.Proof.UpILaunch

@[expose] public section

set_option maxRecDepth 16384

noncomputable section

namespace Cert.Proof.UpI

open Cert.Kernel2Ideal Cert.Kernel2Ideal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The rows' array ends as it began: its window is only read. -/
theorem rows_kept (a : (p : Fin 1) → (pcfgs (F := F) p).Adm) (c : Dev nD) (k : ℕ) :
    (dats m a 0 c).arrAt 0 k = m ((c : Thread nD τ).loc main_arg2) :=
  (dats m a 0 c).arrAt_in 0 rfl k

/-- The run: the result is the output window's array, the arguments and the counters are as launched. -/
theorem run_kept (ok : ∀ c : Dev nD, PlanOK (qq m c) (nn m c)) :
    θ_run (defs (F := F)) (onTc (τ := τ) (main (F := F))) ⟨m, fun _ => 0, ρ⟩ (fun r => (∀ c : Dev nD,
      r.2.mem ((c : Thread nD τ).loc main_v0) = (dats m (adm m 0 (ok 0)) 0 c).arrAt 1 288
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) :=
  (θ_run defs _ _).mono (fun r h => ⟨fun c => ⟨(h.1 c).1 1,
      (h.1 c).2 main_arg0 (Pipeline.mem_restRefs_of main_arg0 rfl (fun w => by fin_cases w <;> exact fun h => by cases h)),
      (h.1 c).2 main_arg1 (Pipeline.mem_restRefs_of main_arg1 rfl (fun w => by fin_cases w <;> exact fun h => by cases h)),
      ((h.1 c).1 0).trans (rows_kept m _ c _),
      (h.1 c).2 main_arg3 (Pipeline.mem_restRefs_of main_arg3 rfl (fun w => by fin_cases w <;> exact fun h => by cases h)),
      (h.1 c).2 main_arg4 (Pipeline.mem_restRefs_of main_arg4 rfl (fun w => by fin_cases w <;> exact fun h => by cases h))⟩, h.2⟩)
    (run_post m ρ ok)

end Cert.Proof.UpI

end
-- ==== Proof.Same.lean ====
/-
  The expert-weight stream and its exact reading are one program over any floats: what the second does, the first does.
-/
module

public import proofs.«01_k».proof.Proof.Gen.Kernel2
public import proofs.«01_k».proof.Proof.UpIFrame

@[expose] public section

set_option maxRecDepth 16384

noncomputable section

namespace Cert.Proof.Up

open Idealize.ShloMosaic Idealize.ShloMosaic.TcCoe Idealize.SL.Sem
open Cert.Kernel2 Cert.Kernel2.Gen

variable {F : FTy → Type} [FloatOps F]

attribute [local instance] Cert.Kernel2.Gen.facts Cert.Kernel2Ideal.Gen.facts

/-- The two body tables agree at every label. -/
theorem bodies_eq : Cert.Kernel2.defs₀ (F := F) = Cert.Kernel2Ideal.defs₀ (F := F) := by
  unfold Cert.Kernel2.defs₀ Cert.Kernel2Ideal.defs₀
  congr 1
  funext i x
  match i, x with
  | 0, (t, s) => rfl

/-- So do the tables with the calls' regions. -/
theorem defs_eq : Cert.Kernel2.defs (F := F) = Cert.Kernel2Ideal.defs (F := F) := by
  unfold Cert.Kernel2.defs Cert.Kernel2Ideal.defs
  rw [bodies_eq]
  rfl

/-- The run leaves the arguments and the counters as launched. -/
theorem run_kept (m : (ℓ : Loc nD τ sig) → Buf (Elt F) ℓ) (ρ : Dev nD → PrngReg)
    (ok : ∀ c : Dev nD, UpI.PlanOK (UpI.qq (F := F) m c) (UpI.nn (F := F) m c)) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) := by
  have h := UpI.run_kept (F := F) m ρ ok
  rw [defs_eq]
  exact (θ_run (Cert.Kernel2Ideal.defs (F := F)) _ _).mono (fun r h => ⟨fun c => (h.1 c).2, h.2⟩) h

end Cert.Proof.Up

end
-- ==== Proof.UpIPre.lean ====
/-
  What the precondition of the expert-weight stream says: its plan is one the kernel can run.
-/
module

public import proofs.«01_k».proof.Proof.UpIFrame
public import Idealize.ShloMosaic.Lib.WordCmp
public import Idealize.ShloMosaic.Lib.ValueLayout
public import Idealize.ShloMosaic.Lib.Pipeline.Value

@[expose] public section

set_option maxRecDepth 16384

noncomputable section

namespace Cert.Proof.UpI

open Cert.Kernel2Ideal Cert.Kernel2Ideal.Gen
open Idealize.ShloMosaic Idealize.ShloMosaic.ValueIdx

/-- A word of the plan. -/
abbrev wd (P : S8x72.Idx → BitVec 32) (r t : ℕ) : BitVec 32 := P (ix2 (f8 r) (⟨t % 72, Nat.mod_lt _ (by decide)⟩ : Fin 72))

/-- A row of the plan, as the predicate takes it. -/
theorem row_eq (P : S8x72.Idx → BitVec 32) (k : ℕ) (h : S8x72.Slices ![k, 0] Cert.Pre_grouped.S1x72) (hc : Cert.Pre_grouped.S1x72.ShapeCasts Cert.Pre_grouped.S72) :
    shapeCast Cert.Pre_grouped.S72 (extractStridedSlice Cert.Pre_grouped.S1x72 ![k, 0] P h) hc = fun i => wd P k (i 0).val := by
  refine funext fun i => ?_
  have hi : i = ix1 (i 0 : Fin 72) := funext fun a => by fin_cases a; rfl
  rw [hi]
  refine (shapeCast_1a_a_apply (a := 72) _ hc (i 0 : Fin 72)).trans ?_
  have hk : k + 1 ≤ 8 := h.2 0
  refine congrArg P (funext fun a => Fin.ext ?_)
  have h72 : (i 0).val < 72 := (i 0).isLt
  match a with
  | ⟨0, _⟩ => show k + 0 = k % 8; omega
  | ⟨1, _⟩ => show 0 + (i 0).val = (i 0).val % 72; omega

/-- The plan rolled by one tile. -/
theorem roll_eq {F : FTy → Type} [FloatOps F] [hp : Cert.Pre_grouped.Facts] (P : S8x72.Idx → BitVec 32) :
    Cert.Pre_grouped.fn_roll_static (F := F) P = fun i => wd P (i 0).val ((i 1).val + 1) := by
  refine funext fun i => ?_
  have h72 : (i 1).val < 72 := (i 1).isLt
  have h8 : (i 0).val < 8 := (i 0).isLt
  unfold Cert.Pre_grouped.fn_roll_static
  by_cases hl : (i 1).val < 71
  · refine (concatenate_pair_apply_left (s₁ := Cert.Pre_grouped.S8x71) (s₂ := Cert.Pre_grouped.S8x1) 1 _ _ _ i rfl (ix2 (i 0 : Fin 8) (⟨(i 1).val, hl⟩ : Fin 71)) ?_).trans ?_
    · intro a; fin_cases a <;> rfl
    · refine congrArg P (funext fun a => Fin.ext ?_)
      match a with
      | ⟨0, _⟩ => show 0 + (i 0).val = (i 0).val % 8; omega
      | ⟨1, _⟩ => show 1 + (i 1).val = ((i 1).val + 1) % 72; omega
  · refine (concatenate_pair_apply_right (s₁ := Cert.Pre_grouped.S8x71) (s₂ := Cert.Pre_grouped.S8x1) 1 _ _ _ i rfl rfl (ix2 (i 0 : Fin 8) (0 : Fin 1)) ?_ ?_).trans ?_
    · intro a ha; fin_cases a
      · rfl
      · exact absurd rfl ha
    · show 0 + 71 = (i 1).val; omega
    · refine congrArg P (funext fun a => Fin.ext ?_)
      match a with
      | ⟨0, _⟩ => show 0 + (i 0).val = (i 0).val % 8; omega
      | ⟨1, _⟩ => show 0 + 0 = ((i 1).val + 1) % 72; omega

/-- The one entry of the count. -/
theorem count_eq {α : Type} (N : S1.Idx → α) (hc : S1.ShapeCasts Cert.Pre_grouped.S_) :
    shapeCast Cert.Pre_grouped.S_ N hc = fun _ => N (ix1 0) :=
  funext fun i => congrArg N (funext fun a => by fin_cases a; exact Subsingleton.elim (α := Fin 1) _ _)

/-- The first word of the plan. -/
theorem origin_eq (P : S8x72.Idx → BitVec 32) (h : S8x72.Slices ![0, 0] Cert.Pre_grouped.S1x1) (hc : Cert.Pre_grouped.S1x1.ShapeCasts Cert.Pre_grouped.S_) :
    shapeCast Cert.Pre_grouped.S_ (extractStridedSlice Cert.Pre_grouped.S1x1 ![0, 0] P h) hc = fun _ => wd P 0 0 := by
  refine funext fun i => ?_
  refine (shapeCast_apply _ hc i (ix2 (0 : Fin 1) (0 : Fin 1)) (Subsingleton.elim (α := Fin 1) _ _ |> congrArg Fin.val)).trans ?_
  refine congrArg P (funext fun a => ?_)
  fin_cases a <;> rfl

/-- The first entry of a row. -/
theorem first_eq {α : Type} (f : Cert.Pre_grouped.S72.Idx → α) (h : Cert.Pre_grouped.S72.Slices ![0] Cert.Pre_grouped.S1) :
    extractStridedSlice Cert.Pre_grouped.S1 ![0] f h (ix1 0) = f (ix1 0) :=
  congrArg f (funext fun a => by fin_cases a; rfl)

/-- A word of the rolled plan. -/
theorem wd_roll (P : S8x72.Idx → BitVec 32) (k t : ℕ) :
    wd (fun i => wd P (i 0).val ((i 1).val + 1)) k t = wd P k (t + 1) := by
  refine congrArg P (funext fun a => Fin.ext ?_)
  match a with
  | ⟨0, _⟩ => show k % 8 % 8 = k % 8; omega
  | ⟨1, _⟩ => show (t % 72 + 1) % 72 = (t + 1) % 72; omega

/-- A signed reading, from the unsigned one. -/
theorem int_cases (x : BitVec 32) : x.toNat < 4294967296 ∧ ((x.toNat < 2147483648 ∧ x.toInt = x.toNat) ∨ (2147483648 ≤ x.toNat ∧ x.toInt = (x.toNat : ℤ) - 4294967296)) := by
  have h := x.isLt
  have := BitVec.toInt_eq_toNat_cond x
  split at this <;> omega

/-- One more than a small word. -/
theorem succ_nat {x y : BitVec 32} (h : x = IntOp.addi y 1#32) (hy : y.toNat < 8) : x.toNat = y.toNat + 1 := by
  rw [h]; simp only [IntOp.addi, BitVec.toNat_add, BitVec.toNat_ofNat]; omega

theorem c0 : (0#32).toInt = 0 := rfl
theorem c1 : (1#32).toInt = 1 := rfl
theorem c8 : (8#32).toInt = 8 := rfl
theorem c72 : (72#32).toInt = 72 := rfl

/-- A tile's number, and the next one's, signed. -/
theorem tile_int {t : ℕ} (ht : t < 72) : (BitVec.ofNat 32 t).toInt = t := by
  rw [BitVec.toInt_eq_toNat_of_lt (by simp; omega)]; simp; omega
theorem tile_succ (t : ℕ) : IntOp.addi (BitVec.ofNat 32 t) 1#32 = BitVec.ofNat 32 (t + 1) := by
  simp [IntOp.addi, BitVec.ofNat_add]

/-- What the predicate says at one tile. -/
structure AtTile (q : ℕ → ℕ → ℕ) (nu t : ℕ) : Prop where
  nu1 : 1 ≤ nu
  nu72 : nu ≤ 72
  e8 : q 0 t < 8
  nx8 : q 4 t < 8
  lohi : t < nu → q 2 t ≤ q 3 t ∧ q 3 t ≤ 8
  start : t = 0 → q 1 t = 1 ∧ q 6 t = 0
  filo : t < nu → q 1 t = 1 → q 2 t = 0
  next : t + 1 < nu → (q 1 (t + 1) = 1 ∧ q 3 t = 8 ∧ q 0 (t + 1) = q 4 t ∧ q 5 t ≠ 1 ∧ q 6 (t + 1) = q 6 t + 1)
    ∨ (q 1 (t + 1) ≠ 1 ∧ q 0 (t + 1) = q 0 t ∧ q 4 (t + 1) = q 4 t ∧ q 5 (t + 1) = q 5 t ∧ q 6 (t + 1) = q 6 t ∧ q 2 (t + 1) = q 3 t)
  last : t + 1 = nu → q 3 t = 8 ∧ q 5 t = 1 ∧ q 4 t = q 0 0 ∧ q 6 t + 1 = q 7 0

theorem small {x : BitVec 32} (h0 : 0 ≤ x.toInt) (h8 : x.toInt < 8) : x.toNat < 8 := by
  have := int_cases x; omega

theorem pre_at {F : FTy → Type} [FloatOps F] [hp : Cert.Pre_grouped.Facts] (P : S8x72.Idx → BitVec 32) (N : S1.Idx → BitVec 32) (X G U)
    (h : Cert.Pre_grouped.fn (F := F) P N X G U = fun _ => 1#1) (t : ℕ) (ht : t < 72) : AtTile (qOf P) (nuOf N) t := by
  have e := congrFun h (ix1 (⟨t, ht⟩ : Fin 72))
  simp only [Cert.Pre_grouped.fn, Cert.Pre_grouped.fn_part1, Cert.Pre_grouped.fn_part2, Cert.Pre_grouped.fn_part3, Cert.Pre_grouped.fn_part4,
    Cert.Pre_grouped.fn_part5, Cert.Pre_grouped.fn_part6, Cert.Pre_grouped.fn_part7, row_eq, roll_eq, count_eq, origin_eq, first_eq, andi, ori, cmpi, addi,
    broadcastInDim, constantI, iotaInDim, IntOp.andi_eq_one, IntOp.ori_eq_one, IntOp.cmpi_eq, IntOp.cmpi_ne, IntOp.cmpi_sge, IntOp.cmpi_sle, IntOp.cmpi_slt,
    IntOp.cmpi_sgt] at e
  obtain ⟨⟨⟨⟨⟨⟨hn, ⟨he, hx0⟩, hx8⟩, hch⟩, hst⟩, hop⟩, hstep⟩, hend⟩ := e
  rw [tile_succ] at hstep hend
  simp only [wd_roll] at hstep
  simp only [tile_int ht, c0, c1, c8, c72] at hn he hx0 hx8 hch hst hop hstep hend
  have hN : (N (ix1 0)).toInt = nuOf N := by have := int_cases (N (ix1 0)); unfold nuOf; omega
  rw [hN] at hn hch hop hstep
  have hq : ∀ r s, (wd P r s).toNat = qOf P r s := fun _ _ => rfl
  have heq : ∀ {r s r' s'}, wd P r s = wd P r' s' → qOf P r s = qOf P r' s' := fun h => congrArg BitVec.toNat h
  have hlit : ∀ {r s} {k : ℕ}, k < 4294967296 → wd P r s = BitVec.ofNat 32 k → qOf P r s = k := fun hk h => by
    rw [← hq, h, BitVec.toNat_ofNat]; omega
  have hne : ∀ {r s}, wd P r s ≠ 1#32 → qOf P r s ≠ 1 := fun h h' => h (BitVec.eq_of_toNat_eq h')
  have h1 : ∀ {r s}, qOf P r s = 1 → wd P r s = 1#32 := fun h => BitVec.eq_of_toNat_eq h
  refine ⟨by omega, by omega, small he.1 he.2, small hx0 hx8, fun hu => ?_, fun h0 => ?_, fun hu hf => ?_, fun hu => ?_, fun hu => ?_⟩
  · have a2 := int_cases (wd P 2 t)
    have a3 := int_cases (wd P 3 t)
    rw [hq] at a2 a3
    omega
  · rcases hst with h | h
    · omega
    · exact ⟨hlit (by omega) h.1, hlit (by omega) h.2⟩
  · rcases hop with (h | h) | h
    · omega
    · exact absurd (h1 hf) h
    · exact hlit (by omega) h
  · rcases hstep with (h | h) | h
    · rw [tile_int (by omega)] at h; omega
    · obtain ⟨⟨⟨⟨⟨⟨h1, h3⟩, h0⟩, h5⟩, h6⟩, g0⟩, g8⟩ := h
      exact .inl ⟨hlit (by omega) h1, hlit (by omega) h3, heq h0, hne h5, succ_nat h6 (small g0 g8)⟩
    · obtain ⟨⟨⟨⟨⟨h1, h0⟩, h4⟩, h5⟩, h6⟩, h2⟩ := h
      exact .inr ⟨hne h1, heq h0, heq h4, heq h5, heq h6, heq h2⟩
  · rcases hend with h | h
    · refine absurd (BitVec.eq_of_toNat_eq ?_) h
      rw [BitVec.toNat_ofNat, hu]; exact Nat.mod_eq_of_lt (by omega)
    · obtain ⟨⟨⟨⟨⟨h3, h5⟩, h4⟩, g0⟩, g8⟩, h7⟩ := h
      exact ⟨hlit (by omega) h3, hlit (by omega) h5, heq h4, (succ_nat h7.symm (small g0 g8)).symm⟩

/-- Where the predicate holds, the plan is one the kernel can run. -/
theorem plan_ok {F : FTy → Type} [FloatOps F] [hp : Cert.Pre_grouped.Facts] (P : S8x72.Idx → BitVec 32) (N : S1.Idx → BitVec 32) (X G U)
    (h : Cert.Pre_grouped.fn (F := F) P N X G U = fun _ => 1#1) : PlanOK (qOf P) (nuOf N) := by
  have H := pre_at P N X G U h
  have h72 := (H 0 (by omega)).nu72
  exact ⟨(H 0 (by omega)).nu1, h72, fun t ht => (H t ht).e8, fun t ht => (H t ht).nx8, fun t hu => (H t (by omega)).lohi hu,
    ((H 0 (by omega)).start rfl).1, ((H 0 (by omega)).start rfl).2, fun t hu => (H t (by omega)).filo hu, fun t hu => (H t (by omega)).next hu,
    fun t hu => (H t (by omega)).last hu⟩

end Cert.Proof.UpI

end
-- ==== Proof.UpRef.lean ====
/-
  The grouped gate and up projection, written plainly, and the reference's result as it.
-/
module

public import proofs.«01_k».proof.Proof.Gen.Reference2Ideal.Read
public import Idealize.ShloMosaic.Lib.ValueIdx
public import Idealize.ShloMosaic.Lib.WordCmp

@[expose] public section

set_option maxRecDepth 16384

noncomputable section

namespace Cert.Proof.UpMath

open Idealize.ShloMosaic Idealize.ShloMosaic.ValueIdx

/-- The constant one of the activation, as both programs write it. -/
abbrev one : EReal := FloatOps.ofBits (F := Ideal) .f32 0x3F800000#32

/-- The gate's activation times the up projection: `g * (1 / (1 + exp (-g))) * u`. -/
def act (g u : EReal) : EReal := g * Ideal.div one (one + Ideal.exp (-g)) * u

/-- A row through a column of an expert's weights. -/
def rowDot (X : (⟨2, ![18432, 2048]⟩ : Shape).Idx → EReal) (W : (⟨3, ![8, 2048, 5632]⟩ : Shape).Idx → EReal) (r : Fin 18432) (e : Fin 8) (l : Fin 5632) : EReal :=
  ∑ k : Fin 2048, X (ix2 r k) * W (ix3 e k l)

/-- The tile a row is in. -/
def tileOf (r : Fin 18432) : Fin 72 := ⟨r.val / 256, by omega⟩

/-- The result's entry: a used tile's row through the expert of its tile, zero in an unused one. -/
def entry (P : (⟨2, ![8, 72]⟩ : Shape).Idx → BitVec 32) (N : (⟨1, ![1]⟩ : Shape).Idx → BitVec 32) (X : (⟨2, ![18432, 2048]⟩ : Shape).Idx → EReal)
    (G U : (⟨3, ![8, 2048, 5632]⟩ : Shape).Idx → EReal) (r : Fin 18432) (l : Fin 5632) : EReal :=
  if r.val / 256 < (N (ix1 0)).toNat then
    act (rowDot X G r (Fin.ofNat 8 (P (ix2 0 (tileOf r))).toNat) l) (rowDot X U r (Fin.ofNat 8 (P (ix2 0 (tileOf r))).toNat) l)
  else 0

open Cert.Reference2Ideal Cert.Reference2Ideal.Read

section
variable (P : S8x72.Idx → BitVec 32) (N : S1.Idx → BitVec 32) (X : S18432x2048.Idx → EReal) (G U : S8x2048x5632.Idx → EReal)

/-- The reference's activation of a row under an expert. -/
theorem ref_act (r : Fin 18432) (e : Fin 8) (l : Fin 5632) :
    val_main_v24 (F := Ideal) X G U (ix3 r e l) = act (rowDot X G r e l) (rowDot X U r e l) := by
  have hl : ∀ k : Fin 2048, lidx_main_v21 (ix3 r e l) k = ix2 r k := fun k => funext fun a => Fin.ext (match a with | ⟨0, _⟩ => rfl | ⟨1, _⟩ => rfl)
  have hr : ∀ k : Fin 2048, ridx_main_v21 (ix3 r e l) k = ix3 e k l := fun k => funext fun a => Fin.ext (match a with | ⟨0, _⟩ => rfl | ⟨1, _⟩ => rfl | ⟨2, _⟩ => rfl)
  have hl' : ∀ k : Fin 2048, lidx_main_v23 (ix3 r e l) k = ix2 r k := fun k => funext fun a => Fin.ext (match a with | ⟨0, _⟩ => rfl | ⟨1, _⟩ => rfl)
  have hr' : ∀ k : Fin 2048, ridx_main_v23 (ix3 r e l) k = ix3 e k l := fun k => funext fun a => Fin.ext (match a with | ⟨0, _⟩ => rfl | ⟨1, _⟩ => rfl | ⟨2, _⟩ => rfl)
  have hg : val_main_v21 (F := Ideal) X G (ix3 r e l) = rowDot X G r e l := by
    rw [val_main_v21_apply]
    exact Finset.sum_congr rfl fun k _ => by rw [val_main_v20_apply, hl, hr]; rfl
  have hu : val_main_v23 (F := Ideal) X U (ix3 r e l) = rowDot X U r e l := by
    rw [val_main_v23_apply]
    exact Finset.sum_congr rfl fun k _ => by rw [val_main_v20_apply, hl', hr']; rfl
  rw [val_main_v24_apply, val_main_v22_apply, val_main_call0_v5_apply, val_main_call0_v3_apply, val_main_call0_v1_apply, val_main_call0_v0_apply,
    val_main_call0_v2_apply, val_main_call0_v4_apply, val_main_call0_cst_apply, val_main_call0_cst_0_apply, hg, hu]
  rfl

/-- The mask's word at a row and an expert. -/
theorem ref_mask (r : Fin 18432) (e : Fin 8) (l : Fin 5632) :
    val_main_call1_v1 (F := Ideal) P N (ix3 r e l)
      = IntOp.andi (IntOp.cmpi .eq (P (ix2 0 (tileOf r))) (BitVec.ofNat 32 e.val)) (IntOp.cmpi .slt (BitVec.ofNat 32 (r.val / 256)) (N (ix1 0))) := by
  rw [val_main_call1_v1_apply, val_main_v25_apply, val_main_v19_apply, val_main_v14_apply, val_main_v12_apply, val_main_v10_apply, val_main_v4_apply,
    val_main_v3_apply, val_main_v2_apply, val_main_v1_apply, val_main_v0_apply, val_main_v13_apply, val_main_v11_apply, val_main_v9_apply,
    val_main_v18_apply, val_main_v17_apply, val_main_v16_apply, val_main_v8_apply, val_main_v7_apply, val_main_v6_apply, val_main_v5_apply, val_main_v15_apply]
  have e1 : idx_main_v0 (idx_main_v1 (idx_main_v2 (idx_main_v3 (idx_main_v4 (idx_main_v10 (idx_main_v12 (idx_main_v25 (idx_main_call1_v1 (ix3 r e l)))))))))
      = ix2 0 (tileOf r) := funext fun a => Fin.ext (match a with
    | ⟨0, _⟩ => rfl
    | ⟨1, _⟩ => by show r.val / 256 % 72 = r.val / 256; omega)
  have e2 : idx_main_v15 (idx_main_v17 (idx_main_v18 (idx_main_v25 (idx_main_call1_v1 (ix3 r e l))))) = ix1 0 := funext fun a => Fin.ext (match a with
    | ⟨0, _⟩ => rfl)
  exact congrArg₂ (fun a b => IntOp.andi (IntOp.cmpi .eq a (BitVec.ofNat 32 e.val)) (IntOp.cmpi .slt (BitVec.ofNat 32 (r.val / 256)) b)) (congrArg P e1) (congrArg N e2)

/-- The mask keeps an expert exactly if it is the tile's and the tile is used. -/
theorem mask_iff (hP : ∀ t : Fin 72, (P (ix2 0 t)).toNat < 8) (hN : (N (ix1 0)).toNat ≤ 72) (r : Fin 18432) (e : Fin 8) :
    IntOp.andi (IntOp.cmpi .eq (P (ix2 0 (tileOf r))) (BitVec.ofNat 32 e.val)) (IntOp.cmpi .slt (BitVec.ofNat 32 (r.val / 256)) (N (ix1 0))) = 1#1
      ↔ e = Fin.ofNat 8 (P (ix2 0 (tileOf r))).toNat ∧ r.val / 256 < (N (ix1 0)).toNat := by
  rw [IntOp.andi_eq_one, IntOp.cmpi_eq, IntOp.cmpi_slt]
  have h8 := hP (tileOf r)
  refine and_congr ?_ ?_
  · constructor
    · intro h
      refine Fin.ext ?_
      have := congrArg BitVec.toNat h
      rw [BitVec.toNat_ofNat] at this
      show e.val = (P (ix2 0 (tileOf r))).toNat % 8
      omega
    · intro h
      refine BitVec.eq_of_toNat_eq ?_
      rw [BitVec.toNat_ofNat, h]
      show _ = (P (ix2 0 (tileOf r))).toNat % 8 % 2 ^ 32
      omega
  · have e1 : (BitVec.ofNat 32 (r.val / 256)).toInt = (r.val / 256 : ℕ) := by
      rw [BitVec.toInt_eq_toNat_of_lt (by rw [BitVec.toNat_ofNat]; omega), BitVec.toNat_ofNat, Nat.mod_eq_of_lt (by omega)]
    have e2 : (N (ix1 0)).toInt = (N (ix1 0)).toNat := BitVec.toInt_eq_toNat_of_lt (by omega)
    rw [e1, e2]
    exact Int.ofNat_lt

/-- The reference's result, entry by entry. -/
theorem ref_entry (hP : ∀ t : Fin 72, (P (ix2 0 t)).toNat < 8) (hN : (N (ix1 0)).toNat ≤ 72) (r : Fin 18432) (l : Fin 5632) :
    val_main_v28 (F := Ideal) P N X G U (ix2 r l) = entry P N X G U r l := by
  have hi : ∀ e : Fin 8, idx_main_v27 (ix2 r l) e = ix3 r e l := fun e => funext fun a => Fin.ext (match a with | ⟨0, _⟩ => rfl | ⟨1, _⟩ => rfl | ⟨2, _⟩ => rfl)
  have h0 : val_main_v28 (F := Ideal) P N X G U (ix2 r l) = val_main_v27 (F := Ideal) P N X G U (ix2 r l) := rfl
  have hz : (FloatOps.ofBits (F := Ideal) .f32 0x00000000#32 : EReal) = 0 := Ideal.ofBits_zero_f32
  have ht : ∀ e : Fin 8, val_main_v26 (F := Ideal) P N X G U (idx_main_v27 (ix2 r l) e)
      = if e = Fin.ofNat 8 (P (ix2 0 (tileOf r))).toNat then (if r.val / 256 < (N (ix1 0)).toNat then act (rowDot X G r e l) (rowDot X U r e l) else 0) else 0 := fun e => by
    rw [hi, val_main_v26_apply, ref_mask, ref_act, val_main_call1_v2_apply, val_main_call1_v0_apply, val_main_cst_apply]
    by_cases h : e = Fin.ofNat 8 (P (ix2 0 (tileOf r))).toNat ∧ r.val / 256 < (N (ix1 0)).toNat
    · rw [(mask_iff P N hP hN r e).mpr h, if_pos h.1, if_pos h.2]; rfl
    · have hw := fun h1 => h ((mask_iff P N hP hN r e).mp h1)
      refine Eq.trans (if_neg hw) ?_
      rw [← ite_and, if_neg h]
      exact hz
  rw [h0, val_main_v27_apply, val_main_cst_0_apply, Finset.sum_congr rfl fun e _ => ht e, Finset.sum_ite_eq' Finset.univ, if_pos (Finset.mem_univ _)]
  refine (congrArg (· + _) hz).trans (zero_add _)
end

end Cert.Proof.UpMath

end
-- ==== Proof.UpIBlock.lean ====
/-
  What a point of the expert-weight stream stores, entry by entry, in exact arithmetic.
-/
module

public import proofs.«01_k».proof.Proof.UpIPre
public import proofs.«01_k».proof.Proof.UpRef
public import Idealize.ShloMosaic.Lib.IdealHost

@[expose] public section

set_option maxRecDepth 16384

noncomputable section

namespace Cert.Proof.UpI

open Cert.Kernel2Ideal Cert.Kernel2Ideal.Gen
open Idealize.ShloMosaic Idealize.ShloMosaic.ValueIdx

/-- The resident weights without their two unit axes. -/
theorem drop_apply (x : Vec Ideal S1x1x2048x1408 .bf16) (h : S1x1x2048x1408.ShapeCasts S2048x1408) (k : Fin 2048) (l : Fin 1408) :
    shapeCast S2048x1408 x h (ix2 k l) = x (ix4 0 0 k l) :=
  shapeCast_apply x h _ _ (by
    rw [Shape.rowMajor_val_four, Shape.rowMajor_val_two]
    show ((0 * 1 + 0) * 2048 + k.val) * 1408 + l.val = k.val * 1408 + l.val
    omega)

/-- A block of rows through resident weights. -/
def through (A : FVec Ideal S256x2048 .bf16) (B : FVec Ideal S1x1x2048x1408 .bf16) : FVec Ideal S256x1408 .f32 :=
  matmul (F := Ideal) dot_S256x2048_S2048x1408_S256x1408_1_0_0_1_n_n none A (shapeCast S2048x1408 B shapeCasts_S1x1x2048x1408_S2048x1408 : FVec Ideal S2048x1408 .bf16)
    (constant S256x1408 .f32 0x00000000#32)

/-- It is, at each entry, the sum of the products. -/
theorem through_apply (A : FVec Ideal S256x2048 .bf16) (B : FVec Ideal S1x1x2048x1408 .bf16) (x : Fin 256) (l : Fin 1408) :
    through A B (ix2 x l) = ∑ k : Fin 2048, A (ix2 x k) * B (ix4 0 0 k l) := by
  unfold through
  unfold matmul
  rw [Ideal.matmul_constant_zero_apply, ← Equiv.sum_comp (contrEquiv1 dot_S256x2048_S2048x1408_S256x1408_1_0_0_1_n_n 2048 rfl rfl).symm]
  refine Finset.sum_congr rfl fun d _ => ?_
  have hd := contrEquiv1_symm_val dot_S256x2048_S2048x1408_S256x1408_1_0_0_1_n_n 2048 rfl rfl d
  have el : dot_S256x2048_S2048x1408_S256x1408_1_0_0_1_n_n.lhsIdx (ix2 x l) ((contrEquiv1 dot_S256x2048_S2048x1408_S256x1408_1_0_0_1_n_n 2048 rfl rfl).symm d) = ix2 x d :=
    funext fun a => Fin.ext (match a with
      | ⟨0, _⟩ => rfl
      | ⟨1, _⟩ => hd)
  have er : dot_S256x2048_S2048x1408_S256x1408_1_0_0_1_n_n.rhsIdx (ix2 x l) ((contrEquiv1 dot_S256x2048_S2048x1408_S256x1408_1_0_0_1_n_n 2048 rfl rfl).symm d) = ix2 d l :=
    funext fun a => Fin.ext (match a with
      | ⟨0, _⟩ => hd
      | ⟨1, _⟩ => rfl)
  rw [el, er]
  exact congrArg (A (ix2 x d) * ·) (drop_apply B _ d l)

/-- A used tile's block: the activation of its rows through the resident weights. -/
theorem pay1_apply (A : Vec Ideal S256x2048 .bf16) (G U : Vec Ideal S1x1x2048x1408 .bf16) (x : Fin 256) (l : Fin 1408) :
    k0_pay1 (F := Ideal) A G U (ix2 x l)
      = UpMath.act (∑ k : Fin 2048, A (ix2 x k) * G (ix4 0 0 k l)) (∑ k : Fin 2048, A (ix2 x k) * U (ix4 0 0 k l)) := by
  have hz : (FloatOps.ofBits (F := Ideal) .f32 0x00000000#32 : EReal) = 0 := Ideal.ofBits_zero_f32
  rw [← through_apply A G x l, ← through_apply A U x l]
  show (through A G (ix2 x l) : EReal) * Ideal.div UpMath.one (UpMath.one + Ideal.exp ((FloatOps.ofBits (F := Ideal) .f32 0x00000000#32 : EReal) - (through A G (ix2 x l) : EReal))) * (through A U (ix2 x l) : EReal) = _
  generalize through A G (ix2 x l) = g
  have hn : (FloatOps.ofBits (F := Ideal) .f32 0x00000000#32 : EReal) - (g : EReal) = -(g : EReal) := by rw [hz, sub_eq_add_neg, zero_add]
  rw [hn]
  rfl

/-- An unused tile's block is zero. -/
theorem pay4_apply (x : Fin 256) (l : Fin 1408) : k0_pay4 (F := Ideal) (ix2 x l) = (0 : EReal) := Ideal.ofBits_zero_bf16

end Cert.Proof.UpI

end
-- ==== Proof.UpIVal.lean ====
/-
  The expert-weight stream's array, entry by entry, in exact arithmetic.
-/
module

public import proofs.«01_k».proof.Proof.UpIBlock
public import proofs.«01_k».proof.Proof.UpIFrame

@[expose] public section

set_option maxRecDepth 16384

noncomputable section

namespace Cert.Proof.UpI

open Cert.Kernel2Ideal Cert.Kernel2Ideal.Gen
open Idealize.ShloMosaic Idealize.ShloMosaic.ValueIdx
open Idealize.ShloMosaic.TcCoe Idealize.SL.Sem
open Idealize.ShloMosaic.Pipeline (Dat Cfg Window)

variable (m : (ℓ : Loc nD τ sig) → Buf (Elt Ideal) ℓ) (a : (p : Fin 1) → (pcfgs (F := Ideal) p).Adm)

/-- The output's block at a point: the tile's rows, the column's lanes. -/
theorem out_index (t : Fin grid0.N) : cc0_transform_3 (grid0.coords t) = ![t.val % 72, t.val / 72] := by
  have h0 := coord0 t
  have h1 := coord1 t
  have ht : t.val < 288 := lt_of_lt_of_eq t.isLt N_0
  show ![(BitVec.ofNat 32 ((grid0.coords t) 1).val).toNat, (BitVec.ofNat 32 ((grid0.coords t) 0).val).toNat] = _
  rw [h0, h1, BitVec.toNat_ofNat, BitVec.toNat_ofNat, Nat.mod_eq_of_lt (a := t.val % 72) (by omega), Nat.mod_eq_of_lt (a := t.val / 72) (by omega)]

/-- Different points have different blocks. -/
theorem out_inj (t t' : Fin grid0.N) (h : cc0_transform_3 (grid0.coords t) = cc0_transform_3 (grid0.coords t')) : t = t' := by
  rw [out_index, out_index] at h
  have h0 : t.val % 72 = t'.val % 72 := congrFun h 0
  have h1 : t.val / 72 = t'.val / 72 := congrFun h 1
  exact Fin.ext (by omega)

/-- Every point's block is written back. -/
theorem out_flush (t : Fin (cfgA a).N) : ((cfgA a).win 1).flush t = true := by
  rw [Window.flush_eq_flushOf]
  show Window.flushOf grid0 true cc0_transform_3 t = true
  unfold Window.flushOf
  rw [Bool.true_and]
  by_cases h : t.val + 1 = grid0.N
  · simp [h]
  · have hlt : t.val + 1 < grid0.N := by have : t.val < grid0.N := t.isLt; omega
    have : ∃ h : t.val + 1 < grid0.N, cc0_transform_3 (grid0.coords ⟨t.val + 1, h⟩) ≠ cc0_transform_3 (grid0.coords t) :=
      ⟨hlt, fun e => by have := congrArg Fin.val (out_inj _ _ e); simp at this⟩
    simp [this]

/-- No two points write the same entry. -/
theorem out_disj : ∀ t t' : Fin (cfgA a).N, ((cfgA a).win 1).flush t = true → ((cfgA a).win 1).flush t' = true → t ≠ t' →
    Disjoint (((cfgA a).win 1).blk t).view.set (((cfgA a).win 1).blk t').view.set :=
  Window.hdisj_of_index_inj ((cfgA a).win 1) fun t t' _ _ h => out_inj t t' h

/-- Where a block's entry is in the array. -/
theorem out_emb (t : Fin (cfgA a).N) (x : Fin 256) (l : Fin 1408) (r : Fin 18432) (k : Fin 5632) (hr : r.val = 256 * (t.val % 72) + x.val) (hk : k.val = 1408 * (t.val / 72) + l.val) :
    (((cfgA a).win 1).blk t).view.emb (ix2 x l) = ix2 r k := by
  refine funext fun b => Fin.ext ?_
  show cc0_transform_3 (grid0.coords t) b * S256x1408.size b + 1 * (ix2 x l b).val = _
  rw [out_index t]
  match b with
  | ⟨0, _⟩ => show t.val % 72 * 256 + 1 * x.val = r.val; omega
  | ⟨1, _⟩ => show t.val / 72 * 1408 + 1 * l.val = k.val; omega

/-- The rows' block at a used point is the tile's rows. -/
theorem rows_emb (t : Fin (cfgA a).N) (h1 : 1 ≤ cnt (a 0).1) (h72 : cnt (a 0).1 ≤ 72) (hu : t.val % 72 < cnt (a 0).1) (x : Fin 256) (k : Fin 2048) (r : Fin 18432) (hr : r.val = 256 * (t.val % 72) + x.val) :
    (((cfgA a).win 0).blk t).view.emb (ix2 x k) = ix2 r k := by
  refine funext fun b => Fin.ext ?_
  show cc0_transform_0 inb_S1_S1_0 numel1_S1 (a 0).1 (grid0.coords t) b * S256x2048.size b + 1 * (ix2 x k b).val = _
  rw [ix_eq (a 0).1 h1 h72, coord1 t]
  match b with
  | ⟨0, _⟩ => show min (t.val % 72) (cnt (a 0).1 - 1) * 256 + 1 * x.val = r.val; omega
  | ⟨1, _⟩ => show 0 * 2048 + 1 * k.val = k.val; omega

section Array
variable (c : Dev nD)

/-- What the output's array holds under a point's block: what the point stored. -/
theorem arr_block (t : Fin (cfgA a).N) (x : Fin 256) (l : Fin 1408) (r : Fin 18432) (k : Fin 5632) (hr : r.val = 256 * (t.val % 72) + x.val) (hk : k.val = 1408 * (t.val / 72) + l.val) :
    (dats m a 0 c).arrAt 1 288 (ix2 r k)
      = outV (qq m c) (nn m c) (GX m c) (UX m c) (iblk m a c 0 t) (t.val / 72) (t.val % 72) (ix2 x l) := by
  have hb := (dats m a 0 c).arrAt_emb_eq_flushed 1 (out_disj a) t (out_flush a t) (ix2 x l)
  have hN : (cfgA a).N = 288 := N_0
  rw [hN] at hb
  rw [← out_emb a t x l r k hr hk]
  refine hb.trans ?_
  have hf : (dats m a 0 c).flushed 1 t (ix2 x l) = (dats m a 0 c).after 1 t (ix2 x l) := rfl
  have ha := after0_1 m a c t
  have hc0 : (((cfgA a).grid.coords t) 0).val = t.val / 72 := coord0 t
  have hc1 : (((cfgA a).grid.coords t) 1).val = t.val % 72 := coord1 t
  rw [hc0, hc1] at ha
  exact hf.trans (congrFun ha (ix2 x l))

/-- The stored block's entry is the specification's. -/
theorem out_entry (ok : PlanOK (qq m c) (nn m c)) (ht : (a 0).1 = tabA m c) (r : Fin 18432) (k : Fin 5632) :
    (dats m a 0 c).arrAt 1 288 (ix2 r k)
      = UpMath.entry (V m c main_arg0) (V m c main_arg1) (V m c main_arg2) (V m c main_arg3) (V m c main_arg4) r k := by
  have hN : (cfgA a).N = 288 := N_0
  obtain ⟨t, e⟩ : ∃ t : Fin (cfgA a).N, t.val = 72 * (k.val / 1408) + r.val / 256 := ⟨⟨72 * (k.val / 1408) + r.val / 256, by rw [hN]; omega⟩, rfl⟩
  have e72 : t.val % 72 = r.val / 256 := by omega
  have ej : t.val / 72 = k.val / 1408 := by omega
  rw [arr_block m a c t (⟨r.val % 256, by omega⟩ : Fin 256) (⟨k.val % 1408, by omega⟩ : Fin 1408) r k (by show r.val = 256 * (t.val % 72) + r.val % 256; omega) (by show k.val = 1408 * (t.val / 72) + k.val % 1408; omega),
    e72, ej]
  have hcnt : cnt (a 0).1 = nn m c := by rw [ht]; rfl
  unfold outV UpMath.entry
  by_cases hu : r.val / 256 < nn m c
  · have hu' : r.val / 256 < ((V m c main_arg1) (ix1 0)).toNat := hu
    rw [if_pos hu, if_pos hu']
    refine (pay1_apply (iblk m a c 0 t) _ _ _ _).trans ?_
    have hx : ∀ d : Fin 2048, iblk m a c 0 t (ix2 (⟨r.val % 256, by omega⟩ : Fin 256) d) = V m c main_arg2 (ix2 r d) := fun d =>
      congrArg (V m c main_arg2) (rows_emb a t (by rw [hcnt]; exact ok.nu1) (by rw [hcnt]; exact ok.nu72) (by rw [hcnt, e72]; exact hu) (⟨r.val % 256, by omega⟩ : Fin 256) d r
        (by show r.val = 256 * (t.val % 72) + r.val % 256; omega))
    have hq : f8 (qq m c 0 (r.val / 256)) = Fin.ofNat 8 (V m c main_arg0 (ix2 0 (UpMath.tileOf r))).toNat := by
      refine Fin.ext ?_
      show (V m c main_arg0 (ix2 (f8 0) (⟨r.val / 256 % 72, _⟩ : Fin 72))).toNat % 8 = (V m c main_arg0 (ix2 0 (UpMath.tileOf r))).toNat % 8
      have : (⟨r.val / 256 % 72, Nat.mod_lt _ (by decide)⟩ : Fin 72) = UpMath.tileOf r := Fin.ext (by show r.val / 256 % 72 = r.val / 256; omega)
      rw [this]; rfl
    have hc : col (f4 (k.val / 1408)) (⟨k.val % 1408, by omega⟩ : Fin 1408) = k := Fin.ext (by show k.val / 1408 % 4 * 1408 + k.val % 1408 = k.val; omega)
    have hg : ∀ d : Fin 2048, GX m c (ix3 (f8 (qq m c 0 (r.val / 256))) d (col (f4 (k.val / 1408)) (⟨k.val % 1408, by omega⟩ : Fin 1408)))
        = V m c main_arg3 (ix3 (Fin.ofNat 8 (V m c main_arg0 (ix2 0 (UpMath.tileOf r))).toNat) d k) := fun d => by rw [hq, hc]; rfl
    have hw : ∀ d : Fin 2048, UX m c (ix3 (f8 (qq m c 0 (r.val / 256))) d (col (f4 (k.val / 1408)) (⟨k.val % 1408, by omega⟩ : Fin 1408)))
        = V m c main_arg4 (ix3 (Fin.ofNat 8 (V m c main_arg0 (ix2 0 (UpMath.tileOf r))).toNat) d k) := fun d => by rw [hq, hc]; rfl
    exact congrArg₂ UpMath.act (Finset.sum_congr rfl fun d _ => congrArg₂ (· * ·) (hx d) (hg d)) (Finset.sum_congr rfl fun d _ => congrArg₂ (· * ·) (hx d) (hw d))
  · have hu' : ¬ r.val / 256 < ((V m c main_arg1) (ix1 0)).toNat := hu
    rw [if_neg hu, if_neg hu']
    exact pay4_apply _ _

/-- The reference's result of the same arguments is the array. -/
theorem array_eq (ok0 : PlanOK (qq m 0) (nn m 0)) (ok : PlanOK (qq m c) (nn m c)) :
    Cert.Reference2Ideal.Read.val_main_v28 (F := Ideal) (V m c main_arg0) (V m c main_arg1) (V m c main_arg2) (V m c main_arg3) (V m c main_arg4)
      = (dats m (adm m 0 ok0) 0 c).arrAt 1 288 := by
  funext i
  obtain ⟨r, k, rfl⟩ : ∃ (r : Fin 18432) (k : Fin 5632), i = ix2 r k := ⟨i 0, i 1, funext fun b => match b with | ⟨0, _⟩ => rfl | ⟨1, _⟩ => rfl⟩
  refine (UpMath.ref_entry _ _ _ _ _ (fun t => ?_) ok.nu72 r k).trans (out_entry m (adm m 0 ok0) c ok (by rw [dev_eq c 0]; rfl) r k).symm
  have h := ok.e8 t.val t.isLt
  have ht : (⟨t.val % 72, Nat.mod_lt _ (by decide)⟩ : Fin 72) = t := Fin.ext (Nat.mod_eq_of_lt t.isLt)
  have h' : (V m c main_arg0 (ix2 (f8 0) (⟨t.val % 72, Nat.mod_lt _ (by decide)⟩ : Fin 72))).toNat < 8 := h
  rw [ht] at h'
  exact h'

/-- The run, to the array. -/
theorem run_array (ρ : Dev nD → PrngReg) (ok : ∀ c : Dev nD, PlanOK (qq m c) (nn m c)) :
    θ_run (defs (F := Ideal)) (onTc (τ := τ) (main (F := Ideal))) ⟨m, fun _ => 0, ρ⟩ (fun r => ∀ c : Dev nD,
      r.2.mem ((c : Thread nD τ).loc main_v0) = (dats m (adm m 0 (ok 0)) 0 c).arrAt 1 288
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h => h.1) (run_kept m ρ ok)
end Array

end Cert.Proof.UpI

end
-- ==== Proof.DnWords.lean ====
/-
  The integer words of the expert-weight streaming kernel in closed form: each slice offset, loop bound and
  condition the kernel computes from its plan words, and the checks the kernel makes of them.
-/
module

public import proofs.«01_k».proof.Defs
public import proofs.«01_k».proof.Proof.Gen.Kernel3Ideal.Launch
public import proofs.«01_k».proof.Proof.Gen.Kernel3Ideal.Skeleton
public import proofs.«01_k».proof.Proof.Gen.Kernel3Ideal.Loops
public import Idealize.ShloMosaic.Lib.Affine
public import Idealize.ShloMosaic.Lib.Tactic

@[expose] public section

set_option maxRecDepth 16384

namespace Cert.Proof.Dn

open Cert.Kernel3Ideal Cert.Kernel3Ideal.Gen
open Idealize.ShloMosaic

/-! ## Words as naturals -/

/-- The induction variable of a unit-step loop, as a natural. -/
theorem iv_nat (a : BitVec 32) (k : Nat) : Scf.iv a 1#32 k = BitVec.ofNat 32 (a.toNat + k) := by
  apply BitVec.eq_of_toNat_eq; simp [Scf.iv]
/-- The low bit of a small natural. -/
theorem and_nat (n : Nat) : Scalar.andi (BitVec.ofNat 32 n) 1#32 = BitVec.ofNat 32 (n % 2) := by
  apply BitVec.eq_of_toNat_eq
  simp only [Scalar.andi, IntOp.andi, BitVec.toNat_and, BitVec.toNat_ofNat, Nat.one_mod, Nat.reducePow, Nat.reduceMod, Nat.and_one_is_mod]
  omega
theorem mul_nat (a b : Nat) : Scalar.muli (BitVec.ofNat 32 a) (BitVec.ofNat 32 b) = BitVec.ofNat 32 (a * b) := by
  apply BitVec.eq_of_toNat_eq; simp [Scalar.muli, IntOp.muli, Nat.mul_mod]
theorem add_nat (a b : Nat) : Scalar.addi (BitVec.ofNat 32 a) (BitVec.ofNat 32 b) = BitVec.ofNat 32 (a + b) := by
  apply BitVec.eq_of_toNat_eq; simp [Scalar.addi, IntOp.addi]
theorem sub_nat (n : Nat) : Scalar.subi 1#32 (BitVec.ofNat 32 (n % 2)) = BitVec.ofNat 32 (1 - n % 2) := by
  rcases Nat.mod_two_eq_zero_or_one n with h | h <;> rw [h] <;> decide
theorem of_toNat (v : BitVec 32) : v = BitVec.ofNat 32 v.toNat := by simp
theorem idx_nat (x : BitVec 32) : Scalar.indexCast x = x := rfl

/-- The slot the resident weights of group `g` of tile column `j` lie in. -/
def cur (i : grid0.Coords) (v4 v7 : BitVec 32) : Nat := ((i 0).val * v4.toNat + v7.toNat) % 2
theorem cur_lt (i : grid0.Coords) (v4 v7 : BitVec 32) : cur i v4 v7 < 2 := Nat.mod_lt _ (by decide)
theorem cur_word (i : grid0.Coords) (v4 v7 : BitVec 32) :
    Scalar.andi (Scalar.addi (Scalar.muli (BitVec.ofNat 32 (i 0).val) v4) v7) 1#32 = BitVec.ofNat 32 (cur i v4 v7) := by
  conv_lhs => rw [of_toNat v4, of_toNat v7, mul_nat, add_nat, and_nat]
  rfl
theorem oth_word (i : grid0.Coords) (v4 v7 : BitVec 32) :
    Scalar.subi 1#32 (BitVec.ofNat 32 (cur i v4 v7)) = BitVec.ofNat 32 (1 - cur i v4 v7) := by
  unfold cur; exact sub_nat _

/-- The tile column the next group's weights are of. -/
def nj (i : grid0.Coords) (v11 : BitVec 32) : Nat := if v11 = 1#32 then (i 0).val + 1 else (i 0).val
theorem nj_word (i : grid0.Coords) (v11 : BitVec 32) :
    Scalar.select (Scalar.cmpi .eq v11 1#32) (Scalar.addi (BitVec.ofNat 32 (i 0).val) 1#32) (BitVec.ofNat 32 (i 0).val)
      = BitVec.ofNat 32 (nj i v11) := by
  have e : Scalar.cmpi .eq v11 1#32 = if v11 = 1#32 then 1#1 else 0#1 := by
    by_cases h : v11 = 1#32
    · simp [Scalar.cmpi, IntOp.cmpi, h]
    · have hb : (v11 == 1#32) = false := by simpa using h
      simp [Scalar.cmpi, IntOp.cmpi, h, hb]
  rw [e]; unfold nj Scalar.select
  by_cases h : v11 = 1#32
  · rw [if_pos h, if_pos h, if_pos (by decide)]; exact add_nat _ 1
  · rw [if_neg h, if_neg h, if_neg (by decide)]

theorem nj_word' (i : grid0.Coords) (v11 : BitVec 32) :
    Scalar.select (Scalar.cmpi .eq v11 1#32) (BitVec.ofNat 32 ((i 0).val + 1)) (BitVec.ofNat 32 (i 0).val)
      = BitVec.ofNat 32 (nj i v11) := by
  rw [← add_nat]; exact nj_word i v11

/-- A comparison "less than" of small naturals. -/
theorem slt_nat {a b : Nat} (ha : a < 2 ^ 31) (hb : b < 2 ^ 31) :
    Scalar.cmpi .slt (BitVec.ofNat 32 a) (BitVec.ofNat 32 b) = BitVec.ofBool (decide (a < b)) := by
  have e : (BitVec.ofNat 32 a).slt (BitVec.ofNat 32 b) = decide (a < b) := by
    rw [BitVec.slt_eq_decide, BitVec.toInt_eq_toNat_of_lt (by simp; omega), BitVec.toInt_eq_toNat_of_lt (by simp; omega)]
    simp only [BitVec.toNat_ofNat]; rw [Nat.mod_eq_of_lt (by omega), Nat.mod_eq_of_lt (by omega)]
    exact decide_eq_decide.mpr (by omega)
  simp [Scalar.cmpi, IntOp.cmpi, e]
/-- A widened condition word compared with zero is the condition. -/
theorem ext_ne (b : Bool) : Scalar.cmpi .ne (Scalar.extui (BitVec.ofBool b) : BitVec 32) 0#32 = BitVec.ofBool b := by
  cases b <;> decide
theorem ofBool_one (b : Bool) : BitVec.ofBool b = 1#1 ↔ b = true := by cases b <;> decide

/-- A tile's plan words are in range. -/
structure TileOK (i : grid0.Coords) (v1 v2 v4 v7 v11 v18 v27 v41 v43 : BitVec 32) : Prop where
  h1 : v1.toNat < 8
  h18 : v18.toNat < 8
  h2 : v2.toNat ≤ 72
  hlo : v41.toNat ≤ v43.toNat
  hhi : v43.toNat ≤ 11

/-- The tile is in use. -/
def used (i : grid0.Coords) (v2 : BitVec 32) : Prop := (i 1).val < v2.toNat
/-- A further group follows the tile's. -/
def hasNext (i : grid0.Coords) (v2 v11 : BitVec 32) : Prop := (i 1).val < v2.toNat ∧ ¬ (v11 = 1#32 ∧ (i 0).val = 1)

theorem i0_lt (i : grid0.Coords) : (i 0).val < 2 := (i 0).isLt
theorem i1_lt (i : grid0.Coords) : (i 1).val < 72 := (i 1).isLt

theorem v3_word (i : grid0.Coords) (v2 : BitVec 32) (h2 : v2.toNat ≤ 72) :
    Scalar.cmpi .slt (BitVec.ofNat 32 (i 1).val) v2 = BitVec.ofBool (decide ((i 1).val < v2.toNat)) := by
  have := i1_lt i
  conv_lhs => rw [of_toNat v2]
  exact slt_nat (by omega) (by omega)
theorem eq_word (v : BitVec 32) : Scalar.cmpi .eq v 1#32 = BitVec.ofBool (decide (v = 1#32)) := by
  by_cases h : v = 1#32
  · simp [Scalar.cmpi, IntOp.cmpi, h]
  · have hb : (v == 1#32) = false := by simpa using h
    simp [Scalar.cmpi, IntOp.cmpi, h, hb]
theorem j1_word (i : grid0.Coords) : Scalar.cmpi .eq (BitVec.ofNat 32 (i 0).val) 1#32 = BitVec.ofBool (decide ((i 0).val = 1)) := by
  have := i0_lt i
  generalize (i 0).val = n at *
  interval_cases n <;> decide
theorem and_bool (a b : Bool) : Scalar.andi (BitVec.ofBool a) (BitVec.ofBool b) = BitVec.ofBool (a && b) := by
  cases a <;> cases b <;> decide
theorem xor_bool (a : Bool) : Scalar.xori (BitVec.ofBool a) 1#1 = BitVec.ofBool (!a) := by cases a <;> decide

theorem cond4_iff (i : grid0.Coords) (v2 : BitVec 32) (h2 : v2.toNat ≤ 72) : k0_cond4 i v2 = 1#1 ↔ used i v2 := by
  simp only [k0_cond4, v3_word i v2 h2, ext_ne, ofBool_one, decide_eq_true_eq, used]
theorem cond8_iff (i : grid0.Coords) (v2 : BitVec 32) (h2 : v2.toNat ≤ 72) : k0_cond8 i v2 = 1#1 ↔ ¬ used i v2 := by
  simp only [k0_cond8, v3_word i v2 h2, xor_bool, ext_ne, ofBool_one, used, Bool.not_eq_true', decide_eq_false_iff_not]
theorem cond5_iff (i : grid0.Coords) (v2 v11 : BitVec 32) (h2 : v2.toNat ≤ 72) : k0_cond5 i v2 v11 = 1#1 ↔ hasNext i v2 v11 := by
  simp only [k0_cond5, j1_word]
  simp only [v3_word i v2 h2, eq_word, and_bool, xor_bool, ext_ne, ofBool_one, hasNext, Bool.and_eq_true,
    Bool.not_eq_true', Bool.and_eq_false_iff, decide_eq_true_eq, decide_eq_false_iff_not, not_and_or]
theorem cond3_iff (i : grid0.Coords) (v2 v11 v27 : BitVec 32) (h2 : v2.toNat ≤ 72) :
    k0_cond3 i v2 v11 v27 = 1#1 ↔ hasNext i v2 v11 ∧ v27 = 1#32 := by
  simp only [k0_cond3, j1_word]
  simp only [v3_word i v2 h2, eq_word, and_bool, xor_bool, ext_ne, ofBool_one, hasNext, Bool.and_eq_true,
    Bool.not_eq_true', Bool.and_eq_false_iff, decide_eq_true_eq, decide_eq_false_iff_not, not_and_or]
theorem cond1_iff (i : grid0.Coords) : k0_cond1 i = 1#1 ↔ (i 0).val = 0 ∧ (i 1).val = 0 := by
  have e0 : Scalar.cmpi .eq (BitVec.ofNat 32 (i 0).val) 0#32 = BitVec.ofBool (decide ((i 0).val = 0)) := by
    have := i0_lt i
    generalize (i 0).val = n at *
    interval_cases n <;> decide
  have e1 : Scalar.cmpi .eq (BitVec.ofNat 32 (i 1).val) 0#32 = BitVec.ofBool (decide ((i 1).val = 0)) := by
    have := i1_lt i
    generalize (i 1).val = n at *
    interval_cases n <;> decide
  simp only [k0_cond1, e0, e1, and_bool, ext_ne, ofBool_one, Bool.and_eq_true, decide_eq_true_eq]

theorem nj_lt (i : grid0.Coords) (v2 v11 : BitVec 32) (h : hasNext i v2 v11) : nj i v11 < 2 := by
  have := i0_lt i; have := h.2; unfold nj; split
  · rename_i h1; have : (i 0).val ≠ 1 := fun e => h.2 ⟨h1, e⟩; omega
  · omega

theorem trips1 : k0_t1_loop.trips = 11 := by decide

/-- The group loop runs over the chunks from the tile's first to its last. -/
theorem ub2 (v41 v43 : BitVec 32) : Scalar.addi v41 (Scalar.muli (Scalar.divsi (Scalar.subi v43 v41) 1#32) 1#32) = v43 := by
  have hd : ∀ x : BitVec 32, Scalar.divsi x 1#32 = x := fun x => by
    have h := Affine.divsi_one (Affine.word x) (Affine.ofNat (e := 1) 1 ⟨rfl, by decide⟩) ⟨rfl, rfl⟩
    unfold Affine.IsInt at h
    exact BitVec.eq_of_toInt_eq h
  rw [hd]
  apply BitVec.eq_of_toNat_eq
  simp only [Scalar.addi, Scalar.muli, Scalar.subi, IntOp.addi, IntOp.muli, IntOp.subi, BitVec.mul_one]
  simp only [BitVec.toNat_add, BitVec.toNat_sub]
  have := v41.isLt; have := v43.isLt
  omega
theorem loop2 (v41 v43 : BitVec 32) : k0_t2_loop v41 v43 = ⟨v41, v43, 1#32⟩ := by
  simp only [k0_t2_loop, ub2]
theorem loop3 (v41 v43 : BitVec 32) : k0_t3_loop v41 v43 = ⟨v43, v43, 1#32⟩ := by
  have e : Scalar.addi v41 (Scalar.subi v43 v41) = v43 := by
    apply BitVec.eq_of_toNat_eq
    simp only [Scalar.addi, Scalar.subi, IntOp.addi, IntOp.subi]
    simp only [BitVec.toNat_add, BitVec.toNat_sub]
    have := v41.isLt; have := v43.isLt
    omega
  simp only [k0_t3_loop, ub2, e]
theorem small_toInt {v : BitVec 32} (h : v.toNat ≤ 11) : v.toInt = v.toNat := BitVec.toInt_eq_toNat_of_lt (by omega)
theorem trips2 (v41 v43 : BitVec 32) (h : v41.toNat ≤ v43.toNat) (h8 : v43.toNat ≤ 11) :
    (k0_t2_loop v41 v43).trips = v43.toNat - v41.toNat := by
  rw [loop2]; unfold Scf.Loop.trips Scf.trips
  simp only [small_toInt h8, small_toInt (h.trans h8), show (1#32 : BitVec 32).toInt = 1 by decide]
  omega
theorem trips3 (v41 v43 : BitVec 32) : (k0_t3_loop v41 v43).trips = 0 := by
  rw [loop3]; unfold Scf.Loop.trips Scf.trips
  simp [show (1#32 : BitVec 32).toInt = 1 by decide]

/-! ## Offsets -/

abbrev semOff (s : Fin 2) (m : Fin 1) : Fin 2 → Nat := ![s.val, m.val]
abbrev slotOff (s : Fin 2) (m : Fin 1) : Fin 4 → Nat := ![s.val, m.val, 0, 0]
abbrev resOff (s : Fin 2) (m : Fin 1) (r : Nat) : Fin 4 → Nat := ![s.val, m.val, r, 0]
abbrev winOff (e r q : Nat) : Fin 3 → Nat := ![e, r, q]

/-- The slot of chunk `c`. -/
def sl (c : Nat) : Fin 2 := ⟨c % 2, Nat.mod_lt _ (by decide)⟩
/-- The slot of the resident weights and the other one. -/
def curS (i : grid0.Coords) (v4 v7 : BitVec 32) : Fin 2 := ⟨cur i v4 v7, cur_lt i v4 v7⟩
def othS (i : grid0.Coords) (v4 v7 : BitVec 32) : Fin 2 := ⟨1 - cur i v4 v7, by omega⟩

theorem tn {n : Nat} (h : n < 2 ^ 32) : (BitVec.ofNat 32 n).toNat = n := by
  rw [BitVec.toNat_ofNat, Nat.mod_eq_of_lt h]

section T1
variable (v1 : BitVec 32) (k : Fin k0_t1_loop.trips)
theorem k8 : k.val < 11 := Nat.lt_of_lt_of_eq k.isLt trips1
theorem z32 : (0#32 : BitVec 32).toNat = 0 := rfl

theorem off7_eq : k0_off7 k = semOff (sl k) 0 := by
  have := k8 k
  simp only [k0_off7, iv_nat, and_nat, z32, Nat.zero_add]; rw [tn (by omega)]; rfl
theorem off8_eq : k0_off8 k = slotOff (sl k) 0 := by
  have := k8 k
  simp only [k0_off8, iv_nat, and_nat, z32, Nat.zero_add]; rw [tn (by omega)]; rfl
theorem off9_eq : k0_off9 v1 k = winOff v1.toNat (k * 512) 0 := by
  have := k8 k
  simp only [k0_off9, iv_nat, mul_nat, z32, Nat.zero_add]; rw [tn (by omega)]
theorem off10_eq : k0_off10 k = slotOff (sl k) 0 := by
  have := k8 k
  simp only [k0_off10, iv_nat, and_nat, idx_nat, z32, Nat.zero_add]; rw [tn (by omega)]; rfl
theorem off11_eq : k0_off11 k = resOff 0 0 (k * 512) := by
  have := k8 k
  simp only [k0_off11, iv_nat, mul_nat, idx_nat, z32, Nat.zero_add]; rw [tn (by omega)]; rfl
theorem off12_eq : k0_off12 k = semOff (sl k) 0 := by
  have := k8 k
  simp only [k0_off12, iv_nat, add_nat, and_nat, z32, Nat.zero_add, Nat.add_mod_right]; rw [tn (by omega)]; rfl
theorem off13_eq : k0_off13 k = slotOff (sl k) 0 := by
  have := k8 k
  simp only [k0_off13, iv_nat, add_nat, and_nat, z32, Nat.zero_add, Nat.add_mod_right]; rw [tn (by omega)]; rfl
theorem off14_eq : k0_off14 v1 k = winOff v1.toNat ((k + 2) * 512) 0 := by
  have := k8 k
  simp only [k0_off14, iv_nat, add_nat, mul_nat, z32, Nat.zero_add]; rw [tn (by omega)]
theorem cond2_iff : k0_cond2 k = 1#1 ↔ k.val + 2 < 11 := by
  have := k8 k
  simp only [k0_cond2, iv_nat, add_nat, z32, Nat.zero_add, slt_nat (show k.val + 2 < 2 ^ 31 by omega) (show 11 < 2 ^ 31 by omega), ext_ne, ofBool_one, decide_eq_true_eq]
theorem off5_eq : k0_off5 v1 = winOff v1.toNat 0 0 := rfl
theorem off6_eq : k0_off6 v1 = winOff v1.toNat 512 0 := rfl
end T1

section T2
variable (i : grid0.Coords) (v1 v2 v4 v7 v11 v18 v27 v41 v43 : BitVec 32) (k : Fin (k0_t2_loop v41 v43).trips)

/-- The chunk a trip of the group loop handles. -/
abbrev ck : Nat := v41.toNat + k.val
theorem ck8 (h : v41.toNat ≤ v43.toNat) (h8 : v43.toNat ≤ 11) : ck v41 v43 k < v43.toNat := by
  have := Nat.lt_of_lt_of_eq k.isLt (trips2 v41 v43 h h8); unfold ck; omega

variable (hc : ck v41 v43 k < 11) (hj : nj i v11 < 2)
include hc
theorem off21_eq : k0_off21 v41 v43 k = semOff (sl (ck v41 v43 k)) 0 := by
  simp only [k0_off21, iv_nat, and_nat]; rw [tn (by omega)]; rfl
theorem off22_eq : k0_off22 v41 v43 k = slotOff (sl (ck v41 v43 k)) 0 := by
  simp only [k0_off22, iv_nat, and_nat]; rw [tn (by omega)]; rfl
theorem off24_eq : k0_off24 v41 v43 k = slotOff (sl (ck v41 v43 k)) 0 := by
  simp only [k0_off24, iv_nat, and_nat, idx_nat]; rw [tn (by omega)]; rfl
theorem off25_eq : k0_off25 i v4 v7 v41 v43 k = resOff (othS i v4 v7) 0 (ck v41 v43 k * 512) := by
  have := cur_lt i v4 v7
  simp only [k0_off25, iv_nat, mul_nat, idx_nat, cur_word, oth_word]; rw [tn (by omega), tn (by unfold ck at hc; omega)]; rfl
theorem off26_eq : k0_off26 v41 v43 k = semOff (sl (ck v41 v43 k)) 0 := by
  simp only [k0_off26, iv_nat, add_nat, and_nat, Nat.add_mod_right]; rw [tn (by omega)]; rfl
theorem off27_eq : k0_off27 v41 v43 k = slotOff (sl (ck v41 v43 k)) 0 := by
  simp only [k0_off27, iv_nat, add_nat, and_nat, Nat.add_mod_right]; rw [tn (by omega)]; rfl
theorem cond6_iff : k0_cond6 v41 v43 k = 1#1 ↔ ck v41 v43 k + 2 < 11 := by
  have e := slt_nat (show v41.toNat + k.val + 2 < 2 ^ 31 by unfold ck at hc; omega) (show 11 < 2 ^ 31 by omega)
  simp only [k0_cond6, iv_nat, add_nat, e, ext_ne, ofBool_one, decide_eq_true_eq]
include hj
theorem off23_eq : k0_off23 i v11 v18 v41 v43 k = winOff v18.toNat (ck v41 v43 k * 512) (nj i v11 * 1024) := by
  simp only [k0_off23, iv_nat, mul_nat, nj_word]; rw [tn (by unfold ck at hc; omega), tn (by omega)]
theorem off28_eq : k0_off28 i v11 v18 v41 v43 k = winOff v18.toNat ((ck v41 v43 k + 2) * 512) (nj i v11 * 1024) := by
  simp only [k0_off28, iv_nat, add_nat, mul_nat, nj_word']; rw [tn (by unfold ck at hc; omega), tn (by omega)]
omit hc
theorem off16_eq : k0_off16 i v11 v18 = winOff v18.toNat 0 (nj i v11 * 1024) := by
  simp only [k0_off16, mul_nat, nj_word]; rw [tn (by omega)]
theorem off17_eq : k0_off17 i v11 v18 = winOff v18.toNat 512 (nj i v11 * 1024) := by
  simp only [k0_off17, mul_nat, nj_word]; rw [tn (by omega)]
omit hj
theorem off18_eq : k0_off18 i v4 v7 = slotOff (curS i v4 v7) 0 := by
  have := cur_lt i v4 v7
  simp only [k0_off18, idx_nat, cur_word]; rw [tn (by omega)]; rfl
end T2

/-! ## The checks -/

theorem winOff_inb {e r q : Nat} (he : e < 8) (hr : r + 512 ≤ 5632) (hq : q + 1024 ≤ 2048) :
    ∀ a, winOff e r q a + S1x512x1024.size a ≤ S8x5632x2048.size a := by
  intro a; fin_cases a
  · show e + 1 ≤ 8; omega
  · show r + 512 ≤ 5632; omega
  · show q + 1024 ≤ 2048; omega
theorem slotOff_inb (s : Fin 2) (m : Fin 1) : ∀ a, slotOff s m a + S1x1x512x1024.size a ≤ S2x1x512x1024.size a := by
  have := s.isLt; have := m.isLt; intro a; fin_cases a
  · show s.val + 1 ≤ 2; omega
  · show m.val + 1 ≤ 1; omega
  · show 0 + 512 ≤ 512; omega
  · show 0 + 1024 ≤ 1024; omega
theorem semOff_inb (s : Fin 2) (m : Fin 1) : ∀ a, semOff s m a + S1x1.size a ≤ S2x1.size a := by
  have := s.isLt; have := m.isLt; intro a; fin_cases a
  · show s.val + 1 ≤ 2; omega
  · show m.val + 1 ≤ 1; omega
theorem resOff_inb (s : Fin 2) (m : Fin 1) {r : Nat} (hr : r + 512 ≤ 5632) : ∀ a, resOff s m r a + S1x1x512x1024.size a ≤ S2x1x5632x1024.size a := by
  have := s.isLt; have := m.isLt; intro a; fin_cases a
  · show s.val + 1 ≤ 2; omega
  · show m.val + 1 ≤ 1; omega
  · show r + 512 ≤ 5632; omega
  · show 0 + 1024 ≤ 1024; omega
theorem bigOff_inb (s : Fin 2) (m : Fin 1) : ∀ a, slotOff s m a + S1x1x5632x1024.size a ≤ S2x1x5632x1024.size a := by
  have := s.isLt; have := m.isLt; intro a; fin_cases a
  · show s.val + 1 ≤ 2; omega
  · show m.val + 1 ≤ 1; omega
  · show 0 + 5632 ≤ 5632; omega
  · show 0 + 1024 ≤ 1024; omega

theorem chk1_ok (i : grid0.Coords) (v1 : BitVec 32) (h : v1.toNat < 8) : k0_chk1 i v1 := by
  refine ⟨fun _ => ?_, fun _ => ?_, fun k _ => ?_, fun k _ hk => ?_⟩
  · rw [off5_eq]; exact winOff_inb h (by omega) (by omega)
  · rw [off6_eq]; exact winOff_inb h (by omega) (by omega)
  · rw [off9_eq]; have := k8 k; exact winOff_inb h (by omega) (by omega)
  · rw [off14_eq]; have := (cond2_iff k).1 hk; exact winOff_inb h (by omega) (by omega)

theorem chk3_ok (i : grid0.Coords) (v2 v4 v7 : BitVec 32) : k0_chk3 i v2 v4 v7 :=
  fun _ => by rw [off18_eq]; exact bigOff_inb _ _

theorem chk2_ok (i : grid0.Coords) (v2 v11 v18 v27 : BitVec 32) (h2 : v2.toNat ≤ 72) (h18 : v18.toNat < 8) : k0_chk2 i v2 v11 v18 v27 := by
  have hd : ∀ (h4 : k0_cond3 i v2 v11 v27 = 1#1), 128 ∣ (BitVec.ofNat 32 (nj i v11 * 1024)).toNat := fun h4 => by
    have := nj_lt i v2 v11 ((cond3_iff i v2 v11 v27 h2).1 h4).1
    rw [tn (by omega)]; omega
  have hn : ∀ (h4 : k0_cond3 i v2 v11 v27 = 1#1), nj i v11 < 2 := fun h4 => nj_lt i v2 v11 ((cond3_iff i v2 v11 v27 h2).1 h4).1
  refine ⟨fun h4 => ?_, fun h4 => ?_, fun h4 => ?_, fun h4 => ?_⟩
  all_goals have hn4 := hn h4
  all_goals first
    | (simp only [k0_mult11, k0_mult11, k0_mult13, k0_mult13, nj_word, mul_nat]; exact hd h4)
    | (rw [off16_eq _ _ _ hn4]; exact winOff_inb h18 (by omega) (by omega))
    | (rw [off17_eq _ _ _ hn4]; exact winOff_inb h18 (by omega) (by omega))

theorem packed_res (off : Fin 4 → Nat) (s : Fin 2) (m : Fin 1) (c : Nat) (e : off = resOff s m (c * 512)) (hinb) :
    (Rect.unit (s := S2x1x5632x1024) off S1x1x512x1024.size hinb).PackedRows (EltTy.packing .bf16) := by
  subst e
  refine Or.inr ⟨by decide, rfl, Or.inl ⟨?_, ?_⟩⟩
  · show 2 ∣ c * 512; omega
  · show 2 ∣ 512; omega

set_option maxHeartbeats 4000000 in
theorem chk4_ok (i : grid0.Coords) (v2 v4 v7 v11 v18 v41 v43 : BitVec 32) (h2 : v2.toNat ≤ 72) (h18 : v18.toNat < 8)
    (hlo : v41.toNat ≤ v43.toNat) (hhi : v43.toNat ≤ 11) : k0_chk4 i v2 v4 v7 v11 v18 v41 v43 := by
  have hn : ∀ (h6 : k0_cond5 i v2 v11 = 1#1), nj i v11 < 2 := fun h6 => nj_lt i v2 v11 ((cond5_iff i v2 v11 h2).1 h6)
  have hc : ∀ k, ck v41 v43 k < 11 := fun k => Nat.lt_of_lt_of_le (ck8 v41 v43 k hlo hhi) hhi
  have no3 : ∀ k : Fin (k0_t3_loop v41 v43).trips, False := fun k => Nat.not_lt_zero _ (Nat.lt_of_lt_of_eq k.isLt (trips3 v41 v43))
  have hd : ∀ (h6 : k0_cond5 i v2 v11 = 1#1), 128 ∣ (BitVec.ofNat 32 (nj i v11 * 1024)).toNat := fun h6 => by
    have := hn h6; rw [tn (by omega)]; omega
  have hm : ∀ k, 512 ∣ (BitVec.ofNat 32 (ck v41 v43 k * 512)).toNat := fun k => by
    have := hc k; rw [tn (by omega)]; omega
  have hm2 : ∀ k, 512 ∣ (BitVec.ofNat 32 ((ck v41 v43 k + 2) * 512)).toNat := fun k => by
    have := hc k; rw [tn (by omega)]; omega
  have ok2 : (k0_t2_loop v41 v43).OK := by
    have ht := trips2 v41 v43 hlo hhi
    rw [loop2] at ht ⊢; unfold Scf.Loop.trips at ht
    simp only [ht, Scf.Loop.OK, Scf.OK, small_toInt hhi, small_toInt (hlo.trans hhi), show (1#32 : BitVec 32).toInt = 1 by decide]
    omega
  have ok3 : (k0_t3_loop v41 v43).OK := by
    have ht := trips3 v41 v43
    rw [loop3] at ht ⊢; unfold Scf.Loop.trips at ht
    simp only [ht, Scf.Loop.OK, Scf.OK, small_toInt hhi, show (1#32 : BitVec 32).toInt = 1 by decide]
    omega
  refine ⟨fun h6 => ok2, fun k h6 => ?_, fun k h6 => ?_, fun k h6 => ?_, fun k h6 => ?_, fun k h6 => ?_, fun k h6 => ?_, fun k h6 => ?_,
    fun k h6 => ?_, fun k h6 _ => ?_, fun k h6 h7 => ?_, fun k h6 h7 => ?_, fun k h6 h7 => ?_, fun k h6 h7 => ?_, fun k h6 h7 => ?_,
    fun h6 => ok3, ?_⟩
  case refine_15 => repeat' first | exact fun k => (no3 k).elim | refine ⟨fun k => (no3 k).elim, ?_⟩
  all_goals have hn4 := hn h6
  all_goals have hk8 := hc k
  all_goals first
    | (simp only [k0_mult15, k0_mult18, nj_word, mul_nat]; exact hd h6)
    | (simp only [k0_mult14, k0_mult16, iv_nat, mul_nat]; exact hm k)
    | (simp only [k0_mult17, iv_nat, add_nat, mul_nat]; exact hm2 k)
    | (rw [off21_eq _ _ _ hk8]; exact semOff_inb _ _)
    | (rw [off26_eq _ _ _ hk8]; exact semOff_inb _ _)
    | (rw [off22_eq _ _ _ hk8]; exact slotOff_inb _ _)
    | (rw [off24_eq _ _ _ hk8]; exact slotOff_inb _ _)
    | (rw [off27_eq _ _ _ hk8]; exact slotOff_inb _ _)
    | (rw [off23_eq _ _ _ _ _ _ hk8 hn4]; exact winOff_inb h18 (by omega) (by omega))
    | (rw [off28_eq _ _ _ _ _ _ hk8 hn4]; have := (cond6_iff _ _ _ hk8).1 h7; exact winOff_inb h18 (by omega) (by omega))
    | (rw [off25_eq _ _ _ _ _ _ hk8]; exact resOff_inb _ _ (by omega))
    | (exact packed_res _ _ _ _ (off25_eq _ _ _ _ _ _ hk8) _)

end Cert.Proof.Dn
-- ==== Proof.DnLanes.lean ====
/-
  The resources of the expert-weight stream: the staging slots, their transfer cells, the weight windows, a transfer
  in flight; and the printed slices under these names.
-/
module

public import proofs.«01_k».proof.Proof.DnWords
public import Idealize.ShloMosaic.Lib.Pipeline.Frame
public import Idealize.ShloMosaic.Lib.Ring

@[expose] public section

set_option maxRecDepth 16384

noncomputable section

namespace Cert.Proof.Dn

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ
abbrev 𝒱₀ : Variants := Variants.none

omit [FloatOps F] in
theorem entails_of_eq {P Q : sProp 𝕄} (e : P = Q) : P ⊢ Q := e ▸ .rfl

abbrev gM : Memref sig .tc .hbm S8x5632x2048 .f32 := Memref.whole main_arg3
abbrev bM : Memref sig .tc .vmem S2x1x5632x1024 .bf16 := Memref.whole cc0_scratch0
abbrev sM : Memref sig .tc .vmem S2x1x512x1024 .f32 := Memref.whole cc0_scratch1

/-- The window of a weight a transfer reads: expert `e`, chunk `r` of its rows, tile column `j`. -/
def win (W : Memref sig .tc .hbm S8x5632x2048 .f32) (e : Fin 8) (r : Fin 11) (j : Fin 2) : Memref sig .tc .hbm S512x1024 .f32 :=
  (W.slice (Rect.unit (s := S8x5632x2048) (winOff e.val (r.val * 512) (j.val * 1024)) S1x512x1024.size
    (winOff_inb e.isLt (by omega) (by omega))) (fun _ => rfl)).squeeze S512x1024 squeezes_S1x512x1024_S512x1024
/-- Staging slot `s` of matrix `m`. -/
def slot (s : Fin 2) (m : Fin 1) : Memref sig .tc .vmem S512x1024 .f32 :=
  (sM.slice (Rect.unit (s := S2x1x512x1024) (slotOff s m) S1x1x512x1024.size (slotOff_inb s m)) (fun _ => rfl)).squeeze S512x1024 squeezes_S1x1x512x1024_S512x1024
/-- Its transfer semaphore. -/
def csm (s : Fin 2) (m : Fin 1) : DmaSems sig S_ :=
  (cc0_scratch2.slice (Rect.unit (s := S2x1) (semOff s m) S1x1.size (semOff_inb s m))).squeeze S_ squeezes_S1x1_S_

abbrev f8 (n : Nat) : Fin 8 := ⟨n % 8, Nat.mod_lt _ (by decide)⟩
abbrev f11 (n : Nat) : Fin 11 := ⟨n % 11, Nat.mod_lt _ (by decide)⟩
abbrev f2 (n : Nat) : Fin 2 := ⟨n % 2, Nat.mod_lt _ (by decide)⟩

theorem csm_congr {off : Fin 2 → Nat} {s : Fin 2} {m : Fin 1} (e : off = semOff s m) (hh) :
    (cc0_scratch2.slice (Rect.unit (s := S2x1) off S1x1.size hh)).squeeze S_ squeezes_S1x1_S_ = csm s m :=
  congrArg (fun A : DmaSems sig S1x1 => A.squeeze S_ squeezes_S1x1_S_) (SemArray.slice_unit_congr _ e _ _)
theorem slot_congr {off : Fin 4 → Nat} {s : Fin 2} {m : Fin 1} (e : off = slotOff s m) (hh hs) :
    (sM.slice (Rect.unit (s := S2x1x512x1024) off S1x1x512x1024.size hh) hs).squeeze S512x1024 squeezes_S1x1x512x1024_S512x1024 = slot s m :=
  congrArg (fun M : Memref sig .tc .vmem S1x1x512x1024 .f32 => M.squeeze S512x1024 squeezes_S1x1x512x1024_S512x1024) (Memref.slice_unit_congr _ e _ _ _ _)
theorem win_congr (W : Memref sig .tc .hbm S8x5632x2048 .f32) {off : Fin 3 → Nat} {e r j : Nat} (he : e < 8) (hr : r < 11) (hj : j < 2)
    (h : off = winOff e (r * 512) (j * 1024)) (hh hs) :
    (W.slice (Rect.unit (s := S8x5632x2048) off S1x512x1024.size hh) hs).squeeze S512x1024 squeezes_S1x512x1024_S512x1024 = win W (f8 e) (f11 r) (f2 j) :=
  congrArg (fun M : Memref sig .tc .hbm S1x512x1024 .f32 => M.squeeze S512x1024 squeezes_S1x512x1024_S512x1024)
    (Memref.slice_unit_congr _ (h.trans (by
      show winOff _ _ _ = winOff (e % 8) (r % 11 * 512) (j % 2 * 1024)
      rw [Nat.mod_eq_of_lt he, Nat.mod_eq_of_lt hr, Nat.mod_eq_of_lt hj])) _ _ _ _)

/-! ## The printed slices are these -/

section Canon1
variable (v1 : BitVec 32) (k : Fin k0_t1_loop.trips) (h1 : v1.toNat < 8)
@[sl_canon] theorem sem7 (hh) : (cc0_scratch2.slice (Rect.unit (s := S2x1) (k0_off7 k) S1x1.size hh)).squeeze S_ squeezes_S1x1_S_ = csm (sl k) 0 := csm_congr (off7_eq k) _
@[sl_canon] theorem sem12 (hh) : (cc0_scratch2.slice (Rect.unit (s := S2x1) (k0_off12 k) S1x1.size hh)).squeeze S_ squeezes_S1x1_S_ = csm (sl k) 0 := csm_congr (off12_eq k) _
@[sl_canon] theorem slot8 (hh hs) : (sM.slice (Rect.unit (s := S2x1x512x1024) (k0_off8 k) S1x1x512x1024.size hh) hs).squeeze S512x1024 squeezes_S1x1x512x1024_S512x1024 = slot (sl k) 0 := slot_congr (off8_eq k) _ _
@[sl_canon] theorem slot13 (hh hs) : (sM.slice (Rect.unit (s := S2x1x512x1024) (k0_off13 k) S1x1x512x1024.size hh) hs).squeeze S512x1024 squeezes_S1x1x512x1024_S512x1024 = slot (sl k) 0 := slot_congr (off13_eq k) _ _
include h1
@[sl_canon] theorem win9g (hh hs) : (gM.slice (Rect.unit (s := S8x5632x2048) (k0_off9 v1 k) S1x512x1024.size hh) hs).squeeze S512x1024 squeezes_S1x512x1024_S512x1024 = win gM (f8 v1.toNat) (f11 k) (f2 0) := win_congr gM h1 (k8 k) (by decide) (off9_eq v1 k) _ _
@[sl_canon] theorem win14 (hk : k.val + 2 < 11) (hh hs) : (gM.slice (Rect.unit (s := S8x5632x2048) (k0_off14 v1 k) S1x512x1024.size hh) hs).squeeze S512x1024 squeezes_S1x512x1024_S512x1024 = win gM (f8 v1.toNat) (f11 (k + 2)) (f2 0) := win_congr gM h1 hk (by decide) (off14_eq v1 k) _ _
@[sl_canon] theorem win5g (hh hs) : (gM.slice (Rect.unit (s := S8x5632x2048) (k0_off5 v1) S1x512x1024.size hh) hs).squeeze S512x1024 squeezes_S1x512x1024_S512x1024 = win gM (f8 v1.toNat) (f11 0) (f2 0) := win_congr gM h1 (by decide) (by decide) (off5_eq v1) _ _
@[sl_canon] theorem win6g (hh hs) : (gM.slice (Rect.unit (s := S8x5632x2048) (k0_off6 v1) S1x512x1024.size hh) hs).squeeze S512x1024 squeezes_S1x512x1024_S512x1024 = win gM (f8 v1.toNat) (f11 1) (f2 0) := win_congr gM h1 (by decide) (by decide) (off6_eq v1) _ _
end Canon1

/-- The prologue's literal slots and semaphores. -/
@[sl_canon] theorem semL00 (hh) : (cc0_scratch2.slice (Rect.unit (s := S2x1) ![0, 0] S1x1.size hh)).squeeze S_ squeezes_S1x1_S_ = csm 0 0 := csm_congr (by decide) _
@[sl_canon] theorem semL10 (hh) : (cc0_scratch2.slice (Rect.unit (s := S2x1) ![1, 0] S1x1.size hh)).squeeze S_ squeezes_S1x1_S_ = csm 1 0 := csm_congr (by decide) _
@[sl_canon] theorem slotL00 (hh hs) : (sM.slice (Rect.unit (s := S2x1x512x1024) ![0, 0, 0, 0] S1x1x512x1024.size hh) hs).squeeze S512x1024 squeezes_S1x1x512x1024_S512x1024 = slot 0 0 := slot_congr (by decide) _ _
@[sl_canon] theorem slotL10 (hh hs) : (sM.slice (Rect.unit (s := S2x1x512x1024) ![1, 0, 0, 0] S1x1x512x1024.size hh) hs).squeeze S512x1024 squeezes_S1x1x512x1024_S512x1024 = slot 1 0 := slot_congr (by decide) _ _

section Canon2
variable (i : grid0.Coords) (v4 v7 v11 v18 v41 v43 : BitVec 32) (k : Fin (k0_t2_loop v41 v43).trips) (h18 : v18.toNat < 8) (hc : ck v41 v43 k < 11) (hj : nj i v11 < 2)
include hc in
@[sl_canon] theorem sem29 (hh) : (cc0_scratch2.slice (Rect.unit (s := S2x1) (k0_off21 v41 v43 k) S1x1.size hh)).squeeze S_ squeezes_S1x1_S_ = csm (sl (ck v41 v43 k)) 0 := csm_congr (off21_eq v41 v43 k hc) _
include hc in
@[sl_canon] theorem sem34 (hh) : (cc0_scratch2.slice (Rect.unit (s := S2x1) (k0_off26 v41 v43 k) S1x1.size hh)).squeeze S_ squeezes_S1x1_S_ = csm (sl (ck v41 v43 k)) 0 := csm_congr (off26_eq v41 v43 k hc) _
include hc in
@[sl_canon] theorem slot30 (hh hs) : (sM.slice (Rect.unit (s := S2x1x512x1024) (k0_off22 v41 v43 k) S1x1x512x1024.size hh) hs).squeeze S512x1024 squeezes_S1x1x512x1024_S512x1024 = slot (sl (ck v41 v43 k)) 0 := slot_congr (off22_eq v41 v43 k hc) _ _
include hc in
@[sl_canon] theorem slot35 (hh hs) : (sM.slice (Rect.unit (s := S2x1x512x1024) (k0_off27 v41 v43 k) S1x1x512x1024.size hh) hs).squeeze S512x1024 squeezes_S1x1x512x1024_S512x1024 = slot (sl (ck v41 v43 k)) 0 := slot_congr (off27_eq v41 v43 k hc) _ _
include h18 hj
include hc in
@[sl_canon] theorem win31g (hh hs) : (gM.slice (Rect.unit (s := S8x5632x2048) (k0_off23 i v11 v18 v41 v43 k) S1x512x1024.size hh) hs).squeeze S512x1024 squeezes_S1x512x1024_S512x1024 = win gM (f8 v18.toNat) (f11 (ck v41 v43 k)) (f2 (nj i v11)) := win_congr gM h18 hc hj (off23_eq i v11 v18 v41 v43 k hc hj) _ _
include hc in
@[sl_canon] theorem win36 (hk : ck v41 v43 k + 2 < 11) (hh hs) : (gM.slice (Rect.unit (s := S8x5632x2048) (k0_off28 i v11 v18 v41 v43 k) S1x512x1024.size hh) hs).squeeze S512x1024 squeezes_S1x512x1024_S512x1024 = win gM (f8 v18.toNat) (f11 (ck v41 v43 k + 2)) (f2 (nj i v11)) := win_congr gM h18 hk hj (off28_eq i v11 v18 v41 v43 k hc hj) _ _
@[sl_canon] theorem win23g (hh hs) : (gM.slice (Rect.unit (s := S8x5632x2048) (k0_off16 i v11 v18) S1x512x1024.size hh) hs).squeeze S512x1024 squeezes_S1x512x1024_S512x1024 = win gM (f8 v18.toNat) (f11 0) (f2 (nj i v11)) := win_congr gM h18 (by decide) hj (off16_eq i v11 v18 hj) _ _
@[sl_canon] theorem win24g (hh hs) : (gM.slice (Rect.unit (s := S8x5632x2048) (k0_off17 i v11 v18) S1x512x1024.size hh) hs).squeeze S512x1024 squeezes_S1x512x1024_S512x1024 = win gM (f8 v18.toNat) (f11 1) (f2 (nj i v11)) := win_congr gM h18 (by decide) hj (off17_eq i v11 v18 hj) _ _
end Canon2

/-! ## Resources -/

instance (s : Fin 2) (m : Fin 1) : ClosedOff (slotOff s m) := ⟨slotOff s m, rfl⟩
instance (k : Fin k0_t1_loop.trips) : ClosedOff (k0_off10 k) := ⟨slotOff (sl k) 0, off10_eq k⟩
instance (k : Fin k0_t1_loop.trips) : ClosedOff (k0_off8 k) := ⟨slotOff (sl k) 0, off8_eq k⟩

/-- The share of the weights a slot's transfers read at. -/
def shr (s : Fin 2) : PosShare TreeShare := if s = 0 then fullShare.left else fullShare.right

section Res
variable (c : Dev nD)

abbrev cellP (s : Fin 2) (m : Fin 1) : sProp 𝕄 := semVal ((c : Thread nD τ), SemLoc.dma (csm s m).sem) 0
abbrev slotP (s : Fin 2) (m : Fin 1) (f : Buf (Elt F) ((slot s m).view.loc (c : Thread nD τ))) : sProp 𝕄 :=
  (slot s m).view.loc (c : Thread nD τ) ↦[(slot s m).view.set]{fullShare} f
abbrev bP (f : Buf (Elt F) (bM.view.loc (c : Thread nD τ))) : sProp 𝕄 := bM.view.loc (c : Thread nD τ) ↦[bM.view.set]{fullShare} f

variable (W : Memref sig .tc .hbm S8x5632x2048 .f32) (XW : Buf (Elt F) (W.view.loc (c : Thread nD τ)))
/-- A weight held whole at a slot's share. -/
abbrev wholeP (s : Fin 2) : sProp 𝕄 := W.view.loc (c : Thread nD τ) ↦[Finset.univ]{shr s} XW
/-- All of a weight but the window lent. -/
abbrev restP (s : Fin 2) (e : Fin 8) (r : Fin 11) (j : Fin 2) : sProp 𝕄 :=
  (win W e r j).view.loc (c : Thread nD τ) ↦[Finset.univ \ (win W e r j).view.set]{shr s} XW
abbrev landed (s : Fin 2) (m : Fin 1) (e : Fin 8) (r : Fin 11) (j : Fin 2) (f : Buf (Elt F) ((slot s m).view.loc (c : Thread nD τ))) : Buf (Elt F) ((slot s m).view.loc (c : Thread nD τ)) :=
  (slot s m).view.writes (Elt F) f [⟨Rect.whole S512x1024, ReadAs.same.apply ((win W e r j).view.read (Elt F) XW)⟩]
abbrev NN : ℕ := 65536
abbrev flightP (s : Fin 2) (m : Fin 1) (e : Fin 8) (r : Fin 11) (j : Fin 2) (f : Buf (Elt F) ((slot s m).view.loc (c : Thread nD τ))) : sProp 𝕄 :=
  Transfers.Flight countersEmb (c : Thread nD τ) (SemLoc.dma (csm s m).sem) () NN
    iprop(slotP c s m (landed c W XW s m e r j f) ∗ ((win W e r j).view.loc (c : Thread nD τ) ↦[(win W e r j).view.set]{shr s} XW))
/-- Slot `s` of a matrix with a window in flight. -/
def laneF (s : Fin 2) (m : Fin 1) (e : Fin 8) (r : Fin 11) (j : Fin 2) : sProp 𝕄 := iprop((∃ f, flightP c W XW s m e r j f) ∗ restP c W XW s e r j)
/-- Slot `s` of a matrix at rest. -/
def laneI (s : Fin 2) (m : Fin 1) : sProp 𝕄 := iprop((∃ f, slotP c s m f) ∗ cellP c s m ∗ wholeP c W XW s)
end Res

end Cert.Proof.Dn

end
-- ==== Proof.DnLoad.lean ====
/-
  What the stream puts into the resident buffer: a chunk's cast rows, read through the staging slot that received
  them, and the store of a trip as a change of the buffer.
-/
module

public import proofs.«01_k».proof.Proof.DnLanes
public import Idealize.ShloMosaic.Lib.ValueLayout
public import Idealize.ShloMosaic.Lib.WritesUnit

@[expose] public section

set_option maxRecDepth 16384

noncomputable section

namespace Cert.Proof.Dn

open Cert.Kernel3Ideal Cert.Kernel3Ideal.Gen
open Idealize.ShloMosaic
open Idealize.ShloMosaic.TcCoe
open Idealize.ShloMosaic.ValueIdx

variable {F : FTy → Type} [FloatOps F]

/-- The cast of one weight to the resident buffer's format. -/
def tc (x : Elt F .f32) : Elt F .bf16 := FloatOps.truncf .bf16 bitsLt_bf16_f32 x

/-- A stored chunk is the loaded chunk cast entry by entry; one fact for each of the three payloads. -/
theorem pay5_apply (v : Vec F S1x1x512x1024 .f32) (y : S1x1x512x1024.Idx) : k0_pay5 v y = tc (v y) :=
  congrArg (fun z => tc (v z)) (Shape.reshapeEquiv_reshapeEquiv (s := S1x1x512x1024) (s' := S512x1024) (s'' := S1x1x512x1024) (by decide) (by decide) y |>.trans (Shape.reshapeEquiv_self _ y))
theorem pay2_apply (v : Vec F S1x1x512x1024 .f32) (y : S1x1x512x1024.Idx) : k0_pay2 v y = tc (v y) := pay5_apply v y
theorem pay3_apply (v : Vec F S1x1x512x1024 .f32) (y : S1x1x512x1024.Idx) : k0_pay3 v y = tc (v y) := pay5_apply v y

/-- The column of the weight under column `y` of tile column `j`. -/
def col (j : Fin 2) (y : Fin 1024) : Fin 2048 := ⟨j.val * 1024 + y.val, by omega⟩
def row (r : Fin 11) (y : Fin 512) : Fin 5632 := ⟨r.val * 512 + y.val, by omega⟩

/-- A window reads the weight at its own rows and columns. -/
theorem win_read (W : Memref sig .tc .hbm S8x5632x2048 .f32) (f : W.view.ty.Contents (Elt F)) (e : Fin 8) (r : Fin 11) (j : Fin 2) (a : Fin 512) (b : Fin 1024) :
    (win W e r j).view.read (Elt F) f (ix2 a b) = W.view.read (Elt F) f (ix3 e (row r a) (col j b)) := by
  refine Eq.trans (b := W.view.read (Elt F) f ((Rect.unit (s := S8x5632x2048) (winOff e.val (r.val * 512) (j.val * 1024)) S1x512x1024.size
    (winOff_inb e.isLt (by omega) (by omega))).emb (Shape.reshapeEquiv squeezes_S1x512x1024_S512x1024.numel_eq (ix2 a b)))) rfl ?_
  congr 1
  rw [show Shape.reshapeEquiv squeezes_S1x512x1024_S512x1024.numel_eq (ix2 a b) = ix3 (⟨0, Nat.one_pos⟩ : Fin 1) a b from reshapeEquiv_ix2_1ab _ a b]
  funext q
  refine Fin.ext ?_
  fin_cases q
  · show e.val + 1 * 0 = e.val; omega
  · show r.val * 512 + 1 * a.val = r.val * 512 + a.val; omega
  · show j.val * 1024 + 1 * b.val = j.val * 1024 + b.val; omega

/-- A load of a slot through the whole staging buffer reads the transfer the slot received. -/
theorem slot_load (s : Fin 2) (m : Fin 1) (f : (slot s m).view.ty.Contents (Elt F)) (w : S512x1024.Idx → Elt F .f32) {off : Fin 4 → Nat} (hoff : off = slotOff s m)
    (inb) (y : S1x1x512x1024.Idx) :
    sM.view.readAt (Elt F) (Rect.unit (s := S2x1x512x1024) off S1x1x512x1024.size inb).toLoadRect
      ((slot s m).view.writes (Elt F) f [⟨Rect.whole S512x1024, w⟩]) y = w (ix2 (y 2) (y 3)) := by
  subst hoff
  refine Eq.trans ?_ (congrFun (View.read_writes_whole (slot s m).view f w) (ix2 (y 2) (y 3)))
  refine Eq.trans (b := sM.view.read (Elt F) ((slot s m).view.writes (Elt F) f [⟨Rect.whole S512x1024, w⟩]) ((Rect.unit (s := S2x1x512x1024) (slotOff s m) S1x1x512x1024.size inb).emb y)) rfl ?_
  refine Eq.trans (b := sM.view.read (Elt F) ((slot s m).view.writes (Elt F) f [⟨Rect.whole S512x1024, w⟩]) ((Rect.unit (s := S2x1x512x1024) (slotOff s m) S1x1x512x1024.size inb).emb
    (Shape.reshapeEquiv squeezes_S1x1x512x1024_S512x1024.numel_eq (ix2 (y 2) (y 3))))) ?_ rfl
  congr 2
  rw [show Shape.reshapeEquiv squeezes_S1x1x512x1024_S512x1024.numel_eq (ix2 (y 2) (y 3)) = ix4 (⟨0, Nat.one_pos⟩ : Fin 1) (⟨0, Nat.one_pos⟩ : Fin 1) (y 2) (y 3) from
    reshapeEquiv_ix2_11ab _ (y 2) (y 3)]
  funext q
  fin_cases q
  · exact Subsingleton.elim (α := Fin 1) _ _
  · exact Subsingleton.elim (α := Fin 1) _ _
  · rfl
  · rfl

/-! ## The resident buffer -/

/-- The entry of the resident buffer a weight holds for: position `x` of expert `e`, tile column `j`. -/
def wt (X : S8x5632x2048.Idx → Elt F .f32) (e : Fin 8) (j : Fin 2) (x : S2x1x5632x1024.Idx) : Elt F .bf16 :=
  tc (X (ix3 e (x 2) (col j (x 3))))

/-- `B'` is `B` with chunk `r` of resident slot `s` replaced by the weights of expert `e`, tile column `j`. -/
structure Upd (XG : S8x5632x2048.Idx → Elt F .f32) (B B' : S2x1x5632x1024.Idx → Elt F .bf16) (s : Fin 2) (r : Fin 11) (e : Fin 8) (j : Fin 2) : Prop where
  here : ∀ x : S2x1x5632x1024.Idx, x 0 = s → r.val * 512 ≤ (x 2).val → (x 2).val < r.val * 512 + 512 → B' x = wt XG e j x
  other : ∀ x : S2x1x5632x1024.Idx, (x 0 ≠ s ∨ (x 2).val < r.val * 512 ∨ r.val * 512 + 512 ≤ (x 2).val) → B' x = B x

/-- The store of a trip changes the buffer so. -/
theorem upd_of_writes (XG : S8x5632x2048.Idx → Elt F .f32) (f : bM.view.ty.Contents (Elt F)) (s : Fin 2) (r : Fin 11) (e : Fin 8) (j : Fin 2)
    {o0 : Fin 4 → Nat} (h0 : o0 = resOff s 0 (r.val * 512)) (inb0) (w0 : S1x1x512x1024.Idx → Elt F .bf16)
    (hw0 : ∀ y, w0 y = tc (XG (ix3 e (row r (y 2)) (col j (y 3))))) :
    Upd XG (bM.view.read (Elt F) f) (bM.view.read (Elt F) (bM.view.writes (Elt F) f
      [⟨Rect.unit (s := S2x1x5632x1024) o0 S1x1x512x1024.size inb0, w0⟩])) s r e j where
  here x hs hl hu := by
    have hm : (x 1).val = 0 := by have : (x 1).val < 1 := (x 1).isLt; omega
    let y : S1x1x512x1024.Idx := ix4 (0 : Fin 1) (0 : Fin 1) (⟨(x 2).val - r.val * 512, by omega⟩ : Fin 512) (x 3)
    rw [View.read_writes_cons_unit_of_mem bM.view f inb0 w0 _ x y h0 (fun a => by
      fin_cases a
      · show (x 0).val = s.val + 0; rw [hs]; rfl
      · show (x 1).val = 0 + 0; rw [hm]
      · show (x 2).val = r.val * 512 + ((x 2).val - r.val * 512); omega
      · show (x 3).val = 0 + (x 3).val; omega), hw0]
    have e2 : row r (y 2) = x 2 := Fin.ext (by show r.val * 512 + ((x 2).val - r.val * 512) = (x 2).val; omega)
    show tc (XG (ix3 e (row r (y 2)) (col j (x 3)))) = tc (XG (ix3 e (x 2) (col j (x 3))))
    rw [e2]
  other x hx := by
    have ht : ∃ a : Fin 4, (x a).val < resOff s 0 (r.val * 512) a ∨ resOff s 0 (r.val * 512) a + S1x1x512x1024.size a ≤ (x a).val := by
      rcases hx with h | h | h
      · refine ⟨0, ?_⟩
        have h' : (x 0).val ≠ s.val := fun q => h (Fin.ext q)
        show (x 0).val < s.val ∨ s.val + 1 ≤ (x 0).val
        omega
      · exact ⟨2, Or.inl h⟩
      · exact ⟨2, Or.inr h⟩
    obtain ⟨a, ha⟩ := ht
    rw [View.read_writes_cons_unit_of_not_mem bM.view f inb0 w0 _ x h0 a ha]
    rfl

end Cert.Proof.Dn

end
-- ==== Proof.DnTrip.lean ====
/-
  One trip of each of the down stream's loops: a chunk put away, the next but one asked for.
-/
module

public import proofs.«01_k».proof.Proof.DnLoad

@[expose] public section

set_option maxRecDepth 16384

noncomputable section

namespace Cert.Proof.Dn

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-- A weight held whole, named through one window or another. -/
theorem whole_at (c : Dev nD) (W : Memref sig .tc .hbm S8x5632x2048 .f32) (XW : Buf (Elt F) (W.view.loc (c : Thread nD τ))) (s : Fin 2)
    (e : Fin 8) (r : Fin 11) (j : Fin 2) (e' : Fin 8) (r' : Fin 11) (j' : Fin 2) :
    ((win W e r j).view.loc (c : Thread nD τ) ↦[Finset.univ]{shr s} XW : sProp 𝕄)
      ⊢ ((win W e' r' j').view.loc (c : Thread nD τ) ↦[Finset.univ]{shr s} XW : sProp 𝕄) := .rfl

section Trip1
variable (c : Dev nD) (XG : Buf (Elt F) (gM.view.loc (c : Thread nD τ)))
  (i : grid0.Coords)
  (arg2 : Memref sig .tc .smem S8x72 .i32) (harg2 : arg2.IsWhole) (arg3 : Memref sig .tc .smem S1 .i32) (harg3 : arg3.IsWhole)
  (arg4 : Memref sig .tc .vmem S256x5632 .bf16) (harg4 : arg4.IsWhole) (arg7 : Memref sig .tc .vmem S256x1024 .f32) (harg7 : arg7.IsWhole)
  (v1 : BitVec 32) (hw1 : k0_chk1 i v1) (hc1 : k0_cond1 i = 1#1)

abbrev trip1 (k : Fin k0_t1_loop.trips) : Prog (TpuEff nD τ sig (Elt F) Λ₀ .tc) Unit :=
  k0_t1_body (F := F) i arg2 harg2 arg3 harg3 arg4 harg4 gM (Memref.isWhole_whole _) arg7 harg7
    bM (Memref.isWhole_whole _) sM (Memref.isWhole_whole _) cc0_scratch2 v1 hw1 hc1 k ()

set_option backward.proofsInPublic true in
theorem tripRun1a (k : Fin k0_t1_loop.trips) (h1 : v1.toNat < 8) (hk : k.val + 2 < 11) (f : Buf (Elt F) (bM.view.loc (c : Thread nD τ))) :
    iprop(bP c f ∗ (∃ O, owes (c : Thread nD τ) 0 O) ∗ laneF c gM XG (sl k) 0 (f8 v1.toNat) (f11 k) (f2 0))
      ⊢ wp frame (wpE (defs₀ (F := F)) 𝒱₀ (c : Thread nD τ) none) Set.univ (trip1 i arg2 harg2 arg3 harg3 arg4 harg4 arg7 harg7 v1 hw1 hc1 k)
        (fun _ => iprop((∃ f', bP c f' ∗ ⌜Upd (gM.view.read (Elt F) XG) (bM.view.read (Elt F) f) (bM.view.read (Elt F) f') 0 (f11 k) (f8 v1.toNat) (f2 0)⌝) ∗ (∃ O, owes (c : Thread nD τ) 0 O) ∗ laneF c gM XG (sl k) 0 (f8 v1.toNat) (f11 (k + 2)) (f2 0))) := by
  have hc2 : k0_cond2 k = 1#1 := (cond2_iff k).2 hk
  unfold laneF
  iintro ⟨HB, ⟨%O, HO⟩, ⟨%fg, HFG⟩, HRG⟩
  dsimp only [trip1]
  sl_unfold [k0_t1_body]
  sl_exec
  ihave HRG' := (whole_at c gM XG (sl k) (f8 v1.toNat) (f11 k) (f2 0) (f8 v1.toNat) (f11 (k + 2)) (f2 0)) $$ HRG
  sl_exec
  sl_step
  isplitl [HB]
  · iexists _
    isplitl [HB]
    · iexact HB
    · ipureintro
      exact upd_of_writes _ f 0 (f11 k) (f8 v1.toNat) (f2 0) (by rw [off11_eq]; show _ = resOff 0 0 (k.val % 11 * 512); rw [Nat.mod_eq_of_lt (k8 k)]) _ _
        (fun y => (pay5_apply _ y).trans (congrArg tc ((slot_load (sl k) 0 _ _ (off10_eq k) _ y).trans (win_read gM XG (f8 v1.toNat) (f11 k) (f2 0) (y 2) (y 3)))))
  isplitl [HO]
  · iexists _; iexact HO
  isplitl [HFG]
  · iexists _; iexact HFG
  · iexact HRG'
set_option backward.proofsInPublic true in
theorem tripRun1b (k : Fin k0_t1_loop.trips) (h1 : v1.toNat < 8) (hk : ¬ k.val + 2 < 11) (f : Buf (Elt F) (bM.view.loc (c : Thread nD τ))) :
    iprop(bP c f ∗ (∃ O, owes (c : Thread nD τ) 0 O) ∗ laneF c gM XG (sl k) 0 (f8 v1.toNat) (f11 k) (f2 0))
      ⊢ wp frame (wpE (defs₀ (F := F)) 𝒱₀ (c : Thread nD τ) none) Set.univ (trip1 i arg2 harg2 arg3 harg3 arg4 harg4 arg7 harg7 v1 hw1 hc1 k)
        (fun _ => iprop((∃ f', bP c f' ∗ ⌜Upd (gM.view.read (Elt F) XG) (bM.view.read (Elt F) f) (bM.view.read (Elt F) f') 0 (f11 k) (f8 v1.toNat) (f2 0)⌝) ∗ (∃ O, owes (c : Thread nD τ) 0 O) ∗ laneI c gM XG (sl k) 0)) := by
  have hc2 : ¬ k0_cond2 k = 1#1 := fun h => hk ((cond2_iff k).1 h)
  unfold laneF laneI
  iintro ⟨HB, ⟨%O, HO⟩, ⟨%fg, HFG⟩, HRG⟩
  dsimp only [trip1]
  sl_unfold [k0_t1_body]
  sl_exec
  sl_step
  isplitl [HB]
  · iexists _
    isplitl [HB]
    · iexact HB
    · ipureintro
      exact upd_of_writes _ f 0 (f11 k) (f8 v1.toNat) (f2 0) (by rw [off11_eq]; show _ = resOff 0 0 (k.val % 11 * 512); rw [Nat.mod_eq_of_lt (k8 k)]) _ _
        (fun y => (pay5_apply _ y).trans (congrArg tc ((slot_load (sl k) 0 _ _ (off10_eq k) _ y).trans (win_read gM XG (f8 v1.toNat) (f11 k) (f2 0) (y 2) (y 3)))))
  isplitl [HO]
  · iexists _; iexact HO
  isplitl [HFG_dst]
  · iexists _; iexact HFG_dst
  isplitl [HFG]
  · iexact HFG
  · iexact HRG
end Trip1

section Closed2
variable (v41 v43 : BitVec 32) (k : Fin (k0_t2_loop v41 v43).trips) [h : Fact (ck v41 v43 k < 11)]
instance : ClosedOff (k0_off24 v41 v43 k) := ⟨slotOff (sl (ck v41 v43 k)) 0, off24_eq v41 v43 k h.out⟩
end Closed2

section Trip2
variable (c : Dev nD) (XG : Buf (Elt F) (gM.view.loc (c : Thread nD τ)))
  (i : grid0.Coords)
  (arg2 : Memref sig .tc .smem S8x72 .i32) (harg2 : arg2.IsWhole) (arg3 : Memref sig .tc .smem S1 .i32) (harg3 : arg3.IsWhole)
  (arg4 : Memref sig .tc .vmem S256x5632 .bf16) (harg4 : arg4.IsWhole) (arg7 : Memref sig .tc .vmem S256x1024 .f32) (harg7 : arg7.IsWhole)
  (v2 v4 v7 v11 v18 : BitVec 32) (h6 : k0_cond5 i v2 v11 = 1#1) (v41 v43 : BitVec 32) (hw4 : k0_chk4 i v2 v4 v7 v11 v18 v41 v43)

abbrev trip2 (k : Fin (k0_t2_loop v41 v43).trips) : Prog (TpuEff nD τ sig (Elt F) Λ₀ .tc) Unit :=
  k0_t2_body (F := F) i arg2 harg2 arg3 harg3 arg4 harg4 gM (Memref.isWhole_whole _) arg7 harg7
    bM (Memref.isWhole_whole _) sM (Memref.isWhole_whole _) cc0_scratch2 v2 v4 v7 v11 v18 h6 v41 v43 hw4 k ()

set_option backward.proofsInPublic true in
theorem tripRun2a (k : Fin (k0_t2_loop v41 v43).trips) (h18 : v18.toNat < 8) (hj : nj i v11 < 2) (hc : ck v41 v43 k < 11) (hk : ck v41 v43 k + 2 < 11) (f : Buf (Elt F) (bM.view.loc (c : Thread nD τ))) :
    iprop(bP c f ∗ (∃ O, owes (c : Thread nD τ) 0 O) ∗ laneF c gM XG (sl (ck v41 v43 k)) 0 (f8 v18.toNat) (f11 (ck v41 v43 k)) (f2 (nj i v11)))
      ⊢ wp frame (wpE (defs₀ (F := F)) 𝒱₀ (c : Thread nD τ) none) Set.univ (trip2 i arg2 harg2 arg3 harg3 arg4 harg4 arg7 harg7 v2 v4 v7 v11 v18 h6 v41 v43 hw4 k)
        (fun _ => iprop((∃ f', bP c f' ∗ ⌜Upd (gM.view.read (Elt F) XG) (bM.view.read (Elt F) f) (bM.view.read (Elt F) f') (othS i v4 v7) (f11 (ck v41 v43 k)) (f8 v18.toNat) (f2 (nj i v11))⌝) ∗ (∃ O, owes (c : Thread nD τ) 0 O) ∗ laneF c gM XG (sl (ck v41 v43 k)) 0 (f8 v18.toNat) (f11 (ck v41 v43 k + 2)) (f2 (nj i v11)))) := by
  have hc2 : k0_cond6 v41 v43 k = 1#1 := (cond6_iff v41 v43 k hc).2 hk
  haveI : Fact (ck v41 v43 k < 11) := ⟨hc⟩
  unfold laneF
  iintro ⟨HB, ⟨%O, HO⟩, ⟨%fg, HFG⟩, HRG⟩
  dsimp only [trip2]
  sl_unfold [k0_t2_body]
  sl_exec
  ihave HRG' := (whole_at c gM XG (sl (ck v41 v43 k)) (f8 v18.toNat) (f11 (ck v41 v43 k)) (f2 (nj i v11)) (f8 v18.toNat) (f11 (ck v41 v43 k + 2)) (f2 (nj i v11))) $$ HRG
  sl_exec
  sl_step
  isplitl [HB]
  · iexists _
    isplitl [HB]
    · iexact HB
    · ipureintro
      exact upd_of_writes _ f (othS i v4 v7) (f11 (ck v41 v43 k)) (f8 v18.toNat) (f2 (nj i v11)) (by rw [off25_eq i v4 v7 v41 v43 k hc]; show _ = resOff (othS i v4 v7) 0 (ck v41 v43 k % 11 * 512); rw [Nat.mod_eq_of_lt hc]) _ _
        (fun y => (pay2_apply _ y).trans (congrArg tc ((slot_load (sl (ck v41 v43 k)) 0 _ _ (off24_eq v41 v43 k hc) _ y).trans (win_read gM XG (f8 v18.toNat) (f11 (ck v41 v43 k)) (f2 (nj i v11)) (y 2) (y 3)))))
  isplitl [HO]
  · iexists _; iexact HO
  isplitl [HFG]
  · iexists _; iexact HFG
  · iexact HRG'
set_option backward.proofsInPublic true in
theorem tripRun2b (k : Fin (k0_t2_loop v41 v43).trips) (h18 : v18.toNat < 8) (hj : nj i v11 < 2) (hc : ck v41 v43 k < 11) (hk : ¬ ck v41 v43 k + 2 < 11) (f : Buf (Elt F) (bM.view.loc (c : Thread nD τ))) :
    iprop(bP c f ∗ (∃ O, owes (c : Thread nD τ) 0 O) ∗ laneF c gM XG (sl (ck v41 v43 k)) 0 (f8 v18.toNat) (f11 (ck v41 v43 k)) (f2 (nj i v11)))
      ⊢ wp frame (wpE (defs₀ (F := F)) 𝒱₀ (c : Thread nD τ) none) Set.univ (trip2 i arg2 harg2 arg3 harg3 arg4 harg4 arg7 harg7 v2 v4 v7 v11 v18 h6 v41 v43 hw4 k)
        (fun _ => iprop((∃ f', bP c f' ∗ ⌜Upd (gM.view.read (Elt F) XG) (bM.view.read (Elt F) f) (bM.view.read (Elt F) f') (othS i v4 v7) (f11 (ck v41 v43 k)) (f8 v18.toNat) (f2 (nj i v11))⌝) ∗ (∃ O, owes (c : Thread nD τ) 0 O) ∗ laneI c gM XG (sl (ck v41 v43 k)) 0)) := by
  have hc2 : ¬ k0_cond6 v41 v43 k = 1#1 := fun h => hk ((cond6_iff v41 v43 k hc).1 h)
  haveI : Fact (ck v41 v43 k < 11) := ⟨hc⟩
  unfold laneF laneI
  iintro ⟨HB, ⟨%O, HO⟩, ⟨%fg, HFG⟩, HRG⟩
  dsimp only [trip2]
  sl_unfold [k0_t2_body]
  sl_exec
  sl_step
  isplitl [HB]
  · iexists _
    isplitl [HB]
    · iexact HB
    · ipureintro
      exact upd_of_writes _ f (othS i v4 v7) (f11 (ck v41 v43 k)) (f8 v18.toNat) (f2 (nj i v11)) (by rw [off25_eq i v4 v7 v41 v43 k hc]; show _ = resOff (othS i v4 v7) 0 (ck v41 v43 k % 11 * 512); rw [Nat.mod_eq_of_lt hc]) _ _
        (fun y => (pay2_apply _ y).trans (congrArg tc ((slot_load (sl (ck v41 v43 k)) 0 _ _ (off24_eq v41 v43 k hc) _ y).trans (win_read gM XG (f8 v18.toNat) (f11 (ck v41 v43 k)) (f2 (nj i v11)) (y 2) (y 3)))))
  isplitl [HO]
  · iexists _; iexact HO
  isplitl [HFG_dst]
  · iexists _; iexact HFG_dst
  isplitl [HFG]
  · iexact HFG
  · iexact HRG
end Trip2

end Cert.Proof.Dn

end
-- ==== Proof.DnLoop.lean ====
/-
  The loops of the expert-weight stream: the state of the two lanes at a chunk, and the invariants.
-/
module

public import proofs.«01_k».proof.Proof.DnTrip

@[expose] public section

set_option maxRecDepth 16384

noncomputable section

namespace Cert.Proof.Dn

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! ## The lanes of the stream at a chunk -/

section Lanes
variable (c : Dev nD)

/-- A slot of a matrix with chunk `n` in flight, or at rest past the last chunk. -/
def lane (W : Memref sig .tc .hbm S8x5632x2048 .f32) (XW : Buf (Elt F) (W.view.loc (c : Thread nD τ))) (s : Fin 2) (m : Fin 1) (e : Fin 8) (n : ℕ) (j : Fin 2) : sProp 𝕄 :=
  if n < 11 then laneF c W XW s m e (f11 n) j else laneI c W XW s m

variable (XG : Buf (Elt F) (gM.view.loc (c : Thread nD τ)))

/-- The stream with chunk `n` the next to be put away: chunk `n` in its slot, chunk `n + 1` in the other. -/
def Lanes (e : Fin 8) (n : ℕ) (j : Fin 2) : sProp 𝕄 := iprop(lane c gM XG (sl n) 0 e n j ∗ lane c gM XG (sl (n + 1)) 0 e (n + 1) j)
end Lanes

/-! ## The resident buffer over a run of chunks -/

/-- `B'` is `B` with chunks `a` to `b` of resident slot `s` replaced. -/
structure Fill (XG : S8x5632x2048.Idx → Elt F .f32) (B B' : S2x1x5632x1024.Idx → Elt F .bf16) (s : Fin 2) (a b : ℕ) (e : Fin 8) (j : Fin 2) : Prop where
  here : ∀ x : S2x1x5632x1024.Idx, x 0 = s → a * 512 ≤ (x 2).val → (x 2).val < b * 512 → B' x = wt XG e j x
  other : ∀ x : S2x1x5632x1024.Idx, (x 0 ≠ s ∨ (x 2).val < a * 512 ∨ b * 512 ≤ (x 2).val) → B' x = B x

variable {XG : S8x5632x2048.Idx → Elt F .f32} {B B' B'' : S2x1x5632x1024.Idx → Elt F .bf16} {s : Fin 2} {a b : ℕ} {e : Fin 8} {j : Fin 2}

/-- No chunk changes nothing. -/
theorem Fill.nil : Fill XG B B s a a e j where
  here x _ h h' := absurd h (by omega)
  other x _ := rfl

/-- One more chunk. -/
theorem Fill.step (h : Fill XG B B' s a b e j) (hab : a ≤ b) (hb : b < 11) (u : Upd XG B' B'' s (f11 b) e j) : Fill XG B B'' s a (b + 1) e j := by
  have hv : (f11 b).val = b := Nat.mod_eq_of_lt hb
  have uh := u.here; have uo := u.other
  rw [hv] at uh uo
  refine ⟨fun x hs hl hu => ?_, fun x hx => ?_⟩
  · by_cases hq : (x 2).val < b * 512
    · rw [uo x (Or.inr (Or.inl hq))]; exact h.here x hs hl hq
    · exact uh x hs (by omega) (by omega)
  · have h1 : x 0 ≠ s ∨ (x 2).val < b * 512 ∨ b * 512 + 512 ≤ (x 2).val := by
      rcases hx with h | h | h
      · exact Or.inl h
      · exact Or.inr (Or.inl (by omega))
      · exact Or.inr (Or.inr (by omega))
    have h2 : x 0 ≠ s ∨ (x 2).val < a * 512 ∨ b * 512 ≤ (x 2).val := by
      rcases hx with h | h | h
      · exact Or.inl h
      · exact Or.inr (Or.inl h)
      · exact Or.inr (Or.inr (by omega))
    rw [uo x h1, h.other x h2]

theorem sl_add2 (n : ℕ) : sl (n + 1 + 1) = sl n := Fin.ext (by show (n + 1 + 1) % 2 = n % 2; omega)

/-- A run keeps what it does not touch. -/
theorem run_frame {c : Dev nD} (p : Prog (TpuEff nD τ sig (Elt F) Λ₀ .tc) Unit) (P Q R : sProp 𝕄) (P' : sProp 𝕄) (Q' : Unit → sProp 𝕄)
    (h : P ⊢ wp frame (wpE (defs₀ (F := F)) 𝒱₀ (c : Thread nD τ) none) Set.univ p (fun _ => Q)) (hP : P' ⊢ iprop(P ∗ R)) (hQ : ∀ u, iprop(Q ∗ R) ⊢ Q' u) :
    P' ⊢ wp frame (wpE (defs₀ (F := F)) 𝒱₀ (c : Thread nD τ) none) Set.univ p Q' := by
  refine hP.trans ?_
  iintro ⟨HP, HR⟩
  iapply (wp_wand_r Idealize.ShloMosaic.frame (wpE (defs₀ (F := F)) 𝒱₀ (c : Thread nD τ) none) Set.univ)
  isplitl [HP]
  · iapply h; iexact HP
  · iintro %u HQ
    iapply (hQ u)
    isplitl [HQ]; · iexact HQ
    iexact HR

section Loop1
variable (c : Dev nD) (XG : Buf (Elt F) (gM.view.loc (c : Thread nD τ)))
  (i : grid0.Coords)
  (arg2 : Memref sig .tc .smem S8x72 .i32) (harg2 : arg2.IsWhole) (arg3 : Memref sig .tc .smem S1 .i32) (harg3 : arg3.IsWhole)
  (arg4 : Memref sig .tc .vmem S256x5632 .bf16) (harg4 : arg4.IsWhole) (arg7 : Memref sig .tc .vmem S256x1024 .f32) (harg7 : arg7.IsWhole)
  (v1 : BitVec 32) (hw1 : k0_chk1 i v1) (hc1 : k0_cond1 i = 1#1)

/-- A trip of the first loop puts chunk `k` away and moves the stream on by one chunk. -/
theorem tripRun1 (k : Fin k0_t1_loop.trips) (h1 : v1.toNat < 8) (f : Buf (Elt F) (bM.view.loc (c : Thread nD τ))) :
    iprop(bP c f ∗ (∃ O, owes (c : Thread nD τ) 0 O) ∗ Lanes c XG (f8 v1.toNat) k (f2 0))
      ⊢ wp frame (wpE (defs₀ (F := F)) 𝒱₀ (c : Thread nD τ) none) Set.univ (trip1 i arg2 harg2 arg3 harg3 arg4 harg4 arg7 harg7 v1 hw1 hc1 k)
        (fun _ => iprop((∃ f', bP c f' ∗ ⌜Upd (gM.view.read (Elt F) XG) (bM.view.read (Elt F) f) (bM.view.read (Elt F) f') 0 (f11 k) (f8 v1.toNat) (f2 0)⌝)
          ∗ (∃ O, owes (c : Thread nD τ) 0 O) ∗ Lanes c XG (f8 v1.toNat) (k + 1) (f2 0))) := by
  have hk8 := k8 k
  unfold Lanes
  rw [sl_add2]
  unfold lane
  rw [if_pos hk8]
  by_cases hk : k.val + 2 < 11
  · rw [if_pos hk]
    refine run_frame _ _ _ (if k.val + 1 < 11 then laneF c gM XG (sl (k.val + 1)) 0 (f8 v1.toNat) (f11 (k.val + 1)) (f2 0) else laneI c gM XG (sl (k.val + 1)) 0) _ _ (tripRun1a c XG i arg2 harg2 arg3 harg3 arg4 harg4 arg7 harg7 v1 hw1 hc1 k h1 hk f) ?_ fun _ => ?_
    · iintro ⟨HB, HO, H0, HR⟩
      isplitr [HR]
      · isplitl [HB]; · iexact HB
        isplitl [HO]; · iexact HO
        iexact H0
      · iexact HR
    · iintro ⟨⟨HB, HO, H0⟩, HR⟩
      isplitl [HB]; · iexact HB
      isplitl [HO]; · iexact HO
      isplitl [HR]; · iexact HR
      iexact H0
  · rw [if_neg hk]
    refine run_frame _ _ _ (if k.val + 1 < 11 then laneF c gM XG (sl (k.val + 1)) 0 (f8 v1.toNat) (f11 (k.val + 1)) (f2 0) else laneI c gM XG (sl (k.val + 1)) 0) _ _ (tripRun1b c XG i arg2 harg2 arg3 harg3 arg4 harg4 arg7 harg7 v1 hw1 hc1 k h1 hk f) ?_ fun _ => ?_
    · iintro ⟨HB, HO, H0, HR⟩
      isplitr [HR]
      · isplitl [HB]; · iexact HB
        isplitl [HO]; · iexact HO
        iexact H0
      · iexact HR
    · iintro ⟨⟨HB, HO, H0⟩, HR⟩
      isplitl [HB]; · iexact HB
      isplitl [HO]; · iexact HO
      isplitl [HR]; · iexact HR
      iexact H0

/-- Before trip `k` of the first loop: the chunks below `k` put away, the stream at chunk `k`. -/
def inv1 (f : Buf (Elt F) (bM.view.loc (c : Thread nD τ))) (k : ℕ) : sProp 𝕄 :=
  iprop(⌜v1.toNat < 8⌝ ∗ (∃ f', bP c f' ∗ ⌜Fill (gM.view.read (Elt F) XG) (bM.view.read (Elt F) f) (bM.view.read (Elt F) f') 0 0 k (f8 v1.toNat) (f2 0)⌝)
          ∗ (∃ O, owes (c : Thread nD τ) 0 O) ∗ Lanes c XG (f8 v1.toNat) k (f2 0))

set_option warn.classDefReducibility false in
/-- The first loop's invariant. -/
@[sl_loop] def loopInv1 (f : Buf (Elt F) (bM.view.loc (c : Thread nD τ))) :
    LoopInvTy_k0_t1 (F := F) Unit ℕ (UD sig nD τ) ℕ 𝒱₀ c none Set.univ i arg2 harg2 arg3 harg3 arg4 harg4 gM (Memref.isWhole_whole _) arg7 harg7
      bM (Memref.isWhole_whole _) sM (Memref.isWhole_whole _) cc0_scratch2 v1 hw1 hc1 where
  inv k _ := inv1 c XG v1 f k
  step k _ := by
    unfold inv1
    iintro ⟨%h1, ⟨%f', HB, %hf⟩, HO, HL⟩
    iapply (wp_wand_r Idealize.ShloMosaic.frame (wpE (defs₀ (F := F)) 𝒱₀ (c : Thread nD τ) none) Set.univ)
    isplitl [HB HO HL]
    · iapply (tripRun1 c XG i arg2 harg2 arg3 harg3 arg4 harg4 arg7 harg7 v1 hw1 hc1 k h1 f')
      isplitl [HB]; · iexact HB
      isplitl [HO]; · iexact HO
      iexact HL
    · iintro %_ ⟨⟨%f'', HB, %hu⟩, HO, HL⟩
      isplitr; · ipureintro; exact h1
      isplitl [HB]
      · iexists f''
        isplitl [HB]; · iexact HB
        ipureintro; exact hf.step (Nat.zero_le _) (k8 k) hu
      isplitl [HO]; · iexact HO
      iexact HL
end Loop1

section Loop2
variable (c : Dev nD) (XG : Buf (Elt F) (gM.view.loc (c : Thread nD τ)))
  (i : grid0.Coords)
  (arg2 : Memref sig .tc .smem S8x72 .i32) (harg2 : arg2.IsWhole) (arg3 : Memref sig .tc .smem S1 .i32) (harg3 : arg3.IsWhole)
  (arg4 : Memref sig .tc .vmem S256x5632 .bf16) (harg4 : arg4.IsWhole) (arg7 : Memref sig .tc .vmem S256x1024 .f32) (harg7 : arg7.IsWhole)
  (v2 v4 v7 v11 v18 : BitVec 32) (h6 : k0_cond5 i v2 v11 = 1#1) (v41 v43 : BitVec 32) (hw4 : k0_chk4 i v2 v4 v7 v11 v18 v41 v43)

/-- A trip of the second loop puts its chunk away and moves the stream on by one chunk. -/
theorem tripRun2 (k : Fin (k0_t2_loop v41 v43).trips) (h18 : v18.toNat < 8) (hj : nj i v11 < 2) (hc : ck v41 v43 k < 11) (f : Buf (Elt F) (bM.view.loc (c : Thread nD τ))) :
    iprop(bP c f ∗ (∃ O, owes (c : Thread nD τ) 0 O) ∗ Lanes c XG (f8 v18.toNat) (ck v41 v43 k) (f2 (nj i v11)))
      ⊢ wp frame (wpE (defs₀ (F := F)) 𝒱₀ (c : Thread nD τ) none) Set.univ (trip2 i arg2 harg2 arg3 harg3 arg4 harg4 arg7 harg7 v2 v4 v7 v11 v18 h6 v41 v43 hw4 k)
        (fun _ => iprop((∃ f', bP c f' ∗ ⌜Upd (gM.view.read (Elt F) XG) (bM.view.read (Elt F) f) (bM.view.read (Elt F) f') (othS i v4 v7) (f11 (ck v41 v43 k)) (f8 v18.toNat) (f2 (nj i v11))⌝)
          ∗ (∃ O, owes (c : Thread nD τ) 0 O) ∗ Lanes c XG (f8 v18.toNat) (ck v41 v43 k + 1) (f2 (nj i v11)))) := by
  have hk8 := hc
  unfold Lanes
  rw [sl_add2]
  unfold lane
  rw [if_pos hk8]
  by_cases hk : ck v41 v43 k + 2 < 11
  · rw [if_pos hk]
    refine run_frame _ _ _ (if ck v41 v43 k + 1 < 11 then laneF c gM XG (sl (ck v41 v43 k + 1)) 0 (f8 v18.toNat) (f11 (ck v41 v43 k + 1)) (f2 (nj i v11)) else laneI c gM XG (sl (ck v41 v43 k + 1)) 0) _ _ (tripRun2a c XG i arg2 harg2 arg3 harg3 arg4 harg4 arg7 harg7 v2 v4 v7 v11 v18 h6 v41 v43 hw4 k h18 hj hc hk f) ?_ fun _ => ?_
    · iintro ⟨HB, HO, H0, HR⟩
      isplitr [HR]
      · isplitl [HB]; · iexact HB
        isplitl [HO]; · iexact HO
        iexact H0
      · iexact HR
    · iintro ⟨⟨HB, HO, H0⟩, HR⟩
      isplitl [HB]; · iexact HB
      isplitl [HO]; · iexact HO
      isplitl [HR]; · iexact HR
      iexact H0
  · rw [if_neg hk]
    refine run_frame _ _ _ (if ck v41 v43 k + 1 < 11 then laneF c gM XG (sl (ck v41 v43 k + 1)) 0 (f8 v18.toNat) (f11 (ck v41 v43 k + 1)) (f2 (nj i v11)) else laneI c gM XG (sl (ck v41 v43 k + 1)) 0) _ _ (tripRun2b c XG i arg2 harg2 arg3 harg3 arg4 harg4 arg7 harg7 v2 v4 v7 v11 v18 h6 v41 v43 hw4 k h18 hj hc hk f) ?_ fun _ => ?_
    · iintro ⟨HB, HO, H0, HR⟩
      isplitr [HR]
      · isplitl [HB]; · iexact HB
        isplitl [HO]; · iexact HO
        iexact H0
      · iexact HR
    · iintro ⟨⟨HB, HO, H0⟩, HR⟩
      isplitl [HB]; · iexact HB
      isplitl [HO]; · iexact HO
      isplitl [HR]; · iexact HR
      iexact H0

/-- Before trip `k` of the second loop: `k` chunks put away, the stream at the next. -/
def inv2 (f : Buf (Elt F) (bM.view.loc (c : Thread nD τ))) (k : ℕ) : sProp 𝕄 :=
  iprop(⌜v18.toNat < 8 ∧ nj i v11 < 2 ∧ v41.toNat ≤ v43.toNat ∧ v43.toNat ≤ 11⌝ ∗ (∃ f', bP c f' ∗ ⌜Fill (gM.view.read (Elt F) XG) (bM.view.read (Elt F) f) (bM.view.read (Elt F) f') (othS i v4 v7) v41.toNat (v41.toNat + k) (f8 v18.toNat) (f2 (nj i v11))⌝)
          ∗ (∃ O, owes (c : Thread nD τ) 0 O) ∗ Lanes c XG (f8 v18.toNat) (v41.toNat + k) (f2 (nj i v11)))

set_option warn.classDefReducibility false in
/-- The second loop's invariant. -/
@[sl_loop] def loopInv2 (f : Buf (Elt F) (bM.view.loc (c : Thread nD τ))) :
    LoopInvTy_k0_t2 (F := F) Unit ℕ (UD sig nD τ) ℕ 𝒱₀ c none Set.univ i arg2 harg2 arg3 harg3 arg4 harg4 gM (Memref.isWhole_whole _) arg7 harg7
      bM (Memref.isWhole_whole _) sM (Memref.isWhole_whole _) cc0_scratch2 v2 v4 v7 v11 v18 h6 v41 v43 hw4 where
  inv k _ := inv2 c XG i v4 v7 v11 v18 v41 v43 f k
  step k _ := by
    unfold inv2
    iintro ⟨%hh, ⟨%f', HB, %hf⟩, HO, HL⟩
    obtain ⟨h18, hj, hlo, hhi⟩ := hh
    have hc : ck v41 v43 k < 11 := Nat.lt_of_lt_of_le (ck8 v41 v43 k hlo hhi) hhi
    iapply (wp_wand_r Idealize.ShloMosaic.frame (wpE (defs₀ (F := F)) 𝒱₀ (c : Thread nD τ) none) Set.univ)
    isplitl [HB HO HL]
    · iapply (tripRun2 c XG i arg2 harg2 arg3 harg3 arg4 harg4 arg7 harg7 v2 v4 v7 v11 v18 h6 v41 v43 hw4 k h18 hj hc f')
      isplitl [HB]; · iexact HB
      isplitl [HO]; · iexact HO
      iexact HL
    · iintro %_ ⟨⟨%f'', HB, %hu⟩, HO, HL⟩
      isplitr; · ipureintro; exact ⟨h18, hj, hlo, hhi⟩
      isplitl [HB]
      · iexists f''
        isplitl [HB]; · iexact HB
        ipureintro; exact hf.step (Nat.le_add_right _ _) hc hu
      isplitl [HO]; · iexact HO
      iexact HL
end Loop2

section Loop3
variable (c : Dev nD) (i : grid0.Coords)
  (arg2 : Memref sig .tc .smem S8x72 .i32) (harg2 : arg2.IsWhole) (arg3 : Memref sig .tc .smem S1 .i32) (harg3 : arg3.IsWhole)
  (arg4 : Memref sig .tc .vmem S256x5632 .bf16) (harg4 : arg4.IsWhole) (arg7 : Memref sig .tc .vmem S256x1024 .f32) (harg7 : arg7.IsWhole)
  (v2 v4 v7 v11 v18 : BitVec 32) (h6 : k0_cond5 i v2 v11 = 1#1) (v41 v43 : BitVec 32) (hw4 : k0_chk4 i v2 v4 v7 v11 v18 v41 v43)

set_option warn.classDefReducibility false in
/-- The remainder loop runs no trip. -/
@[sl_loop] def loopInv3 :
    LoopInvTy_k0_t3 (F := F) Unit ℕ (UD sig nD τ) ℕ 𝒱₀ c none Set.univ i arg2 harg2 arg3 harg3 arg4 harg4 gM (Memref.isWhole_whole _) arg7 harg7
      bM (Memref.isWhole_whole _) sM (Memref.isWhole_whole _) cc0_scratch2 v2 v4 v7 v11 v18 h6 v41 v43 hw4 where
  inv _ _ := iprop(emp)
  step k _ := (Nat.not_lt_zero _ (Nat.lt_of_lt_of_eq k.isLt (trips3 v41 v43))).elim
end Loop3

end Cert.Proof.Dn

end
-- ==== Proof.DnBody.lean ====
/-
  The body of the expert-weight stream at a grid point, case by case.
-/
module

public import proofs.«01_k».proof.Proof.DnLoop
public import Idealize.ShloMosaic.Lib.VecWindow

@[expose] public section

set_option maxRecDepth 16384

noncomputable section

namespace Cert.Proof.Dn

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

instance (i : grid0.Coords) (v4 v7 : BitVec 32) : ClosedOff (k0_off18 i v4 v7) := ⟨slotOff (curS i v4 v7) 0, off18_eq i v4 v7⟩

section Fold
variable (c : Dev nD) (XG : Buf (Elt F) (gM.view.loc (c : Thread nD τ)))
  (i : grid0.Coords) (v4 v7 v11 v18 v41 v43 : BitVec 32) (f : Buf (Elt F) (bM.view.loc (c : Thread nD τ)))

/-- The second loop's state before any trip. -/
theorem inv2_intro (h18 : v18.toNat < 8) (hj : nj i v11 < 2) (hlo : v41.toNat ≤ v43.toNat) (hhi : v43.toNat ≤ 11) :
    iprop(bP c f ∗ (∃ O, owes (c : Thread nD τ) 0 O) ∗ Lanes c XG (f8 v18.toNat) v41.toNat (f2 (nj i v11))) ⊢ inv2 c XG i v4 v7 v11 v18 v41 v43 f 0 := by
  unfold inv2
  iintro ⟨HB, HO, HL⟩
  isplitr; · ipureintro; exact ⟨h18, hj, hlo, hhi⟩
  isplitl [HB]
  · iexists f
    isplitl [HB]; · iexact HB
    ipureintro; exact Fill.nil
  isplitl [HO]; · iexact HO
  iexact HL

/-- The second loop's state at its exit. -/
theorem inv2_exit (hlo : v41.toNat ≤ v43.toNat) (hhi : v43.toNat ≤ 11) :
    inv2 c XG i v4 v7 v11 v18 v41 v43 f (k0_t2_loop v41 v43).trips
      ⊢ iprop((∃ f', bP c f' ∗ ⌜Fill (gM.view.read (Elt F) XG) (bM.view.read (Elt F) f) (bM.view.read (Elt F) f') (othS i v4 v7) v41.toNat v43.toNat (f8 v18.toNat) (f2 (nj i v11))⌝)
        ∗ (∃ O, owes (c : Thread nD τ) 0 O) ∗ Lanes c XG (f8 v18.toNat) v43.toNat (f2 (nj i v11))) := by
  rw [trips2 v41 v43 hlo hhi]
  unfold inv2
  rw [Nat.add_sub_cancel' hlo]
  iintro ⟨-, HB, HO, HL⟩
  isplitl [HB]; · iexact HB
  isplitl [HO]; · iexact HO
  iexact HL

/-- A weight held whole, named through a window. -/
theorem whole_in (c : Dev nD) (W : Memref sig .tc .hbm S8x5632x2048 .f32) (XW : Buf (Elt F) (W.view.loc (c : Thread nD τ))) (s : Fin 2)
    (e : Fin 8) (r : Fin 11) (j : Fin 2) : wholeP c W XW s ⊢ ((win W e r j).view.loc (c : Thread nD τ) ↦[Finset.univ]{shr s} XW : sProp 𝕄) := .rfl

/-- The two lanes at rest. -/
def LanesI : sProp 𝕄 := iprop(laneI c gM XG 0 0 ∗ laneI c gM XG 1 0)

omit [FloatOps F] in
/-- Two resources in either order. -/
theorem sep_swap (X Y : sProp 𝕄) : iprop(X ∗ Y) = iprop(Y ∗ X) :=
  Entails.antisymm (show iprop(X ∗ Y) ⊢ iprop(Y ∗ X) from by iintro ⟨H, H'⟩; isplitl [H'] <;> iassumption)
    (show iprop(Y ∗ X) ⊢ iprop(X ∗ Y) from by iintro ⟨H, H'⟩; isplitl [H'] <;> iassumption)
/-- Past the last chunk every lane is at rest. -/
theorem lanes_11 (e : Fin 8) (j : Fin 2) : Lanes c XG e 11 j = LanesI c XG := by
  unfold Lanes lane LanesI
  rw [if_neg (by omega), if_neg (by omega)]
  exact sep_swap _ _

/-- The stream at its first chunk, from the two transfers. -/
theorem lanes_0 (e : Fin 8) (j : Fin 2) (n : ℕ) (hn : n = 0) (g0 g1) :
    iprop((flightP c gM XG 0 0 e (f11 0) j g0 ∗ restP c gM XG 0 e (f11 0) j) ∗ (flightP c gM XG 1 0 e (f11 1) j g1 ∗ restP c gM XG 1 e (f11 1) j))
      ⊢ Lanes c XG e n j := by
  subst hn
  unfold Lanes lane laneF
  rw [if_pos (by omega), if_pos (by omega)]
  iintro ⟨⟨A0, A1⟩, ⟨C0, C1⟩⟩
  isplitl [A0 A1]
  · isplitl [A0]
    · iexists g0; iexact A0
    · iexact A1
  · isplitl [C0]
    · iexists g1; iexact C0
    · iexact C1

/-- The first loop's state before any trip. -/
theorem inv1_intro (v1 : BitVec 32) (h1 : v1.toNat < 8) :
    iprop(bP c f ∗ (∃ O, owes (c : Thread nD τ) 0 O) ∗ Lanes c XG (f8 v1.toNat) 0 (f2 0)) ⊢ inv1 c XG v1 f 0 := by
  unfold inv1
  iintro ⟨HB, HO, HL⟩
  isplitr; · ipureintro; exact h1
  isplitl [HB]
  · iexists f
    isplitl [HB]; · iexact HB
    ipureintro; exact Fill.nil
  isplitl [HO]; · iexact HO
  iexact HL

/-- The first loop's state at its exit. -/
theorem inv1_exit (v1 : BitVec 32) :
    inv1 c XG v1 f k0_t1_loop.trips
      ⊢ iprop((∃ f', bP c f' ∗ ⌜Fill (gM.view.read (Elt F) XG) (bM.view.read (Elt F) f) (bM.view.read (Elt F) f') 0 0 11 (f8 v1.toNat) (f2 0)⌝)
        ∗ (∃ O, owes (c : Thread nD τ) 0 O) ∗ LanesI c XG) := by
  rw [trips1]
  unfold inv1
  rw [lanes_11]
  iintro ⟨-, HB, HO, HL⟩
  isplitl [HB]; · iexact HB
  isplitl [HO]; · iexact HO
  iexact HL
end Fold

/-! ## What a point leaves -/

/-- A resident tile of the weights as the body loads it. -/
def tile (B : S2x1x5632x1024.Idx → Elt F .bf16) (s : Fin 2) : S1x1x5632x1024.Idx → Elt F .bf16 :=
  VecWindow.window B (slotOff s 0) S1x1x5632x1024.size (bigOff_inb s 0)
/-- The block a used tile stores, from the rows and the resident slot. -/
def dnPay (A : S256x5632.Idx → Elt F .bf16) (B : S2x1x5632x1024.Idx → Elt F .bf16) (s : Fin 2) : FVec F S256x1024 .f32 :=
  k0_pay1 A (tile B s)

section Body
variable (c : Dev nD) (XG : Buf (Elt F) (gM.view.loc (c : Thread nD τ)))
  (i : grid0.Coords)
  (arg4 : Memref sig .tc .vmem S256x5632 .bf16) (harg4 : arg4.IsWhole) (arg7 : Memref sig .tc .vmem S256x1024 .f32) (harg7 : arg7.IsWhole)

abbrev pM : Memref sig .tc .smem S8x72 .i32 := Memref.whole main_arg0
abbrev nM : Memref sig .tc .smem S1 .i32 := Memref.whole main_arg1

/-- The body at a grid point. -/
abbrev body : Prog (TpuEff nD τ sig (Elt F) Λ₀ .tc) Unit :=
  cc0_streamed_matmul i pM (Memref.isWhole_whole _) nM (Memref.isWhole_whole _) arg4 harg4 gM (Memref.isWhole_whole _) arg7 harg7
    bM (Memref.isWhole_whole _) sM (Memref.isWhole_whole _) cc0_scratch2

variable (P : Buf (Elt F) (pM.view.loc (c : Thread nD τ))) (N : Buf (Elt F) (nM.view.loc (c : Thread nD τ)))

/-- A word of the plan table. -/
abbrev rd (off : Fin 2 → Nat) (inb : ∀ a, off a + S1x1.size a ≤ S8x72.size a) : BitVec 32 :=
  pM.view.readAt (Elt F) (Rect.unit (s := S8x72) off S1x1.size inb).toLoadRect P (Shape.Idx.first (s := S1x1) (by decide))
abbrev W1 : BitVec 32 := rd c P (k0_off1 i) (k0_off1_inb i)
abbrev W2 : BitVec 32 := nM.view.readAt (Elt F) (Rect.unit (s := S1) ![0] S1.size inb_S1_S1_0).toLoadRect N (Shape.Idx.first (s := S1) (by decide))
abbrev W4 : BitVec 32 := rd c P ![7, 0] inb_S8x72_S1x1_7_0
abbrev W7 : BitVec 32 := rd c P (k0_off2 i) (k0_off2_inb i)
abbrev W11 : BitVec 32 := rd c P (k0_off3 i) (k0_off3_inb i)
abbrev W18 : BitVec 32 := rd c P (k0_off4 i) (k0_off4_inb i)
abbrev W27 : BitVec 32 := rd c P (k0_off15 i) (k0_off15_inb i)
abbrev W41 : BitVec 32 := rd c P (k0_off19 i) (k0_off19_inb i)
abbrev W43 : BitVec 32 := rd c P (k0_off20 i) (k0_off20_inb i)

/-- The tables, at the share the pipeline lends them. -/
abbrev tabs : sProp 𝕄 := iprop((pM.view.loc (c : Thread nD τ) ↦[pM.view.set]{fullShare.right} P) ∗ (nM.view.loc (c : Thread nD τ) ↦[nM.view.set]{fullShare.right} N))
abbrev inP (g : Buf (Elt F) (arg4.view.loc (c : Thread nD τ))) : sProp 𝕄 := arg4.view.loc (c : Thread nD τ) ↦[arg4.view.set]{fullShare} g
abbrev outP (g : Buf (Elt F) (arg7.view.loc (c : Thread nD τ))) : sProp 𝕄 := arg7.view.loc (c : Thread nD τ) ↦[arg7.view.set]{fullShare} g

/-- What a point leaves: the tables and the rows as they were, a block, a resident buffer, the lanes. -/
def POST (ga : Buf (Elt F) (arg4.view.loc (c : Thread nD τ))) (pay : S256x1024.Idx → Elt F .f32) (R : Buf (Elt F) (bM.view.loc (c : Thread nD τ)) → Prop) (L : sProp 𝕄) : sProp 𝕄 :=
  iprop(tabs c P N ∗ inP c arg4 ga ∗ (∃ o, outP c arg7 o ∗ ⌜arg7.view.read (Elt F) o = pay⌝) ∗ (∃ f', bP c f' ∗ ⌜R f'⌝) ∗ (∃ O, owes (c : Thread nD τ) 0 O) ∗ L)
/-- What a point starts from. -/
def PRE (ga : Buf (Elt F) (arg4.view.loc (c : Thread nD τ))) (gO : Buf (Elt F) (arg7.view.loc (c : Thread nD τ))) (f : Buf (Elt F) (bM.view.loc (c : Thread nD τ))) (L : sProp 𝕄) : sProp 𝕄 :=
  iprop(tabs c P N ∗ inP c arg4 ga ∗ outP c arg7 gO ∗ bP c f ∗ (∃ O, owes (c : Thread nD τ) 0 O) ∗ L)

/-- The block stored, from the loads. -/
theorem stored (ga : Buf (Elt F) (arg4.view.loc (c : Thread nD τ))) (gO : Buf (Elt F) (arg7.view.loc (c : Thread nD τ))) (f : Buf (Elt F) (bM.view.loc (c : Thread nD τ))) (v4 v7 : BitVec 32)
    (i1 i2 i3 L) :
    arg7.view.read (Elt F) (arg7.view.writes (Elt F) gO (⟨Rect.unit (s := S256x1024) ![0, 0] S256x1024.size i1,
      k0_pay1 (arg4.view.readAt (Elt F) (Rect.unit (s := S256x5632) ![0, 0] S256x5632.size i2).toLoadRect ga)
        (bM.view.readAt (Elt F) (Rect.unit (s := S2x1x5632x1024) (k0_off18 i v4 v7) S1x1x5632x1024.size i3).toLoadRect f)⟩ :: L))
      = dnPay (arg4.view.read (Elt F) ga) (bM.view.read (Elt F) f) (curS i v4 v7) := by
  rw [View.read_writes_full, View.readAt_full, View.readAt_unit _ _ _ (off18_eq i v4 v7) (bigOff_inb _ _)]
  rfl

set_option backward.proofsInPublic true in
seal inv1 inv2 in
/-- A used tile that neither starts the kernel nor its expert's group: the rows pass, a share of the next weights is put away. -/
theorem run3 (ga : Buf (Elt F) (arg4.view.loc (c : Thread nD τ))) (gO : Buf (Elt F) (arg7.view.loc (c : Thread nD τ))) (f : Buf (Elt F) (bM.view.loc (c : Thread nD τ)))
    (H1 : (W1 c i P).toNat < 8) (H18 : (W18 c i P).toNat < 8) (H2 : (W2 c N).toNat ≤ 72)
    (H00 : ¬ ((i 0).val = 0 ∧ (i 1).val = 0)) (Hn : hasNext i (W2 c N) (W11 c i P)) (H27 : W27 c i P ≠ 1#32) (Hlo : (W41 c i P).toNat ≤ (W43 c i P).toNat) (Hhi : (W43 c i P).toNat ≤ 11) :
    PRE c arg4 arg7 P N ga gO f (Lanes c XG (f8 (W18 c i P).toNat) (W41 c i P).toNat (f2 (nj i (W11 c i P))))
      ⊢ wp frame (wpE (defs₀ (F := F)) 𝒱₀ (c : Thread nD τ) none) Set.univ (body i arg4 harg4 arg7 harg7)
        fun _ => POST c arg4 arg7 P N ga (dnPay (arg4.view.read (Elt F) ga) (bM.view.read (Elt F) f) (curS i (W4 c P) (W7 c i P)))
          (fun f' => Fill (gM.view.read (Elt F) XG) (bM.view.read (Elt F) f) (bM.view.read (Elt F) f') (othS i (W4 c P) (W7 c i P)) (W41 c i P).toNat (W43 c i P).toNat (f8 (W18 c i P).toNat) (f2 (nj i (W11 c i P)))) (Lanes c XG (f8 (W18 c i P).toNat) (W43 c i P).toNat (f2 (nj i (W11 c i P)))) := by
  unfold PRE POST
  iintro ⟨⟨Hp, Hn0⟩, Ha, Ho, HB, HO, HL⟩
  have Hu : used i (W2 c N) := Hn.1
  have hc1 : ¬ k0_cond1 i = 1#1 := fun h => H00 ((cond1_iff i).mp h)
  sl_exec
  have hk1 : k0_chk1 i (run3.sl.r c i P) := chk1_ok i _ H1
  sl_exec
  have hk3 : k0_chk3 i (run3.sl.r_1 c N) (run3.sl.r_2 c P) (run3.sl.r_3 c i P) := chk3_ok i _ _ _
  sl_exec
  have hk2 : k0_chk2 i (run3.sl.r_1 c N) (run3.sl.r_4 c i P) (run3.sl.r_5 c i P) (run3.sl.r_6 c i P) := chk2_ok i _ _ _ _ H2 H18
  have hc4 : ¬ k0_cond3 i (run3.sl.r_1 c N) (run3.sl.r_4 c i P) (run3.sl.r_6 c i P) = 1#1 := fun h => H27 ((cond3_iff i _ _ _ H2).mp h).2
  have hc5 : k0_cond4 i (run3.sl.r_1 c N) = 1#1 := (cond4_iff i _ H2).mpr Hu
  have hc11 : ¬ k0_cond8 i (run3.sl.r_1 c N) = 1#1 := fun h => (cond8_iff i _ H2).mp h Hu
  have hc6 : k0_cond5 i (run3.sl.r_1 c N) (run3.sl.r_4 c i P) = 1#1 := (cond5_iff i _ _ H2).mpr Hn
  sl_exec
  have hk4 : k0_chk4 i (run3.sl.r_1 c N) (run3.sl.r_2 c P) (run3.sl.r_3 c i P) (run3.sl.r_4 c i P) (run3.sl.r_5 c i P) (run3.sl.r_7 c i P) (run3.sl.r_8 c i P) :=
    chk4_ok i _ _ _ _ _ _ _ H2 H18 Hlo Hhi
  ihave Hinv := (inv2_intro c XG i (run3.sl.r_2 c P) (run3.sl.r_3 c i P) (run3.sl.r_4 c i P) (run3.sl.r_5 c i P) (run3.sl.r_7 c i P) (run3.sl.r_8 c i P) f
    H18 (nj_lt i _ _ Hn) Hlo Hhi) $$ [HB HO HL]
  · isplitl [HB]; · iexact HB
    isplitl [HO]; · iexact HO
    iexact HL
  sl_exec
  ihave Hx := (inv2_exit c XG i (run3.sl.r_2 c P) (run3.sl.r_3 c i P) (run3.sl.r_4 c i P) (run3.sl.r_5 c i P) (run3.sl.r_7 c i P) (run3.sl.r_8 c i P) f Hlo Hhi) $$ Hinv
  icases Hx with ⟨HB, HO, HL⟩
  sl_step
  isplitl [Hp Hn0]
  · isplitl [Hp]; · iexact Hp
    iexact Hn0
  isplitl [Ha]; · iexact Ha
  isplitl [Ho]
  · iexists _
    isplitl [Ho]; · iexact Ho
    ipureintro; exact stored c i arg4 arg7 ga _ f _ _ _ _ _ _
  isplitl [HB]; · iexact HB
  isplitl [HO]; · iexact HO
  iexact HL

set_option backward.proofsInPublic true in
seal inv1 inv2 in
/-- A used tile with nothing left to stream: the rows pass, the lanes are not touched. -/
theorem run4 (ga : Buf (Elt F) (arg4.view.loc (c : Thread nD τ))) (gO : Buf (Elt F) (arg7.view.loc (c : Thread nD τ))) (f : Buf (Elt F) (bM.view.loc (c : Thread nD τ)))
    (H1 : (W1 c i P).toNat < 8) (H18 : (W18 c i P).toNat < 8) (H2 : (W2 c N).toNat ≤ 72)
    (H00 : ¬ ((i 0).val = 0 ∧ (i 1).val = 0)) (Hu : used i (W2 c N)) (Hn : ¬ hasNext i (W2 c N) (W11 c i P)) (L : sProp 𝕄) :
    PRE c arg4 arg7 P N ga gO f L
      ⊢ wp frame (wpE (defs₀ (F := F)) 𝒱₀ (c : Thread nD τ) none) Set.univ (body i arg4 harg4 arg7 harg7)
        fun _ => POST c arg4 arg7 P N ga (dnPay (arg4.view.read (Elt F) ga) (bM.view.read (Elt F) f) (curS i (W4 c P) (W7 c i P)))
          (fun f' => f' = f) L := by
  unfold PRE POST
  iintro ⟨⟨Hp, Hn0⟩, Ha, Ho, HB, HO, HL⟩
  have hc1 : ¬ k0_cond1 i = 1#1 := fun h => H00 ((cond1_iff i).mp h)
  sl_exec
  have hk1 : k0_chk1 i (run4.sl.r c i P) := chk1_ok i _ H1
  sl_exec
  have hk3 : k0_chk3 i (run4.sl.r_1 c N) (run4.sl.r_2 c P) (run4.sl.r_3 c i P) := chk3_ok i _ _ _
  sl_exec
  have hk2 : k0_chk2 i (run4.sl.r_1 c N) (run4.sl.r_4 c i P) (run4.sl.r_5 c i P) (run4.sl.r_6 c i P) := chk2_ok i _ _ _ _ H2 H18
  have hc4 : ¬ k0_cond3 i (run4.sl.r_1 c N) (run4.sl.r_4 c i P) (run4.sl.r_6 c i P) = 1#1 := fun h => Hn ((cond3_iff i _ _ _ H2).mp h).1
  have hc5 : k0_cond4 i (run4.sl.r_1 c N) = 1#1 := (cond4_iff i _ H2).mpr Hu
  have hc11 : ¬ k0_cond8 i (run4.sl.r_1 c N) = 1#1 := fun h => (cond8_iff i _ H2).mp h Hu
  have hc6 : ¬ k0_cond5 i (run4.sl.r_1 c N) (run4.sl.r_4 c i P) = 1#1 := fun h => Hn ((cond5_iff i _ _ H2).mp h)
  sl_exec
  sl_step
  isplitl [Hp Hn0]
  · isplitl [Hp]; · iexact Hp
    iexact Hn0
  isplitl [Ha]; · iexact Ha
  isplitl [Ho]
  · iexists _
    isplitl [Ho]; · iexact Ho
    ipureintro; exact stored c i arg4 arg7 ga _ f _ _ _ _ _ _
  isplitl [HB]
  · iexists f
    isplitl [HB]; · iexact HB
    ipureintro; rfl
  isplitl [HO]; · iexact HO
  iexact HL

set_option backward.proofsInPublic true in
seal inv1 inv2 in
/-- An unused tile: zeros. -/
theorem run5 (ga : Buf (Elt F) (arg4.view.loc (c : Thread nD τ))) (gO : Buf (Elt F) (arg7.view.loc (c : Thread nD τ))) (f : Buf (Elt F) (bM.view.loc (c : Thread nD τ)))
    (H1 : (W1 c i P).toNat < 8) (H18 : (W18 c i P).toNat < 8) (H2 : (W2 c N).toNat ≤ 72)
    (H00 : ¬ ((i 0).val = 0 ∧ (i 1).val = 0)) (Hu : ¬ used i (W2 c N)) (L : sProp 𝕄) :
    PRE c arg4 arg7 P N ga gO f L
      ⊢ wp frame (wpE (defs₀ (F := F)) 𝒱₀ (c : Thread nD τ) none) Set.univ (body i arg4 harg4 arg7 harg7)
        fun _ => POST c arg4 arg7 P N ga (k0_pay4 (F := F))
          (fun f' => f' = f) L := by
  unfold PRE POST
  iintro ⟨⟨Hp, Hn0⟩, Ha, Ho, HB, HO, HL⟩
  have Hn : ¬ hasNext i (W2 c N) (W11 c i P) := fun h => Hu h.1
  have hc1 : ¬ k0_cond1 i = 1#1 := fun h => H00 ((cond1_iff i).mp h)
  sl_exec
  have hk1 : k0_chk1 i (run5.sl.r c i P) := chk1_ok i _ H1
  sl_exec
  have hk3 : k0_chk3 i (run5.sl.r_1 c N) (run5.sl.r_2 c P) (run5.sl.r_3 c i P) := chk3_ok i _ _ _
  sl_exec
  have hk2 : k0_chk2 i (run5.sl.r_1 c N) (run5.sl.r_4 c i P) (run5.sl.r_5 c i P) (run5.sl.r_6 c i P) := chk2_ok i _ _ _ _ H2 H18
  have hc4 : ¬ k0_cond3 i (run5.sl.r_1 c N) (run5.sl.r_4 c i P) (run5.sl.r_6 c i P) = 1#1 := fun h => Hn ((cond3_iff i _ _ _ H2).mp h).1
  have hc5 : ¬ k0_cond4 i (run5.sl.r_1 c N) = 1#1 := fun h => Hu ((cond4_iff i _ H2).mp h)
  have hc11 : k0_cond8 i (run5.sl.r_1 c N) = 1#1 := (cond8_iff i _ H2).mpr Hu
  have hc6 : ¬ k0_cond5 i (run5.sl.r_1 c N) (run5.sl.r_4 c i P) = 1#1 := fun h => Hn ((cond5_iff i _ _ H2).mp h)
  sl_exec
  sl_step
  isplitl [Hp Hn0]
  · isplitl [Hp]; · iexact Hp
    iexact Hn0
  isplitl [Ha]; · iexact Ha
  isplitl [Ho]
  · iexists _
    isplitl [Ho]; · iexact Ho
    ipureintro; exact View.read_writes_full _ _ _ _ _
  isplitl [HB]
  · iexists f
    isplitl [HB]; · iexact HB
    ipureintro; rfl
  isplitl [HO]; · iexact HO
  iexact HL

set_option backward.proofsInPublic true in
seal inv1 inv2 in
/-- The first tile of an expert's group, past the kernel's first point: the next weights' transfers start, the rows pass, a share is put away. -/
theorem run2 (ga : Buf (Elt F) (arg4.view.loc (c : Thread nD τ))) (gO : Buf (Elt F) (arg7.view.loc (c : Thread nD τ))) (f : Buf (Elt F) (bM.view.loc (c : Thread nD τ)))
    (H1 : (W1 c i P).toNat < 8) (H18 : (W18 c i P).toNat < 8) (H2 : (W2 c N).toNat ≤ 72)
    (H00 : ¬ ((i 0).val = 0 ∧ (i 1).val = 0)) (Hn : hasNext i (W2 c N) (W11 c i P)) (H27 : W27 c i P = 1#32) (Hlo : (W41 c i P).toNat = 0) (Hhi : (W43 c i P).toNat ≤ 11) :
    PRE c arg4 arg7 P N ga gO f (LanesI c XG)
      ⊢ wp frame (wpE (defs₀ (F := F)) 𝒱₀ (c : Thread nD τ) none) Set.univ (body i arg4 harg4 arg7 harg7)
        fun _ => POST c arg4 arg7 P N ga (dnPay (arg4.view.read (Elt F) ga) (bM.view.read (Elt F) f) (curS i (W4 c P) (W7 c i P)))
          (fun f' => Fill (gM.view.read (Elt F) XG) (bM.view.read (Elt F) f) (bM.view.read (Elt F) f') (othS i (W4 c P) (W7 c i P)) (W41 c i P).toNat (W43 c i P).toNat (f8 (W18 c i P).toNat) (f2 (nj i (W11 c i P)))) (Lanes c XG (f8 (W18 c i P).toNat) (W43 c i P).toNat (f2 (nj i (W11 c i P)))) := by
  unfold PRE POST
  iintro ⟨⟨Hp, Hn0⟩, Ha, Ho, HB, HO, HL⟩
  have Hu : used i (W2 c N) := Hn.1
  have hc1 : ¬ k0_cond1 i = 1#1 := fun h => H00 ((cond1_iff i).mp h)
  sl_exec
  have hk1 : k0_chk1 i (run2.sl.r c i P) := chk1_ok i _ H1
  sl_exec
  have hk3 : k0_chk3 i (run2.sl.r_1 c N) (run2.sl.r_2 c P) (run2.sl.r_3 c i P) := chk3_ok i _ _ _
  sl_exec
  have hk2 : k0_chk2 i (run2.sl.r_1 c N) (run2.sl.r_4 c i P) (run2.sl.r_5 c i P) (run2.sl.r_6 c i P) := chk2_ok i _ _ _ _ H2 H18
  have hc4 : k0_cond3 i (run2.sl.r_1 c N) (run2.sl.r_4 c i P) (run2.sl.r_6 c i P) = 1#1 := (cond3_iff i _ _ _ H2).mpr ⟨Hn, H27⟩
  have hc5 : k0_cond4 i (run2.sl.r_1 c N) = 1#1 := (cond4_iff i _ H2).mpr Hu
  have hc11 : ¬ k0_cond8 i (run2.sl.r_1 c N) = 1#1 := fun h => (cond8_iff i _ H2).mp h Hu
  have hc6 : k0_cond5 i (run2.sl.r_1 c N) (run2.sl.r_4 c i P) = 1#1 := (cond5_iff i _ _ H2).mpr Hn
  have h18 : (run2.sl.r_5 c i P).toNat < 8 := H18
  have hj : nj i (run2.sl.r_4 c i P) < 2 := nj_lt i _ _ Hn
  unfold LanesI laneI
  icases HL with ⟨⟨⟨%g0, S00⟩, K00, G00⟩, ⟨%g1, S10⟩, K10, G10⟩
  ihave G0 := (whole_in c gM XG 0 (f8 (run2.sl.r_5 c i P).toNat) (f11 0) (f2 (nj i (run2.sl.r_4 c i P)))) $$ G00
  ihave G1 := (whole_in c gM XG 1 (f8 (run2.sl.r_5 c i P).toNat) (f11 1) (f2 (nj i (run2.sl.r_4 c i P)))) $$ G10
  sl_exec
  ihave HL := (lanes_0 c XG (f8 (run2.sl.r_5 c i P).toNat) (f2 (nj i (run2.sl.r_4 c i P))) (run2.sl.r_7 c i P).toNat Hlo _ _) $$ [K00 G0 K10 G1]
  · isplitl [K00 G0]
    · isplitl [K00]; · iexact K00
      iexact G0
    isplitl [K10]; · iexact K10
    iexact G1
  have hk4 : k0_chk4 i (run2.sl.r_1 c N) (run2.sl.r_2 c P) (run2.sl.r_3 c i P) (run2.sl.r_4 c i P) (run2.sl.r_5 c i P) (run2.sl.r_7 c i P) (run2.sl.r_8 c i P) :=
    chk4_ok i _ _ _ _ _ _ _ H2 H18 (Hlo ▸ Nat.zero_le _) Hhi
  ihave Hinv := (inv2_intro c XG i (run2.sl.r_2 c P) (run2.sl.r_3 c i P) (run2.sl.r_4 c i P) (run2.sl.r_5 c i P) (run2.sl.r_7 c i P) (run2.sl.r_8 c i P) f
    H18 (nj_lt i _ _ Hn) (Hlo ▸ Nat.zero_le _) Hhi) $$ [HB HO HL]
  · isplitl [HB]; · iexact HB
    isplitl [HO]; · iexact HO
    iexact HL
  sl_exec
  ihave Hx := (inv2_exit c XG i (run2.sl.r_2 c P) (run2.sl.r_3 c i P) (run2.sl.r_4 c i P) (run2.sl.r_5 c i P) (run2.sl.r_7 c i P) (run2.sl.r_8 c i P) f (Hlo ▸ Nat.zero_le _) Hhi) $$ Hinv
  icases Hx with ⟨HB, HO, HL⟩
  sl_step
  isplitl [Hp Hn0]
  · isplitl [Hp]; · iexact Hp
    iexact Hn0
  isplitl [Ha]; · iexact Ha
  isplitl [Ho]
  · iexists _
    isplitl [Ho]; · iexact Ho
    ipureintro; exact stored c i arg4 arg7 ga _ f _ _ _ _ _ _
  isplitl [HB]; · iexact HB
  isplitl [HO]; · iexact HO
  iexact HL
set_option backward.proofsInPublic true in
seal inv1 inv2 in
/-- The kernel's first point: the first weights are brought in whole, the next weights' transfers start, the rows pass, a share is put away. -/
theorem run1 (ga : Buf (Elt F) (arg4.view.loc (c : Thread nD τ))) (gO : Buf (Elt F) (arg7.view.loc (c : Thread nD τ))) (f : Buf (Elt F) (bM.view.loc (c : Thread nD τ)))
    (H1 : (W1 c i P).toNat < 8) (H18 : (W18 c i P).toNat < 8) (H2 : (W2 c N).toNat ≤ 72)
    (H00 : (i 0).val = 0 ∧ (i 1).val = 0) (Hn : hasNext i (W2 c N) (W11 c i P)) (H27 : W27 c i P = 1#32) (Hlo : (W41 c i P).toNat = 0) (Hhi : (W43 c i P).toNat ≤ 11) :
    PRE c arg4 arg7 P N ga gO f (LanesI c XG)
      ⊢ wp frame (wpE (defs₀ (F := F)) 𝒱₀ (c : Thread nD τ) none) Set.univ (body i arg4 harg4 arg7 harg7)
        fun _ => iprop(∃ f1, ⌜Fill (gM.view.read (Elt F) XG) (bM.view.read (Elt F) f) (bM.view.read (Elt F) f1) 0 0 11 (f8 (W1 c i P).toNat) (f2 0)⌝ ∗ POST c arg4 arg7 P N ga (dnPay (arg4.view.read (Elt F) ga) (bM.view.read (Elt F) f1) (curS i (W4 c P) (W7 c i P)))
          (fun f' => Fill (gM.view.read (Elt F) XG) (bM.view.read (Elt F) f1) (bM.view.read (Elt F) f') (othS i (W4 c P) (W7 c i P)) (W41 c i P).toNat (W43 c i P).toNat (f8 (W18 c i P).toNat) (f2 (nj i (W11 c i P)))) (Lanes c XG (f8 (W18 c i P).toNat) (W43 c i P).toNat (f2 (nj i (W11 c i P))))) := by
  unfold PRE POST
  iintro ⟨⟨Hp, Hn0⟩, Ha, Ho, HB, HO, HL⟩
  have Hu : used i (W2 c N) := Hn.1
  have hc1 : k0_cond1 i = 1#1 := (cond1_iff i).mpr H00
  sl_exec
  have hk1 : k0_chk1 i (run1.sl.r c i P) := chk1_ok i _ H1
  sl_exec
  have hk3 : k0_chk3 i (run1.sl.r_1 c N) (run1.sl.r_2 c P) (run1.sl.r_3 c i P) := chk3_ok i _ _ _
  sl_exec
  have h1 : (run1.sl.r c i P).toNat < 8 := H1
  unfold LanesI laneI
  icases HL with ⟨⟨⟨%g0, S00⟩, K00, G00⟩, ⟨%g1, S10⟩, K10, G10⟩
  ihave G0 := (whole_in c gM XG 0 (f8 (run1.sl.r c i P).toNat) (f11 0) (f2 0)) $$ G00
  ihave G1 := (whole_in c gM XG 1 (f8 (run1.sl.r c i P).toNat) (f11 1) (f2 0)) $$ G10
  sl_exec
  ihave HL := (lanes_0 c XG (f8 (run1.sl.r c i P).toNat) (f2 0) 0 rfl _ _) $$ [K00 G0 K10 G1]
  · isplitl [K00 G0]
    · isplitl [K00]; · iexact K00
      iexact G0
    isplitl [K10]; · iexact K10
    iexact G1
  ihave Hinv := (inv1_intro c XG f (run1.sl.r c i P) H1) $$ [HB HO HL]
  · isplitl [HB]; · iexact HB
    isplitl [HO]; · iexact HO
    iexact HL
  sl_exec
  ihave Hx := (inv1_exit c XG f (run1.sl.r c i P)) $$ Hinv
  icases Hx with ⟨⟨%f1, HB, %hf1⟩, HO, HL⟩
  have hk2 : k0_chk2 i (run1.sl.r_1 c N) (run1.sl.r_4 c i P) (run1.sl.r_5 c i P) (run1.sl.r_6 c i P) := chk2_ok i _ _ _ _ H2 H18
  have hc4 : k0_cond3 i (run1.sl.r_1 c N) (run1.sl.r_4 c i P) (run1.sl.r_6 c i P) = 1#1 := (cond3_iff i _ _ _ H2).mpr ⟨Hn, H27⟩
  have hc5 : k0_cond4 i (run1.sl.r_1 c N) = 1#1 := (cond4_iff i _ H2).mpr Hu
  have hc11 : ¬ k0_cond8 i (run1.sl.r_1 c N) = 1#1 := fun h => (cond8_iff i _ H2).mp h Hu
  have hc6 : k0_cond5 i (run1.sl.r_1 c N) (run1.sl.r_4 c i P) = 1#1 := (cond5_iff i _ _ H2).mpr Hn
  have h18 : (run1.sl.r_5 c i P).toNat < 8 := H18
  have hj : nj i (run1.sl.r_4 c i P) < 2 := nj_lt i _ _ Hn
  unfold LanesI laneI
  icases HL with ⟨⟨⟨%g0, S00⟩, K00, G00⟩, ⟨%g1, S10⟩, K10, G10⟩
  ihave G0 := (whole_in c gM XG 0 (f8 (run1.sl.r_5 c i P).toNat) (f11 0) (f2 (nj i (run1.sl.r_4 c i P)))) $$ G00
  ihave G1 := (whole_in c gM XG 1 (f8 (run1.sl.r_5 c i P).toNat) (f11 1) (f2 (nj i (run1.sl.r_4 c i P)))) $$ G10
  sl_exec
  ihave HL := (lanes_0 c XG (f8 (run1.sl.r_5 c i P).toNat) (f2 (nj i (run1.sl.r_4 c i P))) (run1.sl.r_7 c i P).toNat Hlo _ _) $$ [K00 G0 K10 G1]
  · isplitl [K00 G0]
    · isplitl [K00]; · iexact K00
      iexact G0
    isplitl [K10]; · iexact K10
    iexact G1
  have hk4 : k0_chk4 i (run1.sl.r_1 c N) (run1.sl.r_2 c P) (run1.sl.r_3 c i P) (run1.sl.r_4 c i P) (run1.sl.r_5 c i P) (run1.sl.r_7 c i P) (run1.sl.r_8 c i P) :=
    chk4_ok i _ _ _ _ _ _ _ H2 H18 (Hlo ▸ Nat.zero_le _) Hhi
  ihave Hinv := (inv2_intro c XG i (run1.sl.r_2 c P) (run1.sl.r_3 c i P) (run1.sl.r_4 c i P) (run1.sl.r_5 c i P) (run1.sl.r_7 c i P) (run1.sl.r_8 c i P) f1
    H18 (nj_lt i _ _ Hn) (Hlo ▸ Nat.zero_le _) Hhi) $$ [HB HO HL]
  · isplitl [HB]; · iexact HB
    isplitl [HO]; · iexact HO
    iexact HL
  sl_exec
  ihave Hx := (inv2_exit c XG i (run1.sl.r_2 c P) (run1.sl.r_3 c i P) (run1.sl.r_4 c i P) (run1.sl.r_5 c i P) (run1.sl.r_7 c i P) (run1.sl.r_8 c i P) f1 (Hlo ▸ Nat.zero_le _) Hhi) $$ Hinv
  icases Hx with ⟨HB, HO, HL⟩
  sl_step
  iexists f1
  isplitr; · ipureintro; exact hf1
  isplitl [Hp Hn0]
  · isplitl [Hp]; · iexact Hp
    iexact Hn0
  isplitl [Ha]; · iexact Ha
  isplitl [Ho]
  · iexists _
    isplitl [Ho]; · iexact Ho
    ipureintro; exact stored c i arg4 arg7 ga _ f1 _ _ _ _ _ _
  isplitl [HB]; · iexact HB
  isplitl [HO]; · iexact HO
  iexact HL
end Body

end Cert.Proof.Dn

end
-- ==== Proof.DnPlan.lean ====
/-
  The tile plan: what the tables say of a launch, the resident buffer between points, and how a point moves it on.
-/
module

public import proofs.«01_k».proof.Proof.DnBody
public import Idealize.ShloMosaic.Lib.Pipeline.ValueKit.Geometry

@[expose] public section

set_option maxRecDepth 16384

noncomputable section

namespace Cert.Proof.Dn

open Cert.Kernel3Ideal Cert.Kernel3Ideal.Gen
open Idealize.ShloMosaic Idealize.ShloMosaic.ValueIdx

variable {F : FTy → Type} [FloatOps F]

/-- What a launch asks of the plan's rows (expert, first, from, to, next expert, last, group, groups) and the count of
    used tiles: at least one tile is used, the tiles of a group follow each other and its shares of the next weights
    abut from the first chunk to the last, a new group takes the weights the one before it announced, and the last
    group announces the first tile's expert. -/
structure PlanOK (q : ℕ → ℕ → ℕ) (nu : ℕ) : Prop where
  nu1 : 1 ≤ nu
  nu72 : nu ≤ 72
  e8 : ∀ t < 72, q 0 t < 8
  nx8 : ∀ t < 72, q 4 t < 8
  lohi : ∀ t < nu, q 2 t ≤ q 3 t ∧ q 3 t ≤ 11
  fi0 : q 1 0 = 1
  gr0 : q 6 0 = 0
  filo : ∀ t < nu, q 1 t = 1 → q 2 t = 0
  next : ∀ t, t + 1 < nu → (q 1 (t + 1) = 1 ∧ q 3 t = 11 ∧ q 0 (t + 1) = q 4 t ∧ q 5 t ≠ 1 ∧ q 6 (t + 1) = q 6 t + 1)
    ∨ (q 1 (t + 1) ≠ 1 ∧ q 0 (t + 1) = q 0 t ∧ q 4 (t + 1) = q 4 t ∧ q 5 (t + 1) = q 5 t ∧ q 6 (t + 1) = q 6 t ∧ q 2 (t + 1) = q 3 t)
  last : ∀ t, t + 1 = nu → q 3 t = 11 ∧ q 5 t = 1 ∧ q 4 t = q 0 0 ∧ q 6 t + 1 = q 7 0

section Plan
variable (q : ℕ → ℕ → ℕ) (nu : ℕ)

/-- There are weights left to stream at tile `t` of column `j`. -/
def More (j t : ℕ) : Prop := t < nu ∧ ¬ (q 5 t = 1 ∧ j = 1)
/-- The column of the weights streamed next. -/
def nxJ (j t : ℕ) : ℕ := if q 5 t = 1 then j + 1 else j
/-- The resident slot in use. -/
def slN (j t : ℕ) : ℕ := (j * q 7 0 + q 6 t) % 2

variable (XG : S8x5632x2048.Idx → Elt F .f32)

/-- Chunks below `n` of resident slot `s` hold the weights of expert `e`, column `j`. -/
def Res (B : S2x1x5632x1024.Idx → Elt F .bf16) (s n e j : ℕ) : Prop :=
  ∀ x : S2x1x5632x1024.Idx, (x 0).val = s → (x 2).val < n * 512 →
    B x = wt XG (f8 e) (f2 j) x

/-- The resident buffer before tile `t` of column `j`. -/
structure Good (j t : ℕ) (B : S2x1x5632x1024.Idx → Elt F .bf16) : Prop where
  now : j < 2 → t < nu → ¬ (j = 0 ∧ t = 0) → Res XG B (slN q j t) 11 (q 0 t) j
  nxt : j < 2 → q 1 t ≠ 1 → More q nu j t → Res XG B (1 - slN q j t) (q 2 t) (q 4 t) (nxJ q j t)
  idle : nu ≤ t → j < 1 → Res XG B ((j + 1) * q 7 0 % 2) 11 (q 0 0) (j + 1)

/-- The resident buffer after it. -/
structure After (j t : ℕ) (B : S2x1x5632x1024.Idx → Elt F .bf16) : Prop where
  nxt : More q nu j t → Res XG B (1 - slN q j t) (q 3 t) (q 4 t) (nxJ q j t)
  now : t < nu → Res XG B (slN q j t) 11 (q 0 t) j
  idle : nu ≤ t → j < 1 → Res XG B ((j + 1) * q 7 0 % 2) 11 (q 0 0) (j + 1)

theorem mod_flip (a : ℕ) : 1 - a % 2 = (a + 1) % 2 := by omega
theorem div_step {j t : ℕ} (ht : t < 72) : (j * 72 + t) / 72 = j := by omega
theorem mod_step {j t : ℕ} (ht : t < 72) : (j * 72 + t) % 72 = t := by omega

variable {q nu XG}

/-- A point's buffer serves the next point. -/
theorem After.good (ok : PlanOK q nu) {j t : ℕ} (hj : j < 2) (ht : t < 72) {B : S2x1x5632x1024.Idx → Elt F .bf16} (A : After q nu XG j t B) :
    Good q nu XG ((j * 72 + t + 1) / 72) ((j * 72 + t + 1) % 72) B := by
  have hn := ok.nu72
  by_cases h71 : t = 71
  · subst h71
    rw [show (j * 72 + 71 + 1) / 72 = j + 1 by omega, show (j * 72 + 71 + 1) % 72 = 0 by omega]
    refine ⟨fun h4 _ _ => ?_, fun _ h _ => absurd ok.fi0 h, fun h _ => absurd ok.nu1 (by omega)⟩
    have e : slN q (j + 1) 0 = (j + 1) * q 7 0 % 2 := by unfold slN; rw [ok.gr0]; rfl
    rw [e]
    by_cases hu : 71 < nu
    · obtain ⟨a, b, c, d⟩ := ok.last 71 (by omega)
      have hm : More q nu j 71 := ⟨hu, fun h => by omega⟩
      have := A.nxt hm
      rw [a, c] at this
      unfold slN at this
      rw [mod_flip, show nxJ q j 71 = j + 1 from if_pos b, show j * q 7 0 + q 6 71 + 1 = (j + 1) * q 7 0 by rw [Nat.add_mul]; omega] at this
      exact this
    · exact A.idle (by omega) (by omega)
  · rw [show (j * 72 + t + 1) / 72 = j by omega, show (j * 72 + t + 1) % 72 = t + 1 by omega]
    by_cases h1 : t + 1 < nu
    · rcases ok.next t h1 with ⟨a, b, c, d, e⟩ | ⟨a, b, c, d, e, f⟩
      · refine ⟨fun _ _ _ => ?_, fun _ h => absurd a h, fun h => absurd h1 (by omega)⟩
        have := A.nxt ⟨by omega, fun h => d h.1⟩
        rw [b] at this
        unfold slN at this ⊢
        rw [mod_flip, show nxJ q j t = j from if_neg d] at this
        rw [c, e, ← Nat.add_assoc]
        exact this
      · have es : slN q j (t + 1) = slN q j t := by unfold slN; rw [e]
        refine ⟨fun _ _ _ => ?_, fun _ _ hm => ?_, fun h => absurd h1 (by omega)⟩
        · rw [es, b]; exact A.now (by omega)
        · have hm' : More q nu j t := ⟨by omega, fun h => hm.2 ⟨d.trans h.1, h.2⟩⟩
          rw [es, c, f, show nxJ q j (t + 1) = nxJ q j t by unfold nxJ; rw [d]]
          exact A.nxt hm'
    · refine ⟨fun _ h => absurd h h1, fun _ _ h => absurd h.1 h1, fun h h3 => ?_⟩
      by_cases hu : t < nu
      · obtain ⟨a, b, c, d⟩ := ok.last t (by omega)
        have := A.nxt ⟨hu, fun h => by omega⟩
        rw [a, c] at this
        unfold slN at this
        rw [mod_flip, show nxJ q j t = j + 1 from if_pos b, show j * q 7 0 + q 6 t + 1 = (j + 1) * q 7 0 by rw [Nat.add_mul]; omega] at this
        exact this
      · exact A.idle (by omega) h3

/-- A share put away: the slot in use is kept, the other one's share grows. -/
theorem Res.other {B B' : S2x1x5632x1024.Idx → Elt F .bf16} {s : Fin 2} {a b : ℕ} {e : Fin 8} {j : Fin 2} {s' n e' j' : ℕ} (hs : s' ≠ s.val)
    (R : Res XG B s' n e' j') (h : Fill XG B B' s a b e j) : Res XG B' s' n e' j' := fun x h0 h2 => by
  have hx : B' x = B x := h.other x (Or.inl fun e => hs (by rw [← h0, e]))
  rw [hx]; exact R x h0 h2

theorem Res.fill {B B' : S2x1x5632x1024.Idx → Elt F .bf16} {s : Fin 2} {a b e j : ℕ}
    (R : Res XG B s.val a e j) (h : Fill XG B B' s a b (f8 e) (f2 j)) : Res XG B' s.val b e j := fun x h0 h2 => by
  have hs : x 0 = s := Fin.ext h0
  by_cases ha : a * 512 ≤ (x 2).val
  · exact h.here x hs ha h2
  · rw [h.other x (Or.inr (Or.inl (by omega)))]; exact R x h0 (by omega)

theorem Res.zero {B : S2x1x5632x1024.Idx → Elt F .bf16} {s e j : ℕ} : Res XG B s 0 e j := fun x _ h => absurd h (by omega)

/-- A resident tile is the weights. -/
theorem Res.tile {B : S2x1x5632x1024.Idx → Elt F .bf16} {s : Fin 2} {e j : ℕ} (R : Res XG B s.val 11 e j) :
    Dn.tile B s = (fun y => tc (XG (ix3 (f8 e) (y 2) (col (f2 j) (y 3))))) := by
  have key : ∀ (y : S1x1x5632x1024.Idx), ∃ x : S2x1x5632x1024.Idx, Dn.tile B s y = B x ∧ x 0 = s ∧ x 2 = y 2 ∧ x 3 = y 3 := fun y => by
    have h0 : (y 0).val = 0 := by have : (y 0).val < 1 := (y 0).isLt; omega
    refine ⟨_, rfl, ?_, ?_, ?_⟩
    · exact Fin.ext ((Idealize.ShloMosaic.ValueKit.rect_emb_unit_val _ _ _ _ _).trans (by show s.val + (y 0).val = s.val; omega))
    · exact Fin.ext ((Idealize.ShloMosaic.ValueKit.rect_emb_unit_val _ _ _ _ _).trans (Nat.zero_add _))
    · exact Fin.ext ((Idealize.ShloMosaic.ValueKit.rect_emb_unit_val _ _ _ _ _).trans (Nat.zero_add _))
  funext y
  obtain ⟨x, h, h0, h2, h3⟩ := key y
  rw [h, R x (by rw [h0]) (x 2).isLt]
  unfold wt; rw [h2, h3]
end Plan

end Cert.Proof.Dn

end
-- ==== Proof.DnPoint.lean ====
/-
  The body at a grid point under the plan: one statement over the five cases.
-/
module

public import proofs.«01_k».proof.Proof.DnPlan

@[expose] public section

set_option maxRecDepth 16384

noncomputable section

namespace Cert.Proof.Dn

open Cert.Kernel3Ideal Cert.Kernel3Ideal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-- The plan's entries as naturals. -/
def qOf (P : S8x72.Idx → BitVec 32) (r t : ℕ) : ℕ := (P (ix2 (f8 r) (⟨t % 72, Nat.mod_lt _ (by decide)⟩ : Fin 72))).toNat
/-- The count of used tiles. -/
def nuOf (N : S1.Idx → BitVec 32) : ℕ := (N (ix1 0)).toNat

section Pure
variable {q : ℕ → ℕ → ℕ} {nu : ℕ} {XG : S8x5632x2048.Idx → Elt F .f32} {B B' : S2x1x5632x1024.Idx → Elt F .bf16}

/-- What a point that streams leaves. -/
theorem after_more {j t : ℕ} {s : Fin 2} (hs : s.val = 1 - slN q j t) (hm : More q nu j t)
    (h : Fill XG B B' s (q 2 t) (q 3 t) (f8 (q 4 t)) (f2 (nxJ q j t)))
    (hnow : Res XG B (slN q j t) 11 (q 0 t) j) (hlo : q 1 t = 1 → q 2 t = 0) (hnx : q 1 t ≠ 1 → Res XG B (1 - slN q j t) (q 2 t) (q 4 t) (nxJ q j t)) :
    After q nu XG j t B' := by
  have hlt : slN q j t < 2 := Nat.mod_lt _ (by decide)
  refine ⟨fun _ => ?_, fun _ => hnow.other (by omega) h, fun h' => absurd hm.1 (by omega)⟩
  rw [← hs]
  refine Res.fill ?_ h
  by_cases h1 : q 1 t = 1
  · rw [hlo h1]; exact Res.zero
  · rw [hs]; exact hnx h1

/-- What a used point that does not stream leaves. -/
theorem after_last {j t : ℕ} (hu : t < nu) (hm : ¬ More q nu j t) (hnow : Res XG B (slN q j t) 11 (q 0 t) j) : After q nu XG j t B :=
  ⟨fun h => absurd h hm, fun _ => hnow, fun h => absurd hu (by omega)⟩

/-- What an unused point leaves. -/
theorem after_idle {j t : ℕ} (hu : ¬ t < nu) (G : Good q nu XG j t B) : After q nu XG j t B :=
  ⟨fun h => absurd h.1 hu, fun h => absurd h hu, fun h h3 => G.idle h h3⟩

variable (q nu XG)
/-- The block a point stores: the rows through the tile's expert if the tile is used, else zeros. -/
def outV (A : S256x5632.Idx → Elt F .bf16) (j t : ℕ) : FVec F S256x1024 .f32 :=
  if t < nu then k0_pay1 A (fun y => tc (XG (ix3 (f8 (q 0 t)) (y 2) (col (f2 j) (y 3)))))
  else k0_pay4 (F := F)
variable {q nu XG}

theorem dnPay_eq (A : S256x5632.Idx → Elt F .bf16) {j t : ℕ} {s : Fin 2} (hs : s.val = slN q j t) (hu : t < nu) (R : Res XG B (slN q j t) 11 (q 0 t) j) :
    dnPay A B s = outV q nu XG A j t := by
  rw [← hs] at R
  unfold dnPay outV
  rw [if_pos hu, R.tile]
end Pure

section Lane
variable (q : ℕ → ℕ → ℕ) (nu : ℕ) (c : Dev nD) (XG : Buf (Elt F) (gM.view.loc (c : Thread nD τ)))

open Classical in
/-- The lanes before tile `t` of column `j`. -/
def LB (j t : ℕ) : sProp 𝕄 := if q 1 t ≠ 1 ∧ More q nu j t then Lanes c XG (f8 (q 4 t)) (q 2 t) (f2 (nxJ q j t)) else LanesI c XG
open Classical in
/-- The lanes after it. -/
def LA (j t : ℕ) : sProp 𝕄 := if More q nu j t then Lanes c XG (f8 (q 4 t)) (q 3 t) (f2 (nxJ q j t)) else LanesI c XG

variable {q nu}
/-- A point's lanes serve the next point. -/
theorem lanes_next (ok : PlanOK q nu) {j t : ℕ} (hj : j < 2) (ht : t < 72) :
    LA q nu c XG j t = LB q nu c XG ((j * 72 + t + 1) / 72) ((j * 72 + t + 1) % 72) := by
  have hn := ok.nu72
  unfold LA LB
  by_cases h71 : t = 71
  · subst h71
    rw [show (j * 72 + 71 + 1) % 72 = 0 by omega, if_neg (show ¬ (q 1 0 ≠ 1 ∧ More q nu ((j * 72 + 71 + 1) / 72) 0) from fun h => h.1 ok.fi0)]
    by_cases hm : More q nu j 71
    · rw [if_pos hm, (ok.last 71 (by have := hm.1; omega)).1, lanes_11]
    · rw [if_neg hm]
  · rw [show (j * 72 + t + 1) / 72 = j by omega, show (j * 72 + t + 1) % 72 = t + 1 by omega]
    by_cases h1 : t + 1 < nu
    · rcases ok.next t h1 with ⟨a, b, c', d, e⟩ | ⟨a, b, c', d, e, f⟩
      · rw [if_neg (show ¬ (q 1 (t + 1) ≠ 1 ∧ More q nu j (t + 1)) from fun h => h.1 a), if_pos (show More q nu j t from ⟨by omega, fun h => d h.1⟩), b, lanes_11]
      · have hiff : More q nu j (t + 1) ↔ More q nu j t := by
          unfold More; rw [d]; constructor <;> (rintro ⟨x, y⟩; exact ⟨by omega, y⟩)
        have hnj : nxJ q j (t + 1) = nxJ q j t := by unfold nxJ; rw [d]
        by_cases hm : More q nu j t
        · rw [if_pos hm, if_pos ⟨a, hiff.mpr hm⟩, c', f, hnj]
        · rw [if_neg hm, if_neg (fun h => hm (hiff.mp h.2))]
    · rw [if_neg (show ¬ (q 1 (t + 1) ≠ 1 ∧ More q nu j (t + 1)) from fun h => h1 h.2.1)]
      by_cases hm : More q nu j t
      · rw [if_pos hm, (ok.last t (by have := hm.1; omega)).1, lanes_11]
      · rw [if_neg hm]
end Lane

section Point
variable (c : Dev nD) (XG : Buf (Elt F) (gM.view.loc (c : Thread nD τ)))
  (i : grid0.Coords)
  (arg4 : Memref sig .tc .vmem S256x5632 .bf16) (harg4 : arg4.IsWhole) (arg7 : Memref sig .tc .vmem S256x1024 .f32) (harg7 : arg7.IsWhole)
  (P : Buf (Elt F) (pM.view.loc (c : Thread nD τ))) (N : Buf (Elt F) (nM.view.loc (c : Thread nD τ)))

/-- A plan word read at its closed offsets. -/
theorem rd_eq (off : Fin 2 → Nat) (inb : ∀ a, off a + S1x1.size a ≤ S8x72.size a) (r t : ℕ) (hr : r < 8) (ht : t < 72) (h : off = ![r, t]) :
    (rd c P off inb).toNat = qOf P r t := by
  subst h
  unfold qOf
  refine congrArg (fun x => (P x : BitVec 32).toNat) (funext fun a => Fin.ext ?_)
  fin_cases a
  · show r + 1 * 0 = r % 8
    omega
  · show t + 1 * 0 = t % 72
    omega
theorem w1_eq : (W1 c i P).toNat = qOf P 0 (i 1).val := rd_eq c P _ _ 0 _ (by decide) (i1_lt i) (by
  have := i1_lt i; simp only [k0_off1, Scalar.indexCast, BitVec.toNat_ofNat]; rw [Nat.mod_eq_of_lt (by omega)])
theorem w7_eq : (W7 c i P).toNat = qOf P 6 (i 1).val := rd_eq c P _ _ 6 _ (by decide) (i1_lt i) (by
  have := i1_lt i; simp only [k0_off2, Scalar.indexCast, BitVec.toNat_ofNat]; rw [Nat.mod_eq_of_lt (by omega)])
theorem w11_eq : (W11 c i P).toNat = qOf P 5 (i 1).val := rd_eq c P _ _ 5 _ (by decide) (i1_lt i) (by
  have := i1_lt i; simp only [k0_off3, Scalar.indexCast, BitVec.toNat_ofNat]; rw [Nat.mod_eq_of_lt (by omega)])
theorem w18_eq : (W18 c i P).toNat = qOf P 4 (i 1).val := rd_eq c P _ _ 4 _ (by decide) (i1_lt i) (by
  have := i1_lt i; simp only [k0_off4, Scalar.indexCast, BitVec.toNat_ofNat]; rw [Nat.mod_eq_of_lt (by omega)])
theorem w27_eq : (W27 c i P).toNat = qOf P 1 (i 1).val := rd_eq c P _ _ 1 _ (by decide) (i1_lt i) (by
  have := i1_lt i; simp only [k0_off15, Scalar.indexCast, BitVec.toNat_ofNat]; rw [Nat.mod_eq_of_lt (by omega)])
theorem w41_eq : (W41 c i P).toNat = qOf P 2 (i 1).val := rd_eq c P _ _ 2 _ (by decide) (i1_lt i) (by
  have := i1_lt i; simp only [k0_off19, Scalar.indexCast, BitVec.toNat_ofNat]; rw [Nat.mod_eq_of_lt (by omega)])
theorem w43_eq : (W43 c i P).toNat = qOf P 3 (i 1).val := rd_eq c P _ _ 3 _ (by decide) (i1_lt i) (by
  have := i1_lt i; simp only [k0_off20, Scalar.indexCast, BitVec.toNat_ofNat]; rw [Nat.mod_eq_of_lt (by omega)])
theorem w4_eq : (W4 c P).toNat = qOf P 7 0 := rd_eq c P _ _ 7 0 (by decide) (by decide) rfl
theorem w2_eq : (W2 c N).toNat = nuOf N := by
  unfold nuOf
  refine congrArg (fun x => (N x : BitVec 32).toNat) (funext fun a => Fin.ext ?_)
  fin_cases a; rfl

theorem one_iff (v : BitVec 32) : v = 1#32 ↔ v.toNat = 1 := ⟨fun h => by rw [h]; rfl, fun h => BitVec.eq_of_toNat_eq h⟩

theorem more_iff : hasNext i (W2 c N) (W11 c i P) ↔ More (qOf P) (nuOf N) (i 0).val (i 1).val := by
  unfold hasNext More; rw [w2_eq, one_iff, w11_eq]
theorem nj_eq : nj i (W11 c i P) = nxJ (qOf P) (i 0).val (i 1).val := by
  unfold nj nxJ
  by_cases h : W11 c i P = 1#32
  · rw [if_pos h, if_pos (by rw [← w11_eq c i P, ← one_iff]; exact h)]
  · rw [if_neg h, if_neg (by rw [← w11_eq c i P, ← one_iff]; exact h)]
theorem cur_eq : cur i (W4 c P) (W7 c i P) = slN (qOf P) (i 0).val (i 1).val := by
  unfold cur slN; rw [w4_eq, w7_eq]

/-- A weaker account of what a point leaves. -/
theorem post_mono {ga : Buf (Elt F) (arg4.view.loc (c : Thread nD τ))} {pay pay' : S256x1024.Idx → Elt F .f32}
    {R R' : Buf (Elt F) (bM.view.loc (c : Thread nD τ)) → Prop} {L : sProp 𝕄} (hp : pay = pay') (hR : ∀ f, R f → R' f) :
    POST c arg4 arg7 P N ga pay R L ⊢ POST c arg4 arg7 P N ga pay' R' L := by
  subst hp
  unfold POST
  iintro ⟨HT, HA, HO, ⟨%f', HB, %hf⟩, HW, HL⟩
  isplitl [HT]; · iexact HT
  isplitl [HA]; · iexact HA
  isplitl [HO]; · iexact HO
  isplitl [HB]
  · iexists f'
    isplitl [HB]; · iexact HB
    ipureintro; exact hR f' hf
  isplitl [HW]; · iexact HW
  iexact HL

/-- A point under the plan: the block is the point's, the resident buffer and the lanes serve the next point. -/
theorem point (ok : PlanOK (qOf P) (nuOf N)) (ga : Buf (Elt F) (arg4.view.loc (c : Thread nD τ))) (gO : Buf (Elt F) (arg7.view.loc (c : Thread nD τ)))
    (f : Buf (Elt F) (bM.view.loc (c : Thread nD τ)))
    (G : Good (qOf P) (nuOf N) (gM.view.read (Elt F) XG) (i 0).val (i 1).val (bM.view.read (Elt F) f)) :
    PRE c arg4 arg7 P N ga gO f (LB (qOf P) (nuOf N) c XG (i 0).val (i 1).val)
      ⊢ wp frame (wpE (defs₀ (F := F)) 𝒱₀ (c : Thread nD τ) none) Set.univ (body i arg4 harg4 arg7 harg7)
        fun _ => POST c arg4 arg7 P N ga (outV (qOf P) (nuOf N) (gM.view.read (Elt F) XG) (arg4.view.read (Elt F) ga) (i 0).val (i 1).val)
          (fun f' => After (qOf P) (nuOf N) (gM.view.read (Elt F) XG) (i 0).val (i 1).val (bM.view.read (Elt F) f'))
          (LA (qOf P) (nuOf N) c XG (i 0).val (i 1).val) := by
  have hj := i0_lt i
  have ht := i1_lt i
  have H1 : (W1 c i P).toNat < 8 := by rw [w1_eq]; exact ok.e8 _ ht
  have H18 : (W18 c i P).toNat < 8 := by rw [w18_eq]; exact ok.nx8 _ ht
  have H2 : (W2 c N).toNat ≤ 72 := by rw [w2_eq]; exact ok.nu72
  have hs : (curS i (W4 c P) (W7 c i P)).val = slN (qOf P) (i 0).val (i 1).val := cur_eq c i P
  have ho : (othS i (W4 c P) (W7 c i P)).val = 1 - slN (qOf P) (i 0).val (i 1).val := by rw [← cur_eq c i P]; rfl
  by_cases hu : (i 1).val < nuOf N
  · have hlohi := ok.lohi _ hu
    have Hlo : (W41 c i P).toNat ≤ (W43 c i P).toNat := by rw [w41_eq, w43_eq]; exact hlohi.1
    have Hhi : (W43 c i P).toNat ≤ 11 := by rw [w43_eq]; exact hlohi.2
    by_cases hm : More (qOf P) (nuOf N) (i 0).val (i 1).val
    · have Hn := (more_iff c i P N).mpr hm
      have eLA : LA (qOf P) (nuOf N) c XG (i 0).val (i 1).val = Lanes c XG (f8 (W18 c i P).toNat) (W43 c i P).toNat (f2 (nj i (W11 c i P))) := by
        unfold LA; rw [if_pos hm, w18_eq, w43_eq, nj_eq]
      rw [eLA]
      by_cases h1 : qOf P 1 (i 1).val = 1
      · have H27 : W27 c i P = 1#32 := by rw [one_iff, w27_eq]; exact h1
        have hlo0 := ok.filo _ hu h1
        have Hlo0 : (W41 c i P).toNat = 0 := by rw [w41_eq]; exact hlo0
        have eLB : LB (qOf P) (nuOf N) c XG (i 0).val (i 1).val = LanesI c XG := if_neg fun h => h.1 h1
        rw [eLB]
        by_cases H00 : (i 0).val = 0 ∧ (i 1).val = 0
        · refine (run1 c XG i arg4 harg4 arg7 harg7 P N ga gO f H1 H18 H2 H00 Hn H27 Hlo0 Hhi).trans (wp_mono _ _ _ fun _ => ?_)
          iintro ⟨%f1, %hf1, HP⟩
          have hnow : Res (gM.view.read (Elt F) XG) (bM.view.read (Elt F) f1) (slN (qOf P) (i 0).val (i 1).val) 11 (qOf P 0 (i 1).val) (i 0).val := by
            rw [w1_eq] at hf1
            have := Res.fill (s := 0) (a := 0) (j := 0) Res.zero hf1
            have e : slN (qOf P) (i 0).val (i 1).val = 0 := by unfold slN; rw [H00.1, H00.2, ok.gr0]; simp
            rw [e, H00.1]; exact this
          iapply (post_mono c arg4 arg7 P N (dnPay_eq _ hs hu hnow) (fun f' (hf' : Fill (gM.view.read (Elt F) XG) (bM.view.read (Elt F) f1) (bM.view.read (Elt F) f') (othS i (W4 c P) (W7 c i P)) (W41 c i P).toNat (W43 c i P).toNat (f8 (W18 c i P).toNat) (f2 (nj i (W11 c i P)))) => by
            rw [w41_eq, w43_eq, w18_eq, nj_eq] at hf'
            exact after_more ho hm hf' hnow (fun _ => hlo0) (fun h => absurd h1 h)))
          iexact HP
        · have hnow := G.now hj hu H00
          refine (run2 c XG i arg4 harg4 arg7 harg7 P N ga gO f H1 H18 H2 H00 Hn H27 Hlo0 Hhi).trans (wp_mono _ _ _ fun _ => ?_)
          refine post_mono c arg4 arg7 P N (dnPay_eq _ hs hu hnow) (fun f' hf' => ?_)
          rw [w41_eq, w43_eq, w18_eq, nj_eq] at hf'
          exact after_more ho hm hf' hnow (fun _ => hlo0) (fun h => absurd h1 h)
      · have H27 : W27 c i P ≠ 1#32 := fun h => h1 (by rw [← w27_eq c i P, h]; rfl)
        have H00 : ¬ ((i 0).val = 0 ∧ (i 1).val = 0) := fun h => h1 (by rw [h.2]; exact ok.fi0)
        have eLB : LB (qOf P) (nuOf N) c XG (i 0).val (i 1).val = Lanes c XG (f8 (W18 c i P).toNat) (W41 c i P).toNat (f2 (nj i (W11 c i P))) := by
          unfold LB; rw [if_pos ⟨h1, hm⟩, w18_eq, w41_eq, nj_eq]
        rw [eLB]
        have hnow := G.now hj hu H00
        refine (run3 c XG i arg4 harg4 arg7 harg7 P N ga gO f H1 H18 H2 H00 Hn H27 Hlo Hhi).trans (wp_mono _ _ _ fun _ => ?_)
        refine post_mono c arg4 arg7 P N (dnPay_eq _ hs hu hnow) (fun f' hf' => ?_)
        rw [w41_eq, w43_eq, w18_eq, nj_eq] at hf'
        exact after_more ho hm hf' hnow (fun h => absurd h h1) (fun _ => G.nxt hj h1 hm)
    · have Hn : ¬ hasNext i (W2 c N) (W11 c i P) := fun h => hm ((more_iff c i P N).mp h)
      have Hu : used i (W2 c N) := by unfold used; rw [w2_eq]; exact hu
      have h3 : (i 0).val = 1 := Classical.byContradiction fun h => hm ⟨hu, fun h' => h h'.2⟩
      have H00 : ¬ ((i 0).val = 0 ∧ (i 1).val = 0) := fun h => by omega
      have eL : LB (qOf P) (nuOf N) c XG (i 0).val (i 1).val = LA (qOf P) (nuOf N) c XG (i 0).val (i 1).val := by
        unfold LB LA; rw [if_neg (fun h => hm h.2), if_neg hm]
      rw [eL]
      have hnow := G.now hj hu H00
      refine (run4 c i arg4 harg4 arg7 harg7 P N ga gO f H1 H18 H2 H00 Hu Hn _).trans (wp_mono _ _ _ fun _ => ?_)
      refine post_mono c arg4 arg7 P N (dnPay_eq _ hs hu hnow) (fun f' hf' => ?_)
      rw [hf']; exact after_last hu hm hnow
  · have Hu : ¬ used i (W2 c N) := by unfold used; rw [w2_eq]; exact hu
    have hm : ¬ More (qOf P) (nuOf N) (i 0).val (i 1).val := fun h => hu h.1
    have H00 : ¬ ((i 0).val = 0 ∧ (i 1).val = 0) := fun h => hu (by rw [h.2]; exact ok.nu1)
    have eL : LB (qOf P) (nuOf N) c XG (i 0).val (i 1).val = LA (qOf P) (nuOf N) c XG (i 0).val (i 1).val := by
      unfold LB LA; rw [if_neg (fun h => hm h.2), if_neg hm]
    rw [eL]
    refine (run5 c i arg4 harg4 arg7 harg7 P N ga gO f H1 H18 H2 H00 Hu _).trans (wp_mono _ _ _ fun _ => ?_)
    refine post_mono c arg4 arg7 P N (by unfold outV; rw [if_neg hu]) (fun f' hf' => ?_)
    rw [hf']; exact after_idle hu G
end Point

end Cert.Proof.Dn

end
-- ==== Proof.DnData.lean ====
/-
  The pipeline's proof data for the expert-weight stream, and its body obligation.
-/
module

public import proofs.«01_k».proof.Proof.DnPoint

@[expose] public section

set_option maxRecDepth 16384

noncomputable section

namespace Cert.Proof.Dn

open Cert.Kernel3Ideal Cert.Kernel3Ideal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

section Idx

/-- The rows' block of a point, for a count of at least one used tile: the tile's, or the last used one's. -/
theorem min_word {t n : ℕ} (ht : t < 72) (h1 : 1 ≤ n) (h72 : n ≤ 72) :
    (Scalar.minsi (BitVec.ofNat 32 t) (Scalar.subi (BitVec.ofNat 32 n) 1#32)).toNat = min t (n - 1) := by
  have e : Scalar.subi (BitVec.ofNat 32 n) 1#32 = BitVec.ofNat 32 (n - 1) := by
    apply BitVec.eq_of_toNat_eq
    simp only [Scalar.subi, IntOp.subi, BitVec.toNat_sub, BitVec.toNat_ofNat]
    omega
  rw [e]
  have hs : (BitVec.ofNat 32 t).slt (BitVec.ofNat 32 (n - 1)) = decide (t < n - 1) := by
    rw [BitVec.slt_eq_decide, BitVec.toInt_eq_toNat_of_lt (by simp; omega), BitVec.toInt_eq_toNat_of_lt (by simp; omega)]
    simp only [BitVec.toNat_ofNat]; rw [Nat.mod_eq_of_lt (by omega), Nat.mod_eq_of_lt (by omega)]
    exact decide_eq_decide.mpr (by omega)
  unfold Scalar.minsi IntOp.minsi
  rw [hs]
  by_cases h : t < n - 1
  · rw [if_pos (by simpa using h), BitVec.toNat_ofNat, Nat.mod_eq_of_lt (by omega)]; omega
  · rw [if_neg (by simpa using h), BitVec.toNat_ofNat, Nat.mod_eq_of_lt (by omega)]; omega

variable (pf : pre0.Contents (Elt F))
/-- The count the tables hold. -/
abbrev cnt : ℕ := nuOf (pf 1)

theorem ix_eq (h1 : 1 ≤ cnt pf) (h72 : cnt pf ≤ 72) (i : grid0.Coords) :
    cc0_transform_0 inb_S1_S1_0 numel1_S1 pf i = ![min (i 1).val (cnt pf - 1), 0] := by
  have hv : pf.at 1 (Rect.unit (s := S1) ![0] S1.size inb_S1_S1_0) numel1_S1 = BitVec.ofNat 32 (cnt pf) := by
    refine Eq.trans ?_ (of_toNat (pf 1 (ix1 0)))
    refine congrArg (pf 1) (funext fun a => Fin.ext ?_)
    fin_cases a; rfl
  simp only [cc0_transform_0, hv, min_word (i1_lt i) h1 h72]
  rfl

/-- The tables are admissible. -/
theorem ok_of (h1 : 1 ≤ cnt pf) (h72 : cnt pf ≤ 72) : ok0 pf := fun i => by
  have ht := i1_lt i
  refine ⟨fun a => ?_, .inr (Affine.block_words_dvd (of_decide_eq_true rfl) (by decide))⟩
  rw [ix_eq pf h1 h72 i]
  fin_cases a
  · show (min (i 1).val (cnt pf - 1) + 1) * 256 ≤ 18432
    omega
  · show (0 + 1) * 5632 ≤ 5632
    omega

/-- No point is idle for the output. -/
theorem idle_ne (h72 : cnt pf ≤ 72) (i : grid0.Coords) : idle0 pf 1 i = false := by
  have hv : (pf.atD 1 ![0] : BitVec 32) = pf 1 (ix1 0) := by
    show (if h : _ then _ else _) = _
    rw [dif_pos (by decide)]
    refine congrArg (pf 1) (funext fun a => Fin.ext ?_)
    fin_cases a; rfl
  have h2 : (pf.atD 1 ![0] : BitVec 32).toNat ≤ 72 := by rw [hv]; exact h72
  show (!(k0_cond4 i (pf.atD 1 ![0]) == 1#1) && !(k0_cond8 i (pf.atD 1 ![0]) == 1#1)) = false
  by_cases hu : used i (pf.atD 1 ![0])
  · rw [(cond4_iff i _ h2).mpr hu]; rfl
  · rw [(cond8_iff i _ h2).mpr hu]; simp

theorem stride0 : grid0.stride 0 = 72 := by decide
theorem stride1 : grid0.stride 1 = 1 := by decide
theorem coord0 (t : Fin grid0.N) : ((grid0.coords t) 0).val = t.val / 72 := by
  have ht : t.val < 144 := lt_of_lt_of_eq t.isLt N_0
  rw [Pipeline.Grid.coords_val t 0 stride0 (B := 2) rfl]; omega
theorem coord1 (t : Fin grid0.N) : ((grid0.coords t) 1).val = t.val % 72 := by
  rw [Pipeline.Grid.coords_val t 1 stride1 (B := 72) rfl]; omega
end Idx

section Data
variable (m : (ℓ : Loc nD τ sig) → Buf (Elt F) ℓ) (a : (p : Fin 1) → (pcfgs (F := F) p).Adm)

/-- A buffer's contents at launch. -/
abbrev V (c : Dev nD) (b : Ref sig .tc) : Buf (Elt F) ((c : Thread nD τ).loc b) := m ((c : Thread nD τ).loc b)
abbrev GX (c : Dev nD) : S8x5632x2048.Idx → Elt F .f32 := gM.view.read (Elt F) (V m c main_arg3)
abbrev qq (c : Dev nD) : ℕ → ℕ → ℕ := qOf (V m c main_arg0)
abbrev nn (c : Dev nD) : ℕ := nuOf (V m c main_arg1)

abbrev cfgA : Pipeline.Cfg sig Λ₀ := cfg0 (a 0)

/-- A window's block at a point, read off its array at launch. -/
def iblk (c : Dev nD) (w : Fin (cfgA a).W) (t : Fin (cfgA a).N) : (((cfgA a).win w).xblock ((cfgA a).grid.coords t)).Idx → Elt F ((cfgA a).win w).elt :=
  (((cfgA a).win w).blk t).view.read (Elt F) (V m c (Pipeline.arrRef spec0 w))

/-- What holds between the points: the resident buffer, the lanes, the tables, the generator. -/
def Inv (c : Dev nD) (k : ℕ) : sProp 𝕄 :=
  iprop((∃ f, bP c f ∗ ⌜Good (qq m c) (nn m c) (GX m c) (k / 72) (k % 72) (bM.view.read (Elt F) f)⌝)
    ∗ LB (qq m c) (nn m c) c (V m c main_arg3) (k / 72) (k % 72)
    ∗ tabs c (V m c main_arg0) (V m c main_arg1) ∗ (∃ r, prngReg c r))

def dats (_ : Fin 1) (c : Dev nD) : Dat τ (Elt F) Unit ℕ (UD sig nD τ) ℕ (cfgA a) c where
  A w := V m c (Pipeline.arrRef spec0 w)
  after w t := match w with
    | ⟨0, _⟩ => iblk m a c 0 t
    | ⟨1, _⟩ => outV (qq m c) (nn m c) (GX m c) (iblk m a c 0 t) (((cfgA a).grid.coords t) 0).val (((cfgA a).grid.coords t) 1).val
  Φ t := Inv m c t.val
  q _ := fullShare
  owed _ := 0

theorem after0_0 (c : Dev nD) (t : Fin (cfgA a).N) : (dats m a 0 c).after 0 t = iblk m a c 0 t := by dsimp only [dats]; rfl
theorem after0_1 (c : Dev nD) (t : Fin (cfgA a).N) : (dats m a 0 c).after 1 t
    = outV (qq m c) (nn m c) (GX m c) (iblk m a c 0 t) (((cfgA a).grid.coords t) 0).val (((cfgA a).grid.coords t) 1).val := by dsimp only [dats]; rfl
theorem before0_0 (c : Dev nD) (t : Fin (cfgA a).N) (d) : (dats m a 0 c).before 0 t d = iblk m a c 0 t :=
  ((dats m a 0 c).before_in_eq_fetched 0 rfl (fun _ => rfl) (fun _ _ _ => rfl) (fun t => by rw [after0_0]; unfold Dat.blockOf iblk; rfl) t d).trans
    (by unfold Dat.fetched Dat.blockOf iblk; rfl)

abbrev st0 (t : Fin (cfgA a).N) : Memref sig .tc .vmem S256x5632 .bf16 := spec0_0.stage ((cfgA a).slots t 0)
abbrev st1 (t : Fin (cfgA a).N) : Memref sig .tc .vmem S256x1024 .f32 := spec0_1.stage ((cfgA a).slots t 1)

/-- The body table's entry is the body, -/
theorem defs_tc : (defs₀ (F := F)) .tc (cfgA a).body
    = fun x : Fin grid0.N × ((w : Fin 2) → Fin (spec0 w).nbuf) => body (grid0.coords x.1) (spec0_0.stage (x.2 0)) (hstage0_0 ((x.2 0).cast nbuf0_0)) (spec0_1.stage (x.2 1)) (hstage0_1 ((x.2 1).cast nbuf0_1)) := rfl
/-- at a point on its staging buffers. -/
theorem prog_eq (t : Fin (cfgA a).N) : (defs₀ (F := F)) .tc (cfgA a).body ((cfgA a).bodyArgs t ((cfgA a).slots t))
    = body (grid0.coords t) (st0 a t) (hstage0_0 (((cfgA a).slots t 0).cast nbuf0_0)) (st1 a t) (hstage0_1 (((cfgA a).slots t 1).cast nbuf0_1)) :=
  (congrFun (defs_tc a) _).trans rfl

theorem phi_eq (c : Dev nD) (t : Fin ((cfgA a).N + 1)) : (dats m a 0 c).Φ t = Inv m c t.val := by dsimp only [dats]
theorem owed_eq (c : Dev nD) (t) : (dats m a 0 c).owed t = 0 := by dsimp only [dats]
set_option backward.isDefEq.respectTransparency.types false in
theorem body_obligation (c : Dev nD) (ok : PlanOK (qq m c) (nn m c)) (hpf : V m c main_arg1 = (a 0).1 1) :
    BodyObligation (dats m a 0 c) (defs₀ (F := F)) 𝒱₀ () Set.univ := fun t => by
  have hidle : ∀ t, (cfgA a).idle 1 ((cfgA a).grid.coords t) = false := fun t => idle_ne (a 0).1 (by unfold cnt; rw [← hpf]; exact ok.nu72) _
  have ht : t.val < 144 := lt_of_lt_of_eq t.isLt N_0
  rw [bigSep_W0, bigSep_W0]
  dsimp only
  have hi : idle0 (a 0).1 1 ((pcfg0.gridAt (a 0).1).coords t) = false := hidle t
  simp only [before0_0, after0_0, after0_1, hi]
  rw [phi_eq, phi_eq, Fin.val_succ, Fin.val_castSucc]
  unfold Dat.owesAt Pipeline.owesWithin
  rw [owed_eq, owed_eq]
  unfold owns Inv
  have h0 : (((cfgA a).grid.coords t) 0).val = t.val / 72 := coord0 t
  have h1 : (((cfgA a).grid.coords t) 1).val = t.val % 72 := coord1 t
  iintro ⟨⟨⟨%f, HB, %G⟩, HL, HT, HR⟩, ⟨%W, -, HW⟩, ⟨%d0, %g0, %hg0, H0⟩, ⟨%d1, %gO, -, HO⟩⟩
  sl_rw [prog_eq a t]
  rw [← h0, ← h1] at G
  have hk : t.val + 1 = (((cfgA a).grid.coords t) 0).val * 72 + (((cfgA a).grid.coords t) 1).val + 1 := by omega
  have hj4 : (((cfgA a).grid.coords t) 0).val < 2 := by omega
  have ht72 : (((cfgA a).grid.coords t) 1).val < 72 := by omega
  rw [hk, ← lanes_next c (V m c main_arg3) ok hj4 ht72, ← h0, ← h1]
  iapply (wp_wand_r _ _ _)
  isplitl [HB HL HT HW H0 HO]
  · iapply (point c (V m c main_arg3) ((cfgA a).grid.coords t) (st0 a t) (hstage0_0 (((cfgA a).slots t 0).cast nbuf0_0)) (st1 a t) (hstage0_1 (((cfgA a).slots t 1).cast nbuf0_1)) (V m c main_arg0) (V m c main_arg1) ok g0 gO f G)
    unfold PRE
    isplitl [HT]; · iexact HT
    isplitl [H0]; · iexact H0
    isplitl [HO]; · iexact HO
    isplitl [HB]; · iexact HB
    isplitl [HW]; · iexists W; iexact HW
    iexact HL
  · iintro %u HP
    unfold POST
    icases HP with ⟨HT, H0, ⟨%o, HO, %ho⟩, ⟨%f', HB, %A⟩, ⟨%W', HW⟩, HL⟩
    isplitl [HB HL HT HR]
    · isplitl [HB]
      · iexists f'
        isplitl [HB]; · iexact HB
        ipureintro; exact After.good ok hj4 ht72 A
      isplitl [HL]; · iexact HL
      isplitl [HT]; · iexact HT
      iexact HR
    isplitl [HW]
    · iexists W'; isplitr; · ipureintro; exact fun _ _ => Or.inl trivial
      iexact HW
    isplitl [H0]
    · iexists g0; isplitr; · ipureintro; exact hg0
      iexact H0
    iexists o; isplitr; · ipureintro; rw [← hg0]; exact ho
    iexact HO
end Data

end Cert.Proof.Dn

end
-- ==== Proof.DnLaunch.lean ====
/-
  The launch of the expert-weight stream: the kernel's own memory split into lanes, and the run.
-/
module

public import proofs.«01_k».proof.Proof.DnData

@[expose] public section

set_option maxRecDepth 16384

noncomputable section

namespace Cert.Proof.Dn

open Cert.Kernel3Ideal Cert.Kernel3Ideal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

/-! ## The two transfer semaphores and the two staging slots -/

/-- The kernel's own semaphores, one per slot. -/
abbrev osem : Fin 2 → SemLoc sig := fun s => .dma (csm s 0).sem
theorem ownSemFacts : Pipeline.OwnSemFacts spec0 osem := by decide

/-- A staging slot's elements. -/
abbrev S4 (s : Fin 2) : Finset S2x1x512x1024.Idx := (Rect.unit (s := S2x1x512x1024) (slotOff s 0) S1x1x512x1024.size (slotOff_inb s 0)).set
theorem slot_set (s : Fin 2) : (slot s 0 : Memref sig .tc .vmem _ _).view.set = S4 s := (View.set_reshape _ _).trans (View.set_slice_whole _ _)
theorem mem_S4 (s : Fin 2) (y : S2x1x512x1024.Idx) : y ∈ S4 s ↔ (y 0).val = s.val := by
  rw [Rect.mem_set_unit]
  have h1 : (y 1).val < 1 := (y 1).isLt
  have h2 : (y 2).val < 512 := (y 2).isLt
  have h3 : (y 3).val < 1024 := (y 3).isLt
  constructor
  · intro H
    have a0 : s.val ≤ (y 0).val ∧ (y 0).val < s.val + 1 := H 0
    omega
  · intro H i; fin_cases i
    · show s.val ≤ (y 0).val ∧ (y 0).val < s.val + 1; omega
    · show 0 ≤ (y 1).val ∧ (y 1).val < 0 + 1; omega
    · show 0 ≤ (y 2).val ∧ (y 2).val < 0 + 512; omega
    · show 0 ≤ (y 3).val ∧ (y 3).val < 0 + 1024; omega
theorem S4_disjoint : ∀ s s' : Fin 2, s ≠ s' → Disjoint (S4 s) (S4 s') := by
  intro s s' hne; rw [Finset.disjoint_left]; intro y hy hy'; rw [mem_S4] at hy hy'
  exact hne (Fin.ext (hy.symm.trans hy'))
theorem S4_cover : (Finset.univ : Finset (Fin 2)).biUnion S4 = Finset.univ := by
  ext y; simp only [Finset.mem_biUnion, Finset.mem_univ, true_and, iff_true]
  exact ⟨(y 0).cast (by decide), by rw [mem_S4]; rfl⟩

omit [FloatOps F] in
theorem bigSep_two (Φ : Fin 2 → sProp 𝕄) : bigSep Finset.univ Φ = iprop(Φ 0 ∗ Φ 1) :=
  bigSep_univ_eq_bigSepL [(0 : Fin 2), (1 : Fin 2)] (by decide) (by decide) Φ

omit [FloatOps F] in
theorem slotP_eq (c : Dev nD) (s : Fin 2) (f) : slotP c s 0 f = (((c : Thread nD τ).loc cc0_scratch1) ↦[S4 s]{fullShare} f : sProp 𝕄) :=
  congrArg (fun S => (_ ↦[S]{fullShare} f : sProp 𝕄)) (slot_set s)

/-- The staging buffer whole is its two slots, -/
theorem stage_split (c : Dev nD) :
    iprop(∃ f : Buf (Elt F) ((c : Thread nD τ).loc cc0_scratch1), ((c : Thread nD τ).loc cc0_scratch1) ↦{fullShare} f)
      ⊢ (iprop((∃ f, slotP c 0 0 f) ∗ ∃ f, slotP c 1 0 f) : sProp 𝕄) := by
  iintro ⟨%f, H⟩
  ihave H2 := (entails_of_eq ((Ring.pointsTo_blocks (Ix := Unit) (Name := ℕ) (U := UD sig nD τ) (Lvl := ℕ) (q := fullShare) (ℓ := (c : Thread nD τ).loc cc0_scratch1) S4 S4_disjoint S4_cover f).trans (bigSep_two _))) $$ H
  icases H2 with ⟨H0, H1⟩
  isplitl [H0]
  · iexists f; iapply (entails_of_eq (slotP_eq c 0 f).symm); iexact H0
  · iexists f; iapply (entails_of_eq (slotP_eq c 1 f).symm); iexact H1
/-- and back. -/
theorem stage_join (c : Dev nD) :
    iprop((∃ f, slotP c 0 0 f) ∗ ∃ f, slotP c 1 0 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) S4 S4_disjoint S4_cover f0)
  irw [bigSep_two]
  isplitl [H0]
  · iexists f0; iapply (entails_of_eq (slotP_eq c 0 f0)); iexact H0
  · iexists f1; iapply (entails_of_eq (slotP_eq c 1 f1)); iexact H1

omit [FloatOps F] in
/-- The kernel's own cells at zero are the two lanes' cells. -/
theorem ownSems0_eq (c : Dev nD) : (Pipeline.ownSems0 (Ix := Unit) (Name := ℕ) (U := UD sig nD τ) (Lvl := ℕ) (Val := Elt F) (τ := τ) osem c : sProp 𝕄)
    = iprop(cellP c 0 0 ∗ cellP c 1 0) := by
  unfold Pipeline.ownSems0; rw [bigSep_two]

/-- The weights are addressed by the kernel itself. -/
abbrev HH : Finset (Ref sig .tc) := {main_arg3}
omit [FloatOps F] in
theorem bigSep_HH (Φ : Ref sig .tc → sProp 𝕄) : bigSep HH Φ = Φ main_arg3 := bigSep_singleton

theorem HH_sub : HH ⊆ Pipeline.restRefsP sig pre0 spec0 := by decide

/-- A weight held whole is held at the two slots' shares. -/
theorem halves (c : Dev nD) (b : Ref sig .tc) (f : Buf (Elt F) ((c : Thread nD τ).loc b)) :
    (((c : Thread nD τ).loc b) ↦{fullShare} f : sProp 𝕄) ⊣⊢ iprop((((c : Thread nD τ).loc b) ↦{shr 0} f) ∗ (((c : Thread nD τ).loc b) ↦{shr 1} f)) :=
  pointsTo_share (PosShare.mem_left_op_right fullShare)

section Run
variable (m : (ℓ : Loc nD τ sig) → Buf (Elt F) ℓ) (ρ : Dev nD → PrngReg) (a : (p : Fin 1) → (pcfgs (F := F) p).Adm)

/-- The buffers the kernel addresses itself, the staging buffer and the cells: the two lanes at rest, -/
theorem lanes_in (c : Dev nD) (XG : Buf (Elt F) ((c : Thread nD τ).loc main_arg3)) :
    iprop((∃ f : Buf (Elt F) ((c : Thread nD τ).loc cc0_scratch1), ((c : Thread nD τ).loc cc0_scratch1) ↦{fullShare} f)
      ∗ (cellP c 0 0 ∗ cellP c 1 0) ∗ (((c : Thread nD τ).loc main_arg3) ↦{fullShare} XG)) ⊢ (LanesI c XG : sProp 𝕄) := by
  iintro ⟨HS, ⟨C0, C1⟩, HG⟩
  ihave H4 := (stage_split c) $$ HS
  icases H4 with ⟨S0, S1⟩
  ihave HG2 := (halves c main_arg3 XG).1 $$ HG
  icases HG2 with ⟨G0, G1⟩
  unfold LanesI laneI
  isplitl [S0 C0 G0]
  · isplitl [S0]; · iexact S0
    isplitl [C0]; · iexact C0
    iexact G0
  · isplitl [S1]; · iexact S1
    isplitl [C1]; · iexact C1
    iexact G1

/-- and back. -/
theorem lanes_out (c : Dev nD) (XG : Buf (Elt F) ((c : Thread nD τ).loc main_arg3)) :
    (LanesI c XG : sProp 𝕄) ⊢ iprop((∃ f : Buf (Elt F) ((c : Thread nD τ).loc cc0_scratch1), ((c : Thread nD τ).loc cc0_scratch1) ↦{fullShare} f)
      ∗ (cellP c 0 0 ∗ cellP c 1 0) ∗ (((c : Thread nD τ).loc main_arg3) ↦{fullShare} XG)) := by
  unfold LanesI laneI
  iintro ⟨⟨S0, C0, G0⟩, ⟨S1, C1, G1⟩⟩
  isplitl [S0 S1]
  · iapply (stage_join c)
    isplitl [S0]; · iexact S0
    iexact S1
  isplitl [C0 C1]
  · isplitl [C0]; · iexact C0
    iexact C1
  iapply (halves c main_arg3 XG).2
  isplitl [G0]; · iexact G0
  iexact G1

omit [FloatOps F] in
/-- The tables' halves are the two tables. -/
theorem tables_in (c : Dev nD) (v : pre0.Contents (Elt F)) : (Pipeline.ΦT pre0 v c : sProp 𝕄) ⊢ tabs c (v 0) (v 1) := by
  unfold Pipeline.ΦT Pipeline.prefHeld
  refine (entails_of_eq (bigSep_two _)).trans ?_
  iintro ⟨H0, H1⟩
  isplitl [H0]
  · iapply (entails_of_eq (congrArg (fun S => ((c : Thread nD τ).loc main_arg0 ↦[S]{fullShare.right} v 0 : sProp 𝕄)) (View.set_whole main_arg0).symm)); iexact H0
  · iapply (entails_of_eq (congrArg (fun S => ((c : Thread nD τ).loc main_arg1 ↦[S]{fullShare.right} v 1 : sProp 𝕄)) (View.set_whole main_arg1).symm)); iexact H1

/-- Before the first point. -/
theorem inv_in (c : Dev nD) (ok : PlanOK (qq m c) (nn m c)) :
    iprop((∃ f, bP c f) ∗ LanesI c (V m c main_arg3) ∗ tabs c (V m c main_arg0) (V m c main_arg1) ∗ (∃ r, prngReg c r)) ⊢ (Inv m c 0 : sProp 𝕄) := by
  have e : LB (qq m c) (nn m c) c (V m c main_arg3) (0 / 72) (0 % 72) = LanesI c (V m c main_arg3) := if_neg fun h => h.1 ok.fi0
  unfold Inv
  rw [e]
  iintro ⟨⟨%f, HB⟩, HL, HT, HR⟩
  isplitl [HB]
  · iexists f
    isplitl [HB]; · iexact HB
    ipureintro
    exact ⟨fun _ _ h => absurd ⟨rfl, rfl⟩ h, fun _ h _ => absurd ok.fi0 h, fun h _ => absurd (lt_of_lt_of_le Nat.one_pos ok.nu1) (Nat.not_lt.mpr h)⟩
  isplitl [HL]; · iexact HL
  isplitl [HT]; · iexact HT
  iexact HR

/-- After the last. -/
theorem inv_out (c : Dev nD) (ok : PlanOK (qq m c) (nn m c)) : (Inv m c 144 : sProp 𝕄) ⊢ iprop((∃ f, bP c f) ∗ LanesI c (V m c main_arg3) ∗ (∃ r, prngReg c r)) := by
  have e : LB (qq m c) (nn m c) c (V m c main_arg3) (144 / 72) (144 % 72) = LanesI c (V m c main_arg3) := if_neg fun h => h.1 ok.fi0
  unfold Inv
  rw [e]
  iintro ⟨⟨%f, HB, -⟩, HL, -, HR⟩
  isplitl [HB]; · iexists f; iexact HB
  isplitl [HL]; · iexact HL
  iexact HR

omit [FloatOps F] in
theorem bP_eq (c : Dev nD) (f) : (bP c f : sProp 𝕄) = (((c : Thread nD τ).loc cc0_scratch0) ↦{fullShare} f) :=
  congrArg (fun S => ((c : Thread nD τ).loc cc0_scratch0 ↦[S]{fullShare} f : sProp 𝕄)) (View.set_whole cc0_scratch0)

set_option backward.isDefEq.respectTransparency.types false in
theorem hin (c : Dev nD) (ok : PlanOK (qq m c) (nn m c)) (h0 : V m c main_arg0 = (a 0).1 0) (h1 : V m c main_arg1 = (a 0).1 1) :
    iprop(Pipeline.ΦD osem spec0 HH (V m) c ∗ Pipeline.ΦT pre0 (a 0).1 c) ⊢ (Inv m c 0 : sProp 𝕄) := by
  rw [Pipeline.ΦD_eq, scopedRest0_eq, ownSems0_eq, bigSep_HH]
  iintro ⟨⟨⟨⟨%f, HB⟩, HS⟩, HR, HC, HW⟩, HT⟩
  iapply (inv_in m c ok)
  isplitl [HB]; · iexists f; iapply (entails_of_eq (bP_eq c f).symm); iexact HB
  isplitl [HS HC HW]
  · iapply (lanes_in c)
    isplitl [HS]; · iexact HS
    isplitl [HC]; · iexact HC
    iexact HW
  isplitl [HT]
  · ihave HT2 := (tables_in c (a 0).1) $$ HT
    rw [h0, h1]
    iexact HT2
  iexact HR

set_option backward.isDefEq.respectTransparency.types false in
theorem hout (c : Dev nD) (ok : PlanOK (qq m c) (nn m c)) :
    (Inv m c 144 : sProp 𝕄) ⊢ Pipeline.ΦD osem spec0 HH (V m) c := by
  rw [Pipeline.ΦD_eq, scopedRest0_eq, ownSems0_eq, bigSep_HH]
  refine (inv_out m c ok).trans ?_
  iintro ⟨⟨%f, HB⟩, HL, HR⟩
  ihave H := (lanes_out c _) $$ HL
  icases H with ⟨HS, HC, HW⟩
  isplitl [HB HS]
  · isplitl [HB]; · iexists f; iapply (entails_of_eq (bP_eq c f)); iexact HB
    iexact HS
  isplitl [HR]; · iexact HR
  isplitl [HC]; · iexact HC
  iexact HW

/-- The tables as launched. -/
def tabA (c : Dev nD) : pre0.Contents (Elt F) := fun k => m ((c : Thread nD τ).loc (pre0.ref k))
/-- They are admissible, the plan being one. -/
def adm (c : Dev nD) (ok : PlanOK (qq m c) (nn m c)) : (p : Fin 1) → (pcfgs (F := F) p).Adm :=
  fun _ => ⟨tabA m c, ok_of (tabA m c) ok.nu1 ok.nu72⟩

theorem dev_eq (c c' : Dev nD) : c = c' := Subsingleton.elim c c'

set_option backward.isDefEq.respectTransparency.types false in
/-- The run, to the pipeline's post. -/
theorem run_post (ok : ∀ c : Dev nD, PlanOK (qq m c) (nn m c)) :
    θ_run (defs (F := F)) (onTc (τ := τ) (main (F := F))) (s₀ m ρ)
      (fun r => Pipeline.FramePost (Pipeline.pin pcfgs (adm m 0 (ok 0))) (dats m (adm m 0 (ok 0))) 0 (V m) r ∧ r.2.sem = fun _ => 0) :=
  Pipeline.θ_run_frameP_dma pcfgs (adm m 0 (ok 0)) (dats m (adm m 0 (ok 0))) 0 launch0 osem defs₀ 𝒱₀ ownSemFacts HH HH_sub m ρ main
    (hbody := fun c => (body_obligation m _ c (ok c) (by rw [dev_eq c 0]; rfl)).loose)
    (hshare := fun c => (dats m _ 0 c).share_full fun _ => rfl)
    (howed := fun c t => owed_eq m _ c t)
    (V := V m)
    (hmain := Pipeline.hmainP_region pcfgs 0 defs₀ 𝒱₀ m main fun c => rfl)
    (hA := fun _ _ => rfl)
    (hpf := fun c k => by rw [dev_eq c 0]; rfl)
    (hin := fun c => (hin m (adm m 0 (ok 0)) c (ok c) (by rw [dev_eq c 0]; rfl) (by rw [dev_eq c 0]; rfl)).trans (entails_of_eq (phi_eq m _ c 0).symm))
    (hout := fun c => (entails_of_eq (phi_eq m _ c (Fin.last _))).trans (hout m c (ok c)))
    (Q' := fun r => Pipeline.FramePost (Pipeline.pin pcfgs (adm m 0 (ok 0))) (dats m (adm m 0 (ok 0))) 0 (V m) r ∧ r.2.sem = fun _ => 0)
    (hQ' := fun _ h => h)
end Run

end Cert.Proof.Dn

end
-- ==== Proof.DnFrame.lean ====
/-
  What the expert-weight stream's run leaves: the arguments as they were, the result array as the pipeline's data has it.
-/
module

public import proofs.«01_k».proof.Proof.DnLaunch

@[expose] public section

set_option maxRecDepth 16384

noncomputable section

namespace Cert.Proof.Dn

open Cert.Kernel3Ideal Cert.Kernel3Ideal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The rows' array ends as it began: its window is only read. -/
theorem rows_kept (a : (p : Fin 1) → (pcfgs (F := F) p).Adm) (c : Dev nD) (k : ℕ) :
    (dats m a 0 c).arrAt 0 k = m ((c : Thread nD τ).loc main_arg2) :=
  (dats m a 0 c).arrAt_in 0 rfl k

/-- The run: the result is the output window's array, the arguments and the counters are as launched. -/
theorem run_kept (ok : ∀ c : Dev nD, PlanOK (qq m c) (nn m c)) :
    θ_run (defs (F := F)) (onTc (τ := τ) (main (F := F))) ⟨m, fun _ => 0, ρ⟩ (fun r => (∀ c : Dev nD,
      r.2.mem ((c : Thread nD τ).loc main_v0) = (dats m (adm m 0 (ok 0)) 0 c).arrAt 1 144
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun r h => ⟨fun c => ⟨(h.1 c).1 1,
      (h.1 c).2 main_arg0 (Pipeline.mem_restRefs_of main_arg0 rfl (fun w => by fin_cases w <;> exact fun h => by cases h)),
      (h.1 c).2 main_arg1 (Pipeline.mem_restRefs_of main_arg1 rfl (fun w => by fin_cases w <;> exact fun h => by cases h)),
      ((h.1 c).1 0).trans (rows_kept m _ c _),
      (h.1 c).2 main_arg3 (Pipeline.mem_restRefs_of main_arg3 rfl (fun w => by fin_cases w <;> exact fun h => by cases h))⟩, h.2⟩)
    (run_post m ρ ok)

end Cert.Proof.Dn

end
-- ==== Proof.DnSame.lean ====
/-
  The down stream and its exact reading are one program over any floats: what the second does, the first does.
-/
module

public import proofs.«01_k».proof.Proof.Gen.Kernel3
public import proofs.«01_k».proof.Proof.DnFrame

@[expose] public section

set_option maxRecDepth 16384

noncomputable section

namespace Cert.Proof.DnK

open Idealize.ShloMosaic Idealize.ShloMosaic.TcCoe Idealize.SL.Sem
open Cert.Kernel3 Cert.Kernel3.Gen

variable {F : FTy → Type} [FloatOps F]

attribute [local instance] Cert.Kernel3.Gen.facts Cert.Kernel3Ideal.Gen.facts

/-- The two body tables agree at every label. -/
theorem bodies_eq : Cert.Kernel3.defs₀ (F := F) = Cert.Kernel3Ideal.defs₀ (F := F) := by
  unfold Cert.Kernel3.defs₀ Cert.Kernel3Ideal.defs₀
  congr 1
  funext i x
  match i, x with
  | 0, (t, s) => rfl

/-- So do the tables with the calls' regions. -/
theorem defs_eq : Cert.Kernel3.defs (F := F) = Cert.Kernel3Ideal.defs (F := F) := by
  unfold Cert.Kernel3.defs Cert.Kernel3Ideal.defs
  rw [bodies_eq]
  rfl

/-- The run leaves the arguments and the counters as launched. -/
theorem run_kept (m : (ℓ : Loc nD τ sig) → Buf (Elt F) ℓ) (ρ : Dev nD → PrngReg)
    (ok : ∀ c : Dev nD, Dn.PlanOK (Dn.qq (F := F) m c) (Dn.nn (F := F) m c)) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) := by
  have h := Dn.run_kept (F := F) m ρ ok
  rw [defs_eq]
  exact (θ_run (Cert.Kernel3Ideal.defs (F := F)) _ _).mono (fun r h => ⟨fun c => (h.1 c).2, h.2⟩) h

end Cert.Proof.DnK

end
-- ==== Proof.DmData.lean ====
/-
  The dense product: its tables, its windows' blocks, the body at a grid point and the pipeline's proof data.
-/
module

public import proofs.«01_k».proof.Proof.Gen.Kernel4Ideal.Launch
public import proofs.«01_k».proof.Proof.Gen.Kernel4Ideal.Skeleton
public import proofs.«01_k».proof.Proof.HostLine
public import proofs.«01_k».proof.Proof.DnData

@[expose] public section

set_option maxRecDepth 16384

noncomputable section

namespace Cert.Proof.Dm

open Cert.Kernel4Ideal Cert.Kernel4Ideal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables and the index maps at them -/

theorem i0_lt (i : grid0.Coords) : (i 0).val < 2 := (i 0).isLt
theorem i1_lt (i : grid0.Coords) : (i 1).val < 8 := (i 1).isLt

/-- The tables of a dense call: every tile reads weight 0, eight tiles are used. -/
def tab : pre0.Contents (Elt F) := fun k => match k with
  | ⟨0, _⟩ => fun _ => (0#32 : BitVec 32)
  | ⟨1, _⟩ => fun _ => (8#32 : BitVec 32)

/-- The tile clamped to the last used one is the tile. -/
theorem clamp (i : grid0.Coords) : (Scalar.minsi (BitVec.ofNat 32 (i 1).val) (Scalar.subi 8#32 1#32)).toNat = (i 1).val := by
  have h := i1_lt i
  have := Dn.min_word (t := (i 1).val) (n := 8) (by omega) (by decide) (by decide)
  refine this.trans ?_
  omega

theorem small0 (i : grid0.Coords) : (BitVec.ofNat 32 (i 0).val).toNat = (i 0).val := by
  have h := i0_lt i
  rw [BitVec.toNat_ofNat]; omega
theorem small1 (i : grid0.Coords) : (BitVec.ofNat 32 (i 1).val).toNat = (i 1).val := by
  have h := i1_lt i
  rw [BitVec.toNat_ofNat]; omega

theorem ix0_eq (i : grid0.Coords) : cc0_transform_0 inb_S1_S1_0 numel1_S1 (tab (F := F)) i = ![(i 1).val, 0] := by
  show ![(Scalar.minsi (BitVec.ofNat 32 (i 1).val) (Scalar.subi 8#32 1#32)).toNat, 0] = _
  rw [clamp]
theorem ix1_eq (i : grid0.Coords) : cc0_transform_1 k0_off1_inb numel1_S1 (tab (F := F)) i = ![0, 0, (i 0).val] := by
  show ![0, 0, (BitVec.ofNat 32 (i 0).val).toNat] = _
  rw [small0]
theorem ix2_eq (i : grid0.Coords) : cc0_transform_2 inb_S1_S1_0 numel1_S1 (tab (F := F)) i = ![(i 1).val, (i 0).val] := by
  show ![(Scalar.minsi (BitVec.ofNat 32 (i 1).val) (Scalar.subi 8#32 1#32)).toNat, (BitVec.ofNat 32 (i 0).val).toNat] = _
  rw [clamp, small0]
theorem ix3_eq (i : grid0.Coords) : cc0_transform_3 i = ![(i 1).val, (i 0).val] := by
  show ![(BitVec.ofNat 32 (i 1).val).toNat, (BitVec.ofNat 32 (i 0).val).toNat] = _
  rw [small1, small0]

/-- The tables are admissible: every block lies inside its array. -/
theorem ok_tab : ok0 (tab (F := F)) := by
  refine ⟨fun i => ?_, fun i => ?_, fun i => ?_⟩ <;> have h0 := i0_lt i <;> have h1 := i1_lt i
  · refine ⟨fun a => ?_, .inr (Affine.block_words_dvd (of_decide_eq_true rfl) (by decide))⟩
    rw [ix0_eq i]
    fin_cases a
    · show ((i 1).val + 1) * 1024 ≤ 8192; omega
    · show (0 + 1) * 2048 ≤ 2048; omega
  · refine ⟨fun a => ?_, .inl rfl⟩
    rw [ix1_eq i]
    fin_cases a
    · show (0 + 1) * 1 ≤ 1; omega
    · show (0 + 1) * 2048 ≤ 2048; omega
    · show ((i 0).val + 1) * 1024 ≤ 2048; omega
  · refine ⟨fun a => ?_, .inl rfl⟩
    rw [ix2_eq i]
    fin_cases a
    · show ((i 1).val + 1) * 1024 ≤ 8192; omega
    · show ((i 0).val + 1) * 1024 ≤ 2048; omega

/-- The admissible contents the run is at. -/
def adm : (p : Fin 1) → (pcfgs (F := F) p).Adm := fun _ => ⟨tab, ok_tab⟩

/-- Every tile is used, -/
theorem used (i : grid0.Coords) : k0_cond1 i 8#32 = 1#1 :=
  (by decide : ∀ n : Fin 8, (Scalar.cmpi .ne (Scalar.extui (Scalar.cmpi .slt (BitVec.ofNat 32 n.val) 8#32) : BitVec 32) 0#32 : BitVec 1) = 1#1) ⟨(i 1).val, i1_lt i⟩
/-- none is not. -/
theorem not_unused (i : grid0.Coords) : ¬ k0_cond2 i 8#32 = 1#1 :=
  (by decide : ∀ n : Fin 8, ¬ (Scalar.cmpi .ne (Scalar.extui (Scalar.cmpi .sge (BitVec.ofNat 32 n.val) 8#32) : BitVec 32) 0#32 : BitVec 1) = 1#1) ⟨(i 1).val, i1_lt i⟩

/-- The output is stored at every point. -/
theorem idle_ne (i : grid0.Coords) : idle0 (tab (F := F)) 3 i = false := by
  have hv : ((tab (F := F)).atD 1 ![0] : BitVec 32) = 8#32 := by
    show (if h : _ then _ else _) = _
    rw [dif_pos (by decide)]
    rfl
  show (!(k0_cond1 i ((tab (F := F)).atD 1 ![0]) == 1#1) && !(k0_cond2 i ((tab (F := F)).atD 1 ![0]) == 1#1)) = false
  rw [hv, used i]; rfl

theorem stride0 : grid0.stride 0 = 8 := by decide
theorem stride1 : grid0.stride 1 = 1 := by decide
theorem coord0 (t : Fin grid0.N) : ((grid0.coords t) 0).val = t.val / 8 := by
  have ht : t.val < 16 := lt_of_lt_of_eq t.isLt N_0
  rw [Pipeline.Grid.coords_val t 0 stride0 (B := 2) rfl]; omega
theorem coord1 (t : Fin grid0.N) : ((grid0.coords t) 1).val = t.val % 8 := by
  rw [Pipeline.Grid.coords_val t 1 stride1 (B := 8) rfl]; omega

/-! ## The body at a point -/

abbrev eM : Memref sig .tc .smem S8 .i32 := Memref.whole main_v0
abbrev nM : Memref sig .tc .smem S1 .i32 := Memref.whole main_v1

section Body
variable (c : Dev nD) (i : grid0.Coords)
  (arg4 : Memref sig .tc .vmem S1024x2048 .bf16) (harg4 : arg4.IsWhole) (arg5 : Memref sig .tc .vmem S1x2048x1024 .f32) (harg5 : arg5.IsWhole)
  (arg6 : Memref sig .tc .vmem S1024x1024 .f32) (harg6 : arg6.IsWhole) (arg7 : Memref sig .tc .vmem S1024x1024 .f32) (harg7 : arg7.IsWhole)
  (E0 : Buf (Elt F) (eM.view.loc (c : Thread nD τ))) (N : Buf (Elt F) (nM.view.loc (c : Thread nD τ)))

/-- The body at a grid point. -/
abbrev body : Prog (TpuEff nD τ sig (Elt F) Λ₀ .tc) PUnit :=
  cc0_grouped_matmul i eM (Memref.isWhole_whole _) nM (Memref.isWhole_whole _) arg4 harg4 arg5 harg5 arg6 harg6 arg7 harg7

/-- The count the body loads. -/
abbrev cntW : BitVec 32 := nM.view.readAt (Elt F) (Rect.unit (s := S1) ![0] S1.size inb_S1_S1_0).toLoadRect N (Shape.Idx.first (s := S1) (by decide))

/-- The tables, at the share the pipeline lends them. -/
abbrev tabs : sProp 𝕄 := iprop((eM.view.loc (c : Thread nD τ) ↦[eM.view.set]{fullShare.right} E0) ∗ (nM.view.loc (c : Thread nD τ) ↦[nM.view.set]{fullShare.right} N))

/-- The block stored is the product of the blocks loaded and the block added. -/
theorem stored (ga : Buf (Elt F) (arg4.view.loc (c : Thread nD τ))) (gw : Buf (Elt F) (arg5.view.loc (c : Thread nD τ))) (gr : Buf (Elt F) (arg6.view.loc (c : Thread nD τ)))
    (gO : Buf (Elt F) (arg7.view.loc (c : Thread nD τ))) (i1 i2 i3 i4 L) :
    arg7.view.read (Elt F) (arg7.view.writes (Elt F) gO (⟨Rect.unit (s := S1024x1024) ![0, 0] S1024x1024.size i1,
      k0_pay1 (arg4.view.readAt (Elt F) (Rect.unit (s := S1024x2048) ![0, 0] S1024x2048.size i2).toLoadRect ga)
        (arg5.view.readAt (Elt F) (Rect.unit (s := S1x2048x1024) ![0, 0, 0] S1x2048x1024.size i3).toLoadRect gw)
        (arg6.view.readAt (Elt F) (Rect.unit (s := S1024x1024) ![0, 0] S1024x1024.size i4).toLoadRect gr)⟩ :: L))
      = k0_pay1 (arg4.view.read (Elt F) ga) (arg5.view.read (Elt F) gw) (arg6.view.read (Elt F) gr) := by
  rw [View.read_writes_full, View.readAt_full, View.readAt_full, View.readAt_full]

set_option backward.proofsInPublic true in
/-- The body at a used tile. -/
theorem point (ga : Buf (Elt F) (arg4.view.loc (c : Thread nD τ))) (gw : Buf (Elt F) (arg5.view.loc (c : Thread nD τ))) (gr : Buf (Elt F) (arg6.view.loc (c : Thread nD τ)))
    (gO : Buf (Elt F) (arg7.view.loc (c : Thread nD τ))) (hN : cntW c N = 8#32) :
    iprop(tabs c E0 N ∗ (arg4.view.loc (c : Thread nD τ) ↦[arg4.view.set]{fullShare} ga) ∗ (arg5.view.loc (c : Thread nD τ) ↦[arg5.view.set]{fullShare} gw)
        ∗ (arg6.view.loc (c : Thread nD τ) ↦[arg6.view.set]{fullShare} gr) ∗ (arg7.view.loc (c : Thread nD τ) ↦[arg7.view.set]{fullShare} gO))
      ⊢ wp frame (wpE (defs₀ (F := F)) Variants.none (c : Thread nD τ) none) Set.univ (body i arg4 harg4 arg5 harg5 arg6 harg6 arg7 harg7)
        fun _ => iprop(tabs c E0 N ∗ (arg4.view.loc (c : Thread nD τ) ↦[arg4.view.set]{fullShare} ga) ∗ (arg5.view.loc (c : Thread nD τ) ↦[arg5.view.set]{fullShare} gw)
          ∗ (arg6.view.loc (c : Thread nD τ) ↦[arg6.view.set]{fullShare} gr)
          ∗ (∃ o, (arg7.view.loc (c : Thread nD τ) ↦[arg7.view.set]{fullShare} o) ∗ ⌜arg7.view.read (Elt F) o = k0_pay1 (arg4.view.read (Elt F) ga) (arg5.view.read (Elt F) gw) (arg6.view.read (Elt F) gr)⌝)) := by
  simp only [body, cc0_grouped_matmul_eq_skeleton]; unfold cc0_grouped_matmul_skel
  iintro ⟨⟨He, Hn⟩, Ha, Hw, Hr, Ho⟩
  sl_exec
  have hc1 : k0_cond1 i (point.sl.r c N) = 1#1 := (congrArg (k0_cond1 i) hN).trans (used i)
  have hc2 : ¬ k0_cond2 i (point.sl.r c N) = 1#1 := fun h => not_unused i ((congrArg (k0_cond2 i) hN).symm.trans h)
  sl_exec
  sl_step
  isplitl [He Hn]
  · isplitl [He]; · iexact He
    iexact Hn
  isplitl [Ha]; · iexact Ha
  isplitl [Hw]; · iexact Hw
  isplitl [Hr]; · iexact Hr
  iexists _
  isplitl [Ho]; · iexact Ho
  ipureintro
  rw [dif_neg hc2, dif_pos hc1]
  exact stored c arg4 arg5 arg6 arg7 ga gw gr _ _ _ _ _ _
end Body

/-! ## The pipeline's data -/

section Data
variable (m : (ℓ : Loc nD τ sig) → Buf (Elt F) ℓ)

/-- A buffer's contents when the grid starts: after the host operations. -/
abbrev V (c : Dev nD) (b : Ref sig .tc) : Buf (Elt F) ((c : Thread nD τ).loc b) := StableHlo.after hostOps0 (fun b => m (c, b)) b

abbrev cfgT : Pipeline.Cfg sig Λ₀ := cfg0 (adm (F := F) 0)

/-- A window's block at a point, read off its array when the grid starts. -/
def iblk (c : Dev nD) (w : Fin (cfgT (F := F)).W) (t : Fin (cfgT (F := F)).N) : (((cfgT (F := F)).win w).xblock ((cfgT (F := F)).grid.coords t)).Idx → Elt F ((cfgT (F := F)).win w).elt :=
  (((cfgT (F := F)).win w).blk t).view.read (Elt F) (V m c (Pipeline.arrRef spec0 w))

def dats (_ : Fin 1) (c : Dev nD) : Dat τ (Elt F) Unit ℕ (UR sig nD τ) ℕ (cfgT (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay1 (iblk m c 0 t) (iblk m c 1 t) (iblk m c 2 t)
  Φ _ := iprop(Pipeline.ΦA spec0 c ∗ Pipeline.ΦT pre0 (tab (F := F)) c)
  q _ := fullShare
  owed _ := 0

theorem after_0 (c : Dev nD) (t : Fin (cfgT (F := F)).N) : (dats m 0 c).after 0 t = iblk m c 0 t := by dsimp only [dats]; rfl
theorem after_1 (c : Dev nD) (t : Fin (cfgT (F := F)).N) : (dats m 0 c).after 1 t = iblk m c 1 t := by dsimp only [dats]; rfl
theorem after_2 (c : Dev nD) (t : Fin (cfgT (F := F)).N) : (dats m 0 c).after 2 t = iblk m c 2 t := by dsimp only [dats]; rfl
theorem after_3 (c : Dev nD) (t : Fin (cfgT (F := F)).N) : (dats m 0 c).after 3 t = k0_pay1 (iblk m c 0 t) (iblk m c 1 t) (iblk m c 2 t) := by dsimp only [dats]; rfl
theorem before_0 (c : Dev nD) (t : Fin (cfgT (F := F)).N) (d) : (dats m 0 c).before 0 t d = iblk m c 0 t :=
  ((dats m 0 c).before_in_eq_fetched 0 rfl (fun _ => rfl) (fun _ _ _ => rfl) (fun t => by rw [after_0]; unfold Dat.blockOf iblk; rfl) t d).trans
    (by unfold Dat.fetched Dat.blockOf iblk; rfl)
theorem before_1 (c : Dev nD) (t : Fin (cfgT (F := F)).N) (d) : (dats m 0 c).before 1 t d = iblk m c 1 t :=
  ((dats m 0 c).before_in_eq_fetched 1 rfl (fun _ => rfl) (fun _ _ _ => rfl) (fun t => by rw [after_1]; unfold Dat.blockOf iblk; rfl) t d).trans
    (by unfold Dat.fetched Dat.blockOf iblk; rfl)
theorem before_2 (c : Dev nD) (t : Fin (cfgT (F := F)).N) (d) : (dats m 0 c).before 2 t d = iblk m c 2 t :=
  ((dats m 0 c).before_in_eq_fetched 2 rfl (fun _ => rfl) (fun _ _ _ => rfl) (fun t => by rw [after_2]; unfold Dat.blockOf iblk; rfl) t d).trans
    (by unfold Dat.fetched Dat.blockOf iblk; rfl)

abbrev st0 (t : Fin (cfgT (F := F)).N) : Memref sig .tc .vmem S1024x2048 .bf16 := spec0_0.stage ((cfgT (F := F)).slots t 0)
abbrev st1 (t : Fin (cfgT (F := F)).N) : Memref sig .tc .vmem S1x2048x1024 .f32 := spec0_1.stage ((cfgT (F := F)).slots t 1)
abbrev st2 (t : Fin (cfgT (F := F)).N) : Memref sig .tc .vmem S1024x1024 .f32 := spec0_2.stage ((cfgT (F := F)).slots t 2)
abbrev st3 (t : Fin (cfgT (F := F)).N) : Memref sig .tc .vmem S1024x1024 .f32 := spec0_3.stage ((cfgT (F := F)).slots t 3)

/-- The body table's entry is the body, -/
theorem defs_tc : (defs₀ (F := F)) .tc (cfgT (F := F)).body
    = fun x : Fin grid0.N × ((w : Fin 4) → Fin (spec0 w).nbuf) => body (grid0.coords x.1) (spec0_0.stage (x.2 0)) (hstage0_0 ((x.2 0).cast nbuf0_0)) (spec0_1.stage (x.2 1)) (hstage0_1 ((x.2 1).cast nbuf0_1))
      (spec0_2.stage (x.2 2)) (hstage0_2 ((x.2 2).cast nbuf0_2)) (spec0_3.stage (x.2 3)) (hstage0_3 ((x.2 3).cast nbuf0_3)) := rfl
/-- at a point on its staging buffers. -/
theorem prog_eq (t : Fin (cfgT (F := F)).N) : (defs₀ (F := F)) .tc (cfgT (F := F)).body ((cfgT (F := F)).bodyArgs t ((cfgT (F := F)).slots t))
    = body (grid0.coords t) (st0 (F := F) t) (hstage0_0 (((cfgT (F := F)).slots t 0).cast nbuf0_0)) (st1 (F := F) t) (hstage0_1 (((cfgT (F := F)).slots t 1).cast nbuf0_1))
      (st2 (F := F) t) (hstage0_2 (((cfgT (F := F)).slots t 2).cast nbuf0_2)) (st3 (F := F) t) (hstage0_3 (((cfgT (F := F)).slots t 3).cast nbuf0_3)) :=
  (congrFun defs_tc _).trans rfl

omit [FloatOps F] in
theorem bigSep_two (Φ : Fin 2 → sProp 𝕄) : bigSep Finset.univ Φ = iprop(Φ 0 ∗ Φ 1) :=
  bigSep_univ_eq_bigSepL [(0 : Fin 2), (1 : Fin 2)] (by decide) (by decide) Φ

/-- The tables' halves are the two tables. -/
theorem tables_eq (c : Dev nD) : (Pipeline.ΦT pre0 (tab (F := F)) c : sProp 𝕄) = tabs c (tab 0) (tab 1) := by
  unfold Pipeline.ΦT Pipeline.prefHeld
  refine (bigSep_two _).trans ?_
  exact congrArg₂ _ (congrArg (fun S => ((c : Thread nD τ).loc main_v0 ↦[S]{fullShare.right} tab 0 : sProp 𝕄)) (View.set_whole main_v0).symm)
    (congrArg (fun S => ((c : Thread nD τ).loc main_v1 ↦[S]{fullShare.right} tab 1 : sProp 𝕄)) (View.set_whole main_v1).symm)

theorem phi_eq (c : Dev nD) (t) : (dats m 0 c).Φ t = iprop(Pipeline.ΦA spec0 c ∗ Pipeline.ΦT pre0 (tab (F := F)) c) := by dsimp only [dats]
theorem owed_eq (c : Dev nD) (t) : (dats m 0 c).owed t = 0 := by dsimp only [dats]

set_option backward.isDefEq.respectTransparency.types false in
/-- The body meets its obligation at every point. -/
theorem body_obligation (c : Dev nD) : BodyObligation (dats m 0 c) (defs₀ (F := F)) Variants.none () Set.univ := fun t => by
  rw [bigSep_W0, bigSep_W0]
  dsimp only
  have hi : idle0 (adm (F := F) 0).1 3 ((pcfg0.gridAt (adm (F := F) 0).1).coords t) = false := idle_ne _
  simp only [before_0, before_1, before_2, after_0, after_1, after_2, after_3, hi]
  rw [phi_eq, phi_eq, tables_eq]
  unfold Dat.owesAt Pipeline.owesWithin
  rw [owed_eq, owed_eq]
  unfold owns
  iintro ⟨⟨HA, HT⟩, HW, ⟨%d0, %g0, %hg0, H0⟩, ⟨%d1, %g1, %hg1, H1⟩, ⟨%d2, %g2, %hg2, H2⟩, ⟨%d3, %g3, -, H3⟩⟩
  sl_rw [prog_eq t]
  iapply (wp_wand_r _ _ _)
  isplitl [HT H0 H1 H2 H3]
  · iapply (point c ((cfgT (F := F)).grid.coords t) (st0 (F := F) t) (hstage0_0 (((cfgT (F := F)).slots t 0).cast nbuf0_0)) (st1 (F := F) t) (hstage0_1 (((cfgT (F := F)).slots t 1).cast nbuf0_1))
      (st2 (F := F) t) (hstage0_2 (((cfgT (F := F)).slots t 2).cast nbuf0_2)) (st3 (F := F) t) (hstage0_3 (((cfgT (F := F)).slots t 3).cast nbuf0_3)) (tab 0) (tab 1) g0 g1 g2 g3 rfl)
    isplitl [HT]; · iexact HT
    isplitl [H0]; · iexact H0
    isplitl [H1]; · iexact H1
    isplitl [H2]; · iexact H2
    iexact H3
  · iintro %u ⟨HT, H0, H1, H2, ⟨%o, H3, %ho⟩⟩
    isplitl [HA HT]
    · isplitl [HA]; · iexact HA
      iexact HT
    isplitl [HW]; · iexact HW
    isplitl [H0]
    · iexists g0; isplitr; · ipureintro; exact hg0
      iexact H0
    isplitl [H1]
    · iexists g1; isplitr; · ipureintro; exact hg1
      iexact H1
    isplitl [H2]
    · iexists g2; isplitr; · ipureintro; exact hg2
      iexact H2
    iexists o; isplitr; · ipureintro; rw [← hg0, ← hg1, ← hg2]; exact ho
    iexact H3
end Data

end Cert.Proof.Dm

end
-- ==== Proof.DmFrame.lean ====
/-
  The dense product's run: the result is the output window's array, the arguments and the counters are as launched.
-/
module

public import proofs.«01_k».proof.Proof.DmData

@[expose] public section

set_option maxRecDepth 16384

noncomputable section

namespace Cert.Proof.Dm

open Cert.Kernel4Ideal Cert.Kernel4Ideal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The buffers when the grid starts -/

/-- The references the host operations write, in order. -/
abbrev wr : List (Ref sig .tc) := [main_c, main_v0, main_c_0, main_v1, main_v2]

theorem writes_eq : (hostOps0 (F := F)).map HloOp.writes = wr.map fun w => {Proc.devRef (τ := τ) .tc w} := rfl

/-- An argument is as launched. -/
theorem V_arg (c : Dev nD) (b : Ref sig .tc) (h : b ∉ wr) : V m c b = m ((c : Thread nD τ).loc b) :=
  (HostLine.settled (ops := hostOps0) (W := wr) writes_eq (fun b => m (c, b)) 0 (x := b) h).symm
/-- Every tile's weight is the one weight. -/
theorem V_v0 (c : Dev nD) : V m c main_v0 = fun _ => (0#32 : BitVec 32) := by
  refine (HostLine.unary_eq (ops := hostOps0) (W := wr) writes_eq (fun b => m (c, b)) 1 (x := main_c) (y := main_v0) rfl (by decide) (by decide)).trans ?_
  rw [HostLine.nullary_eq (ops := hostOps0) (W := wr) writes_eq (fun b => m (c, b)) 0 (y := main_c) rfl (by decide)]
  rfl
/-- Eight tiles are used. -/
theorem V_v1 (c : Dev nD) : V m c main_v1 = fun _ => (8#32 : BitVec 32) := by
  refine (HostLine.unary_eq (ops := hostOps0) (W := wr) writes_eq (fun b => m (c, b)) 3 (x := main_c_0) (y := main_v1) rfl (by decide) (by decide)).trans ?_
  rw [HostLine.nullary_eq (ops := hostOps0) (W := wr) writes_eq (fun b => m (c, b)) 2 (y := main_c_0) rfl (by decide)]
  rfl
/-- The weight under a unit axis. -/
theorem V_v2 (c : Dev nD) : V m c main_v2 = broadcastInDim S1x2048x2048 ![1, 2] bcast_S2048x2048_S1x2048x2048_1_2 (m ((c : Thread nD τ).loc main_arg1) : (⟨S2048x2048, .f32⟩ : BufTy).Contents (Elt F)) := by
  refine (HostLine.unary_eq (ops := hostOps0) (W := wr) writes_eq (fun b => m (c, b)) 4 (x := main_arg1) (y := main_v2) rfl (by decide) (by decide)).trans ?_
  exact congrArg _ (V_arg m c main_arg1 (by decide))

/-- The tables are the dense call's. -/
theorem tables (c : Dev nD) (k : Fin 2) : V m c (pre0.ref k) = tab (F := F) k := by
  match k with
  | ⟨0, _⟩ => exact V_v0 m c
  | ⟨1, _⟩ => exact V_v1 m c

/-! ## The run -/

theorem hostOps0_fresh : (hostOps0 (F := F)).Forall fun op => op.fresh = ∅ := by
  simp only [List.Forall]; repeat' constructor

set_option backward.isDefEq.respectTransparency.types false in
/-- The run, to the pipeline's post. -/
theorem run_post :
    θ_run (defs (F := F)) (onTc (τ := τ) (main (F := F))) (s₀ m ρ)
      (fun r => Pipeline.FramePost (Pipeline.pin pcfgs adm) (dats m) 0 (V m) r ∧ r.2.sem = fun _ => 0) :=
  Pipeline.θ_run_frameP pcfgs adm (dats m) 0 launch0 defs₀ Variants.none m ρ main
    (hbody := fun c => (body_obligation m c).loose)
    (hshare := fun c => (dats m 0 c).share_full fun _ => rfl)
    (howed := fun c t => owed_eq m c t)
    (V := V m)
    (hmain := Pipeline.hmainP_prefix pcfgs 0 defs₀ Variants.none m main hostOps0 hostOps0_sub hostOps0_fresh main_chain)
    (hA := fun _ _ => rfl)
    (hpf := fun c k => tables m c k)
    (hΦ := fun c t => phi_eq m c t)
    (Q' := fun r => Pipeline.FramePost (Pipeline.pin pcfgs adm) (dats m) 0 (V m) r ∧ r.2.sem = fun _ => 0)
    (hQ' := fun _ h => h)

/-- An array only read ends as it began. -/
theorem rows_kept (c : Dev nD) (k : ℕ) : (dats m 0 c).arrAt 0 k = m ((c : Thread nD τ).loc main_arg0) :=
  ((dats m 0 c).arrAt_in 0 rfl k).trans (V_arg m c main_arg0 (by decide))
theorem added_kept (c : Dev nD) (k : ℕ) : (dats m 0 c).arrAt 2 k = m ((c : Thread nD τ).loc main_arg2) :=
  ((dats m 0 c).arrAt_in 2 rfl k).trans (V_arg m c main_arg2 (by decide))

/-- The run: the result is the output window's array, the arguments and the counters are as launched. -/
theorem run_kept :
    θ_run (defs (F := F)) (onTc (τ := τ) (main (F := F))) ⟨m, fun _ => 0, ρ⟩ (fun r => (∀ c : Dev nD,
      r.2.mem ((c : Thread nD τ).loc main_v3) = (dats m 0 c).arrAt 3 16
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun r h => ⟨fun c => ⟨(h.1 c).1 3,
      ((h.1 c).1 0).trans (rows_kept m c _),
      ((h.1 c).2 main_arg1 (Pipeline.mem_restRefs_of main_arg1 rfl (fun w => by fin_cases w <;> exact fun h => by cases h))).trans (V_arg m c main_arg1 (by decide)),
      ((h.1 c).1 2).trans (added_kept m c _)⟩, h.2⟩)
    (run_post m ρ)

end Cert.Proof.Dm

end
-- ==== Proof.DmVal.lean ====
/-
  The dense product's array, entry by entry, in exact arithmetic: the reference's.
-/
module

public import proofs.«01_k».proof.Proof.Gen.Reference4Ideal.Read
public import proofs.«01_k».proof.Proof.DmFrame
public import Idealize.ShloMosaic.Lib.Pipeline.Value
public import Idealize.ShloMosaic.Lib.ValueIdx
public import Idealize.ShloMosaic.Lib.IdealHost
public import Idealize.ShloMosaic.PureOps.Ideal.Laws

@[expose] public section

set_option maxRecDepth 16384

noncomputable section

namespace Cert.Proof.Dm

open Cert.Kernel4Ideal Cert.Kernel4Ideal.Gen
open Idealize.ShloMosaic Idealize.ShloMosaic.ValueIdx
open Idealize.ShloMosaic.TcCoe Idealize.SL.Sem
open Idealize.ShloMosaic.Pipeline (Dat Cfg Window)

/-! ## The block stored -/

/-- The weight's block without its unit axis. -/
theorem drop_apply (x : Vec Ideal S1x2048x1024 .f32) (h : S1x2048x1024.ShapeCasts S2048x1024) (k : Fin 2048) (l : Fin 1024) :
    shapeCast S2048x1024 x h (ix2 k l) = x (ix3 0 k l) :=
  shapeCast_apply x h _ _ (by
    rw [Shape.rowMajor_val_three, Shape.rowMajor_val_two]
    show (0 * 2048 + k.val) * 1024 + l.val = k.val * 1024 + l.val
    omega)

/-- A block of rows through the weight's block. -/
def through (A : FVec Ideal S1024x2048 .bf16) (B : FVec Ideal S1x2048x1024 .f32) : FVec Ideal S1024x1024 .f32 :=
  matmul (F := Ideal) dot_S1024x2048_S2048x1024_S1024x1024_1_0_0_1_n_n none A
    (truncf .bf16 (shapeCast S2048x1024 B shapeCasts_S1x2048x1024_S2048x1024 : FVec Ideal S2048x1024 .f32) bitsLt_bf16_f32) (constant S1024x1024 .f32 0x00000000#32)

/-- It is, at each entry, the sum of the products. -/
theorem through_apply (A : FVec Ideal S1024x2048 .bf16) (B : FVec Ideal S1x2048x1024 .f32) (x l : Fin 1024) :
    through A B (ix2 x l) = ∑ k : Fin 2048, A (ix2 x k) * B (ix3 0 k l) := by
  unfold through
  unfold matmul
  rw [Ideal.matmul_constant_zero_apply, ← Equiv.sum_comp (contrEquiv1 dot_S1024x2048_S2048x1024_S1024x1024_1_0_0_1_n_n 2048 rfl rfl).symm]
  refine Finset.sum_congr rfl fun d _ => ?_
  have hd := contrEquiv1_symm_val dot_S1024x2048_S2048x1024_S1024x1024_1_0_0_1_n_n 2048 rfl rfl d
  have el : dot_S1024x2048_S2048x1024_S1024x1024_1_0_0_1_n_n.lhsIdx (ix2 x l) ((contrEquiv1 dot_S1024x2048_S2048x1024_S1024x1024_1_0_0_1_n_n 2048 rfl rfl).symm d) = ix2 x d :=
    funext fun a => Fin.ext (match a with
      | ⟨0, _⟩ => rfl
      | ⟨1, _⟩ => hd)
  have er : dot_S1024x2048_S2048x1024_S1024x1024_1_0_0_1_n_n.rhsIdx (ix2 x l) ((contrEquiv1 dot_S1024x2048_S2048x1024_S1024x1024_1_0_0_1_n_n 2048 rfl rfl).symm d) = ix2 d l :=
    funext fun a => Fin.ext (match a with
      | ⟨0, _⟩ => hd
      | ⟨1, _⟩ => rfl)
  rw [el, er]
  exact congrArg (A (ix2 x d) * ·) (drop_apply B _ d l)

/-- The block stored: the rows through the weight, and the block added. -/
theorem pay_apply (A : Vec Ideal S1024x2048 .bf16) (B : Vec Ideal S1x2048x1024 .f32) (R : Vec Ideal S1024x1024 .f32) (x l : Fin 1024) :
    k0_pay1 (F := Ideal) A B R (ix2 x l) = ((∑ k : Fin 2048, A (ix2 x k) * B (ix3 0 k l)) + R (ix2 x l) : EReal) :=
  Eq.trans (b := (through A B (ix2 x l) + R (ix2 x l) : EReal)) rfl (congrArg (· + (R (ix2 x l) : EReal)) (through_apply A B x l))

/-! ## Where the blocks lie -/

variable (m : (ℓ : Loc nD τ sig) → Buf (Elt Ideal) ℓ)

abbrev cfgI : Pipeline.Cfg sig Λ₀ := cfgT (F := Ideal)

/-- The output's block at a point: the tile's rows, the column's lanes. -/
theorem out_index (t : Fin grid0.N) : cc0_transform_3 (grid0.coords t) = ![t.val % 8, t.val / 8] := by
  rw [ix3_eq, coord0, coord1]

/-- Different points have different blocks. -/
theorem out_inj (t t' : Fin grid0.N) (h : cc0_transform_3 (grid0.coords t) = cc0_transform_3 (grid0.coords t')) : t = t' := by
  rw [out_index, out_index] at h
  have h0 : t.val % 8 = t'.val % 8 := congrFun h 0
  have h1 : t.val / 8 = t'.val / 8 := congrFun h 1
  exact Fin.ext (by omega)

/-- Every point's block is written back. -/
theorem out_flush (t : Fin cfgI.N) : (cfgI.win 3).flush t = true := by
  rw [Window.flush_eq_flushOf]
  show Window.flushOf grid0 true cc0_transform_3 t = true
  unfold Window.flushOf
  rw [Bool.true_and]
  by_cases h : t.val + 1 = grid0.N
  · simp [h]
  · have hlt : t.val + 1 < grid0.N := by have : t.val < grid0.N := t.isLt; omega
    have : ∃ h : t.val + 1 < grid0.N, cc0_transform_3 (grid0.coords ⟨t.val + 1, h⟩) ≠ cc0_transform_3 (grid0.coords t) :=
      ⟨hlt, fun e => by have := congrArg Fin.val (out_inj _ _ e); simp at this⟩
    simp [this]

/-- No two points write the same entry. -/
theorem out_disj : ∀ t t' : Fin cfgI.N, (cfgI.win 3).flush t = true → (cfgI.win 3).flush t' = true → t ≠ t' →
    Disjoint ((cfgI.win 3).blk t).view.set ((cfgI.win 3).blk t').view.set :=
  Window.hdisj_of_index_inj (cfgI.win 3) fun t t' _ _ h => out_inj t t' h

section Entry
variable (t : Fin cfgI.N) (x l : Fin 1024) (r : Fin 8192) (k : Fin 2048) (hr : r.val = 1024 * (t.val % 8) + x.val) (hk : k.val = 1024 * (t.val / 8) + l.val)

include hr hk in
/-- Where the output block's entry is in the array, -/
theorem out_emb : ((cfgI.win 3).blk t).view.emb (ix2 x l) = ix2 r k := by
  refine funext fun b => Fin.ext ?_
  show cc0_transform_3 (grid0.coords t) b * S1024x1024.size b + 1 * (ix2 x l b).val = _
  rw [out_index t]
  match b with
  | ⟨0, _⟩ => show t.val % 8 * 1024 + 1 * x.val = r.val; omega
  | ⟨1, _⟩ => show t.val / 8 * 1024 + 1 * l.val = k.val; omega

include hr hk in
/-- the entry of the block added, -/
theorem added_emb : ((cfgI.win 2).blk t).view.emb (ix2 x l) = ix2 r k := by
  refine funext fun b => Fin.ext ?_
  show cc0_transform_2 inb_S1_S1_0 numel1_S1 (tab (F := Ideal)) (grid0.coords t) b * S1024x1024.size b + 1 * (ix2 x l b).val = _
  rw [ix2_eq, coord0, coord1]
  match b with
  | ⟨0, _⟩ => show t.val % 8 * 1024 + 1 * x.val = r.val; omega
  | ⟨1, _⟩ => show t.val / 8 * 1024 + 1 * l.val = k.val; omega

include hr in
/-- the rows' entry -/
theorem rows_emb (d : Fin 2048) : ((cfgI.win 0).blk t).view.emb (ix2 x d) = ix2 r d := by
  refine funext fun b => Fin.ext ?_
  show cc0_transform_0 inb_S1_S1_0 numel1_S1 (tab (F := Ideal)) (grid0.coords t) b * S1024x2048.size b + 1 * (ix2 x d b).val = _
  rw [ix0_eq, coord1]
  match b with
  | ⟨0, _⟩ => show t.val % 8 * 1024 + 1 * x.val = r.val; omega
  | ⟨1, _⟩ => show 0 * 2048 + 1 * d.val = d.val; omega

include hk in
/-- and the weight's. -/
theorem weight_emb (d : Fin 2048) : ((cfgI.win 1).blk t).view.emb (ix3 0 d l) = ix3 (0 : Fin 1) d k := by
  refine funext fun b => Fin.ext ?_
  show cc0_transform_1 k0_off1_inb numel1_S1 (tab (F := Ideal)) (grid0.coords t) b * S1x2048x1024.size b + 1 * (ix3 (0 : Fin 1) d l b).val = _
  rw [ix1_eq, coord0]
  match b with
  | ⟨0, _⟩ => rfl
  | ⟨1, _⟩ => show 0 * 2048 + 1 * d.val = d.val; omega
  | ⟨2, _⟩ => show t.val / 8 * 1024 + 1 * l.val = k.val; omega
end Entry

section Array
variable (c : Dev nD)

abbrev rowsIn : (⟨S8192x2048, .bf16⟩ : BufTy).Contents (Elt Ideal) := m ((c : Thread nD τ).loc main_arg0)
abbrev weightIn : (⟨S2048x2048, .f32⟩ : BufTy).Contents (Elt Ideal) := m ((c : Thread nD τ).loc main_arg1)
abbrev addedIn : (⟨S8192x2048, .f32⟩ : BufTy).Contents (Elt Ideal) := m ((c : Thread nD τ).loc main_arg2)

/-- An entry of the array: its row through the weight's column, and the entry added. -/
theorem out_entry (r : Fin 8192) (k : Fin 2048) :
    (dats m 0 c).arrAt 3 16 (ix2 r k) = ((∑ d : Fin 2048, rowsIn m c (ix2 r d) * weightIn m c (ix2 d k)) + addedIn m c (ix2 r k) : EReal) := by
  have hN : cfgI.N = 16 := N_0
  obtain ⟨t, e⟩ : ∃ t : Fin cfgI.N, t.val = 8 * (k.val / 1024) + r.val / 1024 := ⟨⟨8 * (k.val / 1024) + r.val / 1024, by rw [hN]; omega⟩, rfl⟩
  obtain ⟨x, ex⟩ : ∃ x : Fin 1024, x.val = r.val % 1024 := ⟨⟨r.val % 1024, by omega⟩, rfl⟩
  obtain ⟨l, el⟩ : ∃ l : Fin 1024, l.val = k.val % 1024 := ⟨⟨k.val % 1024, by omega⟩, rfl⟩
  have hr : r.val = 1024 * (t.val % 8) + x.val := by omega
  have hk : k.val = 1024 * (t.val / 8) + l.val := by omega
  have hb := (dats m 0 c).arrAt_emb_eq_flushed 3 out_disj t (out_flush t) (ix2 x l)
  rw [hN] at hb
  refine (congrArg ((dats m 0 c).arrAt 3 16) (out_emb t x l r k hr hk).symm).trans (hb.trans ?_)
  have hf : (dats m 0 c).flushed 3 t (ix2 x l) = (dats m 0 c).after 3 t (ix2 x l) := rfl
  refine hf.trans ((congrFun (after_3 m c t) (ix2 x l)).trans ((pay_apply _ _ _ x l).trans ?_))
  have hx : ∀ d : Fin 2048, iblk m c 0 t (ix2 x d) = rowsIn m c (ix2 r d) := fun d =>
    (congrArg (V m c main_arg0) (rows_emb t x r hr d)).trans (congrFun (V_arg m c main_arg0 (by decide)) _)
  have hw : ∀ d : Fin 2048, iblk m c 1 t (ix3 0 d l) = weightIn m c (ix2 d k) := fun d =>
    (congrArg (V m c main_v2) (weight_emb t l k hk d)).trans ((congrFun (V_v2 m c) _).trans
      (congrArg (weightIn m c) (funext fun a => match a with | ⟨0, _⟩ => rfl | ⟨1, _⟩ => rfl)))
  have ha : iblk m c 2 t (ix2 x l) = addedIn m c (ix2 r k) :=
    (congrArg (V m c main_arg2) (added_emb t x l r k hr hk)).trans (congrFun (V_arg m c main_arg2 (by decide)) _)
  exact congrArg₂ (fun a b : EReal => a + b) (Finset.sum_congr rfl fun d _ => congrArg₂ (fun a b : EReal => a * b) (hx d) (hw d)) ha

/-- The reference's result of the same arguments is the array. -/
theorem array_eq : Cert.Reference4Ideal.Read.val_main_v2 (F := Ideal) (rowsIn m c) (weightIn m c) (addedIn m c) = (dats m 0 c).arrAt 3 16 := by
  funext i
  obtain ⟨r, k, rfl⟩ : ∃ (r : Fin 8192) (k : Fin 2048), i = ix2 r k := ⟨i 0, i 1, funext fun b => match b with | ⟨0, _⟩ => rfl | ⟨1, _⟩ => rfl⟩
  refine Eq.trans ?_ (out_entry m c r k).symm
  rw [Cert.Reference4Ideal.Read.val_main_v2_apply, Cert.Reference4Ideal.Read.val_main_v1_apply]
  refine (add_comm (addedIn m c (ix2 r k) : EReal) _).trans ?_
  refine congrArg (· + (addedIn m c (ix2 r k) : EReal)) (Finset.sum_congr rfl fun d _ => ?_)
  have el : Cert.Reference4Ideal.Read.lidx_main_v1 (ix2 r k) d = ix2 r d := funext fun b => match b with | ⟨0, _⟩ => rfl | ⟨1, _⟩ => rfl
  have er : Cert.Reference4Ideal.Read.ridx_main_v1 (ix2 r k) d = ix2 d k := funext fun b => match b with | ⟨0, _⟩ => rfl | ⟨1, _⟩ => rfl
  rw [el, er, Cert.Reference4Ideal.Read.val_main_v0_apply]
  rfl

/-- The run, to the array. -/
theorem run_array (ρ : Dev nD → PrngReg) :
    θ_run (defs (F := Ideal)) (onTc (τ := τ) (main (F := Ideal))) ⟨m, fun _ => 0, ρ⟩ (fun r => ∀ c : Dev nD,
      r.2.mem ((c : Thread nD τ).loc main_v3) = (dats m 0 c).arrAt 3 16
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h => h.1) (run_kept m ρ)
end Array

end Cert.Proof.Dm

end
-- ==== Proof.DmSame.lean ====
/-
  The dense product and its exact reading are one program over any floats: what the second does, the first does.
-/
module

public import proofs.«01_k».proof.Proof.Gen.Kernel4
public import proofs.«01_k».proof.Proof.DmFrame

@[expose] public section

set_option maxRecDepth 16384

noncomputable section

namespace Cert.Proof.DmK

open Idealize.ShloMosaic Idealize.ShloMosaic.TcCoe Idealize.SL.Sem
open Cert.Kernel4 Cert.Kernel4.Gen

variable {F : FTy → Type} [FloatOps F]

attribute [local instance] Cert.Kernel4.Gen.facts Cert.Kernel4Ideal.Gen.facts

/-- The two body tables agree at every label. -/
theorem bodies_eq : Cert.Kernel4.defs₀ (F := F) = Cert.Kernel4Ideal.defs₀ (F := F) := by
  unfold Cert.Kernel4.defs₀ Cert.Kernel4Ideal.defs₀
  congr 1
  funext i x
  match i, x with
  | 0, (t, s) => rfl

/-- So do the tables with the calls' regions. -/
theorem defs_eq : Cert.Kernel4.defs (F := F) = Cert.Kernel4Ideal.defs (F := F) := by
  unfold Cert.Kernel4.defs Cert.Kernel4Ideal.defs
  rw [bodies_eq]
  rfl

/-- The run leaves the arguments and the counters as launched. -/
theorem run_kept (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) := by
  have h := Dm.run_kept (F := F) m ρ
  rw [defs_eq]
  exact (θ_run (Cert.Kernel4Ideal.defs (F := F)) _ _).mono (fun r h => ⟨fun c => (h.1 c).2, h.2⟩) h

end Cert.Proof.DmK

end
-- ==== Proof.NmVal.lean ====
/-
  The normalized product's array, entry by entry, in exact arithmetic: the reference's.
-/
module

public import proofs.«01_k».proof.Proof.Gen.Kernel5Ideal.Value
public import proofs.«01_k».proof.Proof.Gen.Reference5Ideal.Read
public import proofs.«01_k».proof.Proof.HostLine
public import Idealize.ShloMosaic.Lib.Pipeline.Value
public import Idealize.ShloMosaic.Lib.Pipeline.ValueKit.Acc
public import Idealize.ShloMosaic.Lib.ValueIdx
public import Idealize.ShloMosaic.Lib.IdealHost
public import Idealize.ShloMosaic.PureOps.Ideal.Laws

@[expose] public section

set_option maxRecDepth 16384

noncomputable section

namespace Cert.Proof.Nm

open Cert.Kernel5Ideal Cert.Kernel5Ideal.Gen
open Idealize.ShloMosaic Idealize.ShloMosaic.ValueIdx
open Idealize.ShloMosaic.TcCoe Idealize.SL.Sem

/-! ## What a point computes -/

/-- One over the root of a row's mean square: of the sum of its squares, divided by 2048, and 1e-6 more. -/
def scaleOf (s : EReal) : EReal :=
  FloatOps.rsqrt (F := Ideal) (φ := .f32) (FloatOps.addf (F := Ideal) (φ := .f32)
    (FloatOps.divf (F := Ideal) (φ := .f32) s (FloatOps.ofBits (F := Ideal) .f32 0x45000000#32)) (FloatOps.ofBits (F := Ideal) .f32 0x358637BD#32))

/-- The sums of the rows' squares. -/
def squares (X : FVec Ideal S1024x2048 .f32) : FVec Ideal S1024 .f32 :=
  multiReduction .add [1] S1024 (mulf X X) 0x00000000#32 reduces_S1024x2048_S1024 (.inl rfl) rfl

theorem squares_apply (X : FVec Ideal S1024x2048 .f32) (r : Fin 1024) :
    squares X (ix1 r) = ∑ j : Fin 2048, (X (ix2 r j) * X (ix2 r j) : EReal) := by
  unfold squares
  refine (Ideal.multiReduction_add_single (a := (1 : Fin S1024x2048.rank)) (mulf X X) 0x00000000#32 reduces_S1024x2048_S1024 (.inl rfl) rfl (ix1 r)).trans ?_
  refine Finset.sum_congr rfl fun j _ => congrArg (fun z => (X z * X z : EReal)) (funext fun a => ?_)
  match a with
  | ⟨0, _⟩ => rfl
  | ⟨1, _⟩ => rfl

/-- The rows' scales, as a column. -/
def scales (s : FVec Ideal S1024 .f32) : FVec Ideal S1024x1 .f32 :=
  rsqrt (addf (divf (shapeCast S1024x1 s shapeCasts_S1024_S1024x1) (broadcast S1024x1 (Scalar.ofBits (F := Ideal) .f32 0x45000000#32)))
    (broadcast S1024x1 (Scalar.ofBits (F := Ideal) .f32 0x358637BD#32)))

theorem scales_apply (s : FVec Ideal S1024 .f32) (r : Fin 1024) : scales s (ix2 r 0) = scaleOf (s (ix1 r)) := by
  refine Eq.trans (b := scaleOf (shapeCast S1024x1 s shapeCasts_S1024_S1024x1 (ix2 r 0))) rfl (congrArg scaleOf ?_)
  exact shapeCast_apply s shapeCasts_S1024_S1024x1 _ _ (by
    rw [Shape.rowMajor_val_one, Shape.rowMajor_val_two]
    show r.val = r.val * 1 + 0
    omega)

/-- A normalized entry: the entry times its row's scale, times its lane's gain. -/
theorem norm_apply (X : Vec Ideal S1024x2048 .f32) (G : Vec Ideal S1x2048 .f32) (r : Fin 1024) (k : Fin 2048) :
    k0_pay1 (F := Ideal) X G (ix2 r k) = (X (ix2 r k) * scaleOf (∑ j : Fin 2048, (X (ix2 r j) * X (ix2 r j) : EReal)) * G (ix2 0 k) : EReal) := by
  have e : k0_pay1 (F := Ideal) X G = shapeCast S1024x2048 (truncf .bf16 (mulf (mulf X (broadcastTo S1024x2048 (scales (squares X)) broadcasts_S1024x1_S1024x2048))
      (broadcastTo S1024x2048 (shapeCast S1x2048 G shapeCasts_S1x2048_S1x2048) broadcasts_S1x2048_S1024x2048)) bitsLt_bf16_f32) shapeCasts_S1024x2048_S1024x2048 := rfl
  rw [e, shapeCast_apply _ shapeCasts_S1024x2048_S1024x2048 (ix2 r k) (ix2 r k) rfl]
  have e1 : broadcastTo S1024x2048 (scales (squares X)) broadcasts_S1024x1_S1024x2048 (ix2 r k) = scaleOf (∑ j : Fin 2048, (X (ix2 r j) * X (ix2 r j) : EReal)) := by
    rw [broadcastTo_apply _ broadcasts_S1024x1_S1024x2048 (ix2 r k) (ix2 r 0) (fun y => match y with
      | ⟨0, _⟩ => by show r.val = if 1024 = 1 then 0 else r.val; exact (if_neg (by decide)).symm
      | ⟨1, _⟩ => by show 0 = if 1 = 1 then 0 else k.val; exact (if_pos rfl).symm), scales_apply, squares_apply]
  have e2 : broadcastTo S1024x2048 (shapeCast S1x2048 G shapeCasts_S1x2048_S1x2048) broadcasts_S1x2048_S1024x2048 (ix2 r k) = G (ix2 0 k) := by
    rw [broadcastTo_apply _ broadcasts_S1x2048_S1024x2048 (ix2 r k) (ix2 0 k) (fun y => match y with
      | ⟨0, _⟩ => by show 0 = if 1 = 1 then 0 else r.val; exact (if_pos rfl).symm
      | ⟨1, _⟩ => by show k.val = if 2048 = 1 then 0 else k.val; exact (if_neg (by decide)).symm)]
    exact shapeCast_apply _ shapeCasts_S1x2048_S1x2048 _ _ rfl
  exact congrArg₂ (fun a b : EReal => (X (ix2 r k) : EReal) * a * b) e1 e2

/-- The weight's block without its unit axis. -/
theorem flat_apply (x : Vec Ideal S1x2048x384 .f32) (k : Fin 2048) (l : Fin 384) :
    shapeCast S2048x384 x shapeCasts_S1x2048x384_S2048x384 (ix2 k l) = x (ix3 0 k l) :=
  shapeCast_apply x shapeCasts_S1x2048x384_S2048x384 _ _ (by
    rw [Shape.rowMajor_val_three, Shape.rowMajor_val_two]
    show (0 * 2048 + k.val) * 384 + l.val = k.val * 384 + l.val
    omega)

/-- The block stored: the sums of the products. -/
theorem stored_apply (A : Vec Ideal S1024x2048 .bf16) (B : Vec Ideal S1x2048x384 .f32) (x : Fin 1024) (l : Fin 384) :
    k0_pay2 (F := Ideal) A B (ix2 x l) = ∑ k : Fin 2048, (A (ix2 x k) * B (ix3 0 k l) : EReal) := by
  have e : k0_pay2 (F := Ideal) A B = matmul (F := Ideal) dot_S1024x2048_S2048x384_S1024x384_1_0_0_1_n_n none A
    (truncf .bf16 (shapeCast S2048x384 B shapeCasts_S1x2048x384_S2048x384 : FVec Ideal S2048x384 .f32) bitsLt_bf16_f32) (constant S1024x384 .f32 0x00000000#32) := rfl
  rw [e]
  unfold matmul
  rw [Ideal.matmul_constant_zero_apply, ← Equiv.sum_comp (contrEquiv1 dot_S1024x2048_S2048x384_S1024x384_1_0_0_1_n_n 2048 rfl rfl).symm]
  refine Finset.sum_congr rfl fun d _ => ?_
  have hd := contrEquiv1_symm_val dot_S1024x2048_S2048x384_S1024x384_1_0_0_1_n_n 2048 rfl rfl d
  have el : dot_S1024x2048_S2048x384_S1024x384_1_0_0_1_n_n.lhsIdx (ix2 x l) ((contrEquiv1 dot_S1024x2048_S2048x384_S1024x384_1_0_0_1_n_n 2048 rfl rfl).symm d) = ix2 x d :=
    funext fun a => Fin.ext (match a with
      | ⟨0, _⟩ => rfl
      | ⟨1, _⟩ => hd)
  have er : dot_S1024x2048_S2048x384_S1024x384_1_0_0_1_n_n.rhsIdx (ix2 x l) ((contrEquiv1 dot_S1024x2048_S2048x384_S1024x384_1_0_0_1_n_n 2048 rfl rfl).symm d) = ix2 d l :=
    funext fun a => Fin.ext (match a with
      | ⟨0, _⟩ => hd
      | ⟨1, _⟩ => rfl)
  rw [el, er]
  exact congrArg ((A (ix2 x d) : EReal) * ·) (flat_apply B d l)

/-! ## The arrays when the grid starts -/

variable (m : (ℓ : Loc nD τ sig) → Buf (Elt Ideal) ℓ) (c : Dev nD)

abbrev rowsIn : (⟨S8192x2048, .f32⟩ : BufTy).Contents (Elt Ideal) := m ((c : Thread nD τ).loc main_arg0)
abbrev gainIn : (⟨S2048, .f32⟩ : BufTy).Contents (Elt Ideal) := m ((c : Thread nD τ).loc main_arg1)
abbrev weightIn : (⟨S2048x1152, .f32⟩ : BufTy).Contents (Elt Ideal) := m ((c : Thread nD τ).loc main_arg2)

/-- The references the host operations write, in order. -/
abbrev wr : List (Ref sig .tc) := [main_v0, main_v1]

theorem writes_eq : (hostOps0 (F := Ideal)).map HloOp.writes = wr.map fun w => {Proc.devRef (τ := τ) .tc w} := rfl

/-- The weight under a unit axis. -/
theorem V_weight (k : Fin 2048) (l : Fin 1152) : V m c main_v0 (ix3 (0 : Fin 1) k l) = weightIn m c (ix2 k l) := by
  refine (congrFun (HostLine.unary_eq (ops := hostOps0) (W := wr) writes_eq (fun b => m (c, b)) 0 (x := main_arg2) (y := main_v0) rfl (by decide) (by decide)) _).trans ?_
  exact (congrFun (V_main_arg2 m c) _).trans (congrArg (weightIn m c) (funext fun a => match a with | ⟨0, _⟩ => rfl | ⟨1, _⟩ => rfl))

/-- The gain as a row. -/
theorem V_gain (k : Fin 2048) : V m c main_v1 (ix2 (0 : Fin 1) k) = gainIn m c (ix1 k) := by
  have h := (HostLine.written (ops := hostOps0) (W := wr) writes_eq (fun b => m (c, b)) 1 (y := main_v1) rfl (by decide)).trans
    (StableHlo.reshape_result main_arg1 main_v1 rfl shapeCasts_S2048_S1x2048 _ _ _)
  refine (congrFun h _).trans ?_
  refine Eq.trans (shapeCast_apply _ shapeCasts_S2048_S1x2048 (ix2 (0 : Fin 1) k) (ix1 k) (by
    rw [Shape.rowMajor_val_one, Shape.rowMajor_val_two]
    show k.val = 0 * 2048 + k.val
    omega)) ?_
  exact (congrFun (HostLine.settled (ops := hostOps0) (W := wr) writes_eq (fun b => m (c, b)) 1 (x := main_arg1) (by decide)) _).trans (congrFun (V_main_arg1 m c) (ix1 k))

/-! ## The blocks -/

/-- The grid's points in order: a tile of rows, a block of columns. -/
theorem index0 : ∀ t : Fin grid0.N, cc0_transform_0 (grid0.coords t) = ![t.val / 3, 0] := by decide +kernel
theorem index1 : ∀ t : Fin grid0.N, cc0_transform_1 (grid0.coords t) = ![0, 0] := by decide +kernel
theorem index2 : ∀ t : Fin grid0.N, cc0_transform_2 (grid0.coords t) = ![0, 0, t.val % 3] := by decide +kernel
theorem index3 : ∀ t : Fin grid0.N, cc0_transform_3 (grid0.coords t) = ![t.val / 3, t.val % 3] := by decide +kernel

theorem lt24 (t : Fin cfg0.N) : t.val < 24 := t.isLt

section Blocks
variable (t : Fin cfg0.N)

/-- An entry of the tile of rows. -/
theorem rows_apply (x : Fin 1024) (d : Fin 2048) (r : Fin 8192) (hr : r.val = 1024 * (t.val / 3) + x.val) : iblk m c 0 t (ix2 x d) = rowsIn m c (ix2 r d) := by
  refine Eq.trans (b := V m c main_arg0 (((cfg0.win 0).blk t).view.emb (ix2 x d))) rfl ?_
  refine (congrArg (V m c main_arg0) (funext fun a => Fin.ext ?_)).trans (congrFun (V_main_arg0 m c) (ix2 r d))
  show cc0_transform_0 (grid0.coords t) a * S1024x2048.size a + 1 * (ix2 x d a).val = _
  rw [index0 t]
  match a with
  | ⟨0, _⟩ => show t.val / 3 * 1024 + 1 * x.val = r.val; omega
  | ⟨1, _⟩ => show 0 * 2048 + 1 * d.val = d.val; omega

/-- An entry of the gain. -/
theorem gain_apply (d : Fin 2048) : iblk m c 1 t (ix2 (0 : Fin 1) d) = gainIn m c (ix1 d) := by
  refine Eq.trans (b := V m c main_v1 (((cfg0.win 1).blk t).view.emb (ix2 (0 : Fin 1) d))) rfl ?_
  refine (congrArg (V m c main_v1) (funext fun a => Fin.ext ?_)).trans (V_gain m c d)
  show cc0_transform_1 (grid0.coords t) a * S1x2048.size a + 1 * (ix2 (0 : Fin 1) d a).val = _
  rw [index1 t]
  match a with
  | ⟨0, _⟩ => rfl
  | ⟨1, _⟩ => show 0 * 2048 + 1 * d.val = d.val; omega

/-- An entry of the block of the weight. -/
theorem weight_apply (d : Fin 2048) (l : Fin 384) (k : Fin 1152) (hk : k.val = 384 * (t.val % 3) + l.val) : iblk m c 2 t (ix3 (0 : Fin 1) d l) = weightIn m c (ix2 d k) := by
  refine Eq.trans (b := V m c main_v0 (((cfg0.win 2).blk t).view.emb (ix3 (0 : Fin 1) d l))) rfl ?_
  refine (congrArg (V m c main_v0) (funext fun a => Fin.ext ?_)).trans (V_weight m c d k)
  show cc0_transform_2 (grid0.coords t) a * S1x2048x384.size a + 1 * (ix3 (0 : Fin 1) d l a).val = _
  rw [index2 t]
  match a with
  | ⟨0, _⟩ => rfl
  | ⟨1, _⟩ => show 0 * 2048 + 1 * d.val = d.val; omega
  | ⟨2, _⟩ => show t.val % 3 * 384 + 1 * l.val = k.val; omega

/-- Where the output block's entry is in the array. -/
theorem out_emb (x : Fin 1024) (l : Fin 384) (r : Fin 8192) (k : Fin 1152) (hr : r.val = 1024 * (t.val / 3) + x.val) (hk : k.val = 384 * (t.val % 3) + l.val) :
    ((cfg0.win 3).blk t).view.emb (ix2 x l) = ix2 r k := by
  refine funext fun a => Fin.ext ?_
  show cc0_transform_3 (grid0.coords t) a * S1024x384.size a + 1 * (ix2 x l a).val = _
  rw [index3 t]
  match a with
  | ⟨0, _⟩ => show t.val / 3 * 1024 + 1 * x.val = r.val; omega
  | ⟨1, _⟩ => show t.val % 3 * 384 + 1 * l.val = k.val; omega
end Blocks

/-! ## The scratch, and the array -/

/-- A normalized entry of the rows. -/
def normed (X : (⟨S8192x2048, .f32⟩ : BufTy).Contents (Elt Ideal)) (G : (⟨S2048, .f32⟩ : BufTy).Contents (Elt Ideal)) (r : Fin 8192) (k : Fin 2048) : EReal :=
  X (ix2 r k) * scaleOf (∑ j : Fin 2048, (X (ix2 r j) * X (ix2 r j) : EReal)) * G (ix1 k)

/-- What the first point of a tile puts into the scratch. -/
theorem tile_apply (t : Fin cfg0.N) (x : Fin 1024) (k : Fin 2048) (r : Fin 8192) (hr : r.val = 1024 * (t.val / 3) + x.val) :
    k0_pay1 (F := Ideal) (iblk m c 0 t) (iblk m c 1 t) (ix2 x k) = normed (rowsIn m c) (gainIn m c) r k := by
  refine (norm_apply _ _ x k).trans ?_
  have hx := fun d => rows_apply m c t x d r hr
  exact congrArg₂ (fun a b : EReal => a * b) (congrArg₂ (fun a b : EReal => a * scaleOf b) (hx k) (Finset.sum_congr rfl fun j _ => congrArg₂ (fun a b : EReal => a * b) (hx j) (hx j)))
    (gain_apply m c t k)

/-- After every point the scratch holds the normalized rows of its tile. -/
theorem scratch_apply : ∀ (n : ℕ) (hn : n < cfg0.N) (x : Fin 1024) (k : Fin 2048) (r : Fin 8192) (_ : r.val = 1024 * (n / 3) + x.val),
    (outsAt0 m c n hn).2 (ix2 x k) = normed (rowsIn m c) (gainIn m c) r k := by
  intro n
  induction n with
  | zero =>
    intro hn x k r hr
    have e : (outsAt0 m c 0 hn).2 = k0_pay1 (F := Ideal) (iblk m c 0 ⟨0, hn⟩) (iblk m c 1 ⟨0, hn⟩) := by
      rw [outsAt0_A m c ⟨0, hn⟩ rfl]
      frame_out
    rw [e]
    exact tile_apply m c ⟨0, hn⟩ x k r hr
  | succ n ih =>
    intro hn x k r hr
    by_cases h0 : (n + 1) % 3 = 0
    · have e : (outsAt0 m c (n + 1) hn).2 = k0_pay1 (F := Ideal) (iblk m c 0 ⟨n + 1, hn⟩) (iblk m c 1 ⟨n + 1, hn⟩) := by
        rw [outsAt0_A m c ⟨n + 1, hn⟩ h0]
        frame_out
      rw [e]
      exact tile_apply m c ⟨n + 1, hn⟩ x k r hr
    · have e : (outsAt0 m c (n + 1) hn).2 = (outsAt0 m c n (Nat.lt_of_succ_lt hn)).2 := by
        rw [outsAt0_B m c ⟨n + 1, hn⟩ h0]
        rfl
      rw [e]
      exact ih _ x k r (by omega)

/-- An entry of the block a point stores. -/
theorem point_apply (t : Fin cfg0.N) (x : Fin 1024) (l : Fin 384) (r : Fin 8192) (k : Fin 1152) (hr : r.val = 1024 * (t.val / 3) + x.val)
    (hk : k.val = 384 * (t.val % 3) + l.val) :
    (outsAt0 m c t.val t.isLt).1 (ix2 x l) = ∑ d : Fin 2048, (normed (rowsIn m c) (gainIn m c) r d * weightIn m c (ix2 d k) : EReal) := by
  by_cases h0 : t.val % 3 = 0
  · have e : (outsAt0 m c t.val t.isLt).1 = k0_pay2 (F := Ideal) (k0_pay1 (F := Ideal) (iblk m c 0 t) (iblk m c 1 t)) (iblk m c 2 t) := by
      rw [outsAt0_A m c t h0]
      frame_out
    rw [e]
    refine (stored_apply _ _ x l).trans (Finset.sum_congr rfl fun d _ => ?_)
    exact congrArg₂ (fun a b : EReal => a * b) (tile_apply m c t x d r hr) (weight_apply m c t d l k hk)
  · have e : (outsAt0 m c t.val t.isLt).1 = k0_pay2 (F := Ideal) (outsAt0 m c (t.val - 1) (Nat.lt_of_le_of_lt (Nat.sub_le _ _) t.isLt)).2 (iblk m c 2 t) := by
      rw [outsAt0_B m c t h0]
      frame_out
      exact congrArg (fun z => k0_pay2 z (iblk m c 2 t)) ((Memref.isWhole_whole cc0_scratch0).read_unread _)
    rw [e]
    refine (stored_apply _ _ x l).trans (Finset.sum_congr rfl fun d _ => ?_)
    exact congrArg₂ (fun a b : EReal => a * b) (scratch_apply m c (t.val - 1) _ x d r (by omega)) (weight_apply m c t d l k hk)

/-- An entry of the array: its row normalized, through the weight's column. -/
theorem out_entry (r : Fin 8192) (k : Fin 1152) :
    (dats m 0 c).arrAt 3 cfg0.N (ix2 r k) = ∑ d : Fin 2048, (normed (rowsIn m c) (gainIn m c) r d * weightIn m c (ix2 d k) : EReal) := by
  have hN : cfg0.N = 24 := N_0
  obtain ⟨t, e⟩ : ∃ t : Fin cfg0.N, t.val = 3 * (r.val / 1024) + k.val / 384 := ⟨⟨3 * (r.val / 1024) + k.val / 384, by rw [hN]; omega⟩, rfl⟩
  obtain ⟨x, ex⟩ : ∃ x : Fin 1024, x.val = r.val % 1024 := ⟨⟨r.val % 1024, by omega⟩, rfl⟩
  obtain ⟨l, el⟩ : ∃ l : Fin 384, l.val = k.val % 384 := ⟨⟨k.val % 384, by omega⟩, rfl⟩
  have hr : r.val = 1024 * (t.val / 3) + x.val := by omega
  have hk : k.val = 384 * (t.val % 3) + l.val := by omega
  have hb := (dats m 0 c).arrAt_emb_eq_flushed 3 Cert.Kernel5Ideal.Value.disjoint3 t (flush0_3 t) (ix2 x l)
  refine (congrArg ((dats m 0 c).arrAt 3 cfg0.N) (out_emb t x l r k hr hk).symm).trans (hb.trans ?_)
  refine (congrFun (Cert.Kernel5Ideal.Value.flushed3 m c t) (ix2 x l)).trans ?_
  exact Eq.trans (b := (outsAt0 m c t.val t.isLt).1 (ix2 x l)) rfl (point_apply m c t x l r k hr hk)

/-- The reference normalizes the same. -/
theorem reference_norm (X : (⟨S8192x2048, .f32⟩ : BufTy).Contents (Elt Ideal)) (G : (⟨S2048, .f32⟩ : BufTy).Contents (Elt Ideal)) (r : Fin 8192) (k : Fin 2048) :
    Cert.Reference5Ideal.Read.val_main_v12 (F := Ideal) X G (ix2 r k) = normed X G r k := by
  have e2 : Cert.Reference5Ideal.Read.val_main_v2 (F := Ideal) X (ix2 r 0) = ∑ j : Fin 2048, (X (ix2 r j) * X (ix2 r j) : EReal) := by
    rw [Cert.Reference5Ideal.Read.val_main_v2_apply, Cert.Reference5Ideal.Read.val_main_v1_apply]
    refine (congrArg (fun z : EReal => z + _) (Ideal.ofBits_zero_f32)).trans ((zero_add _).trans ?_)
    exact Finset.sum_congr rfl fun j _ => congrArg (fun z => (X z * X z : EReal)) (funext fun b => match b with | ⟨0, _⟩ => rfl | ⟨1, _⟩ => rfl)
  have e8 : Cert.Reference5Ideal.Read.val_main_v8 (F := Ideal) X (ix2 r k) = scaleOf (∑ j : Fin 2048, (X (ix2 r j) * X (ix2 r j) : EReal)) := by
    rw [Cert.Reference5Ideal.Read.val_main_v8_apply]
    have ei : Cert.Reference5Ideal.Read.idx_main_v8 (ix2 r k) = ix2 r 0 := funext fun b => match b with | ⟨0, _⟩ => rfl | ⟨1, _⟩ => rfl
    rw [ei, ← e2, Cert.Reference5Ideal.Read.val_main_v7_apply, Cert.Reference5Ideal.Read.val_main_v6_apply, Cert.Reference5Ideal.Read.val_main_v4_apply,
      Cert.Reference5Ideal.Read.val_main_v3_apply, Cert.Reference5Ideal.Read.val_main_v5_apply]
    rfl
  have e11 : Cert.Reference5Ideal.Read.val_main_v11 (F := Ideal) G (ix2 r k) = G (ix1 k) := by
    rw [Cert.Reference5Ideal.Read.val_main_v11_apply, Cert.Reference5Ideal.Read.val_main_v10_apply]
    exact congrArg G (funext fun b => match b with | ⟨0, _⟩ => rfl)
  exact congrArg₂ (fun a b : EReal => (X (ix2 r k) : EReal) * a * b) e8 e11

/-- The reference's result of the same arguments is the array. -/
theorem array_eq : Cert.Reference5Ideal.Read.val_main_v13 (F := Ideal) (rowsIn m c) (gainIn m c) (weightIn m c) = (dats m 0 c).arrAt 3 cfg0.N := by
  funext i
  obtain ⟨r, k, rfl⟩ : ∃ (r : Fin 8192) (k : Fin 1152), i = ix2 r k := ⟨i 0, i 1, funext fun b => match b with | ⟨0, _⟩ => rfl | ⟨1, _⟩ => rfl⟩
  refine Eq.trans ?_ (out_entry m c r k).symm
  rw [Cert.Reference5Ideal.Read.val_main_v13_apply]
  refine Finset.sum_congr rfl fun d _ => ?_
  have el : Cert.Reference5Ideal.Read.lidx_main_v13 (ix2 r k) d = ix2 r d := funext fun b => match b with | ⟨0, _⟩ => rfl | ⟨1, _⟩ => rfl
  have er : Cert.Reference5Ideal.Read.ridx_main_v13 (ix2 r k) d = ix2 d k := funext fun b => match b with | ⟨0, _⟩ => rfl | ⟨1, _⟩ => rfl
  rw [el, er, reference_norm]

end Cert.Proof.Nm

end
-- ==== Proof.KvPay.lean ====
/-
  The key/value projection's values, entry by entry, in exact arithmetic: what each stored block is of the blocks read.
-/
module

public import proofs.«01_k».proof.Proof.Gen.Kernel6Ideal.Value
public import Idealize.ShloMosaic.Lib.Pipeline.Value
public import Idealize.ShloMosaic.Lib.KernelVsHost
public import Idealize.ShloMosaic.Lib.ValueIdx
public import Idealize.ShloMosaic.Lib.IdealHost
public import Idealize.ShloMosaic.PureOps.Ideal.Laws

@[expose] public section

set_option maxRecDepth 16384

noncomputable section

namespace Cert.Proof.Kv

open Cert.Kernel6Ideal Cert.Kernel6Ideal.Gen
open Idealize.ShloMosaic Idealize.ShloMosaic.ValueIdx
open Idealize.ShloMosaic.TcCoe Idealize.SL.Sem

/-! ## Scales -/

/-- One over the root of a mean and 1e-6. -/
def rootOf (s : EReal) : EReal :=
  FloatOps.rsqrt (F := Ideal) (φ := .f32) (FloatOps.addf (F := Ideal) (φ := .f32) s (FloatOps.ofBits (F := Ideal) .f32 0x358637BD#32))

/-- The scale of a sum of squares over the count of the given word. -/
def scaleOf (b : BitVec 32) (s : EReal) : EReal := rootOf (FloatOps.divf (F := Ideal) (φ := .f32) s (FloatOps.ofBits (F := Ideal) .f32 b))

theorem ofBits_64 : Ideal.ofBits .f32 0x42800000#32 = ((64 : ℝ) : EReal) := by
  simp [Ideal.ofBits, Ideal.ieee]; rw [← EReal.coe_mul]; norm_num
theorem ofBits_64th : Ideal.ofBits .f32 0x3C800000#32 = ((1 / 64 : ℝ) : EReal) := by
  simp [Ideal.ofBits, Ideal.ieee]; rw [← EReal.coe_mul]; norm_num

/-- A product with a sixty-fourth is the quotient by 64. -/
theorem mean_64 (s : EReal) : rootOf (s * Ideal.ofBits .f32 0x3C800000#32) = scaleOf 0x42800000#32 s := by
  refine congrArg rootOf ?_
  show s * Ideal.ofBits .f32 0x3C800000#32 = Ideal.div s (Ideal.ofBits .f32 0x42800000#32)
  rw [ofBits_64, ofBits_64th, Ideal.div_coe (by norm_num)]

theorem squares512_apply (X : FVec Ideal S512x512 .f32) (r : Fin 512) :
    multiReduction (F := Ideal) .add [1] S512 (mulf X X) 0x00000000#32 reduces_S512x512_S512 (.inl rfl) rfl (ix1 r) = ∑ j : Fin 512, (X (ix2 r j) * X (ix2 r j) : EReal) := by
  refine (Ideal.multiReduction_add_single (a := (1 : Fin S512x512.rank)) (mulf X X) 0x00000000#32 reduces_S512x512_S512 (.inl rfl) rfl (ix1 r)).trans ?_
  exact Finset.sum_congr rfl fun j _ => congrArg (fun z => (X z * X z : EReal)) (funext fun a => match a with | ⟨0, _⟩ => rfl | ⟨1, _⟩ => rfl)

theorem sum128_apply (Y : FVec Ideal S512x128 .f32) (r : Fin 512) :
    multiReduction (F := Ideal) .add [1] S512 Y 0x00000000#32 reduces_S512x128_S512 (.inl rfl) rfl (ix1 r) = ∑ j : Fin 128, (Y (ix2 r j) : EReal) := by
  refine (Ideal.multiReduction_add_single (a := (1 : Fin S512x128.rank)) Y 0x00000000#32 reduces_S512x128_S512 (.inl rfl) rfl (ix1 r)).trans ?_
  exact Finset.sum_congr rfl fun j _ => congrArg (fun z => (Y z : EReal)) (funext fun a => match a with | ⟨0, _⟩ => rfl | ⟨1, _⟩ => rfl)

theorem column_apply (s : FVec Ideal S512 .f32) (r : Fin 512) : shapeCast S512x1 s shapeCasts_S512_S512x1 (ix2 r 0) = s (ix1 r) :=
  shapeCast_apply s shapeCasts_S512_S512x1 _ _ (by
    rw [Shape.rowMajor_val_one, Shape.rowMajor_val_two]
    show r.val = r.val * 1 + 0
    omega)

theorem over_lanes (s : FVec Ideal S512x1 .f32) (r : Fin 512) (k : Fin 128) : broadcastTo S512x128 s broadcasts_S512x1_S512x128 (ix2 r k) = s (ix2 r 0) :=
  broadcastTo_apply _ broadcasts_S512x1_S512x128 (ix2 r k) (ix2 r 0) (fun y => match y with
    | ⟨0, _⟩ => by show r.val = if 512 = 1 then 0 else r.val; exact (if_neg (by decide)).symm
    | ⟨1, _⟩ => by show 0 = if 1 = 1 then 0 else k.val; exact (if_pos rfl).symm)

theorem over_rows (g : FVec Ideal S1x128 .f32) (r : Fin 512) (k : Fin 128) : broadcastTo S512x128 g broadcasts_S1x128_S512x128 (ix2 r k) = g (ix2 0 k) :=
  broadcastTo_apply _ broadcasts_S1x128_S512x128 (ix2 r k) (ix2 0 k) (fun y => match y with
    | ⟨0, _⟩ => by show 0 = if 1 = 1 then 0 else r.val; exact (if_pos rfl).symm
    | ⟨1, _⟩ => by show k.val = if 128 = 1 then 0 else k.val; exact (if_neg (by decide)).symm)

/-- A normalized entry of the compressed rows. -/
theorem norm_apply (X : Vec Ideal S512x512 .f32) (G : Vec Ideal S1x512 .f32) (r k : Fin 512) :
    k0_pay3 (F := Ideal) X G (ix2 r k) = (X (ix2 r k) * scaleOf 0x44000000#32 (∑ j : Fin 512, (X (ix2 r j) * X (ix2 r j) : EReal)) * G (ix2 0 k) : EReal) := by
  have e : k0_pay3 (F := Ideal) X G = shapeCast S512x512 (truncf .bf16 (mulf (mulf X (broadcastTo S512x512 (rsqrt (addf (divf (shapeCast S512x1
      (multiReduction .add [1] S512 (mulf X X) 0x00000000#32 reduces_S512x512_S512 (.inl rfl) rfl) shapeCasts_S512_S512x1) (broadcast S512x1 (Scalar.ofBits (F := Ideal) .f32 0x44000000#32)))
      (broadcast S512x1 (Scalar.ofBits (F := Ideal) .f32 0x358637BD#32))) : FVec Ideal S512x1 .f32) broadcasts_S512x1_S512x512))
      (broadcastTo S512x512 (shapeCast S1x512 G shapeCasts_S1x512_S1x512) broadcasts_S1x512_S512x512)) bitsLt_bf16_f32) shapeCasts_S512x512_S512x512 := rfl
  rw [e, shapeCast_apply _ shapeCasts_S512x512_S512x512 (ix2 r k) (ix2 r k) rfl]
  refine congrArg₂ (fun a b : EReal => (X (ix2 r k) : EReal) * a * b) ?_ ?_
  · refine (broadcastTo_apply _ broadcasts_S512x1_S512x512 (ix2 r k) (ix2 r 0) (fun y => match y with
      | ⟨0, _⟩ => by show r.val = if 512 = 1 then 0 else r.val; exact (if_neg (by decide)).symm
      | ⟨1, _⟩ => by show 0 = if 1 = 1 then 0 else k.val; exact (if_pos rfl).symm)).trans ?_
    exact congrArg (scaleOf 0x44000000#32) ((column_apply _ r).trans (squares512_apply X r))
  · refine (broadcastTo_apply _ broadcasts_S1x512_S512x512 (ix2 r k) (ix2 0 k) (fun y => match y with
      | ⟨0, _⟩ => by show 0 = if 1 = 1 then 0 else r.val; exact (if_pos rfl).symm
      | ⟨1, _⟩ => by show k.val = if 512 = 1 then 0 else k.val; exact (if_neg (by decide)).symm)).trans ?_
    exact shapeCast_apply _ shapeCasts_S1x512_S1x512 _ _ rfl

/-- An entry of the product. -/
theorem product_apply (A : Vec Ideal S512x512 .bf16) (B : Vec Ideal S512x1024 .f32) (x : Fin 512) (l : Fin 1024) :
    k0_pay4 (F := Ideal) A B (ix2 x l) = ∑ k : Fin 512, (A (ix2 x k) * B (ix2 k l) : EReal) := by
  have e : k0_pay4 (F := Ideal) A B = matmul (F := Ideal) dot_S512x512_S512x1024_S512x1024_1_0_0_1_n_n none A
    (truncf .bf16 (B : FVec Ideal S512x1024 .f32) bitsLt_bf16_f32) (constant S512x1024 .f32 0x00000000#32) := rfl
  rw [e]
  unfold matmul
  rw [Ideal.matmul_constant_zero_apply, ← Equiv.sum_comp (contrEquiv1 dot_S512x512_S512x1024_S512x1024_1_0_0_1_n_n 512 rfl rfl).symm]
  refine Finset.sum_congr rfl fun d _ => ?_
  have hd := contrEquiv1_symm_val dot_S512x512_S512x1024_S512x1024_1_0_0_1_n_n 512 rfl rfl d
  have el : dot_S512x512_S512x1024_S512x1024_1_0_0_1_n_n.lhsIdx (ix2 x l) ((contrEquiv1 dot_S512x512_S512x1024_S512x1024_1_0_0_1_n_n 512 rfl rfl).symm d) = ix2 x d :=
    funext fun a => Fin.ext (match a with
      | ⟨0, _⟩ => rfl
      | ⟨1, _⟩ => hd)
  have er : dot_S512x512_S512x1024_S512x1024_1_0_0_1_n_n.rhsIdx (ix2 x l) ((contrEquiv1 dot_S512x512_S512x1024_S512x1024_1_0_0_1_n_n 512 rfl rfl).symm d) = ix2 d l :=
    funext fun a => Fin.ext (match a with
      | ⟨0, _⟩ => hd
      | ⟨1, _⟩ => rfl)
  rw [el, er]
  rfl

/-! ## The position's lanes -/

/-- The first 64 lanes, as a one bit word. -/
theorem mask_lane : ∀ d : Fin 128, IntOp.cmpi .slt (BitVec.ofNat 32 (0 * 128 + d.val)) (64#32) = if d.val < 64 then 1#1 else 0#1 := by decide +kernel

/-- A row's lane before its half is added. -/
def turnOf (a cs gv : Fin 128 → EReal) (d : Fin 128) : EReal :=
  a d * scaleOf 0x42800000#32 (∑ j : Fin 64, a (j.castLE (by decide)) * a (j.castLE (by decide))) * (cs d * gv d)

/-- The position's lanes of a row: two halves added, then zeros. -/
def ropeOf (a cs gv : Fin 128 → EReal) (d : Fin 128) : EReal :=
  if h : d.val < 64 then turnOf a cs gv d + turnOf a cs gv ⟨d.val + 64, by omega⟩ else 0

theorem half_sum (f : Fin 128 → EReal) : (∑ j : Fin 128, (if j.val < 64 then f j else 0)) = ∑ j : Fin 64, f (j.castLE (by decide)) := by
  refine (Fin.sum_univ_add (a := 64) (b := 64) fun j : Fin (64 + 64) => if j.val < 64 then f j else 0).trans ?_
  have h1 : ∀ j : Fin 64, (if (Fin.castAdd 64 j).val < 64 then f (Fin.castAdd 64 j) else 0) = f (j.castLE (by decide)) := fun j => if_pos j.isLt
  have h2 : ∀ j : Fin 64, (if (Fin.natAdd 64 j).val < 64 then f (Fin.natAdd 64 j) else 0) = 0 := fun j => if_neg (by show ¬(64 + j.val < 64); omega)
  rw [Finset.sum_congr rfl fun j _ => h1 j, Finset.sum_congr rfl fun j _ => h2 j, Finset.sum_const_zero, add_zero]

/-- The mask. -/
def maskV : IVec S512x128 1 := cmpi .slt (iota .tc S512x128 32 [1] iota_S512x128_d1_w32) (broadcast S512x128 64#32)

theorem mask_apply (X Y : FVec Ideal S512x128 .f32) (r : Fin 512) (d : Fin 128) : select maskV X Y (ix2 r d) = if d.val < 64 then X (ix2 r d) else Y (ix2 r d) := by
  have e : maskV (ix2 r d) = if d.val < 64 then 1#1 else 0#1 := mask_lane d
  show Scalar.select (maskV (ix2 r d)) _ _ = _
  rw [e]
  by_cases h : d.val < 64
  · rw [if_pos h, if_pos h]; rfl
  · rw [if_neg h, if_neg h]; rfl

/-- The lanes before the halves are added. -/
def turnV (a cs : Vec Ideal S512x128 .f32) (gv : Vec Ideal S1x128 .f32) : FVec Ideal S512x128 .f32 :=
  mulf (mulf a (broadcastTo S512x128 (rsqrt (addf (mulf (shapeCast S512x1 (multiReduction .add [1] S512
    (select maskV (mulf a a : FVec Ideal S512x128 .f32) (broadcast S512x128 (Scalar.ofBits (F := Ideal) .f32 0x00000000#32))) 0x00000000#32 reduces_S512x128_S512 (.inl rfl) rfl)
    shapeCasts_S512_S512x1) (broadcast S512x1 (Scalar.ofBits (F := Ideal) .f32 0x3C800000#32)))
    (broadcast S512x1 (Scalar.ofBits (F := Ideal) .f32 0x358637BD#32))) : FVec Ideal S512x1 .f32) broadcasts_S512x1_S512x128))
    (mulf cs (broadcastTo S512x128 gv broadcasts_S1x128_S512x128))

theorem turn_apply (a cs : Vec Ideal S512x128 .f32) (gv : Vec Ideal S1x128 .f32) (r : Fin 512) (d : Fin 128) :
    turnV a cs gv (ix2 r d) = turnOf (fun d => a (ix2 r d)) (fun d => cs (ix2 r d)) (fun d => gv (ix2 0 d)) d := by
  unfold turnV turnOf
  refine congrArg₂ (fun u v : EReal => (a (ix2 r d) : EReal) * u * v) ?_ (congrArg (fun v : EReal => (cs (ix2 r d) : EReal) * v) (over_rows gv r d))
  refine (over_lanes _ r d).trans (Eq.trans ?_ (mean_64 _))
  refine congrArg (fun s : EReal => rootOf (s * Ideal.ofBits .f32 0x3C800000#32)) ?_
  refine (column_apply _ r).trans ((sum128_apply _ r).trans ?_)
  refine Eq.trans (Finset.sum_congr rfl fun j _ => (mask_apply _ _ r j).trans ?_) (half_sum fun j => a (ix2 r j) * a (ix2 r j))
  exact congrArg (fun z : EReal => if j.val < 64 then (a (ix2 r j) * a (ix2 r j) : EReal) else z) Ideal.ofBits_zero_f32

theorem rope_apply (a cs : Vec Ideal S512x128 .f32) (gv : Vec Ideal S1x128 .f32) (r : Fin 512) (d : Fin 128) :
    k0_pay5 (F := Ideal) a cs gv (ix2 r d) = ropeOf (fun d => a (ix2 r d)) (fun d => cs (ix2 r d)) (fun d => gv (ix2 0 d)) d := by
  have e : k0_pay5 (F := Ideal) a cs gv = select maskV (addf (turnV a cs gv) (dynamicRotate 1 64#32 none (turnV a cs gv) rotates_S512x128_d1) : FVec Ideal S512x128 .f32)
    (broadcast S512x128 (Scalar.ofBits (F := Ideal) .f32 0x00000000#32)) := rfl
  rw [e, mask_apply]
  unfold ropeOf
  by_cases h : d.val < 64
  · rw [if_pos h, dif_pos h]
    refine congrArg₂ (fun u v : EReal => u + v) (turn_apply a cs gv r d) ((dynamicRotate_apply _ _ _ _ (ix2 r d) (ix2 r ⟨d.val + 64, by omega⟩) (fun b => match b with
      | ⟨0, _⟩ => rfl
      | ⟨1, _⟩ => ?_)).trans (turn_apply a cs gv r _))
    show d.val + 64 = (d.val + 128 - 64 % 128) % 128
    omega
  · rw [if_neg h, dif_neg h]
    exact Ideal.ofBits_zero_f32

/-! ## The stored blocks -/

/-- A head's lanes without position: normalized over the head's 128 lanes. -/
def keyOf (z : Fin 128 → EReal) (g : EReal) (d : Fin 128) : EReal := z d * scaleOf 0x43000000#32 (∑ j : Fin 128, z j * z j) * g

/-- A key's entry: the head's lanes, then the position's. -/
def laneOf (z : Fin 128 → EReal) (g : Fin 128 → EReal) (p : Fin 128 → EReal) (d : Fin 256) : EReal :=
  if h : d.val < 128 then keyOf z (g ⟨d.val, h⟩) ⟨d.val, h⟩ else p ⟨d.val - 128, by omega⟩

theorem key_apply (R Z : FVec Ideal S512x128 .f32) (g : Vec Ideal S1x128 .f32) (r : Fin 512) (d : Fin 256) :
    k0_pay8 (F := Ideal) R Z g (ix4 0 0 r d) = laneOf (fun j => Z (ix2 r j)) (fun j => g (ix2 0 j)) (fun j => R (ix2 r j)) d := by
  have e : k0_pay8 (F := Ideal) R Z g = shapeCast S1x1x512x256 (truncf .bf16 (concatenate S512x256 1 [⟨S512x128, mulf (mulf Z (broadcastTo S512x128 (rsqrt (addf (divf (shapeCast S512x1
      (multiReduction .add [1] S512 (mulf Z Z) 0x00000000#32 reduces_S512x128_S512 (.inl rfl) rfl) shapeCasts_S512_S512x1) (broadcast S512x1 (Scalar.ofBits (F := Ideal) .f32 0x43000000#32)))
      (broadcast S512x1 (Scalar.ofBits (F := Ideal) .f32 0x358637BD#32))) : FVec Ideal S512x1 .f32) broadcasts_S512x1_S512x128))
      (broadcastTo S512x128 (shapeCast S1x128 g shapeCasts_S1x128_S1x128) broadcasts_S1x128_S512x128)⟩, ⟨S512x128, R⟩] concatenates_S512x128_S512x128_S512x256_d1 : FVec Ideal S512x256 .f32) bitsLt_bf16_f32)
      shapeCasts_S512x256_S1x1x512x256 := rfl
  rw [e, shapeCast_apply _ shapeCasts_S512x256_S1x1x512x256 (ix4 0 0 r d) (ix2 r d) (by
    rw [Shape.rowMajor_val_two, Shape.rowMajor_val_four]
    show r.val * 256 + d.val = ((0 * 1 + 0) * 512 + r.val) * 256 + d.val
    omega)]
  unfold laneOf
  by_cases h : d.val < 128
  · rw [dif_pos h]
    refine (concatenate_pair_apply_left (s₁ := S512x128) (s₂ := S512x128) 1 _ _ concatenates_S512x128_S512x128_S512x256_d1 (ix2 r d) rfl (ix2 r (⟨d.val, h⟩ : Fin 128)) (fun b => match b with
      | ⟨0, _⟩ => rfl
      | ⟨1, _⟩ => rfl)).trans ?_
    refine congrArg₂ (fun u v : EReal => (Z (ix2 r ⟨d.val, h⟩) : EReal) * u * v) ?_ ((over_rows _ r _).trans (shapeCast_apply _ shapeCasts_S1x128_S1x128 _ _ rfl))
    exact (over_lanes _ r _).trans (congrArg (scaleOf 0x43000000#32) ((column_apply _ r).trans (sum128_apply _ r)))
  · rw [dif_neg h]
    exact concatenate_pair_apply_right (s₁ := S512x128) (s₂ := S512x128) 1 _ _ concatenates_S512x128_S512x128_S512x256_d1 (ix2 r d) rfl rfl (ix2 r (⟨d.val - 128, by omega⟩ : Fin 128)) (fun b hb => match b, hb with
      | ⟨0, _⟩, _ => rfl
      | ⟨1, _⟩, hb => absurd rfl hb) (show d.val - 128 + 128 = d.val by omega)

theorem value_apply (Y : FVec Ideal S512x256 .f32) (r : Fin 512) (d : Fin 128) :
    k0_pay9 (F := Ideal) Y (ix4 0 0 r d) = Y (ix2 r ⟨128 + d.val, by omega⟩) := by
  have e : k0_pay9 (F := Ideal) Y = shapeCast S1x1x512x128 (truncf .bf16 (extractStridedSlice S512x128 ![0, 128] Y slices_S512x256_o0_128_S512x128 : FVec Ideal S512x128 .f32) bitsLt_bf16_f32)
    shapeCasts_S512x128_S1x1x512x128 := rfl
  rw [e, shapeCast_apply _ shapeCasts_S512x128_S1x1x512x128 (ix4 0 0 r d) (ix2 r d) (by
    rw [Shape.rowMajor_val_two, Shape.rowMajor_val_four]
    show r.val * 128 + d.val = ((0 * 1 + 0) * 512 + r.val) * 128 + d.val
    omega)]
  exact extractStridedSlice_apply ![0, 128] Y slices_S512x256_o0_128_S512x128 (ix2 r d) (ix2 r ⟨128 + d.val, by omega⟩) (fun a => match a with
    | ⟨0, _⟩ => (Nat.zero_add _).symm
    | ⟨1, _⟩ => rfl)

/-- A head's 256 columns of the product. -/
theorem head_apply (P : FVec Ideal S512x1024 .f32) (o : Nat) (hs : Shape.Slices S512x1024 ![0, o] S512x256) (r : Fin 512) (d : Fin 256) (l : Fin 1024) (hl : l.val = o + d.val) :
    extractStridedSlice S512x256 ![0, o] P hs (ix2 r d) = P (ix2 r l) :=
  extractStridedSlice_apply _ P _ (ix2 r d) (ix2 r l) (fun a => match a with
    | ⟨0, _⟩ => (Nat.zero_add _).symm
    | ⟨1, _⟩ => hl)

/-- The first 128 of them. -/
theorem head_lo (Y : FVec Ideal S512x256 .f32) (r : Fin 512) (d : Fin 128) :
    extractStridedSlice S512x128 ![0, 0] Y slices_S512x256_o0_0_S512x128 (ix2 r d) = Y (ix2 r ⟨d.val, by omega⟩) :=
  extractStridedSlice_apply ![0, 0] Y slices_S512x256_o0_0_S512x128 (ix2 r d) (ix2 r ⟨d.val, by omega⟩) (fun a => match a with
    | ⟨0, _⟩ => (Nat.zero_add _).symm
    | ⟨1, _⟩ => (Nat.zero_add _).symm)

end Cert.Proof.Kv

end
-- ==== Proof.KvVal.lean ====
/-
  The keys' and the values' arrays, entry by entry, in exact arithmetic.
-/
module

public import proofs.«01_k».proof.Proof.KvPay
public import proofs.«01_k».proof.Proof.HostLine
public import Idealize.ShloMosaic.Lib.Pipeline.ValueKit.Acc

@[expose] public section

set_option maxRecDepth 16384

noncomputable section

namespace Cert.Proof.Kv

open Cert.Kernel6Ideal Cert.Kernel6Ideal.Gen
open Idealize.ShloMosaic Idealize.ShloMosaic.ValueIdx
open Idealize.ShloMosaic.TcCoe Idealize.SL.Sem

/-! ## A point's four heads -/

/-- The block of four heads' keys, from the product, the position's lanes and the gain. -/
def keyBlock (P : FVec Ideal S512x1024 .f32) (R : FVec Ideal S512x128 .f32) (g : Vec Ideal S1x128 .f32) : Vec Ideal S1x4x512x256 .bf16 := fun y =>
  laneOf (fun j => P (ix2 (y 2) ⟨256 * (y 1).val + j.val, by have h : (y 1).val < 4 := (y 1).isLt; omega⟩)) (fun j => g (ix2 0 j)) (fun j => R (ix2 (y 2) j)) (y 3)

/-- The block of four heads' values, from the product. -/
def valueBlock (P : FVec Ideal S512x1024 .f32) : Vec Ideal S1x4x512x128 .bf16 := fun y =>
  P (ix2 (y 2) ⟨256 * (y 1).val + 128 + (y 3).val, by have h : (y 1).val < 4 := (y 1).isLt; have h' : (y 3).val < 128 := (y 3).isLt; omega⟩)

/-- A head's keys are the block's at the head. -/
theorem key_piece (P : FVec Ideal S512x1024 .f32) (R : FVec Ideal S512x128 .f32) (g : Vec Ideal S1x128 .f32) (h : Fin 4) (o : Nat) (ho : o = 256 * h.val)
    (hs : Shape.Slices S512x1024 ![0, o] S512x256) (inb : ∀ a, (![0, h.val, 0, 0] : Fin 4 → ℕ) a + S1x1x512x256.size a ≤ S1x4x512x256.size a) (x : S1x1x512x256.Idx) :
    k0_pay8 (F := Ideal) R (extractStridedSlice S512x128 ![0, 0] (extractStridedSlice S512x256 ![0, o] P hs) slices_S512x256_o0_0_S512x128) g x
      = keyBlock P R g ((Rect.unit (s := S1x4x512x256) ![0, h.val, 0, 0] S1x1x512x256.size inb).emb x) := by
  obtain ⟨r, d, rfl⟩ : ∃ (r : Fin 512) (d : Fin 256), x = ix4 0 0 r d := ⟨x 2, x 3, funext fun a => match a with
    | ⟨0, _⟩ => Fin.ext (Nat.lt_one_iff.mp (x 0).isLt)
    | ⟨1, _⟩ => Fin.ext (Nat.lt_one_iff.mp (x 1).isLt)
    | ⟨2, _⟩ => rfl
    | ⟨3, _⟩ => rfl⟩
  have ee : (Rect.unit (s := S1x4x512x256) ![0, h.val, 0, 0] S1x1x512x256.size inb).emb (ix4 0 0 r d) = ix4 0 h r d := funext fun a => Fin.ext (match a with
    | ⟨0, _⟩ => rfl
    | ⟨1, _⟩ => by show h.val + 1 * 0 = h.val; omega
    | ⟨2, _⟩ => by show 0 + 1 * r.val = r.val; omega
    | ⟨3, _⟩ => by show 0 + 1 * d.val = d.val; omega)
  rw [ee, key_apply]
  refine congrArg (fun z => laneOf z (fun j => g (ix2 0 j)) (fun j => R (ix2 r j)) d) (funext fun j => ?_)
  exact (head_lo _ r j).trans (head_apply P o hs r ⟨j.val, by omega⟩ _ (by subst ho; rfl))

/-- A head's values are the block's at the head. -/
theorem value_piece (P : FVec Ideal S512x1024 .f32) (h : Fin 4) (o : Nat) (ho : o = 256 * h.val)
    (hs : Shape.Slices S512x1024 ![0, o] S512x256) (inb : ∀ a, (![0, h.val, 0, 0] : Fin 4 → ℕ) a + S1x1x512x128.size a ≤ S1x4x512x128.size a) (x : S1x1x512x128.Idx) :
    k0_pay9 (F := Ideal) (extractStridedSlice S512x256 ![0, o] P hs) x = valueBlock P ((Rect.unit (s := S1x4x512x128) ![0, h.val, 0, 0] S1x1x512x128.size inb).emb x) := by
  obtain ⟨r, d, rfl⟩ : ∃ (r : Fin 512) (d : Fin 128), x = ix4 0 0 r d := ⟨x 2, x 3, funext fun a => match a with
    | ⟨0, _⟩ => Fin.ext (Nat.lt_one_iff.mp (x 0).isLt)
    | ⟨1, _⟩ => Fin.ext (Nat.lt_one_iff.mp (x 1).isLt)
    | ⟨2, _⟩ => rfl
    | ⟨3, _⟩ => rfl⟩
  have ee : (Rect.unit (s := S1x4x512x128) ![0, h.val, 0, 0] S1x1x512x128.size inb).emb (ix4 0 0 r d) = ix4 0 h r d := funext fun a => Fin.ext (match a with
    | ⟨0, _⟩ => rfl
    | ⟨1, _⟩ => by show h.val + 1 * 0 = h.val; omega
    | ⟨2, _⟩ => by show 0 + 1 * r.val = r.val; omega
    | ⟨3, _⟩ => by show 0 + 1 * d.val = d.val; omega)
  rw [ee, value_apply]
  exact head_apply P o hs r ⟨128 + d.val, by omega⟩ _ (by subst ho; show 256 * h.val + 128 + d.val = 256 * h.val + (128 + d.val); omega)

/-- The four stores of keys leave the block. -/
theorem keys_canon (A : Vec Ideal S512x512 .bf16) (B : Vec Ideal S512x1024 .f32) (R : FVec Ideal S512x128 .f32) (g : Vec Ideal S1x128 .f32) :
    View.canon (Val := Elt Ideal) (s := S1x4x512x256) (e := .bf16)
      [⟨Rect.unit ![0, 3, 0, 0] ![1, 1, 512, 256] inb_S1x4x512x256_S1x1x512x256_0_3_0_0, k0_pay1 (F := Ideal) R (k0_pay18 (k0_pay4 A B)) g⟩,
        ⟨Rect.unit ![0, 2, 0, 0] ![1, 1, 512, 256] inb_S1x4x512x256_S1x1x512x256_0_2_0_0, k0_pay15 (F := Ideal) (k0_pay4 A B) R g⟩,
        ⟨Rect.unit ![0, 1, 0, 0] ![1, 1, 512, 256] inb_S1x4x512x256_S1x1x512x256_0_1_0_0, k0_pay12 (F := Ideal) (k0_pay11 (k0_pay4 A B) R g)⟩,
        ⟨Rect.unit ![0, 0, 0, 0] ![1, 1, 512, 256] inb_S1x4x512x256_S1x1x512x256_0_0_0_0, k0_pay8 (F := Ideal) R (k0_pay7 A B) g⟩]
      = keyBlock (k0_pay4 (F := Ideal) A B) R g := by
  funext y
  refine View.canon_apply_of_pieces (keyBlock (k0_pay4 (F := Ideal) A B) R g) _ ?_ y (View.cover_of_tiledL (s := S1x4x512x256) _ S1x1x512x256.size (by sl_kernel_rfl) y)
  intro p hp x
  simp only [List.mem_cons, List.not_mem_nil, or_false] at hp
  rcases hp with rfl | rfl | rfl | rfl
  · exact key_piece (k0_pay4 (F := Ideal) A B) R g 3 768 rfl slices_S512x1024_o0_768_S512x256 inb_S1x4x512x256_S1x1x512x256_0_3_0_0 x
  · exact key_piece (k0_pay4 (F := Ideal) A B) R g 2 512 rfl slices_S512x1024_o0_512_S512x256 inb_S1x4x512x256_S1x1x512x256_0_2_0_0 x
  · exact key_piece (k0_pay4 (F := Ideal) A B) R g 1 256 rfl slices_S512x1024_o0_256_S512x256 inb_S1x4x512x256_S1x1x512x256_0_1_0_0 x
  · exact key_piece (k0_pay4 (F := Ideal) A B) R g 0 0 rfl slices_S512x1024_o0_0_S512x256 inb_S1x4x512x256_S1x1x512x256_0_0_0_0 x

/-- The four stores of values leave the block. -/
theorem values_canon (A : Vec Ideal S512x512 .bf16) (B : Vec Ideal S512x1024 .f32) :
    View.canon (Val := Elt Ideal) (s := S1x4x512x128) (e := .bf16)
      [⟨Rect.unit ![0, 3, 0, 0] ![1, 1, 512, 128] inb_S1x4x512x128_S1x1x512x128_0_3_0_0, k0_pay2 (F := Ideal) (k0_pay17 (k0_pay4 A B))⟩,
        ⟨Rect.unit ![0, 2, 0, 0] ![1, 1, 512, 128] inb_S1x4x512x128_S1x1x512x128_0_2_0_0, k0_pay16 (F := Ideal) (k0_pay4 A B)⟩,
        ⟨Rect.unit ![0, 1, 0, 0] ![1, 1, 512, 128] inb_S1x4x512x128_S1x1x512x128_0_1_0_0, k0_pay13 (F := Ideal) (k0_pay10 (k0_pay4 A B))⟩,
        ⟨Rect.unit ![0, 0, 0, 0] ![1, 1, 512, 128] inb_S1x4x512x128_S1x1x512x128_0_0_0_0, k0_pay9 (F := Ideal) (k0_pay6 A B)⟩]
      = valueBlock (k0_pay4 (F := Ideal) A B) := by
  funext y
  refine View.canon_apply_of_pieces (valueBlock (k0_pay4 (F := Ideal) A B)) _ ?_ y (View.cover_of_tiledL (s := S1x4x512x128) _ S1x1x512x128.size (by sl_kernel_rfl) y)
  intro p hp x
  simp only [List.mem_cons, List.not_mem_nil, or_false] at hp
  rcases hp with rfl | rfl | rfl | rfl
  · exact value_piece (k0_pay4 (F := Ideal) A B) 3 768 rfl slices_S512x1024_o0_768_S512x256 inb_S1x4x512x128_S1x1x512x128_0_3_0_0 x
  · exact value_piece (k0_pay4 (F := Ideal) A B) 2 512 rfl slices_S512x1024_o0_512_S512x256 inb_S1x4x512x128_S1x1x512x128_0_2_0_0 x
  · exact value_piece (k0_pay4 (F := Ideal) A B) 1 256 rfl slices_S512x1024_o0_256_S512x256 inb_S1x4x512x128_S1x1x512x128_0_1_0_0 x
  · exact value_piece (k0_pay4 (F := Ideal) A B) 0 0 rfl slices_S512x1024_o0_0_S512x256 inb_S1x4x512x128_S1x1x512x128_0_0_0_0 x

/-! ## The arrays when the grid starts -/

variable (m : (ℓ : Loc nD τ sig) → Buf (Elt Ideal) ℓ) (c : Dev nD)

abbrev rowsIn : (⟨S8192x1152, .f32⟩ : BufTy).Contents (Elt Ideal) := m ((c : Thread nD τ).loc main_arg0)
abbrev gainIn : (⟨S512, .f32⟩ : BufTy).Contents (Elt Ideal) := m ((c : Thread nD τ).loc main_arg1)
abbrev weightIn : (⟨S512x4096, .f32⟩ : BufTy).Contents (Elt Ideal) := m ((c : Thread nD τ).loc main_arg2)
abbrev keyGain : (⟨S128, .f32⟩ : BufTy).Contents (Elt Ideal) := m ((c : Thread nD τ).loc main_arg3)
abbrev posGain : (⟨S1x128, .f32⟩ : BufTy).Contents (Elt Ideal) := m ((c : Thread nD τ).loc main_arg4)
abbrev angles : (⟨S8192x128, .f32⟩ : BufTy).Contents (Elt Ideal) := m ((c : Thread nD τ).loc main_arg5)

/-- The references the host operations write, in order. -/
abbrev wr : List (Ref sig .tc) := [main_v0, main_v1]

theorem writes_eq : (hostOps0 (F := Ideal)).map HloOp.writes = wr.map fun w => {Proc.devRef (τ := τ) .tc w} := rfl

/-- The rows' gain as a row. -/
theorem V_gain (k : Fin 512) : V m c main_v0 (ix2 (0 : Fin 1) k) = gainIn m c (ix1 k) := by
  have h := (HostLine.written (ops := hostOps0) (W := wr) writes_eq (fun b => m (c, b)) 0 (y := main_v0) rfl (by decide)).trans
    (StableHlo.reshape_result main_arg1 main_v0 rfl shapeCasts_S512_S1x512 _ _ _)
  refine (congrFun h _).trans (Eq.trans (shapeCast_apply _ shapeCasts_S512_S1x512 (ix2 (0 : Fin 1) k) (ix1 k) (by
    rw [Shape.rowMajor_val_one, Shape.rowMajor_val_two]
    show k.val = 0 * 512 + k.val
    omega)) ?_)
  exact (congrFun (HostLine.settled (ops := hostOps0) (W := wr) writes_eq (fun b => m (c, b)) 0 (x := main_arg1) (by decide)) _).trans (congrFun (V_main_arg1 m c) (ix1 k))

/-- The keys' gain as a row. -/
theorem V_keyGain (k : Fin 128) : V m c main_v1 (ix2 (0 : Fin 1) k) = keyGain m c (ix1 k) := by
  have h := (HostLine.written (ops := hostOps0) (W := wr) writes_eq (fun b => m (c, b)) 1 (y := main_v1) rfl (by decide)).trans
    (StableHlo.reshape_result main_arg3 main_v1 rfl shapeCasts_S128_S1x128 _ _ _)
  refine (congrFun h _).trans (Eq.trans (shapeCast_apply _ shapeCasts_S128_S1x128 (ix2 (0 : Fin 1) k) (ix1 k) (by
    rw [Shape.rowMajor_val_one, Shape.rowMajor_val_two]
    show k.val = 0 * 128 + k.val
    omega)) ?_)
  exact (congrFun (HostLine.settled (ops := hostOps0) (W := wr) writes_eq (fun b => m (c, b)) 1 (x := main_arg3) (by decide)) _).trans (congrFun (V_main_arg3 m c) (ix1 k))

/-! ## The blocks -/

/-- The grid's points in order: a tile of rows, a group of four heads. -/
theorem index0 : ∀ t : Fin grid0.N, cc0_transform_0 (grid0.coords t) = ![t.val / 4, 1] := by decide +kernel
theorem index1 : ∀ t : Fin grid0.N, cc0_transform_1 (grid0.coords t) = ![t.val / 4, 8] := by decide +kernel
theorem index2 : ∀ t : Fin grid0.N, cc0_transform_2 (grid0.coords t) = ![0, 0] := by decide +kernel
theorem index3 : ∀ t : Fin grid0.N, cc0_transform_3 (grid0.coords t) = ![0, t.val % 4] := by decide +kernel
theorem index4 : ∀ t : Fin grid0.N, cc0_transform_4 (grid0.coords t) = ![0, 0] := by decide +kernel
theorem index5 : ∀ t : Fin grid0.N, cc0_transform_5 (grid0.coords t) = ![0, 0] := by decide +kernel
theorem index6 : ∀ t : Fin grid0.N, cc0_transform_6 (grid0.coords t) = ![t.val / 4, 0] := by decide +kernel
theorem index7 : ∀ t : Fin grid0.N, cc0_transform_7 (grid0.coords t) = ![t.val / 32, t.val % 4, t.val / 4 % 8, 0] := by decide +kernel
theorem index8 : ∀ t : Fin grid0.N, cc0_transform_8 (grid0.coords t) = ![t.val / 32, t.val % 4, t.val / 4 % 8, 0] := by decide +kernel

section Blocks
variable (t : Fin cfg0.N)

/-- An entry of the compressed rows' tile. -/
theorem rows_apply (x d : Fin 512) (r : Fin 8192) (hr : r.val = 512 * (t.val / 4) + x.val) : X0_0 m c t (ix2 x d) = rowsIn m c (ix2 r ⟨512 + d.val, by omega⟩) := by
  unfold X0_0 Pipeline.Window.fill
  rw [dif_pos (moved0_0 t (ix2 x d))]
  refine Eq.trans (b := V m c main_arg0 (((cfg0.win 0).blk t).view.emb _)) rfl ?_
  refine (congrArg (V m c main_arg0) (funext fun a => Fin.ext ?_)).trans (congrFun (V_main_arg0 m c) (ix2 r ⟨512 + d.val, by omega⟩))
  show cc0_transform_0 (grid0.coords t) a * S512x512.size a + 1 * (ix2 x d a).val = _
  rw [index0 t]
  match a with
  | ⟨0, _⟩ => show t.val / 4 * 512 + 1 * x.val = r.val; omega
  | ⟨1, _⟩ => show 1 * 512 + 1 * d.val = 512 + d.val; omega

/-- An entry of the position's tile. -/
theorem pos_apply (x : Fin 512) (d : Fin 128) (r : Fin 8192) (hr : r.val = 512 * (t.val / 4) + x.val) : iblk m c 1 t (ix2 x d) = rowsIn m c (ix2 r ⟨1024 + d.val, by omega⟩) := by
  refine Eq.trans (b := V m c main_arg0 (((cfg0.win 1).blk t).view.emb (ix2 x d))) rfl ?_
  refine (congrArg (V m c main_arg0) (funext fun a => Fin.ext ?_)).trans (congrFun (V_main_arg0 m c) (ix2 r ⟨1024 + d.val, by omega⟩))
  show cc0_transform_1 (grid0.coords t) a * S512x128.size a + 1 * (ix2 x d a).val = _
  rw [index1 t]
  match a with
  | ⟨0, _⟩ => show t.val / 4 * 512 + 1 * x.val = r.val; omega
  | ⟨1, _⟩ => show 8 * 128 + 1 * d.val = 1024 + d.val; omega

theorem gain_apply (d : Fin 512) : iblk m c 2 t (ix2 (0 : Fin 1) d) = gainIn m c (ix1 d) := by
  refine Eq.trans (b := V m c main_v0 (((cfg0.win 2).blk t).view.emb (ix2 (0 : Fin 1) d))) rfl ?_
  refine (congrArg (V m c main_v0) (funext fun a => Fin.ext ?_)).trans (V_gain m c d)
  show cc0_transform_2 (grid0.coords t) a * S1x512.size a + 1 * (ix2 (0 : Fin 1) d a).val = _
  rw [index2 t]
  match a with
  | ⟨0, _⟩ => rfl
  | ⟨1, _⟩ => show 0 * 512 + 1 * d.val = d.val; omega

/-- An entry of the weight's block. -/
theorem weight_apply (d : Fin 512) (l : Fin 1024) (k : Fin 4096) (hk : k.val = 1024 * (t.val % 4) + l.val) : iblk m c 3 t (ix2 d l) = weightIn m c (ix2 d k) := by
  refine Eq.trans (b := V m c main_arg2 (((cfg0.win 3).blk t).view.emb (ix2 d l))) rfl ?_
  refine (congrArg (V m c main_arg2) (funext fun a => Fin.ext ?_)).trans (congrFun (V_main_arg2 m c) (ix2 d k))
  show cc0_transform_3 (grid0.coords t) a * S512x1024.size a + 1 * (ix2 d l a).val = _
  rw [index3 t]
  match a with
  | ⟨0, _⟩ => show 0 * 512 + 1 * d.val = d.val; omega
  | ⟨1, _⟩ => show t.val % 4 * 1024 + 1 * l.val = k.val; omega

theorem keyGain_apply (d : Fin 128) : iblk m c 4 t (ix2 (0 : Fin 1) d) = keyGain m c (ix1 d) := by
  refine Eq.trans (b := V m c main_v1 (((cfg0.win 4).blk t).view.emb (ix2 (0 : Fin 1) d))) rfl ?_
  refine (congrArg (V m c main_v1) (funext fun a => Fin.ext ?_)).trans (V_keyGain m c d)
  show cc0_transform_4 (grid0.coords t) a * S1x128.size a + 1 * (ix2 (0 : Fin 1) d a).val = _
  rw [index4 t]
  match a with
  | ⟨0, _⟩ => rfl
  | ⟨1, _⟩ => show 0 * 128 + 1 * d.val = d.val; omega

theorem posGain_apply (d : Fin 128) : iblk m c 5 t (ix2 (0 : Fin 1) d) = posGain m c (ix2 0 d) := by
  refine Eq.trans (b := V m c main_arg4 (((cfg0.win 5).blk t).view.emb (ix2 (0 : Fin 1) d))) rfl ?_
  refine (congrArg (V m c main_arg4) (funext fun a => Fin.ext ?_)).trans (congrFun (V_main_arg4 m c) (ix2 0 d))
  show cc0_transform_5 (grid0.coords t) a * S1x128.size a + 1 * (ix2 (0 : Fin 1) d a).val = _
  rw [index5 t]
  match a with
  | ⟨0, _⟩ => rfl
  | ⟨1, _⟩ => show 0 * 128 + 1 * d.val = d.val; omega

/-- An entry of the angles' tile. -/
theorem angles_apply (x : Fin 512) (d : Fin 128) (r : Fin 8192) (hr : r.val = 512 * (t.val / 4) + x.val) : iblk m c 6 t (ix2 x d) = angles m c (ix2 r d) := by
  refine Eq.trans (b := V m c main_arg5 (((cfg0.win 6).blk t).view.emb (ix2 x d))) rfl ?_
  refine (congrArg (V m c main_arg5) (funext fun a => Fin.ext ?_)).trans (congrFun (V_main_arg5 m c) (ix2 r d))
  show cc0_transform_6 (grid0.coords t) a * S512x128.size a + 1 * (ix2 x d a).val = _
  rw [index6 t]
  match a with
  | ⟨0, _⟩ => show t.val / 4 * 512 + 1 * x.val = r.val; omega
  | ⟨1, _⟩ => show 0 * 128 + 1 * d.val = d.val; omega

/-- Where a key's entry is in the array. -/
theorem key_emb (e : Fin 4) (x : Fin 512) (d : Fin 256) (b : Fin 2) (h : Fin 16) (s : Fin 4096) (hb : b.val = t.val / 32) (hh : h.val = 4 * (t.val % 4) + e.val)
    (hs : s.val = 512 * (t.val / 4 % 8) + x.val) : ((cfg0.win 7).blk t).view.emb (ix4 0 e x d) = ix4 b h s d := by
  refine funext fun a => Fin.ext ?_
  show cc0_transform_7 (grid0.coords t) a * S1x4x512x256.size a + 1 * (ix4 (0 : Fin 1) e x d a).val = _
  rw [index7 t]
  match a with
  | ⟨0, _⟩ => show t.val / 32 * 1 + 1 * 0 = b.val; omega
  | ⟨1, _⟩ => show t.val % 4 * 4 + 1 * e.val = h.val; omega
  | ⟨2, _⟩ => show t.val / 4 % 8 * 512 + 1 * x.val = s.val; omega
  | ⟨3, _⟩ => show 0 * 256 + 1 * d.val = d.val; omega

/-- Where a value's entry is in the array. -/
theorem value_emb (e : Fin 4) (x : Fin 512) (d : Fin 128) (b : Fin 2) (h : Fin 16) (s : Fin 4096) (hb : b.val = t.val / 32) (hh : h.val = 4 * (t.val % 4) + e.val)
    (hs : s.val = 512 * (t.val / 4 % 8) + x.val) : ((cfg0.win 8).blk t).view.emb (ix4 0 e x d) = ix4 b h s d := by
  refine funext fun a => Fin.ext ?_
  show cc0_transform_8 (grid0.coords t) a * S1x4x512x128.size a + 1 * (ix4 (0 : Fin 1) e x d a).val = _
  rw [index8 t]
  match a with
  | ⟨0, _⟩ => show t.val / 32 * 1 + 1 * 0 = b.val; omega
  | ⟨1, _⟩ => show t.val % 4 * 4 + 1 * e.val = h.val; omega
  | ⟨2, _⟩ => show t.val / 4 % 8 * 512 + 1 * x.val = s.val; omega
  | ⟨3, _⟩ => show 0 * 128 + 1 * d.val = d.val; omega
end Blocks

/-! ## The scratch, and the points -/

/-- A normalized entry of the compressed rows. -/
def normed (X : (⟨S8192x1152, .f32⟩ : BufTy).Contents (Elt Ideal)) (G : (⟨S512, .f32⟩ : BufTy).Contents (Elt Ideal)) (r : Fin 8192) (k : Fin 512) : EReal :=
  X (ix2 r ⟨512 + k.val, by omega⟩)
    * scaleOf 0x44000000#32 (∑ j : Fin 512, (X (ix2 r ⟨512 + j.val, by omega⟩) * X (ix2 r ⟨512 + j.val, by omega⟩) : EReal)) * G (ix1 k)

/-- An entry of the normalized rows' product with the weight. -/
def prodOf (X : (⟨S8192x1152, .f32⟩ : BufTy).Contents (Elt Ideal)) (G : (⟨S512, .f32⟩ : BufTy).Contents (Elt Ideal)) (W : (⟨S512x4096, .f32⟩ : BufTy).Contents (Elt Ideal))
    (r : Fin 8192) (l : Fin 4096) : EReal := ∑ k : Fin 512, normed X G r k * W (ix2 k l)

/-- The position's lanes of a row. -/
def posOf (X : (⟨S8192x1152, .f32⟩ : BufTy).Contents (Elt Ideal)) (gv : (⟨S1x128, .f32⟩ : BufTy).Contents (Elt Ideal)) (cs : (⟨S8192x128, .f32⟩ : BufTy).Contents (Elt Ideal))
    (r : Fin 8192) : Fin 128 → EReal :=
  ropeOf (fun d => X (ix2 r ⟨1024 + d.val, by omega⟩)) (fun d => cs (ix2 r d)) (fun d => gv (ix2 0 d))

/-- What the first point of a tile puts into the scratch. -/
theorem tile_apply (t : Fin cfg0.N) (x k : Fin 512) (r : Fin 8192) (hr : r.val = 512 * (t.val / 4) + x.val) :
    k0_pay3 (F := Ideal) (X0_0 m c t) (iblk m c 2 t) (ix2 x k) = normed (rowsIn m c) (gainIn m c) r k := by
  refine (norm_apply _ _ x k).trans ?_
  have hx := fun d => rows_apply m c t x d r hr
  exact congrArg₂ (fun a b : EReal => a * b) (congrArg₂ (fun a b : EReal => a * scaleOf 0x44000000#32 b) (hx k)
    (Finset.sum_congr rfl fun j _ => congrArg₂ (fun a b : EReal => a * b) (hx j) (hx j))) (gain_apply m c t k)

/-- After every point the scratch holds the normalized rows of its tile. -/
theorem scratch_apply : ∀ (n : ℕ) (hn : n < cfg0.N) (x k : Fin 512) (r : Fin 8192) (_ : r.val = 512 * (n / 4) + x.val),
    (outsAt0 m c n hn).2.2 (ix2 x k) = normed (rowsIn m c) (gainIn m c) r k := by
  intro n
  induction n with
  | zero =>
    intro hn x k r hr
    have e : (outsAt0 m c 0 hn).2.2 = k0_pay3 (F := Ideal) (X0_0 m c ⟨0, hn⟩) (iblk m c 2 ⟨0, hn⟩) := by
      rw [outsAt0_A m c ⟨0, hn⟩ rfl]
      frame_out
    rw [e]
    exact tile_apply m c ⟨0, hn⟩ x k r hr
  | succ n ih =>
    intro hn x k r hr
    by_cases h0 : (n + 1) % 4 = 0
    · have e : (outsAt0 m c (n + 1) hn).2.2 = k0_pay3 (F := Ideal) (X0_0 m c ⟨n + 1, hn⟩) (iblk m c 2 ⟨n + 1, hn⟩) := by
        rw [outsAt0_A m c ⟨n + 1, hn⟩ h0]
        frame_out
      rw [e]
      exact tile_apply m c ⟨n + 1, hn⟩ x k r hr
    · have e : (outsAt0 m c (n + 1) hn).2.2 = (outsAt0 m c n (Nat.lt_of_succ_lt hn)).2.2 := by
        rw [outsAt0_B m c ⟨n + 1, hn⟩ h0]
        rfl
      rw [e]
      exact ih _ x k r (by omega)

/-- What a point stores, of the scratch it works with. -/
theorem point_eq (t : Fin cfg0.N) : ∃ A : Vec Ideal S512x512 .bf16,
    (∀ (x k : Fin 512) (r : Fin 8192), r.val = 512 * (t.val / 4) + x.val → A (ix2 x k) = normed (rowsIn m c) (gainIn m c) r k)
      ∧ (outsAt0 m c t.val t.isLt).1 = keyBlock (k0_pay4 (F := Ideal) A (iblk m c 3 t)) (k0_pay5 (F := Ideal) (iblk m c 1 t) (iblk m c 6 t) (iblk m c 5 t)) (iblk m c 4 t)
      ∧ (outsAt0 m c t.val t.isLt).2.1 = valueBlock (k0_pay4 (F := Ideal) A (iblk m c 3 t)) := by
  by_cases h0 : t.val % 4 = 0
  · refine ⟨k0_pay3 (F := Ideal) (X0_0 m c t) (iblk m c 2 t), fun x k r hr => tile_apply m c t x k r hr, ?_, ?_⟩
    · rw [outsAt0_A m c t h0]
      frame_out
      exact keys_canon _ _ _ _
    · rw [outsAt0_A m c t h0]
      frame_out
      exact values_canon _ _
  · refine ⟨(outsAt0 m c (t.val - 1) (Nat.lt_of_le_of_lt (Nat.sub_le _ _) t.isLt)).2.2, fun x k r hr => scratch_apply m c (t.val - 1) _ x k r (by omega), ?_, ?_⟩
    · rw [outsAt0_B m c t h0]
      frame_out
      exact (keys_canon _ _ _ _).trans (congrArg (fun z => keyBlock (k0_pay4 (F := Ideal) z (iblk m c 3 t))
        (k0_pay5 (F := Ideal) (iblk m c 1 t) (iblk m c 6 t) (iblk m c 5 t)) (iblk m c 4 t)) ((Memref.isWhole_whole cc0_scratch0).read_unread _))
    · rw [outsAt0_B m c t h0]
      frame_out
      exact (values_canon _ _).trans (congrArg (fun z => valueBlock (k0_pay4 (F := Ideal) z (iblk m c 3 t))) ((Memref.isWhole_whole cc0_scratch0).read_unread _))

/-- An entry of a point's product. -/
theorem point_prod (t : Fin cfg0.N) (A : Vec Ideal S512x512 .bf16)
    (hA : ∀ (x k : Fin 512) (r : Fin 8192), r.val = 512 * (t.val / 4) + x.val → A (ix2 x k) = normed (rowsIn m c) (gainIn m c) r k)
    (x : Fin 512) (l : Fin 1024) (r : Fin 8192) (k : Fin 4096) (hr : r.val = 512 * (t.val / 4) + x.val) (hk : k.val = 1024 * (t.val % 4) + l.val) :
    k0_pay4 (F := Ideal) A (iblk m c 3 t) (ix2 x l) = prodOf (rowsIn m c) (gainIn m c) (weightIn m c) r k :=
  (product_apply _ _ x l).trans (Finset.sum_congr rfl fun d _ => congrArg₂ (fun a b : EReal => a * b) (hA x d r hr) (weight_apply m c t d l k hk))

/-! ## The arrays -/

/-- An entry of the keys. -/
theorem key_entry (b : Fin 2) (h : Fin 16) (s : Fin 4096) (d : Fin 256) :
    (dats m 0 c).arrAt 7 cfg0.N (ix4 b h s d)
      = laneOf (fun j => prodOf (rowsIn m c) (gainIn m c) (weightIn m c) ⟨4096 * b.val + s.val, by omega⟩ ⟨256 * h.val + j.val, by omega⟩) (fun j => keyGain m c (ix1 j))
        (posOf (rowsIn m c) (posGain m c) (angles m c) ⟨4096 * b.val + s.val, by omega⟩) d := by
  have hN : cfg0.N = 64 := N_0
  obtain ⟨t, et⟩ : ∃ t : Fin cfg0.N, t.val = 32 * b.val + 4 * (s.val / 512) + h.val / 4 := ⟨⟨32 * b.val + 4 * (s.val / 512) + h.val / 4, by rw [hN]; omega⟩, rfl⟩
  obtain ⟨x, ex⟩ : ∃ x : Fin 512, x.val = s.val % 512 := ⟨⟨s.val % 512, by omega⟩, rfl⟩
  obtain ⟨e, ee⟩ : ∃ e : Fin 4, e.val = h.val % 4 := ⟨⟨h.val % 4, by omega⟩, rfl⟩
  have hr : (⟨4096 * b.val + s.val, by omega⟩ : Fin 8192).val = 512 * (t.val / 4) + x.val := by show 4096 * b.val + s.val = _; omega
  have hf := (dats m 0 c).arrAt_emb_eq_flushed 7 Cert.Kernel6Ideal.Value.disjoint7 t (flush0_7 t) (ix4 0 e x d)
  refine (congrArg ((dats m 0 c).arrAt 7 cfg0.N) (key_emb t e x d b h s (by omega) (by omega) (by omega)).symm).trans (hf.trans ?_)
  refine (congrFun (Cert.Kernel6Ideal.Value.flushed7 m c t) (ix4 0 e x d)).trans ?_
  obtain ⟨A, hA, hk, -⟩ := point_eq m c t
  refine Eq.trans (b := (outsAt0 m c t.val t.isLt).1 (ix4 0 e x d)) rfl ((congrFun hk _).trans ?_)
  have e1 : (fun j : Fin 128 => k0_pay4 (F := Ideal) A (iblk m c 3 t) (ix2 x ⟨256 * e.val + j.val, by omega⟩))
      = fun j => prodOf (rowsIn m c) (gainIn m c) (weightIn m c) ⟨4096 * b.val + s.val, by omega⟩ ⟨256 * h.val + j.val, by omega⟩ :=
    funext fun j => point_prod m c t A hA x _ _ _ hr (by show 256 * h.val + j.val = 1024 * (t.val % 4) + (256 * e.val + j.val); omega)
  have e2 : (fun j : Fin 128 => iblk m c 4 t (ix2 (0 : Fin 1) j)) = fun j => keyGain m c (ix1 j) := funext fun j => keyGain_apply m c t j
  have e3 : (fun j : Fin 128 => k0_pay5 (F := Ideal) (iblk m c 1 t) (iblk m c 6 t) (iblk m c 5 t) (ix2 x j))
      = posOf (rowsIn m c) (posGain m c) (angles m c) ⟨4096 * b.val + s.val, by omega⟩ := funext fun j => by
    refine (rope_apply _ _ _ x j).trans ?_
    unfold posOf
    rw [show (fun d : Fin 128 => iblk m c 1 t (ix2 x d)) = _ from funext fun d => pos_apply m c t x d _ hr,
      show (fun d : Fin 128 => iblk m c 6 t (ix2 x d)) = _ from funext fun d => angles_apply m c t x d _ hr,
      show (fun d : Fin 128 => iblk m c 5 t (ix2 (0 : Fin 1) d)) = _ from funext fun d => posGain_apply m c t d]
  refine Eq.trans (b := laneOf (fun j : Fin 128 => k0_pay4 (F := Ideal) A (iblk m c 3 t) (ix2 x ⟨256 * e.val + j.val, by omega⟩)) (fun j : Fin 128 => iblk m c 4 t (ix2 (0 : Fin 1) j))
    (fun j : Fin 128 => k0_pay5 (F := Ideal) (iblk m c 1 t) (iblk m c 6 t) (iblk m c 5 t) (ix2 x j)) d) rfl ?_
  rw [e1, e2, e3]

/-- An entry of the values. -/
theorem value_entry (b : Fin 2) (h : Fin 16) (s : Fin 4096) (d : Fin 128) :
    (dats m 0 c).arrAt 8 cfg0.N (ix4 b h s d)
      = prodOf (rowsIn m c) (gainIn m c) (weightIn m c) ⟨4096 * b.val + s.val, by omega⟩ ⟨256 * h.val + 128 + d.val, by omega⟩ := by
  have hN : cfg0.N = 64 := N_0
  obtain ⟨t, et⟩ : ∃ t : Fin cfg0.N, t.val = 32 * b.val + 4 * (s.val / 512) + h.val / 4 := ⟨⟨32 * b.val + 4 * (s.val / 512) + h.val / 4, by rw [hN]; omega⟩, rfl⟩
  obtain ⟨x, ex⟩ : ∃ x : Fin 512, x.val = s.val % 512 := ⟨⟨s.val % 512, by omega⟩, rfl⟩
  obtain ⟨e, ee⟩ : ∃ e : Fin 4, e.val = h.val % 4 := ⟨⟨h.val % 4, by omega⟩, rfl⟩
  have hr : (⟨4096 * b.val + s.val, by omega⟩ : Fin 8192).val = 512 * (t.val / 4) + x.val := by show 4096 * b.val + s.val = _; omega
  have hf := (dats m 0 c).arrAt_emb_eq_flushed 8 Cert.Kernel6Ideal.Value.disjoint8 t (flush0_8 t) (ix4 0 e x d)
  refine (congrArg ((dats m 0 c).arrAt 8 cfg0.N) (value_emb t e x d b h s (by omega) (by omega) (by omega)).symm).trans (hf.trans ?_)
  refine (congrFun (Cert.Kernel6Ideal.Value.flushed8 m c t) (ix4 0 e x d)).trans ?_
  obtain ⟨A, hA, -, hv⟩ := point_eq m c t
  refine Eq.trans (b := (outsAt0 m c t.val t.isLt).2.1 (ix4 0 e x d)) rfl ((congrFun hv _).trans ?_)
  exact point_prod m c t A hA x _ _ _ hr (by show 256 * h.val + 128 + d.val = 1024 * (t.val % 4) + (256 * e.val + 128 + d.val); omega)

end Cert.Proof.Kv

end
-- ==== Proof.KvRef.lean ====
/-
  The reference's keys and values, entry by entry: the arrays'.
-/
module

public import proofs.«01_k».proof.Proof.KvVal
public import proofs.«01_k».proof.Proof.Gen.Reference6Ideal.Read

@[expose] public section

set_option maxRecDepth 16384

noncomputable section

namespace Cert.Proof.Kv

open Idealize.ShloMosaic Idealize.ShloMosaic.ValueIdx
open Idealize.ShloMosaic.TcCoe Idealize.SL.Sem
open Cert.Reference6Ideal Cert.Reference6Ideal.Gen Cert.Reference6Ideal.Read

variable (X : (⟨S8192x1152, .f32⟩ : BufTy).Contents (Elt Ideal)) (G : (⟨S512, .f32⟩ : BufTy).Contents (Elt Ideal)) (W : (⟨S512x4096, .f32⟩ : BufTy).Contents (Elt Ideal))
  (gk : (⟨S128, .f32⟩ : BufTy).Contents (Elt Ideal)) (gv : (⟨S1x128, .f32⟩ : BufTy).Contents (Elt Ideal)) (cs : (⟨S8192x128, .f32⟩ : BufTy).Contents (Elt Ideal))

/-- The reference normalizes the compressed rows the same. -/
theorem ref_normed (r : Fin 8192) (k : Fin 512) : val_main_v13 (F := Ideal) X G (ix2 r k) = normed X G r k := by
  have e0 : ∀ j : Fin 512, val_main_v0 (F := Ideal) X (ix2 r j) = X (ix2 r ⟨512 + j.val, by omega⟩) := fun j =>
    (val_main_v0_apply X _).trans (congrArg X (funext fun b => match b with | ⟨0, _⟩ => rfl | ⟨1, _⟩ => rfl))
  have e2 : val_main_v2 (F := Ideal) X (ix1 r) = ∑ j : Fin 512, (X (ix2 r ⟨512 + j.val, by omega⟩) * X (ix2 r ⟨512 + j.val, by omega⟩) : EReal) := by
    rw [val_main_v2_apply]
    refine (congrArg (fun z : EReal => z + _) (Ideal.ofBits_zero_f32)).trans ((zero_add _).trans (Finset.sum_congr rfl fun j _ => ?_))
    have ei : idx_main_v2 (ix1 r) j = ix2 r j := funext fun b => match b with | ⟨0, _⟩ => rfl | ⟨1, _⟩ => rfl
    rw [ei]
    exact congrArg₂ (fun a b : EReal => a * b) (e0 j) (e0 j)
  have e9 : val_main_v9 (F := Ideal) X (ix2 r k) = scaleOf 0x44000000#32 (∑ j : Fin 512, (X (ix2 r ⟨512 + j.val, by omega⟩) * X (ix2 r ⟨512 + j.val, by omega⟩) : EReal)) := by
    rw [val_main_v9_apply, ← e2, val_main_v8_apply, val_main_v7_apply, val_main_v5_apply, val_main_v3_apply, val_main_v4_apply, val_main_v6_apply]
    have ei : idx_main_v3 (idx_main_v9 (ix2 r k)) = ix1 r := funext fun b => match b with | ⟨0, _⟩ => rfl
    rw [ei]
    rfl
  have e12 : val_main_v12 (F := Ideal) G (ix2 r k) = G (ix1 k) := by
    rw [val_main_v12_apply, val_main_v11_apply]
    exact congrArg G (funext fun b => match b with | ⟨0, _⟩ => rfl)
  exact congrArg₂ (fun a b : EReal => a * b) (congrArg₂ (fun a b : EReal => a * b) (e0 k) e9) e12

theorem ref_rows (b : Fin 2) (s : Fin 4096) (k : Fin 512) : val_main_v14 (F := Ideal) X G (ix3 b s k) = normed X G ⟨4096 * b.val + s.val, by omega⟩ k := by
  rw [val_main_v14_apply, ← ref_normed]
  exact congrArg (val_main_v13 (F := Ideal) X G) (funext fun a => Fin.ext (match a with
    | ⟨0, _⟩ => by show ((b.val * 4096 + s.val) * 512 + k.val) / 512 = 4096 * b.val + s.val; omega
    | ⟨1, _⟩ => by show ((b.val * 4096 + s.val) * 512 + k.val) % 512 = k.val; omega))

/-- A head's first 128 columns of the product. -/
theorem ref_lo (b : Fin 2) (h : Fin 16) (s : Fin 4096) (d : Fin 128) :
    val_main_v18 (F := Ideal) X G W (ix4 b h s d) = prodOf X G W ⟨4096 * b.val + s.val, by omega⟩ ⟨256 * h.val + d.val, by omega⟩ := by
  rw [val_main_v18_apply, val_main_v17_apply]
  refine Finset.sum_congr rfl fun k _ => (mul_comm _ _).trans (congrArg₂ (fun a b : EReal => a * b) ?_ ?_)
  · refine Eq.trans (congrArg (val_main_v14 (F := Ideal) X G) (funext fun a => match a with | ⟨0, _⟩ => rfl | ⟨1, _⟩ => rfl | ⟨2, _⟩ => rfl)) (ref_rows X G b s k)
  · rw [val_main_v16_apply, val_main_v15_apply]
    exact congrArg W (funext fun a => Fin.ext (match a with
      | ⟨0, _⟩ => by show ((k.val * 16 + h.val) * 256 + d.val) / 4096 = k.val; omega
      | ⟨1, _⟩ => by show ((k.val * 16 + h.val) * 256 + d.val) % 4096 = 256 * h.val + d.val; omega))

/-- And its last 128. -/
theorem ref_hi (b : Fin 2) (h : Fin 16) (s : Fin 4096) (d : Fin 128) :
    val_main_v35 (F := Ideal) X G W (ix4 b h s d) = prodOf X G W ⟨4096 * b.val + s.val, by omega⟩ ⟨256 * h.val + 128 + d.val, by omega⟩ := by
  rw [val_main_v35_apply, val_main_v34_apply]
  refine Finset.sum_congr rfl fun k _ => (mul_comm _ _).trans (congrArg₂ (fun a b : EReal => a * b) ?_ ?_)
  · refine Eq.trans (congrArg (val_main_v14 (F := Ideal) X G) (funext fun a => match a with | ⟨0, _⟩ => rfl | ⟨1, _⟩ => rfl | ⟨2, _⟩ => rfl)) (ref_rows X G b s k)
  · rw [val_main_v33_apply, val_main_v32_apply]
    exact congrArg W (funext fun a => Fin.ext (match a with
      | ⟨0, _⟩ => by show ((k.val * 16 + h.val) * 256 + (128 + d.val)) / 4096 = k.val; omega
      | ⟨1, _⟩ => by show ((k.val * 16 + h.val) * 256 + (128 + d.val)) % 4096 = 256 * h.val + 128 + d.val; omega))

/-- A head's lanes without position. -/
theorem ref_key (b : Fin 2) (h : Fin 16) (s : Fin 4096) (d : Fin 128) :
    val_main_v31 (F := Ideal) X G W gk (ix4 b h s d)
      = keyOf (fun j => prodOf X G W ⟨4096 * b.val + s.val, by omega⟩ ⟨256 * h.val + j.val, by omega⟩) (gk (ix1 d)) d := by
  have e20 : val_main_v20 (F := Ideal) X G W (ix3 b h s) = ∑ j : Fin 128, (prodOf X G W ⟨4096 * b.val + s.val, by omega⟩ ⟨256 * h.val + j.val, by omega⟩
      * prodOf X G W ⟨4096 * b.val + s.val, by omega⟩ ⟨256 * h.val + j.val, by omega⟩ : EReal) := by
    rw [val_main_v20_apply]
    refine (congrArg (fun z : EReal => z + _) (Ideal.ofBits_zero_f32)).trans ((zero_add _).trans (Finset.sum_congr rfl fun j _ => ?_))
    have ei : idx_main_v20 (ix3 b h s) j = ix4 b h s j := funext fun a => match a with | ⟨0, _⟩ => rfl | ⟨1, _⟩ => rfl | ⟨2, _⟩ => rfl | ⟨3, _⟩ => rfl
    rw [ei]
    exact congrArg₂ (fun a b : EReal => a * b) (ref_lo X G W b h s j) (ref_lo X G W b h s j)
  have e27 : val_main_v27 (F := Ideal) X G W (ix4 b h s d) = scaleOf 0x43000000#32 (val_main_v20 (F := Ideal) X G W (ix3 b h s)) := by
    rw [val_main_v27_apply, val_main_v26_apply, val_main_v25_apply, val_main_v23_apply, val_main_v21_apply, val_main_v22_apply, val_main_v24_apply]
    have ei : idx_main_v21 (idx_main_v27 (ix4 b h s d)) = ix3 b h s := funext fun a => match a with | ⟨0, _⟩ => rfl | ⟨1, _⟩ => rfl | ⟨2, _⟩ => rfl
    rw [ei]
    rfl
  have e30 : val_main_v30 (F := Ideal) gk (ix4 b h s d) = gk (ix1 d) := by
    rw [val_main_v30_apply, val_main_v29_apply]
    exact congrArg gk (funext fun a => match a with | ⟨0, _⟩ => rfl)
  rw [e20] at e27
  exact congrArg₂ (fun a b : EReal => a * b) (congrArg₂ (fun a b : EReal => a * b) (ref_lo X G W b h s d) e27) e30

/-- The position's scale. -/
theorem ref_unit (r : Fin 8192) : val_main_v44 (F := Ideal) X (ix2 r 0)
    = scaleOf 0x42800000#32 (∑ j : Fin 64, (X (ix2 r ⟨1024 + j.val, by omega⟩) * X (ix2 r ⟨1024 + j.val, by omega⟩) : EReal)) := by
  have e38 : val_main_v38 (F := Ideal) X (ix1 r) = ∑ j : Fin 64, (X (ix2 r ⟨1024 + j.val, by omega⟩) * X (ix2 r ⟨1024 + j.val, by omega⟩) : EReal) := by
    rw [val_main_v38_apply]
    refine (congrArg (fun z : EReal => z + _) (Ideal.ofBits_zero_f32)).trans ((zero_add _).trans (Finset.sum_congr rfl fun j _ => ?_))
    have e : val_main_v36 (F := Ideal) X (idx_main_v38 (ix1 r) j) = X (ix2 r ⟨1024 + j.val, by omega⟩) :=
      (val_main_v36_apply X _).trans (congrArg X (funext fun b => match b with | ⟨0, _⟩ => rfl | ⟨1, _⟩ => rfl))
    exact congrArg₂ (fun a b : EReal => a * b) e e
  rw [← e38, val_main_v44_apply, val_main_v43_apply, val_main_v41_apply, val_main_v39_apply, val_main_v40_apply, val_main_v42_apply]
  have ei : idx_main_v39 (ix2 r 0) = ix1 r := funext fun b => match b with | ⟨0, _⟩ => rfl
  rw [ei]
  rfl

/-- The position's lanes. -/
theorem ref_pos (r : Fin 8192) (d : Fin 64) : val_main_v60 (F := Ideal) X gv cs (ix2 r d) = posOf X gv cs r (d.castLE (by decide)) := by
  have hd : (d.castLE (by decide) : Fin 128).val < 64 := d.isLt
  unfold posOf ropeOf
  rw [dif_pos hd]
  have u45 : val_main_v45 (F := Ideal) X (ix2 r d) = val_main_v44 (F := Ideal) X (ix2 r 0) :=
    (val_main_v45_apply X _).trans (congrArg (val_main_v44 (F := Ideal) X) (funext fun b => match b with | ⟨0, _⟩ => rfl | ⟨1, _⟩ => rfl))
  have u53 : val_main_v53 (F := Ideal) X (ix2 r d) = val_main_v44 (F := Ideal) X (ix2 r 0) :=
    (val_main_v53_apply X _).trans (congrArg (val_main_v44 (F := Ideal) X) (funext fun b => match b with | ⟨0, _⟩ => rfl | ⟨1, _⟩ => rfl))
  refine congrArg₂ (fun a b : EReal => a + b) ?_ ?_
  · refine congrArg₂ (fun a b : EReal => a * b) (congrArg₂ (fun a b : EReal => a * b) ?_ (u45.trans (ref_unit X r))) (congrArg₂ (fun a b : EReal => a * b) ?_ ?_)
    · exact (val_main_v36_apply X _).trans (congrArg X (funext fun b => match b with | ⟨0, _⟩ => rfl | ⟨1, _⟩ => rfl))
    · exact (val_main_v47_apply cs _).trans (congrArg cs (funext fun b => match b with | ⟨0, _⟩ => rfl | ⟨1, _⟩ => rfl))
    · exact (val_main_v49_apply gv _).trans ((val_main_v48_apply gv _).trans (congrArg gv (funext fun b => match b with | ⟨0, _⟩ => rfl | ⟨1, _⟩ => rfl)))
  · refine congrArg₂ (fun a b : EReal => a * b) (congrArg₂ (fun a b : EReal => a * b) ?_ (u53.trans (ref_unit X r))) (congrArg₂ (fun a b : EReal => a * b) ?_ ?_)
    · exact (val_main_v52_apply X _).trans (congrArg X (funext fun b => Fin.ext (match b with | ⟨0, _⟩ => rfl | ⟨1, _⟩ => by show 1088 + d.val = 1024 + (d.val + 64); omega)))
    · exact (val_main_v55_apply cs _).trans (congrArg cs (funext fun b => Fin.ext (match b with | ⟨0, _⟩ => rfl | ⟨1, _⟩ => by show 64 + d.val = d.val + 64; omega)))
    · exact (val_main_v57_apply gv _).trans ((val_main_v56_apply gv _).trans (congrArg gv (funext fun b => Fin.ext (match b with | ⟨0, _⟩ => rfl | ⟨1, _⟩ => by show 64 + d.val = d.val + 64; omega))))

/-- The reference's keys. -/
theorem ref_keys (b : Fin 2) (h : Fin 16) (s : Fin 4096) (d : Fin 256) :
    val_main_v65 (F := Ideal) X G W gk gv cs (ix4 b h s d)
      = laneOf (fun j => prodOf X G W ⟨4096 * b.val + s.val, by omega⟩ ⟨256 * h.val + j.val, by omega⟩) (fun j => gk (ix1 j)) (posOf X gv cs ⟨4096 * b.val + s.val, by omega⟩) d := by
  refine Eq.trans (b := val_main_v64 (F := Ideal) X G W gk gv cs (ix4 b h s d)) rfl ?_
  unfold val_main_v64 laneOf
  by_cases hd : d.val < 128
  · rw [dif_pos hd]
    refine (concatenate_apply_piece (t := S2x16x4096x256) 3 _ _ (ix4 b h s d) 0 (by simp) S2x16x4096x128 (val_main_v31 (F := Ideal) X G W gk) rfl rfl 0 rfl (ix4 b h s ⟨d.val, hd⟩)
      (fun a ha => match a, ha with
        | ⟨0, _⟩, _ => rfl
        | ⟨1, _⟩, _ => rfl
        | ⟨2, _⟩, _ => rfl
        | ⟨3, _⟩, ha => absurd rfl ha) (Nat.zero_add _)).trans ?_
    exact ref_key X G W gk b h s ⟨d.val, hd⟩
  · rw [dif_neg hd]
    by_cases hd' : d.val < 192
    · refine (concatenate_apply_piece (t := S2x16x4096x256) 3 _ _ (ix4 b h s d) 1 (by simp) S2x16x4096x64 (val_main_v62 (F := Ideal) X gv cs) rfl rfl 128 rfl
        (ix4 b h s ⟨d.val - 128, by omega⟩) (fun a ha => match a, ha with
          | ⟨0, _⟩, _ => rfl
          | ⟨1, _⟩, _ => rfl
          | ⟨2, _⟩, _ => rfl
          | ⟨3, _⟩, ha => absurd rfl ha) (show 128 + (d.val - 128) = d.val by omega)).trans ?_
      rw [val_main_v62_apply, val_main_v61_apply]
      refine Eq.trans (congrArg (val_main_v60 (F := Ideal) X gv cs) (funext fun a => Fin.ext ?_)) (ref_pos X gv cs ⟨4096 * b.val + s.val, by omega⟩ ⟨d.val - 128, by omega⟩)
      match a with
      | ⟨0, _⟩ => show (((b.val * 1 + 0) * 4096 + s.val) * 64 + (d.val - 128)) / 64 = 4096 * b.val + s.val; omega
      | ⟨1, _⟩ => show (((b.val * 1 + 0) * 4096 + s.val) * 64 + (d.val - 128)) % 64 = d.val - 128; omega
    · refine (concatenate_apply_piece (t := S2x16x4096x256) 3 _ _ (ix4 b h s d) 2 (by simp) S2x16x4096x64 (val_main_v63 (F := Ideal)) rfl rfl 192 rfl
        (ix4 b h s ⟨d.val - 192, by omega⟩) (fun a ha => match a, ha with
          | ⟨0, _⟩, _ => rfl
          | ⟨1, _⟩, _ => rfl
          | ⟨2, _⟩, _ => rfl
          | ⟨3, _⟩, ha => absurd rfl ha) (show 192 + (d.val - 192) = d.val by omega)).trans ?_
      rw [val_main_v63_apply]
      unfold posOf ropeOf
      rw [dif_neg (by show ¬(d.val - 128 < 64); omega)]
      exact Ideal.ofBits_zero_f32

variable (m : (ℓ : Loc nD τ Cert.Kernel6Ideal.sig) → Buf (Elt Ideal) ℓ) (c : Dev nD)

/-- The reference's keys of the same arguments are the array. -/
theorem keys_eq : val_main_v65 (F := Ideal) (rowsIn m c) (gainIn m c) (weightIn m c) (keyGain m c) (posGain m c) (angles m c)
    = (Cert.Kernel6Ideal.Gen.dats m 0 c).arrAt 7 Cert.Kernel6Ideal.cfg0.N := by
  funext i
  obtain ⟨b, h, s, d, rfl⟩ : ∃ (b : Fin 2) (h : Fin 16) (s : Fin 4096) (d : Fin 256), i = ix4 b h s d :=
    ⟨i 0, i 1, i 2, i 3, funext fun a => match a with | ⟨0, _⟩ => rfl | ⟨1, _⟩ => rfl | ⟨2, _⟩ => rfl | ⟨3, _⟩ => rfl⟩
  exact (ref_keys _ _ _ _ _ _ b h s d).trans (key_entry m c b h s d).symm

/-- And its values. -/
theorem values_eq : val_main_v66 (F := Ideal) (rowsIn m c) (gainIn m c) (weightIn m c)
    = (Cert.Kernel6Ideal.Gen.dats m 0 c).arrAt 8 Cert.Kernel6Ideal.cfg0.N := by
  funext i
  obtain ⟨b, h, s, d, rfl⟩ : ∃ (b : Fin 2) (h : Fin 16) (s : Fin 4096) (d : Fin 128), i = ix4 b h s d :=
    ⟨i 0, i 1, i 2, i 3, funext fun a => match a with | ⟨0, _⟩ => rfl | ⟨1, _⟩ => rfl | ⟨2, _⟩ => rfl | ⟨3, _⟩ => rfl⟩
  exact (ref_hi _ _ _ b h s d).trans (value_entry m c b h s d).symm

end Cert.Proof.Kv

end
-- ==== Proof.DnPre.lean ====
/-
  What the precondition of the expert-weight stream says: its plan is one the kernel can run.
-/
module

public import proofs.«01_k».proof.Proof.DnFrame
public import Idealize.ShloMosaic.Lib.WordCmp
public import Idealize.ShloMosaic.Lib.ValueLayout
public import Idealize.ShloMosaic.Lib.Pipeline.Value

@[expose] public section

set_option maxRecDepth 16384

noncomputable section

namespace Cert.Proof.Dn

open Cert.Kernel3Ideal Cert.Kernel3Ideal.Gen
open Idealize.ShloMosaic Idealize.ShloMosaic.ValueIdx

/-- A word of the plan. -/
abbrev wd (P : S8x72.Idx → BitVec 32) (r t : ℕ) : BitVec 32 := P (ix2 (f8 r) (⟨t % 72, Nat.mod_lt _ (by decide)⟩ : Fin 72))

/-- A row of the plan, as the predicate takes it. -/
theorem row_eq (P : S8x72.Idx → BitVec 32) (k : ℕ) (h : S8x72.Slices ![k, 0] Cert.Pre_grouped_down.S1x72) (hc : Cert.Pre_grouped_down.S1x72.ShapeCasts Cert.Pre_grouped_down.S72) :
    shapeCast Cert.Pre_grouped_down.S72 (extractStridedSlice Cert.Pre_grouped_down.S1x72 ![k, 0] P h) hc = fun i => wd P k (i 0).val := by
  refine funext fun i => ?_
  have hi : i = ix1 (i 0 : Fin 72) := funext fun a => by fin_cases a; rfl
  rw [hi]
  refine (shapeCast_1a_a_apply (a := 72) _ hc (i 0 : Fin 72)).trans ?_
  have hk : k + 1 ≤ 8 := h.2 0
  refine congrArg P (funext fun a => Fin.ext ?_)
  have h72 : (i 0).val < 72 := (i 0).isLt
  match a with
  | ⟨0, _⟩ => show k + 0 = k % 8; omega
  | ⟨1, _⟩ => show 0 + (i 0).val = (i 0).val % 72; omega

/-- The plan rolled by one tile. -/
theorem roll_eq {F : FTy → Type} [FloatOps F] [hp : Cert.Pre_grouped_down.Facts] (P : S8x72.Idx → BitVec 32) :
    Cert.Pre_grouped_down.fn_roll_static (F := F) P = fun i => wd P (i 0).val ((i 1).val + 1) := by
  refine funext fun i => ?_
  have h72 : (i 1).val < 72 := (i 1).isLt
  have h8 : (i 0).val < 8 := (i 0).isLt
  unfold Cert.Pre_grouped_down.fn_roll_static
  by_cases hl : (i 1).val < 71
  · refine (concatenate_pair_apply_left (s₁ := Cert.Pre_grouped_down.S8x71) (s₂ := Cert.Pre_grouped_down.S8x1) 1 _ _ _ i rfl (ix2 (i 0 : Fin 8) (⟨(i 1).val, hl⟩ : Fin 71)) ?_).trans ?_
    · intro a; fin_cases a <;> rfl
    · refine congrArg P (funext fun a => Fin.ext ?_)
      match a with
      | ⟨0, _⟩ => show 0 + (i 0).val = (i 0).val % 8; omega
      | ⟨1, _⟩ => show 1 + (i 1).val = ((i 1).val + 1) % 72; omega
  · refine (concatenate_pair_apply_right (s₁ := Cert.Pre_grouped_down.S8x71) (s₂ := Cert.Pre_grouped_down.S8x1) 1 _ _ _ i rfl rfl (ix2 (i 0 : Fin 8) (0 : Fin 1)) ?_ ?_).trans ?_
    · intro a ha; fin_cases a
      · rfl
      · exact absurd rfl ha
    · show 0 + 71 = (i 1).val; omega
    · refine congrArg P (funext fun a => Fin.ext ?_)
      match a with
      | ⟨0, _⟩ => show 0 + (i 0).val = (i 0).val % 8; omega
      | ⟨1, _⟩ => show 0 + 0 = ((i 1).val + 1) % 72; omega

/-- The one entry of the count. -/
theorem count_eq {α : Type} (N : S1.Idx → α) (hc : S1.ShapeCasts Cert.Pre_grouped_down.S_) :
    shapeCast Cert.Pre_grouped_down.S_ N hc = fun _ => N (ix1 0) :=
  funext fun i => congrArg N (funext fun a => by fin_cases a; exact Subsingleton.elim (α := Fin 1) _ _)

/-- The first word of the plan. -/
theorem origin_eq (P : S8x72.Idx → BitVec 32) (h : S8x72.Slices ![0, 0] Cert.Pre_grouped_down.S1x1) (hc : Cert.Pre_grouped_down.S1x1.ShapeCasts Cert.Pre_grouped_down.S_) :
    shapeCast Cert.Pre_grouped_down.S_ (extractStridedSlice Cert.Pre_grouped_down.S1x1 ![0, 0] P h) hc = fun _ => wd P 0 0 := by
  refine funext fun i => ?_
  refine (shapeCast_apply _ hc i (ix2 (0 : Fin 1) (0 : Fin 1)) (Subsingleton.elim (α := Fin 1) _ _ |> congrArg Fin.val)).trans ?_
  refine congrArg P (funext fun a => ?_)
  fin_cases a <;> rfl

/-- The first entry of a row. -/
theorem first_eq {α : Type} (f : Cert.Pre_grouped_down.S72.Idx → α) (h : Cert.Pre_grouped_down.S72.Slices ![0] Cert.Pre_grouped_down.S1) :
    extractStridedSlice Cert.Pre_grouped_down.S1 ![0] f h (ix1 0) = f (ix1 0) :=
  congrArg f (funext fun a => by fin_cases a; rfl)

/-- A word of the rolled plan. -/
theorem wd_roll (P : S8x72.Idx → BitVec 32) (k t : ℕ) :
    wd (fun i => wd P (i 0).val ((i 1).val + 1)) k t = wd P k (t + 1) := by
  refine congrArg P (funext fun a => Fin.ext ?_)
  match a with
  | ⟨0, _⟩ => show k % 8 % 8 = k % 8; omega
  | ⟨1, _⟩ => show (t % 72 + 1) % 72 = (t + 1) % 72; omega

/-- A signed reading, from the unsigned one. -/
theorem int_cases (x : BitVec 32) : x.toNat < 4294967296 ∧ ((x.toNat < 2147483648 ∧ x.toInt = x.toNat) ∨ (2147483648 ≤ x.toNat ∧ x.toInt = (x.toNat : ℤ) - 4294967296)) := by
  have h := x.isLt
  have := BitVec.toInt_eq_toNat_cond x
  split at this <;> omega

/-- One more than a small word. -/
theorem succ_nat {x y : BitVec 32} (h : x = IntOp.addi y 1#32) (hy : y.toNat < 8) : x.toNat = y.toNat + 1 := by
  rw [h]; simp only [IntOp.addi, BitVec.toNat_add, BitVec.toNat_ofNat]; omega

theorem c0 : (0#32).toInt = 0 := rfl
theorem c1 : (1#32).toInt = 1 := rfl
theorem c8 : (8#32).toInt = 8 := rfl
theorem c11 : (11#32).toInt = 11 := rfl
theorem c72 : (72#32).toInt = 72 := rfl

/-- A tile's number, and the next one's, signed. -/
theorem tile_int {t : ℕ} (ht : t < 72) : (BitVec.ofNat 32 t).toInt = t := by
  rw [BitVec.toInt_eq_toNat_of_lt (by simp; omega)]; simp; omega
theorem tile_succ (t : ℕ) : IntOp.addi (BitVec.ofNat 32 t) 1#32 = BitVec.ofNat 32 (t + 1) := by
  simp [IntOp.addi, BitVec.ofNat_add]

/-- What the predicate says at one tile. -/
structure AtTile (q : ℕ → ℕ → ℕ) (nu t : ℕ) : Prop where
  nu1 : 1 ≤ nu
  nu72 : nu ≤ 72
  e8 : q 0 t < 8
  nx8 : q 4 t < 8
  lohi : t < nu → q 2 t ≤ q 3 t ∧ q 3 t ≤ 11
  start : t = 0 → q 1 t = 1 ∧ q 6 t = 0
  filo : t < nu → q 1 t = 1 → q 2 t = 0
  next : t + 1 < nu → (q 1 (t + 1) = 1 ∧ q 3 t = 11 ∧ q 0 (t + 1) = q 4 t ∧ q 5 t ≠ 1 ∧ q 6 (t + 1) = q 6 t + 1)
    ∨ (q 1 (t + 1) ≠ 1 ∧ q 0 (t + 1) = q 0 t ∧ q 4 (t + 1) = q 4 t ∧ q 5 (t + 1) = q 5 t ∧ q 6 (t + 1) = q 6 t ∧ q 2 (t + 1) = q 3 t)
  last : t + 1 = nu → q 3 t = 11 ∧ q 5 t = 1 ∧ q 4 t = q 0 0 ∧ q 6 t + 1 = q 7 0

theorem small {x : BitVec 32} (h0 : 0 ≤ x.toInt) (h8 : x.toInt < 8) : x.toNat < 8 := by
  have := int_cases x; omega

theorem pre_at {F : FTy → Type} [FloatOps F] [hp : Cert.Pre_grouped_down.Facts] (P : S8x72.Idx → BitVec 32) (N : S1.Idx → BitVec 32) (X W)
    (h : Cert.Pre_grouped_down.fn (F := F) P N X W = fun _ => 1#1) (t : ℕ) (ht : t < 72) : AtTile (qOf P) (nuOf N) t := by
  have e := congrFun h (ix1 (⟨t, ht⟩ : Fin 72))
  simp only [Cert.Pre_grouped_down.fn, Cert.Pre_grouped_down.fn_part1, Cert.Pre_grouped_down.fn_part2, Cert.Pre_grouped_down.fn_part3, Cert.Pre_grouped_down.fn_part4,
    Cert.Pre_grouped_down.fn_part5, Cert.Pre_grouped_down.fn_part6, Cert.Pre_grouped_down.fn_part7, row_eq, roll_eq, count_eq, origin_eq, first_eq, andi, ori, cmpi, addi,
    broadcastInDim, constantI, iotaInDim, IntOp.andi_eq_one, IntOp.ori_eq_one, IntOp.cmpi_eq, IntOp.cmpi_ne, IntOp.cmpi_sge, IntOp.cmpi_sle, IntOp.cmpi_slt,
    IntOp.cmpi_sgt] at e
  obtain ⟨⟨⟨⟨⟨⟨hn, ⟨he, hx0⟩, hx8⟩, hch⟩, hst⟩, hop⟩, hstep⟩, hend⟩ := e
  rw [tile_succ] at hstep hend
  simp only [wd_roll] at hstep
  simp only [tile_int ht, c0, c1, c8, c11, c72] at hn he hx0 hx8 hch hst hop hstep hend
  have hN : (N (ix1 0)).toInt = nuOf N := by have := int_cases (N (ix1 0)); unfold nuOf; omega
  rw [hN] at hn hch hop hstep
  have hq : ∀ r s, (wd P r s).toNat = qOf P r s := fun _ _ => rfl
  have heq : ∀ {r s r' s'}, wd P r s = wd P r' s' → qOf P r s = qOf P r' s' := fun h => congrArg BitVec.toNat h
  have hlit : ∀ {r s} {k : ℕ}, k < 4294967296 → wd P r s = BitVec.ofNat 32 k → qOf P r s = k := fun hk h => by
    rw [← hq, h, BitVec.toNat_ofNat]; omega
  have hne : ∀ {r s}, wd P r s ≠ 1#32 → qOf P r s ≠ 1 := fun h h' => h (BitVec.eq_of_toNat_eq h')
  have h1 : ∀ {r s}, qOf P r s = 1 → wd P r s = 1#32 := fun h => BitVec.eq_of_toNat_eq h
  refine ⟨by omega, by omega, small he.1 he.2, small hx0 hx8, fun hu => ?_, fun h0 => ?_, fun hu hf => ?_, fun hu => ?_, fun hu => ?_⟩
  · have a2 := int_cases (wd P 2 t)
    have a3 := int_cases (wd P 3 t)
    rw [hq] at a2 a3
    omega
  · rcases hst with h | h
    · omega
    · exact ⟨hlit (by omega) h.1, hlit (by omega) h.2⟩
  · rcases hop with (h | h) | h
    · omega
    · exact absurd (h1 hf) h
    · exact hlit (by omega) h
  · rcases hstep with (h | h) | h
    · rw [tile_int (by omega)] at h; omega
    · obtain ⟨⟨⟨⟨⟨⟨h1, h3⟩, h0⟩, h5⟩, h6⟩, g0⟩, g8⟩ := h
      exact .inl ⟨hlit (by omega) h1, hlit (by omega) h3, heq h0, hne h5, succ_nat h6 (small g0 g8)⟩
    · obtain ⟨⟨⟨⟨⟨h1, h0⟩, h4⟩, h5⟩, h6⟩, h2⟩ := h
      exact .inr ⟨hne h1, heq h0, heq h4, heq h5, heq h6, heq h2⟩
  · rcases hend with h | h
    · refine absurd (BitVec.eq_of_toNat_eq ?_) h
      rw [BitVec.toNat_ofNat, hu]; exact Nat.mod_eq_of_lt (by omega)
    · obtain ⟨⟨⟨⟨⟨h3, h5⟩, h4⟩, g0⟩, g8⟩, h7⟩ := h
      exact ⟨hlit (by omega) h3, hlit (by omega) h5, heq h4, (succ_nat h7.symm (small g0 g8)).symm⟩

/-- Where the predicate holds, the plan is one the kernel can run. -/
theorem plan_ok {F : FTy → Type} [FloatOps F] [hp : Cert.Pre_grouped_down.Facts] (P : S8x72.Idx → BitVec 32) (N : S1.Idx → BitVec 32) (X W)
    (h : Cert.Pre_grouped_down.fn (F := F) P N X W = fun _ => 1#1) : PlanOK (qOf P) (nuOf N) := by
  have H := pre_at P N X W h
  have h72 := (H 0 (by omega)).nu72
  exact ⟨(H 0 (by omega)).nu1, h72, fun t ht => (H t ht).e8, fun t ht => (H t ht).nx8, fun t hu => (H t (by omega)).lohi hu,
    ((H 0 (by omega)).start rfl).1, ((H 0 (by omega)).start rfl).2, fun t hu => (H t (by omega)).filo hu, fun t hu => (H t (by omega)).next hu,
    fun t hu => (H t (by omega)).last hu⟩

end Cert.Proof.Dn

end
-- ==== Proof.DnRef.lean ====
/-
  The grouped down projection, written plainly, and the reference's result as it.
-/
module

public import proofs.«01_k».proof.Proof.Gen.Reference3Ideal.Read
public import Idealize.ShloMosaic.Lib.ValueIdx
public import Idealize.ShloMosaic.Lib.WordCmp

@[expose] public section

set_option maxRecDepth 16384

noncomputable section

namespace Cert.Proof.DnMath

open Idealize.ShloMosaic Idealize.ShloMosaic.ValueIdx

/-- A row through a column of an expert's weights. -/
def rowDot (X : (⟨2, ![18432, 5632]⟩ : Shape).Idx → EReal) (W : (⟨3, ![8, 5632, 2048]⟩ : Shape).Idx → EReal) (r : Fin 18432) (e : Fin 8) (l : Fin 2048) : EReal :=
  ∑ k : Fin 5632, X (ix2 r k) * W (ix3 e k l)

/-- The tile a row is in. -/
def tileOf (r : Fin 18432) : Fin 72 := ⟨r.val / 256, by omega⟩

/-- The result's entry: a used tile's row through the expert of its tile, zero in an unused one. -/
def entry (P : (⟨2, ![8, 72]⟩ : Shape).Idx → BitVec 32) (N : (⟨1, ![1]⟩ : Shape).Idx → BitVec 32) (X : (⟨2, ![18432, 5632]⟩ : Shape).Idx → EReal)
    (W : (⟨3, ![8, 5632, 2048]⟩ : Shape).Idx → EReal) (r : Fin 18432) (l : Fin 2048) : EReal :=
  if r.val / 256 < (N (ix1 0)).toNat then
    rowDot X W r (Fin.ofNat 8 (P (ix2 0 (tileOf r))).toNat) l
  else 0

open Cert.Reference3Ideal Cert.Reference3Ideal.Read

section
variable (P : S8x72.Idx → BitVec 32) (N : S1.Idx → BitVec 32) (X : S18432x5632.Idx → EReal) (W : S8x5632x2048.Idx → EReal)

/-- The reference's product of a row under an expert. -/
theorem ref_dot (r : Fin 18432) (e : Fin 8) (l : Fin 2048) :
    val_main_v21 (F := Ideal) X W (ix3 r e l) = rowDot X W r e l := by
  have hl : ∀ k : Fin 5632, lidx_main_v21 (ix3 r e l) k = ix2 r k := fun k => funext fun a => Fin.ext (match a with | ⟨0, _⟩ => rfl | ⟨1, _⟩ => rfl)
  have hr : ∀ k : Fin 5632, ridx_main_v21 (ix3 r e l) k = ix3 e k l := fun k => funext fun a => Fin.ext (match a with | ⟨0, _⟩ => rfl | ⟨1, _⟩ => rfl | ⟨2, _⟩ => rfl)
  rw [val_main_v21_apply]
  exact Finset.sum_congr rfl fun k _ => by rw [val_main_v20_apply, hl, hr]; rfl

/-- The mask's word at a row and an expert. -/
theorem ref_mask (r : Fin 18432) (e : Fin 8) (l : Fin 2048) :
    val_main_call0_v1 (F := Ideal) P N (ix3 r e l)
      = IntOp.andi (IntOp.cmpi .eq (P (ix2 0 (tileOf r))) (BitVec.ofNat 32 e.val)) (IntOp.cmpi .slt (BitVec.ofNat 32 (r.val / 256)) (N (ix1 0))) := by
  rw [val_main_call0_v1_apply, val_main_v22_apply, val_main_v19_apply, val_main_v14_apply, val_main_v12_apply, val_main_v10_apply, val_main_v4_apply,
    val_main_v3_apply, val_main_v2_apply, val_main_v1_apply, val_main_v0_apply, val_main_v13_apply, val_main_v11_apply, val_main_v9_apply,
    val_main_v18_apply, val_main_v17_apply, val_main_v16_apply, val_main_v8_apply, val_main_v7_apply, val_main_v6_apply, val_main_v5_apply, val_main_v15_apply]
  have e1 : idx_main_v0 (idx_main_v1 (idx_main_v2 (idx_main_v3 (idx_main_v4 (idx_main_v10 (idx_main_v12 (idx_main_v22 (idx_main_call0_v1 (ix3 r e l)))))))))
      = ix2 0 (tileOf r) := funext fun a => Fin.ext (match a with
    | ⟨0, _⟩ => rfl
    | ⟨1, _⟩ => by show r.val / 256 % 72 = r.val / 256; omega)
  have e2 : idx_main_v15 (idx_main_v17 (idx_main_v18 (idx_main_v22 (idx_main_call0_v1 (ix3 r e l))))) = ix1 0 := funext fun a => Fin.ext (match a with
    | ⟨0, _⟩ => rfl)
  exact congrArg₂ (fun a b => IntOp.andi (IntOp.cmpi .eq a (BitVec.ofNat 32 e.val)) (IntOp.cmpi .slt (BitVec.ofNat 32 (r.val / 256)) b)) (congrArg P e1) (congrArg N e2)

/-- The mask keeps an expert exactly if it is the tile's and the tile is used. -/
theorem mask_iff (hP : ∀ t : Fin 72, (P (ix2 0 t)).toNat < 8) (hN : (N (ix1 0)).toNat ≤ 72) (r : Fin 18432) (e : Fin 8) :
    IntOp.andi (IntOp.cmpi .eq (P (ix2 0 (tileOf r))) (BitVec.ofNat 32 e.val)) (IntOp.cmpi .slt (BitVec.ofNat 32 (r.val / 256)) (N (ix1 0))) = 1#1
      ↔ e = Fin.ofNat 8 (P (ix2 0 (tileOf r))).toNat ∧ r.val / 256 < (N (ix1 0)).toNat := by
  rw [IntOp.andi_eq_one, IntOp.cmpi_eq, IntOp.cmpi_slt]
  have h8 := hP (tileOf r)
  refine and_congr ?_ ?_
  · constructor
    · intro h
      refine Fin.ext ?_
      have := congrArg BitVec.toNat h
      rw [BitVec.toNat_ofNat] at this
      show e.val = (P (ix2 0 (tileOf r))).toNat % 8
      omega
    · intro h
      refine BitVec.eq_of_toNat_eq ?_
      rw [BitVec.toNat_ofNat, h]
      show _ = (P (ix2 0 (tileOf r))).toNat % 8 % 2 ^ 32
      omega
  · have e1 : (BitVec.ofNat 32 (r.val / 256)).toInt = (r.val / 256 : ℕ) := by
      rw [BitVec.toInt_eq_toNat_of_lt (by rw [BitVec.toNat_ofNat]; omega), BitVec.toNat_ofNat, Nat.mod_eq_of_lt (by omega)]
    have e2 : (N (ix1 0)).toInt = (N (ix1 0)).toNat := BitVec.toInt_eq_toNat_of_lt (by omega)
    rw [e1, e2]
    exact Int.ofNat_lt

/-- The reference's result, entry by entry. -/
theorem ref_entry (hP : ∀ t : Fin 72, (P (ix2 0 t)).toNat < 8) (hN : (N (ix1 0)).toNat ≤ 72) (r : Fin 18432) (l : Fin 2048) :
    val_main_v24 (F := Ideal) P N X W (ix2 r l) = entry P N X W r l := by
  have hi : ∀ e : Fin 8, idx_main_v24 (ix2 r l) e = ix3 r e l := fun e => funext fun a => Fin.ext (match a with | ⟨0, _⟩ => rfl | ⟨1, _⟩ => rfl | ⟨2, _⟩ => rfl)
  have hz : (FloatOps.ofBits (F := Ideal) .f32 0x00000000#32 : EReal) = 0 := Ideal.ofBits_zero_f32
  have ht : ∀ e : Fin 8, val_main_v23 (F := Ideal) P N X W (idx_main_v24 (ix2 r l) e)
      = if e = Fin.ofNat 8 (P (ix2 0 (tileOf r))).toNat then (if r.val / 256 < (N (ix1 0)).toNat then rowDot X W r e l else 0) else 0 := fun e => by
    rw [hi, val_main_v23_apply, ref_mask, ref_dot, val_main_call0_v2_apply, val_main_call0_v0_apply, val_main_cst_apply]
    by_cases h : e = Fin.ofNat 8 (P (ix2 0 (tileOf r))).toNat ∧ r.val / 256 < (N (ix1 0)).toNat
    · rw [(mask_iff P N hP hN r e).mpr h, if_pos h.1, if_pos h.2]; rfl
    · have hw := fun h1 => h ((mask_iff P N hP hN r e).mp h1)
      refine Eq.trans (if_neg hw) ?_
      rw [← ite_and, if_neg h]
      exact hz
  rw [val_main_v24_apply, val_main_cst_0_apply, Finset.sum_congr rfl fun e _ => ht e, Finset.sum_ite_eq' Finset.univ, if_pos (Finset.mem_univ _)]
  refine (congrArg (· + _) hz).trans (zero_add _)
end

end Cert.Proof.DnMath

end
-- ==== Proof.DnBlock.lean ====
/-
  What a point of the expert-weight stream stores, entry by entry, in exact arithmetic.
-/
module

public import proofs.«01_k».proof.Proof.DnPre
public import proofs.«01_k».proof.Proof.DnRef
public import Idealize.ShloMosaic.Lib.IdealHost

@[expose] public section

set_option maxRecDepth 16384

noncomputable section

namespace Cert.Proof.Dn

open Cert.Kernel3Ideal Cert.Kernel3Ideal.Gen
open Idealize.ShloMosaic Idealize.ShloMosaic.ValueIdx

/-- The resident weights without their two unit axes. -/
theorem drop_apply (x : Vec Ideal S1x1x5632x1024 .bf16) (h : S1x1x5632x1024.ShapeCasts S5632x1024) (k : Fin 5632) (l : Fin 1024) :
    shapeCast S5632x1024 x h (ix2 k l) = x (ix4 0 0 k l) :=
  shapeCast_apply x h _ _ (by
    rw [Shape.rowMajor_val_four, Shape.rowMajor_val_two]
    show ((0 * 1 + 0) * 5632 + k.val) * 1024 + l.val = k.val * 1024 + l.val
    omega)

/-- A block of rows through resident weights. -/
def through (A : FVec Ideal S256x5632 .bf16) (B : FVec Ideal S1x1x5632x1024 .bf16) : FVec Ideal S256x1024 .f32 :=
  matmul (F := Ideal) dot_S256x5632_S5632x1024_S256x1024_1_0_0_1_n_n none A (shapeCast S5632x1024 B shapeCasts_S1x1x5632x1024_S5632x1024 : FVec Ideal S5632x1024 .bf16)
    (constant S256x1024 .f32 0x00000000#32)

/-- It is, at each entry, the sum of the products. -/
theorem through_apply (A : FVec Ideal S256x5632 .bf16) (B : FVec Ideal S1x1x5632x1024 .bf16) (x : Fin 256) (l : Fin 1024) :
    through A B (ix2 x l) = ∑ k : Fin 5632, A (ix2 x k) * B (ix4 0 0 k l) := by
  unfold through
  unfold matmul
  rw [Ideal.matmul_constant_zero_apply, ← Equiv.sum_comp (contrEquiv1 dot_S256x5632_S5632x1024_S256x1024_1_0_0_1_n_n 5632 rfl rfl).symm]
  refine Finset.sum_congr rfl fun d _ => ?_
  have hd := contrEquiv1_symm_val dot_S256x5632_S5632x1024_S256x1024_1_0_0_1_n_n 5632 rfl rfl d
  have el : dot_S256x5632_S5632x1024_S256x1024_1_0_0_1_n_n.lhsIdx (ix2 x l) ((contrEquiv1 dot_S256x5632_S5632x1024_S256x1024_1_0_0_1_n_n 5632 rfl rfl).symm d) = ix2 x d :=
    funext fun a => Fin.ext (match a with
      | ⟨0, _⟩ => rfl
      | ⟨1, _⟩ => hd)
  have er : dot_S256x5632_S5632x1024_S256x1024_1_0_0_1_n_n.rhsIdx (ix2 x l) ((contrEquiv1 dot_S256x5632_S5632x1024_S256x1024_1_0_0_1_n_n 5632 rfl rfl).symm d) = ix2 d l :=
    funext fun a => Fin.ext (match a with
      | ⟨0, _⟩ => hd
      | ⟨1, _⟩ => rfl)
  rw [el, er]
  exact congrArg (A (ix2 x d) * ·) (drop_apply B _ d l)

/-- A used tile's block: its rows through the resident weights. -/
theorem pay1_apply (A : Vec Ideal S256x5632 .bf16) (B : Vec Ideal S1x1x5632x1024 .bf16) (x : Fin 256) (l : Fin 1024) :
    k0_pay1 (F := Ideal) A B (ix2 x l) = ∑ k : Fin 5632, A (ix2 x k) * B (ix4 0 0 k l) :=
  Eq.trans rfl (through_apply A B x l)

/-- An unused tile's block is zero. -/
theorem pay4_apply (x : Fin 256) (l : Fin 1024) : k0_pay4 (F := Ideal) (ix2 x l) = (0 : EReal) := Ideal.ofBits_zero_f32

end Cert.Proof.Dn

end
-- ==== Proof.DnVal.lean ====
/-
  The expert-weight stream's array, entry by entry, in exact arithmetic.
-/
module

public import proofs.«01_k».proof.Proof.DnBlock
public import proofs.«01_k».proof.Proof.DnFrame

@[expose] public section

set_option maxRecDepth 16384

noncomputable section

namespace Cert.Proof.Dn

open Cert.Kernel3Ideal Cert.Kernel3Ideal.Gen
open Idealize.ShloMosaic Idealize.ShloMosaic.ValueIdx
open Idealize.ShloMosaic.TcCoe Idealize.SL.Sem
open Idealize.ShloMosaic.Pipeline (Dat Cfg Window)

variable (m : (ℓ : Loc nD τ sig) → Buf (Elt Ideal) ℓ) (a : (p : Fin 1) → (pcfgs (F := Ideal) p).Adm)

/-- The output's block at a point: the tile's rows, the column's lanes. -/
theorem out_index (t : Fin grid0.N) : cc0_transform_2 (grid0.coords t) = ![t.val % 72, t.val / 72] := by
  have h0 := coord0 t
  have h1 := coord1 t
  have ht : t.val < 144 := lt_of_lt_of_eq t.isLt N_0
  show ![(BitVec.ofNat 32 ((grid0.coords t) 1).val).toNat, (BitVec.ofNat 32 ((grid0.coords t) 0).val).toNat] = _
  rw [h0, h1, BitVec.toNat_ofNat, BitVec.toNat_ofNat, Nat.mod_eq_of_lt (a := t.val % 72) (by omega), Nat.mod_eq_of_lt (a := t.val / 72) (by omega)]

/-- Different points have different blocks. -/
theorem out_inj (t t' : Fin grid0.N) (h : cc0_transform_2 (grid0.coords t) = cc0_transform_2 (grid0.coords t')) : t = t' := by
  rw [out_index, out_index] at h
  have h0 : t.val % 72 = t'.val % 72 := congrFun h 0
  have h1 : t.val / 72 = t'.val / 72 := congrFun h 1
  exact Fin.ext (by omega)

/-- Every point's block is written back. -/
theorem out_flush (t : Fin (cfgA a).N) : ((cfgA a).win 1).flush t = true := by
  rw [Window.flush_eq_flushOf]
  show Window.flushOf grid0 true cc0_transform_2 t = true
  unfold Window.flushOf
  rw [Bool.true_and]
  by_cases h : t.val + 1 = grid0.N
  · simp [h]
  · have hlt : t.val + 1 < grid0.N := by have : t.val < grid0.N := t.isLt; omega
    have : ∃ h : t.val + 1 < grid0.N, cc0_transform_2 (grid0.coords ⟨t.val + 1, h⟩) ≠ cc0_transform_2 (grid0.coords t) :=
      ⟨hlt, fun e => by have := congrArg Fin.val (out_inj _ _ e); simp at this⟩
    simp [this]

/-- No two points write the same entry. -/
theorem out_disj : ∀ t t' : Fin (cfgA a).N, ((cfgA a).win 1).flush t = true → ((cfgA a).win 1).flush t' = true → t ≠ t' →
    Disjoint (((cfgA a).win 1).blk t).view.set (((cfgA a).win 1).blk t').view.set :=
  Window.hdisj_of_index_inj ((cfgA a).win 1) fun t t' _ _ h => out_inj t t' h

/-- Where a block's entry is in the array. -/
theorem out_emb (t : Fin (cfgA a).N) (x : Fin 256) (l : Fin 1024) (r : Fin 18432) (k : Fin 2048) (hr : r.val = 256 * (t.val % 72) + x.val) (hk : k.val = 1024 * (t.val / 72) + l.val) :
    (((cfgA a).win 1).blk t).view.emb (ix2 x l) = ix2 r k := by
  refine funext fun b => Fin.ext ?_
  show cc0_transform_2 (grid0.coords t) b * S256x1024.size b + 1 * (ix2 x l b).val = _
  rw [out_index t]
  match b with
  | ⟨0, _⟩ => show t.val % 72 * 256 + 1 * x.val = r.val; omega
  | ⟨1, _⟩ => show t.val / 72 * 1024 + 1 * l.val = k.val; omega

/-- The rows' block at a used point is the tile's rows. -/
theorem rows_emb (t : Fin (cfgA a).N) (h1 : 1 ≤ cnt (a 0).1) (h72 : cnt (a 0).1 ≤ 72) (hu : t.val % 72 < cnt (a 0).1) (x : Fin 256) (k : Fin 5632) (r : Fin 18432) (hr : r.val = 256 * (t.val % 72) + x.val) :
    (((cfgA a).win 0).blk t).view.emb (ix2 x k) = ix2 r k := by
  refine funext fun b => Fin.ext ?_
  show cc0_transform_0 inb_S1_S1_0 numel1_S1 (a 0).1 (grid0.coords t) b * S256x5632.size b + 1 * (ix2 x k b).val = _
  rw [ix_eq (a 0).1 h1 h72, coord1 t]
  match b with
  | ⟨0, _⟩ => show min (t.val % 72) (cnt (a 0).1 - 1) * 256 + 1 * x.val = r.val; omega
  | ⟨1, _⟩ => show 0 * 5632 + 1 * k.val = k.val; omega

section Array
variable (c : Dev nD)

/-- What the output's array holds under a point's block: what the point stored. -/
theorem arr_block (t : Fin (cfgA a).N) (x : Fin 256) (l : Fin 1024) (r : Fin 18432) (k : Fin 2048) (hr : r.val = 256 * (t.val % 72) + x.val) (hk : k.val = 1024 * (t.val / 72) + l.val) :
    (dats m a 0 c).arrAt 1 144 (ix2 r k)
      = outV (qq m c) (nn m c) (GX m c) (iblk m a c 0 t) (t.val / 72) (t.val % 72) (ix2 x l) := by
  have hb := (dats m a 0 c).arrAt_emb_eq_flushed 1 (out_disj a) t (out_flush a t) (ix2 x l)
  have hN : (cfgA a).N = 144 := N_0
  rw [hN] at hb
  rw [← out_emb a t x l r k hr hk]
  refine hb.trans ?_
  have hf : (dats m a 0 c).flushed 1 t (ix2 x l) = (dats m a 0 c).after 1 t (ix2 x l) := rfl
  have ha := after0_1 m a c t
  have hc0 : (((cfgA a).grid.coords t) 0).val = t.val / 72 := coord0 t
  have hc1 : (((cfgA a).grid.coords t) 1).val = t.val % 72 := coord1 t
  rw [hc0, hc1] at ha
  exact hf.trans (congrFun ha (ix2 x l))

/-- The stored block's entry is the specification's. -/
theorem out_entry (ok : PlanOK (qq m c) (nn m c)) (ht : (a 0).1 = tabA m c) (r : Fin 18432) (k : Fin 2048) :
    (dats m a 0 c).arrAt 1 144 (ix2 r k)
      = DnMath.entry (V m c main_arg0) (V m c main_arg1) (V m c main_arg2) (V m c main_arg3) r k := by
  have hN : (cfgA a).N = 144 := N_0
  obtain ⟨t, e⟩ : ∃ t : Fin (cfgA a).N, t.val = 72 * (k.val / 1024) + r.val / 256 := ⟨⟨72 * (k.val / 1024) + r.val / 256, by rw [hN]; omega⟩, rfl⟩
  have e72 : t.val % 72 = r.val / 256 := by omega
  have ej : t.val / 72 = k.val / 1024 := by omega
  rw [arr_block m a c t (⟨r.val % 256, by omega⟩ : Fin 256) (⟨k.val % 1024, by omega⟩ : Fin 1024) r k (by show r.val = 256 * (t.val % 72) + r.val % 256; omega) (by show k.val = 1024 * (t.val / 72) + k.val % 1024; omega),
    e72, ej]
  have hcnt : cnt (a 0).1 = nn m c := by rw [ht]; rfl
  unfold outV DnMath.entry
  by_cases hu : r.val / 256 < nn m c
  · have hu' : r.val / 256 < ((V m c main_arg1) (ix1 0)).toNat := hu
    rw [if_pos hu, if_pos hu']
    refine (pay1_apply (iblk m a c 0 t) _ _ _).trans ?_
    have hx : ∀ d : Fin 5632, iblk m a c 0 t (ix2 (⟨r.val % 256, by omega⟩ : Fin 256) d) = V m c main_arg2 (ix2 r d) := fun d =>
      congrArg (V m c main_arg2) (rows_emb a t (by rw [hcnt]; exact ok.nu1) (by rw [hcnt]; exact ok.nu72) (by rw [hcnt, e72]; exact hu) (⟨r.val % 256, by omega⟩ : Fin 256) d r
        (by show r.val = 256 * (t.val % 72) + r.val % 256; omega))
    have hq : f8 (qq m c 0 (r.val / 256)) = Fin.ofNat 8 (V m c main_arg0 (ix2 0 (DnMath.tileOf r))).toNat := by
      refine Fin.ext ?_
      show (V m c main_arg0 (ix2 (f8 0) (⟨r.val / 256 % 72, _⟩ : Fin 72))).toNat % 8 = (V m c main_arg0 (ix2 0 (DnMath.tileOf r))).toNat % 8
      have : (⟨r.val / 256 % 72, Nat.mod_lt _ (by decide)⟩ : Fin 72) = DnMath.tileOf r := Fin.ext (by show r.val / 256 % 72 = r.val / 256; omega)
      rw [this]; rfl
    have hc : col (f2 (k.val / 1024)) (⟨k.val % 1024, by omega⟩ : Fin 1024) = k := Fin.ext (by show k.val / 1024 % 2 * 1024 + k.val % 1024 = k.val; omega)
    have hg : ∀ d : Fin 5632, GX m c (ix3 (f8 (qq m c 0 (r.val / 256))) d (col (f2 (k.val / 1024)) (⟨k.val % 1024, by omega⟩ : Fin 1024)))
        = V m c main_arg3 (ix3 (Fin.ofNat 8 (V m c main_arg0 (ix2 0 (DnMath.tileOf r))).toNat) d k) := fun d => by rw [hq, hc]; rfl
    exact Finset.sum_congr rfl fun d _ => congrArg₂ (· * ·) (hx d) (hg d)
  · have hu' : ¬ r.val / 256 < ((V m c main_arg1) (ix1 0)).toNat := hu
    rw [if_neg hu, if_neg hu']
    exact pay4_apply _ _

/-- The reference's result of the same arguments is the array. -/
theorem array_eq (ok0 : PlanOK (qq m 0) (nn m 0)) (ok : PlanOK (qq m c) (nn m c)) :
    Cert.Reference3Ideal.Read.val_main_v24 (F := Ideal) (V m c main_arg0) (V m c main_arg1) (V m c main_arg2) (V m c main_arg3)
      = (dats m (adm m 0 ok0) 0 c).arrAt 1 144 := by
  funext i
  obtain ⟨r, k, rfl⟩ : ∃ (r : Fin 18432) (k : Fin 2048), i = ix2 r k := ⟨i 0, i 1, funext fun b => match b with | ⟨0, _⟩ => rfl | ⟨1, _⟩ => rfl⟩
  refine (DnMath.ref_entry _ _ _ _ (fun t => ?_) ok.nu72 r k).trans (out_entry m (adm m 0 ok0) c ok (by rw [dev_eq c 0]; rfl) r k).symm
  have h := ok.e8 t.val t.isLt
  have ht : (⟨t.val % 72, Nat.mod_lt _ (by decide)⟩ : Fin 72) = t := Fin.ext (Nat.mod_eq_of_lt t.isLt)
  have h' : (V m c main_arg0 (ix2 (f8 0) (⟨t.val % 72, Nat.mod_lt _ (by decide)⟩ : Fin 72))).toNat < 8 := h
  rw [ht] at h'
  exact h'

/-- The run, to the array. -/
theorem run_array (ρ : Dev nD → PrngReg) (ok : ∀ c : Dev nD, PlanOK (qq m c) (nn m c)) :
    θ_run (defs (F := Ideal)) (onTc (τ := τ) (main (F := Ideal))) ⟨m, fun _ => 0, ρ⟩ (fun r => ∀ c : Dev nD,
      r.2.mem ((c : Thread nD τ).loc main_v0) = (dats m (adm m 0 (ok 0)) 0 c).arrAt 1 144
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h => h.1) (run_kept m ρ ok)
end Array

end Cert.Proof.Dn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_grouped
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_grouped_down
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Agree
public import proofs.«01_k».proof.Proof.Same
public import proofs.«01_k».proof.Proof.UpIPre
public import proofs.«01_k».proof.Proof.UpIVal
public import proofs.«01_k».proof.Proof.DnSame
public import proofs.«01_k».proof.Proof.DmVal
public import proofs.«01_k».proof.Proof.DmSame
public import proofs.«01_k».proof.Proof.NmVal
public import proofs.«01_k».proof.Proof.KvRef
public import proofs.«01_k».proof.Proof.DnPre
public import proofs.«01_k».proof.Proof.DnVal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel, read with exact arithmetic, also ends quiescent with its arguments unchanged. -/
theorem frame_ideal : Cert.quiescent_KernelIdeal (hKernelIdeal := Cert.KernelIdeal.Gen.facts) := fun m ρ _ => Cert.KernelIdeal.Gen.frame m ρ

/-- The reference ends quiescent with its arguments unchanged: it declares no semaphore. -/
theorem frame_reference : Cert.quiescent_ReferenceIdeal (hReferenceIdeal := Cert.ReferenceIdeal.Gen.facts) := by
  intro m ρ _
  exact (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From equal arguments, finite ones where the precondition asks it, the two end with equal arrays. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => (Cert.KernelIdeal.Gen.dats m 0 c).arrAt 3 Cert.KernelIdeal.cfg0.N, Cert.KernelIdeal.Value.run_blocks m g, ?_⟩
  refine (θ_run Cert.ReferenceIdeal.defs _ _).mono (fun r h c => ⟨((h c).1).trans ?_, (h c).2⟩) (Cert.ReferenceIdeal.Value.run (F := Ideal) m' g')
  obtain ⟨e0, e1, e2, e3, e4⟩ := hargs c
  obtain ⟨r0, r1, r2, r3⟩ := Cert.Attn.real_args (hp := Cert.Pre_finite.Gen.facts) _ _ _ _ _ (hpre c)
  refine (Cert.ReferenceIdeal.Read.val_main_v29_eq m' c).trans (Eq.trans ?_ (Cert.Attn.agree m c ⟨_, _, _, _, r0, r1, r2, r3⟩).symm)
  rw [e0, e1, e2, e3, e4]

/-- The expert-weight stream ends quiescent with its arguments unchanged, where its plan is one. -/
theorem frame_up : Cert.quiescent_Kernel2 (hKernel2 := Cert.Kernel2.Gen.facts) (hPre_grouped := Cert.Pre_grouped.Gen.facts) := fun m ρ h =>
  (Cert.Proof.Up.run_kept m ρ fun c => Cert.Proof.UpI.plan_ok (hp := Cert.Pre_grouped.Gen.facts) _ _ _ _ _ (h c))

/-- So it does read with exact arithmetic. -/
theorem frame_up_ideal : Cert.quiescent_Kernel2Ideal (hKernel2Ideal := Cert.Kernel2Ideal.Gen.facts) (hPre_grouped := Cert.Pre_grouped.Gen.facts) := fun m ρ h =>
  (θ_run Cert.Kernel2Ideal.defs _ _).mono (fun r h => ⟨fun c => (h.1 c).2, h.2⟩)
    (Cert.Proof.UpI.run_kept m ρ fun c => Cert.Proof.UpI.plan_ok (hp := Cert.Pre_grouped.Gen.facts) _ _ _ _ _ (h c))

/-- Its reference ends quiescent with its arguments unchanged: it declares no semaphore. -/
theorem frame_up_reference : Cert.quiescent_Reference2Ideal (hReference2Ideal := Cert.Reference2Ideal.Gen.facts) := by
  intro m ρ _
  exact (θ_run Cert.Reference2Ideal.defs _ _).mono (fun r h => ⟨fun c => (h c).2, Idealize.ShloMosaic.sem_eq_zero_of_no_sems (by decide) r.2⟩)
    (Cert.Reference2Ideal.Value.run (F := Ideal) m ρ)

/-- From equal arguments whose plan is one, the two end with equal arrays. -/
theorem algebraic_up : Cert.algebraic_Kernel2Ideal_Reference2Ideal (hKernel2Ideal := Cert.Kernel2Ideal.Gen.facts)
    (hReference2Ideal := Cert.Reference2Ideal.Gen.facts) (hPre_grouped := Cert.Pre_grouped.Gen.facts) := by
  intro m g m' g' hpre hargs
  have ok := fun c => Cert.Proof.UpI.plan_ok (hp := Cert.Pre_grouped.Gen.facts) _ _ _ _ _ (hpre c)
  refine ⟨fun c => (Cert.Proof.UpI.dats m (Cert.Proof.UpI.adm m 0 (ok 0)) 0 c).arrAt 1 288, Cert.Proof.UpI.run_array m g ok, ?_⟩
  refine (θ_run Cert.Reference2Ideal.defs _ _).mono (fun r h c => ⟨((h c).1).trans ?_, (h c).2⟩) (Cert.Reference2Ideal.Value.run (F := Ideal) m' g')
  obtain ⟨e0, e1, e2, e3, e4⟩ := hargs c
  refine (Cert.Reference2Ideal.Read.val_main_v28_eq _ _ _ _ _).trans ?_
  rw [e0, e1, e2, e3, e4]
  exact Cert.Proof.UpI.array_eq m c (ok 0) (ok c)

/-- The down stream ends quiescent with its arguments unchanged, where its plan is one. -/
theorem frame_down : Cert.quiescent_Kernel3 (hKernel3 := Cert.Kernel3.Gen.facts) (hPre_grouped_down := Cert.Pre_grouped_down.Gen.facts) := fun m ρ h =>
  (Cert.Proof.DnK.run_kept m ρ fun c => Cert.Proof.Dn.plan_ok (hp := Cert.Pre_grouped_down.Gen.facts) _ _ _ _ (h c))

/-- So it does read with exact arithmetic. -/
theorem frame_down_ideal : Cert.quiescent_Kernel3Ideal (hKernel3Ideal := Cert.Kernel3Ideal.Gen.facts) (hPre_grouped_down := Cert.Pre_grouped_down.Gen.facts) := fun m ρ h =>
  (θ_run Cert.Kernel3Ideal.defs _ _).mono (fun r h => ⟨fun c => (h.1 c).2, h.2⟩)
    (Cert.Proof.Dn.run_kept m ρ fun c => Cert.Proof.Dn.plan_ok (hp := Cert.Pre_grouped_down.Gen.facts) _ _ _ _ (h c))

/-- Its reference ends quiescent with its arguments unchanged: it declares no semaphore. -/
theorem frame_down_reference : Cert.quiescent_Reference3Ideal (hReference3Ideal := Cert.Reference3Ideal.Gen.facts) := by
  intro m ρ _
  exact (θ_run Cert.Reference3Ideal.defs _ _).mono (fun r h => ⟨fun c => (h c).2, Idealize.ShloMosaic.sem_eq_zero_of_no_sems (by decide) r.2⟩)
    (Cert.Reference3Ideal.Value.run (F := Ideal) m ρ)

/-- From equal arguments whose plan is one, the two end with equal arrays. -/
theorem algebraic_down : Cert.algebraic_Kernel3Ideal_Reference3Ideal (hKernel3Ideal := Cert.Kernel3Ideal.Gen.facts)
    (hReference3Ideal := Cert.Reference3Ideal.Gen.facts) (hPre_grouped_down := Cert.Pre_grouped_down.Gen.facts) := by
  intro m g m' g' hpre hargs
  have ok := fun c => Cert.Proof.Dn.plan_ok (hp := Cert.Pre_grouped_down.Gen.facts) _ _ _ _ (hpre c)
  refine ⟨fun c => (Cert.Proof.Dn.dats m (Cert.Proof.Dn.adm m 0 (ok 0)) 0 c).arrAt 1 144, Cert.Proof.Dn.run_array m g ok, ?_⟩
  refine (θ_run Cert.Reference3Ideal.defs _ _).mono (fun r h c => ⟨((h c).1).trans ?_, (h c).2⟩) (Cert.Reference3Ideal.Value.run (F := Ideal) m' g')
  obtain ⟨e0, e1, e2, e3⟩ := hargs c
  refine (Cert.Reference3Ideal.Read.val_main_v24_eq _ _ _ _).trans ?_
  rw [e0, e1, e2, e3]
  exact Cert.Proof.Dn.array_eq m c (ok 0) (ok c)

/-- The dense product ends quiescent with its arguments unchanged. -/
theorem frame_dense : Cert.quiescent_Kernel4 (hKernel4 := Cert.Kernel4.Gen.facts) := fun m ρ _ =>
  (Cert.Proof.DmK.run_kept m ρ)

/-- So it does read with exact arithmetic. -/
theorem frame_dense_ideal : Cert.quiescent_Kernel4Ideal (hKernel4Ideal := Cert.Kernel4Ideal.Gen.facts) := fun m ρ _ =>
  (θ_run Cert.Kernel4Ideal.defs _ _).mono (fun r h => ⟨fun c => (h.1 c).2, h.2⟩) (Cert.Proof.Dm.run_kept m ρ)

/-- Its reference ends quiescent with its arguments unchanged: it declares no semaphore. -/
theorem frame_dense_reference : Cert.quiescent_Reference4Ideal (hReference4Ideal := Cert.Reference4Ideal.Gen.facts) := by
  intro m ρ _
  exact (θ_run Cert.Reference4Ideal.defs _ _).mono (fun r h => ⟨fun c => (h c).2, Idealize.ShloMosaic.sem_eq_zero_of_no_sems (by decide) r.2⟩)
    (Cert.Reference4Ideal.Value.run (F := Ideal) m ρ)

/-- From equal arguments, the two end with equal arrays. -/
theorem algebraic_dense : Cert.algebraic_Kernel4Ideal_Reference4Ideal (hKernel4Ideal := Cert.Kernel4Ideal.Gen.facts)
    (hReference4Ideal := Cert.Reference4Ideal.Gen.facts) := by
  intro m g m' g' _ hargs
  refine ⟨fun c => (Cert.Proof.Dm.dats m 0 c).arrAt 3 16, Cert.Proof.Dm.run_array m g, ?_⟩
  refine (θ_run Cert.Reference4Ideal.defs _ _).mono (fun r h c => ⟨((h c).1).trans ?_, (h c).2⟩) (Cert.Reference4Ideal.Value.run (F := Ideal) m' g')
  obtain ⟨e0, e1, e2⟩ := hargs c
  refine (Cert.Reference4Ideal.Read.val_main_v2_eq _ _ _).trans ?_
  rw [e0, e1, e2]
  exact Cert.Proof.Dm.array_eq m c

/-- The normalized product, read with exact arithmetic, ends quiescent with its arguments unchanged. -/
theorem frame_norm_ideal : Cert.quiescent_Kernel5Ideal (hKernel5Ideal := Cert.Kernel5Ideal.Gen.facts) := fun m ρ _ => Cert.Kernel5Ideal.Gen.frame m ρ

/-- Its reference ends quiescent with its arguments unchanged: it declares no semaphore. -/
theorem frame_norm_reference : Cert.quiescent_Reference5Ideal (hReference5Ideal := Cert.Reference5Ideal.Gen.facts) := by
  intro m ρ _
  exact (θ_run Cert.Reference5Ideal.defs _ _).mono (fun r h => ⟨fun c => (h c).2, Idealize.ShloMosaic.sem_eq_zero_of_no_sems (by decide) r.2⟩)
    (Cert.Reference5Ideal.Value.run (F := Ideal) m ρ)

/-- From equal arguments, the two end with equal arrays. -/
theorem algebraic_norm : Cert.algebraic_Kernel5Ideal_Reference5Ideal (hKernel5Ideal := Cert.Kernel5Ideal.Gen.facts)
    (hReference5Ideal := Cert.Reference5Ideal.Gen.facts) := by
  intro m g m' g' _ hargs
  refine ⟨fun c => (Cert.Kernel5Ideal.Gen.dats m 0 c).arrAt 3 Cert.Kernel5Ideal.cfg0.N, Cert.Kernel5Ideal.Value.run_blocks m g, ?_⟩
  refine (θ_run Cert.Reference5Ideal.defs _ _).mono (fun r h c => ⟨((h c).1).trans ?_, (h c).2⟩) (Cert.Reference5Ideal.Value.run (F := Ideal) m' g')
  obtain ⟨e0, e1, e2⟩ := hargs c
  refine (Cert.Reference5Ideal.Read.val_main_v13_eq _ _ _).trans ?_
  rw [e0, e1, e2]
  exact Cert.Proof.Nm.array_eq m c

/-- The key/value projection in exact arithmetic ends quiescent with its arguments unchanged. -/
theorem frame_kv_ideal : Cert.quiescent_Kernel6Ideal (hKernel6Ideal := Cert.Kernel6Ideal.Gen.facts) := fun m ρ _ => Cert.Kernel6Ideal.Gen.frame m ρ

/-- Its reference ends quiescent with its arguments unchanged: it declares no semaphore. -/
theorem frame_kv_reference : Cert.quiescent_Reference6Ideal (hReference6Ideal := Cert.Reference6Ideal.Gen.facts) := by
  intro m ρ _
  exact (θ_run Cert.Reference6Ideal.defs _ _).mono (fun r h => ⟨fun c => (h c).2.2, Idealize.ShloMosaic.sem_eq_zero_of_no_sems (by decide) r.2⟩)
    (Cert.Reference6Ideal.Value.run (F := Ideal) m ρ)

/-- From equal arguments, the two end with equal keys and equal values. -/
theorem algebraic_kv : Cert.algebraic_Kernel6Ideal_Reference6Ideal (hKernel6Ideal := Cert.Kernel6Ideal.Gen.facts)
    (hReference6Ideal := Cert.Reference6Ideal.Gen.facts) := by
  intro m g m' g' _ hargs
  refine ⟨fun c => (Cert.Kernel6Ideal.Gen.dats m 0 c).arrAt 7 Cert.Kernel6Ideal.cfg0.N, fun c => (Cert.Kernel6Ideal.Gen.dats m 0 c).arrAt 8 Cert.Kernel6Ideal.cfg0.N,
    Cert.Kernel6Ideal.Value.run_blocks m g, ?_⟩
  refine (θ_run Cert.Reference6Ideal.defs _ _).mono (fun r h c => ⟨((h c).1).trans ?_, ((h c).2.1).trans ?_, (h c).2.2⟩) (Cert.Reference6Ideal.Value.run (F := Ideal) m' g')
  · obtain ⟨e0, e1, e2, e3, e4, e5⟩ := hargs c
    refine (Cert.Reference6Ideal.Read.val_main_v65_eq _ _).trans ?_
    rw [e0, e1, e2, e3, e4, e5]
    exact Cert.Proof.Kv.keys_eq m c
  · obtain ⟨e0, e1, e2, -⟩ := hargs c
    refine (Cert.Reference6Ideal.Read.val_main_v66_eq _ _ _).trans ?_
    rw [e0, e1, e2]
    exact Cert.Proof.Kv.values_eq m c

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts, Cert.Pre_grouped.Gen.facts, Cert.Pre_grouped_down.Gen.facts,
  fun m ρ _ => Cert.Kernel.Gen.frame m ρ, frame_ideal, fun m ρ _ => frame_ideal m ρ trivial, frame_reference, fun m ρ _ => frame_reference m ρ trivial,
  frame_up, frame_up_ideal, frame_up_reference, fun m ρ _ => frame_up_reference m ρ trivial,
  frame_down, frame_down_ideal, frame_down_reference, fun m ρ _ => frame_down_reference m ρ trivial,
  frame_dense, frame_dense_ideal, frame_dense_reference,
  fun m ρ _ => Cert.Kernel5.Gen.frame m ρ, frame_norm_ideal, frame_norm_reference,
  fun m ρ _ => Cert.Kernel6.Gen.frame m ρ, frame_kv_ideal, frame_kv_reference,
  trivial, algebraic, trivial, algebraic_up, trivial, algebraic_down, trivial, algebraic_dense, trivial, algebraic_norm,
  trivial, algebraic_kv⟩

end Cert.Proof

end
